-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_steps [hPre_finite_steps : Cert.Pre_finite_steps.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4))) = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_FfnZ (m : (ℓ : Loc Cert.FfnZ.nD Cert.FfnZ.τ Cert.FfnZ.sig) → Buf (Elt Bits) ℓ) : Prop :=
  True

def Pre_FfnZIdeal (m : (ℓ : Loc Cert.FfnZIdeal.nD Cert.FfnZIdeal.τ Cert.FfnZIdeal.sig) → Buf (Elt Ideal) ℓ) : Prop :=
  True

def Pre_FfnZRefIdeal (m : (ℓ : Loc Cert.FfnZRefIdeal.nD Cert.FfnZRefIdeal.τ Cert.FfnZRefIdeal.sig) → Buf (Elt Ideal) ℓ) : Prop :=
  True

def Pre_FfnM (m : (ℓ : Loc Cert.FfnM.nD Cert.FfnM.τ Cert.FfnM.sig) → Buf (Elt Bits) ℓ) : Prop :=
  True

def Pre_FfnMIdeal (m : (ℓ : Loc Cert.FfnMIdeal.nD Cert.FfnMIdeal.τ Cert.FfnMIdeal.sig) → Buf (Elt Ideal) ℓ) : Prop :=
  True

def Pre_FfnMRefIdeal (m : (ℓ : Loc Cert.FfnMRefIdeal.nD Cert.FfnMRefIdeal.τ Cert.FfnMRefIdeal.sig) → Buf (Elt Ideal) ℓ) : Prop :=
  True

def Pre_FfnG (m : (ℓ : Loc Cert.FfnG.nD Cert.FfnG.τ Cert.FfnG.sig) → Buf (Elt Bits) ℓ) : Prop :=
  True

def Pre_FfnGIdeal (m : (ℓ : Loc Cert.FfnGIdeal.nD Cert.FfnGIdeal.τ Cert.FfnGIdeal.sig) → Buf (Elt Ideal) ℓ) : Prop :=
  True

def Pre_FfnGRefIdeal (m : (ℓ : Loc Cert.FfnGRefIdeal.nD Cert.FfnGRefIdeal.τ Cert.FfnGRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_KvP (m : (ℓ : Loc Cert.KvP.nD Cert.KvP.τ Cert.KvP.sig) → Buf (Elt Bits) ℓ) : Prop :=
  True

def Pre_KvPIdeal (m : (ℓ : Loc Cert.KvPIdeal.nD Cert.KvPIdeal.τ Cert.KvPIdeal.sig) → Buf (Elt Ideal) ℓ) : Prop :=
  True

def Pre_KvPRefIdeal (m : (ℓ : Loc Cert.KvPRefIdeal.nD Cert.KvPRefIdeal.τ Cert.KvPRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4))
      ∧ r.2.sem = fun _ => 0)

def quiescent_SsdRefIdeal_pre_finite_steps [hSsdRefIdeal : Cert.SsdRefIdeal.Facts] [hPre_finite_steps : Cert.Pre_finite_steps.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_steps m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3))
      ∧ r.2.sem = fun _ => 0)

def quiescent_FfnZ [hFfnZ : Cert.FfnZ.Facts] : Prop :=
  ∀ (m : (ℓ : Loc Cert.FfnZ.nD Cert.FfnZ.τ Cert.FfnZ.sig) → Buf (Elt Bits) ℓ) (g : Dev Cert.FfnZ.nD → PrngReg), Pre_FfnZ m →
    θ_run (Cert.FfnZ.defs (F := Bits)) (onTc (τ := Cert.FfnZ.τ) (Cert.FfnZ.main (F := Bits))) ⟨m, fun _ => 0, g⟩ (fun r => (∀ c : Dev Cert.FfnZ.nD,
      r.2.mem ((c.tc : Thread Cert.FfnZ.nD Cert.FfnZ.τ).loc Cert.FfnZ.main_arg0) = m ((c.tc : Thread Cert.FfnZ.nD Cert.FfnZ.τ).loc Cert.FfnZ.main_arg0)
      ∧ r.2.mem ((c.tc : Thread Cert.FfnZ.nD Cert.FfnZ.τ).loc Cert.FfnZ.main_arg1) = m ((c.tc : Thread Cert.FfnZ.nD Cert.FfnZ.τ).loc Cert.FfnZ.main_arg1)
      ∧ r.2.mem ((c.tc : Thread Cert.FfnZ.nD Cert.FfnZ.τ).loc Cert.FfnZ.main_arg2) = m ((c.tc : Thread Cert.FfnZ.nD Cert.FfnZ.τ).loc Cert.FfnZ.main_arg2)
      ∧ r.2.mem ((c.tc : Thread Cert.FfnZ.nD Cert.FfnZ.τ).loc Cert.FfnZ.main_arg3) = m ((c.tc : Thread Cert.FfnZ.nD Cert.FfnZ.τ).loc Cert.FfnZ.main_arg3)
      ∧ r.2.mem ((c.tc : Thread Cert.FfnZ.nD Cert.FfnZ.τ).loc Cert.FfnZ.main_arg4) = m ((c.tc : Thread Cert.FfnZ.nD Cert.FfnZ.τ).loc Cert.FfnZ.main_arg4)
      ∧ r.2.mem ((c.tc : Thread Cert.FfnZ.nD Cert.FfnZ.τ).loc Cert.FfnZ.main_arg5) = m ((c.tc : Thread Cert.FfnZ.nD Cert.FfnZ.τ).loc Cert.FfnZ.main_arg5)
      ∧ r.2.mem ((c.tc : Thread Cert.FfnZ.nD Cert.FfnZ.τ).loc Cert.FfnZ.main_arg6) = m ((c.tc : Thread Cert.FfnZ.nD Cert.FfnZ.τ).loc Cert.FfnZ.main_arg6))
      ∧ r.2.sem = fun _ => 0)

def quiescent_FfnZIdeal [hFfnZIdeal : Cert.FfnZIdeal.Facts] : Prop :=
  ∀ (m : (ℓ : Loc Cert.FfnZIdeal.nD Cert.FfnZIdeal.τ Cert.FfnZIdeal.sig) → Buf (Elt Ideal) ℓ) (g : Dev Cert.FfnZIdeal.nD → PrngReg), Pre_FfnZIdeal m →
    θ_run (Cert.FfnZIdeal.defs (F := Ideal)) (onTc (τ := Cert.FfnZIdeal.τ) (Cert.FfnZIdeal.main (F := Ideal))) ⟨m, fun _ => 0, g⟩ (fun r => (∀ c : Dev Cert.FfnZIdeal.nD,
      r.2.mem ((c.tc : Thread Cert.FfnZIdeal.nD Cert.FfnZIdeal.τ).loc Cert.FfnZIdeal.main_arg0) = m ((c.tc : Thread Cert.FfnZIdeal.nD Cert.FfnZIdeal.τ).loc Cert.FfnZIdeal.main_arg0)
      ∧ r.2.mem ((c.tc : Thread Cert.FfnZIdeal.nD Cert.FfnZIdeal.τ).loc Cert.FfnZIdeal.main_arg1) = m ((c.tc : Thread Cert.FfnZIdeal.nD Cert.FfnZIdeal.τ).loc Cert.FfnZIdeal.main_arg1)
      ∧ r.2.mem ((c.tc : Thread Cert.FfnZIdeal.nD Cert.FfnZIdeal.τ).loc Cert.FfnZIdeal.main_arg2) = m ((c.tc : Thread Cert.FfnZIdeal.nD Cert.FfnZIdeal.τ).loc Cert.FfnZIdeal.main_arg2)
      ∧ r.2.mem ((c.tc : Thread Cert.FfnZIdeal.nD Cert.FfnZIdeal.τ).loc Cert.FfnZIdeal.main_arg3) = m ((c.tc : Thread Cert.FfnZIdeal.nD Cert.FfnZIdeal.τ).loc Cert.FfnZIdeal.main_arg3)
      ∧ r.2.mem ((c.tc : Thread Cert.FfnZIdeal.nD Cert.FfnZIdeal.τ).loc Cert.FfnZIdeal.main_arg4) = m ((c.tc : Thread Cert.FfnZIdeal.nD Cert.FfnZIdeal.τ).loc Cert.FfnZIdeal.main_arg4)
      ∧ r.2.mem ((c.tc : Thread Cert.FfnZIdeal.nD Cert.FfnZIdeal.τ).loc Cert.FfnZIdeal.main_arg5) = m ((c.tc : Thread Cert.FfnZIdeal.nD Cert.FfnZIdeal.τ).loc Cert.FfnZIdeal.main_arg5)
      ∧ r.2.mem ((c.tc : Thread Cert.FfnZIdeal.nD Cert.FfnZIdeal.τ).loc Cert.FfnZIdeal.main_arg6) = m ((c.tc : Thread Cert.FfnZIdeal.nD Cert.FfnZIdeal.τ).loc Cert.FfnZIdeal.main_arg6))
      ∧ r.2.sem = fun _ => 0)

def quiescent_FfnZRefIdeal [hFfnZRefIdeal : Cert.FfnZRefIdeal.Facts] : Prop :=
  ∀ (m : (ℓ : Loc Cert.FfnZRefIdeal.nD Cert.FfnZRefIdeal.τ Cert.FfnZRefIdeal.sig) → Buf (Elt Ideal) ℓ) (g : Dev Cert.FfnZRefIdeal.nD → PrngReg), Pre_FfnZRefIdeal m →
    θ_run (Cert.FfnZRefIdeal.defs (F := Ideal)) (onTc (τ := Cert.FfnZRefIdeal.τ) (Cert.FfnZRefIdeal.main (F := Ideal))) ⟨m, fun _ => 0, g⟩ (fun r => (∀ c : Dev Cert.FfnZRefIdeal.nD,
      r.2.mem ((c.tc : Thread Cert.FfnZRefIdeal.nD Cert.FfnZRefIdeal.τ).loc Cert.FfnZRefIdeal.main_arg0) = m ((c.tc : Thread Cert.FfnZRefIdeal.nD Cert.FfnZRefIdeal.τ).loc Cert.FfnZRefIdeal.main_arg0)
      ∧ r.2.mem ((c.tc : Thread Cert.FfnZRefIdeal.nD Cert.FfnZRefIdeal.τ).loc Cert.FfnZRefIdeal.main_arg1) = m ((c.tc : Thread Cert.FfnZRefIdeal.nD Cert.FfnZRefIdeal.τ).loc Cert.FfnZRefIdeal.main_arg1)
      ∧ r.2.mem ((c.tc : Thread Cert.FfnZRefIdeal.nD Cert.FfnZRefIdeal.τ).loc Cert.FfnZRefIdeal.main_arg2) = m ((c.tc : Thread Cert.FfnZRefIdeal.nD Cert.FfnZRefIdeal.τ).loc Cert.FfnZRefIdeal.main_arg2)
      ∧ r.2.mem ((c.tc : Thread Cert.FfnZRefIdeal.nD Cert.FfnZRefIdeal.τ).loc Cert.FfnZRefIdeal.main_arg3) = m ((c.tc : Thread Cert.FfnZRefIdeal.nD Cert.FfnZRefIdeal.τ).loc Cert.FfnZRefIdeal.main_arg3)
      ∧ r.2.mem ((c.tc : Thread Cert.FfnZRefIdeal.nD Cert.FfnZRefIdeal.τ).loc Cert.FfnZRefIdeal.main_arg4) = m ((c.tc : Thread Cert.FfnZRefIdeal.nD Cert.FfnZRefIdeal.τ).loc Cert.FfnZRefIdeal.main_arg4)
      ∧ r.2.mem ((c.tc : Thread Cert.FfnZRefIdeal.nD Cert.FfnZRefIdeal.τ).loc Cert.FfnZRefIdeal.main_arg5) = m ((c.tc : Thread Cert.FfnZRefIdeal.nD Cert.FfnZRefIdeal.τ).loc Cert.FfnZRefIdeal.main_arg5)
      ∧ r.2.mem ((c.tc : Thread Cert.FfnZRefIdeal.nD Cert.FfnZRefIdeal.τ).loc Cert.FfnZRefIdeal.main_arg6) = m ((c.tc : Thread Cert.FfnZRefIdeal.nD Cert.FfnZRefIdeal.τ).loc Cert.FfnZRefIdeal.main_arg6))
      ∧ r.2.sem = fun _ => 0)

def quiescent_FfnM [hFfnM : Cert.FfnM.Facts] : Prop :=
  ∀ (m : (ℓ : Loc Cert.FfnM.nD Cert.FfnM.τ Cert.FfnM.sig) → Buf (Elt Bits) ℓ) (g : Dev Cert.FfnM.nD → PrngReg), Pre_FfnM m →
    θ_run (Cert.FfnM.defs (F := Bits)) (onTc (τ := Cert.FfnM.τ) (Cert.FfnM.main (F := Bits))) ⟨m, fun _ => 0, g⟩ (fun r => (∀ c : Dev Cert.FfnM.nD,
      r.2.mem ((c.tc : Thread Cert.FfnM.nD Cert.FfnM.τ).loc Cert.FfnM.main_arg0) = m ((c.tc : Thread Cert.FfnM.nD Cert.FfnM.τ).loc Cert.FfnM.main_arg0)
      ∧ r.2.mem ((c.tc : Thread Cert.FfnM.nD Cert.FfnM.τ).loc Cert.FfnM.main_arg1) = m ((c.tc : Thread Cert.FfnM.nD Cert.FfnM.τ).loc Cert.FfnM.main_arg1)
      ∧ r.2.mem ((c.tc : Thread Cert.FfnM.nD Cert.FfnM.τ).loc Cert.FfnM.main_arg2) = m ((c.tc : Thread Cert.FfnM.nD Cert.FfnM.τ).loc Cert.FfnM.main_arg2)
      ∧ r.2.mem ((c.tc : Thread Cert.FfnM.nD Cert.FfnM.τ).loc Cert.FfnM.main_arg3) = m ((c.tc : Thread Cert.FfnM.nD Cert.FfnM.τ).loc Cert.FfnM.main_arg3)
      ∧ r.2.mem ((c.tc : Thread Cert.FfnM.nD Cert.FfnM.τ).loc Cert.FfnM.main_arg4) = m ((c.tc : Thread Cert.FfnM.nD Cert.FfnM.τ).loc Cert.FfnM.main_arg4)
      ∧ r.2.mem ((c.tc : Thread Cert.FfnM.nD Cert.FfnM.τ).loc Cert.FfnM.main_arg5) = m ((c.tc : Thread Cert.FfnM.nD Cert.FfnM.τ).loc Cert.FfnM.main_arg5))
      ∧ r.2.sem = fun _ => 0)

def quiescent_FfnMIdeal [hFfnMIdeal : Cert.FfnMIdeal.Facts] : Prop :=
  ∀ (m : (ℓ : Loc Cert.FfnMIdeal.nD Cert.FfnMIdeal.τ Cert.FfnMIdeal.sig) → Buf (Elt Ideal) ℓ) (g : Dev Cert.FfnMIdeal.nD → PrngReg), Pre_FfnMIdeal m →
    θ_run (Cert.FfnMIdeal.defs (F := Ideal)) (onTc (τ := Cert.FfnMIdeal.τ) (Cert.FfnMIdeal.main (F := Ideal))) ⟨m, fun _ => 0, g⟩ (fun r => (∀ c : Dev Cert.FfnMIdeal.nD,
      r.2.mem ((c.tc : Thread Cert.FfnMIdeal.nD Cert.FfnMIdeal.τ).loc Cert.FfnMIdeal.main_arg0) = m ((c.tc : Thread Cert.FfnMIdeal.nD Cert.FfnMIdeal.τ).loc Cert.FfnMIdeal.main_arg0)
      ∧ r.2.mem ((c.tc : Thread Cert.FfnMIdeal.nD Cert.FfnMIdeal.τ).loc Cert.FfnMIdeal.main_arg1) = m ((c.tc : Thread Cert.FfnMIdeal.nD Cert.FfnMIdeal.τ).loc Cert.FfnMIdeal.main_arg1)
      ∧ r.2.mem ((c.tc : Thread Cert.FfnMIdeal.nD Cert.FfnMIdeal.τ).loc Cert.FfnMIdeal.main_arg2) = m ((c.tc : Thread Cert.FfnMIdeal.nD Cert.FfnMIdeal.τ).loc Cert.FfnMIdeal.main_arg2)
      ∧ r.2.mem ((c.tc : Thread Cert.FfnMIdeal.nD Cert.FfnMIdeal.τ).loc Cert.FfnMIdeal.main_arg3) = m ((c.tc : Thread Cert.FfnMIdeal.nD Cert.FfnMIdeal.τ).loc Cert.FfnMIdeal.main_arg3)
      ∧ r.2.mem ((c.tc : Thread Cert.FfnMIdeal.nD Cert.FfnMIdeal.τ).loc Cert.FfnMIdeal.main_arg4) = m ((c.tc : Thread Cert.FfnMIdeal.nD Cert.FfnMIdeal.τ).loc Cert.FfnMIdeal.main_arg4)
      ∧ r.2.mem ((c.tc : Thread Cert.FfnMIdeal.nD Cert.FfnMIdeal.τ).loc Cert.FfnMIdeal.main_arg5) = m ((c.tc : Thread Cert.FfnMIdeal.nD Cert.FfnMIdeal.τ).loc Cert.FfnMIdeal.main_arg5))
      ∧ r.2.sem = fun _ => 0)

def quiescent_FfnMRefIdeal [hFfnMRefIdeal : Cert.FfnMRefIdeal.Facts] : Prop :=
  ∀ (m : (ℓ : Loc Cert.FfnMRefIdeal.nD Cert.FfnMRefIdeal.τ Cert.FfnMRefIdeal.sig) → Buf (Elt Ideal) ℓ) (g : Dev Cert.FfnMRefIdeal.nD → PrngReg), Pre_FfnMRefIdeal m →
    θ_run (Cert.FfnMRefIdeal.defs (F := Ideal)) (onTc (τ := Cert.FfnMRefIdeal.τ) (Cert.FfnMRefIdeal.main (F := Ideal))) ⟨m, fun _ => 0, g⟩ (fun r => (∀ c : Dev Cert.FfnMRefIdeal.nD,
      r.2.mem ((c.tc : Thread Cert.FfnMRefIdeal.nD Cert.FfnMRefIdeal.τ).loc Cert.FfnMRefIdeal.main_arg0) = m ((c.tc : Thread Cert.FfnMRefIdeal.nD Cert.FfnMRefIdeal.τ).loc Cert.FfnMRefIdeal.main_arg0)
      ∧ r.2.mem ((c.tc : Thread Cert.FfnMRefIdeal.nD Cert.FfnMRefIdeal.τ).loc Cert.FfnMRefIdeal.main_arg1) = m ((c.tc : Thread Cert.FfnMRefIdeal.nD Cert.FfnMRefIdeal.τ).loc Cert.FfnMRefIdeal.main_arg1)
      ∧ r.2.mem ((c.tc : Thread Cert.FfnMRefIdeal.nD Cert.FfnMRefIdeal.τ).loc Cert.FfnMRefIdeal.main_arg2) = m ((c.tc : Thread Cert.FfnMRefIdeal.nD Cert.FfnMRefIdeal.τ).loc Cert.FfnMRefIdeal.main_arg2)
      ∧ r.2.mem ((c.tc : Thread Cert.FfnMRefIdeal.nD Cert.FfnMRefIdeal.τ).loc Cert.FfnMRefIdeal.main_arg3) = m ((c.tc : Thread Cert.FfnMRefIdeal.nD Cert.FfnMRefIdeal.τ).loc Cert.FfnMRefIdeal.main_arg3)
      ∧ r.2.mem ((c.tc : Thread Cert.FfnMRefIdeal.nD Cert.FfnMRefIdeal.τ).loc Cert.FfnMRefIdeal.main_arg4) = m ((c.tc : Thread Cert.FfnMRefIdeal.nD Cert.FfnMRefIdeal.τ).loc Cert.FfnMRefIdeal.main_arg4)
      ∧ r.2.mem ((c.tc : Thread Cert.FfnMRefIdeal.nD Cert.FfnMRefIdeal.τ).loc Cert.FfnMRefIdeal.main_arg5) = m ((c.tc : Thread Cert.FfnMRefIdeal.nD Cert.FfnMRefIdeal.τ).loc Cert.FfnMRefIdeal.main_arg5))
      ∧ r.2.sem = fun _ => 0)

def quiescent_FfnG [hFfnG : Cert.FfnG.Facts] : Prop :=
  ∀ (m : (ℓ : Loc Cert.FfnG.nD Cert.FfnG.τ Cert.FfnG.sig) → Buf (Elt Bits) ℓ) (g : Dev Cert.FfnG.nD → PrngReg), Pre_FfnG m →
    θ_run (Cert.FfnG.defs (F := Bits)) (onTc (τ := Cert.FfnG.τ) (Cert.FfnG.main (F := Bits))) ⟨m, fun _ => 0, g⟩ (fun r => (∀ c : Dev Cert.FfnG.nD,
      r.2.mem ((c.tc : Thread Cert.FfnG.nD Cert.FfnG.τ).loc Cert.FfnG.main_arg0) = m ((c.tc : Thread Cert.FfnG.nD Cert.FfnG.τ).loc Cert.FfnG.main_arg0)
      ∧ r.2.mem ((c.tc : Thread Cert.FfnG.nD Cert.FfnG.τ).loc Cert.FfnG.main_arg1) = m ((c.tc : Thread Cert.FfnG.nD Cert.FfnG.τ).loc Cert.FfnG.main_arg1)
      ∧ r.2.mem ((c.tc : Thread Cert.FfnG.nD Cert.FfnG.τ).loc Cert.FfnG.main_arg2) = m ((c.tc : Thread Cert.FfnG.nD Cert.FfnG.τ).loc Cert.FfnG.main_arg2)
      ∧ r.2.mem ((c.tc : Thread Cert.FfnG.nD Cert.FfnG.τ).loc Cert.FfnG.main_arg3) = m ((c.tc : Thread Cert.FfnG.nD Cert.FfnG.τ).loc Cert.FfnG.main_arg3)
      ∧ r.2.mem ((c.tc : Thread Cert.FfnG.nD Cert.FfnG.τ).loc Cert.FfnG.main_arg4) = m ((c.tc : Thread Cert.FfnG.nD Cert.FfnG.τ).loc Cert.FfnG.main_arg4)
      ∧ r.2.mem ((c.tc : Thread Cert.FfnG.nD Cert.FfnG.τ).loc Cert.FfnG.main_arg5) = m ((c.tc : Thread Cert.FfnG.nD Cert.FfnG.τ).loc Cert.FfnG.main_arg5)
      ∧ r.2.mem ((c.tc : Thread Cert.FfnG.nD Cert.FfnG.τ).loc Cert.FfnG.main_arg6) = m ((c.tc : Thread Cert.FfnG.nD Cert.FfnG.τ).loc Cert.FfnG.main_arg6)
      ∧ r.2.mem ((c.tc : Thread Cert.FfnG.nD Cert.FfnG.τ).loc Cert.FfnG.main_arg7) = m ((c.tc : Thread Cert.FfnG.nD Cert.FfnG.τ).loc Cert.FfnG.main_arg7))
      ∧ r.2.sem = fun _ => 0)

def quiescent_FfnGIdeal [hFfnGIdeal : Cert.FfnGIdeal.Facts] : Prop :=
  ∀ (m : (ℓ : Loc Cert.FfnGIdeal.nD Cert.FfnGIdeal.τ Cert.FfnGIdeal.sig) → Buf (Elt Ideal) ℓ) (g : Dev Cert.FfnGIdeal.nD → PrngReg), Pre_FfnGIdeal m →
    θ_run (Cert.FfnGIdeal.defs (F := Ideal)) (onTc (τ := Cert.FfnGIdeal.τ) (Cert.FfnGIdeal.main (F := Ideal))) ⟨m, fun _ => 0, g⟩ (fun r => (∀ c : Dev Cert.FfnGIdeal.nD,
      r.2.mem ((c.tc : Thread Cert.FfnGIdeal.nD Cert.FfnGIdeal.τ).loc Cert.FfnGIdeal.main_arg0) = m ((c.tc : Thread Cert.FfnGIdeal.nD Cert.FfnGIdeal.τ).loc Cert.FfnGIdeal.main_arg0)
      ∧ r.2.mem ((c.tc : Thread Cert.FfnGIdeal.nD Cert.FfnGIdeal.τ).loc Cert.FfnGIdeal.main_arg1) = m ((c.tc : Thread Cert.FfnGIdeal.nD Cert.FfnGIdeal.τ).loc Cert.FfnGIdeal.main_arg1)
      ∧ r.2.mem ((c.tc : Thread Cert.FfnGIdeal.nD Cert.FfnGIdeal.τ).loc Cert.FfnGIdeal.main_arg2) = m ((c.tc : Thread Cert.FfnGIdeal.nD Cert.FfnGIdeal.τ).loc Cert.FfnGIdeal.main_arg2)
      ∧ r.2.mem ((c.tc : Thread Cert.FfnGIdeal.nD Cert.FfnGIdeal.τ).loc Cert.FfnGIdeal.main_arg3) = m ((c.tc : Thread Cert.FfnGIdeal.nD Cert.FfnGIdeal.τ).loc Cert.FfnGIdeal.main_arg3)
      ∧ r.2.mem ((c.tc : Thread Cert.FfnGIdeal.nD Cert.FfnGIdeal.τ).loc Cert.FfnGIdeal.main_arg4) = m ((c.tc : Thread Cert.FfnGIdeal.nD Cert.FfnGIdeal.τ).loc Cert.FfnGIdeal.main_arg4)
      ∧ r.2.mem ((c.tc : Thread Cert.FfnGIdeal.nD Cert.FfnGIdeal.τ).loc Cert.FfnGIdeal.main_arg5) = m ((c.tc : Thread Cert.FfnGIdeal.nD Cert.FfnGIdeal.τ).loc Cert.FfnGIdeal.main_arg5)
      ∧ r.2.mem ((c.tc : Thread Cert.FfnGIdeal.nD Cert.FfnGIdeal.τ).loc Cert.FfnGIdeal.main_arg6) = m ((c.tc : Thread Cert.FfnGIdeal.nD Cert.FfnGIdeal.τ).loc Cert.FfnGIdeal.main_arg6)
      ∧ r.2.mem ((c.tc : Thread Cert.FfnGIdeal.nD Cert.FfnGIdeal.τ).loc Cert.FfnGIdeal.main_arg7) = m ((c.tc : Thread Cert.FfnGIdeal.nD Cert.FfnGIdeal.τ).loc Cert.FfnGIdeal.main_arg7))
      ∧ r.2.sem = fun _ => 0)

def quiescent_FfnGRefIdeal [hFfnGRefIdeal : Cert.FfnGRefIdeal.Facts] : Prop :=
  ∀ (m : (ℓ : Loc Cert.FfnGRefIdeal.nD Cert.FfnGRefIdeal.τ Cert.FfnGRefIdeal.sig) → Buf (Elt Ideal) ℓ) (g : Dev Cert.FfnGRefIdeal.nD → PrngReg), Pre_FfnGRefIdeal m →
    θ_run (Cert.FfnGRefIdeal.defs (F := Ideal)) (onTc (τ := Cert.FfnGRefIdeal.τ) (Cert.FfnGRefIdeal.main (F := Ideal))) ⟨m, fun _ => 0, g⟩ (fun r => (∀ c : Dev Cert.FfnGRefIdeal.nD,
      r.2.mem ((c.tc : Thread Cert.FfnGRefIdeal.nD Cert.FfnGRefIdeal.τ).loc Cert.FfnGRefIdeal.main_arg0) = m ((c.tc : Thread Cert.FfnGRefIdeal.nD Cert.FfnGRefIdeal.τ).loc Cert.FfnGRefIdeal.main_arg0)
      ∧ r.2.mem ((c.tc : Thread Cert.FfnGRefIdeal.nD Cert.FfnGRefIdeal.τ).loc Cert.FfnGRefIdeal.main_arg1) = m ((c.tc : Thread Cert.FfnGRefIdeal.nD Cert.FfnGRefIdeal.τ).loc Cert.FfnGRefIdeal.main_arg1)
      ∧ r.2.mem ((c.tc : Thread Cert.FfnGRefIdeal.nD Cert.FfnGRefIdeal.τ).loc Cert.FfnGRefIdeal.main_arg2) = m ((c.tc : Thread Cert.FfnGRefIdeal.nD Cert.FfnGRefIdeal.τ).loc Cert.FfnGRefIdeal.main_arg2)
      ∧ r.2.mem ((c.tc : Thread Cert.FfnGRefIdeal.nD Cert.FfnGRefIdeal.τ).loc Cert.FfnGRefIdeal.main_arg3) = m ((c.tc : Thread Cert.FfnGRefIdeal.nD Cert.FfnGRefIdeal.τ).loc Cert.FfnGRefIdeal.main_arg3)
      ∧ r.2.mem ((c.tc : Thread Cert.FfnGRefIdeal.nD Cert.FfnGRefIdeal.τ).loc Cert.FfnGRefIdeal.main_arg4) = m ((c.tc : Thread Cert.FfnGRefIdeal.nD Cert.FfnGRefIdeal.τ).loc Cert.FfnGRefIdeal.main_arg4)
      ∧ r.2.mem ((c.tc : Thread Cert.FfnGRefIdeal.nD Cert.FfnGRefIdeal.τ).loc Cert.FfnGRefIdeal.main_arg5) = m ((c.tc : Thread Cert.FfnGRefIdeal.nD Cert.FfnGRefIdeal.τ).loc Cert.FfnGRefIdeal.main_arg5)
      ∧ r.2.mem ((c.tc : Thread Cert.FfnGRefIdeal.nD Cert.FfnGRefIdeal.τ).loc Cert.FfnGRefIdeal.main_arg6) = m ((c.tc : Thread Cert.FfnGRefIdeal.nD Cert.FfnGRefIdeal.τ).loc Cert.FfnGRefIdeal.main_arg6)
      ∧ r.2.mem ((c.tc : Thread Cert.FfnGRefIdeal.nD Cert.FfnGRefIdeal.τ).loc Cert.FfnGRefIdeal.main_arg7) = m ((c.tc : Thread Cert.FfnGRefIdeal.nD Cert.FfnGRefIdeal.τ).loc Cert.FfnGRefIdeal.main_arg7))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6))
      ∧ r.2.sem = fun _ => 0)

def quiescent_KvP [hKvP : Cert.KvP.Facts] : Prop :=
  ∀ (m : (ℓ : Loc Cert.KvP.nD Cert.KvP.τ Cert.KvP.sig) → Buf (Elt Bits) ℓ) (g : Dev Cert.KvP.nD → PrngReg), Pre_KvP m →
    θ_run (Cert.KvP.defs (F := Bits)) (onTc (τ := Cert.KvP.τ) (Cert.KvP.main (F := Bits))) ⟨m, fun _ => 0, g⟩ (fun r => (∀ c : Dev Cert.KvP.nD,
      r.2.mem ((c.tc : Thread Cert.KvP.nD Cert.KvP.τ).loc Cert.KvP.main_arg0) = m ((c.tc : Thread Cert.KvP.nD Cert.KvP.τ).loc Cert.KvP.main_arg0)
      ∧ r.2.mem ((c.tc : Thread Cert.KvP.nD Cert.KvP.τ).loc Cert.KvP.main_arg1) = m ((c.tc : Thread Cert.KvP.nD Cert.KvP.τ).loc Cert.KvP.main_arg1)
      ∧ r.2.mem ((c.tc : Thread Cert.KvP.nD Cert.KvP.τ).loc Cert.KvP.main_arg2) = m ((c.tc : Thread Cert.KvP.nD Cert.KvP.τ).loc Cert.KvP.main_arg2))
      ∧ r.2.sem = fun _ => 0)

def quiescent_KvPIdeal [hKvPIdeal : Cert.KvPIdeal.Facts] : Prop :=
  ∀ (m : (ℓ : Loc Cert.KvPIdeal.nD Cert.KvPIdeal.τ Cert.KvPIdeal.sig) → Buf (Elt Ideal) ℓ) (g : Dev Cert.KvPIdeal.nD → PrngReg), Pre_KvPIdeal m →
    θ_run (Cert.KvPIdeal.defs (F := Ideal)) (onTc (τ := Cert.KvPIdeal.τ) (Cert.KvPIdeal.main (F := Ideal))) ⟨m, fun _ => 0, g⟩ (fun r => (∀ c : Dev Cert.KvPIdeal.nD,
      r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
      ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
      ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2))
      ∧ r.2.sem = fun _ => 0)

def quiescent_KvPRefIdeal [hKvPRefIdeal : Cert.KvPRefIdeal.Facts] : Prop :=
  ∀ (m : (ℓ : Loc Cert.KvPRefIdeal.nD Cert.KvPRefIdeal.τ Cert.KvPRefIdeal.sig) → Buf (Elt Ideal) ℓ) (g : Dev Cert.KvPRefIdeal.nD → PrngReg), Pre_KvPRefIdeal m →
    θ_run (Cert.KvPRefIdeal.defs (F := Ideal)) (onTc (τ := Cert.KvPRefIdeal.τ) (Cert.KvPRefIdeal.main (F := Ideal))) ⟨m, fun _ => 0, g⟩ (fun r => (∀ c : Dev Cert.KvPRefIdeal.nD,
      r.2.mem ((c.tc : Thread Cert.KvPRefIdeal.nD Cert.KvPRefIdeal.τ).loc Cert.KvPRefIdeal.main_arg0) = m ((c.tc : Thread Cert.KvPRefIdeal.nD Cert.KvPRefIdeal.τ).loc Cert.KvPRefIdeal.main_arg0)
      ∧ r.2.mem ((c.tc : Thread Cert.KvPRefIdeal.nD Cert.KvPRefIdeal.τ).loc Cert.KvPRefIdeal.main_arg1) = m ((c.tc : Thread Cert.KvPRefIdeal.nD Cert.KvPRefIdeal.τ).loc Cert.KvPRefIdeal.main_arg1)
      ∧ r.2.mem ((c.tc : Thread Cert.KvPRefIdeal.nD Cert.KvPRefIdeal.τ).loc Cert.KvPRefIdeal.main_arg2) = m ((c.tc : Thread Cert.KvPRefIdeal.nD Cert.KvPRefIdeal.τ).loc Cert.KvPRefIdeal.main_arg2))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3))
      ∧ r.2.sem = fun _ => 0)

def preserves_Ssd_SsdIdeal : Prop :=
  True

def algebraic_SsdIdeal_SsdRefIdeal_pre_finite_steps [hSsdIdeal : Cert.SsdIdeal.Facts] [hSsdRefIdeal : Cert.SsdRefIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_steps m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)) →
    ∃ (v0 : (c : Dev Cert.SsdIdeal.nD) → Buf (Elt Ideal) ((c.tc : Thread Cert.SsdIdeal.nD Cert.SsdIdeal.τ).loc Cert.SsdIdeal.main_v25_0)) (v1 : (c : Dev Cert.SsdIdeal.nD) → Buf (Elt Ideal) ((c.tc : Thread Cert.SsdIdeal.nD Cert.SsdIdeal.τ).loc Cert.SsdIdeal.main_v25_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v25_0) = v0 c
          ∧ r.2.mem ((c.tc : Thread Cert.SsdIdeal.nD Cert.SsdIdeal.τ).loc Cert.SsdIdeal.main_v25_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v44) = v0 c
          ∧ r.2.mem ((c.tc : Thread Cert.SsdRefIdeal.nD Cert.SsdRefIdeal.τ).loc Cert.SsdRefIdeal.main_v45) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)) →
    ∃ (v0 : (c : Dev Cert.FfnAIdeal.nD) → Buf (Elt Ideal) ((c.tc : Thread Cert.FfnAIdeal.nD Cert.FfnAIdeal.τ).loc Cert.FfnAIdeal.main_v7)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v7) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v21) = v0 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3))

def preserves_FfnZ_FfnZIdeal : Prop :=
  True

def algebraic_FfnZIdeal_FfnZRefIdeal [hFfnZIdeal : Cert.FfnZIdeal.Facts] [hFfnZRefIdeal : Cert.FfnZRefIdeal.Facts] : Prop :=
  ∀ (m : (ℓ : Loc Cert.FfnZIdeal.nD Cert.FfnZIdeal.τ Cert.FfnZIdeal.sig) → Buf (Elt Ideal) ℓ) (g : Dev Cert.FfnZIdeal.nD → PrngReg)
    (m' : (ℓ : Loc Cert.FfnZRefIdeal.nD Cert.FfnZRefIdeal.τ Cert.FfnZRefIdeal.sig) → Buf (Elt Ideal) ℓ) (g' : Dev Cert.FfnZRefIdeal.nD → PrngReg), Pre_FfnZIdeal m →
    (∀ c : Dev Cert.FfnZIdeal.nD,
      m' ((c.tc : Thread Cert.FfnZRefIdeal.nD Cert.FfnZRefIdeal.τ).loc Cert.FfnZRefIdeal.main_arg0) = m ((c.tc : Thread Cert.FfnZIdeal.nD Cert.FfnZIdeal.τ).loc Cert.FfnZIdeal.main_arg0)
      ∧ m' ((c.tc : Thread Cert.FfnZRefIdeal.nD Cert.FfnZRefIdeal.τ).loc Cert.FfnZRefIdeal.main_arg1) = m ((c.tc : Thread Cert.FfnZIdeal.nD Cert.FfnZIdeal.τ).loc Cert.FfnZIdeal.main_arg1)
      ∧ m' ((c.tc : Thread Cert.FfnZRefIdeal.nD Cert.FfnZRefIdeal.τ).loc Cert.FfnZRefIdeal.main_arg2) = m ((c.tc : Thread Cert.FfnZIdeal.nD Cert.FfnZIdeal.τ).loc Cert.FfnZIdeal.main_arg2)
      ∧ m' ((c.tc : Thread Cert.FfnZRefIdeal.nD Cert.FfnZRefIdeal.τ).loc Cert.FfnZRefIdeal.main_arg3) = m ((c.tc : Thread Cert.FfnZIdeal.nD Cert.FfnZIdeal.τ).loc Cert.FfnZIdeal.main_arg3)
      ∧ m' ((c.tc : Thread Cert.FfnZRefIdeal.nD Cert.FfnZRefIdeal.τ).loc Cert.FfnZRefIdeal.main_arg4) = m ((c.tc : Thread Cert.FfnZIdeal.nD Cert.FfnZIdeal.τ).loc Cert.FfnZIdeal.main_arg4)
      ∧ m' ((c.tc : Thread Cert.FfnZRefIdeal.nD Cert.FfnZRefIdeal.τ).loc Cert.FfnZRefIdeal.main_arg5) = m ((c.tc : Thread Cert.FfnZIdeal.nD Cert.FfnZIdeal.τ).loc Cert.FfnZIdeal.main_arg5)
      ∧ m' ((c.tc : Thread Cert.FfnZRefIdeal.nD Cert.FfnZRefIdeal.τ).loc Cert.FfnZRefIdeal.main_arg6) = m ((c.tc : Thread Cert.FfnZIdeal.nD Cert.FfnZIdeal.τ).loc Cert.FfnZIdeal.main_arg6)) →
    ∃ (v0 : (c : Dev Cert.FfnZIdeal.nD) → Buf (Elt Ideal) ((c.tc : Thread Cert.FfnZIdeal.nD Cert.FfnZIdeal.τ).loc Cert.FfnZIdeal.main_v10)),
      θ_run (Cert.FfnZIdeal.defs (F := Ideal)) (onTc (τ := Cert.FfnZIdeal.τ) (Cert.FfnZIdeal.main (F := Ideal))) ⟨m, fun _ => 0, g⟩ (fun r => ∀ c : Dev Cert.FfnZIdeal.nD,
          r.2.mem ((c.tc : Thread Cert.FfnZIdeal.nD Cert.FfnZIdeal.τ).loc Cert.FfnZIdeal.main_v10) = v0 c
          ∧ r.2.mem ((c.tc : Thread Cert.FfnZIdeal.nD Cert.FfnZIdeal.τ).loc Cert.FfnZIdeal.main_arg0) = m ((c.tc : Thread Cert.FfnZIdeal.nD Cert.FfnZIdeal.τ).loc Cert.FfnZIdeal.main_arg0)
          ∧ r.2.mem ((c.tc : Thread Cert.FfnZIdeal.nD Cert.FfnZIdeal.τ).loc Cert.FfnZIdeal.main_arg1) = m ((c.tc : Thread Cert.FfnZIdeal.nD Cert.FfnZIdeal.τ).loc Cert.FfnZIdeal.main_arg1)
          ∧ r.2.mem ((c.tc : Thread Cert.FfnZIdeal.nD Cert.FfnZIdeal.τ).loc Cert.FfnZIdeal.main_arg2) = m ((c.tc : Thread Cert.FfnZIdeal.nD Cert.FfnZIdeal.τ).loc Cert.FfnZIdeal.main_arg2)
          ∧ r.2.mem ((c.tc : Thread Cert.FfnZIdeal.nD Cert.FfnZIdeal.τ).loc Cert.FfnZIdeal.main_arg3) = m ((c.tc : Thread Cert.FfnZIdeal.nD Cert.FfnZIdeal.τ).loc Cert.FfnZIdeal.main_arg3)
          ∧ r.2.mem ((c.tc : Thread Cert.FfnZIdeal.nD Cert.FfnZIdeal.τ).loc Cert.FfnZIdeal.main_arg4) = m ((c.tc : Thread Cert.FfnZIdeal.nD Cert.FfnZIdeal.τ).loc Cert.FfnZIdeal.main_arg4)
          ∧ r.2.mem ((c.tc : Thread Cert.FfnZIdeal.nD Cert.FfnZIdeal.τ).loc Cert.FfnZIdeal.main_arg5) = m ((c.tc : Thread Cert.FfnZIdeal.nD Cert.FfnZIdeal.τ).loc Cert.FfnZIdeal.main_arg5)
          ∧ r.2.mem ((c.tc : Thread Cert.FfnZIdeal.nD Cert.FfnZIdeal.τ).loc Cert.FfnZIdeal.main_arg6) = m ((c.tc : Thread Cert.FfnZIdeal.nD Cert.FfnZIdeal.τ).loc Cert.FfnZIdeal.main_arg6))
      ∧ θ_run (Cert.FfnZRefIdeal.defs (F := Ideal)) (onTc (τ := Cert.FfnZRefIdeal.τ) (Cert.FfnZRefIdeal.main (F := Ideal))) ⟨m', fun _ => 0, g'⟩ (fun r => ∀ c : Dev Cert.FfnZRefIdeal.nD,
          r.2.mem ((c.tc : Thread Cert.FfnZRefIdeal.nD Cert.FfnZRefIdeal.τ).loc Cert.FfnZRefIdeal.main_v36) = v0 c
          ∧ r.2.mem ((c.tc : Thread Cert.FfnZRefIdeal.nD Cert.FfnZRefIdeal.τ).loc Cert.FfnZRefIdeal.main_arg0) = m' ((c.tc : Thread Cert.FfnZRefIdeal.nD Cert.FfnZRefIdeal.τ).loc Cert.FfnZRefIdeal.main_arg0)
          ∧ r.2.mem ((c.tc : Thread Cert.FfnZRefIdeal.nD Cert.FfnZRefIdeal.τ).loc Cert.FfnZRefIdeal.main_arg1) = m' ((c.tc : Thread Cert.FfnZRefIdeal.nD Cert.FfnZRefIdeal.τ).loc Cert.FfnZRefIdeal.main_arg1)
          ∧ r.2.mem ((c.tc : Thread Cert.FfnZRefIdeal.nD Cert.FfnZRefIdeal.τ).loc Cert.FfnZRefIdeal.main_arg2) = m' ((c.tc : Thread Cert.FfnZRefIdeal.nD Cert.FfnZRefIdeal.τ).loc Cert.FfnZRefIdeal.main_arg2)
          ∧ r.2.mem ((c.tc : Thread Cert.FfnZRefIdeal.nD Cert.FfnZRefIdeal.τ).loc Cert.FfnZRefIdeal.main_arg3) = m' ((c.tc : Thread Cert.FfnZRefIdeal.nD Cert.FfnZRefIdeal.τ).loc Cert.FfnZRefIdeal.main_arg3)
          ∧ r.2.mem ((c.tc : Thread Cert.FfnZRefIdeal.nD Cert.FfnZRefIdeal.τ).loc Cert.FfnZRefIdeal.main_arg4) = m' ((c.tc : Thread Cert.FfnZRefIdeal.nD Cert.FfnZRefIdeal.τ).loc Cert.FfnZRefIdeal.main_arg4)
          ∧ r.2.mem ((c.tc : Thread Cert.FfnZRefIdeal.nD Cert.FfnZRefIdeal.τ).loc Cert.FfnZRefIdeal.main_arg5) = m' ((c.tc : Thread Cert.FfnZRefIdeal.nD Cert.FfnZRefIdeal.τ).loc Cert.FfnZRefIdeal.main_arg5)
          ∧ r.2.mem ((c.tc : Thread Cert.FfnZRefIdeal.nD Cert.FfnZRefIdeal.τ).loc Cert.FfnZRefIdeal.main_arg6) = m' ((c.tc : Thread Cert.FfnZRefIdeal.nD Cert.FfnZRefIdeal.τ).loc Cert.FfnZRefIdeal.main_arg6))

def preserves_FfnM_FfnMIdeal : Prop :=
  True

def algebraic_FfnMIdeal_FfnMRefIdeal [hFfnMIdeal : Cert.FfnMIdeal.Facts] [hFfnMRefIdeal : Cert.FfnMRefIdeal.Facts] : Prop :=
  ∀ (m : (ℓ : Loc Cert.FfnMIdeal.nD Cert.FfnMIdeal.τ Cert.FfnMIdeal.sig) → Buf (Elt Ideal) ℓ) (g : Dev Cert.FfnMIdeal.nD → PrngReg)
    (m' : (ℓ : Loc Cert.FfnMRefIdeal.nD Cert.FfnMRefIdeal.τ Cert.FfnMRefIdeal.sig) → Buf (Elt Ideal) ℓ) (g' : Dev Cert.FfnMRefIdeal.nD → PrngReg), Pre_FfnMIdeal m →
    (∀ c : Dev Cert.FfnMIdeal.nD,
      m' ((c.tc : Thread Cert.FfnMRefIdeal.nD Cert.FfnMRefIdeal.τ).loc Cert.FfnMRefIdeal.main_arg0) = m ((c.tc : Thread Cert.FfnMIdeal.nD Cert.FfnMIdeal.τ).loc Cert.FfnMIdeal.main_arg0)
      ∧ m' ((c.tc : Thread Cert.FfnMRefIdeal.nD Cert.FfnMRefIdeal.τ).loc Cert.FfnMRefIdeal.main_arg1) = m ((c.tc : Thread Cert.FfnMIdeal.nD Cert.FfnMIdeal.τ).loc Cert.FfnMIdeal.main_arg1)
      ∧ m' ((c.tc : Thread Cert.FfnMRefIdeal.nD Cert.FfnMRefIdeal.τ).loc Cert.FfnMRefIdeal.main_arg2) = m ((c.tc : Thread Cert.FfnMIdeal.nD Cert.FfnMIdeal.τ).loc Cert.FfnMIdeal.main_arg2)
      ∧ m' ((c.tc : Thread Cert.FfnMRefIdeal.nD Cert.FfnMRefIdeal.τ).loc Cert.FfnMRefIdeal.main_arg3) = m ((c.tc : Thread Cert.FfnMIdeal.nD Cert.FfnMIdeal.τ).loc Cert.FfnMIdeal.main_arg3)
      ∧ m' ((c.tc : Thread Cert.FfnMRefIdeal.nD Cert.FfnMRefIdeal.τ).loc Cert.FfnMRefIdeal.main_arg4) = m ((c.tc : Thread Cert.FfnMIdeal.nD Cert.FfnMIdeal.τ).loc Cert.FfnMIdeal.main_arg4)
      ∧ m' ((c.tc : Thread Cert.FfnMRefIdeal.nD Cert.FfnMRefIdeal.τ).loc Cert.FfnMRefIdeal.main_arg5) = m ((c.tc : Thread Cert.FfnMIdeal.nD Cert.FfnMIdeal.τ).loc Cert.FfnMIdeal.main_arg5)) →
    ∃ (v0 : (c : Dev Cert.FfnMIdeal.nD) → Buf (Elt Ideal) ((c.tc : Thread Cert.FfnMIdeal.nD Cert.FfnMIdeal.τ).loc Cert.FfnMIdeal.main_v9)),
      θ_run (Cert.FfnMIdeal.defs (F := Ideal)) (onTc (τ := Cert.FfnMIdeal.τ) (Cert.FfnMIdeal.main (F := Ideal))) ⟨m, fun _ => 0, g⟩ (fun r => ∀ c : Dev Cert.FfnMIdeal.nD,
          r.2.mem ((c.tc : Thread Cert.FfnMIdeal.nD Cert.FfnMIdeal.τ).loc Cert.FfnMIdeal.main_v9) = v0 c
          ∧ r.2.mem ((c.tc : Thread Cert.FfnMIdeal.nD Cert.FfnMIdeal.τ).loc Cert.FfnMIdeal.main_arg0) = m ((c.tc : Thread Cert.FfnMIdeal.nD Cert.FfnMIdeal.τ).loc Cert.FfnMIdeal.main_arg0)
          ∧ r.2.mem ((c.tc : Thread Cert.FfnMIdeal.nD Cert.FfnMIdeal.τ).loc Cert.FfnMIdeal.main_arg1) = m ((c.tc : Thread Cert.FfnMIdeal.nD Cert.FfnMIdeal.τ).loc Cert.FfnMIdeal.main_arg1)
          ∧ r.2.mem ((c.tc : Thread Cert.FfnMIdeal.nD Cert.FfnMIdeal.τ).loc Cert.FfnMIdeal.main_arg2) = m ((c.tc : Thread Cert.FfnMIdeal.nD Cert.FfnMIdeal.τ).loc Cert.FfnMIdeal.main_arg2)
          ∧ r.2.mem ((c.tc : Thread Cert.FfnMIdeal.nD Cert.FfnMIdeal.τ).loc Cert.FfnMIdeal.main_arg3) = m ((c.tc : Thread Cert.FfnMIdeal.nD Cert.FfnMIdeal.τ).loc Cert.FfnMIdeal.main_arg3)
          ∧ r.2.mem ((c.tc : Thread Cert.FfnMIdeal.nD Cert.FfnMIdeal.τ).loc Cert.FfnMIdeal.main_arg4) = m ((c.tc : Thread Cert.FfnMIdeal.nD Cert.FfnMIdeal.τ).loc Cert.FfnMIdeal.main_arg4)
          ∧ r.2.mem ((c.tc : Thread Cert.FfnMIdeal.nD Cert.FfnMIdeal.τ).loc Cert.FfnMIdeal.main_arg5) = m ((c.tc : Thread Cert.FfnMIdeal.nD Cert.FfnMIdeal.τ).loc Cert.FfnMIdeal.main_arg5))
      ∧ θ_run (Cert.FfnMRefIdeal.defs (F := Ideal)) (onTc (τ := Cert.FfnMRefIdeal.τ) (Cert.FfnMRefIdeal.main (F := Ideal))) ⟨m', fun _ => 0, g'⟩ (fun r => ∀ c : Dev Cert.FfnMRefIdeal.nD,
          r.2.mem ((c.tc : Thread Cert.FfnMRefIdeal.nD Cert.FfnMRefIdeal.τ).loc Cert.FfnMRefIdeal.main_v23) = v0 c
          ∧ r.2.mem ((c.tc : Thread Cert.FfnMRefIdeal.nD Cert.FfnMRefIdeal.τ).loc Cert.FfnMRefIdeal.main_arg0) = m' ((c.tc : Thread Cert.FfnMRefIdeal.nD Cert.FfnMRefIdeal.τ).loc Cert.FfnMRefIdeal.main_arg0)
          ∧ r.2.mem ((c.tc : Thread Cert.FfnMRefIdeal.nD Cert.FfnMRefIdeal.τ).loc Cert.FfnMRefIdeal.main_arg1) = m' ((c.tc : Thread Cert.FfnMRefIdeal.nD Cert.FfnMRefIdeal.τ).loc Cert.FfnMRefIdeal.main_arg1)
          ∧ r.2.mem ((c.tc : Thread Cert.FfnMRefIdeal.nD Cert.FfnMRefIdeal.τ).loc Cert.FfnMRefIdeal.main_arg2) = m' ((c.tc : Thread Cert.FfnMRefIdeal.nD Cert.FfnMRefIdeal.τ).loc Cert.FfnMRefIdeal.main_arg2)
          ∧ r.2.mem ((c.tc : Thread Cert.FfnMRefIdeal.nD Cert.FfnMRefIdeal.τ).loc Cert.FfnMRefIdeal.main_arg3) = m' ((c.tc : Thread Cert.FfnMRefIdeal.nD Cert.FfnMRefIdeal.τ).loc Cert.FfnMRefIdeal.main_arg3)
          ∧ r.2.mem ((c.tc : Thread Cert.FfnMRefIdeal.nD Cert.FfnMRefIdeal.τ).loc Cert.FfnMRefIdeal.main_arg4) = m' ((c.tc : Thread Cert.FfnMRefIdeal.nD Cert.FfnMRefIdeal.τ).loc Cert.FfnMRefIdeal.main_arg4)
          ∧ r.2.mem ((c.tc : Thread Cert.FfnMRefIdeal.nD Cert.FfnMRefIdeal.τ).loc Cert.FfnMRefIdeal.main_arg5) = m' ((c.tc : Thread Cert.FfnMRefIdeal.nD Cert.FfnMRefIdeal.τ).loc Cert.FfnMRefIdeal.main_arg5))

def preserves_FfnG_FfnGIdeal : Prop :=
  True

def algebraic_FfnGIdeal_FfnGRefIdeal [hFfnGIdeal : Cert.FfnGIdeal.Facts] [hFfnGRefIdeal : Cert.FfnGRefIdeal.Facts] : Prop :=
  ∀ (m : (ℓ : Loc Cert.FfnGIdeal.nD Cert.FfnGIdeal.τ Cert.FfnGIdeal.sig) → Buf (Elt Ideal) ℓ) (g : Dev Cert.FfnGIdeal.nD → PrngReg)
    (m' : (ℓ : Loc Cert.FfnGRefIdeal.nD Cert.FfnGRefIdeal.τ Cert.FfnGRefIdeal.sig) → Buf (Elt Ideal) ℓ) (g' : Dev Cert.FfnGRefIdeal.nD → PrngReg), Pre_FfnGIdeal m →
    (∀ c : Dev Cert.FfnGIdeal.nD,
      m' ((c.tc : Thread Cert.FfnGRefIdeal.nD Cert.FfnGRefIdeal.τ).loc Cert.FfnGRefIdeal.main_arg0) = m ((c.tc : Thread Cert.FfnGIdeal.nD Cert.FfnGIdeal.τ).loc Cert.FfnGIdeal.main_arg0)
      ∧ m' ((c.tc : Thread Cert.FfnGRefIdeal.nD Cert.FfnGRefIdeal.τ).loc Cert.FfnGRefIdeal.main_arg1) = m ((c.tc : Thread Cert.FfnGIdeal.nD Cert.FfnGIdeal.τ).loc Cert.FfnGIdeal.main_arg1)
      ∧ m' ((c.tc : Thread Cert.FfnGRefIdeal.nD Cert.FfnGRefIdeal.τ).loc Cert.FfnGRefIdeal.main_arg2) = m ((c.tc : Thread Cert.FfnGIdeal.nD Cert.FfnGIdeal.τ).loc Cert.FfnGIdeal.main_arg2)
      ∧ m' ((c.tc : Thread Cert.FfnGRefIdeal.nD Cert.FfnGRefIdeal.τ).loc Cert.FfnGRefIdeal.main_arg3) = m ((c.tc : Thread Cert.FfnGIdeal.nD Cert.FfnGIdeal.τ).loc Cert.FfnGIdeal.main_arg3)
      ∧ m' ((c.tc : Thread Cert.FfnGRefIdeal.nD Cert.FfnGRefIdeal.τ).loc Cert.FfnGRefIdeal.main_arg4) = m ((c.tc : Thread Cert.FfnGIdeal.nD Cert.FfnGIdeal.τ).loc Cert.FfnGIdeal.main_arg4)
      ∧ m' ((c.tc : Thread Cert.FfnGRefIdeal.nD Cert.FfnGRefIdeal.τ).loc Cert.FfnGRefIdeal.main_arg5) = m ((c.tc : Thread Cert.FfnGIdeal.nD Cert.FfnGIdeal.τ).loc Cert.FfnGIdeal.main_arg5)
      ∧ m' ((c.tc : Thread Cert.FfnGRefIdeal.nD Cert.FfnGRefIdeal.τ).loc Cert.FfnGRefIdeal.main_arg6) = m ((c.tc : Thread Cert.FfnGIdeal.nD Cert.FfnGIdeal.τ).loc Cert.FfnGIdeal.main_arg6)
      ∧ m' ((c.tc : Thread Cert.FfnGRefIdeal.nD Cert.FfnGRefIdeal.τ).loc Cert.FfnGRefIdeal.main_arg7) = m ((c.tc : Thread Cert.FfnGIdeal.nD Cert.FfnGIdeal.τ).loc Cert.FfnGIdeal.main_arg7)) →
    ∃ (v0 : (c : Dev Cert.FfnGIdeal.nD) → Buf (Elt Ideal) ((c.tc : Thread Cert.FfnGIdeal.nD Cert.FfnGIdeal.τ).loc Cert.FfnGIdeal.main_v11)),
      θ_run (Cert.FfnGIdeal.defs (F := Ideal)) (onTc (τ := Cert.FfnGIdeal.τ) (Cert.FfnGIdeal.main (F := Ideal))) ⟨m, fun _ => 0, g⟩ (fun r => ∀ c : Dev Cert.FfnGIdeal.nD,
          r.2.mem ((c.tc : Thread Cert.FfnGIdeal.nD Cert.FfnGIdeal.τ).loc Cert.FfnGIdeal.main_v11) = v0 c
          ∧ r.2.mem ((c.tc : Thread Cert.FfnGIdeal.nD Cert.FfnGIdeal.τ).loc Cert.FfnGIdeal.main_arg0) = m ((c.tc : Thread Cert.FfnGIdeal.nD Cert.FfnGIdeal.τ).loc Cert.FfnGIdeal.main_arg0)
          ∧ r.2.mem ((c.tc : Thread Cert.FfnGIdeal.nD Cert.FfnGIdeal.τ).loc Cert.FfnGIdeal.main_arg1) = m ((c.tc : Thread Cert.FfnGIdeal.nD Cert.FfnGIdeal.τ).loc Cert.FfnGIdeal.main_arg1)
          ∧ r.2.mem ((c.tc : Thread Cert.FfnGIdeal.nD Cert.FfnGIdeal.τ).loc Cert.FfnGIdeal.main_arg2) = m ((c.tc : Thread Cert.FfnGIdeal.nD Cert.FfnGIdeal.τ).loc Cert.FfnGIdeal.main_arg2)
          ∧ r.2.mem ((c.tc : Thread Cert.FfnGIdeal.nD Cert.FfnGIdeal.τ).loc Cert.FfnGIdeal.main_arg3) = m ((c.tc : Thread Cert.FfnGIdeal.nD Cert.FfnGIdeal.τ).loc Cert.FfnGIdeal.main_arg3)
          ∧ r.2.mem ((c.tc : Thread Cert.FfnGIdeal.nD Cert.FfnGIdeal.τ).loc Cert.FfnGIdeal.main_arg4) = m ((c.tc : Thread Cert.FfnGIdeal.nD Cert.FfnGIdeal.τ).loc Cert.FfnGIdeal.main_arg4)
          ∧ r.2.mem ((c.tc : Thread Cert.FfnGIdeal.nD Cert.FfnGIdeal.τ).loc Cert.FfnGIdeal.main_arg5) = m ((c.tc : Thread Cert.FfnGIdeal.nD Cert.FfnGIdeal.τ).loc Cert.FfnGIdeal.main_arg5)
          ∧ r.2.mem ((c.tc : Thread Cert.FfnGIdeal.nD Cert.FfnGIdeal.τ).loc Cert.FfnGIdeal.main_arg6) = m ((c.tc : Thread Cert.FfnGIdeal.nD Cert.FfnGIdeal.τ).loc Cert.FfnGIdeal.main_arg6)
          ∧ r.2.mem ((c.tc : Thread Cert.FfnGIdeal.nD Cert.FfnGIdeal.τ).loc Cert.FfnGIdeal.main_arg7) = m ((c.tc : Thread Cert.FfnGIdeal.nD Cert.FfnGIdeal.τ).loc Cert.FfnGIdeal.main_arg7))
      ∧ θ_run (Cert.FfnGRefIdeal.defs (F := Ideal)) (onTc (τ := Cert.FfnGRefIdeal.τ) (Cert.FfnGRefIdeal.main (F := Ideal))) ⟨m', fun _ => 0, g'⟩ (fun r => ∀ c : Dev Cert.FfnGRefIdeal.nD,
          r.2.mem ((c.tc : Thread Cert.FfnGRefIdeal.nD Cert.FfnGRefIdeal.τ).loc Cert.FfnGRefIdeal.main_v38) = v0 c
          ∧ r.2.mem ((c.tc : Thread Cert.FfnGRefIdeal.nD Cert.FfnGRefIdeal.τ).loc Cert.FfnGRefIdeal.main_arg0) = m' ((c.tc : Thread Cert.FfnGRefIdeal.nD Cert.FfnGRefIdeal.τ).loc Cert.FfnGRefIdeal.main_arg0)
          ∧ r.2.mem ((c.tc : Thread Cert.FfnGRefIdeal.nD Cert.FfnGRefIdeal.τ).loc Cert.FfnGRefIdeal.main_arg1) = m' ((c.tc : Thread Cert.FfnGRefIdeal.nD Cert.FfnGRefIdeal.τ).loc Cert.FfnGRefIdeal.main_arg1)
          ∧ r.2.mem ((c.tc : Thread Cert.FfnGRefIdeal.nD Cert.FfnGRefIdeal.τ).loc Cert.FfnGRefIdeal.main_arg2) = m' ((c.tc : Thread Cert.FfnGRefIdeal.nD Cert.FfnGRefIdeal.τ).loc Cert.FfnGRefIdeal.main_arg2)
          ∧ r.2.mem ((c.tc : Thread Cert.FfnGRefIdeal.nD Cert.FfnGRefIdeal.τ).loc Cert.FfnGRefIdeal.main_arg3) = m' ((c.tc : Thread Cert.FfnGRefIdeal.nD Cert.FfnGRefIdeal.τ).loc Cert.FfnGRefIdeal.main_arg3)
          ∧ r.2.mem ((c.tc : Thread Cert.FfnGRefIdeal.nD Cert.FfnGRefIdeal.τ).loc Cert.FfnGRefIdeal.main_arg4) = m' ((c.tc : Thread Cert.FfnGRefIdeal.nD Cert.FfnGRefIdeal.τ).loc Cert.FfnGRefIdeal.main_arg4)
          ∧ r.2.mem ((c.tc : Thread Cert.FfnGRefIdeal.nD Cert.FfnGRefIdeal.τ).loc Cert.FfnGRefIdeal.main_arg5) = m' ((c.tc : Thread Cert.FfnGRefIdeal.nD Cert.FfnGRefIdeal.τ).loc Cert.FfnGRefIdeal.main_arg5)
          ∧ r.2.mem ((c.tc : Thread Cert.FfnGRefIdeal.nD Cert.FfnGRefIdeal.τ).loc Cert.FfnGRefIdeal.main_arg6) = m' ((c.tc : Thread Cert.FfnGRefIdeal.nD Cert.FfnGRefIdeal.τ).loc Cert.FfnGRefIdeal.main_arg6)
          ∧ r.2.mem ((c.tc : Thread Cert.FfnGRefIdeal.nD Cert.FfnGRefIdeal.τ).loc Cert.FfnGRefIdeal.main_arg7) = m' ((c.tc : Thread Cert.FfnGRefIdeal.nD Cert.FfnGRefIdeal.τ).loc Cert.FfnGRefIdeal.main_arg7))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)) →
    ∃ (v0 : (c : Dev Cert.FfnSIdeal.nD) → Buf (Elt Ideal) ((c.tc : Thread Cert.FfnSIdeal.nD Cert.FfnSIdeal.τ).loc Cert.FfnSIdeal.main_v9)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v9) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v36) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6))

def preserves_KvP_KvPIdeal : Prop :=
  True

def algebraic_KvPIdeal_KvPRefIdeal [hKvPIdeal : Cert.KvPIdeal.Facts] [hKvPRefIdeal : Cert.KvPRefIdeal.Facts] : Prop :=
  ∀ (m : (ℓ : Loc Cert.KvPIdeal.nD Cert.KvPIdeal.τ Cert.KvPIdeal.sig) → Buf (Elt Ideal) ℓ) (g : Dev Cert.KvPIdeal.nD → PrngReg)
    (m' : (ℓ : Loc Cert.KvPRefIdeal.nD Cert.KvPRefIdeal.τ Cert.KvPRefIdeal.sig) → Buf (Elt Ideal) ℓ) (g' : Dev Cert.KvPRefIdeal.nD → PrngReg), Pre_KvPIdeal m →
    (∀ c : Dev Cert.KvPIdeal.nD,
      m' ((c.tc : Thread Cert.KvPRefIdeal.nD Cert.KvPRefIdeal.τ).loc Cert.KvPRefIdeal.main_arg0) = m ((c.tc : Thread Cert.KvPIdeal.nD Cert.KvPIdeal.τ).loc Cert.KvPIdeal.main_arg0)
      ∧ m' ((c.tc : Thread Cert.KvPRefIdeal.nD Cert.KvPRefIdeal.τ).loc Cert.KvPRefIdeal.main_arg1) = m ((c.tc : Thread Cert.KvPIdeal.nD Cert.KvPIdeal.τ).loc Cert.KvPIdeal.main_arg1)
      ∧ m' ((c.tc : Thread Cert.KvPRefIdeal.nD Cert.KvPRefIdeal.τ).loc Cert.KvPRefIdeal.main_arg2) = m ((c.tc : Thread Cert.KvPIdeal.nD Cert.KvPIdeal.τ).loc Cert.KvPIdeal.main_arg2)) →
    ∃ (v0 : (c : Dev Cert.KvPIdeal.nD) → Buf (Elt Ideal) ((c.tc : Thread Cert.KvPIdeal.nD Cert.KvPIdeal.τ).loc Cert.KvPIdeal.main_v27_0)) (v1 : (c : Dev Cert.KvPIdeal.nD) → Buf (Elt Ideal) ((c.tc : Thread Cert.KvPIdeal.nD Cert.KvPIdeal.τ).loc Cert.KvPIdeal.main_v27_1)) (v2 : (c : Dev Cert.KvPIdeal.nD) → Buf (Elt Ideal) ((c.tc : Thread Cert.KvPIdeal.nD Cert.KvPIdeal.τ).loc Cert.KvPIdeal.main_v27_2)),
      θ_run (Cert.KvPIdeal.defs (F := Ideal)) (onTc (τ := Cert.KvPIdeal.τ) (Cert.KvPIdeal.main (F := Ideal))) ⟨m, fun _ => 0, g⟩ (fun r => ∀ c : Dev Cert.KvPIdeal.nD,
          r.2.mem ((c.tc : Thread Cert.KvPIdeal.nD Cert.KvPIdeal.τ).loc Cert.KvPIdeal.main_v27_0) = v0 c
          ∧ r.2.mem ((c.tc : Thread Cert.KvPIdeal.nD Cert.KvPIdeal.τ).loc Cert.KvPIdeal.main_v27_1) = v1 c
          ∧ r.2.mem ((c.tc : Thread Cert.KvPIdeal.nD Cert.KvPIdeal.τ).loc Cert.KvPIdeal.main_v27_2) = v2 c
          ∧ r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
          ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
          ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2))
      ∧ θ_run (Cert.KvPRefIdeal.defs (F := Ideal)) (onTc (τ := Cert.KvPRefIdeal.τ) (Cert.KvPRefIdeal.main (F := Ideal))) ⟨m', fun _ => 0, g'⟩ (fun r => ∀ c : Dev Cert.KvPRefIdeal.nD,
          r.2.mem ((c.tc : Thread Cert.KvPRefIdeal.nD Cert.KvPRefIdeal.τ).loc Cert.KvPRefIdeal.main_v57) = v0 c
          ∧ r.2.mem ((c.tc : Thread Cert.KvPRefIdeal.nD Cert.KvPRefIdeal.τ).loc Cert.KvPRefIdeal.main_v58) = v1 c
          ∧ r.2.mem ((c.tc : Thread Cert.KvPRefIdeal.nD Cert.KvPRefIdeal.τ).loc Cert.KvPRefIdeal.main_v59) = v2 c
          ∧ r.2.mem ((c.tc : Thread Cert.KvPRefIdeal.nD Cert.KvPRefIdeal.τ).loc Cert.KvPRefIdeal.main_arg0) = m' ((c.tc : Thread Cert.KvPRefIdeal.nD Cert.KvPRefIdeal.τ).loc Cert.KvPRefIdeal.main_arg0)
          ∧ r.2.mem ((c.tc : Thread Cert.KvPRefIdeal.nD Cert.KvPRefIdeal.τ).loc Cert.KvPRefIdeal.main_arg1) = m' ((c.tc : Thread Cert.KvPRefIdeal.nD Cert.KvPRefIdeal.τ).loc Cert.KvPRefIdeal.main_arg1)
          ∧ r.2.mem ((c.tc : Thread Cert.KvPRefIdeal.nD Cert.KvPRefIdeal.τ).loc Cert.KvPRefIdeal.main_arg2) = m' ((c.tc : Thread Cert.KvPRefIdeal.nD Cert.KvPRefIdeal.τ).loc Cert.KvPRefIdeal.main_arg2))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)) →
    ∃ (v0 : (c : Dev Cert.KvSIdeal.nD) → Buf (Elt Ideal) ((c.tc : Thread Cert.KvSIdeal.nD Cert.KvSIdeal.τ).loc Cert.KvSIdeal.main_v27_0)) (v1 : (c : Dev Cert.KvSIdeal.nD) → Buf (Elt Ideal) ((c.tc : Thread Cert.KvSIdeal.nD Cert.KvSIdeal.τ).loc Cert.KvSIdeal.main_v27_1)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v27_0) = v0 c
          ∧ r.2.mem ((c.tc : Thread Cert.KvSIdeal.nD Cert.KvSIdeal.τ).loc Cert.KvSIdeal.main_v27_1) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v52) = v0 c
          ∧ r.2.mem ((c.tc : Thread Cert.KvSRefIdeal.nD Cert.KvSRefIdeal.τ).loc Cert.KvSRefIdeal.main_v55) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v27)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v27) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v49) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)) (v2 : (c : Dev Cert.InProjIdeal.nD) → Buf (Elt Ideal) ((c.tc : Thread Cert.InProjIdeal.nD Cert.InProjIdeal.τ).loc Cert.InProjIdeal.main_v9_2)) (v3 : (c : Dev Cert.InProjIdeal.nD) → Buf (Elt Ideal) ((c.tc : Thread Cert.InProjIdeal.nD Cert.InProjIdeal.τ).loc Cert.InProjIdeal.main_v9_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_v9_2) = v2 c
          ∧ r.2.mem ((c.tc : Thread Cert.InProjIdeal.nD Cert.InProjIdeal.τ).loc Cert.InProjIdeal.main_v9_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v56) = v0 c
          ∧ r.2.mem ((c.tc : Thread Cert.InProjRefIdeal.nD Cert.InProjRefIdeal.τ).loc Cert.InProjRefIdeal.main_v58) = v1 c
          ∧ r.2.mem ((c.tc : Thread Cert.InProjRefIdeal.nD Cert.InProjRefIdeal.τ).loc Cert.InProjRefIdeal.main_v59) = v2 c
          ∧ r.2.mem ((c.tc : Thread Cert.InProjRefIdeal.nD Cert.InProjRefIdeal.τ).loc Cert.InProjRefIdeal.main_v19) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)) →
    ∃ (v0 : (c : Dev Cert.InSIdeal.nD) → Buf (Elt Ideal) ((c.tc : Thread Cert.InSIdeal.nD Cert.InSIdeal.τ).loc Cert.InSIdeal.main_v2_0)) (v1 : (c : Dev Cert.InSIdeal.nD) → Buf (Elt Ideal) ((c.tc : Thread Cert.InSIdeal.nD Cert.InSIdeal.τ).loc Cert.InSIdeal.main_v2_1)) (v2 : (c : Dev Cert.InSIdeal.nD) → Buf (Elt Ideal) ((c.tc : Thread Cert.InSIdeal.nD Cert.InSIdeal.τ).loc Cert.InSIdeal.main_v5)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v2_0) = v0 c
          ∧ r.2.mem ((c.tc : Thread Cert.InSIdeal.nD Cert.InSIdeal.τ).loc Cert.InSIdeal.main_v2_1) = v1 c
          ∧ r.2.mem ((c.tc : Thread Cert.InSIdeal.nD Cert.InSIdeal.τ).loc Cert.InSIdeal.main_v5) = v2 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v14) = v0 c
          ∧ r.2.mem ((c.tc : Thread Cert.InSRefIdeal.nD Cert.InSRefIdeal.τ).loc Cert.InSRefIdeal.main_v15) = v1 c
          ∧ r.2.mem ((c.tc : Thread Cert.InSRefIdeal.nD Cert.InSRefIdeal.τ).loc Cert.InSRefIdeal.main_v18) = v2 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3))

def Claim : Prop :=
  ∃ (hSsd : Cert.Ssd.Facts) (hSsdIdeal : Cert.SsdIdeal.Facts) (hSsdRefIdeal : Cert.SsdRefIdeal.Facts) (hFfnA : Cert.FfnA.Facts) (hFfnAIdeal : Cert.FfnAIdeal.Facts) (hFfnARefIdeal : Cert.FfnARefIdeal.Facts) (hFfnZ : Cert.FfnZ.Facts) (hFfnZIdeal : Cert.FfnZIdeal.Facts) (hFfnZRefIdeal : Cert.FfnZRefIdeal.Facts) (hFfnM : Cert.FfnM.Facts) (hFfnMIdeal : Cert.FfnMIdeal.Facts) (hFfnMRefIdeal : Cert.FfnMRefIdeal.Facts) (hFfnG : Cert.FfnG.Facts) (hFfnGIdeal : Cert.FfnGIdeal.Facts) (hFfnGRefIdeal : Cert.FfnGRefIdeal.Facts) (hFfnS : Cert.FfnS.Facts) (hFfnSIdeal : Cert.FfnSIdeal.Facts) (hFfnSRefIdeal : Cert.FfnSRefIdeal.Facts) (hKvP : Cert.KvP.Facts) (hKvPIdeal : Cert.KvPIdeal.Facts) (hKvPRefIdeal : Cert.KvPRefIdeal.Facts) (hKvS : Cert.KvS.Facts) (hKvSIdeal : Cert.KvSIdeal.Facts) (hKvSRefIdeal : Cert.KvSRefIdeal.Facts) (hQProj : Cert.QProj.Facts) (hQProjIdeal : Cert.QProjIdeal.Facts) (hQProjRefIdeal : Cert.QProjRefIdeal.Facts) (hInProj : Cert.InProj.Facts) (hInProjIdeal : Cert.InProjIdeal.Facts) (hInProjRefIdeal : Cert.InProjRefIdeal.Facts) (hInS : Cert.InS.Facts) (hInSIdeal : Cert.InSIdeal.Facts) (hInSRefIdeal : Cert.InSRefIdeal.Facts) (hPre_finite_steps : Cert.Pre_finite_steps.Facts),
    quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdRefIdeal (hSsdRefIdeal := hSsdRefIdeal)
    ∧ quiescent_SsdRefIdeal_pre_finite_steps (hSsdRefIdeal := hSsdRefIdeal) (hPre_finite_steps := hPre_finite_steps)
    ∧ quiescent_FfnA (hFfnA := hFfnA)
    ∧ quiescent_FfnAIdeal (hFfnAIdeal := hFfnAIdeal)
    ∧ quiescent_FfnARefIdeal (hFfnARefIdeal := hFfnARefIdeal)
    ∧ quiescent_FfnZ (hFfnZ := hFfnZ)
    ∧ quiescent_FfnZIdeal (hFfnZIdeal := hFfnZIdeal)
    ∧ quiescent_FfnZRefIdeal (hFfnZRefIdeal := hFfnZRefIdeal)
    ∧ quiescent_FfnM (hFfnM := hFfnM)
    ∧ quiescent_FfnMIdeal (hFfnMIdeal := hFfnMIdeal)
    ∧ quiescent_FfnMRefIdeal (hFfnMRefIdeal := hFfnMRefIdeal)
    ∧ quiescent_FfnG (hFfnG := hFfnG)
    ∧ quiescent_FfnGIdeal (hFfnGIdeal := hFfnGIdeal)
    ∧ quiescent_FfnGRefIdeal (hFfnGRefIdeal := hFfnGRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_KvP (hKvP := hKvP)
    ∧ quiescent_KvPIdeal (hKvPIdeal := hKvPIdeal)
    ∧ quiescent_KvPRefIdeal (hKvPRefIdeal := hKvPRefIdeal)
    ∧ quiescent_KvS (hKvS := hKvS)
    ∧ quiescent_KvSIdeal (hKvSIdeal := hKvSIdeal)
    ∧ quiescent_KvSRefIdeal (hKvSRefIdeal := hKvSRefIdeal)
    ∧ quiescent_QProj (hQProj := hQProj)
    ∧ quiescent_QProjIdeal (hQProjIdeal := hQProjIdeal)
    ∧ quiescent_QProjRefIdeal (hQProjRefIdeal := hQProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_InS (hInS := hInS)
    ∧ quiescent_InSIdeal (hInSIdeal := hInSIdeal)
    ∧ quiescent_InSRefIdeal (hInSRefIdeal := hInSRefIdeal)
    ∧ preserves_Ssd_SsdIdeal
    ∧ algebraic_SsdIdeal_SsdRefIdeal_pre_finite_steps (hSsdIdeal := hSsdIdeal) (hSsdRefIdeal := hSsdRefIdeal) (hPre_finite_steps := hPre_finite_steps)
    ∧ preserves_FfnA_FfnAIdeal
    ∧ algebraic_FfnAIdeal_FfnARefIdeal (hFfnAIdeal := hFfnAIdeal) (hFfnARefIdeal := hFfnARefIdeal)
    ∧ preserves_FfnZ_FfnZIdeal
    ∧ algebraic_FfnZIdeal_FfnZRefIdeal (hFfnZIdeal := hFfnZIdeal) (hFfnZRefIdeal := hFfnZRefIdeal)
    ∧ preserves_FfnM_FfnMIdeal
    ∧ algebraic_FfnMIdeal_FfnMRefIdeal (hFfnMIdeal := hFfnMIdeal) (hFfnMRefIdeal := hFfnMRefIdeal)
    ∧ preserves_FfnG_FfnGIdeal
    ∧ algebraic_FfnGIdeal_FfnGRefIdeal (hFfnGIdeal := hFfnGIdeal) (hFfnGRefIdeal := hFfnGRefIdeal)
    ∧ preserves_FfnS_FfnSIdeal
    ∧ algebraic_FfnSIdeal_FfnSRefIdeal (hFfnSIdeal := hFfnSIdeal) (hFfnSRefIdeal := hFfnSRefIdeal)
    ∧ preserves_KvP_KvPIdeal
    ∧ algebraic_KvPIdeal_KvPRefIdeal (hKvPIdeal := hKvPIdeal) (hKvPRefIdeal := hKvPRefIdeal)
    ∧ preserves_KvS_KvSIdeal
    ∧ algebraic_KvSIdeal_KvSRefIdeal (hKvSIdeal := hKvSIdeal) (hKvSRefIdeal := hKvSRefIdeal)
    ∧ preserves_QProj_QProjIdeal
    ∧ algebraic_QProjIdeal_QProjRefIdeal (hQProjIdeal := hQProjIdeal) (hQProjRefIdeal := hQProjRefIdeal)
    ∧ preserves_InProj_InProjIdeal
    ∧ algebraic_InProjIdeal_InProjRefIdeal (hInProjIdeal := hInProjIdeal) (hInProjRefIdeal := hInProjRefIdeal)
    ∧ preserves_InS_InSIdeal
    ∧ algebraic_InSIdeal_InSRefIdeal (hInSIdeal := hInSIdeal) (hInSRefIdeal := hInSRefIdeal)
-- ==== Pre_finite_steps.lean ====
abbrev S4x4096x3072 : Shape := ⟨3, ![4, 4096, 3072]⟩
abbrev S4x4096x32 : Shape := ⟨3, ![4, 4096, 32]⟩
abbrev S32 : Shape := ⟨1, ![32]⟩
abbrev S_ : Shape := ⟨0, ![]⟩

class Facts : Prop where
  bcast_S_S4x4096x32 : S_.BroadcastsInDim S4x4096x32 (![] : Fin 0 → Fin S4x4096x32.rank)
  reducesTo_S4x4096x32_S_d0_1_2 : S4x4096x32.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_arg3 : FVec F S32 .f32) (main_v12 : IVec S_ 1) (main_v14 : IVec S32 1) (main_v15 : FVec F S32 .f32) : IVec S_ 1 :=
  let main_v16 : IVec S32 1 := cmpf .ogt main_arg3 main_v15
  let main_v17 : IVec S32 1 := andi main_v14 main_v16
  let main_c_6 : IVec S_ 1 := constantI S_ 1 1#1
  let main_v18 : IVec S_ 1 := (fun x v => Host.reduce IntOp.andi x v reducesTo_S32_S_d0 h_S_) main_v17 main_c_6
  let main_v19 : IVec S_ 1 := andi main_v12 main_v18
  main_v19

def fn {F : FTy → Type} [FloatOps F] (main_arg0 : FVec F S4x4096x3072 .f32) (main_arg1 : FVec F S4x4096x32 .f32) (main_arg2 : FVec F S32 .f32) (main_arg3 : FVec F S32 .f32) (main_arg4 : FVec F S32 .f32) : IVec S_ 1 :=
  let main_cst : FVec F S_ .f32 := constant S_ .f32 0x7F800000#32
  let main_v0 : FVec F S4x4096x32 .f32 := broadcastInDim S4x4096x32 ![] bcast_S_S4x4096x32 main_cst
  let main_v1 : IVec S4x4096x32 1 := cmpf .olt main_arg1 main_v0
  let main_cst_0 : FVec F S_ .f32 := constant S_ .f32 0xFF800000#32
  let main_v2 : FVec F S4x4096x32 .f32 := broadcastInDim S4x4096x32 ![] bcast_S_S4x4096x32 main_cst_0
  let main_v3 : IVec S4x4096x32 1 := cmpf .ogt main_arg1 main_v2
  let main_v4 : IVec S4x4096x32 1 := andi main_v1 main_v3
  let main_c : IVec S_ 1 := constantI S_ 1 1#1
  let main_v5 : IVec S_ 1 := (fun x v => Host.reduce IntOp.andi x v reducesTo_S4x4096x32_S_d0_1_2 h_S_) main_v4 main_c
  let main_cst_1 : FVec F S_ .f32 := constant S_ .f32 0x7F800000#32
  let main_v6 : FVec F S32 .f32 := broadcastInDim S32 ![] bcast_S_S32 main_cst_1
  let main_v7 : IVec S32 1 := cmpf .olt main_arg2 main_v6
  let main_cst_2 : FVec F S_ .f32 := constant S_ .f32 0xFF800000#32
  let main_v8 : FVec F S32 .f32 := broadcastInDim S32 ![] bcast_S_S32 main_cst_2
  let main_v9 : IVec S32 1 := cmpf .ogt main_arg2 main_v8
  let main_v10 : IVec S32 1 := andi main_v7 main_v9
  let main_c_3 : IVec S_ 1 := constantI S_ 1 1#1
  let main_v11 : IVec S_ 1 := (fun x v => Host.reduce IntOp.andi x v reducesTo_S32_S_d0 h_S_) main_v10 main_c_3
  let main_v12 : IVec S_ 1 := andi main_v5 main_v11
  let main_cst_4 : FVec F S_ .f32 := constant S_ .f32 0x7F800000#32
  let main_v13 : FVec F S32 .f32 := broadcastInDim S32 ![] bcast_S_S32 main_cst_4
  let main_v14 : IVec S32 1 := cmpf .olt main_arg3 main_v13
  let main_cst_5 : FVec F S_ .f32 := constant S_ .f32 0xFF800000#32
  let main_v15 : FVec F S32 .f32 := broadcastInDim S32 ![] bcast_S_S32 main_cst_5
  fn_part1 (F := F) main_arg3 main_v12 main_v14 main_v15
-- ==== Ssd.lean ====
abbrev S4x4096x3072 : Shape := ⟨3, ![4, 4096, 3072]⟩
abbrev S4x4096x32 : Shape := ⟨3, ![4, 4096, 32]⟩
abbrev S32 : Shape := ⟨1, ![32]⟩
abbrev S16384x4x8 : Shape := ⟨3, ![16384, 4, 8]⟩
abbrev S_ : Shape := ⟨0, ![]⟩
abbrev S16384x4x128 : Shape := ⟨3, ![16384, 4, 128]⟩
abbrev S16384x512 : Shape := ⟨2, ![16384, 512]⟩
abbrev S16384x3072 : Shape := ⟨2, ![16384, 3072]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S1x128x1x512 : Shape := ⟨4, ![1, 128, 1, 512]⟩
abbrev S2x128x1x512 : Shape := ⟨4, ![2, 128, 1, 512]⟩
abbrev S256x512 : Shape := ⟨2, ![256, 512]⟩
abbrev S32x64 : Shape := ⟨2, ![32, 64]⟩
abbrev S2048 : Shape := ⟨1, ![2048]⟩
abbrev S4x1x512 : Shape := ⟨3, ![4, 1, 512]⟩
abbrev S4x1x8 : Shape := ⟨3, ![4, 1, 8]⟩
abbrev S4x1x128 : Shape := ⟨3, ![4, 1, 128]⟩
abbrev S4x4096x2048 : Shape := ⟨3, ![4, 4096, 2048]⟩
abbrev S4x32x64x128 : Shape := ⟨4, ![4, 32, 64, 128]⟩
abbrev S1x128x2048 : Shape := ⟨3, ![1, 128, 2048]⟩
abbrev S1x128x512 : Shape := ⟨3, ![1, 128, 512]⟩
abbrev S1x32x64x128 : Shape := ⟨4, ![1, 32, 64, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S128x256 : Shape := ⟨2, ![128, 256]⟩
abbrev S1x8x64x128 : Shape := ⟨4, ![1, 8, 64, 128]⟩
abbrev S8x64x128 : Shape := ⟨3, ![8, 64, 128]⟩
abbrev S512x128 : Shape := ⟨2, ![512, 128]⟩
abbrev S1x1x512 : Shape := ⟨3, ![1, 1, 512]⟩
abbrev S1x1x64x128 : Shape := ⟨4, ![1, 1, 64, 128]⟩
abbrev S64x128 : Shape := ⟨2, ![64, 128]⟩
abbrev S1x1 : Shape := ⟨2, ![1, 1]⟩

abbrev nBuf : Space → Nat
  | .hbm => 55
  | .vmem => 16
  | .smem => 0
  | _ => 0

abbrev bufTy : (tb : Table) → Fin (tcTables nBuf tb) → BufTy
  | .hbm, ⟨0, _⟩ => ⟨S4x4096x3072, .f32⟩
  | .hbm, ⟨1, _⟩ => ⟨S4x4096x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S16384x4x8, .f32⟩
  | .hbm, ⟨6, _⟩ => ⟨S_, .i32⟩
  | .hbm, ⟨7, _⟩ => ⟨S_, .f32⟩
  | .hbm, ⟨8, _⟩ => ⟨S16384x4x128, .f32⟩
  | .hbm, ⟨9, _⟩ => ⟨S16384x512, .f32⟩
  | .hbm, ⟨10, _⟩ => ⟨S4x4096x3072, .bf16⟩
  | .hbm, ⟨11, _⟩ => ⟨S16384x3072, .bf16⟩
  | .hbm, ⟨12, _⟩ => ⟨S4x4096x3072, .bf16⟩
  | .hbm, ⟨13, _⟩ => ⟨S128, .i32⟩
  | .hbm, ⟨14, _⟩ => ⟨S128x1, .i32⟩
  | .hbm, ⟨15, _⟩ => ⟨S512, .i32⟩
  | .hbm, ⟨16, _⟩ => ⟨S1x512, .i32⟩
  | .hbm, ⟨17, _⟩ => ⟨S_, .i32⟩
  | .hbm, ⟨18, _⟩ => ⟨S_, .i32⟩
  | .hbm, ⟨19, _⟩ => ⟨S1x512, .i32⟩
  | .hbm, ⟨20, _⟩ => ⟨S1x512, .i32⟩
  | .hbm, ⟨21, _⟩ => ⟨S1x512, .i32⟩
  | .hbm, ⟨22, _⟩ => ⟨S_, .i32⟩
  | .hbm, ⟨23, _⟩ => ⟨S1x512, .i32⟩
  | .hbm, ⟨24, _⟩ => ⟨S1x512, .i1⟩
  | .hbm, ⟨25, _⟩ => ⟨S1x512, .i32⟩
  | .hbm, ⟨26, _⟩ => ⟨S1x512, .i32⟩
  | .hbm, ⟨27, _⟩ => ⟨S_, .i32⟩
  | .hbm, ⟨28, _⟩ => ⟨S1x512, .i32⟩
  | .hbm, ⟨29, _⟩ => ⟨S1x512, .i1⟩
  | .hbm, ⟨30, _⟩ => ⟨S1x512, .i1⟩
  | .hbm, ⟨31, _⟩ => ⟨S_, .i32⟩
  | .hbm, ⟨32, _⟩ => ⟨S1x512, .i32⟩
  | .hbm, ⟨33, _⟩ => ⟨S1x512, .i32⟩
  | .hbm, ⟨34, _⟩ => ⟨S1x512, .i32⟩
  | .hbm, ⟨35, _⟩ => ⟨S128x512, .i32⟩
  | .hbm, ⟨36, _⟩ => ⟨S128x512, .i32⟩
  | .hbm, ⟨37, _⟩ => ⟨S128x512, .i1⟩
  | .hbm, ⟨38, _⟩ => ⟨S128x512, .bf16⟩
  | .hbm, ⟨39, _⟩ => ⟨S1x128x1x512, .bf16⟩
  | .hbm, ⟨40, _⟩ => ⟨S2x128x1x512, .bf16⟩
  | .hbm, ⟨41, _⟩ => ⟨S256x512, .bf16⟩
  | .hbm, ⟨42, _⟩ => ⟨S32x64, .f32⟩
  | .hbm, ⟨43, _⟩ => ⟨S2048, .f32⟩
  | .hbm, ⟨44, _⟩ => ⟨S4x1x512, .f32⟩
  | .hbm, ⟨45, _⟩ => ⟨S4x1x8, .f32⟩
  | .hbm, ⟨46, _⟩ => ⟨S_, .i32⟩
  | .hbm, ⟨47, _⟩ => ⟨S_, .f32⟩
  | .hbm, ⟨48, _⟩ => ⟨S4x1x128, .f32⟩
  | .hbm, ⟨49, _⟩ => ⟨S4x1x8, .f32⟩
  | .hbm, ⟨50, _⟩ => ⟨S_, .i32⟩
  | .hbm, ⟨51, _⟩ => ⟨S_, .f32⟩
  | .hbm, ⟨52, _⟩ => ⟨S4x1x128, .f32⟩
  | .hbm, ⟨53, _⟩ => ⟨S4x4096x2048, .bf16⟩
  | .hbm, ⟨54, _⟩ => ⟨S4x32x64x128, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S128x512, .f32⟩
  | .local _ .vmem, ⟨7, _⟩ => ⟨S128x512, .f32⟩
  | .local _ .vmem, ⟨8, _⟩ => ⟨S4x1x128, .f32⟩
  | .local _ .vmem, ⟨9, _⟩ => ⟨S4x1x128, .f32⟩
  | .local _ .vmem, ⟨10, _⟩ => ⟨S4x1x512, .f32⟩
  | .local _ .vmem, ⟨11, _⟩ => ⟨S256x512, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x32x64x128, .f32⟩
  | .local _ .vmem, ⟨15, _⟩ => ⟨S1x32x64x128, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_1 : Ref sig .tc := ⟨.hbm, 46, rfl⟩
abbrev main_call2_v0 : Ref sig .tc := ⟨.hbm, 47, rfl⟩
abbrev main_v22 : Ref sig .tc := ⟨.hbm, 48, rfl⟩
abbrev main_v23 : Ref sig .tc := ⟨.hbm, 49, rfl⟩
abbrev main_c_2 : Ref sig .tc := ⟨.hbm, 50, rfl⟩
abbrev main_call3_v0 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x32x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== SsdRefIdeal.lean ====
abbrev S4x4096x3072 : Shape := ⟨3, ![4, 4096, 3072]⟩
abbrev S4x4096x32 : Shape := ⟨3, ![4, 4096, 32]⟩
abbrev S32 : Shape := ⟨1, ![32]⟩
abbrev S4x4096x2048 : Shape := ⟨3, ![4, 4096, 2048]⟩
abbrev S4x4096x4x8x64 : Shape := ⟨5, ![4, 4096, 4, 8, 64]⟩
abbrev S4x4096x512 : Shape := ⟨3, ![4, 4096, 512]⟩
abbrev S4x4096x4x128 : Shape := ⟨4, ![4, 4096, 4, 128]⟩
abbrev S1x1x32 : Shape := ⟨3, ![1, 1, 32]⟩
abbrev S_ : Shape := ⟨0, ![]⟩
abbrev S4x4096x4x8 : Shape := ⟨4, ![4, 4096, 4, 8]⟩
abbrev S4x8 : Shape := ⟨2, ![4, 8]⟩
abbrev S4x8x1 : Shape := ⟨3, ![4, 8, 1]⟩
abbrev S1x1x4x8x1 : Shape := ⟨5, ![1, 1, 4, 8, 1]⟩
abbrev S4x4x8x64x128 : Shape := ⟨5, ![4, 4, 8, 64, 128]⟩
abbrev S4x4096x4x8x1 : Shape := ⟨5, ![4, 4096, 4, 8, 1]⟩
abbrev S1x1x4x8 : Shape := ⟨4, ![1, 1, 4, 8]⟩
abbrev S128x128 : Shape := ⟨2, ![128, 128]⟩
abbrev S1x128x128x1x1 : Shape := ⟨5, ![1, 128, 128, 1, 1]⟩
abbrev S4x32x128x4x8x64 : Shape := ⟨6, ![4, 32, 128, 4, 8, 64]⟩
abbrev S32x4x128x4x8x64 : Shape := ⟨6, ![32, 4, 128, 4, 8, 64]⟩
abbrev S4x32x128x4x8 : Shape := ⟨5, ![4, 32, 128, 4, 8]⟩
abbrev S32x4x128x4x8 : Shape := ⟨5, ![32, 4, 128, 4, 8]⟩
abbrev S4x32x128x4x128 : Shape := ⟨5, ![4, 32, 128, 4, 128]⟩
abbrev S32x4x128x4x128 : Shape := ⟨5, ![32, 4, 128, 4, 128]⟩
abbrev S1x4x128x4x8x64 : Shape := ⟨6, ![1, 4, 128, 4, 8, 64]⟩
abbrev S4x128x4x8x64 : Shape := ⟨5, ![4, 128, 4, 8, 64]⟩
abbrev S1x4x128x4x8 : Shape := ⟨5, ![1, 4, 128, 4, 8]⟩
abbrev S4x128x4x8 : Shape := ⟨4, ![4, 128, 4, 8]⟩
abbrev S1x4x128x4x128 : Shape := ⟨5, ![1, 4, 128, 4, 128]⟩
abbrev S4x128x4x128 : Shape := ⟨4, ![4, 128, 4, 128]⟩
abbrev S4x128x1x4x8 : Shape := ⟨5, ![4, 128, 1, 4, 8]⟩
abbrev S4x1x128x4x8 : Shape := ⟨5, ![4, 1, 128, 4, 8]⟩
abbrev S4x128x128x4x8 : Shape := ⟨5, ![4, 128, 128, 4, 8]⟩
abbrev S4x4x128x128 : Shape := ⟨4, ![4, 4, 128, 128]⟩
abbrev S4x128x128x4 : Shape := ⟨4, ![4, 128, 128, 4]⟩
abbrev S4x128x128x4x1 : Shape := ⟨5, ![4, 128, 128, 4, 1]⟩
abbrev S4x1x4x8 : Shape := ⟨4, ![4, 1, 4, 8]⟩
abbrev S4x128x4x8x1 : Shape := ⟨5, ![4, 128, 4, 8, 1]⟩
abbrev S4x4x8 : Shape := ⟨3, ![4, 4, 8]⟩
abbrev S4x4x8x1x1 : Shape := ⟨5, ![4, 4, 8, 1, 1]⟩
abbrev S4x32x64x128 : Shape := ⟨4, ![4, 32, 64, 128]⟩

abbrev nBuf : Space → Nat
  | .hbm => 171
  | .vmem => 0
  | .smem => 0
  | _ => 0

abbrev hbmTy0_0 (i : Nat) : BufTy := match i % 128 with
  | 0 => ⟨S4x4096x3072, .f32⟩
  | 1 => ⟨S4x4096x32, .f32⟩
  | 2 => ⟨S32, .f32⟩
  | 3 => ⟨S32, .f32⟩
  | 4 => ⟨S32, .f32⟩
  | 5 => ⟨S4x4096x2048, .f32⟩
  | 6 => ⟨S4x4096x4x8x64, .f32⟩
  | 7 => ⟨S4x4096x512, .f32⟩
  | 8 => ⟨S4x4096x4x128, .f32⟩
  | 9 => ⟨S4x4096x512, .f32⟩
  | 10 => ⟨S4x4096x4x128, .f32⟩
  | 11 => ⟨S1x1x32, .f32⟩
  | 12 => ⟨S4x4096x32, .f32⟩
  | 13 => ⟨S4x4096x32, .f32⟩
  | 14 => ⟨S_, .f32⟩
  | 15 => ⟨S4x4096x32, .f32⟩
  | 16 => ⟨S4x4096x32, .f32⟩
  | 17 => ⟨S4x4096x32, .f32⟩
  | 18 => ⟨S4x4096x32, .f32⟩
  | 19 => ⟨S4x4096x32, .i1⟩
  | 20 => ⟨S4x4096x32, .f32⟩
  | 21 => ⟨S4x4096x32, .f32⟩
  | 22 => ⟨S4x4096x32, .f32⟩
  | 23 => ⟨S4x4096x32, .f32⟩
  | 24 => ⟨S4x4096x32, .f32⟩
  | 25 => ⟨S4x4096x32, .f32⟩
  | 26 => ⟨S4x4096x32, .f32⟩
  | 27 => ⟨S4x4096x32, .f32⟩
  | 28 => ⟨S4x4096x4x8, .f32⟩
  | 29 => ⟨S32, .f32⟩
  | 30 => ⟨S4x8, .f32⟩
  | 31 => ⟨S4x8, .f32⟩
  | 32 => ⟨S4x8, .f32⟩
  | 33 => ⟨S4x8x1, .f32⟩
  | 34 => ⟨S1x1x4x8x1, .f32⟩
  | 35 => ⟨S4x4096x4x8x64, .f32⟩
  | 36 => ⟨S4x4096x4x8x64, .f32⟩
  | 37 => ⟨S_, .f32⟩
  | 38 => ⟨S4x4x8x64x128, .f32⟩
  | 39 => ⟨S4x4096x4x8x1, .f32⟩
  | 40 => ⟨S4x4096x4x8x64, .f32⟩
  | 41 => ⟨S4x4096x4x8x64, .f32⟩
  | 42 => ⟨S1x1x4x8, .f32⟩
  | 43 => ⟨S4x4096x4x8, .f32⟩
  | 44 => ⟨S4x4096x4x8, .f32⟩
  | 45 => ⟨S_, .i1⟩
  | 46 => ⟨S128x128, .i1⟩
  | 47 => ⟨S128x128, .i32⟩
  | 48 => ⟨S_, .i32⟩
  | 49 => ⟨S128x128, .i32⟩
  | 50 => ⟨S128x128, .i32⟩
  | 51 => ⟨S128x128, .i32⟩
  | 52 => ⟨S128x128, .i1⟩
  | 53 => ⟨S_, .i1⟩
  | 54 => ⟨S128x128, .i1⟩
  | 55 => ⟨S128x128, .i1⟩
  | 56 => ⟨S1x128x128x1x1, .i1⟩
  | 57 => ⟨S4x32x128x4x8x64, .f32⟩
  | 58 => ⟨S32x4x128x4x8x64, .f32⟩
  | 59 => ⟨S4x32x128x4x8, .f32⟩
  | 60 => ⟨S32x4x128x4x8, .f32⟩
  | 61 => ⟨S4x32x128x4x128, .f32⟩
  | 62 => ⟨S32x4x128x4x128, .f32⟩
  | 63 => ⟨S4x32x128x4x128, .f32⟩
  | 64 => ⟨S32x4x128x4x128, .f32⟩
  | 65 => ⟨S4x32x128x4x8x64, .f32⟩
  | 66 => ⟨S32x4x128x4x8x64, .f32⟩
  | 67 => ⟨S_, .f32⟩
  | 68 => ⟨S32x4x128x4x8x64, .f32⟩
  | 69 => ⟨S_, .i32⟩
  | 70 => ⟨S32x4x128x4x8x64, .f32⟩
  | 71 => ⟨S32x4x128x4x8, .f32⟩
  | 72 => ⟨S32x4x128x4x128, .f32⟩
  | 73 => ⟨S32x4x128x4x128, .f32⟩
  | 74 => ⟨S32x4x128x4x8x64, .f32⟩
  | 75 => ⟨S1x128x128x1x1, .i1⟩
  | 76 => ⟨S_, .i32⟩
  | 77 => ⟨S4x4x8x64x128, .f32⟩
  | 78 => ⟨S32x4x128x4x8x64, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S1x4x128x4x8x64, .f32⟩
  | 87 => ⟨S4x128x4x8x64, .f32⟩
  | 88 => ⟨S_, .i32⟩
  | 89 => ⟨S_, .i32⟩
  | 90 => ⟨S_, .i32⟩
  | 91 => ⟨S_, .i32⟩
  | 92 => ⟨S1x4x128x4x8, .f32⟩
  | 93 => ⟨S4x128x4x8, .f32⟩
  | 94 => ⟨S_, .i32⟩
  | 95 => ⟨S_, .i32⟩
  | 96 => ⟨S_, .i32⟩
  | 97 => ⟨S_, .i32⟩
  | 98 => ⟨S1x4x128x4x128, .f32⟩
  | 99 => ⟨S4x128x4x128, .f32⟩
  | 100 => ⟨S_, .i32⟩
  | 101 => ⟨S_, .i32⟩
  | 102 => ⟨S_, .i32⟩
  | 103 => ⟨S_, .i32⟩
  | 104 => ⟨S1x4x128x4x128, .f32⟩
  | 105 => ⟨S4x128x4x128, .f32⟩
  | 106 => ⟨S_, .i32⟩
  | 107 => ⟨S_, .i32⟩
  | 108 => ⟨S_, .i32⟩
  | 109 => ⟨S_, .i32⟩
  | 110 => ⟨S_, .i32⟩
  | 111 => ⟨S1x4x128x4x8x64, .f32⟩
  | 112 => ⟨S4x128x4x8x64, .f32⟩
  | 113 => ⟨S_, .f32⟩
  | 114 => ⟨S_, .f32⟩
  | 115 => ⟨S4x128x4x8, .f32⟩
  | 116 => ⟨S4x128x1x4x8, .f32⟩
  | 117 => ⟨S4x1x128x4x8, .f32⟩
  | 118 => ⟨S4x128x128x4x8, .f32⟩
  | 119 => ⟨S4x128x128x4x8, .f32⟩
  | 120 => ⟨S4x128x128x4x8, .f32⟩
  | 121 => ⟨S_, .f32⟩
  | 122 => ⟨S_, .f32⟩
  | 123 => ⟨S4x128x128x4x8, .i1⟩
  | 124 => ⟨S4x128x128x4x8, .f32⟩
  | 125 => ⟨S4x128x128x4x8, .f32⟩
  | 126 => ⟨S4x128x128x4x8, .f32⟩
  | 127 => ⟨S4x4x128x128, .f32⟩
  | _ => ⟨S4x4096x3072, .f32⟩

abbrev hbmTy0_1 (i : Nat) : BufTy := match i % 128 with
  | 0 => ⟨S4x128x128x4, .f32⟩
  | 1 => ⟨S4x128x128x4x1, .f32⟩
  | 2 => ⟨S4x128x128x4x8, .f32⟩
  | 3 => ⟨S4x128x128x4x8, .f32⟩
  | 4 => ⟨S4x4x8x64x128, .f32⟩
  | 5 => ⟨S4x128x4x8x64, .f32⟩
  | 6 => ⟨S4x1x4x8, .f32⟩
  | 7 => ⟨S4x128x4x8, .f32⟩
  | 8 => ⟨S4x128x4x8, .f32⟩
  | 9 => ⟨S4x128x4x8, .f32⟩
  | 10 => ⟨S4x128x4x8x1, .f32⟩
  | 11 => ⟨S4x128x4x8x64, .f32⟩
  | 12 => ⟨S4x128x4x8x64, .f32⟩
  | 13 => ⟨S4x4x8x64x128, .f32⟩
  | 14 => ⟨S4x1x4x8, .f32⟩
  | 15 => ⟨S4x4x8, .f32⟩
  | 16 => ⟨S4x4x8, .f32⟩
  | 17 => ⟨S4x4x8x64x128, .f32⟩
  | 18 => ⟨S4x128x4x8x64, .f32⟩
  | 19 => ⟨S4x128x4x8, .f32⟩
  | 20 => ⟨S4x128x4x8x1, .f32⟩
  | 21 => ⟨S4x128x4x8x64, .f32⟩
  | 22 => ⟨S4x128x4x8x64, .f32⟩
  | 23 => ⟨S4x4x8x1x1, .f32⟩
  | 24 => ⟨S4x4x8x64x128, .f32⟩
  | 25 => ⟨S4x4x8x64x128, .f32⟩
  | 26 => ⟨S4x4x8x64x128, .f32⟩
  | 27 => ⟨S4x128x4x8x64, .f32⟩
  | 28 => ⟨S4x128x4x8x64, .f32⟩
  | 29 => ⟨S1x4x128x4x8x64, .f32⟩
  | 30 => ⟨S_, .i32⟩
  | 31 => ⟨S_, .i32⟩
  | 32 => ⟨S_, .i32⟩
  | 33 => ⟨S_, .i32⟩
  | 34 => ⟨S_, .i32⟩
  | 35 => ⟨S32x4x128x4x8x64, .f32⟩
  | 36 => ⟨S_, .i32⟩
  | 37 => ⟨S_, .i32⟩
  | 38 => ⟨S4x32x128x4x8x64, .f32⟩
  | 39 => ⟨S4x4096x4x8x64, .f32⟩
  | 40 => ⟨S4x4096x2048, .f32⟩
  | 41 => ⟨S4x4096x2048, .bf16⟩
  | 42 => ⟨S4x32x64x128, .f32⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_0 : Ref sig .tc := ⟨.hbm, 67, rfl⟩
abbrev main_v39 : Ref sig .tc := ⟨.hbm, 68, rfl⟩
abbrev main_c_1 : Ref sig .tc := ⟨.hbm, 69, rfl⟩
abbrev main_v40_0 : Ref sig .tc := ⟨.hbm, 70, rfl⟩
abbrev main_v40_1 : Ref sig .tc := ⟨.hbm, 71, rfl⟩
abbrev main_v40_2 : Ref sig .tc := ⟨.hbm, 72, rfl⟩
abbrev main_v40_3 : Ref sig .tc := ⟨.hbm, 73, rfl⟩
abbrev main_v40_4 : Ref sig .tc := ⟨.hbm, 74, rfl⟩
abbrev main_v40_5 : Ref sig .tc := ⟨.hbm, 75, rfl⟩
abbrev main_v40_6 : Ref sig .tc := ⟨.hbm, 76, rfl⟩
abbrev main_v40_7 : Ref sig .tc := ⟨.hbm, 77, rfl⟩
abbrev main_v40_8 : Ref sig .tc := ⟨.hbm, 78, rfl⟩
abbrev main_while0c_c_10 : Ref sig .tc := ⟨.hbm, 79, rfl⟩
abbrev main_while0c_v46 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_c_2 : Ref sig .tc := ⟨.hbm, 84, rfl⟩
abbrev main_while0b_call2_c_3 : Ref sig .tc := ⟨.hbm, 85, rfl⟩
abbrev main_while0b_call2_v0 : Ref sig .tc := ⟨.hbm, 86, rfl⟩
abbrev main_while0b_v46 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_c_2 : Ref sig .tc := ⟨.hbm, 91, rfl⟩
abbrev main_while0b_call3_v0 : Ref sig .tc := ⟨.hbm, 92, rfl⟩
abbrev main_while0b_v47 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_c_2 : Ref sig .tc := ⟨.hbm, 97, rfl⟩
abbrev main_while0b_call4_v0 : Ref sig .tc := ⟨.hbm, 98, rfl⟩
abbrev main_while0b_v48 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_c_2 : Ref sig .tc := ⟨.hbm, 103, rfl⟩
abbrev main_while0b_call5_v0 : Ref sig .tc := ⟨.hbm, 104, rfl⟩
abbrev main_while0b_v49 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_call6_c_3 : Ref sig .tc := ⟨.hbm, 110, rfl⟩
abbrev main_while0b_call6_v0 : Ref sig .tc := ⟨.hbm, 111, rfl⟩
abbrev main_while0b_v50 : Ref sig .tc := ⟨.hbm, 112, rfl⟩
abbrev main_while0b_call7_call0_cst : Ref sig .tc := ⟨.hbm, 113, rfl⟩
abbrev main_while0b_call7_call0_v0 : Ref sig .tc := ⟨.hbm, 114, rfl⟩
abbrev main_while0b_v51 : Ref sig .tc := ⟨.hbm, 115, rfl⟩
abbrev main_while0b_v52 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_cst_10 : Ref sig .tc := ⟨.hbm, 121, rfl⟩
abbrev main_while0b_call8_v0 : Ref sig .tc := ⟨.hbm, 122, rfl⟩
abbrev main_while0b_call8_v1 : Ref sig .tc := ⟨.hbm, 123, rfl⟩
abbrev main_while0b_call8_v2 : Ref sig .tc := ⟨.hbm, 124, rfl⟩
abbrev main_while0b_v57 : Ref sig .tc := ⟨.hbm, 125, rfl⟩
abbrev main_while0b_v58 : Ref sig .tc := ⟨.hbm, 126, rfl⟩
abbrev main_while0b_v59 : Ref sig .tc := ⟨.hbm, 127, rfl⟩
abbrev main_while0b_v60 : Ref sig .tc := ⟨.hbm, 128, rfl⟩
abbrev main_while0b_v61 : Ref sig .tc := ⟨.hbm, 129, rfl⟩
abbrev main_while0b_v62 : Ref sig .tc := ⟨.hbm, 130, rfl⟩
abbrev main_while0b_v63 : Ref sig .tc := ⟨.hbm, 131, rfl⟩
abbrev main_while0b_v64 : Ref sig .tc := ⟨.hbm, 132, rfl⟩
abbrev main_while0b_v65 : Ref sig .tc := ⟨.hbm, 133, rfl⟩
abbrev main_while0b_v66 : Ref sig .tc := ⟨.hbm, 134, rfl⟩
abbrev main_while0b_v67 : Ref sig .tc := ⟨.hbm, 135, rfl⟩
abbrev main_while0b_v68 : Ref sig .tc := ⟨.hbm, 136, rfl⟩
abbrev main_while0b_v69 : Ref sig .tc := ⟨.hbm, 137, rfl⟩
abbrev main_while0b_v70 : Ref sig .tc := ⟨.hbm, 138, rfl⟩
abbrev main_while0b_v71 : Ref sig .tc := ⟨.hbm, 139, rfl⟩
abbrev main_while0b_v72 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_v76 : Ref sig .tc := ⟨.hbm, 144, rfl⟩
abbrev main_while0b_v77 : Ref sig .tc := ⟨.hbm, 145, rfl⟩
abbrev main_while0b_v78 : Ref sig .tc := ⟨.hbm, 146, rfl⟩
abbrev main_while0b_v79 : Ref sig .tc := ⟨.hbm, 147, rfl⟩
abbrev main_while0b_v80 : Ref sig .tc := ⟨.hbm, 148, rfl⟩
abbrev main_while0b_v81 : Ref sig .tc := ⟨.hbm, 149, rfl⟩
abbrev main_while0b_v82 : Ref sig .tc := ⟨.hbm, 150, rfl⟩
abbrev main_while0b_v83 : Ref sig .tc := ⟨.hbm, 151, rfl⟩
abbrev main_while0b_v84 : Ref sig .tc := ⟨.hbm, 152, rfl⟩
abbrev main_while0b_v85 : Ref sig .tc := ⟨.hbm, 153, rfl⟩
abbrev main_while0b_v86 : Ref sig .tc := ⟨.hbm, 154, rfl⟩
abbrev main_while0b_v87 : Ref sig .tc := ⟨.hbm, 155, rfl⟩
abbrev main_while0b_v88 : Ref sig .tc := ⟨.hbm, 156, rfl⟩
abbrev main_while0b_call9_v0 : Ref sig .tc := ⟨.hbm, 157, rfl⟩
abbrev main_while0b_call9_c : Ref sig .tc := ⟨.hbm, 158, rfl⟩
abbrev main_while0b_call9_c_0 : Ref sig .tc := ⟨.hbm, 159, rfl⟩
abbrev main_while0b_call9_c_1 : Ref sig .tc := ⟨.hbm, 160, rfl⟩
abbrev main_while0b_call9_c_2 : Ref sig .tc := ⟨.hbm, 161, rfl⟩
abbrev main_while0b_call9_c_3 : Ref sig .tc := ⟨.hbm, 162, rfl⟩
abbrev main_while0b_v89 : Ref sig .tc := ⟨.hbm, 163, rfl⟩
abbrev main_while0b_c_11 : Ref sig .tc := ⟨.hbm, 164, rfl⟩
abbrev main_while0b_v90 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_v45 : Ref sig .tc := ⟨.hbm, 170, rfl⟩

abbrev nD : Nat := 1
abbrev τ : Topo := Topo.v7x

variable {F : FTy → Type} [FloatOps F]

abbrev main_while0_count : Scf.Loop 32 := ⟨0#32, 32#32, 1#32⟩
-- ==== FfnA.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S2816x512 : Shape := ⟨2, ![2816, 512]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩
abbrev S512x512 : Shape := ⟨2, ![512, 512]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S2816x512, .bf16⟩
  | .hbm, ⟨9, _⟩ => ⟨S2816x512, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x512, .bf16⟩
  | .local _ .vmem, ⟨6, _⟩ => ⟨S2816x512, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnARefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== FfnZ.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1024x2816 : Shape := ⟨2, ![1024, 2816]⟩
abbrev S2816x512 : Shape := ⟨2, ![2816, 512]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩
abbrev S512x512 : Shape := ⟨2, ![512, 512]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S1024x5632, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S2816x512, .bf16⟩
  | .hbm, ⟨12, _⟩ => ⟨S2816x512, .bf16⟩
  | .hbm, ⟨13, _⟩ => ⟨S16384x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x512, .bf16⟩
  | .local _ .vmem, ⟨6, _⟩ => ⟨S2816x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnZRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== FfnM.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1024x2816 : Shape := ⟨2, ![1024, 2816]⟩
abbrev S2816x512 : Shape := ⟨2, ![2816, 512]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩
abbrev S512x512 : Shape := ⟨2, ![512, 512]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x1024, .f32⟩
  | .hbm, ⟨6, _⟩ => ⟨S1024x5632, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S2816x512, .bf16⟩
  | .hbm, ⟨11, _⟩ => ⟨S2816x512, .bf16⟩
  | .hbm, ⟨12, _⟩ => ⟨S16384x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x512, .bf16⟩
  | .local _ .vmem, ⟨6, _⟩ => ⟨S2816x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnMRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== FfnG.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S16384x2048 : Shape := ⟨2, ![16384, 2048]⟩
abbrev S2048x1024 : Shape := ⟨2, ![2048, 1024]⟩
abbrev S2048 : Shape := ⟨1, ![2048]⟩
abbrev S1024x2816 : Shape := ⟨2, ![1024, 2816]⟩
abbrev S2816x512 : Shape := ⟨2, ![2816, 512]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩
abbrev S512x512 : Shape := ⟨2, ![512, 512]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x2048, .f32⟩
  | .hbm, ⟨5, _⟩ => ⟨S2048x1024, .f32⟩
  | .hbm, ⟨6, _⟩ => ⟨S16384x2048, .f32⟩
  | .hbm, ⟨7, _⟩ => ⟨S2048, .f32⟩
  | .hbm, ⟨8, _⟩ => ⟨S1024x5632, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S2816x512, .bf16⟩
  | .hbm, ⟨13, _⟩ => ⟨S2816x512, .bf16⟩
  | .hbm, ⟨14, _⟩ => ⟨S16384x2048, .bf16⟩
  | .hbm, ⟨15, _⟩ => ⟨S2048x1024, .bf16⟩
  | .hbm, ⟨16, _⟩ => ⟨S16384x2048, .bf16⟩
  | .hbm, ⟨17, _⟩ => ⟨S1x1024, .f32⟩
  | .hbm, ⟨18, _⟩ => ⟨S1x2048, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x512, .bf16⟩
  | .local _ .vmem, ⟨6, _⟩ => ⟨S2816x512, .bf16⟩
  | .local _ .vmem, ⟨7, _⟩ => ⟨S512x2048, .bf16⟩
  | .local _ .vmem, ⟨8, _⟩ => ⟨S512x2048, .bf16⟩
  | .local _ .vmem, ⟨9, _⟩ => ⟨S2048x1024, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnGRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S16384x2048 : Shape := ⟨2, ![16384, 2048]⟩
abbrev S2048x1024 : Shape := ⟨2, ![2048, 1024]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x2048, .f32⟩
  | .hbm, ⟨5, _⟩ => ⟨S2048x1024, .f32⟩
  | .hbm, ⟨6, _⟩ => ⟨S16384x2048, .f32⟩
  | .hbm, ⟨7, _⟩ => ⟨S2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x5632, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S_, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩

abbrev nD : Nat := 1
abbrev τ : Topo := Topo.v7x

variable {F : FTy → Type} [FloatOps F]
-- ==== FfnS.lean ====
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1024x2816 : Shape := ⟨2, ![1024, 2816]⟩
abbrev S2816x512 : Shape := ⟨2, ![2816, 512]⟩
abbrev S1x1024 : Shape := ⟨2, ![1, 1024]⟩
abbrev S32 : Shape := ⟨1, ![32]⟩
abbrev S32x1 : Shape := ⟨2, ![32, 1]⟩
abbrev S1024x256 : Shape := ⟨2, ![1024, 256]⟩
abbrev S32x256 : Shape := ⟨2, ![32, 256]⟩
abbrev S256x512 : Shape := ⟨2, ![256, 512]⟩
abbrev S32x512 : Shape := ⟨2, ![32, 512]⟩

abbrev nBuf : Space → Nat
  | .hbm => 17
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32x1024, .f32⟩
  | .hbm, ⟨5, _⟩ => ⟨S1024x1024, .f32⟩
  | .hbm, ⟨6, _⟩ => ⟨S1024, .f32⟩
  | .hbm, ⟨7, _⟩ => ⟨S1024x5632, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S2816x512, .bf16⟩
  | .hbm, ⟨12, _⟩ => ⟨S2816x512, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S32x1024, .f32⟩
  | .local _ .vmem, ⟨7, _⟩ => ⟨S1024x1024, .bf16⟩
  | .local _ .vmem, ⟨8, _⟩ => ⟨S1x1024, .f32⟩
  | .local _ .vmem, ⟨9, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnSRefIdeal.lean ====
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5632 : Shape := ⟨2, ![32, 5632]⟩
abbrev S32x2816 : Shape := ⟨2, ![32, 2816]⟩

abbrev nBuf : Space → Nat
  | .hbm => 59
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32x1024, .f32⟩
  | .hbm, ⟨5, _⟩ => ⟨S1024x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S32x1024, .f32⟩
  | .hbm, ⟨21, _⟩ => ⟨S32x1024, .f32⟩
  | .hbm, ⟨22, _⟩ => ⟨S1x1024, .f32⟩
  | .hbm, ⟨23, _⟩ => ⟨S32x1024, .f32⟩
  | .hbm, ⟨24, _⟩ => ⟨S32x1024, .f32⟩
  | .hbm, ⟨25, _⟩ => ⟨S32x5632, .f32⟩
  | .hbm, ⟨26, _⟩ => ⟨S32x2816, .f32⟩
  | .hbm, ⟨27, _⟩ => ⟨S32x2816, .f32⟩
  | .hbm, ⟨28, _⟩ => ⟨S32x2816, .f32⟩
  | .hbm, ⟨29, _⟩ => ⟨S32x2816, .f32⟩
  | .hbm, ⟨30, _⟩ => ⟨S_, .f32⟩
  | .hbm, ⟨31, _⟩ => ⟨S32x2816, .f32⟩
  | .hbm, ⟨32, _⟩ => ⟨S32x2816, .f32⟩
  | .hbm, ⟨33, _⟩ => ⟨S_, .f32⟩
  | .hbm, ⟨34, _⟩ => ⟨S32x2816, .f32⟩
  | .hbm, ⟨35, _⟩ => ⟨S32x2816, .f32⟩
  | .hbm, ⟨36, _⟩ => ⟨S32x2816, .f32⟩
  | .hbm, ⟨37, _⟩ => ⟨S32x2816, .f32⟩
  | .hbm, ⟨38, _⟩ => ⟨S32x1024, .f32⟩
  | .hbm, ⟨39, _⟩ => ⟨S_, .f32⟩
  | .hbm, ⟨40, _⟩ => ⟨S32x1024, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S_, .f32⟩
  | .hbm, ⟨51, _⟩ => ⟨S32x1, .f32⟩
  | .hbm, ⟨52, _⟩ => ⟨S32x1, .f32⟩
  | .hbm, ⟨53, _⟩ => ⟨S32x1, .f32⟩
  | .hbm, ⟨54, _⟩ => ⟨S32x1024, .f32⟩
  | .hbm, ⟨55, _⟩ => ⟨S32x1024, .f32⟩
  | .hbm, ⟨56, _⟩ => ⟨S1x1024, .f32⟩
  | .hbm, ⟨57, _⟩ => ⟨S32x1024, .f32⟩
  | .hbm, ⟨58, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== KvP.lean ====
abbrev S4x4096x1024 : Shape := ⟨3, ![4, 4096, 1024]⟩
abbrev S1024 : Shape := ⟨1, ![1024]⟩
abbrev S1024x2048 : Shape := ⟨2, ![1024, 2048]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x112 : Shape := ⟨2, ![4096, 112]⟩
abbrev S4096x128 : Shape := ⟨2, ![4096, 128]⟩
abbrev S16384x1024 : Shape := ⟨2, ![16384, 1024]⟩
abbrev S1x1024 : Shape := ⟨2, ![1, 1024]⟩
abbrev S64x1x1024 : Shape := ⟨3, ![64, 1, 1024]⟩
abbrev S64x1024x256 : Shape := ⟨3, ![64, 1024, 256]⟩
abbrev S256x1024 : Shape := ⟨2, ![256, 1024]⟩
abbrev S256x128 : Shape := ⟨2, ![256, 128]⟩
abbrev S1x1x1024 : Shape := ⟨3, ![1, 1, 1024]⟩
abbrev S1x1024x256 : Shape := ⟨3, ![1, 1024, 256]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩

abbrev nBuf : Space → Nat
  | .hbm => 42
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S4096, .i32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4096, .f32⟩
  | .hbm, ⟨15, _⟩ => ⟨S4096x1, .f32⟩
  | .hbm, ⟨16, _⟩ => ⟨S1x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x96, .f32⟩
  | .hbm, ⟨24, _⟩ => ⟨S_, .f32⟩
  | .hbm, ⟨25, _⟩ => ⟨S4096x112, .f32⟩
  | .hbm, ⟨26, _⟩ => ⟨S4096x128, .f32⟩
  | .hbm, ⟨27, _⟩ => ⟨S4096x16, .f32⟩
  | .hbm, ⟨28, _⟩ => ⟨S4096x128, .f32⟩
  | .hbm, ⟨29, _⟩ => ⟨S_, .f32⟩
  | .hbm, ⟨30, _⟩ => ⟨S4096x16, .f32⟩
  | .hbm, ⟨31, _⟩ => ⟨S_, .f32⟩
  | .hbm, ⟨32, _⟩ => ⟨S4096x96, .f32⟩
  | .hbm, ⟨33, _⟩ => ⟨S4096x128, .f32⟩
  | .hbm, ⟨34, _⟩ => ⟨S16384x1024, .f32⟩
  | .hbm, ⟨35, _⟩ => ⟨S1024x2048, .bf16⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S64x1x1024, .f32⟩
  | .hbm, ⟨40, _⟩ => ⟨S16384x1024, .bf16⟩
  | .hbm, ⟨41, _⟩ => ⟨S64x1024x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024x256, .bf16⟩
  | .local _ .vmem, ⟨19, _⟩ => ⟨S1x1024x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvPRefIdeal.lean ====
abbrev S4x4096x1024 : Shape := ⟨3, ![4, 4096, 1024]⟩
abbrev S1024 : Shape := ⟨1, ![1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x2x8x128 : Shape := ⟨5, ![4, 4096, 2, 8, 128]⟩
abbrev S4x4096x1x8x128 : Shape := ⟨5, ![4, 4096, 1, 8, 128]⟩
abbrev S4x4096x8x128 : Shape := ⟨4, ![4, 4096, 8, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x32 : Shape := ⟨4, ![4, 4096, 8, 32]⟩
abbrev S4x4096x8x16 : Shape := ⟨4, ![4, 4096, 8, 16]⟩
abbrev S4x4096x8x96 : Shape := ⟨4, ![4, 4096, 8, 96]⟩
abbrev S4x16x256x8x128 : Shape := ⟨5, ![4, 16, 256, 8, 128]⟩
abbrev S4x16x8x128 : Shape := ⟨4, ![4, 16, 8, 128]⟩
abbrev S16384x1024 : Shape := ⟨2, ![16384, 1024]⟩
abbrev S64x1x1024 : Shape := ⟨3, ![64, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x2048, .f32⟩
  | .hbm, ⟨20, _⟩ => ⟨S4x4096x2x8x128, .f32⟩
  | .hbm, ⟨21, _⟩ => ⟨S4x4096x1x8x128, .f32⟩
  | .hbm, ⟨22, _⟩ => ⟨S4x4096x8x128, .f32⟩
  | .hbm, ⟨23, _⟩ => ⟨S4096, .i32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S4096, .f32⟩
  | .hbm, ⟨35, _⟩ => ⟨S4096x1, .f32⟩
  | .hbm, ⟨36, _⟩ => ⟨S1x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S1x4096x1x16, .f32⟩
  | .hbm, ⟨42, _⟩ => ⟨S4096x16, .f32⟩
  | .hbm, ⟨43, _⟩ => ⟨S1x4096x1x16, .f32⟩
  | .hbm, ⟨44, _⟩ => ⟨S4x4096x8x32, .f32⟩
  | .hbm, ⟨45, _⟩ => ⟨S4x4096x8x16, .f32⟩
  | .hbm, ⟨46, _⟩ => ⟨S4x4096x8x16, .f32⟩
  | .hbm, ⟨47, _⟩ => ⟨S4x4096x8x16, .f32⟩
  | .hbm, ⟨48, _⟩ => ⟨S4x4096x8x16, .f32⟩
  | .hbm, ⟨49, _⟩ => ⟨S4x4096x8x16, .f32⟩
  | .hbm, ⟨50, _⟩ => ⟨S4x4096x8x16, .f32⟩
  | .hbm, ⟨51, _⟩ => ⟨S4x4096x8x16, .f32⟩
  | .hbm, ⟨52, _⟩ => ⟨S4x4096x8x16, .f32⟩
  | .hbm, ⟨53, _⟩ => ⟨S4x4096x8x16, .f32⟩
  | .hbm, ⟨54, _⟩ => ⟨S4x4096x8x16, .f32⟩
  | .hbm, ⟨55, _⟩ => ⟨S4x4096x8x16, .f32⟩
  | .hbm, ⟨56, _⟩ => ⟨S4x4096x8x16, .f32⟩
  | .hbm, ⟨57, _⟩ => ⟨S4x4096x8x32, .f32⟩
  | .hbm, ⟨58, _⟩ => ⟨S4x4096x8x96, .f32⟩
  | .hbm, ⟨59, _⟩ => ⟨S4x4096x8x128, .f32⟩
  | .hbm, ⟨60, _⟩ => ⟨S4x4096x1x8x128, .f32⟩
  | .hbm, ⟨61, _⟩ => ⟨S4x4096x8x128, .f32⟩
  | .hbm, ⟨62, _⟩ => ⟨S4x16x256x8x128, .f32⟩
  | .hbm, ⟨63, _⟩ => ⟨S_, .f32⟩
  | .hbm, ⟨64, _⟩ => ⟨S4x16x8x128, .f32⟩
  | .hbm, ⟨65, _⟩ => ⟨S_, .f32⟩
  | .hbm, ⟨66, _⟩ => ⟨S4x16x8x128, .f32⟩
  | .hbm, ⟨67, _⟩ => ⟨S4x16x8x128, .f32⟩
  | .hbm, ⟨68, _⟩ => ⟨S16384x1024, .f32⟩
  | .hbm, ⟨69, _⟩ => ⟨S16384x1024, .f32⟩
  | .hbm, ⟨70, _⟩ => ⟨S64x1x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== KvS.lean ====
abbrev S32x1x1024 : Shape := ⟨3, ![32, 1, 1024]⟩
abbrev S1024 : Shape := ⟨1, ![1024]⟩
abbrev S1024x2048 : Shape := ⟨2, ![1024, 2048]⟩
abbrev S_ : Shape := ⟨0, ![]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x112 : Shape := ⟨2, ![32, 112]⟩
abbrev S32x128 : Shape := ⟨2, ![32, 128]⟩
abbrev S32x1024 : Shape := ⟨2, ![32, 1024]⟩
abbrev S1x1024 : Shape := ⟨2, ![1, 1024]⟩
abbrev S1024x1024 : Shape := ⟨2, ![1024, 1024]⟩

abbrev nBuf : Space → Nat
  | .hbm => 40
  | .vmem => 8
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2048, .f32⟩
  | .hbm, ⟨3, _⟩ => ⟨S_, .i32⟩
  | .hbm, ⟨4, _⟩ => ⟨S32, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S32, .f32⟩
  | .hbm, ⟨16, _⟩ => ⟨S32x1, .f32⟩
  | .hbm, ⟨17, _⟩ => ⟨S1x16, .f32⟩
  | .hbm, ⟨18, _⟩ => ⟨S32x16, .f32⟩
  | .hbm, ⟨19, _⟩ => ⟨S32x16, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S_, .f32⟩
  | .hbm, ⟨24, _⟩ => ⟨S32x96, .f32⟩
  | .hbm, ⟨25, _⟩ => ⟨S_, .f32⟩
  | .hbm, ⟨26, _⟩ => ⟨S32x112, .f32⟩
  | .hbm, ⟨27, _⟩ => ⟨S32x128, .f32⟩
  | .hbm, ⟨28, _⟩ => ⟨S32x16, .f32⟩
  | .hbm, ⟨29, _⟩ => ⟨S32x128, .f32⟩
  | .hbm, ⟨30, _⟩ => ⟨S_, .f32⟩
  | .hbm, ⟨31, _⟩ => ⟨S32x16, .f32⟩
  | .hbm, ⟨32, _⟩ => ⟨S_, .f32⟩
  | .hbm, ⟨33, _⟩ => ⟨S32x96, .f32⟩
  | .hbm, ⟨34, _⟩ => ⟨S32x128, .f32⟩
  | .hbm, ⟨35, _⟩ => ⟨S32x1024, .f32⟩
  | .hbm, ⟨36, _⟩ => ⟨S1024x2048, .bf16⟩
  | .hbm, ⟨37, _⟩ => ⟨S1x1024, .f32⟩
  | .hbm, ⟨38, _⟩ => ⟨S32x1024, .f32⟩
  | .hbm, ⟨39, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2048, .bf16⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x1024, .f32⟩
  | .local _ .vmem, ⟨7, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KvSRefIdeal.lean ====
abbrev S32x1x1024 : Shape := ⟨3, ![32, 1, 1024]⟩
abbrev S1024 : Shape := ⟨1, ![1024]⟩
abbrev S1024x2048 : Shape := ⟨2, ![1024, 2048]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2048 : Shape := ⟨3, ![32, 1, 2048]⟩
abbrev S32x1x2x8x128 : Shape := ⟨5, ![32, 1, 2, 8, 128]⟩
abbrev S32x1x1x8x128 : Shape := ⟨5, ![32, 1, 1, 8, 128]⟩
abbrev S32x1x8x128 : Shape := ⟨4, ![32, 1, 8, 128]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x8x32 : Shape := ⟨4, ![32, 1, 8, 32]⟩
abbrev S32x1x8x16 : Shape := ⟨4, ![32, 1, 8, 16]⟩
abbrev S32x1x8x96 : Shape := ⟨4, ![32, 1, 8, 96]⟩
abbrev S32x1024 : Shape := ⟨2, ![32, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2048, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x2048, .f32⟩
  | .hbm, ⟨20, _⟩ => ⟨S32x1x2x8x128, .f32⟩
  | .hbm, ⟨21, _⟩ => ⟨S32x1x1x8x128, .f32⟩
  | .hbm, ⟨22, _⟩ => ⟨S32x1x8x128, .f32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S1, .f32⟩
  | .hbm, ⟨38, _⟩ => ⟨S1x1, .f32⟩
  | .hbm, ⟨39, _⟩ => ⟨S1x16, .f32⟩
  | .hbm, ⟨40, _⟩ => ⟨S1x16, .f32⟩
  | .hbm, ⟨41, _⟩ => ⟨S1x16, .f32⟩
  | .hbm, ⟨42, _⟩ => ⟨S1x16, .f32⟩
  | .hbm, ⟨43, _⟩ => ⟨S1x1x1x16, .f32⟩
  | .hbm, ⟨44, _⟩ => ⟨S1x16, .f32⟩
  | .hbm, ⟨45, _⟩ => ⟨S1x1x1x16, .f32⟩
  | .hbm, ⟨46, _⟩ => ⟨S32x1x8x32, .f32⟩
  | .hbm, ⟨47, _⟩ => ⟨S32x1x8x16, .f32⟩
  | .hbm, ⟨48, _⟩ => ⟨S32x1x8x16, .f32⟩
  | .hbm, ⟨49, _⟩ => ⟨S32x1x8x16, .f32⟩
  | .hbm, ⟨50, _⟩ => ⟨S32x1x8x16, .f32⟩
  | .hbm, ⟨51, _⟩ => ⟨S32x1x8x16, .f32⟩
  | .hbm, ⟨52, _⟩ => ⟨S32x1x8x16, .f32⟩
  | .hbm, ⟨53, _⟩ => ⟨S32x1x8x16, .f32⟩
  | .hbm, ⟨54, _⟩ => ⟨S32x1x8x16, .f32⟩
  | .hbm, ⟨55, _⟩ => ⟨S32x1x8x16, .f32⟩
  | .hbm, ⟨56, _⟩ => ⟨S32x1x8x16, .f32⟩
  | .hbm, ⟨57, _⟩ => ⟨S32x1x8x16, .f32⟩
  | .hbm, ⟨58, _⟩ => ⟨S32x1x8x16, .f32⟩
  | .hbm, ⟨59, _⟩ => ⟨S32x1x8x32, .f32⟩
  | .hbm, ⟨60, _⟩ => ⟨S32x1x8x96, .f32⟩
  | .hbm, ⟨61, _⟩ => ⟨S32x1x8x128, .f32⟩
  | .hbm, ⟨62, _⟩ => ⟨S32x1024, .f32⟩
  | .hbm, ⟨63, _⟩ => ⟨S32x1x1x8x128, .f32⟩
  | .hbm, ⟨64, _⟩ => ⟨S32x1x8x128, .f32⟩
  | .hbm, ⟨65, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== QProj.lean ====
abbrev S4x4096x1024 : Shape := ⟨3, ![4, 4096, 1024]⟩
abbrev S1024 : Shape := ⟨1, ![1024]⟩
abbrev S1024x1024 : Shape := ⟨2, ![1024, 1024]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x112 : Shape := ⟨2, ![4096, 112]⟩
abbrev S4096x128 : Shape := ⟨2, ![4096, 128]⟩
abbrev S16384x1024 : Shape := ⟨2, ![16384, 1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 38
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1024, .f32⟩
  | .hbm, ⟨3, _⟩ => ⟨S4096, .i32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4096, .f32⟩
  | .hbm, ⟨15, _⟩ => ⟨S4096x1, .f32⟩
  | .hbm, ⟨16, _⟩ => ⟨S1x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x96, .f32⟩
  | .hbm, ⟨24, _⟩ => ⟨S_, .f32⟩
  | .hbm, ⟨25, _⟩ => ⟨S4096x112, .f32⟩
  | .hbm, ⟨26, _⟩ => ⟨S4096x128, .f32⟩
  | .hbm, ⟨27, _⟩ => ⟨S4096x16, .f32⟩
  | .hbm, ⟨28, _⟩ => ⟨S4096x128, .f32⟩
  | .hbm, ⟨29, _⟩ => ⟨S_, .f32⟩
  | .hbm, ⟨30, _⟩ => ⟨S4096x16, .f32⟩
  | .hbm, ⟨31, _⟩ => ⟨S_, .f32⟩
  | .hbm, ⟨32, _⟩ => ⟨S4096x96, .f32⟩
  | .hbm, ⟨33, _⟩ => ⟨S4096x128, .f32⟩
  | .hbm, ⟨34, _⟩ => ⟨S16384x1024, .f32⟩
  | .hbm, ⟨35, _⟩ => ⟨S1024x1024, .bf16⟩
  | .hbm, ⟨36, _⟩ => ⟨S1x1024, .f32⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QProjRefIdeal.lean ====
abbrev S4x4096x1024 : Shape := ⟨3, ![4, 4096, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8x128 : Shape := ⟨4, ![4, 4096, 8, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x32 : Shape := ⟨4, ![4, 4096, 8, 32]⟩
abbrev S4x4096x8x16 : Shape := ⟨4, ![4, 4096, 8, 16]⟩
abbrev S4x4096x8x96 : Shape := ⟨4, ![4, 4096, 8, 96]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x8x128, .f32⟩
  | .hbm, ⟨21, _⟩ => ⟨S4096, .i32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S4096, .f32⟩
  | .hbm, ⟨33, _⟩ => ⟨S4096x1, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S1x4096x1x16, .f32⟩
  | .hbm, ⟨40, _⟩ => ⟨S4096x16, .f32⟩
  | .hbm, ⟨41, _⟩ => ⟨S1x4096x1x16, .f32⟩
  | .hbm, ⟨42, _⟩ => ⟨S4x4096x8x32, .f32⟩
  | .hbm, ⟨43, _⟩ => ⟨S4x4096x8x16, .f32⟩
  | .hbm, ⟨44, _⟩ => ⟨S4x4096x8x16, .f32⟩
  | .hbm, ⟨45, _⟩ => ⟨S4x4096x8x16, .f32⟩
  | .hbm, ⟨46, _⟩ => ⟨S4x4096x8x16, .f32⟩
  | .hbm, ⟨47, _⟩ => ⟨S4x4096x8x16, .f32⟩
  | .hbm, ⟨48, _⟩ => ⟨S4x4096x8x16, .f32⟩
  | .hbm, ⟨49, _⟩ => ⟨S4x4096x8x16, .f32⟩
  | .hbm, ⟨50, _⟩ => ⟨S4x4096x8x16, .f32⟩
  | .hbm, ⟨51, _⟩ => ⟨S4x4096x8x16, .f32⟩
  | .hbm, ⟨52, _⟩ => ⟨S4x4096x8x16, .f32⟩
  | .hbm, ⟨53, _⟩ => ⟨S4x4096x8x16, .f32⟩
  | .hbm, ⟨54, _⟩ => ⟨S4x4096x8x16, .f32⟩
  | .hbm, ⟨55, _⟩ => ⟨S4x4096x8x32, .f32⟩
  | .hbm, ⟨56, _⟩ => ⟨S4x4096x8x96, .f32⟩
  | .hbm, ⟨57, _⟩ => ⟨S4x4096x8x128, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== InProj.lean ====
abbrev S4x4096x1024 : Shape := ⟨3, ![4, 4096, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S1024x32 : Shape := ⟨2, ![1024, 32]⟩
abbrev S1024x4x8 : Shape := ⟨3, ![1024, 4, 8]⟩
abbrev S_ : Shape := ⟨0, ![]⟩
abbrev S1024x4x128 : Shape := ⟨3, ![1024, 4, 128]⟩
abbrev S1024x512 : Shape := ⟨2, ![1024, 512]⟩
abbrev S16384x1024 : Shape := ⟨2, ![16384, 1024]⟩
abbrev S1x1024 : Shape := ⟨2, ![1, 1024]⟩
abbrev S1x3072 : Shape := ⟨2, ![1, 3072]⟩
abbrev S16384x2048 : Shape := ⟨2, ![16384, 2048]⟩
abbrev S16384x3072 : Shape := ⟨2, ![16384, 3072]⟩
abbrev S16384x512 : Shape := ⟨2, ![16384, 512]⟩
abbrev S4x8x3072 : Shape := ⟨3, ![4, 8, 3072]⟩
abbrev S512x1024 : Shape := ⟨2, ![512, 1024]⟩
abbrev S512x2048 : Shape := ⟨2, ![512, 2048]⟩
abbrev S512x3072 : Shape := ⟨2, ![512, 3072]⟩
abbrev S512x512 : Shape := ⟨2, ![512, 512]⟩
abbrev S1x8x3072 : Shape := ⟨3, ![1, 8, 3072]⟩
abbrev S8x3072 : Shape := ⟨2, ![8, 3072]⟩
abbrev S512 : Shape := ⟨1, ![512]⟩
abbrev S512x1 : Shape := ⟨2, ![512, 1]⟩
abbrev S8x512 : Shape := ⟨2, ![8, 512]⟩
abbrev S1x512 : Shape := ⟨2, ![1, 512]⟩
abbrev S504x512 : Shape := ⟨2, ![504, 512]⟩
abbrev S1x8x512 : Shape := ⟨3, ![1, 8, 512]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S1024x32, .f32⟩
  | .hbm, ⟨6, _⟩ => ⟨S1024x4x8, .f32⟩
  | .hbm, ⟨7, _⟩ => ⟨S_, .i32⟩
  | .hbm, ⟨8, _⟩ => ⟨S_, .f32⟩
  | .hbm, ⟨9, _⟩ => ⟨S1024x4x128, .f32⟩
  | .hbm, ⟨10, _⟩ => ⟨S1024x512, .f32⟩
  | .hbm, ⟨11, _⟩ => ⟨S1024x512, .bf16⟩
  | .hbm, ⟨12, _⟩ => ⟨S16384x1024, .f32⟩
  | .hbm, ⟨13, _⟩ => ⟨S1024x5152, .bf16⟩
  | .hbm, ⟨14, _⟩ => ⟨S1x1024, .f32⟩
  | .hbm, ⟨15, _⟩ => ⟨S1x3072, .f32⟩
  | .hbm, ⟨16, _⟩ => ⟨S16384x2048, .bf16⟩
  | .hbm, ⟨17, _⟩ => ⟨S16384x3072, .bf16⟩
  | .hbm, ⟨18, _⟩ => ⟨S16384x512, .f32⟩
  | .hbm, ⟨19, _⟩ => ⟨S4x8x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5152, .bf16⟩
  | .local _ .vmem, ⟨4, _⟩ => ⟨S1024x512, .bf16⟩
  | .local _ .vmem, ⟨5, _⟩ => ⟨S4x3072, .f32⟩
  | .local _ .vmem, ⟨6, _⟩ => ⟨S1x3072, .f32⟩
  | .local _ .vmem, ⟨7, _⟩ => ⟨S512x2048, .bf16⟩
  | .local _ .vmem, ⟨8, _⟩ => ⟨S512x2048, .bf16⟩
  | .local _ .vmem, ⟨9, _⟩ => ⟨S512x3072, .bf16⟩
  | .local _ .vmem, ⟨10, _⟩ => ⟨S512x3072, .bf16⟩
  | .local _ .vmem, ⟨11, _⟩ => ⟨S512x512, .f32⟩
  | .local _ .vmem, ⟨12, _⟩ => ⟨S512x512, .f32⟩
  | .local _ .vmem, ⟨13, _⟩ => ⟨S1x8x3072, .f32⟩
  | .local _ .vmem, ⟨14, _⟩ => ⟨S1x8x3072, .f32⟩
  | .local _ .vmem, ⟨15, _⟩ => ⟨S8x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S4x4096x1024 : Shape := ⟨3, ![4, 4096, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5152 : Shape := ⟨3, ![4, 4096, 5152]⟩
abbrev S4x4096x2048 : Shape := ⟨3, ![4, 4096, 2048]⟩
abbrev S4x4096x3072 : Shape := ⟨3, ![4, 4096, 3072]⟩
abbrev S4x4096x32 : Shape := ⟨3, ![4, 4096, 32]⟩
abbrev S4x3x3072 : Shape := ⟨3, ![4, 3, 3072]⟩
abbrev S4x4099x3072 : Shape := ⟨3, ![4, 4099, 3072]⟩
abbrev S4x8x3072 : Shape := ⟨3, ![4, 8, 3072]⟩
abbrev S1x3072 : Shape := ⟨2, ![1, 3072]⟩
abbrev S1x1x3072 : Shape := ⟨3, ![1, 1, 3072]⟩
abbrev S16384x4x8 : Shape := ⟨3, ![16384, 4, 8]⟩
abbrev S16384x4x128 : Shape := ⟨3, ![16384, 4, 128]⟩
abbrev S16384x2048 : Shape := ⟨2, ![16384, 2048]⟩
abbrev S16384x3072 : Shape := ⟨2, ![16384, 3072]⟩
abbrev S16384x512 : Shape := ⟨2, ![16384, 512]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x5152, .f32⟩
  | .hbm, ⟨22, _⟩ => ⟨S4x4096x2048, .f32⟩
  | .hbm, ⟨23, _⟩ => ⟨S4x4096x3072, .f32⟩
  | .hbm, ⟨24, _⟩ => ⟨S4x4096x32, .f32⟩
  | .hbm, ⟨25, _⟩ => ⟨S_, .f32⟩
  | .hbm, ⟨26, _⟩ => ⟨S4x3x3072, .f32⟩
  | .hbm, ⟨27, _⟩ => ⟨S4x4099x3072, .f32⟩
  | .hbm, ⟨28, _⟩ => ⟨S4x8x3072, .f32⟩
  | .hbm, ⟨29, _⟩ => ⟨S4x4096x3072, .f32⟩
  | .hbm, ⟨30, _⟩ => ⟨S1x3072, .f32⟩
  | .hbm, ⟨31, _⟩ => ⟨S3072, .f32⟩
  | .hbm, ⟨32, _⟩ => ⟨S1x1x3072, .f32⟩
  | .hbm, ⟨33, _⟩ => ⟨S4x4096x3072, .f32⟩
  | .hbm, ⟨34, _⟩ => ⟨S4x4096x3072, .f32⟩
  | .hbm, ⟨35, _⟩ => ⟨S_, .f32⟩
  | .hbm, ⟨36, _⟩ => ⟨S4x4096x3072, .f32⟩
  | .hbm, ⟨37, _⟩ => ⟨S4x4096x3072, .f32⟩
  | .hbm, ⟨38, _⟩ => ⟨S4x4096x3072, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S4x4096x3072, .f32⟩
  | .hbm, ⟨43, _⟩ => ⟨S4x4096x3072, .f32⟩
  | .hbm, ⟨44, _⟩ => ⟨S4x4096x3072, .f32⟩
  | .hbm, ⟨45, _⟩ => ⟨S4x4096x3072, .f32⟩
  | .hbm, ⟨46, _⟩ => ⟨S1x3072, .f32⟩
  | .hbm, ⟨47, _⟩ => ⟨S3072, .f32⟩
  | .hbm, ⟨48, _⟩ => ⟨S1x1x3072, .f32⟩
  | .hbm, ⟨49, _⟩ => ⟨S4x4096x3072, .f32⟩
  | .hbm, ⟨50, _⟩ => ⟨S4x4096x3072, .f32⟩
  | .hbm, ⟨51, _⟩ => ⟨S4x4096x3072, .f32⟩
  | .hbm, ⟨52, _⟩ => ⟨S4x4096x3072, .f32⟩
  | .hbm, ⟨53, _⟩ => ⟨S1x3072, .f32⟩
  | .hbm, ⟨54, _⟩ => ⟨S3072, .f32⟩
  | .hbm, ⟨55, _⟩ => ⟨S1x1x3072, .f32⟩
  | .hbm, ⟨56, _⟩ => ⟨S4x4096x3072, .f32⟩
  | .hbm, ⟨57, _⟩ => ⟨S4x4096x3072, .f32⟩
  | .hbm, ⟨58, _⟩ => ⟨S4x4096x3072, .f32⟩
  | .hbm, ⟨59, _⟩ => ⟨S1x1x3072, .f32⟩
  | .hbm, ⟨60, _⟩ => ⟨S4x4096x3072, .f32⟩
  | .hbm, ⟨61, _⟩ => ⟨S4x4096x3072, .f32⟩
  | .hbm, ⟨62, _⟩ => ⟨S4x4096x3072, .f32⟩
  | .hbm, ⟨63, _⟩ => ⟨S4x4096x3072, .f32⟩
  | .hbm, ⟨64, _⟩ => ⟨S_, .f32⟩
  | .hbm, ⟨65, _⟩ => ⟨S4x4096x3072, .f32⟩
  | .hbm, ⟨66, _⟩ => ⟨S4x4096x3072, .f32⟩
  | .hbm, ⟨67, _⟩ => ⟨S_, .f32⟩
  | .hbm, ⟨68, _⟩ => ⟨S4x4096x3072, .f32⟩
  | .hbm, ⟨69, _⟩ => ⟨S4x4096x3072, .f32⟩
  | .hbm, ⟨70, _⟩ => ⟨S4x4096x3072, .f32⟩
  | .hbm, ⟨71, _⟩ => ⟨S16384x4x8, .f32⟩
  | .hbm, ⟨72, _⟩ => ⟨S_, .i32⟩
  | .hbm, ⟨73, _⟩ => ⟨S_, .f32⟩
  | .hbm, ⟨74, _⟩ => ⟨S16384x4x128, .f32⟩
  | .hbm, ⟨75, _⟩ => ⟨S16384x2048, .f32⟩
  | .hbm, ⟨76, _⟩ => ⟨S16384x2048, .bf16⟩
  | .hbm, ⟨77, _⟩ => ⟨S16384x3072, .f32⟩
  | .hbm, ⟨78, _⟩ => ⟨S16384x3072, .bf16⟩
  | .hbm, ⟨79, _⟩ => ⟨S16384x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_call1_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== InS.lean ====
abbrev S32x1024 : Shape := ⟨2, ![32, 1024]⟩
abbrev S1024 : Shape := ⟨1, ![1024]⟩
abbrev S1024x5152 : Shape := ⟨2, ![1024, 5152]⟩
abbrev S32x3x3072 : Shape := ⟨3, ![32, 3, 3072]⟩
abbrev S1x1024 : Shape := ⟨2, ![1, 1024]⟩
abbrev S32x2048 : Shape := ⟨2, ![32, 2048]⟩
abbrev S32x3072 : Shape := ⟨2, ![32, 3072]⟩
abbrev S32 : Shape := ⟨1, ![32]⟩
abbrev S32x1 : Shape := ⟨2, ![32, 1]⟩
abbrev S1024x512 : Shape := ⟨2, ![1024, 512]⟩
abbrev S32x512 : Shape := ⟨2, ![32, 512]⟩
abbrev S32x2x3072 : Shape := ⟨3, ![32, 2, 3072]⟩
abbrev S32x1x3072 : Shape := ⟨3, ![32, 1, 3072]⟩

abbrev nBuf : Space → Nat
  | .hbm => 11
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5152, .f32⟩
  | .hbm, ⟨3, _⟩ => ⟨S32x3x3072, .f32⟩
  | .hbm, ⟨4, _⟩ => ⟨S1024x5152, .bf16⟩
  | .hbm, ⟨5, _⟩ => ⟨S1x1024, .f32⟩
  | .hbm, ⟨6, _⟩ => ⟨S32x2048, .f32⟩
  | .hbm, ⟨7, _⟩ => ⟨S32x3072, .f32⟩
  | .hbm, ⟨8, _⟩ => ⟨S32x2x3072, .f32⟩
  | .hbm, ⟨9, _⟩ => ⟨S32x1x3072, .f32⟩
  | .hbm, ⟨10, _⟩ => ⟨S32x3x3072, .f32⟩
  | .local _ .vmem, ⟨0, _⟩ => ⟨S32x1024, .f32⟩
  | .local _ .vmem, ⟨1, _⟩ => ⟨S1x1024, .f32⟩
  | .local _ .vmem, ⟨2, _⟩ => ⟨S1024x5152, .bf16⟩
  | .local _ .vmem, ⟨3, _⟩ => ⟨S32x2048, .f32⟩
  | .local _ .vmem, ⟨4, _⟩ => ⟨S32x3072, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== InSRefIdeal.lean ====
abbrev S32x1024 : Shape := ⟨2, ![32, 1024]⟩
abbrev S1024 : Shape := ⟨1, ![1024]⟩
abbrev S1024x5152 : Shape := ⟨2, ![1024, 5152]⟩
abbrev S32x3x3072 : Shape := ⟨3, ![32, 3, 3072]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5152 : Shape := ⟨2, ![32, 5152]⟩
abbrev S32x2048 : Shape := ⟨2, ![32, 2048]⟩
abbrev S32x3072 : Shape := ⟨2, ![32, 3072]⟩
abbrev S32x1x3072 : Shape := ⟨3, ![32, 1, 3072]⟩
abbrev S32x4x3072 : Shape := ⟨3, ![32, 4, 3072]⟩

abbrev nBuf : Space → Nat
  | .hbm => 26
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5152, .f32⟩
  | .hbm, ⟨3, _⟩ => ⟨S32x3x3072, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x5152, .f32⟩
  | .hbm, ⟨21, _⟩ => ⟨S32x2048, .f32⟩
  | .hbm, ⟨22, _⟩ => ⟨S32x3072, .f32⟩
  | .hbm, ⟨23, _⟩ => ⟨S32x1x3072, .f32⟩
  | .hbm, ⟨24, _⟩ => ⟨S32x4x3072, .f32⟩
  | .hbm, ⟨25, _⟩ => ⟨S32x3x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.SsdMath.lean ====
/-
  One chunk of the state-space recurrence on the extended reals, for one head: the running sum of the log decays, the
  state the chunk hands on, and the rows it puts out.
-/
module

public import Idealize.ShloMosaic.Lib.Pointwise

@[expose] public section

set_option maxRecDepth 16384

noncomputable section

open Idealize.ShloMosaic

namespace Cert.SsdChunk

/-- The running sum of the log decays through step `l`. -/
def cum (a : Fin 128 → EReal) (l : Fin 128) : EReal := ∑ s : Fin 128, if s.val ≤ l.val then a s else 0

/-- How much of step `s` still counts at step `l`: nothing of a later step. -/
def fade (a : Fin 128 → EReal) (l s : Fin 128) : EReal := Ideal.exp (if s.val ≤ l.val then cum a l - cum a s else Ideal.ofBits .f32 0xFF800000#32)

/-- The state (a head's row `p`, state column `q`) after the chunk: the entering state decayed, and the chunk's own steps. -/
def stateOut (a : Fin 128 → EReal) (X : Fin 128 → EReal) (B : Fin 128 → EReal) (h : EReal) : EReal :=
  h * Ideal.exp (cum a 127) + ∑ s : Fin 128, Ideal.exp (cum a 127 - cum a s) * X s * B s

/-- The row at step `l`: the steps of the chunk up to it, the entering state, and the skip term. -/
def rowOut (a : Fin 128 → EReal) (X : Fin 128 → EReal) (B C : Fin 128 → Fin 128 → EReal) (skip : EReal) (h : Fin 128 → EReal)
    (l : Fin 128) : EReal :=
  (∑ s : Fin 128, X s * ((∑ k : Fin 128, B s k * C l k) * fade a l s)) + (∑ k : Fin 128, h k * C l k) * Ideal.exp (cum a l) + skip

/-- The softplus, in the form that does not overflow. -/
def softplus (v : EReal) : EReal := max v 0 + Ideal.log1p (Ideal.exp (-FloatOps.absf (F := Ideal) (φ := .f32) v))

/-- A window of 128 that ends at `l` sums what lies at or before `l`. -/
theorem window_sum (f : Fin 128 → EReal) (l : Fin 128) :
    (∑ n : Fin 128, if h : 127 ≤ l.val + n.val then f ⟨l.val + n.val - 127, by omega⟩ else 0) = cum f l := by
  unfold cum
  have e : ∀ n : Fin 128, (if h : 127 ≤ l.val + n.val then f ⟨l.val + n.val - 127, by omega⟩ else 0)
      = if 127 ≤ l.val + n.val then f ⟨(l.val + n.val) - 127, by omega⟩ else 0 := fun n => by split <;> rfl
  rw [Finset.sum_congr rfl fun n _ => e n, ← Finset.sum_filter, ← Finset.sum_filter]
  refine Finset.sum_nbij' (fun n => ⟨l.val + n.val - 127, by omega⟩) (fun s => ⟨(s.val + 127 - l.val) % 128, by omega⟩) ?_ ?_ ?_ ?_ ?_
  · intro n hn
    simp only [Finset.mem_filter, Finset.mem_univ, true_and] at hn ⊢
    omega
  · intro s hs
    simp only [Finset.mem_filter, Finset.mem_univ, true_and] at hs ⊢
    omega
  · intro n hn
    simp only [Finset.mem_filter, Finset.mem_univ, true_and] at hn
    exact Fin.ext (by dsimp only; omega)
  · intro s hs
    simp only [Finset.mem_filter, Finset.mem_univ, true_and] at hs
    exact Fin.ext (by dsimp only; omega)
  · intro n hn
    rfl

/-- A left fold of additions from zero is the sum over the indices. -/
theorem foldl_sum (n : Nat) (f : Fin n → EReal) : (List.finRange n).foldl (fun r i => r + f i) 0 = ∑ i, f i := by
  rw [← List.sum_ofFn, List.ofFn_eq_map, List.sum_eq_foldl, List.foldl_map]

/-- A window sum from zero: the sum over the window's positions of what lies inside the operand. -/
theorem window_fold {s t : Shape} (window strides lo hi : Fin s.rank → Nat) (h : s.ReduceWindows window strides lo hi t)
    (x : s.Idx → EReal) (j : t.Idx) :
    Ideal.hostReduceWindowAdd window strides lo hi h x 0 j
      = ∑ i : (⟨s.rank, window⟩ : Shape).Idx,
          if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else 0 := by
  unfold Ideal.hostReduceWindowAdd Host.reduceWindow
  dsimp only
  rw [foldl_sum]
  refine (Finset.sum_congr rfl fun i _ => by congr).trans (Equiv.sum_comp (⟨s.rank, window⟩ : Shape).rowMajor.symm (fun i =>
    if hin : ∀ a, lo a ≤ (j (a.cast h.1.symm)).val * strides a + (i a).val ∧ (j (a.cast h.1.symm)).val * strides a + (i a).val - lo a < s.size a
    then x (fun a => ⟨(j (a.cast h.1.symm)).val * strides a + (i a).val - lo a, (hin a).2⟩) else 0))

end Cert.SsdChunk

end
-- ==== Proof.SsdSpec.lean ====
/-
  The state-space layer over a whole sequence, chunk after chunk, on the extended reals: from the layer's arguments the
  state of every head after each chunk and every row of the output.
-/
module

public import proofs.«01_k».proof.Proof.SsdMath

@[expose] public section

noncomputable section

open Idealize.ShloMosaic

namespace Cert.SsdChunk

/-- The arguments: the convolved inputs with the rows of the two state matrices, the raw steps, their bias, the decays'
    logarithms and the skip weights. -/
structure Args where
  x : Fin 4 → Fin 4096 → Fin 3072 → EReal
  dt : Fin 4 → Fin 4096 → Fin 32 → EReal
  bias : Fin 32 → EReal
  alog : Fin 32 → EReal
  skip : Fin 32 → EReal

namespace Args

variable (A : Args)

/-- Step `s` of chunk `k`. -/
abbrev at_ (k : Fin 32) (s : Fin 128) : Fin 4096 := ⟨k.val * 128 + s.val, by omega⟩

/-- Head `e` of group `g`. -/
abbrev head (g : Fin 4) (e : Fin 8) : Fin 32 := ⟨g.val * 8 + e.val, by omega⟩

/-- The input channel of row `p` of a head. -/
abbrev chan (g : Fin 4) (e : Fin 8) (p : Fin 64) : Fin 3072 := ⟨g.val * 512 + e.val * 64 + p.val, by omega⟩

/-- The step length. -/
def step (n : Fin 4) (k : Fin 32) (g : Fin 4) (e : Fin 8) (s : Fin 128) : EReal :=
  softplus (A.dt n (at_ k s) (head g e) + A.bias (head g e))

/-- The log decay of a step. -/
def decay (n : Fin 4) (k : Fin 32) (g : Fin 4) (e : Fin 8) (s : Fin 128) : EReal := A.step n k g e s * -Ideal.exp (A.alog (head g e))

/-- The input times the step length. -/
def input (n : Fin 4) (k : Fin 32) (g : Fin 4) (e : Fin 8) (p : Fin 64) (s : Fin 128) : EReal :=
  A.x n (at_ k s) (chan g e p) * A.step n k g e s

/-- The rows of the state's input matrix. -/
def inB (n : Fin 4) (k : Fin 32) (g : Fin 4) (s q : Fin 128) : EReal := A.x n (at_ k s) ⟨2048 + (g.val * 128 + q.val), by omega⟩

/-- The rows of the state's output matrix. -/
def outC (n : Fin 4) (k : Fin 32) (g : Fin 4) (s q : Fin 128) : EReal := A.x n (at_ k s) ⟨2560 + (g.val * 128 + q.val), by omega⟩

/-- The skip term. -/
def skipped (n : Fin 4) (k : Fin 32) (g : Fin 4) (e : Fin 8) (p : Fin 64) (s : Fin 128) : EReal :=
  A.skip (head g e) * A.x n (at_ k s) (chan g e p)

/-- The state before chunk `k`. -/
def state (n : Fin 4) (g : Fin 4) (e : Fin 8) (p : Fin 64) (q : Fin 128) : Nat → EReal
  | 0 => 0
  | k + 1 => if h : k < 32 then stateOut (A.decay n ⟨k, h⟩ g e) (A.input n ⟨k, h⟩ g e p) (fun s => A.inB n ⟨k, h⟩ g s q) (state n g e p q k) else 0

/-- The output row at step `l` of chunk `k`. -/
def row (n : Fin 4) (k : Fin 32) (g : Fin 4) (e : Fin 8) (p : Fin 64) (l : Fin 128) : EReal :=
  rowOut (A.decay n k g e) (A.input n k g e p) (A.inB n k g) (A.outC n k g) (A.skipped n k g e p l) (fun q => A.state n g e p q k.val) l

theorem state_succ (n : Fin 4) (g : Fin 4) (e : Fin 8) (p : Fin 64) (q : Fin 128) (k : Fin 32) : A.state n g e p q (k.val + 1)
    = stateOut (A.decay n k g e) (A.input n k g e p) (fun s => A.inB n k g s q) (A.state n g e p q k.val) := by
  rw [state, dif_pos k.isLt]

end Args

end Cert.SsdChunk

end
-- ==== Proof.SsdBlocks.lean ====
/-
  What the chunked recurrence's kernel reads at a grid point: the blocks of its windows, entry by entry, as the layer's
  arguments of the point's sequence and chunk.
-/
module

public import proofs.«01_k».proof.Proof.SsdSpec
public import proofs.«01_k».proof.Proof.Gen.SsdIdeal.Value
public import Idealize.ShloMosaic.Lib.Pipeline.ValueKit

@[expose] public section

set_option maxRecDepth 16384

noncomputable section

open Idealize.ShloMosaic Idealize.ShloMosaic.TcCoe

namespace Cert.SsdIdeal.Blocks

open Cert.SsdIdeal Cert.SsdIdeal.Gen Cert.SsdChunk

theorem idx : ∀ t : Fin cfg0.N, win0_0.index t = ![t.val / 32, t.val % 32, 0]
    ∧ win0_1.index t = ![t.val / 32, t.val % 32, 4]
    ∧ win0_2.index t = ![t.val / 32, t.val % 32, 5]
    ∧ win0_3.index t = ![t.val, 0]
    ∧ win0_4.index t = ![0, 0, 0]
    ∧ win0_5.index t = ![0, 0, 0]
    ∧ win0_6.index t = ![0, 0, 0]
    ∧ win0_7.index t = ![0, 0]
    ∧ win0_8.index t = ![t.val / 32, t.val % 32, 0]
    ∧ win0_9.index t = ![t.val / 32, 0, 0, 0] :=
  (by decide +kernel : ∀ t : Fin grid0.N, _)

variable (m : (ℓ : Loc nD τ sig) → Buf (Elt Ideal) ℓ) (c : Dev nD) (t : Fin cfg0.N)

/-- The launch's arguments. -/
abbrev args : Args where
  x n r j := m ((c : Thread nD τ).loc main_arg0) (ix3 n r j)
  dt n r h := m ((c : Thread nD τ).loc main_arg1) (ix3 n r h)
  bias h := m ((c : Thread nD τ).loc main_arg2) (ix1 h)
  alog h := m ((c : Thread nD τ).loc main_arg3) (ix1 h)
  skip h := m ((c : Thread nD τ).loc main_arg4) (ix1 h)

/-- The point's sequence. -/
abbrev seqOf : Fin 4 := ⟨t.val / 32, by have := lt_of_lt_of_eq t.isLt N_0; omega⟩

/-- The point's chunk. -/
abbrev chunkOf : Fin 32 := ⟨t.val % 32, by omega⟩

/-- The steps, one row per position, each group's eight padded to a lane tile. -/
def stepRows (d : S4x4096x32.Idx → EReal) : S16384x512.Idx → EReal :=
  shapeCast S16384x512 (pad S16384x4x128 ![0, 0, 0] ![0, 0, 120] ![0, 0, 0] (shapeCast S16384x4x8 (d : FVec Ideal S4x4096x32 .f32) shapeCasts_S4x4096x32_S16384x4x8)
    (sitofp .f32 (constantI S_ 32 0#32)) pads_S16384x4x8_S16384x4x128_000_000_01200 h_S_ : FVec Ideal S16384x4x128 .f32) shapeCasts_S16384x4x128_S16384x512

/-- A vector over the heads, each group's eight padded to a lane tile. -/
def headRows (d : S32.Idx → EReal) : S4x1x128.Idx → EReal :=
  (pad S4x1x128 ![0, 0, 0] ![0, 0, 120] ![0, 0, 0] (shapeCast S4x1x8 (d : FVec Ideal S32 .f32) shapeCasts_S32_S4x1x8)
    (sitofp .f32 (constantI S_ 32 0#32)) pads_S4x1x8_S4x1x128_000_000_01200 h_S_ : FVec Ideal S4x1x128 .f32)

/-- Each column's head within its group: the column divided by 64, rounded down. -/
def headCol : S1x512.Idx → BitVec 32 :=
  let w : IVec S1x512 32 := broadcastInDim S1x512 ![1] bcast_S512_S1x512_1 (iotaInDim S512 32 0)
  let b : IVec S1x512 32 := broadcastInDim S1x512 ![] bcast_S_S1x512 (constantI S_ 32 64#32)
  select (andi (cmpi .ne (signi w) (broadcastInDim S1x512 ![] bcast_S_S1x512 (signi (constantI S_ 32 64#32)))) (cmpi .ne (Host.remsi w b) (broadcastInDim S1x512 ![] bcast_S_S1x512 (constantI S_ 32 0#32))))
    (subi (Host.divsi w b) (broadcastInDim S1x512 ![] bcast_S_S1x512 (constantI S_ 32 1#32))) (Host.divsi w b)

/-- The table that spreads a head's value over the head's 64 columns, stacked twice. -/
def spreadRows : S256x512.Idx → EReal :=
  shapeCast S256x512 (broadcastInDim S2x128x1x512 ![0, 1, 2, 3] bcast_S1x128x1x512_S2x128x1x512_0_1_2_3
    (shapeCast S1x128x1x512 (uitofp .bf16 (cmpi .eq (broadcastInDim S128x512 ![0, 1] bcast_S1x512_S128x512_0_1 (headCol : IVec S1x512 32))
      (broadcastInDim S128x512 ![0, 1] bcast_S128x1_S128x512_0_1 (broadcastInDim S128x1 ![0] bcast_S128_S128x1_0 (iotaInDim S128 32 0)))) : FVec Ideal S128x512 .bf16)
      shapeCasts_S128x512_S1x128x1x512)) shapeCasts_S2x128x1x512_S256x512

theorem V_v5 (n : Fin 4) (r : Fin 4096) (j : Fin 3072) : (V m c main_v5 : S4x4096x3072.Idx → EReal) (ix3 n r j) = m ((c : Thread nD τ).loc main_arg0) (ix3 n r j) := by
  unfold V
  simp only [List.flatten_cons, List.flatten_nil, List.append_nil, List.cons_append, List.nil_append, hostOps0, hostOps0_1, hostOps0_2, hostOps0_3, hostOps0_4, hostOps0_5, hostOps0_6, hostOps0_7]
  after_results
  pointwise []
  refine congrArg _ ?_
  funext a
  match a with
  | ⟨0, _⟩ => exact Fin.ext (show (n.val * 4096 + r.val) / 4096 = n.val by omega)
  | ⟨1, _⟩ => exact Fin.ext (show (n.val * 4096 + r.val) % 4096 = r.val by omega)
  | ⟨2, _⟩ => rfl

theorem V_v2 : (V m c main_v2 : S16384x512.Idx → EReal) = stepRows (m ((c : Thread nD τ).loc main_arg1)) := by
  unfold V
  simp only [List.flatten_cons, List.flatten_nil, List.append_nil, List.cons_append, List.nil_append, hostOps0, hostOps0_1, hostOps0_2, hostOps0_3, hostOps0_4, hostOps0_5, hostOps0_6, hostOps0_7]
  after_results
  rfl

theorem V_v22 : (V m c main_v22 : S4x1x128.Idx → EReal) = headRows (m ((c : Thread nD τ).loc main_arg2)) := by
  unfold V
  simp only [List.flatten_cons, List.flatten_nil, List.append_nil, List.cons_append, List.nil_append, hostOps0, hostOps0_1, hostOps0_2, hostOps0_3, hostOps0_4, hostOps0_5, hostOps0_6, hostOps0_7]
  after_results
  rfl

theorem V_v24 : (V m c main_v24 : S4x1x128.Idx → EReal) = headRows (m ((c : Thread nD τ).loc main_arg3)) := by
  unfold V
  simp only [List.flatten_cons, List.flatten_nil, List.append_nil, List.cons_append, List.nil_append, hostOps0, hostOps0_1, hostOps0_2, hostOps0_3, hostOps0_4, hostOps0_5, hostOps0_6, hostOps0_7]
  after_results
  rfl

theorem V_v20 (g : Fin 4) (j : Fin 512) : (V m c main_v20 : S4x1x512.Idx → EReal) (ix3 g 0 j) = m ((c : Thread nD τ).loc main_arg4) (ix1 ⟨g.val * 8 + j.val / 64, by omega⟩) := by
  unfold V
  simp only [List.flatten_cons, List.flatten_nil, List.append_nil, List.cons_append, List.nil_append, hostOps0, hostOps0_1, hostOps0_2, hostOps0_3, hostOps0_4, hostOps0_5, hostOps0_6, hostOps0_7]
  after_results
  pointwise []
  refine congrArg _ ?_
  funext a
  match a with
  | ⟨0, _⟩ => exact Fin.ext (show (g.val * 512 + j.val) / 64 = g.val * 8 + j.val / 64 by omega)

theorem V_v17 : (V m c main_v17 : S256x512.Idx → EReal) = spreadRows := by
  unfold V
  simp only [List.flatten_cons, List.flatten_nil, List.append_nil, List.cons_append, List.nil_append, hostOps0, hostOps0_1, hostOps0_2, hostOps0_3, hostOps0_4, hostOps0_5, hostOps0_6, hostOps0_7]
  after_results
  rfl

theorem stepRows_at (d : S4x4096x32.Idx → EReal) (n : Fin 4) (r : Fin 4096) (g : Fin 4) (e : Fin 8) :
    stepRows d (ix2 ⟨n.val * 4096 + r.val, by omega⟩ ⟨g.val * 128 + e.val, by omega⟩) = d (ix3 n r ⟨g.val * 8 + e.val, by omega⟩) := by
  pointwise [stepRows]
  rw [dif_pos (by omega)]
  refine congrArg d (congrArg (ix3 n r) (Fin.ext ?_))
  show g.val * 8 + (g.val * 128 + e.val) % 128 = g.val * 8 + e.val
  omega

theorem headRows_at (d : S32.Idx → EReal) (g : Fin 4) (e : Fin 8) :
    headRows d (ix3 g 0 ⟨e.val, by omega⟩) = d (ix1 ⟨g.val * 8 + e.val, by omega⟩) := by
  pointwise [headRows]
  done

theorem headCol_at (j : Fin 512) : headCol (ix2 0 j) = BitVec.ofNat 32 (j.val / 64) := by
  revert j
  decide +kernel

theorem spreadRows_at (k : Fin 256) (j : Fin 512) : spreadRows (ix2 k j) = if k.val % 128 = j.val / 64 then 1 else 0 := by
  pointwise [spreadRows]
  rw [headCol_at]
  have key : ∀ a < 8, ∀ b < 128, (FloatOps.uitofp (F := Ideal) .bf16 (IntOp.cmpi CmpIPredicate.eq (BitVec.ofNat 32 a) (BitVec.ofNat 32 b)) : EReal) = if b = a then 1 else 0 := by
    intro a ha b hb
    have h1 : IntOp.cmpi CmpIPredicate.eq (BitVec.ofNat 32 a) (BitVec.ofNat 32 b) = if b = a then 1#1 else 0#1 := by
      revert a b
      decide +kernel
    rw [h1]
    split_ifs
    · show (((1#1 : BitVec 1).toNat : ℝ) : EReal) = 1
      norm_num
    · show (((0#1 : BitVec 1).toNat : ℝ) : EReal) = 0
      norm_num
  exact key _ (by omega) _ (by omega)

theorem xs_read (X : S4x4096x3072.Idx → EReal) (s : Fin 128) (j : Fin 2048) :
    (cfg0.win 0).fill (cfg0.grid.coords t) dflt0_0 (View.read (Elt Ideal) ((cfg0.win 0).blk t).view X) (ix3 0 s j) = X (ix3 (seqOf t) (Args.at_ (chunkOf t) s) ⟨j.val, by omega⟩) := by
  unfold Pipeline.Window.fill
  rw [dif_pos (moved0_0 t _)]
  blk_point [idx t]

theorem xs (s : Fin 128) (j : Fin 2048) : X0_0 m c t (ix3 0 s j) = (args m c).x (seqOf t) (Args.at_ (chunkOf t) s) ⟨j.val, by omega⟩ :=
  (xs_read t (V m c main_v5) s j).trans (V_v5 m c (seqOf t) (Args.at_ (chunkOf t) s) ⟨j.val, by omega⟩)

theorem bs_read (X : S4x4096x3072.Idx → EReal) (s : Fin 128) (j : Fin 512) : View.read (Elt Ideal) ((cfg0.win 1).blk t).view X (ix3 0 s j) = X (ix3 (seqOf t) (Args.at_ (chunkOf t) s) ⟨2048 + j.val, by omega⟩) := by
  blk_point [idx t]

theorem bs (s : Fin 128) (j : Fin 512) : iblk m c 1 t (ix3 0 s j) = (args m c).x (seqOf t) (Args.at_ (chunkOf t) s) ⟨2048 + j.val, by omega⟩ :=
  (bs_read t (V m c main_v5) s j).trans (V_v5 m c (seqOf t) (Args.at_ (chunkOf t) s) ⟨2048 + j.val, by omega⟩)

theorem cs_read (X : S4x4096x3072.Idx → EReal) (s : Fin 128) (j : Fin 512) : View.read (Elt Ideal) ((cfg0.win 2).blk t).view X (ix3 0 s j) = X (ix3 (seqOf t) (Args.at_ (chunkOf t) s) ⟨2560 + j.val, by omega⟩) := by
  blk_point [idx t]

theorem cs (s : Fin 128) (j : Fin 512) : iblk m c 2 t (ix3 0 s j) = (args m c).x (seqOf t) (Args.at_ (chunkOf t) s) ⟨2560 + j.val, by omega⟩ :=
  (cs_read t (V m c main_v5) s j).trans (V_v5 m c (seqOf t) (Args.at_ (chunkOf t) s) ⟨2560 + j.val, by omega⟩)

theorem ds_read (X : S16384x512.Idx → EReal) (s : Fin 128) (g : Fin 4) (r : Fin 8) : View.read (Elt Ideal) ((cfg0.win 3).blk t).view X (ix2 s ⟨g.val * 128 + r.val, by omega⟩) = X (ix2 ⟨(seqOf t).val * 4096 + (Args.at_ (chunkOf t) s).val, by omega⟩ ⟨g.val * 128 + r.val, by omega⟩) := by
  blk_point [idx t]

theorem ds (s : Fin 128) (g : Fin 4) (r : Fin 8) : iblk m c 3 t (ix2 s ⟨g.val * 128 + r.val, by omega⟩) = (args m c).dt (seqOf t) (Args.at_ (chunkOf t) s) (Args.head g r) :=
  (ds_read t (V m c main_v2) s g r).trans ((congrFun (V_v2 m c) _).trans (stepRows_at _ (seqOf t) (Args.at_ (chunkOf t) s) g r))

theorem bias_read (X : S4x1x128.Idx → EReal) (g : Fin 4) (r : Fin 8) : View.read (Elt Ideal) ((cfg0.win 4).blk t).view X (ix3 g 0 ⟨r.val, by omega⟩) = X (ix3 g 0 ⟨r.val, by omega⟩) := by
  blk_point [idx t]

theorem bias (g : Fin 4) (r : Fin 8) : iblk m c 4 t (ix3 g 0 ⟨r.val, by omega⟩) = (args m c).bias (Args.head g r) :=
  (bias_read t (V m c main_v22) g r).trans ((congrFun (V_v22 m c) _).trans (headRows_at _ g r))

theorem alog_read (X : S4x1x128.Idx → EReal) (g : Fin 4) (r : Fin 8) : View.read (Elt Ideal) ((cfg0.win 5).blk t).view X (ix3 g 0 ⟨r.val, by omega⟩) = X (ix3 g 0 ⟨r.val, by omega⟩) := by
  blk_point [idx t]

theorem alog (g : Fin 4) (r : Fin 8) : iblk m c 5 t (ix3 g 0 ⟨r.val, by omega⟩) = (args m c).alog (Args.head g r) :=
  (alog_read t (V m c main_v24) g r).trans ((congrFun (V_v24 m c) _).trans (headRows_at _ g r))

theorem dk_read (X : S4x1x512.Idx → EReal) (g : Fin 4) (j : Fin 512) : View.read (Elt Ideal) ((cfg0.win 6).blk t).view X (ix3 g 0 j) = X (ix3 g 0 j) := by
  blk_point [idx t]

theorem dk (g : Fin 4) (j : Fin 512) : iblk m c 6 t (ix3 g 0 j) = (args m c).skip (Args.head g ⟨j.val / 64, by omega⟩) :=
  (dk_read t (V m c main_v20) g j).trans (V_v20 m c g j)

theorem sp_read (X : S256x512.Idx → EReal) (k : Fin 256) (j : Fin 512) : View.read (Elt Ideal) ((cfg0.win 7).blk t).view X (ix2 k j) = X (ix2 k j) := by
  blk_point [idx t]

theorem sp (k : Fin 256) (j : Fin 512) : iblk m c 7 t (ix2 k j) = if k.val % 128 = j.val / 64 then (1 : EReal) else 0 :=
  (sp_read t (V m c main_v17) k j).trans ((congrFun (V_v17 m c) _).trans (spreadRows_at k j))

end Cert.SsdIdeal.Blocks

end
-- ==== Proof.SsdTiles.lean ====
/-
  The tiles one grid point of the chunked recurrence computes for one group of eight heads: their arithmetic read entry
  by entry, at the group's own lanes of the point's blocks.
-/
module

public import proofs.«01_k».proof.Proof.SsdMath
public import proofs.«01_k».proof.Proof.Gen.SsdIdeal.Value
public import Idealize.ShloMosaic.Lib.Pipeline.ValueKit

@[expose] public section

set_option maxRecDepth 16384

noncomputable section

open Idealize.ShloMosaic Idealize.ShloMosaic.TcCoe

namespace Cert.SsdIdeal.Tiles

open Cert.SsdIdeal Cert.SsdIdeal.Gen Cert.SsdChunk

variable (D : FVec Ideal S128x128 .f32) (Bi Al : FVec Ideal S1x1x128 .f32) (Xs : FVec Ideal S1x128x512 .bf16)
  (Bm Cm : FVec Ideal S1x128x128 .bf16) (SP : FVec Ideal S256x512 .bf16) (H8 : FVec Ideal S1x8x64x128 .f32)
  (H1 : FVec Ideal S1x1x64x128 .f32) (Dk : FVec Ideal S1x1x512 .f32)

/-- The lane numbers. -/
abbrev LANE : IVec S128x128 32 := iota .tc S128x128 32 [1] iota_S128x128_d1_w32

/-- The step lengths. -/
def T_step : FVec Ideal S128x128 .f32 := k0_pay14 (k0_pay10 D Bi) (k0_pay11 D Bi) (k0_pay12 (F := Ideal) D Bi) (k0_pay13 D Bi)
/-- The running sums of the log decays. -/
def T_acum : FVec Ideal S128x128 .f32 := k0_pay15 LANE k0_pay3 (k0_pay10 D Bi) (k0_pay11 D Bi) (k0_pay12 (F := Ideal) D Bi) (k0_pay13 D Bi) Al
/-- The same, transposed. -/
def T_tr : FVec Ideal S128x128 .f32 := k0_pay16 LANE k0_pay3 (k0_pay10 D Bi) (k0_pay11 D Bi) (k0_pay12 (F := Ideal) D Bi) (k0_pay13 D Bi) Al
/-- Their last row. -/
def T_last : FVec Ideal S1x128 .f32 := k0_pay17 LANE k0_pay3 (k0_pay10 D Bi) (k0_pay11 D Bi) (k0_pay12 (F := Ideal) D Bi) (k0_pay13 D Bi) Al
/-- The inputs times the step lengths. -/
def T_xdt : FVec Ideal S128x512 .f32 := k0_pay18 (k0_pay5 SP) (k0_pay6 Xs) (k0_pay10 D Bi) (k0_pay11 D Bi) (k0_pay12 (F := Ideal) D Bi) (k0_pay13 D Bi)
/-- The same, rounded. -/
def T_xdt16 : FVec Ideal S128x512 .bf16 := k0_pay19 (k0_pay5 SP) (k0_pay6 Xs) (k0_pay10 D Bi) (k0_pay11 D Bi) (k0_pay12 (F := Ideal) D Bi) (k0_pay13 D Bi)
/-- The inputs decayed to the chunk's end. -/
def T_xw : FVec Ideal S128x512 .f32 := k0_pay21 (k0_pay5 SP) (T_xdt D Bi Xs SP)
  (k0_pay20 LANE k0_pay3 (k0_pay10 D Bi) (k0_pay11 D Bi) (k0_pay12 (F := Ideal) D Bi) (k0_pay13 D Bi) Al) (constant S128x512 .f32 0x00000000#32)
/-- The products of the output rows with the input rows. -/
def T_cb : FVec Ideal S128x128 .f32 := k0_pay22 (k0_pay7 Bm) (k0_pay8 Cm)
/-- The part of the rows that the entering state gives, with the skip term. -/
def T_base : FVec Ideal S128x512 .f32 := k0_pay23 (k0_pay5 SP) (k0_pay6 Xs) (k0_pay8 Cm) (T_acum D Bi Al) H8 Dk
/-- The chunk's own addition to the state. -/
def T_inc : FVec Ideal S512x128 .f32 := k0_pay35 (k0_pay7 Bm) (T_xw D Bi Al Xs SP)

/-- The rows of heads 0 and 1. -/
def Y0 : FVec Ideal S1x128x128 .bf16 := k0_pay28 (T_cb Bm Cm) (T_base D Bi Al Xs Cm SP H8 Dk) (k0_pay24 (T_xdt16 D Bi Xs SP))
  (k0_pay25 k0_pay2 k0_pay4 (k0_pay7 Bm) (k0_pay8 Cm) (T_acum D Bi Al) (T_tr D Bi Al) (T_xdt16 D Bi Xs SP))
  (k0_pay26 k0_pay2 (T_acum D Bi Al) (T_tr D Bi Al)) (k0_pay27 k0_pay4) (FloatOps.ofBits FTy.bf16 0#16)
/-- The rows of heads 2 and 3. -/
def Y1 : FVec Ideal S1x128x128 .bf16 := k0_pay30 (k0_pay29 k0_pay2 k0_pay4 (T_acum D Bi Al) (T_tr D Bi Al) (T_xdt16 D Bi Xs SP) (T_cb Bm Cm)
  (T_base D Bi Al Xs Cm SP H8 Dk))
/-- The rows of heads 4 and 5. -/
def Y2 : FVec Ideal S1x128x128 .bf16 := k0_pay31 k0_pay2 k0_pay4 (T_acum D Bi Al) (T_tr D Bi Al) (T_xdt16 D Bi Xs SP) (T_cb Bm Cm)
  (T_base D Bi Al Xs Cm SP H8 Dk)
/-- The rows of heads 6 and 7. -/
def Y3 : FVec Ideal S1x128x128 .bf16 := k0_pay34 k0_pay2 k0_pay4 (T_acum D Bi Al) (T_tr D Bi Al) (T_cb Bm Cm) (T_base D Bi Al Xs Cm SP H8 Dk)
  (k0_pay32 (T_xdt16 D Bi Xs SP)) (k0_pay33 k0_pay2 (T_acum D Bi Al) (T_tr D Bi Al)) (FloatOps.ofBits FTy.bf16 0#16)

/-- The state of head 0. -/
def S0 : FVec Ideal S1x1x64x128 .f32 := k0_pay36 (k0_pay7 Bm) (T_last D Bi Al) (T_xw D Bi Al Xs SP) H1
/-- The state of head 1. -/
def S1 : FVec Ideal S1x1x64x128 .f32 := k0_pay37 (T_last D Bi Al) (T_inc D Bi Al Xs Bm SP) H1
/-- The state of head 2. -/
def S2 : FVec Ideal S1x1x64x128 .f32 := k0_pay38 (T_last D Bi Al) (T_inc D Bi Al Xs Bm SP) H1
/-- The state of head 3. -/
def S3 : FVec Ideal S1x1x64x128 .f32 := k0_pay39 (T_last D Bi Al) (T_inc D Bi Al Xs Bm SP) H1
/-- The state of head 4. -/
def S4 : FVec Ideal S1x1x64x128 .f32 := k0_pay40 (T_last D Bi Al) (T_inc D Bi Al Xs Bm SP) H1
/-- The state of head 5. -/
def S5 : FVec Ideal S1x1x64x128 .f32 := k0_pay41 (T_last D Bi Al) (T_inc D Bi Al Xs Bm SP) H1
/-- The state of head 6. -/
def S6 : FVec Ideal S1x1x64x128 .f32 := k0_pay42 (T_last D Bi Al) (T_inc D Bi Al Xs Bm SP) H1
/-- The state of head 7. -/
def S7 : FVec Ideal S1x1x64x128 .f32 := k0_pay43 (T_last D Bi Al) (T_inc D Bi Al Xs Bm SP) H1

/-- The step length of a lane. -/
abbrev stepAt (r : Fin 128) (s : Fin 128) : EReal := softplus (D (ix2 s r) + Bi (ix3 0 0 r))

/-- The log decay of a lane. -/
abbrev decayAt (r : Fin 128) (s : Fin 128) : EReal := stepAt D Bi r s * -Ideal.exp (Al (ix3 0 0 r))

theorem not_one (v : EReal) : Ideal.cmp .one v v = 0#1 := by
  simp [Ideal.cmp]

theorem step_at (s r : Fin 128) : T_step D Bi (ix2 s r) = stepAt D Bi r s := by
  unfold stepAt softplus
  pointwise [T_step, k0_pay14, k0_pay10, k0_pay11, k0_pay12, k0_pay13, k0_pay9]
  rw [if_neg (fun h => h rfl), zero_sub]

/-- A real number less itself is nothing. -/
theorem sub_self_real {v : EReal} (h : ∃ r : ℝ, v = (r : EReal)) : v - v = 0 := by
  obtain ⟨r, rfl⟩ := h
  rw [← EReal.coe_sub, sub_self, EReal.coe_zero]

/-- The running sum of real numbers is real. -/
theorem cum_real {a : Fin 128 → EReal} (h : ∀ s, ∃ r : ℝ, a s = (r : EReal)) (l : Fin 128) : ∃ r : ℝ, cum a l = (r : EReal) := by
  refine Finset.sum_induction _ (fun v : EReal => ∃ r : ℝ, v = (r : EReal)) ?_ ⟨0, EReal.coe_zero.symm⟩ fun s _ => ?_
  · rintro _ _ ⟨x, rfl⟩ ⟨y, rfl⟩
    exact ⟨x + y, (EReal.coe_add x y).symm⟩
  · split
    · exact h s
    · exact ⟨0, EReal.coe_zero.symm⟩

/-- The exponential of a real number is real. -/
theorem exp_real {v : EReal} (h : ∃ r : ℝ, v = (r : EReal)) : ∃ r : ℝ, Ideal.exp v = (r : EReal) := by
  obtain ⟨r, rfl⟩ := h
  exact ⟨Real.exp r, rfl⟩

theorem lane_low : ∀ r : Fin 128, r.val < 8 → IntOp.cmpi CmpIPredicate.slt (BitVec.ofNat 32 r.val) 8#32 = 1#1 := by decide +kernel

theorem causal : ∀ l x : Fin 128, IntOp.cmpi CmpIPredicate.sge (BitVec.ofNat 32 l.val) (BitVec.ofNat 32 x.val) = if x.val ≤ l.val then 1#1 else 0#1 := by
  decide +kernel

theorem pick_one (x y : EReal) : Scalar.select 1#1 x y = x := rfl

theorem pick_if (p : Prop) [Decidable p] (x y : EReal) : Scalar.select (if p then 1#1 else 0#1) x y = if p then x else y := by
  split <;> rfl

theorem acum_at (l r : Fin 128) (hr : r.val < 8) (hfin : ∀ s, ∃ v : ℝ, decayAt D Bi Al r s = (v : EReal)) :
    T_acum D Bi Al (ix2 l r) = cum (decayAt D Bi Al r) l := by
  have h0 : ∀ s : Fin 128, T_step D Bi (ix2 s r) = stepAt D Bi r s := fun s => step_at D Bi s r
  unfold cum
  unfold T_step at h0
  unfold T_acum k0_pay15
  generalize k0_pay14 (k0_pay10 (F := Ideal) D Bi) (k0_pay11 (F := Ideal) D Bi) (k0_pay12 (F := Ideal) D Bi) (k0_pay13 (F := Ideal) D Bi) = T at h0 ⊢
  pointwise [k0_pay3, k0_pay2]
  have e1 : IntOp.cmpi CmpIPredicate.slt (BitVec.ofNat 32 r.val) 8#32 = 1#1 := lane_low r hr
  have z : ∀ s, T (ix2 s r) * (0 - Ideal.exp (Al (ix3 0 0 r))) = decayAt D Bi Al r s := fun s => by
    show _ = stepAt D Bi r s * -Ideal.exp (Al (ix3 0 0 r))
    rw [h0 s, zero_sub]
  simp only [e1, pick_one, z, sub_self_real (hfin _), sub_self_real ⟨0, EReal.coe_zero.symm⟩, causal, pick_if, ite_self, Finset.sum_const_zero, add_zero]

/-- A row against the repeating matrix, in two halves. -/
theorem spread_sum (hSP : ∀ (k : Fin 256) (j : Fin 512), SP (ix2 k j) = if k.val % 128 = j.val / 64 then 1 else 0) (f g : Fin 128 → EReal) (j : Fin 512) :
    (∑ x : Fin 128, f x * SP (ix2 ⟨x.val, by omega⟩ j)) + (∑ x : Fin 128, g x * SP (ix2 ⟨128 + x.val, by omega⟩ j))
      = f ⟨j.val / 64, by omega⟩ + g ⟨j.val / 64, by omega⟩ := by
  refine congrArg₂ (· + ·) ?_ ?_
  · refine (Finset.sum_eq_single (⟨j.val / 64, by omega⟩ : Fin 128) (fun k _ hk => ?_) (fun h => absurd (Finset.mem_univ _) h)).trans ?_
    · rw [hSP, if_neg (fun e => hk (Fin.ext (by dsimp only at e ⊢; omega))), mul_zero]
    · rw [hSP, if_pos (by dsimp only; omega), mul_one]
  · refine (Finset.sum_eq_single (⟨j.val / 64, by omega⟩ : Fin 128) (fun k _ hk => ?_) (fun h => absurd (Finset.mem_univ _) h)).trans ?_
    · rw [hSP, if_neg (fun e => hk (Fin.ext (by dsimp only at e ⊢; omega))), mul_zero]
    · rw [hSP, if_pos (by dsimp only; omega), mul_one]

theorem xdt_at (hSP : ∀ (k : Fin 256) (j : Fin 512), SP (ix2 k j) = if k.val % 128 = j.val / 64 then 1 else 0)
    (hst : ∀ r : Fin 128, r.val < 8 → ∀ s, ∃ v : ℝ, stepAt D Bi r s = (v : EReal)) (s : Fin 128) (j : Fin 512)
    (e : Fin 128) (he : e.val = j.val / 64) :
    T_xdt D Bi Xs SP (ix2 s j) = Xs (ix3 0 s j) * stepAt D Bi e s := by
  have hj : j.val / 64 < 128 := by clear he; omega
  obtain rfl : e = ⟨j.val / 64, hj⟩ := Fin.ext he
  have h0 : ∀ s r : Fin 128, T_step D Bi (ix2 s r) = stepAt D Bi r s := fun s r => step_at D Bi s r
  unfold T_step at h0
  unfold T_xdt k0_pay18
  generalize k0_pay14 (k0_pay10 (F := Ideal) D Bi) (k0_pay11 (F := Ideal) D Bi) (k0_pay12 (F := Ideal) D Bi) (k0_pay13 (F := Ideal) D Bi) = T at h0 ⊢
  pointwise [k0_pay5, k0_pay6]
  rw [spread_sum SP hSP (fun x => T (ix2 s x)) (fun x => T (ix2 s x) - T (ix2 s x)) j]
  rw [h0, sub_self_real (hst _ (by dsimp only; omega) s), add_zero]

theorem xw_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (s : Fin 128) (j : Fin 512)
    (e : Fin 128) (he : e.val = j.val / 64) :
    T_xw D Bi Al Xs SP (ix2 s j) = Xs (ix3 0 s j) * stepAt D Bi e s
      * Ideal.exp (cum (decayAt D Bi Al e) 127 - cum (decayAt D Bi Al e) s) := by
  have hj : j.val / 64 < 128 := by clear he; omega
  obtain rfl : e = ⟨j.val / 64, hj⟩ := Fin.ext he
  have h0 : ∀ l r : Fin 128, r.val < 8 → T_acum D Bi Al (ix2 l r) = cum (decayAt D Bi Al r) l := fun l r hr => acum_at D Bi Al l r hr (hde r hr)
  have h1 := xdt_at D Bi Xs SP hSP hst s j ⟨j.val / 64, hj⟩ rfl
  unfold T_acum at h0
  unfold T_xw k0_pay21 k0_pay20 k0_pay17
  generalize k0_pay15 LANE k0_pay3 (k0_pay10 (F := Ideal) D Bi) (k0_pay11 (F := Ideal) D Bi) (k0_pay12 (F := Ideal) D Bi) (k0_pay13 (F := Ideal) D Bi) Al = A at h0 ⊢
  generalize T_xdt D Bi Xs SP = T at h1 ⊢
  pointwise [k0_pay5]
  rw [spread_sum SP hSP (fun x => Ideal.exp (A (ix2 127 x) - A (ix2 s x))) (fun x => Ideal.exp (A (ix2 127 x) - A (ix2 s x)) - Ideal.exp (A (ix2 127 x) - A (ix2 s x))) j]
  rw [h1, h0 _ _ (by dsimp only; omega), h0 _ _ (by dsimp only; omega), sub_self_real (exp_real ?_), add_zero]
  obtain ⟨x, hx⟩ := cum_real (hde ⟨j.val / 64, by omega⟩ (by dsimp only; omega)) 127
  obtain ⟨y, hy⟩ := cum_real (hde ⟨j.val / 64, by omega⟩ (by dsimp only; omega)) s
  exact ⟨x - y, by rw [hx, hy, EReal.coe_sub]⟩

theorem base_at (hSP : ∀ (k : Fin 256) (j : Fin 512), SP (ix2 k j) = if k.val % 128 = j.val / 64 then 1 else 0)
    (hde : ∀ r : Fin 128, r.val < 8 → ∀ s, ∃ v : ℝ, decayAt D Bi Al r s = (v : EReal)) (l : Fin 128) (j : Fin 512)
    (e : Fin 128) (he : e.val = j.val / 64) :
    T_base D Bi Al Xs Cm SP H8 Dk (ix2 l j) = (∑ k : Fin 128, Cm (ix3 0 l k) * H8 (ix4 0 ⟨j.val / 64, by omega⟩ ⟨j.val % 64, by omega⟩ k))
      * Ideal.exp (cum (decayAt D Bi Al e) l) + Dk (ix3 0 0 j) * Xs (ix3 0 l j) := by
  have hj : j.val / 64 < 128 := by clear he; omega
  obtain rfl : e = ⟨j.val / 64, hj⟩ := Fin.ext he
  have h0 : ∀ l r : Fin 128, r.val < 8 → T_acum D Bi Al (ix2 l r) = cum (decayAt D Bi Al r) l := fun l r hr => acum_at D Bi Al l r hr (hde r hr)
  unfold T_base k0_pay23
  generalize T_acum D Bi Al = A at h0 ⊢
  pointwise [k0_pay5, k0_pay6, k0_pay8]
  rw [spread_sum SP hSP (fun x => Ideal.exp (A (ix2 l x))) (fun x => Ideal.exp (A (ix2 l x)) - Ideal.exp (A (ix2 l x))) j]
  rw [h0 _ _ (by dsimp only; omega), sub_self_real (exp_real (cum_real (hde _ (by dsimp only; omega)) l)), add_zero]

theorem half_low : ∀ q : Fin 128, q.val < 64 → IntOp.cmpi CmpIPredicate.slt (BitVec.ofNat 32 q.val) 64#32 = 1#1 := by decide +kernel

theorem half_high : ∀ q : Fin 128, ¬ q.val < 64 → IntOp.cmpi CmpIPredicate.slt (BitVec.ofNat 32 q.val) 64#32 = 0#1 := by decide +kernel

theorem flip_one : IntOp.xori (1#1) (1#1) = 0#1 := by decide
theorem flip_zero : IntOp.xori (0#1) (1#1) = 1#1 := by decide

theorem pick_zero (x y : EReal) : Scalar.select 0#1 x y = y := rfl

/-- The kernel's order of the state's terms. -/
theorem state_arrange (a X B : Fin 128 → EReal) (h : EReal) :
    h * Ideal.exp (cum a 127) + (∑ x : Fin 128, X x * Ideal.exp (cum a 127 - cum a x) * B x) = stateOut a X B h := by
  unfold stateOut
  refine congrArg₂ (· + ·) rfl (Finset.sum_congr rfl fun x _ => ?_)
  rw [mul_comm (X x)]

/-- The kernel's order of a row's terms. -/
theorem row_arrange (a X : Fin 128 → EReal) (B C : Fin 128 → Fin 128 → EReal) (skip : EReal) (h : Fin 128 → EReal) (l : Fin 128) :
    (∑ k : Fin 128, C l k * h k) * Ideal.exp (cum a l) + skip
      + (∑ x : Fin 128, (∑ k : Fin 128, C l k * B x k) * Ideal.exp (if x.val ≤ l.val then cum a l - cum a x else Ideal.ofBits .f32 0xFF800000#32) * X x)
      = rowOut a X B C skip h l := by
  unfold rowOut fade
  rw [add_comm, ← add_assoc]
  refine congrArg₂ (· + ·) (congrArg₂ (· + ·) (Finset.sum_congr rfl fun x _ => ?_) (congrArg (· * _) (Finset.sum_congr rfl fun k _ => mul_comm _ _))) rfl
  rw [mul_comm _ (X x)]
  exact congrArg (X x * ·) (congrArg (· * _) (Finset.sum_congr rfl fun k _ => mul_comm _ _))

theorem S0_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S0 D Bi Al Xs Bm SP H1 (ix4 0 0 p q) = stateOut (decayAt D Bi Al 0) (fun s => Xs (ix3 0 s ⟨p.val, by omega⟩) * stepAt D Bi 0 s)
      (fun s => Bm (ix3 0 s q)) (H1 (ix4 0 0 p q)) := by
  have h0 := acum_at D Bi Al 127 0 (by decide) (hde 0 (by decide))
  unfold T_acum at h0
  have h1 := fun s => xw_at D Bi Al Xs SP hSP hst hde s ⟨p.val, by omega⟩ 0 (by show 0 = _; dsimp only; omega)
  rw [← state_arrange]
  pointwise [S0, k0_pay36, k0_pay35, k0_pay7, T_last, k0_pay17]
  rw [h0]
  refine congrArg₂ (· + ·) rfl (Finset.sum_congr rfl fun x _ => ?_)
  rw [h1]

theorem S1_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S1 D Bi Al Xs Bm SP H1 (ix4 0 0 p q) = stateOut (decayAt D Bi Al 1) (fun s => Xs (ix3 0 s ⟨64 + p.val, by omega⟩) * stepAt D Bi 1 s)
      (fun s => Bm (ix3 0 s q)) (H1 (ix4 0 0 p q)) := by
  have h0 := acum_at D Bi Al 127 1 (by decide) (hde 1 (by decide))
  unfold T_acum at h0
  have h1 := fun s => xw_at D Bi Al Xs SP hSP hst hde s ⟨64 + p.val, by omega⟩ 1 (by show 1 = _; dsimp only; omega)
  rw [← state_arrange]
  pointwise [S1, k0_pay37, T_inc, k0_pay35, k0_pay7, T_last, k0_pay17]
  rw [h0]
  refine congrArg₂ (· + ·) rfl (Finset.sum_congr rfl fun x _ => ?_)
  rw [h1]

theorem S2_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S2 D Bi Al Xs Bm SP H1 (ix4 0 0 p q) = stateOut (decayAt D Bi Al 2) (fun s => Xs (ix3 0 s ⟨128 + p.val, by omega⟩) * stepAt D Bi 2 s)
      (fun s => Bm (ix3 0 s q)) (H1 (ix4 0 0 p q)) := by
  have h0 := acum_at D Bi Al 127 2 (by decide) (hde 2 (by decide))
  unfold T_acum at h0
  have h1 := fun s => xw_at D Bi Al Xs SP hSP hst hde s ⟨128 + p.val, by omega⟩ 2 (by show 2 = _; dsimp only; omega)
  rw [← state_arrange]
  pointwise [S2, k0_pay38, T_inc, k0_pay35, k0_pay7, T_last, k0_pay17]
  rw [h0]
  refine congrArg₂ (· + ·) rfl (Finset.sum_congr rfl fun x _ => ?_)
  rw [h1]

theorem S3_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S3 D Bi Al Xs Bm SP H1 (ix4 0 0 p q) = stateOut (decayAt D Bi Al 3) (fun s => Xs (ix3 0 s ⟨192 + p.val, by omega⟩) * stepAt D Bi 3 s)
      (fun s => Bm (ix3 0 s q)) (H1 (ix4 0 0 p q)) := by
  have h0 := acum_at D Bi Al 127 3 (by decide) (hde 3 (by decide))
  unfold T_acum at h0
  have h1 := fun s => xw_at D Bi Al Xs SP hSP hst hde s ⟨192 + p.val, by omega⟩ 3 (by show 3 = _; dsimp only; omega)
  rw [← state_arrange]
  pointwise [S3, k0_pay39, T_inc, k0_pay35, k0_pay7, T_last, k0_pay17]
  rw [h0]
  refine congrArg₂ (· + ·) rfl (Finset.sum_congr rfl fun x _ => ?_)
  rw [h1]

theorem S4_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S4 D Bi Al Xs Bm SP H1 (ix4 0 0 p q) = stateOut (decayAt D Bi Al 4) (fun s => Xs (ix3 0 s ⟨256 + p.val, by omega⟩) * stepAt D Bi 4 s)
      (fun s => Bm (ix3 0 s q)) (H1 (ix4 0 0 p q)) := by
  have h0 := acum_at D Bi Al 127 4 (by decide) (hde 4 (by decide))
  unfold T_acum at h0
  have h1 := fun s => xw_at D Bi Al Xs SP hSP hst hde s ⟨256 + p.val, by omega⟩ 4 (by show 4 = _; dsimp only; omega)
  rw [← state_arrange]
  pointwise [S4, k0_pay40, T_inc, k0_pay35, k0_pay7, T_last, k0_pay17]
  rw [h0]
  refine congrArg₂ (· + ·) rfl (Finset.sum_congr rfl fun x _ => ?_)
  rw [h1]

theorem S5_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S5 D Bi Al Xs Bm SP H1 (ix4 0 0 p q) = stateOut (decayAt D Bi Al 5) (fun s => Xs (ix3 0 s ⟨320 + p.val, by omega⟩) * stepAt D Bi 5 s)
      (fun s => Bm (ix3 0 s q)) (H1 (ix4 0 0 p q)) := by
  have h0 := acum_at D Bi Al 127 5 (by decide) (hde 5 (by decide))
  unfold T_acum at h0
  have h1 := fun s => xw_at D Bi Al Xs SP hSP hst hde s ⟨320 + p.val, by omega⟩ 5 (by show 5 = _; dsimp only; omega)
  rw [← state_arrange]
  pointwise [S5, k0_pay41, T_inc, k0_pay35, k0_pay7, T_last, k0_pay17]
  rw [h0]
  refine congrArg₂ (· + ·) rfl (Finset.sum_congr rfl fun x _ => ?_)
  rw [h1]

theorem S6_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S6 D Bi Al Xs Bm SP H1 (ix4 0 0 p q) = stateOut (decayAt D Bi Al 6) (fun s => Xs (ix3 0 s ⟨384 + p.val, by omega⟩) * stepAt D Bi 6 s)
      (fun s => Bm (ix3 0 s q)) (H1 (ix4 0 0 p q)) := by
  have h0 := acum_at D Bi Al 127 6 (by decide) (hde 6 (by decide))
  unfold T_acum at h0
  have h1 := fun s => xw_at D Bi Al Xs SP hSP hst hde s ⟨384 + p.val, by omega⟩ 6 (by show 6 = _; dsimp only; omega)
  rw [← state_arrange]
  pointwise [S6, k0_pay42, T_inc, k0_pay35, k0_pay7, T_last, k0_pay17]
  rw [h0]
  refine congrArg₂ (· + ·) rfl (Finset.sum_congr rfl fun x _ => ?_)
  rw [h1]

theorem S7_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (p : Fin 64) (q : Fin 128) :
    S7 D Bi Al Xs Bm SP H1 (ix4 0 0 p q) = stateOut (decayAt D Bi Al 7) (fun s => Xs (ix3 0 s ⟨448 + p.val, by omega⟩) * stepAt D Bi 7 s)
      (fun s => Bm (ix3 0 s q)) (H1 (ix4 0 0 p q)) := by
  have h0 := acum_at D Bi Al 127 7 (by decide) (hde 7 (by decide))
  unfold T_acum at h0
  have h1 := fun s => xw_at D Bi Al Xs SP hSP hst hde s ⟨448 + p.val, by omega⟩ 7 (by show 7 = _; dsimp only; omega)
  rw [← state_arrange]
  pointwise [S7, k0_pay43, T_inc, k0_pay35, k0_pay7, T_last, k0_pay17]
  rw [h0]
  refine congrArg₂ (· + ·) rfl (Finset.sum_congr rfl fun x _ => ?_)
  rw [h1]

theorem Y0_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (l q : Fin 128) (e : Fin 8) (he : e.val = 0 + q.val / 64) :
    Y0 D Bi Al Xs Bm Cm SP H8 Dk (ix3 0 l q) = rowOut (decayAt D Bi Al ⟨e.val, by omega⟩) (fun s => Xs (ix3 0 s ⟨q.val, by omega⟩) * stepAt D Bi ⟨e.val, by omega⟩ s)
      (fun s k => Bm (ix3 0 s k)) (fun s k => Cm (ix3 0 s k)) (Dk (ix3 0 0 ⟨q.val, by omega⟩) * Xs (ix3 0 l ⟨q.val, by omega⟩))
      (fun k => H8 (ix4 0 e ⟨q.val % 64, by omega⟩ k)) l := by
  have hb := base_at D Bi Al Xs Cm SP H8 Dk hSP hde l ⟨q.val, by omega⟩ ⟨e.val, by omega⟩ (by dsimp only; omega)
  have hx := fun s => xdt_at D Bi Xs SP hSP hst s ⟨q.val, by omega⟩ ⟨e.val, by omega⟩ (by dsimp only; omega)
  have ha := fun l => acum_at D Bi Al l ⟨e.val, by omega⟩ (by dsimp only; omega) (hde ⟨e.val, by omega⟩ (by dsimp only; omega))
  have e1 : (⟨(0 + q.val) / 64, by omega⟩ : Fin 8) = e := Fin.ext (by dsimp only; omega)
  have e2 : (⟨(0 + q.val) % 64, by omega⟩ : Fin 64) = ⟨q.val % 64, by omega⟩ := Fin.ext (by dsimp only; omega)
  have hb' : T_base D Bi Al Xs Cm SP H8 Dk (ix2 l ⟨q.val, by omega⟩) = (∑ k : Fin 128, Cm (ix3 0 l k) * H8 (ix4 0 e ⟨q.val % 64, by omega⟩ k))
      * Ideal.exp (cum (decayAt D Bi Al ⟨e.val, by omega⟩) l) + Dk (ix3 0 0 ⟨q.val, by omega⟩) * Xs (ix3 0 l ⟨q.val, by omega⟩) := by
    rw [hb]
    refine congrArg₂ (· + ·) (congrArg (· * _) (Finset.sum_congr rfl fun k _ => ?_)) rfl
    refine congrArg (Cm (ix3 0 l k) * ·) (congrArg H8 ?_)
    exact congrArg₂ (fun a b => ix4 0 a b k) (Fin.ext (by dsimp only; omega)) (Fin.ext (by first | rfl | (dsimp only; omega)))
  rw [← row_arrange]
  unfold Y0 T_tr k0_pay16 T_xdt16 k0_pay19
  rw [← T_acum, ← T_xdt]
  pointwise [k0_pay28, k0_pay24, k0_pay25, k0_pay26, k0_pay27, T_cb, k0_pay22, k0_pay7, k0_pay8, k0_pay2, k0_pay4]
  rw [hb']
  by_cases hq : q.val < 64
  · have ee : (⟨e.val, by omega⟩ : Fin 128) = 0 := Fin.ext (by show e.val = 0; omega)
    rw [ee] at ha hx ⊢
    simp only [half_low q hq, flip_one, pick_one, pick_zero, Finset.sum_const_zero, add_zero, zero_add, causal, pick_if, ha, hx]
  · have ee : (⟨e.val, by omega⟩ : Fin 128) = 1 := Fin.ext (by show e.val = 1; omega)
    rw [ee] at ha hx ⊢
    simp only [half_high q hq, flip_zero, pick_one, pick_zero, Finset.sum_const_zero, add_zero, zero_add, causal, pick_if, ha, hx]

theorem Y1_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (l q : Fin 128) (e : Fin 8) (he : e.val = 2 + q.val / 64) :
    Y1 D Bi Al Xs Bm Cm SP H8 Dk (ix3 0 l q) = rowOut (decayAt D Bi Al ⟨e.val, by omega⟩) (fun s => Xs (ix3 0 s ⟨128 + q.val, by omega⟩) * stepAt D Bi ⟨e.val, by omega⟩ s)
      (fun s k => Bm (ix3 0 s k)) (fun s k => Cm (ix3 0 s k)) (Dk (ix3 0 0 ⟨128 + q.val, by omega⟩) * Xs (ix3 0 l ⟨128 + q.val, by omega⟩))
      (fun k => H8 (ix4 0 e ⟨q.val % 64, by omega⟩ k)) l := by
  have hb := base_at D Bi Al Xs Cm SP H8 Dk hSP hde l ⟨128 + q.val, by omega⟩ ⟨e.val, by omega⟩ (by dsimp only; omega)
  have hx := fun s => xdt_at D Bi Xs SP hSP hst s ⟨128 + q.val, by omega⟩ ⟨e.val, by omega⟩ (by dsimp only; omega)
  have ha := fun l => acum_at D Bi Al l ⟨e.val, by omega⟩ (by dsimp only; omega) (hde ⟨e.val, by omega⟩ (by dsimp only; omega))
  have e1 : (⟨(128 + q.val) / 64, by omega⟩ : Fin 8) = e := Fin.ext (by dsimp only; omega)
  have e2 : (⟨(128 + q.val) % 64, by omega⟩ : Fin 64) = ⟨q.val % 64, by omega⟩ := Fin.ext (by dsimp only; omega)
  have hb' : T_base D Bi Al Xs Cm SP H8 Dk (ix2 l ⟨128 + q.val, by omega⟩) = (∑ k : Fin 128, Cm (ix3 0 l k) * H8 (ix4 0 e ⟨q.val % 64, by omega⟩ k))
      * Ideal.exp (cum (decayAt D Bi Al ⟨e.val, by omega⟩) l) + Dk (ix3 0 0 ⟨128 + q.val, by omega⟩) * Xs (ix3 0 l ⟨128 + q.val, by omega⟩) := by
    rw [hb]
    refine congrArg₂ (· + ·) (congrArg (· * _) (Finset.sum_congr rfl fun k _ => ?_)) rfl
    refine congrArg (Cm (ix3 0 l k) * ·) (congrArg H8 ?_)
    exact congrArg₂ (fun a b => ix4 0 a b k) (Fin.ext (by dsimp only; omega)) (Fin.ext (by first | rfl | (dsimp only; omega)))
  rw [← row_arrange]
  unfold Y1 T_tr k0_pay16 T_xdt16 k0_pay19
  rw [← T_acum, ← T_xdt]
  pointwise [k0_pay30, k0_pay29, T_cb, k0_pay22, k0_pay7, k0_pay8, k0_pay2, k0_pay4]
  rw [hb']
  by_cases hq : q.val < 64
  · have ee : (⟨e.val, by omega⟩ : Fin 128) = 2 := Fin.ext (by show e.val = 2; omega)
    rw [ee] at ha hx ⊢
    simp only [half_low q hq, flip_one, pick_one, pick_zero, Finset.sum_const_zero, add_zero, zero_add, causal, pick_if, ha, hx]
  · have ee : (⟨e.val, by omega⟩ : Fin 128) = 3 := Fin.ext (by show e.val = 3; omega)
    rw [ee] at ha hx ⊢
    simp only [half_high q hq, flip_zero, pick_one, pick_zero, Finset.sum_const_zero, add_zero, zero_add, causal, pick_if, ha, hx]

theorem Y2_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (l q : Fin 128) (e : Fin 8) (he : e.val = 4 + q.val / 64) :
    Y2 D Bi Al Xs Bm Cm SP H8 Dk (ix3 0 l q) = rowOut (decayAt D Bi Al ⟨e.val, by omega⟩) (fun s => Xs (ix3 0 s ⟨256 + q.val, by omega⟩) * stepAt D Bi ⟨e.val, by omega⟩ s)
      (fun s k => Bm (ix3 0 s k)) (fun s k => Cm (ix3 0 s k)) (Dk (ix3 0 0 ⟨256 + q.val, by omega⟩) * Xs (ix3 0 l ⟨256 + q.val, by omega⟩))
      (fun k => H8 (ix4 0 e ⟨q.val % 64, by omega⟩ k)) l := by
  have hb := base_at D Bi Al Xs Cm SP H8 Dk hSP hde l ⟨256 + q.val, by omega⟩ ⟨e.val, by omega⟩ (by dsimp only; omega)
  have hx := fun s => xdt_at D Bi Xs SP hSP hst s ⟨256 + q.val, by omega⟩ ⟨e.val, by omega⟩ (by dsimp only; omega)
  have ha := fun l => acum_at D Bi Al l ⟨e.val, by omega⟩ (by dsimp only; omega) (hde ⟨e.val, by omega⟩ (by dsimp only; omega))
  have e1 : (⟨(256 + q.val) / 64, by omega⟩ : Fin 8) = e := Fin.ext (by dsimp only; omega)
  have e2 : (⟨(256 + q.val) % 64, by omega⟩ : Fin 64) = ⟨q.val % 64, by omega⟩ := Fin.ext (by dsimp only; omega)
  have hb' : T_base D Bi Al Xs Cm SP H8 Dk (ix2 l ⟨256 + q.val, by omega⟩) = (∑ k : Fin 128, Cm (ix3 0 l k) * H8 (ix4 0 e ⟨q.val % 64, by omega⟩ k))
      * Ideal.exp (cum (decayAt D Bi Al ⟨e.val, by omega⟩) l) + Dk (ix3 0 0 ⟨256 + q.val, by omega⟩) * Xs (ix3 0 l ⟨256 + q.val, by omega⟩) := by
    rw [hb]
    refine congrArg₂ (· + ·) (congrArg (· * _) (Finset.sum_congr rfl fun k _ => ?_)) rfl
    refine congrArg (Cm (ix3 0 l k) * ·) (congrArg H8 ?_)
    exact congrArg₂ (fun a b => ix4 0 a b k) (Fin.ext (by dsimp only; omega)) (Fin.ext (by first | rfl | (dsimp only; omega)))
  rw [← row_arrange]
  unfold Y2 T_tr k0_pay16 T_xdt16 k0_pay19
  rw [← T_acum, ← T_xdt]
  pointwise [k0_pay31, T_cb, k0_pay22, k0_pay7, k0_pay8, k0_pay2, k0_pay4]
  rw [hb']
  by_cases hq : q.val < 64
  · have ee : (⟨e.val, by omega⟩ : Fin 128) = 4 := Fin.ext (by show e.val = 4; omega)
    rw [ee] at ha hx ⊢
    simp only [half_low q hq, flip_one, pick_one, pick_zero, Finset.sum_const_zero, add_zero, zero_add, causal, pick_if, ha, hx]
  · have ee : (⟨e.val, by omega⟩ : Fin 128) = 5 := Fin.ext (by show e.val = 5; omega)
    rw [ee] at ha hx ⊢
    simp only [half_high q hq, flip_zero, pick_one, pick_zero, Finset.sum_const_zero, add_zero, zero_add, causal, pick_if, ha, hx]

theorem Y3_at (hSP : ∀ (k : Fin 256) (j : Fin 512), SP (ix2 k j) = if k.val % 128 = j.val / 64 then 1 else 0)
    (hst : ∀ r : Fin 128, r.val < 8 → ∀ s, ∃ v : ℝ, stepAt D Bi r s = (v : EReal))
    (hde : ∀ r : Fin 128, r.val < 8 → ∀ s, ∃ v : ℝ, decayAt D Bi Al r s = (v : EReal)) (l q : Fin 128) (e : Fin 8) (he : e.val = 6 + q.val / 64) :
    Y3 D Bi Al Xs Bm Cm SP H8 Dk (ix3 0 l q) = rowOut (decayAt D Bi Al ⟨e.val, by omega⟩) (fun s => Xs (ix3 0 s ⟨384 + q.val, by omega⟩) * stepAt D Bi ⟨e.val, by omega⟩ s)
      (fun s k => Bm (ix3 0 s k)) (fun s k => Cm (ix3 0 s k)) (Dk (ix3 0 0 ⟨384 + q.val, by omega⟩) * Xs (ix3 0 l ⟨384 + q.val, by omega⟩))
      (fun k => H8 (ix4 0 e ⟨q.val % 64, by omega⟩ k)) l := by
  have hb := base_at D Bi Al Xs Cm SP H8 Dk hSP hde l ⟨384 + q.val, by omega⟩ ⟨e.val, by omega⟩ (by dsimp only; omega)
  have hx := fun s => xdt_at D Bi Xs SP hSP hst s ⟨384 + q.val, by omega⟩ ⟨e.val, by omega⟩ (by dsimp only; omega)
  have ha := fun l => acum_at D Bi Al l ⟨e.val, by omega⟩ (by dsimp only; omega) (hde ⟨e.val, by omega⟩ (by dsimp only; omega))
  have e1 : (⟨(384 + q.val) / 64, by omega⟩ : Fin 8) = e := Fin.ext (by dsimp only; omega)
  have e2 : (⟨(384 + q.val) % 64, by omega⟩ : Fin 64) = ⟨q.val % 64, by omega⟩ := Fin.ext (by dsimp only; omega)
  have hb' : T_base D Bi Al Xs Cm SP H8 Dk (ix2 l ⟨384 + q.val, by omega⟩) = (∑ k : Fin 128, Cm (ix3 0 l k) * H8 (ix4 0 e ⟨q.val % 64, by omega⟩ k))
      * Ideal.exp (cum (decayAt D Bi Al ⟨e.val, by omega⟩) l) + Dk (ix3 0 0 ⟨384 + q.val, by omega⟩) * Xs (ix3 0 l ⟨384 + q.val, by omega⟩) := by
    rw [hb]
    refine congrArg₂ (· + ·) (congrArg (· * _) (Finset.sum_congr rfl fun k _ => ?_)) rfl
    refine congrArg (Cm (ix3 0 l k) * ·) (congrArg H8 ?_)
    exact congrArg₂ (fun a b => ix4 0 a b k) (Fin.ext (by dsimp only; omega)) (Fin.ext (by first | rfl | (dsimp only; omega)))
  rw [← row_arrange]
  unfold Y3 T_tr k0_pay16 T_xdt16 k0_pay19
  rw [← T_acum, ← T_xdt]
  pointwise [k0_pay34, k0_pay32, k0_pay33, T_cb, k0_pay22, k0_pay7, k0_pay8, k0_pay2, k0_pay4]
  rw [hb']
  by_cases hq : q.val < 64
  · have ee : (⟨e.val, by omega⟩ : Fin 128) = 6 := Fin.ext (by show e.val = 6; omega)
    rw [ee] at ha hx ⊢
    simp only [half_low q hq, flip_one, pick_one, pick_zero, Finset.sum_const_zero, add_zero, zero_add, causal, pick_if, ha, hx]
  · have ee : (⟨e.val, by omega⟩ : Fin 128) = 7 := Fin.ext (by show e.val = 7; omega)
    rw [ee] at ha hx ⊢
    simp only [half_high q hq, flip_zero, pick_one, pick_zero, Finset.sum_const_zero, add_zero, zero_add, causal, pick_if, ha, hx]

end Cert.SsdIdeal.Tiles

end
-- ==== Proof.SsdGroup.lean ====
/-
  The tiles of one group of heads at one grid point, when the point's blocks hold the layer's arguments of a sequence
  and a chunk: the recurrence's states and rows.
-/
module

public import proofs.«01_k».proof.Proof.SsdSpec
public import proofs.«01_k».proof.Proof.SsdTiles

@[expose] public section

set_option maxRecDepth 16384

noncomputable section

open Idealize.ShloMosaic Idealize.ShloMosaic.TcCoe

namespace Cert.SsdChunk

/-- The step lengths' arguments are real numbers. -/
structure Args.Real (A : Args) : Prop where
  dt : ∀ n s h, ∃ v : ℝ, A.dt n s h = (v : EReal)
  bias : ∀ h, ∃ v : ℝ, A.bias h = (v : EReal)
  alog : ∀ h, ∃ v : ℝ, A.alog h = (v : EReal)

/-- The softplus of a real number is one. -/
theorem softplus_real (v : ℝ) : ∃ w : ℝ, softplus (v : EReal) = (w : EReal) := by
  refine ⟨max v 0 + Real.log (1 + Real.exp (-|v|)), ?_⟩
  unfold softplus
  have e1 : FloatOps.absf (F := Ideal) (φ := .f32) (v : EReal) = ((|v| : ℝ) : EReal) := by
    show max (v : EReal) (-(v : EReal)) = _
    rw [← EReal.coe_neg, abs_eq_max_neg]
    exact (EReal.coe_strictMono.monotone.map_max).symm
  have e2 : (1 : EReal) + ((Real.exp (-|v|) : ℝ) : EReal) = ((1 + Real.exp (-|v|) : ℝ) : EReal) := by
    rw [EReal.coe_add, EReal.coe_one]
  have e3 : ¬ 1 + Real.exp (-|v|) ≤ 0 := not_le.mpr (by positivity)
  have e4 : max (v : EReal) 0 = ((max v 0 : ℝ) : EReal) := (EReal.coe_strictMono.monotone.map_max (a := v) (b := 0)).symm
  rw [e1, ← EReal.coe_neg, Ideal.exp_coe, Ideal.log1p, e2, Ideal.log_coe, if_neg e3, e4, ← EReal.coe_add]

theorem Args.Real.step {A : Args} (h : A.Real) (n : Fin 4) (k : Fin 32) (g : Fin 4) (e : Fin 8) (s : Fin 128) : ∃ v : ℝ, A.step n k g e s = (v : EReal) := by
  obtain ⟨a, ha⟩ := h.dt n (Args.at_ k s) (Args.head g e)
  obtain ⟨b, hb⟩ := h.bias (Args.head g e)
  unfold Args.step
  rw [ha, hb, ← EReal.coe_add]
  exact softplus_real _

theorem Args.Real.decay {A : Args} (h : A.Real) (n : Fin 4) (k : Fin 32) (g : Fin 4) (e : Fin 8) (s : Fin 128) : ∃ v : ℝ, A.decay n k g e s = (v : EReal) := by
  obtain ⟨a, ha⟩ := h.step n k g e s
  obtain ⟨b, hb⟩ := h.alog (Args.head g e)
  unfold Args.decay
  rw [ha, hb, Ideal.exp_coe, ← EReal.coe_neg, ← EReal.coe_mul]
  exact ⟨_, rfl⟩

end Cert.SsdChunk

namespace Cert.SsdIdeal.Tiles

open Cert.SsdIdeal Cert.SsdIdeal.Gen Cert.SsdChunk

/-- The blocks of a group at a point hold the layer's arguments of sequence `n`, chunk `k` and group `g`. -/
structure Reads (A : Args) (n : Fin 4) (k : Fin 32) (g : Fin 4) (D : S128x128.Idx → EReal) (Bi Al : S1x1x128.Idx → EReal)
    (Xs : S1x128x512.Idx → EReal) (Bm Cm : S1x128x128.Idx → EReal) (SP : S256x512.Idx → EReal) (Dk : S1x1x512.Idx → EReal) : Prop where
  real : A.Real
  d : ∀ (s : Fin 128) (r : Fin 8), D (ix2 s ⟨r.val, by omega⟩) = A.dt n (Args.at_ k s) (Args.head g r)
  bi : ∀ r : Fin 8, Bi (ix3 0 0 ⟨r.val, by omega⟩) = A.bias (Args.head g r)
  al : ∀ r : Fin 8, Al (ix3 0 0 ⟨r.val, by omega⟩) = A.alog (Args.head g r)
  xs : ∀ (s : Fin 128) (j : Fin 512), Xs (ix3 0 s j) = A.x n (Args.at_ k s) ⟨g.val * 512 + j.val, by omega⟩
  bm : ∀ s q : Fin 128, Bm (ix3 0 s q) = A.inB n k g s q
  cm : ∀ s q : Fin 128, Cm (ix3 0 s q) = A.outC n k g s q
  sp : ∀ (i : Fin 256) (j : Fin 512), SP (ix2 i j) = if i.val % 128 = j.val / 64 then 1 else 0
  dk : ∀ j : Fin 512, Dk (ix3 0 0 j) = A.skip (Args.head g ⟨j.val / 64, by omega⟩)

variable {A : Args} {n : Fin 4} {k : Fin 32} {g : Fin 4} {D : S128x128.Idx → EReal} {Bi Al : S1x1x128.Idx → EReal}
    {Xs : S1x128x512.Idx → EReal} {Bm Cm : S1x128x128.Idx → EReal} {SP : S256x512.Idx → EReal} {Dk : S1x1x512.Idx → EReal}

theorem Reads.stepAt (h : Reads A n k g D Bi Al Xs Bm Cm SP Dk) (r : Fin 8) (s : Fin 128) :
    Tiles.stepAt D Bi ⟨r.val, by omega⟩ s = A.step n k g r s := by
  unfold Args.step
  rw [← h.d s r, ← h.bi r]

theorem Reads.decayAt (h : Reads A n k g D Bi Al Xs Bm Cm SP Dk) (r : Fin 8) (s : Fin 128) :
    Tiles.decayAt D Bi Al ⟨r.val, by omega⟩ s = A.decay n k g r s := by
  unfold Args.decay
  rw [← h.stepAt r s, ← h.al r]

theorem Reads.hst (h : Reads A n k g D Bi Al Xs Bm Cm SP Dk) (r : Fin 128) (hr : r.val < 8) (s : Fin 128) : ∃ v : ℝ, Tiles.stepAt D Bi r s = (v : EReal) := by
  have e := h.stepAt ⟨r.val, hr⟩ s
  exact e ▸ h.real.step n k g ⟨r.val, hr⟩ s

theorem Reads.hde (h : Reads A n k g D Bi Al Xs Bm Cm SP Dk) (r : Fin 128) (hr : r.val < 8) (s : Fin 128) : ∃ v : ℝ, Tiles.decayAt D Bi Al r s = (v : EReal) := by
  have e := h.decayAt ⟨r.val, hr⟩ s
  exact e ▸ h.real.decay n k g ⟨r.val, hr⟩ s

theorem Reads.input (h : Reads A n k g D Bi Al Xs Bm Cm SP Dk) (e : Fin 8) (p : Fin 64) (j : Fin 512) (hj : j.val = e.val * 64 + p.val) (s : Fin 128) :
    Xs (ix3 0 s j) * Tiles.stepAt D Bi ⟨e.val, by omega⟩ s = A.input n k g e p s := by
  unfold Args.input
  rw [h.stepAt e s, h.xs s j]
  refine congrArg (A.x n (Args.at_ k s) · * _) (Fin.ext ?_)
  show g.val * 512 + j.val = g.val * 512 + e.val * 64 + p.val
  omega

/-- A head's state tile from the chunk's arguments and the entering state. -/
theorem Reads.state (h : Reads A n k g D Bi Al Xs Bm Cm SP Dk) (e : Fin 8) (p : Fin 64) (q : Fin 128) (j : Fin 512) (hj : j.val = e.val * 64 + p.val)
    (y : EReal) (hy : y = A.state n g e p q k.val) :
    stateOut (Tiles.decayAt D Bi Al ⟨e.val, by omega⟩) (fun s => Xs (ix3 0 s j) * Tiles.stepAt D Bi ⟨e.val, by omega⟩ s) (fun s => Bm (ix3 0 s q)) y
      = A.state n g e p q (k.val + 1) := by
  rw [A.state_succ, hy, show Tiles.decayAt D Bi Al ⟨e.val, by omega⟩ = A.decay n k g e from funext fun s => h.decayAt e s,
    show (fun s => Xs (ix3 0 s j) * Tiles.stepAt D Bi ⟨e.val, by omega⟩ s) = A.input n k g e p from funext fun s => h.input e p j hj s,
    show (fun s => Bm (ix3 0 s q)) = fun s => A.inB n k g s q from funext fun s => h.bm s q]

/-- A head's row tile from the chunk's arguments and the entering state. -/
theorem Reads.row (h : Reads A n k g D Bi Al Xs Bm Cm SP Dk) (e : Fin 8) (p : Fin 64) (l : Fin 128) (j : Fin 512) (hj : j.val = e.val * 64 + p.val)
    (H : Fin 128 → EReal) (hH : ∀ q, H q = A.state n g e p q k.val) :
    rowOut (Tiles.decayAt D Bi Al ⟨e.val, by omega⟩) (fun s => Xs (ix3 0 s j) * Tiles.stepAt D Bi ⟨e.val, by omega⟩ s) (fun s i => Bm (ix3 0 s i)) (fun s i => Cm (ix3 0 s i))
      (Dk (ix3 0 0 j) * Xs (ix3 0 l j)) H l = A.row n k g e p l := by
  have es : Dk (ix3 0 0 j) * Xs (ix3 0 l j) = A.skipped n k g e p l := by
    unfold Args.skipped
    rw [h.dk j, h.xs l j]
    have e1 : (⟨j.val / 64, by omega⟩ : Fin 8) = e := Fin.ext (by show j.val / 64 = e.val; omega)
    have e2 : (⟨g.val * 512 + j.val, by omega⟩ : Fin 3072) = Args.chan g e p := Fin.ext (by show g.val * 512 + j.val = g.val * 512 + e.val * 64 + p.val; omega)
    rw [e1, e2]
  unfold Args.row
  rw [es, show H = (fun q => A.state n g e p q k.val) from funext hH, show Tiles.decayAt D Bi Al ⟨e.val, by omega⟩ = A.decay n k g e from funext fun s => h.decayAt e s,
    show (fun s => Xs (ix3 0 s j) * Tiles.stepAt D Bi ⟨e.val, by omega⟩ s) = A.input n k g e p from funext fun s => h.input e p j hj s,
    show (fun s i => Bm (ix3 0 s i)) = A.inB n k g from funext fun s => funext fun q => h.bm s q,
    show (fun s i => Cm (ix3 0 s i)) = A.outC n k g from funext fun s => funext fun q => h.cm s q]

theorem Reads.S0 (h : Reads A n k g D Bi Al Xs Bm Cm SP Dk) (H1 : S1x1x64x128.Idx → EReal) (p : Fin 64) (q : Fin 128)
    (hy : H1 (ix4 0 0 p q) = A.state n g 0 p q k.val) : Tiles.S0 D Bi Al Xs Bm SP H1 (ix4 0 0 p q) = A.state n g 0 p q (k.val + 1) :=
  (S0_at D Bi Al Xs Bm SP H1 h.sp h.hst h.hde p q).trans (h.state 0 p q ⟨p.val, by omega⟩ (by show p.val = 0 * 64 + p.val; omega) _ hy)

theorem Reads.S1 (h : Reads A n k g D Bi Al Xs Bm Cm SP Dk) (H1 : S1x1x64x128.Idx → EReal) (p : Fin 64) (q : Fin 128)
    (hy : H1 (ix4 0 0 p q) = A.state n g 1 p q k.val) : Tiles.S1 D Bi Al Xs Bm SP H1 (ix4 0 0 p q) = A.state n g 1 p q (k.val + 1) :=
  (S1_at D Bi Al Xs Bm SP H1 h.sp h.hst h.hde p q).trans (h.state 1 p q ⟨64 + p.val, by omega⟩ (by show 64 + p.val = 1 * 64 + p.val; omega) _ hy)

theorem Reads.S2 (h : Reads A n k g D Bi Al Xs Bm Cm SP Dk) (H1 : S1x1x64x128.Idx → EReal) (p : Fin 64) (q : Fin 128)
    (hy : H1 (ix4 0 0 p q) = A.state n g 2 p q k.val) : Tiles.S2 D Bi Al Xs Bm SP H1 (ix4 0 0 p q) = A.state n g 2 p q (k.val + 1) :=
  (S2_at D Bi Al Xs Bm SP H1 h.sp h.hst h.hde p q).trans (h.state 2 p q ⟨128 + p.val, by omega⟩ (by show 128 + p.val = 2 * 64 + p.val; omega) _ hy)

theorem Reads.S3 (h : Reads A n k g D Bi Al Xs Bm Cm SP Dk) (H1 : S1x1x64x128.Idx → EReal) (p : Fin 64) (q : Fin 128)
    (hy : H1 (ix4 0 0 p q) = A.state n g 3 p q k.val) : Tiles.S3 D Bi Al Xs Bm SP H1 (ix4 0 0 p q) = A.state n g 3 p q (k.val + 1) :=
  (S3_at D Bi Al Xs Bm SP H1 h.sp h.hst h.hde p q).trans (h.state 3 p q ⟨192 + p.val, by omega⟩ (by show 192 + p.val = 3 * 64 + p.val; omega) _ hy)

theorem Reads.S4 (h : Reads A n k g D Bi Al Xs Bm Cm SP Dk) (H1 : S1x1x64x128.Idx → EReal) (p : Fin 64) (q : Fin 128)
    (hy : H1 (ix4 0 0 p q) = A.state n g 4 p q k.val) : Tiles.S4 D Bi Al Xs Bm SP H1 (ix4 0 0 p q) = A.state n g 4 p q (k.val + 1) :=
  (S4_at D Bi Al Xs Bm SP H1 h.sp h.hst h.hde p q).trans (h.state 4 p q ⟨256 + p.val, by omega⟩ (by show 256 + p.val = 4 * 64 + p.val; omega) _ hy)

theorem Reads.S5 (h : Reads A n k g D Bi Al Xs Bm Cm SP Dk) (H1 : S1x1x64x128.Idx → EReal) (p : Fin 64) (q : Fin 128)
    (hy : H1 (ix4 0 0 p q) = A.state n g 5 p q k.val) : Tiles.S5 D Bi Al Xs Bm SP H1 (ix4 0 0 p q) = A.state n g 5 p q (k.val + 1) :=
  (S5_at D Bi Al Xs Bm SP H1 h.sp h.hst h.hde p q).trans (h.state 5 p q ⟨320 + p.val, by omega⟩ (by show 320 + p.val = 5 * 64 + p.val; omega) _ hy)

theorem Reads.S6 (h : Reads A n k g D Bi Al Xs Bm Cm SP Dk) (H1 : S1x1x64x128.Idx → EReal) (p : Fin 64) (q : Fin 128)
    (hy : H1 (ix4 0 0 p q) = A.state n g 6 p q k.val) : Tiles.S6 D Bi Al Xs Bm SP H1 (ix4 0 0 p q) = A.state n g 6 p q (k.val + 1) :=
  (S6_at D Bi Al Xs Bm SP H1 h.sp h.hst h.hde p q).trans (h.state 6 p q ⟨384 + p.val, by omega⟩ (by show 384 + p.val = 6 * 64 + p.val; omega) _ hy)

theorem Reads.S7 (h : Reads A n k g D Bi Al Xs Bm Cm SP Dk) (H1 : S1x1x64x128.Idx → EReal) (p : Fin 64) (q : Fin 128)
    (hy : H1 (ix4 0 0 p q) = A.state n g 7 p q k.val) : Tiles.S7 D Bi Al Xs Bm SP H1 (ix4 0 0 p q) = A.state n g 7 p q (k.val + 1) :=
  (S7_at D Bi Al Xs Bm SP H1 h.sp h.hst h.hde p q).trans (h.state 7 p q ⟨448 + p.val, by omega⟩ (by show 448 + p.val = 7 * 64 + p.val; omega) _ hy)

theorem Reads.Y0 (h : Reads A n k g D Bi Al Xs Bm Cm SP Dk) (H8 : S1x8x64x128.Idx → EReal) (l q : Fin 128) (e : Fin 8) (he : e.val = 0 + q.val / 64)
    (hH : ∀ i, H8 (ix4 0 e ⟨q.val % 64, by omega⟩ i) = A.state n g e ⟨q.val % 64, by omega⟩ i k.val) :
    Tiles.Y0 D Bi Al Xs Bm Cm SP H8 Dk (ix3 0 l q) = A.row n k g e ⟨q.val % 64, by omega⟩ l :=
  (Y0_at D Bi Al Xs Bm Cm SP H8 Dk h.sp h.hst h.hde l q e he).trans
    (h.row e ⟨q.val % 64, by omega⟩ l ⟨q.val, by omega⟩ (by dsimp only; omega) _ hH)

theorem Reads.Y1 (h : Reads A n k g D Bi Al Xs Bm Cm SP Dk) (H8 : S1x8x64x128.Idx → EReal) (l q : Fin 128) (e : Fin 8) (he : e.val = 2 + q.val / 64)
    (hH : ∀ i, H8 (ix4 0 e ⟨q.val % 64, by omega⟩ i) = A.state n g e ⟨q.val % 64, by omega⟩ i k.val) :
    Tiles.Y1 D Bi Al Xs Bm Cm SP H8 Dk (ix3 0 l q) = A.row n k g e ⟨q.val % 64, by omega⟩ l :=
  (Y1_at D Bi Al Xs Bm Cm SP H8 Dk h.sp h.hst h.hde l q e he).trans
    (h.row e ⟨q.val % 64, by omega⟩ l ⟨128 + q.val, by omega⟩ (by dsimp only; omega) _ hH)

theorem Reads.Y2 (h : Reads A n k g D Bi Al Xs Bm Cm SP Dk) (H8 : S1x8x64x128.Idx → EReal) (l q : Fin 128) (e : Fin 8) (he : e.val = 4 + q.val / 64)
    (hH : ∀ i, H8 (ix4 0 e ⟨q.val % 64, by omega⟩ i) = A.state n g e ⟨q.val % 64, by omega⟩ i k.val) :
    Tiles.Y2 D Bi Al Xs Bm Cm SP H8 Dk (ix3 0 l q) = A.row n k g e ⟨q.val % 64, by omega⟩ l :=
  (Y2_at D Bi Al Xs Bm Cm SP H8 Dk h.sp h.hst h.hde l q e he).trans
    (h.row e ⟨q.val % 64, by omega⟩ l ⟨256 + q.val, by omega⟩ (by dsimp only; omega) _ hH)

theorem Reads.Y3 (h : Reads A n k g D Bi Al Xs Bm Cm SP Dk) (H8 : S1x8x64x128.Idx → EReal) (l q : Fin 128) (e : Fin 8) (he : e.val = 6 + q.val / 64)
    (hH : ∀ i, H8 (ix4 0 e ⟨q.val % 64, by omega⟩ i) = A.state n g e ⟨q.val % 64, by omega⟩ i k.val) :
    Tiles.Y3 D Bi Al Xs Bm Cm SP H8 Dk (ix3 0 l q) = A.row n k g e ⟨q.val % 64, by omega⟩ l :=
  (Y3_at D Bi Al Xs Bm Cm SP H8 Dk h.sp h.hst h.hde l q e he).trans
    (h.row e ⟨q.val % 64, by omega⟩ l ⟨384 + q.val, by omega⟩ (by dsimp only; omega) _ hH)

end Cert.SsdIdeal.Tiles

end
-- ==== Proof.SsdSame.lean ====
/-
  The four groups of heads run the same arithmetic: what a grid point stores for each pair of heads and for each state is
  the same tile of the group's own blocks.
-/
module

public import proofs.«01_k».proof.Proof.SsdTiles

@[expose] public section

set_option maxRecDepth 16384

noncomputable section

open Idealize.ShloMosaic Idealize.ShloMosaic.TcCoe

namespace Cert.SsdIdeal.Tiles

open Cert.SsdIdeal Cert.SsdIdeal.Gen Cert.SsdChunk

variable (D : FVec Ideal S128x128 .f32) (Bi Al : FVec Ideal S1x1x128 .f32) (Xs : FVec Ideal S1x128x512 .bf16)
  (Bm Cm : FVec Ideal S1x128x128 .bf16) (SP : FVec Ideal S256x512 .bf16) (H8 : FVec Ideal S1x8x64x128 .f32)
  (H1 : FVec Ideal S1x1x64x128 .f32) (Dk : FVec Ideal S1x1x512 .f32)

theorem row_tile_3_3 : k0_pay154 (k0_pay137 (k0_pay126 Bm) (k0_pay127 Cm)) (k0_pay142 (k0_pay5 SP) (k0_pay125 Xs) (k0_pay138 (k0_pay127 Cm) H8) (k0_pay140 k0_pay3 (k0_pay128 D Bi) (k0_pay129 LANE) (k0_pay130 Al) (FloatOps.ofBits FTy.f32 0#32)) (k0_pay141 k0_pay3 (k0_pay128 D Bi) (k0_pay129 LANE) (k0_pay130 Al) (FloatOps.ofBits FTy.f32 0#32)) Dk) (k0_pay150 (k0_pay135 (k0_pay5 SP) (k0_pay125 Xs) (k0_pay128 D Bi))) (k0_pay151 k0_pay2 k0_pay4 (k0_pay131 k0_pay3 (k0_pay128 D Bi) (k0_pay129 LANE) (k0_pay130 Al) (FloatOps.ofBits FTy.f32 0#32)) (k0_pay132 k0_pay3 (k0_pay128 D Bi) (k0_pay129 LANE) (k0_pay130 Al) (FloatOps.ofBits FTy.f32 0#32)) (k0_pay135 (k0_pay5 SP) (k0_pay125 Xs) (k0_pay128 D Bi)) (k0_pay137 (k0_pay126 Bm) (k0_pay127 Cm))) (k0_pay152 k0_pay2 (k0_pay131 k0_pay3 (k0_pay128 D Bi) (k0_pay129 LANE) (k0_pay130 Al) (FloatOps.ofBits FTy.f32 0#32)) (k0_pay132 k0_pay3 (k0_pay128 D Bi) (k0_pay129 LANE) (k0_pay130 Al) (FloatOps.ofBits FTy.f32 0#32))) (k0_pay153 k0_pay4) (FloatOps.ofBits FTy.bf16 0#16) = Y3 D Bi Al Xs Bm Cm SP H8 Dk := rfl

theorem row_tile_3_2 : k0_pay149 k0_pay2 k0_pay4 (k0_pay131 k0_pay3 (k0_pay128 D Bi) (k0_pay129 LANE) (k0_pay130 Al) (FloatOps.ofBits FTy.f32 0#32)) (k0_pay132 k0_pay3 (k0_pay128 D Bi) (k0_pay129 LANE) (k0_pay130 Al) (FloatOps.ofBits FTy.f32 0#32)) (k0_pay137 (k0_pay126 Bm) (k0_pay127 Cm)) (k0_pay142 (k0_pay5 SP) (k0_pay125 Xs) (k0_pay138 (k0_pay127 Cm) H8) (k0_pay140 k0_pay3 (k0_pay128 D Bi) (k0_pay129 LANE) (k0_pay130 Al) (FloatOps.ofBits FTy.f32 0#32)) (k0_pay141 k0_pay3 (k0_pay128 D Bi) (k0_pay129 LANE) (k0_pay130 Al) (FloatOps.ofBits FTy.f32 0#32)) Dk) (k0_pay146 (k0_pay135 (k0_pay5 SP) (k0_pay125 Xs) (k0_pay128 D Bi))) (k0_pay147 k0_pay4 (k0_pay135 (k0_pay5 SP) (k0_pay125 Xs) (k0_pay128 D Bi))) (k0_pay148 k0_pay2 (k0_pay131 k0_pay3 (k0_pay128 D Bi) (k0_pay129 LANE) (k0_pay130 Al) (FloatOps.ofBits FTy.f32 0#32)) (k0_pay132 k0_pay3 (k0_pay128 D Bi) (k0_pay129 LANE) (k0_pay130 Al) (FloatOps.ofBits FTy.f32 0#32)) (k0_pay137 (k0_pay126 Bm) (k0_pay127 Cm))) = Y2 D Bi Al Xs Bm Cm SP H8 Dk := rfl

theorem row_tile_3_1 : k0_pay145 k0_pay2 k0_pay4 (k0_pay131 k0_pay3 (k0_pay128 D Bi) (k0_pay129 LANE) (k0_pay130 Al) (FloatOps.ofBits FTy.f32 0#32)) (k0_pay132 k0_pay3 (k0_pay128 D Bi) (k0_pay129 LANE) (k0_pay130 Al) (FloatOps.ofBits FTy.f32 0#32)) (k0_pay137 (k0_pay126 Bm) (k0_pay127 Cm)) (k0_pay142 (k0_pay5 SP) (k0_pay125 Xs) (k0_pay138 (k0_pay127 Cm) H8) (k0_pay140 k0_pay3 (k0_pay128 D Bi) (k0_pay129 LANE) (k0_pay130 Al) (FloatOps.ofBits FTy.f32 0#32)) (k0_pay141 k0_pay3 (k0_pay128 D Bi) (k0_pay129 LANE) (k0_pay130 Al) (FloatOps.ofBits FTy.f32 0#32)) Dk) (k0_pay144 (k0_pay135 (k0_pay5 SP) (k0_pay125 Xs) (k0_pay128 D Bi))) = Y1 D Bi Al Xs Bm Cm SP H8 Dk := rfl

theorem row_tile_3_0 : k0_pay143 k0_pay2 k0_pay4 (k0_pay5 SP) (k0_pay125 Xs) (k0_pay131 k0_pay3 (k0_pay128 D Bi) (k0_pay129 LANE) (k0_pay130 Al) (FloatOps.ofBits FTy.f32 0#32)) (k0_pay132 k0_pay3 (k0_pay128 D Bi) (k0_pay129 LANE) (k0_pay130 Al) (FloatOps.ofBits FTy.f32 0#32)) (k0_pay135 (k0_pay5 SP) (k0_pay125 Xs) (k0_pay128 D Bi)) (k0_pay137 (k0_pay126 Bm) (k0_pay127 Cm)) (k0_pay138 (k0_pay127 Cm) H8) (k0_pay140 k0_pay3 (k0_pay128 D Bi) (k0_pay129 LANE) (k0_pay130 Al) (FloatOps.ofBits FTy.f32 0#32)) (k0_pay141 k0_pay3 (k0_pay128 D Bi) (k0_pay129 LANE) (k0_pay130 Al) (FloatOps.ofBits FTy.f32 0#32)) Dk = Y0 D Bi Al Xs Bm Cm SP H8 Dk := rfl

theorem row_tile_2_3 : k0_pay112 k0_pay2 k0_pay4 (k0_pay100 (k0_pay90 Bm) (k0_pay91 Cm)) (k0_pay102 (k0_pay5 SP) (k0_pay89 Xs) (k0_pay91 Cm) (k0_pay94 k0_pay3 (k0_pay92 D Bi) (k0_pay93 LANE) Al) (k0_pay101 H8) Dk) (k0_pay109 (k0_pay98 (k0_pay5 SP) (k0_pay89 Xs) (k0_pay92 D Bi))) (k0_pay110 k0_pay2 k0_pay4 (k0_pay94 k0_pay3 (k0_pay92 D Bi) (k0_pay93 LANE) Al) (k0_pay95 k0_pay3 (k0_pay92 D Bi) (k0_pay93 LANE) Al) (k0_pay98 (k0_pay5 SP) (k0_pay89 Xs) (k0_pay92 D Bi)) (k0_pay100 (k0_pay90 Bm) (k0_pay91 Cm))) (k0_pay111 (k0_pay94 k0_pay3 (k0_pay92 D Bi) (k0_pay93 LANE) Al) (k0_pay95 k0_pay3 (k0_pay92 D Bi) (k0_pay93 LANE) Al)) (FloatOps.ofBits FTy.f32 4286578688#32) = Y3 D Bi Al Xs Bm Cm SP H8 Dk := rfl

theorem row_tile_2_2 : k0_pay108 k0_pay2 k0_pay4 (k0_pay94 k0_pay3 (k0_pay92 D Bi) (k0_pay93 LANE) Al) (k0_pay95 k0_pay3 (k0_pay92 D Bi) (k0_pay93 LANE) Al) (k0_pay100 (k0_pay90 Bm) (k0_pay91 Cm)) (k0_pay102 (k0_pay5 SP) (k0_pay89 Xs) (k0_pay91 Cm) (k0_pay94 k0_pay3 (k0_pay92 D Bi) (k0_pay93 LANE) Al) (k0_pay101 H8) Dk) (k0_pay106 (k0_pay98 (k0_pay5 SP) (k0_pay89 Xs) (k0_pay92 D Bi))) (k0_pay107 k0_pay2 (k0_pay94 k0_pay3 (k0_pay92 D Bi) (k0_pay93 LANE) Al) (k0_pay95 k0_pay3 (k0_pay92 D Bi) (k0_pay93 LANE) Al)) = Y2 D Bi Al Xs Bm Cm SP H8 Dk := rfl

theorem row_tile_2_1 : k0_pay105 k0_pay2 k0_pay4 (k0_pay94 k0_pay3 (k0_pay92 D Bi) (k0_pay93 LANE) Al) (k0_pay95 k0_pay3 (k0_pay92 D Bi) (k0_pay93 LANE) Al) (k0_pay98 (k0_pay5 SP) (k0_pay89 Xs) (k0_pay92 D Bi)) (k0_pay100 (k0_pay90 Bm) (k0_pay91 Cm)) (k0_pay102 (k0_pay5 SP) (k0_pay89 Xs) (k0_pay91 Cm) (k0_pay94 k0_pay3 (k0_pay92 D Bi) (k0_pay93 LANE) Al) (k0_pay101 H8) Dk) = Y1 D Bi Al Xs Bm Cm SP H8 Dk := rfl

theorem row_tile_2_0 : k0_pay104 (k0_pay103 k0_pay2 k0_pay4 (k0_pay5 SP) (k0_pay89 Xs) (k0_pay91 Cm) (k0_pay94 k0_pay3 (k0_pay92 D Bi) (k0_pay93 LANE) Al) (k0_pay95 k0_pay3 (k0_pay92 D Bi) (k0_pay93 LANE) Al) (k0_pay98 (k0_pay5 SP) (k0_pay89 Xs) (k0_pay92 D Bi)) (k0_pay100 (k0_pay90 Bm) (k0_pay91 Cm)) (k0_pay101 H8) Dk) = Y0 D Bi Al Xs Bm Cm SP H8 Dk := rfl

theorem row_tile_1_3 : k0_pay73 k0_pay2 k0_pay4 (k0_pay54 LANE k0_pay3 (k0_pay48 D Bi) (k0_pay50 (F := Ideal) D Bi) (k0_pay51 D Bi) (k0_pay52 D Bi) Al) (k0_pay55 LANE k0_pay3 (k0_pay48 D Bi) (k0_pay50 (F := Ideal) D Bi) (k0_pay51 D Bi) (k0_pay52 D Bi) Al) (k0_pay60 (k0_pay45 Bm) (k0_pay46 Cm)) (k0_pay61 (k0_pay5 SP) (k0_pay44 Xs) (k0_pay46 Cm) (k0_pay54 LANE k0_pay3 (k0_pay48 D Bi) (k0_pay50 (F := Ideal) D Bi) (k0_pay51 D Bi) (k0_pay52 D Bi) Al) H8 Dk) (k0_pay71 (k0_pay58 (k0_pay5 SP) (k0_pay44 Xs) (k0_pay48 D Bi) (k0_pay50 (F := Ideal) D Bi) (k0_pay51 D Bi) (k0_pay52 D Bi))) (k0_pay72 k0_pay2 k0_pay4 (k0_pay54 LANE k0_pay3 (k0_pay48 D Bi) (k0_pay50 (F := Ideal) D Bi) (k0_pay51 D Bi) (k0_pay52 D Bi) Al) (k0_pay55 LANE k0_pay3 (k0_pay48 D Bi) (k0_pay50 (F := Ideal) D Bi) (k0_pay51 D Bi) (k0_pay52 D Bi) Al) (k0_pay58 (k0_pay5 SP) (k0_pay44 Xs) (k0_pay48 D Bi) (k0_pay50 (F := Ideal) D Bi) (k0_pay51 D Bi) (k0_pay52 D Bi)) (k0_pay60 (k0_pay45 Bm) (k0_pay46 Cm))) = Y3 D Bi Al Xs Bm Cm SP H8 Dk := rfl

theorem row_tile_1_2 : k0_pay70 k0_pay2 k0_pay4 (k0_pay54 LANE k0_pay3 (k0_pay48 D Bi) (k0_pay50 (F := Ideal) D Bi) (k0_pay51 D Bi) (k0_pay52 D Bi) Al) (k0_pay55 LANE k0_pay3 (k0_pay48 D Bi) (k0_pay50 (F := Ideal) D Bi) (k0_pay51 D Bi) (k0_pay52 D Bi) Al) (k0_pay60 (k0_pay45 Bm) (k0_pay46 Cm)) (k0_pay61 (k0_pay5 SP) (k0_pay44 Xs) (k0_pay46 Cm) (k0_pay54 LANE k0_pay3 (k0_pay48 D Bi) (k0_pay50 (F := Ideal) D Bi) (k0_pay51 D Bi) (k0_pay52 D Bi) Al) H8 Dk) (k0_pay67 (k0_pay58 (k0_pay5 SP) (k0_pay44 Xs) (k0_pay48 D Bi) (k0_pay50 (F := Ideal) D Bi) (k0_pay51 D Bi) (k0_pay52 D Bi))) (k0_pay68 (k0_pay54 LANE k0_pay3 (k0_pay48 D Bi) (k0_pay50 (F := Ideal) D Bi) (k0_pay51 D Bi) (k0_pay52 D Bi) Al)) (k0_pay69 (k0_pay55 LANE k0_pay3 (k0_pay48 D Bi) (k0_pay50 (F := Ideal) D Bi) (k0_pay51 D Bi) (k0_pay52 D Bi) Al)) = Y2 D Bi Al Xs Bm Cm SP H8 Dk := rfl

theorem row_tile_1_1 : k0_pay66 k0_pay2 k0_pay4 (k0_pay54 LANE k0_pay3 (k0_pay48 D Bi) (k0_pay50 (F := Ideal) D Bi) (k0_pay51 D Bi) (k0_pay52 D Bi) Al) (k0_pay55 LANE k0_pay3 (k0_pay48 D Bi) (k0_pay50 (F := Ideal) D Bi) (k0_pay51 D Bi) (k0_pay52 D Bi) Al) (k0_pay58 (k0_pay5 SP) (k0_pay44 Xs) (k0_pay48 D Bi) (k0_pay50 (F := Ideal) D Bi) (k0_pay51 D Bi) (k0_pay52 D Bi)) (k0_pay60 (k0_pay45 Bm) (k0_pay46 Cm)) (k0_pay61 (k0_pay5 SP) (k0_pay44 Xs) (k0_pay46 Cm) (k0_pay54 LANE k0_pay3 (k0_pay48 D Bi) (k0_pay50 (F := Ideal) D Bi) (k0_pay51 D Bi) (k0_pay52 D Bi) Al) H8 Dk) = Y1 D Bi Al Xs Bm Cm SP H8 Dk := rfl

theorem row_tile_1_0 : k0_pay65 (k0_pay61 (k0_pay5 SP) (k0_pay44 Xs) (k0_pay46 Cm) (k0_pay54 LANE k0_pay3 (k0_pay48 D Bi) (k0_pay50 (F := Ideal) D Bi) (k0_pay51 D Bi) (k0_pay52 D Bi) Al) H8 Dk) (k0_pay63 k0_pay2 k0_pay4 (k0_pay54 LANE k0_pay3 (k0_pay48 D Bi) (k0_pay50 (F := Ideal) D Bi) (k0_pay51 D Bi) (k0_pay52 D Bi) Al) (k0_pay55 LANE k0_pay3 (k0_pay48 D Bi) (k0_pay50 (F := Ideal) D Bi) (k0_pay51 D Bi) (k0_pay52 D Bi) Al) (k0_pay58 (k0_pay5 SP) (k0_pay44 Xs) (k0_pay48 D Bi) (k0_pay50 (F := Ideal) D Bi) (k0_pay51 D Bi) (k0_pay52 D Bi)) (k0_pay60 (k0_pay45 Bm) (k0_pay46 Cm))) (k0_pay64 k0_pay2 k0_pay4 (k0_pay54 LANE k0_pay3 (k0_pay48 D Bi) (k0_pay50 (F := Ideal) D Bi) (k0_pay51 D Bi) (k0_pay52 D Bi) Al) (k0_pay55 LANE k0_pay3 (k0_pay48 D Bi) (k0_pay50 (F := Ideal) D Bi) (k0_pay51 D Bi) (k0_pay52 D Bi) Al) (k0_pay58 (k0_pay5 SP) (k0_pay44 Xs) (k0_pay48 D Bi) (k0_pay50 (F := Ideal) D Bi) (k0_pay51 D Bi) (k0_pay52 D Bi)) (k0_pay60 (k0_pay45 Bm) (k0_pay46 Cm))) = Y0 D Bi Al Xs Bm Cm SP H8 Dk := rfl

theorem row_tile_0_3 : k0_pay34 k0_pay2 k0_pay4 (k0_pay15 LANE k0_pay3 (k0_pay10 D Bi) (k0_pay11 D Bi) (k0_pay12 (F := Ideal) D Bi) (k0_pay13 D Bi) Al) (k0_pay16 LANE k0_pay3 (k0_pay10 D Bi) (k0_pay11 D Bi) (k0_pay12 (F := Ideal) D Bi) (k0_pay13 D Bi) Al) (k0_pay22 (k0_pay7 Bm) (k0_pay8 Cm)) (k0_pay23 (k0_pay5 SP) (k0_pay6 Xs) (k0_pay8 Cm) (k0_pay15 LANE k0_pay3 (k0_pay10 D Bi) (k0_pay11 D Bi) (k0_pay12 (F := Ideal) D Bi) (k0_pay13 D Bi) Al) H8 Dk) (k0_pay32 (k0_pay19 (k0_pay5 SP) (k0_pay6 Xs) (k0_pay10 D Bi) (k0_pay11 D Bi) (k0_pay12 (F := Ideal) D Bi) (k0_pay13 D Bi))) (k0_pay33 k0_pay2 (k0_pay15 LANE k0_pay3 (k0_pay10 D Bi) (k0_pay11 D Bi) (k0_pay12 (F := Ideal) D Bi) (k0_pay13 D Bi) Al) (k0_pay16 LANE k0_pay3 (k0_pay10 D Bi) (k0_pay11 D Bi) (k0_pay12 (F := Ideal) D Bi) (k0_pay13 D Bi) Al)) (FloatOps.ofBits FTy.bf16 0#16) = Y3 D Bi Al Xs Bm Cm SP H8 Dk := rfl

theorem row_tile_0_2 : k0_pay31 k0_pay2 k0_pay4 (k0_pay15 LANE k0_pay3 (k0_pay10 D Bi) (k0_pay11 D Bi) (k0_pay12 (F := Ideal) D Bi) (k0_pay13 D Bi) Al) (k0_pay16 LANE k0_pay3 (k0_pay10 D Bi) (k0_pay11 D Bi) (k0_pay12 (F := Ideal) D Bi) (k0_pay13 D Bi) Al) (k0_pay19 (k0_pay5 SP) (k0_pay6 Xs) (k0_pay10 D Bi) (k0_pay11 D Bi) (k0_pay12 (F := Ideal) D Bi) (k0_pay13 D Bi)) (k0_pay22 (k0_pay7 Bm) (k0_pay8 Cm)) (k0_pay23 (k0_pay5 SP) (k0_pay6 Xs) (k0_pay8 Cm) (k0_pay15 LANE k0_pay3 (k0_pay10 D Bi) (k0_pay11 D Bi) (k0_pay12 (F := Ideal) D Bi) (k0_pay13 D Bi) Al) H8 Dk) = Y2 D Bi Al Xs Bm Cm SP H8 Dk := rfl

theorem row_tile_0_1 : k0_pay30 (k0_pay29 k0_pay2 k0_pay4 (k0_pay15 LANE k0_pay3 (k0_pay10 D Bi) (k0_pay11 D Bi) (k0_pay12 (F := Ideal) D Bi) (k0_pay13 D Bi) Al) (k0_pay16 LANE k0_pay3 (k0_pay10 D Bi) (k0_pay11 D Bi) (k0_pay12 (F := Ideal) D Bi) (k0_pay13 D Bi) Al) (k0_pay19 (k0_pay5 SP) (k0_pay6 Xs) (k0_pay10 D Bi) (k0_pay11 D Bi) (k0_pay12 (F := Ideal) D Bi) (k0_pay13 D Bi)) (k0_pay22 (k0_pay7 Bm) (k0_pay8 Cm)) (k0_pay23 (k0_pay5 SP) (k0_pay6 Xs) (k0_pay8 Cm) (k0_pay15 LANE k0_pay3 (k0_pay10 D Bi) (k0_pay11 D Bi) (k0_pay12 (F := Ideal) D Bi) (k0_pay13 D Bi) Al) H8 Dk)) = Y1 D Bi Al Xs Bm Cm SP H8 Dk := rfl

theorem row_tile_0_0 : k0_pay28 (k0_pay22 (k0_pay7 Bm) (k0_pay8 Cm)) (k0_pay23 (k0_pay5 SP) (k0_pay6 Xs) (k0_pay8 Cm) (k0_pay15 LANE k0_pay3 (k0_pay10 D Bi) (k0_pay11 D Bi) (k0_pay12 (F := Ideal) D Bi) (k0_pay13 D Bi) Al) H8 Dk) (k0_pay24 (k0_pay19 (k0_pay5 SP) (k0_pay6 Xs) (k0_pay10 D Bi) (k0_pay11 D Bi) (k0_pay12 (F := Ideal) D Bi) (k0_pay13 D Bi))) (k0_pay25 k0_pay2 k0_pay4 (k0_pay7 Bm) (k0_pay8 Cm) (k0_pay15 LANE k0_pay3 (k0_pay10 D Bi) (k0_pay11 D Bi) (k0_pay12 (F := Ideal) D Bi) (k0_pay13 D Bi) Al) (k0_pay16 LANE k0_pay3 (k0_pay10 D Bi) (k0_pay11 D Bi) (k0_pay12 (F := Ideal) D Bi) (k0_pay13 D Bi) Al) (k0_pay19 (k0_pay5 SP) (k0_pay6 Xs) (k0_pay10 D Bi) (k0_pay11 D Bi) (k0_pay12 (F := Ideal) D Bi) (k0_pay13 D Bi))) (k0_pay26 k0_pay2 (k0_pay15 LANE k0_pay3 (k0_pay10 D Bi) (k0_pay11 D Bi) (k0_pay12 (F := Ideal) D Bi) (k0_pay13 D Bi) Al) (k0_pay16 LANE k0_pay3 (k0_pay10 D Bi) (k0_pay11 D Bi) (k0_pay12 (F := Ideal) D Bi) (k0_pay13 D Bi) Al)) (k0_pay27 k0_pay4) (FloatOps.ofBits FTy.bf16 0#16) = Y0 D Bi Al Xs Bm Cm SP H8 Dk := rfl

theorem state_tile_3_7 : k0_pay163 (k0_pay133 k0_pay3 (k0_pay128 D Bi) (k0_pay129 LANE) (k0_pay130 Al) (FloatOps.ofBits FTy.f32 0#32)) (k0_pay155 (k0_pay126 Bm) (k0_pay136 k0_pay3 (k0_pay5 SP) (k0_pay125 Xs) (k0_pay128 D Bi) (k0_pay129 LANE) (k0_pay130 Al) (FloatOps.ofBits FTy.f32 0#32))) H1 = S7 D Bi Al Xs Bm SP H1 := rfl

theorem state_tile_3_6 : k0_pay162 (k0_pay133 k0_pay3 (k0_pay128 D Bi) (k0_pay129 LANE) (k0_pay130 Al) (FloatOps.ofBits FTy.f32 0#32)) (k0_pay155 (k0_pay126 Bm) (k0_pay136 k0_pay3 (k0_pay5 SP) (k0_pay125 Xs) (k0_pay128 D Bi) (k0_pay129 LANE) (k0_pay130 Al) (FloatOps.ofBits FTy.f32 0#32))) H1 = S6 D Bi Al Xs Bm SP H1 := rfl

theorem state_tile_3_5 : k0_pay161 (k0_pay133 k0_pay3 (k0_pay128 D Bi) (k0_pay129 LANE) (k0_pay130 Al) (FloatOps.ofBits FTy.f32 0#32)) (k0_pay155 (k0_pay126 Bm) (k0_pay136 k0_pay3 (k0_pay5 SP) (k0_pay125 Xs) (k0_pay128 D Bi) (k0_pay129 LANE) (k0_pay130 Al) (FloatOps.ofBits FTy.f32 0#32))) H1 = S5 D Bi Al Xs Bm SP H1 := rfl

theorem state_tile_3_4 : k0_pay160 (k0_pay133 k0_pay3 (k0_pay128 D Bi) (k0_pay129 LANE) (k0_pay130 Al) (FloatOps.ofBits FTy.f32 0#32)) (k0_pay155 (k0_pay126 Bm) (k0_pay136 k0_pay3 (k0_pay5 SP) (k0_pay125 Xs) (k0_pay128 D Bi) (k0_pay129 LANE) (k0_pay130 Al) (FloatOps.ofBits FTy.f32 0#32))) H1 = S4 D Bi Al Xs Bm SP H1 := rfl

theorem state_tile_3_3 : k0_pay159 (k0_pay133 k0_pay3 (k0_pay128 D Bi) (k0_pay129 LANE) (k0_pay130 Al) (FloatOps.ofBits FTy.f32 0#32)) (k0_pay155 (k0_pay126 Bm) (k0_pay136 k0_pay3 (k0_pay5 SP) (k0_pay125 Xs) (k0_pay128 D Bi) (k0_pay129 LANE) (k0_pay130 Al) (FloatOps.ofBits FTy.f32 0#32))) H1 = S3 D Bi Al Xs Bm SP H1 := rfl

theorem state_tile_3_2 : k0_pay158 (k0_pay133 k0_pay3 (k0_pay128 D Bi) (k0_pay129 LANE) (k0_pay130 Al) (FloatOps.ofBits FTy.f32 0#32)) (k0_pay155 (k0_pay126 Bm) (k0_pay136 k0_pay3 (k0_pay5 SP) (k0_pay125 Xs) (k0_pay128 D Bi) (k0_pay129 LANE) (k0_pay130 Al) (FloatOps.ofBits FTy.f32 0#32))) H1 = S2 D Bi Al Xs Bm SP H1 := rfl

theorem state_tile_3_1 : k0_pay157 (k0_pay126 Bm) (k0_pay133 k0_pay3 (k0_pay128 D Bi) (k0_pay129 LANE) (k0_pay130 Al) (FloatOps.ofBits FTy.f32 0#32)) (k0_pay136 k0_pay3 (k0_pay5 SP) (k0_pay125 Xs) (k0_pay128 D Bi) (k0_pay129 LANE) (k0_pay130 Al) (FloatOps.ofBits FTy.f32 0#32)) H1 = S1 D Bi Al Xs Bm SP H1 := rfl

theorem state_tile_3_0 : k0_pay156 (k0_pay126 Bm) (k0_pay133 k0_pay3 (k0_pay128 D Bi) (k0_pay129 LANE) (k0_pay130 Al) (FloatOps.ofBits FTy.f32 0#32)) (k0_pay136 k0_pay3 (k0_pay5 SP) (k0_pay125 Xs) (k0_pay128 D Bi) (k0_pay129 LANE) (k0_pay130 Al) (FloatOps.ofBits FTy.f32 0#32)) H1 = S0 D Bi Al Xs Bm SP H1 := rfl

theorem state_tile_2_7 : k0_pay124 (k0_pay123 (k0_pay96 k0_pay3 (k0_pay92 D Bi) (k0_pay93 LANE) Al) (k0_pay113 (k0_pay90 Bm) (k0_pay99 k0_pay3 (k0_pay5 SP) (k0_pay89 Xs) (k0_pay92 D Bi) (k0_pay93 LANE) Al)) H1) = S7 D Bi Al Xs Bm SP H1 := rfl

theorem state_tile_2_6 : k0_pay122 (k0_pay96 k0_pay3 (k0_pay92 D Bi) (k0_pay93 LANE) Al) (k0_pay113 (k0_pay90 Bm) (k0_pay99 k0_pay3 (k0_pay5 SP) (k0_pay89 Xs) (k0_pay92 D Bi) (k0_pay93 LANE) Al)) H1 = S6 D Bi Al Xs Bm SP H1 := rfl

theorem state_tile_2_5 : k0_pay121 (k0_pay96 k0_pay3 (k0_pay92 D Bi) (k0_pay93 LANE) Al) (k0_pay113 (k0_pay90 Bm) (k0_pay99 k0_pay3 (k0_pay5 SP) (k0_pay89 Xs) (k0_pay92 D Bi) (k0_pay93 LANE) Al)) H1 = S5 D Bi Al Xs Bm SP H1 := rfl

theorem state_tile_2_4 : k0_pay120 (k0_pay119 (k0_pay96 k0_pay3 (k0_pay92 D Bi) (k0_pay93 LANE) Al) (k0_pay113 (k0_pay90 Bm) (k0_pay99 k0_pay3 (k0_pay5 SP) (k0_pay89 Xs) (k0_pay92 D Bi) (k0_pay93 LANE) Al)) H1) = S4 D Bi Al Xs Bm SP H1 := rfl

theorem state_tile_2_3 : k0_pay118 (k0_pay96 k0_pay3 (k0_pay92 D Bi) (k0_pay93 LANE) Al) (k0_pay113 (k0_pay90 Bm) (k0_pay99 k0_pay3 (k0_pay5 SP) (k0_pay89 Xs) (k0_pay92 D Bi) (k0_pay93 LANE) Al)) H1 = S3 D Bi Al Xs Bm SP H1 := rfl

theorem state_tile_2_2 : k0_pay117 (k0_pay96 k0_pay3 (k0_pay92 D Bi) (k0_pay93 LANE) Al) (k0_pay113 (k0_pay90 Bm) (k0_pay99 k0_pay3 (k0_pay5 SP) (k0_pay89 Xs) (k0_pay92 D Bi) (k0_pay93 LANE) Al)) H1 = S2 D Bi Al Xs Bm SP H1 := rfl

theorem state_tile_2_1 : k0_pay116 (k0_pay115 (k0_pay90 Bm) (k0_pay96 k0_pay3 (k0_pay92 D Bi) (k0_pay93 LANE) Al) (k0_pay99 k0_pay3 (k0_pay5 SP) (k0_pay89 Xs) (k0_pay92 D Bi) (k0_pay93 LANE) Al) H1) = S1 D Bi Al Xs Bm SP H1 := rfl

theorem state_tile_2_0 : k0_pay114 (k0_pay90 Bm) (k0_pay96 k0_pay3 (k0_pay92 D Bi) (k0_pay93 LANE) Al) (k0_pay99 k0_pay3 (k0_pay5 SP) (k0_pay89 Xs) (k0_pay92 D Bi) (k0_pay93 LANE) Al) H1 = S0 D Bi Al Xs Bm SP H1 := rfl

theorem state_tile_1_7 : k0_pay88 (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) (k0_pay86 H1) (k0_pay87 (k0_pay56 LANE k0_pay3 (k0_pay48 D Bi) (k0_pay50 (F := Ideal) D Bi) (k0_pay51 D Bi) (k0_pay52 D Bi) Al)) = S7 D Bi Al Xs Bm SP H1 := rfl

theorem state_tile_1_6 : k0_pay85 (k0_pay56 LANE k0_pay3 (k0_pay48 D Bi) (k0_pay50 (F := Ideal) D Bi) (k0_pay51 D Bi) (k0_pay52 D Bi) Al) (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) H1 = S6 D Bi Al Xs Bm SP H1 := rfl

theorem state_tile_1_5 : k0_pay84 (k0_pay56 LANE k0_pay3 (k0_pay48 D Bi) (k0_pay50 (F := Ideal) D Bi) (k0_pay51 D Bi) (k0_pay52 D Bi) Al) (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) H1 = S5 D Bi Al Xs Bm SP H1 := rfl

theorem state_tile_1_4 : k0_pay83 (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) (k0_pay81 H1) (k0_pay82 (k0_pay56 LANE k0_pay3 (k0_pay48 D Bi) (k0_pay50 (F := Ideal) D Bi) (k0_pay51 D Bi) (k0_pay52 D Bi) Al)) = S4 D Bi Al Xs Bm SP H1 := rfl

theorem state_tile_1_3 : k0_pay80 (k0_pay56 LANE k0_pay3 (k0_pay48 D Bi) (k0_pay50 (F := Ideal) D Bi) (k0_pay51 D Bi) (k0_pay52 D Bi) Al) (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) H1 = S3 D Bi Al Xs Bm SP H1 := rfl

theorem state_tile_1_2 : k0_pay79 (k0_pay56 LANE k0_pay3 (k0_pay48 D Bi) (k0_pay50 (F := Ideal) D Bi) (k0_pay51 D Bi) (k0_pay52 D Bi) Al) (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) H1 = S2 D Bi Al Xs Bm SP H1 := rfl

theorem state_tile_1_1 : k0_pay78 (k0_pay74 (k0_pay45 Bm) (k0_pay59 LANE k0_pay3 (k0_pay5 SP) (k0_pay44 Xs) (k0_pay48 D Bi) (k0_pay50 (F := Ideal) D Bi) (k0_pay51 D Bi) (k0_pay52 D Bi) Al)) (k0_pay76 H1) (k0_pay77 (k0_pay56 LANE k0_pay3 (k0_pay48 D Bi) (k0_pay50 (F := Ideal) D Bi) (k0_pay51 D Bi) (k0_pay52 D Bi) Al)) = S1 D Bi Al Xs Bm SP H1 := rfl

theorem state_tile_1_0 : k0_pay75 (k0_pay45 Bm) (k0_pay56 LANE k0_pay3 (k0_pay48 D Bi) (k0_pay50 (F := Ideal) D Bi) (k0_pay51 D Bi) (k0_pay52 D Bi) Al) (k0_pay59 LANE k0_pay3 (k0_pay5 SP) (k0_pay44 Xs) (k0_pay48 D Bi) (k0_pay50 (F := Ideal) D Bi) (k0_pay51 D Bi) (k0_pay52 D Bi) Al) H1 = S0 D Bi Al Xs Bm SP H1 := rfl

theorem state_tile_0_7 : k0_pay43 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S7 D Bi Al Xs Bm SP H1 := rfl

theorem state_tile_0_6 : k0_pay42 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S6 D Bi Al Xs Bm SP H1 := rfl

theorem state_tile_0_5 : k0_pay41 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S5 D Bi Al Xs Bm SP H1 := rfl

theorem state_tile_0_4 : k0_pay40 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S4 D Bi Al Xs Bm SP H1 := rfl

theorem state_tile_0_3 : k0_pay39 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S3 D Bi Al Xs Bm SP H1 := rfl

theorem state_tile_0_2 : k0_pay38 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S2 D Bi Al Xs Bm SP H1 := rfl

theorem state_tile_0_1 : k0_pay37 (k0_pay17 LANE k0_pay3 (k0_pay10 D Bi) (k0_pay11 D Bi) (k0_pay12 (F := Ideal) D Bi) (k0_pay13 D Bi) Al) (k0_pay35 (k0_pay7 Bm) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32))) H1 = S1 D Bi Al Xs Bm SP H1 := rfl

theorem state_tile_0_0 : k0_pay36 (k0_pay7 Bm) (k0_pay17 LANE k0_pay3 (k0_pay10 D Bi) (k0_pay11 D Bi) (k0_pay12 (F := Ideal) D Bi) (k0_pay13 D Bi) Al) (k0_pay21 (k0_pay5 SP) (k0_pay18 (k0_pay5 SP) (k0_pay6 Xs) (k0_pay10 D Bi) (k0_pay11 D Bi) (k0_pay12 (F := Ideal) D Bi) (k0_pay13 D Bi)) (k0_pay20 LANE k0_pay3 (k0_pay10 D Bi) (k0_pay11 D Bi) (k0_pay12 (F := Ideal) D Bi) (k0_pay13 D Bi) Al) (constant S128x512 FTy.f32 0#32)) H1 = S0 D Bi Al Xs Bm SP H1 := rfl

end Cert.SsdIdeal.Tiles

end
-- ==== Proof.SsdPieces.lean ====
/-
  One grid point of the chunked recurrence's kernel: the rows it stores and the states it leaves, from the states the
  point before left (none at a sequence's first chunk), and by induction over the points the recurrence itself.
-/
module

public import proofs.«01_k».proof.Proof.SsdBlocks
public import proofs.«01_k».proof.Proof.SsdGroup
public import proofs.«01_k».proof.Proof.SsdSame
public import Idealize.ShloMosaic.Lib.Pipeline.ReadBack

@[expose] public section

set_option maxRecDepth 16384

noncomputable section

open Idealize.ShloMosaic Idealize.ShloMosaic.TcCoe

namespace Cert.SsdIdeal.Blocks

open Cert.SsdIdeal Cert.SsdIdeal.Gen Cert.SsdChunk Cert.SsdIdeal.Tiles

/-! ## Loads of a block's part -/

theorem ld_steps (X : S128x512.Idx → EReal) (o : Nat) (inb) (s r : Fin 128) (h : o + r.val < 512) :
    View.ld (Val := Elt Ideal) (e' := .f32) X (Rect.unit (s := S128x512) ![0, o] S128x128.size inb) (ix2 s r) = X (ix2 s ⟨o + r.val, h⟩) := by
  refine congrArg X (funext fun a => ?_)
  match a with
  | ⟨0, _⟩ => exact Fin.ext (show 0 + 1 * s.val = s.val by omega)
  | ⟨1, _⟩ => exact Fin.ext (show o + 1 * r.val = o + r.val by omega)

theorem ld_head (X : S4x1x128.Idx → EReal) (o : Nat) (inb) (r : Fin 128) (h : o < 4) :
    View.ld (Val := Elt Ideal) (e' := .f32) X (Rect.unit (s := S4x1x128) ![o, 0, 0] S1x1x128.size inb) (ix3 0 0 r) = X (ix3 ⟨o, h⟩ 0 r) := by
  refine congrArg X (funext fun a => ?_)
  match a with
  | ⟨0, _⟩ => exact Fin.ext (show o + 1 * 0 = o by omega)
  | ⟨1, _⟩ => exact Fin.ext (show 0 + 1 * 0 = 0 by omega)
  | ⟨2, _⟩ => exact Fin.ext (show 0 + 1 * r.val = r.val by omega)

theorem ld_skip (X : S4x1x512.Idx → EReal) (o : Nat) (inb) (r : Fin 512) (h : o < 4) :
    View.ld (Val := Elt Ideal) (e' := .f32) X (Rect.unit (s := S4x1x512) ![o, 0, 0] S1x1x512.size inb) (ix3 0 0 r) = X (ix3 ⟨o, h⟩ 0 r) := by
  refine congrArg X (funext fun a => ?_)
  match a with
  | ⟨0, _⟩ => exact Fin.ext (show o + 1 * 0 = o by omega)
  | ⟨1, _⟩ => exact Fin.ext (show 0 + 1 * 0 = 0 by omega)
  | ⟨2, _⟩ => exact Fin.ext (show 0 + 1 * r.val = r.val by omega)

theorem ld_inputs (X : S1x128x2048.Idx → EReal) (o : Nat) (inb) (s : Fin 128) (r : Fin 512) (h : o + r.val < 2048) :
    View.ld (Val := Elt Ideal) (e' := .bf16) X (Rect.unit (s := S1x128x2048) ![0, 0, o] S1x128x512.size inb) (ix3 0 s r) = X (ix3 0 s ⟨o + r.val, h⟩) := by
  refine congrArg X (funext fun a => ?_)
  match a with
  | ⟨0, _⟩ => exact Fin.ext (show 0 + 1 * 0 = 0 by omega)
  | ⟨1, _⟩ => exact Fin.ext (show 0 + 1 * s.val = s.val by omega)
  | ⟨2, _⟩ => exact Fin.ext (show o + 1 * r.val = o + r.val by omega)

theorem ld_matrix (X : S1x128x512.Idx → EReal) (o : Nat) (inb) (s r : Fin 128) (h : o + r.val < 512) :
    View.ld (Val := Elt Ideal) (e' := .bf16) X (Rect.unit (s := S1x128x512) ![0, 0, o] S1x128x128.size inb) (ix3 0 s r) = X (ix3 0 s ⟨o + r.val, h⟩) := by
  refine congrArg X (funext fun a => ?_)
  match a with
  | ⟨0, _⟩ => exact Fin.ext (show 0 + 1 * 0 = 0 by omega)
  | ⟨1, _⟩ => exact Fin.ext (show 0 + 1 * s.val = s.val by omega)
  | ⟨2, _⟩ => exact Fin.ext (show o + 1 * r.val = o + r.val by omega)

theorem ld_states (X : S1x32x64x128.Idx → EReal) (o : Nat) (inb) (e : Fin 8) (p : Fin 64) (q : Fin 128) (h : o + e.val < 32) :
    View.ld (Val := Elt Ideal) (e' := .f32) X (Rect.unit (s := S1x32x64x128) ![0, o, 0, 0] S1x8x64x128.size inb) (ix4 0 e p q) = X (ix4 0 ⟨o + e.val, h⟩ p q) := by
  refine congrArg X (funext fun a => ?_)
  match a with
  | ⟨0, _⟩ => exact Fin.ext (show 0 + 1 * 0 = 0 by omega)
  | ⟨1, _⟩ => exact Fin.ext (show o + 1 * e.val = o + e.val by omega)
  | ⟨2, _⟩ => exact Fin.ext (show 0 + 1 * p.val = p.val by omega)
  | ⟨3, _⟩ => exact Fin.ext (show 0 + 1 * q.val = q.val by omega)

theorem emb_state (o : Nat) (inb) (p : Fin 64) (q : Fin 128) (h : o < 32) :
    (Rect.unit (s := S1x32x64x128) ![0, o, 0, 0] S1x1x64x128.size inb).emb (ix4 0 0 p q) = ix4 0 ⟨o, h⟩ p q := by
  refine funext fun a => ?_
  match a with
  | ⟨0, _⟩ => exact Fin.ext (show 0 + 1 * 0 = 0 by omega)
  | ⟨1, _⟩ => exact Fin.ext (show o + 1 * 0 = o by omega)
  | ⟨2, _⟩ => exact Fin.ext (show 0 + 1 * p.val = p.val by omega)
  | ⟨3, _⟩ => exact Fin.ext (show 0 + 1 * q.val = q.val by omega)

theorem emb_row (o : Nat) (inb) (l q : Fin 128) (h : o + q.val < 2048) :
    (Rect.unit (s := S1x128x2048) ![0, 0, o] S1x128x128.size inb).emb (ix3 0 l q) = ix3 0 l ⟨o + q.val, h⟩ := by
  refine funext fun a => ?_
  match a with
  | ⟨0, _⟩ => exact Fin.ext (show 0 + 1 * 0 = 0 by omega)
  | ⟨1, _⟩ => exact Fin.ext (show 0 + 1 * l.val = l.val by omega)
  | ⟨2, _⟩ => exact Fin.ext (show o + 1 * q.val = o + q.val by omega)

variable (m : (ℓ : Loc nD τ sig) → Buf (Elt Ideal) ℓ) (c : Dev nD) (t : Fin cfg0.N)

/-- The states after chunk `k` of sequence `n`, as a block. -/
def STATES (A : Args) (n : Fin 4) (k : Nat) : S1x32x64x128.Idx → EReal := fun y =>
  A.state n ⟨(y 1).val / 8, by have h : (y 1).val < 32 := (y 1).isLt; omega⟩ ⟨(y 1).val % 8, by omega⟩ (y 2) (y 3) k

/-- The rows of chunk `k` of sequence `n`, as a block. -/
def ROWS (A : Args) (n : Fin 4) (k : Fin 32) : S1x128x2048.Idx → EReal := fun y =>
  A.row n k ⟨(y 2).val / 512, by have h : (y 2).val < 2048 := (y 2).isLt; omega⟩ ⟨(y 2).val % 512 / 64, by omega⟩ ⟨(y 2).val % 64, by omega⟩ (y 1)

theorem row_congr (A : Args) (n : Fin 4) (k : Fin 32) {g g' : Fin 4} {e e' : Fin 8} {p p' : Fin 64} (l : Fin 128) (hg : g.val = g'.val) (he : e.val = e'.val)
    (hp : p.val = p'.val) : A.row n k g e p l = A.row n k g' e' p' l := by
  rw [Fin.ext hg, Fin.ext he, Fin.ext hp]

theorem STATES_at (A : Args) (n : Fin 4) (k : Nat) (h : Fin 32) (g : Fin 4) (e : Fin 8) (p : Fin 64) (q : Fin 128) (he : h.val = g.val * 8 + e.val) :
    STATES A n k (ix4 0 h p q) = A.state n g e p q k := by
  have e1 : (⟨h.val / 8, by omega⟩ : Fin 4) = g := Fin.ext (by show h.val / 8 = g.val; omega)
  have e2 : (⟨h.val % 8, by omega⟩ : Fin 8) = e := Fin.ext (by show h.val % 8 = e.val; omega)
  show A.state n ⟨h.val / 8, _⟩ ⟨h.val % 8, _⟩ p q k = _
  rw [e1, e2]

theorem ROWS_at (A : Args) (n : Fin 4) (k : Fin 32) (j : Fin 2048) (g : Fin 4) (e : Fin 8) (p : Fin 64) (l : Fin 128) (he : j.val = g.val * 512 + e.val * 64 + p.val) :
    ROWS A n k (ix3 0 l j) = A.row n k g e p l :=
  row_congr A n k l (by show j.val / 512 = g.val; omega) (by show j.val % 512 / 64 = e.val; omega) (by show j.val % 64 = p.val; omega)

theorem ld_state (X : S1x32x64x128.Idx → EReal) (o : Nat) (inb) (p : Fin 64) (q : Fin 128) (h : o < 32) :
    View.ld (Val := Elt Ideal) (e' := .f32) X (Rect.unit (s := S1x32x64x128) ![0, o, 0, 0] S1x1x64x128.size inb) (ix4 0 0 p q) = X (ix4 0 ⟨o, h⟩ p q) :=
  congrArg X (emb_state o inb p q h)

/-! ## The blocks of each group -/

theorem reads_0 (hr : (args m c).Real) : Reads (args m c) (seqOf t) (chunkOf t) 0 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0))
    (View.ld (Val := Elt Ideal) (e' := .f32) (iblk m c 5 t) (Rect.unit (s := S4x1x128) ![0, 0, 0] S1x1x128.size inb_S4x1x128_S1x1x128_0_0_0)) (View.ld (Val := Elt Ideal) (e' := .bf16) (X0_0 m c t) (Rect.unit (s := S1x128x2048) ![0, 0, 0] S1x128x512.size inb_S1x128x2048_S1x128x512_0_0_0))
    (View.ld (Val := Elt Ideal) (e' := .bf16) (iblk m c 1 t) (Rect.unit (s := S1x128x512) ![0, 0, 0] S1x128x128.size inb_S1x128x512_S1x128x128_0_0_0)) (View.ld (Val := Elt Ideal) (e' := .bf16) (iblk m c 2 t) (Rect.unit (s := S1x128x512) ![0, 0, 0] S1x128x128.size inb_S1x128x512_S1x128x128_0_0_0)) (iblk m c 7 t) (View.ld (Val := Elt Ideal) (e' := .f32) (iblk m c 6 t) (Rect.unit (s := S4x1x512) ![0, 0, 0] S1x1x512.size inb_S4x1x512_S1x1x512_0_0_0)) where
  real := hr
  d s r := (ld_steps _ 0 _ s ⟨r.val, by omega⟩ (by dsimp only; omega)).trans ((congrArg (fun j => iblk m c 3 t (ix2 s j)) (Fin.ext (by show 0 + r.val = 0 * 128 + r.val; omega))).trans (ds m c t s 0 r))
  bi r := (ld_head _ 0 _ ⟨r.val, by omega⟩ (by omega)).trans (bias m c t 0 r)
  al r := (ld_head _ 0 _ ⟨r.val, by omega⟩ (by omega)).trans (alog m c t 0 r)
  xs s j := (ld_inputs _ 0 _ s j (by omega)).trans ((xs m c t s ⟨0 + j.val, by omega⟩).trans (congrArg ((args m c).x (seqOf t) (Args.at_ (chunkOf t) s)) (Fin.ext (by show 0 + j.val = 0 * 512 + j.val; omega))))
  bm s q := (ld_matrix _ 0 _ s q (by omega)).trans ((bs m c t s ⟨0 + q.val, by omega⟩).trans (congrArg ((args m c).x (seqOf t) (Args.at_ (chunkOf t) s)) (Fin.ext (by show 2048 + (0 + q.val) = 2048 + (0 * 128 + q.val); omega))))
  cm s q := (ld_matrix _ 0 _ s q (by omega)).trans ((cs m c t s ⟨0 + q.val, by omega⟩).trans (congrArg ((args m c).x (seqOf t) (Args.at_ (chunkOf t) s)) (Fin.ext (by show 2560 + (0 + q.val) = 2560 + (0 * 128 + q.val); omega))))
  sp := sp m c t
  dk j := (ld_skip _ 0 _ j (by omega)).trans (dk m c t 0 j)

theorem reads_1 (hr : (args m c).Real) : Reads (args m c) (seqOf t) (chunkOf t) 1 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0))
    (View.ld (Val := Elt Ideal) (e' := .f32) (iblk m c 5 t) (Rect.unit (s := S4x1x128) ![1, 0, 0] S1x1x128.size inb_S4x1x128_S1x1x128_1_0_0)) (View.ld (Val := Elt Ideal) (e' := .bf16) (X0_0 m c t) (Rect.unit (s := S1x128x2048) ![0, 0, 512] S1x128x512.size inb_S1x128x2048_S1x128x512_0_0_512))
    (View.ld (Val := Elt Ideal) (e' := .bf16) (iblk m c 1 t) (Rect.unit (s := S1x128x512) ![0, 0, 128] S1x128x128.size inb_S1x128x512_S1x128x128_0_0_128)) (View.ld (Val := Elt Ideal) (e' := .bf16) (iblk m c 2 t) (Rect.unit (s := S1x128x512) ![0, 0, 128] S1x128x128.size inb_S1x128x512_S1x128x128_0_0_128)) (iblk m c 7 t) (View.ld (Val := Elt Ideal) (e' := .f32) (iblk m c 6 t) (Rect.unit (s := S4x1x512) ![1, 0, 0] S1x1x512.size inb_S4x1x512_S1x1x512_1_0_0)) where
  real := hr
  d s r := (ld_steps _ 128 _ s ⟨r.val, by omega⟩ (by dsimp only; omega)).trans ((congrArg (fun j => iblk m c 3 t (ix2 s j)) (Fin.ext (by show 128 + r.val = 1 * 128 + r.val; omega))).trans (ds m c t s 1 r))
  bi r := (ld_head _ 1 _ ⟨r.val, by omega⟩ (by omega)).trans (bias m c t 1 r)
  al r := (ld_head _ 1 _ ⟨r.val, by omega⟩ (by omega)).trans (alog m c t 1 r)
  xs s j := (ld_inputs _ 512 _ s j (by omega)).trans ((xs m c t s ⟨512 + j.val, by omega⟩).trans (congrArg ((args m c).x (seqOf t) (Args.at_ (chunkOf t) s)) (Fin.ext (by show 512 + j.val = 1 * 512 + j.val; omega))))
  bm s q := (ld_matrix _ 128 _ s q (by omega)).trans ((bs m c t s ⟨128 + q.val, by omega⟩).trans (congrArg ((args m c).x (seqOf t) (Args.at_ (chunkOf t) s)) (Fin.ext (by show 2048 + (128 + q.val) = 2048 + (1 * 128 + q.val); omega))))
  cm s q := (ld_matrix _ 128 _ s q (by omega)).trans ((cs m c t s ⟨128 + q.val, by omega⟩).trans (congrArg ((args m c).x (seqOf t) (Args.at_ (chunkOf t) s)) (Fin.ext (by show 2560 + (128 + q.val) = 2560 + (1 * 128 + q.val); omega))))
  sp := sp m c t
  dk j := (ld_skip _ 1 _ j (by omega)).trans (dk m c t 1 j)

theorem reads_2 (hr : (args m c).Real) : Reads (args m c) (seqOf t) (chunkOf t) 2 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0))
    (View.ld (Val := Elt Ideal) (e' := .f32) (iblk m c 5 t) (Rect.unit (s := S4x1x128) ![2, 0, 0] S1x1x128.size inb_S4x1x128_S1x1x128_2_0_0)) (View.ld (Val := Elt Ideal) (e' := .bf16) (X0_0 m c t) (Rect.unit (s := S1x128x2048) ![0, 0, 1024] S1x128x512.size inb_S1x128x2048_S1x128x512_0_0_1024))
    (View.ld (Val := Elt Ideal) (e' := .bf16) (iblk m c 1 t) (Rect.unit (s := S1x128x512) ![0, 0, 256] S1x128x128.size inb_S1x128x512_S1x128x128_0_0_256)) (View.ld (Val := Elt Ideal) (e' := .bf16) (iblk m c 2 t) (Rect.unit (s := S1x128x512) ![0, 0, 256] S1x128x128.size inb_S1x128x512_S1x128x128_0_0_256)) (iblk m c 7 t) (View.ld (Val := Elt Ideal) (e' := .f32) (iblk m c 6 t) (Rect.unit (s := S4x1x512) ![2, 0, 0] S1x1x512.size inb_S4x1x512_S1x1x512_2_0_0)) where
  real := hr
  d s r := (ld_steps _ 256 _ s ⟨r.val, by omega⟩ (by dsimp only; omega)).trans ((congrArg (fun j => iblk m c 3 t (ix2 s j)) (Fin.ext (by show 256 + r.val = 2 * 128 + r.val; omega))).trans (ds m c t s 2 r))
  bi r := (ld_head _ 2 _ ⟨r.val, by omega⟩ (by omega)).trans (bias m c t 2 r)
  al r := (ld_head _ 2 _ ⟨r.val, by omega⟩ (by omega)).trans (alog m c t 2 r)
  xs s j := (ld_inputs _ 1024 _ s j (by omega)).trans ((xs m c t s ⟨1024 + j.val, by omega⟩).trans (congrArg ((args m c).x (seqOf t) (Args.at_ (chunkOf t) s)) (Fin.ext (by show 1024 + j.val = 2 * 512 + j.val; omega))))
  bm s q := (ld_matrix _ 256 _ s q (by omega)).trans ((bs m c t s ⟨256 + q.val, by omega⟩).trans (congrArg ((args m c).x (seqOf t) (Args.at_ (chunkOf t) s)) (Fin.ext (by show 2048 + (256 + q.val) = 2048 + (2 * 128 + q.val); omega))))
  cm s q := (ld_matrix _ 256 _ s q (by omega)).trans ((cs m c t s ⟨256 + q.val, by omega⟩).trans (congrArg ((args m c).x (seqOf t) (Args.at_ (chunkOf t) s)) (Fin.ext (by show 2560 + (256 + q.val) = 2560 + (2 * 128 + q.val); omega))))
  sp := sp m c t
  dk j := (ld_skip _ 2 _ j (by omega)).trans (dk m c t 2 j)

theorem reads_3 (hr : (args m c).Real) : Reads (args m c) (seqOf t) (chunkOf t) 3 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0))
    (View.ld (Val := Elt Ideal) (e' := .f32) (iblk m c 5 t) (Rect.unit (s := S4x1x128) ![3, 0, 0] S1x1x128.size inb_S4x1x128_S1x1x128_3_0_0)) (View.ld (Val := Elt Ideal) (e' := .bf16) (X0_0 m c t) (Rect.unit (s := S1x128x2048) ![0, 0, 1536] S1x128x512.size inb_S1x128x2048_S1x128x512_0_0_1536))
    (View.ld (Val := Elt Ideal) (e' := .bf16) (iblk m c 1 t) (Rect.unit (s := S1x128x512) ![0, 0, 384] S1x128x128.size inb_S1x128x512_S1x128x128_0_0_384)) (View.ld (Val := Elt Ideal) (e' := .bf16) (iblk m c 2 t) (Rect.unit (s := S1x128x512) ![0, 0, 384] S1x128x128.size inb_S1x128x512_S1x128x128_0_0_384)) (iblk m c 7 t) (View.ld (Val := Elt Ideal) (e' := .f32) (iblk m c 6 t) (Rect.unit (s := S4x1x512) ![3, 0, 0] S1x1x512.size inb_S4x1x512_S1x1x512_3_0_0)) where
  real := hr
  d s r := (ld_steps _ 384 _ s ⟨r.val, by omega⟩ (by dsimp only; omega)).trans ((congrArg (fun j => iblk m c 3 t (ix2 s j)) (Fin.ext (by show 384 + r.val = 3 * 128 + r.val; omega))).trans (ds m c t s 3 r))
  bi r := (ld_head _ 3 _ ⟨r.val, by omega⟩ (by omega)).trans (bias m c t 3 r)
  al r := (ld_head _ 3 _ ⟨r.val, by omega⟩ (by omega)).trans (alog m c t 3 r)
  xs s j := (ld_inputs _ 1536 _ s j (by omega)).trans ((xs m c t s ⟨1536 + j.val, by omega⟩).trans (congrArg ((args m c).x (seqOf t) (Args.at_ (chunkOf t) s)) (Fin.ext (by show 1536 + j.val = 3 * 512 + j.val; omega))))
  bm s q := (ld_matrix _ 384 _ s q (by omega)).trans ((bs m c t s ⟨384 + q.val, by omega⟩).trans (congrArg ((args m c).x (seqOf t) (Args.at_ (chunkOf t) s)) (Fin.ext (by show 2048 + (384 + q.val) = 2048 + (3 * 128 + q.val); omega))))
  cm s q := (ld_matrix _ 384 _ s q (by omega)).trans ((cs m c t s ⟨384 + q.val, by omega⟩).trans (congrArg ((args m c).x (seqOf t) (Args.at_ (chunkOf t) s)) (Fin.ext (by show 2560 + (384 + q.val) = 2560 + (3 * 128 + q.val); omega))))
  sp := sp m c t
  dk j := (ld_skip _ 3 _ j (by omega)).trans (dk m c t 3 j)

/-! ## The stored tiles -/

variable (hr : (args m c).Real) (H : S1x32x64x128.Idx → EReal) (hH : H = STATES (args m c) (seqOf t) (chunkOf t).val)

include hr hH

theorem state_piece_0 (x : S1x1x64x128.Idx) :
    Tiles.S0 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 0, 0, 0] S1x1x64x128.size inb_S1x32x64x128_S1x1x64x128_0_0_0_0)) x
    = STATES (args m c) (seqOf t) ((chunkOf t).val + 1) ((Rect.unit (s := S1x32x64x128) ![0, 0, 0, 0] S1x1x64x128.size inb_S1x32x64x128_S1x1x64x128_0_0_0_0).emb x) := by
  subst hH
  idx_vars x
  obtain rfl : x0 = 0 := Subsingleton.elim _ _
  obtain rfl : x1 = 0 := Subsingleton.elim _ _
  have hy := (ld_state (STATES (args m c) (seqOf t) (chunkOf t).val) 0 inb_S1x32x64x128_S1x1x64x128_0_0_0_0 x2 x3 (by omega)).trans (STATES_at (args m c) (seqOf t) (chunkOf t).val ⟨0, by omega⟩ 0 0 x2 x3 rfl)
  have h1 := (reads_0 m c t hr).S0 _ x2 x3 hy
  have h2 := (congrArg (STATES (args m c) (seqOf t) ((chunkOf t).val + 1)) (emb_state 0 inb_S1x32x64x128_S1x1x64x128_0_0_0_0 x2 x3 (by omega))).trans (STATES_at (args m c) (seqOf t) ((chunkOf t).val + 1) ⟨0, by omega⟩ 0 0 x2 x3 rfl)
  exact h1.trans h2.symm

theorem state_piece_1 (x : S1x1x64x128.Idx) :
    Tiles.S1 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 1, 0, 0] S1x1x64x128.size inb_S1x32x64x128_S1x1x64x128_0_1_0_0)) x
    = STATES (args m c) (seqOf t) ((chunkOf t).val + 1) ((Rect.unit (s := S1x32x64x128) ![0, 1, 0, 0] S1x1x64x128.size inb_S1x32x64x128_S1x1x64x128_0_1_0_0).emb x) := by
  subst hH
  idx_vars x
  obtain rfl : x0 = 0 := Subsingleton.elim _ _
  obtain rfl : x1 = 0 := Subsingleton.elim _ _
  have hy := (ld_state (STATES (args m c) (seqOf t) (chunkOf t).val) 1 inb_S1x32x64x128_S1x1x64x128_0_1_0_0 x2 x3 (by omega)).trans (STATES_at (args m c) (seqOf t) (chunkOf t).val ⟨1, by omega⟩ 0 1 x2 x3 rfl)
  have h1 := (reads_0 m c t hr).S1 _ x2 x3 hy
  have h2 := (congrArg (STATES (args m c) (seqOf t) ((chunkOf t).val + 1)) (emb_state 1 inb_S1x32x64x128_S1x1x64x128_0_1_0_0 x2 x3 (by omega))).trans (STATES_at (args m c) (seqOf t) ((chunkOf t).val + 1) ⟨1, by omega⟩ 0 1 x2 x3 rfl)
  exact h1.trans h2.symm

theorem state_piece_2 (x : S1x1x64x128.Idx) :
    Tiles.S2 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 2, 0, 0] S1x1x64x128.size inb_S1x32x64x128_S1x1x64x128_0_2_0_0)) x
    = STATES (args m c) (seqOf t) ((chunkOf t).val + 1) ((Rect.unit (s := S1x32x64x128) ![0, 2, 0, 0] S1x1x64x128.size inb_S1x32x64x128_S1x1x64x128_0_2_0_0).emb x) := by
  subst hH
  idx_vars x
  obtain rfl : x0 = 0 := Subsingleton.elim _ _
  obtain rfl : x1 = 0 := Subsingleton.elim _ _
  have hy := (ld_state (STATES (args m c) (seqOf t) (chunkOf t).val) 2 inb_S1x32x64x128_S1x1x64x128_0_2_0_0 x2 x3 (by omega)).trans (STATES_at (args m c) (seqOf t) (chunkOf t).val ⟨2, by omega⟩ 0 2 x2 x3 rfl)
  have h1 := (reads_0 m c t hr).S2 _ x2 x3 hy
  have h2 := (congrArg (STATES (args m c) (seqOf t) ((chunkOf t).val + 1)) (emb_state 2 inb_S1x32x64x128_S1x1x64x128_0_2_0_0 x2 x3 (by omega))).trans (STATES_at (args m c) (seqOf t) ((chunkOf t).val + 1) ⟨2, by omega⟩ 0 2 x2 x3 rfl)
  exact h1.trans h2.symm

theorem state_piece_3 (x : S1x1x64x128.Idx) :
    Tiles.S3 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 3, 0, 0] S1x1x64x128.size inb_S1x32x64x128_S1x1x64x128_0_3_0_0)) x
    = STATES (args m c) (seqOf t) ((chunkOf t).val + 1) ((Rect.unit (s := S1x32x64x128) ![0, 3, 0, 0] S1x1x64x128.size inb_S1x32x64x128_S1x1x64x128_0_3_0_0).emb x) := by
  subst hH
  idx_vars x
  obtain rfl : x0 = 0 := Subsingleton.elim _ _
  obtain rfl : x1 = 0 := Subsingleton.elim _ _
  have hy := (ld_state (STATES (args m c) (seqOf t) (chunkOf t).val) 3 inb_S1x32x64x128_S1x1x64x128_0_3_0_0 x2 x3 (by omega)).trans (STATES_at (args m c) (seqOf t) (chunkOf t).val ⟨3, by omega⟩ 0 3 x2 x3 rfl)
  have h1 := (reads_0 m c t hr).S3 _ x2 x3 hy
  have h2 := (congrArg (STATES (args m c) (seqOf t) ((chunkOf t).val + 1)) (emb_state 3 inb_S1x32x64x128_S1x1x64x128_0_3_0_0 x2 x3 (by omega))).trans (STATES_at (args m c) (seqOf t) ((chunkOf t).val + 1) ⟨3, by omega⟩ 0 3 x2 x3 rfl)
  exact h1.trans h2.symm

theorem state_piece_4 (x : S1x1x64x128.Idx) :
    Tiles.S4 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 4, 0, 0] S1x1x64x128.size inb_S1x32x64x128_S1x1x64x128_0_4_0_0)) x
    = STATES (args m c) (seqOf t) ((chunkOf t).val + 1) ((Rect.unit (s := S1x32x64x128) ![0, 4, 0, 0] S1x1x64x128.size inb_S1x32x64x128_S1x1x64x128_0_4_0_0).emb x) := by
  subst hH
  idx_vars x
  obtain rfl : x0 = 0 := Subsingleton.elim _ _
  obtain rfl : x1 = 0 := Subsingleton.elim _ _
  have hy := (ld_state (STATES (args m c) (seqOf t) (chunkOf t).val) 4 inb_S1x32x64x128_S1x1x64x128_0_4_0_0 x2 x3 (by omega)).trans (STATES_at (args m c) (seqOf t) (chunkOf t).val ⟨4, by omega⟩ 0 4 x2 x3 rfl)
  have h1 := (reads_0 m c t hr).S4 _ x2 x3 hy
  have h2 := (congrArg (STATES (args m c) (seqOf t) ((chunkOf t).val + 1)) (emb_state 4 inb_S1x32x64x128_S1x1x64x128_0_4_0_0 x2 x3 (by omega))).trans (STATES_at (args m c) (seqOf t) ((chunkOf t).val + 1) ⟨4, by omega⟩ 0 4 x2 x3 rfl)
  exact h1.trans h2.symm

theorem state_piece_5 (x : S1x1x64x128.Idx) :
    Tiles.S5 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 5, 0, 0] S1x1x64x128.size inb_S1x32x64x128_S1x1x64x128_0_5_0_0)) x
    = STATES (args m c) (seqOf t) ((chunkOf t).val + 1) ((Rect.unit (s := S1x32x64x128) ![0, 5, 0, 0] S1x1x64x128.size inb_S1x32x64x128_S1x1x64x128_0_5_0_0).emb x) := by
  subst hH
  idx_vars x
  obtain rfl : x0 = 0 := Subsingleton.elim _ _
  obtain rfl : x1 = 0 := Subsingleton.elim _ _
  have hy := (ld_state (STATES (args m c) (seqOf t) (chunkOf t).val) 5 inb_S1x32x64x128_S1x1x64x128_0_5_0_0 x2 x3 (by omega)).trans (STATES_at (args m c) (seqOf t) (chunkOf t).val ⟨5, by omega⟩ 0 5 x2 x3 rfl)
  have h1 := (reads_0 m c t hr).S5 _ x2 x3 hy
  have h2 := (congrArg (STATES (args m c) (seqOf t) ((chunkOf t).val + 1)) (emb_state 5 inb_S1x32x64x128_S1x1x64x128_0_5_0_0 x2 x3 (by omega))).trans (STATES_at (args m c) (seqOf t) ((chunkOf t).val + 1) ⟨5, by omega⟩ 0 5 x2 x3 rfl)
  exact h1.trans h2.symm

theorem state_piece_6 (x : S1x1x64x128.Idx) :
    Tiles.S6 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 6, 0, 0] S1x1x64x128.size inb_S1x32x64x128_S1x1x64x128_0_6_0_0)) x
    = STATES (args m c) (seqOf t) ((chunkOf t).val + 1) ((Rect.unit (s := S1x32x64x128) ![0, 6, 0, 0] S1x1x64x128.size inb_S1x32x64x128_S1x1x64x128_0_6_0_0).emb x) := by
  subst hH
  idx_vars x
  obtain rfl : x0 = 0 := Subsingleton.elim _ _
  obtain rfl : x1 = 0 := Subsingleton.elim _ _
  have hy := (ld_state (STATES (args m c) (seqOf t) (chunkOf t).val) 6 inb_S1x32x64x128_S1x1x64x128_0_6_0_0 x2 x3 (by omega)).trans (STATES_at (args m c) (seqOf t) (chunkOf t).val ⟨6, by omega⟩ 0 6 x2 x3 rfl)
  have h1 := (reads_0 m c t hr).S6 _ x2 x3 hy
  have h2 := (congrArg (STATES (args m c) (seqOf t) ((chunkOf t).val + 1)) (emb_state 6 inb_S1x32x64x128_S1x1x64x128_0_6_0_0 x2 x3 (by omega))).trans (STATES_at (args m c) (seqOf t) ((chunkOf t).val + 1) ⟨6, by omega⟩ 0 6 x2 x3 rfl)
  exact h1.trans h2.symm

theorem state_piece_7 (x : S1x1x64x128.Idx) :
    Tiles.S7 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (iblk m c 7 t) (View.ld (Val := Elt Ideal) (e' := .f32) H (Rect.unit (s := S1x32x64x128) ![0, 7, 0, 0] S1x1x64x128.size inb_S1x32x64x128_S1x1x64x128_0_7_0_0)) x
    = STATES (args m c) (seqOf t) ((chunkOf t).val + 1) ((Rect.unit (s := S1x32x64x128) ![0, 7, 0, 0] S1x1x64x128.size inb_S1x32x64x128_S1x1x64x128_0_7_0_0).emb x) := by
  subst hH
  idx_vars x
  obtain rfl : x0 = 0 := Subsingleton.elim _ _
  obtain rfl : x1 = 0 := Subsingleton.elim _ _
  have hy := (ld_state (STATES (args m c) (seqOf t) (chunkOf t).val) 7 inb_S1x32x64x128_S1x1x64x128_0_7_0_0 x2 x3 (by omega)).trans (STATES_at (args m c) (seqOf t) (chunkOf t).val ⟨7, by omega⟩ 0 7 x2 x3 rfl)
  have h1 := (reads_0 m c t hr).S7 _ x2 x3 hy
  have h2 := (congrArg (STATES (args m c) (seqOf t) ((chunkOf t).val + 1)) (emb_state 7 inb_S1x32x64x128_S1x1x64x128_0_7_0_0 x2 x3 (by omega))).trans (STATES_at (args m c) (seqOf t) ((chunkOf t).val + 1) ⟨7, by omega⟩ 0 7 x2 x3 rfl)
  exact h1.trans h2.symm

theorem state_piece_8 (x : S1x1x64x128.Idx) :
    Tiles.S0 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 8, 0, 0] S1x1x64x128.size inb_S1x32x64x128_S1x1x64x128_0_8_0_0)) x
    = STATES (args m c) (seqOf t) ((chunkOf t).val + 1) ((Rect.unit (s := S1x32x64x128) ![0, 8, 0, 0] S1x1x64x128.size inb_S1x32x64x128_S1x1x64x128_0_8_0_0).emb x) := by
  subst hH
  idx_vars x
  obtain rfl : x0 = 0 := Subsingleton.elim _ _
  obtain rfl : x1 = 0 := Subsingleton.elim _ _
  have hy := (ld_state (STATES (args m c) (seqOf t) (chunkOf t).val) 8 inb_S1x32x64x128_S1x1x64x128_0_8_0_0 x2 x3 (by omega)).trans (STATES_at (args m c) (seqOf t) (chunkOf t).val ⟨8, by omega⟩ 1 0 x2 x3 rfl)
  have h1 := (reads_1 m c t hr).S0 _ x2 x3 hy
  have h2 := (congrArg (STATES (args m c) (seqOf t) ((chunkOf t).val + 1)) (emb_state 8 inb_S1x32x64x128_S1x1x64x128_0_8_0_0 x2 x3 (by omega))).trans (STATES_at (args m c) (seqOf t) ((chunkOf t).val + 1) ⟨8, by omega⟩ 1 0 x2 x3 rfl)
  exact h1.trans h2.symm

theorem state_piece_9 (x : S1x1x64x128.Idx) :
    Tiles.S1 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 9, 0, 0] S1x1x64x128.size inb_S1x32x64x128_S1x1x64x128_0_9_0_0)) x
    = STATES (args m c) (seqOf t) ((chunkOf t).val + 1) ((Rect.unit (s := S1x32x64x128) ![0, 9, 0, 0] S1x1x64x128.size inb_S1x32x64x128_S1x1x64x128_0_9_0_0).emb x) := by
  subst hH
  idx_vars x
  obtain rfl : x0 = 0 := Subsingleton.elim _ _
  obtain rfl : x1 = 0 := Subsingleton.elim _ _
  have hy := (ld_state (STATES (args m c) (seqOf t) (chunkOf t).val) 9 inb_S1x32x64x128_S1x1x64x128_0_9_0_0 x2 x3 (by omega)).trans (STATES_at (args m c) (seqOf t) (chunkOf t).val ⟨9, by omega⟩ 1 1 x2 x3 rfl)
  have h1 := (reads_1 m c t hr).S1 _ x2 x3 hy
  have h2 := (congrArg (STATES (args m c) (seqOf t) ((chunkOf t).val + 1)) (emb_state 9 inb_S1x32x64x128_S1x1x64x128_0_9_0_0 x2 x3 (by omega))).trans (STATES_at (args m c) (seqOf t) ((chunkOf t).val + 1) ⟨9, by omega⟩ 1 1 x2 x3 rfl)
  exact h1.trans h2.symm

theorem state_piece_10 (x : S1x1x64x128.Idx) :
    Tiles.S2 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 10, 0, 0] S1x1x64x128.size inb_S1x32x64x128_S1x1x64x128_0_10_0_0)) x
    = STATES (args m c) (seqOf t) ((chunkOf t).val + 1) ((Rect.unit (s := S1x32x64x128) ![0, 10, 0, 0] S1x1x64x128.size inb_S1x32x64x128_S1x1x64x128_0_10_0_0).emb x) := by
  subst hH
  idx_vars x
  obtain rfl : x0 = 0 := Subsingleton.elim _ _
  obtain rfl : x1 = 0 := Subsingleton.elim _ _
  have hy := (ld_state (STATES (args m c) (seqOf t) (chunkOf t).val) 10 inb_S1x32x64x128_S1x1x64x128_0_10_0_0 x2 x3 (by omega)).trans (STATES_at (args m c) (seqOf t) (chunkOf t).val ⟨10, by omega⟩ 1 2 x2 x3 rfl)
  have h1 := (reads_1 m c t hr).S2 _ x2 x3 hy
  have h2 := (congrArg (STATES (args m c) (seqOf t) ((chunkOf t).val + 1)) (emb_state 10 inb_S1x32x64x128_S1x1x64x128_0_10_0_0 x2 x3 (by omega))).trans (STATES_at (args m c) (seqOf t) ((chunkOf t).val + 1) ⟨10, by omega⟩ 1 2 x2 x3 rfl)
  exact h1.trans h2.symm

theorem state_piece_11 (x : S1x1x64x128.Idx) :
    Tiles.S3 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 11, 0, 0] S1x1x64x128.size inb_S1x32x64x128_S1x1x64x128_0_11_0_0)) x
    = STATES (args m c) (seqOf t) ((chunkOf t).val + 1) ((Rect.unit (s := S1x32x64x128) ![0, 11, 0, 0] S1x1x64x128.size inb_S1x32x64x128_S1x1x64x128_0_11_0_0).emb x) := by
  subst hH
  idx_vars x
  obtain rfl : x0 = 0 := Subsingleton.elim _ _
  obtain rfl : x1 = 0 := Subsingleton.elim _ _
  have hy := (ld_state (STATES (args m c) (seqOf t) (chunkOf t).val) 11 inb_S1x32x64x128_S1x1x64x128_0_11_0_0 x2 x3 (by omega)).trans (STATES_at (args m c) (seqOf t) (chunkOf t).val ⟨11, by omega⟩ 1 3 x2 x3 rfl)
  have h1 := (reads_1 m c t hr).S3 _ x2 x3 hy
  have h2 := (congrArg (STATES (args m c) (seqOf t) ((chunkOf t).val + 1)) (emb_state 11 inb_S1x32x64x128_S1x1x64x128_0_11_0_0 x2 x3 (by omega))).trans (STATES_at (args m c) (seqOf t) ((chunkOf t).val + 1) ⟨11, by omega⟩ 1 3 x2 x3 rfl)
  exact h1.trans h2.symm

theorem state_piece_12 (x : S1x1x64x128.Idx) :
    Tiles.S4 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 12, 0, 0] S1x1x64x128.size inb_S1x32x64x128_S1x1x64x128_0_12_0_0)) x
    = STATES (args m c) (seqOf t) ((chunkOf t).val + 1) ((Rect.unit (s := S1x32x64x128) ![0, 12, 0, 0] S1x1x64x128.size inb_S1x32x64x128_S1x1x64x128_0_12_0_0).emb x) := by
  subst hH
  idx_vars x
  obtain rfl : x0 = 0 := Subsingleton.elim _ _
  obtain rfl : x1 = 0 := Subsingleton.elim _ _
  have hy := (ld_state (STATES (args m c) (seqOf t) (chunkOf t).val) 12 inb_S1x32x64x128_S1x1x64x128_0_12_0_0 x2 x3 (by omega)).trans (STATES_at (args m c) (seqOf t) (chunkOf t).val ⟨12, by omega⟩ 1 4 x2 x3 rfl)
  have h1 := (reads_1 m c t hr).S4 _ x2 x3 hy
  have h2 := (congrArg (STATES (args m c) (seqOf t) ((chunkOf t).val + 1)) (emb_state 12 inb_S1x32x64x128_S1x1x64x128_0_12_0_0 x2 x3 (by omega))).trans (STATES_at (args m c) (seqOf t) ((chunkOf t).val + 1) ⟨12, by omega⟩ 1 4 x2 x3 rfl)
  exact h1.trans h2.symm

theorem state_piece_13 (x : S1x1x64x128.Idx) :
    Tiles.S5 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 13, 0, 0] S1x1x64x128.size inb_S1x32x64x128_S1x1x64x128_0_13_0_0)) x
    = STATES (args m c) (seqOf t) ((chunkOf t).val + 1) ((Rect.unit (s := S1x32x64x128) ![0, 13, 0, 0] S1x1x64x128.size inb_S1x32x64x128_S1x1x64x128_0_13_0_0).emb x) := by
  subst hH
  idx_vars x
  obtain rfl : x0 = 0 := Subsingleton.elim _ _
  obtain rfl : x1 = 0 := Subsingleton.elim _ _
  have hy := (ld_state (STATES (args m c) (seqOf t) (chunkOf t).val) 13 inb_S1x32x64x128_S1x1x64x128_0_13_0_0 x2 x3 (by omega)).trans (STATES_at (args m c) (seqOf t) (chunkOf t).val ⟨13, by omega⟩ 1 5 x2 x3 rfl)
  have h1 := (reads_1 m c t hr).S5 _ x2 x3 hy
  have h2 := (congrArg (STATES (args m c) (seqOf t) ((chunkOf t).val + 1)) (emb_state 13 inb_S1x32x64x128_S1x1x64x128_0_13_0_0 x2 x3 (by omega))).trans (STATES_at (args m c) (seqOf t) ((chunkOf t).val + 1) ⟨13, by omega⟩ 1 5 x2 x3 rfl)
  exact h1.trans h2.symm

theorem state_piece_14 (x : S1x1x64x128.Idx) :
    Tiles.S6 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 14, 0, 0] S1x1x64x128.size inb_S1x32x64x128_S1x1x64x128_0_14_0_0)) x
    = STATES (args m c) (seqOf t) ((chunkOf t).val + 1) ((Rect.unit (s := S1x32x64x128) ![0, 14, 0, 0] S1x1x64x128.size inb_S1x32x64x128_S1x1x64x128_0_14_0_0).emb x) := by
  subst hH
  idx_vars x
  obtain rfl : x0 = 0 := Subsingleton.elim _ _
  obtain rfl : x1 = 0 := Subsingleton.elim _ _
  have hy := (ld_state (STATES (args m c) (seqOf t) (chunkOf t).val) 14 inb_S1x32x64x128_S1x1x64x128_0_14_0_0 x2 x3 (by omega)).trans (STATES_at (args m c) (seqOf t) (chunkOf t).val ⟨14, by omega⟩ 1 6 x2 x3 rfl)
  have h1 := (reads_1 m c t hr).S6 _ x2 x3 hy
  have h2 := (congrArg (STATES (args m c) (seqOf t) ((chunkOf t).val + 1)) (emb_state 14 inb_S1x32x64x128_S1x1x64x128_0_14_0_0 x2 x3 (by omega))).trans (STATES_at (args m c) (seqOf t) ((chunkOf t).val + 1) ⟨14, by omega⟩ 1 6 x2 x3 rfl)
  exact h1.trans h2.symm

theorem state_piece_15 (x : S1x1x64x128.Idx) :
    Tiles.S7 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (iblk m c 7 t) (View.ld (Val := Elt Ideal) (e' := .f32) H (Rect.unit (s := S1x32x64x128) ![0, 15, 0, 0] S1x1x64x128.size inb_S1x32x64x128_S1x1x64x128_0_15_0_0)) x
    = STATES (args m c) (seqOf t) ((chunkOf t).val + 1) ((Rect.unit (s := S1x32x64x128) ![0, 15, 0, 0] S1x1x64x128.size inb_S1x32x64x128_S1x1x64x128_0_15_0_0).emb x) := by
  subst hH
  idx_vars x
  obtain rfl : x0 = 0 := Subsingleton.elim _ _
  obtain rfl : x1 = 0 := Subsingleton.elim _ _
  have hy := (ld_state (STATES (args m c) (seqOf t) (chunkOf t).val) 15 inb_S1x32x64x128_S1x1x64x128_0_15_0_0 x2 x3 (by omega)).trans (STATES_at (args m c) (seqOf t) (chunkOf t).val ⟨15, by omega⟩ 1 7 x2 x3 rfl)
  have h1 := (reads_1 m c t hr).S7 _ x2 x3 hy
  have h2 := (congrArg (STATES (args m c) (seqOf t) ((chunkOf t).val + 1)) (emb_state 15 inb_S1x32x64x128_S1x1x64x128_0_15_0_0 x2 x3 (by omega))).trans (STATES_at (args m c) (seqOf t) ((chunkOf t).val + 1) ⟨15, by omega⟩ 1 7 x2 x3 rfl)
  exact h1.trans h2.symm

theorem state_piece_16 (x : S1x1x64x128.Idx) :
    Tiles.S0 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 16, 0, 0] S1x1x64x128.size inb_S1x32x64x128_S1x1x64x128_0_16_0_0)) x
    = STATES (args m c) (seqOf t) ((chunkOf t).val + 1) ((Rect.unit (s := S1x32x64x128) ![0, 16, 0, 0] S1x1x64x128.size inb_S1x32x64x128_S1x1x64x128_0_16_0_0).emb x) := by
  subst hH
  idx_vars x
  obtain rfl : x0 = 0 := Subsingleton.elim _ _
  obtain rfl : x1 = 0 := Subsingleton.elim _ _
  have hy := (ld_state (STATES (args m c) (seqOf t) (chunkOf t).val) 16 inb_S1x32x64x128_S1x1x64x128_0_16_0_0 x2 x3 (by omega)).trans (STATES_at (args m c) (seqOf t) (chunkOf t).val ⟨16, by omega⟩ 2 0 x2 x3 rfl)
  have h1 := (reads_2 m c t hr).S0 _ x2 x3 hy
  have h2 := (congrArg (STATES (args m c) (seqOf t) ((chunkOf t).val + 1)) (emb_state 16 inb_S1x32x64x128_S1x1x64x128_0_16_0_0 x2 x3 (by omega))).trans (STATES_at (args m c) (seqOf t) ((chunkOf t).val + 1) ⟨16, by omega⟩ 2 0 x2 x3 rfl)
  exact h1.trans h2.symm

theorem state_piece_17 (x : S1x1x64x128.Idx) :
    Tiles.S1 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 17, 0, 0] S1x1x64x128.size inb_S1x32x64x128_S1x1x64x128_0_17_0_0)) x
    = STATES (args m c) (seqOf t) ((chunkOf t).val + 1) ((Rect.unit (s := S1x32x64x128) ![0, 17, 0, 0] S1x1x64x128.size inb_S1x32x64x128_S1x1x64x128_0_17_0_0).emb x) := by
  subst hH
  idx_vars x
  obtain rfl : x0 = 0 := Subsingleton.elim _ _
  obtain rfl : x1 = 0 := Subsingleton.elim _ _
  have hy := (ld_state (STATES (args m c) (seqOf t) (chunkOf t).val) 17 inb_S1x32x64x128_S1x1x64x128_0_17_0_0 x2 x3 (by omega)).trans (STATES_at (args m c) (seqOf t) (chunkOf t).val ⟨17, by omega⟩ 2 1 x2 x3 rfl)
  have h1 := (reads_2 m c t hr).S1 _ x2 x3 hy
  have h2 := (congrArg (STATES (args m c) (seqOf t) ((chunkOf t).val + 1)) (emb_state 17 inb_S1x32x64x128_S1x1x64x128_0_17_0_0 x2 x3 (by omega))).trans (STATES_at (args m c) (seqOf t) ((chunkOf t).val + 1) ⟨17, by omega⟩ 2 1 x2 x3 rfl)
  exact h1.trans h2.symm

theorem state_piece_18 (x : S1x1x64x128.Idx) :
    Tiles.S2 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 18, 0, 0] S1x1x64x128.size inb_S1x32x64x128_S1x1x64x128_0_18_0_0)) x
    = STATES (args m c) (seqOf t) ((chunkOf t).val + 1) ((Rect.unit (s := S1x32x64x128) ![0, 18, 0, 0] S1x1x64x128.size inb_S1x32x64x128_S1x1x64x128_0_18_0_0).emb x) := by
  subst hH
  idx_vars x
  obtain rfl : x0 = 0 := Subsingleton.elim _ _
  obtain rfl : x1 = 0 := Subsingleton.elim _ _
  have hy := (ld_state (STATES (args m c) (seqOf t) (chunkOf t).val) 18 inb_S1x32x64x128_S1x1x64x128_0_18_0_0 x2 x3 (by omega)).trans (STATES_at (args m c) (seqOf t) (chunkOf t).val ⟨18, by omega⟩ 2 2 x2 x3 rfl)
  have h1 := (reads_2 m c t hr).S2 _ x2 x3 hy
  have h2 := (congrArg (STATES (args m c) (seqOf t) ((chunkOf t).val + 1)) (emb_state 18 inb_S1x32x64x128_S1x1x64x128_0_18_0_0 x2 x3 (by omega))).trans (STATES_at (args m c) (seqOf t) ((chunkOf t).val + 1) ⟨18, by omega⟩ 2 2 x2 x3 rfl)
  exact h1.trans h2.symm

theorem state_piece_19 (x : S1x1x64x128.Idx) :
    Tiles.S3 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 19, 0, 0] S1x1x64x128.size inb_S1x32x64x128_S1x1x64x128_0_19_0_0)) x
    = STATES (args m c) (seqOf t) ((chunkOf t).val + 1) ((Rect.unit (s := S1x32x64x128) ![0, 19, 0, 0] S1x1x64x128.size inb_S1x32x64x128_S1x1x64x128_0_19_0_0).emb x) := by
  subst hH
  idx_vars x
  obtain rfl : x0 = 0 := Subsingleton.elim _ _
  obtain rfl : x1 = 0 := Subsingleton.elim _ _
  have hy := (ld_state (STATES (args m c) (seqOf t) (chunkOf t).val) 19 inb_S1x32x64x128_S1x1x64x128_0_19_0_0 x2 x3 (by omega)).trans (STATES_at (args m c) (seqOf t) (chunkOf t).val ⟨19, by omega⟩ 2 3 x2 x3 rfl)
  have h1 := (reads_2 m c t hr).S3 _ x2 x3 hy
  have h2 := (congrArg (STATES (args m c) (seqOf t) ((chunkOf t).val + 1)) (emb_state 19 inb_S1x32x64x128_S1x1x64x128_0_19_0_0 x2 x3 (by omega))).trans (STATES_at (args m c) (seqOf t) ((chunkOf t).val + 1) ⟨19, by omega⟩ 2 3 x2 x3 rfl)
  exact h1.trans h2.symm

theorem state_piece_20 (x : S1x1x64x128.Idx) :
    Tiles.S4 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 20, 0, 0] S1x1x64x128.size inb_S1x32x64x128_S1x1x64x128_0_20_0_0)) x
    = STATES (args m c) (seqOf t) ((chunkOf t).val + 1) ((Rect.unit (s := S1x32x64x128) ![0, 20, 0, 0] S1x1x64x128.size inb_S1x32x64x128_S1x1x64x128_0_20_0_0).emb x) := by
  subst hH
  idx_vars x
  obtain rfl : x0 = 0 := Subsingleton.elim _ _
  obtain rfl : x1 = 0 := Subsingleton.elim _ _
  have hy := (ld_state (STATES (args m c) (seqOf t) (chunkOf t).val) 20 inb_S1x32x64x128_S1x1x64x128_0_20_0_0 x2 x3 (by omega)).trans (STATES_at (args m c) (seqOf t) (chunkOf t).val ⟨20, by omega⟩ 2 4 x2 x3 rfl)
  have h1 := (reads_2 m c t hr).S4 _ x2 x3 hy
  have h2 := (congrArg (STATES (args m c) (seqOf t) ((chunkOf t).val + 1)) (emb_state 20 inb_S1x32x64x128_S1x1x64x128_0_20_0_0 x2 x3 (by omega))).trans (STATES_at (args m c) (seqOf t) ((chunkOf t).val + 1) ⟨20, by omega⟩ 2 4 x2 x3 rfl)
  exact h1.trans h2.symm

theorem state_piece_21 (x : S1x1x64x128.Idx) :
    Tiles.S5 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 21, 0, 0] S1x1x64x128.size inb_S1x32x64x128_S1x1x64x128_0_21_0_0)) x
    = STATES (args m c) (seqOf t) ((chunkOf t).val + 1) ((Rect.unit (s := S1x32x64x128) ![0, 21, 0, 0] S1x1x64x128.size inb_S1x32x64x128_S1x1x64x128_0_21_0_0).emb x) := by
  subst hH
  idx_vars x
  obtain rfl : x0 = 0 := Subsingleton.elim _ _
  obtain rfl : x1 = 0 := Subsingleton.elim _ _
  have hy := (ld_state (STATES (args m c) (seqOf t) (chunkOf t).val) 21 inb_S1x32x64x128_S1x1x64x128_0_21_0_0 x2 x3 (by omega)).trans (STATES_at (args m c) (seqOf t) (chunkOf t).val ⟨21, by omega⟩ 2 5 x2 x3 rfl)
  have h1 := (reads_2 m c t hr).S5 _ x2 x3 hy
  have h2 := (congrArg (STATES (args m c) (seqOf t) ((chunkOf t).val + 1)) (emb_state 21 inb_S1x32x64x128_S1x1x64x128_0_21_0_0 x2 x3 (by omega))).trans (STATES_at (args m c) (seqOf t) ((chunkOf t).val + 1) ⟨21, by omega⟩ 2 5 x2 x3 rfl)
  exact h1.trans h2.symm

theorem state_piece_22 (x : S1x1x64x128.Idx) :
    Tiles.S6 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 22, 0, 0] S1x1x64x128.size inb_S1x32x64x128_S1x1x64x128_0_22_0_0)) x
    = STATES (args m c) (seqOf t) ((chunkOf t).val + 1) ((Rect.unit (s := S1x32x64x128) ![0, 22, 0, 0] S1x1x64x128.size inb_S1x32x64x128_S1x1x64x128_0_22_0_0).emb x) := by
  subst hH
  idx_vars x
  obtain rfl : x0 = 0 := Subsingleton.elim _ _
  obtain rfl : x1 = 0 := Subsingleton.elim _ _
  have hy := (ld_state (STATES (args m c) (seqOf t) (chunkOf t).val) 22 inb_S1x32x64x128_S1x1x64x128_0_22_0_0 x2 x3 (by omega)).trans (STATES_at (args m c) (seqOf t) (chunkOf t).val ⟨22, by omega⟩ 2 6 x2 x3 rfl)
  have h1 := (reads_2 m c t hr).S6 _ x2 x3 hy
  have h2 := (congrArg (STATES (args m c) (seqOf t) ((chunkOf t).val + 1)) (emb_state 22 inb_S1x32x64x128_S1x1x64x128_0_22_0_0 x2 x3 (by omega))).trans (STATES_at (args m c) (seqOf t) ((chunkOf t).val + 1) ⟨22, by omega⟩ 2 6 x2 x3 rfl)
  exact h1.trans h2.symm

theorem state_piece_23 (x : S1x1x64x128.Idx) :
    Tiles.S7 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (iblk m c 7 t) (View.ld (Val := Elt Ideal) (e' := .f32) H (Rect.unit (s := S1x32x64x128) ![0, 23, 0, 0] S1x1x64x128.size inb_S1x32x64x128_S1x1x64x128_0_23_0_0)) x
    = STATES (args m c) (seqOf t) ((chunkOf t).val + 1) ((Rect.unit (s := S1x32x64x128) ![0, 23, 0, 0] S1x1x64x128.size inb_S1x32x64x128_S1x1x64x128_0_23_0_0).emb x) := by
  subst hH
  idx_vars x
  obtain rfl : x0 = 0 := Subsingleton.elim _ _
  obtain rfl : x1 = 0 := Subsingleton.elim _ _
  have hy := (ld_state (STATES (args m c) (seqOf t) (chunkOf t).val) 23 inb_S1x32x64x128_S1x1x64x128_0_23_0_0 x2 x3 (by omega)).trans (STATES_at (args m c) (seqOf t) (chunkOf t).val ⟨23, by omega⟩ 2 7 x2 x3 rfl)
  have h1 := (reads_2 m c t hr).S7 _ x2 x3 hy
  have h2 := (congrArg (STATES (args m c) (seqOf t) ((chunkOf t).val + 1)) (emb_state 23 inb_S1x32x64x128_S1x1x64x128_0_23_0_0 x2 x3 (by omega))).trans (STATES_at (args m c) (seqOf t) ((chunkOf t).val + 1) ⟨23, by omega⟩ 2 7 x2 x3 rfl)
  exact h1.trans h2.symm

theorem state_piece_24 (x : S1x1x64x128.Idx) :
    Tiles.S0 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 24, 0, 0] S1x1x64x128.size inb_S1x32x64x128_S1x1x64x128_0_24_0_0)) x
    = STATES (args m c) (seqOf t) ((chunkOf t).val + 1) ((Rect.unit (s := S1x32x64x128) ![0, 24, 0, 0] S1x1x64x128.size inb_S1x32x64x128_S1x1x64x128_0_24_0_0).emb x) := by
  subst hH
  idx_vars x
  obtain rfl : x0 = 0 := Subsingleton.elim _ _
  obtain rfl : x1 = 0 := Subsingleton.elim _ _
  have hy := (ld_state (STATES (args m c) (seqOf t) (chunkOf t).val) 24 inb_S1x32x64x128_S1x1x64x128_0_24_0_0 x2 x3 (by omega)).trans (STATES_at (args m c) (seqOf t) (chunkOf t).val ⟨24, by omega⟩ 3 0 x2 x3 rfl)
  have h1 := (reads_3 m c t hr).S0 _ x2 x3 hy
  have h2 := (congrArg (STATES (args m c) (seqOf t) ((chunkOf t).val + 1)) (emb_state 24 inb_S1x32x64x128_S1x1x64x128_0_24_0_0 x2 x3 (by omega))).trans (STATES_at (args m c) (seqOf t) ((chunkOf t).val + 1) ⟨24, by omega⟩ 3 0 x2 x3 rfl)
  exact h1.trans h2.symm

theorem state_piece_25 (x : S1x1x64x128.Idx) :
    Tiles.S1 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 25, 0, 0] S1x1x64x128.size inb_S1x32x64x128_S1x1x64x128_0_25_0_0)) x
    = STATES (args m c) (seqOf t) ((chunkOf t).val + 1) ((Rect.unit (s := S1x32x64x128) ![0, 25, 0, 0] S1x1x64x128.size inb_S1x32x64x128_S1x1x64x128_0_25_0_0).emb x) := by
  subst hH
  idx_vars x
  obtain rfl : x0 = 0 := Subsingleton.elim _ _
  obtain rfl : x1 = 0 := Subsingleton.elim _ _
  have hy := (ld_state (STATES (args m c) (seqOf t) (chunkOf t).val) 25 inb_S1x32x64x128_S1x1x64x128_0_25_0_0 x2 x3 (by omega)).trans (STATES_at (args m c) (seqOf t) (chunkOf t).val ⟨25, by omega⟩ 3 1 x2 x3 rfl)
  have h1 := (reads_3 m c t hr).S1 _ x2 x3 hy
  have h2 := (congrArg (STATES (args m c) (seqOf t) ((chunkOf t).val + 1)) (emb_state 25 inb_S1x32x64x128_S1x1x64x128_0_25_0_0 x2 x3 (by omega))).trans (STATES_at (args m c) (seqOf t) ((chunkOf t).val + 1) ⟨25, by omega⟩ 3 1 x2 x3 rfl)
  exact h1.trans h2.symm

theorem state_piece_26 (x : S1x1x64x128.Idx) :
    Tiles.S2 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 26, 0, 0] S1x1x64x128.size inb_S1x32x64x128_S1x1x64x128_0_26_0_0)) x
    = STATES (args m c) (seqOf t) ((chunkOf t).val + 1) ((Rect.unit (s := S1x32x64x128) ![0, 26, 0, 0] S1x1x64x128.size inb_S1x32x64x128_S1x1x64x128_0_26_0_0).emb x) := by
  subst hH
  idx_vars x
  obtain rfl : x0 = 0 := Subsingleton.elim _ _
  obtain rfl : x1 = 0 := Subsingleton.elim _ _
  have hy := (ld_state (STATES (args m c) (seqOf t) (chunkOf t).val) 26 inb_S1x32x64x128_S1x1x64x128_0_26_0_0 x2 x3 (by omega)).trans (STATES_at (args m c) (seqOf t) (chunkOf t).val ⟨26, by omega⟩ 3 2 x2 x3 rfl)
  have h1 := (reads_3 m c t hr).S2 _ x2 x3 hy
  have h2 := (congrArg (STATES (args m c) (seqOf t) ((chunkOf t).val + 1)) (emb_state 26 inb_S1x32x64x128_S1x1x64x128_0_26_0_0 x2 x3 (by omega))).trans (STATES_at (args m c) (seqOf t) ((chunkOf t).val + 1) ⟨26, by omega⟩ 3 2 x2 x3 rfl)
  exact h1.trans h2.symm

theorem state_piece_27 (x : S1x1x64x128.Idx) :
    Tiles.S3 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 27, 0, 0] S1x1x64x128.size inb_S1x32x64x128_S1x1x64x128_0_27_0_0)) x
    = STATES (args m c) (seqOf t) ((chunkOf t).val + 1) ((Rect.unit (s := S1x32x64x128) ![0, 27, 0, 0] S1x1x64x128.size inb_S1x32x64x128_S1x1x64x128_0_27_0_0).emb x) := by
  subst hH
  idx_vars x
  obtain rfl : x0 = 0 := Subsingleton.elim _ _
  obtain rfl : x1 = 0 := Subsingleton.elim _ _
  have hy := (ld_state (STATES (args m c) (seqOf t) (chunkOf t).val) 27 inb_S1x32x64x128_S1x1x64x128_0_27_0_0 x2 x3 (by omega)).trans (STATES_at (args m c) (seqOf t) (chunkOf t).val ⟨27, by omega⟩ 3 3 x2 x3 rfl)
  have h1 := (reads_3 m c t hr).S3 _ x2 x3 hy
  have h2 := (congrArg (STATES (args m c) (seqOf t) ((chunkOf t).val + 1)) (emb_state 27 inb_S1x32x64x128_S1x1x64x128_0_27_0_0 x2 x3 (by omega))).trans (STATES_at (args m c) (seqOf t) ((chunkOf t).val + 1) ⟨27, by omega⟩ 3 3 x2 x3 rfl)
  exact h1.trans h2.symm

theorem state_piece_28 (x : S1x1x64x128.Idx) :
    Tiles.S4 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 28, 0, 0] S1x1x64x128.size inb_S1x32x64x128_S1x1x64x128_0_28_0_0)) x
    = STATES (args m c) (seqOf t) ((chunkOf t).val + 1) ((Rect.unit (s := S1x32x64x128) ![0, 28, 0, 0] S1x1x64x128.size inb_S1x32x64x128_S1x1x64x128_0_28_0_0).emb x) := by
  subst hH
  idx_vars x
  obtain rfl : x0 = 0 := Subsingleton.elim _ _
  obtain rfl : x1 = 0 := Subsingleton.elim _ _
  have hy := (ld_state (STATES (args m c) (seqOf t) (chunkOf t).val) 28 inb_S1x32x64x128_S1x1x64x128_0_28_0_0 x2 x3 (by omega)).trans (STATES_at (args m c) (seqOf t) (chunkOf t).val ⟨28, by omega⟩ 3 4 x2 x3 rfl)
  have h1 := (reads_3 m c t hr).S4 _ x2 x3 hy
  have h2 := (congrArg (STATES (args m c) (seqOf t) ((chunkOf t).val + 1)) (emb_state 28 inb_S1x32x64x128_S1x1x64x128_0_28_0_0 x2 x3 (by omega))).trans (STATES_at (args m c) (seqOf t) ((chunkOf t).val + 1) ⟨28, by omega⟩ 3 4 x2 x3 rfl)
  exact h1.trans h2.symm

theorem state_piece_29 (x : S1x1x64x128.Idx) :
    Tiles.S5 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 29, 0, 0] S1x1x64x128.size inb_S1x32x64x128_S1x1x64x128_0_29_0_0)) x
    = STATES (args m c) (seqOf t) ((chunkOf t).val + 1) ((Rect.unit (s := S1x32x64x128) ![0, 29, 0, 0] S1x1x64x128.size inb_S1x32x64x128_S1x1x64x128_0_29_0_0).emb x) := by
  subst hH
  idx_vars x
  obtain rfl : x0 = 0 := Subsingleton.elim _ _
  obtain rfl : x1 = 0 := Subsingleton.elim _ _
  have hy := (ld_state (STATES (args m c) (seqOf t) (chunkOf t).val) 29 inb_S1x32x64x128_S1x1x64x128_0_29_0_0 x2 x3 (by omega)).trans (STATES_at (args m c) (seqOf t) (chunkOf t).val ⟨29, by omega⟩ 3 5 x2 x3 rfl)
  have h1 := (reads_3 m c t hr).S5 _ x2 x3 hy
  have h2 := (congrArg (STATES (args m c) (seqOf t) ((chunkOf t).val + 1)) (emb_state 29 inb_S1x32x64x128_S1x1x64x128_0_29_0_0 x2 x3 (by omega))).trans (STATES_at (args m c) (seqOf t) ((chunkOf t).val + 1) ⟨29, by omega⟩ 3 5 x2 x3 rfl)
  exact h1.trans h2.symm

theorem state_piece_30 (x : S1x1x64x128.Idx) :
    Tiles.S6 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 30, 0, 0] S1x1x64x128.size inb_S1x32x64x128_S1x1x64x128_0_30_0_0)) x
    = STATES (args m c) (seqOf t) ((chunkOf t).val + 1) ((Rect.unit (s := S1x32x64x128) ![0, 30, 0, 0] S1x1x64x128.size inb_S1x32x64x128_S1x1x64x128_0_30_0_0).emb x) := by
  subst hH
  idx_vars x
  obtain rfl : x0 = 0 := Subsingleton.elim _ _
  obtain rfl : x1 = 0 := Subsingleton.elim _ _
  have hy := (ld_state (STATES (args m c) (seqOf t) (chunkOf t).val) 30 inb_S1x32x64x128_S1x1x64x128_0_30_0_0 x2 x3 (by omega)).trans (STATES_at (args m c) (seqOf t) (chunkOf t).val ⟨30, by omega⟩ 3 6 x2 x3 rfl)
  have h1 := (reads_3 m c t hr).S6 _ x2 x3 hy
  have h2 := (congrArg (STATES (args m c) (seqOf t) ((chunkOf t).val + 1)) (emb_state 30 inb_S1x32x64x128_S1x1x64x128_0_30_0_0 x2 x3 (by omega))).trans (STATES_at (args m c) (seqOf t) ((chunkOf t).val + 1) ⟨30, by omega⟩ 3 6 x2 x3 rfl)
  exact h1.trans h2.symm

theorem state_piece_31 (x : S1x1x64x128.Idx) :
    Tiles.S7 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (iblk m c 7 t) (View.ld (Val := Elt Ideal) (e' := .f32) H (Rect.unit (s := S1x32x64x128) ![0, 31, 0, 0] S1x1x64x128.size inb_S1x32x64x128_S1x1x64x128_0_31_0_0)) x
    = STATES (args m c) (seqOf t) ((chunkOf t).val + 1) ((Rect.unit (s := S1x32x64x128) ![0, 31, 0, 0] S1x1x64x128.size inb_S1x32x64x128_S1x1x64x128_0_31_0_0).emb x) := by
  subst hH
  idx_vars x
  obtain rfl : x0 = 0 := Subsingleton.elim _ _
  obtain rfl : x1 = 0 := Subsingleton.elim _ _
  have hy := (ld_state (STATES (args m c) (seqOf t) (chunkOf t).val) 31 inb_S1x32x64x128_S1x1x64x128_0_31_0_0 x2 x3 (by omega)).trans (STATES_at (args m c) (seqOf t) (chunkOf t).val ⟨31, by omega⟩ 3 7 x2 x3 rfl)
  have h1 := (reads_3 m c t hr).S7 _ x2 x3 hy
  have h2 := (congrArg (STATES (args m c) (seqOf t) ((chunkOf t).val + 1)) (emb_state 31 inb_S1x32x64x128_S1x1x64x128_0_31_0_0 x2 x3 (by omega))).trans (STATES_at (args m c) (seqOf t) ((chunkOf t).val + 1) ⟨31, by omega⟩ 3 7 x2 x3 rfl)
  exact h1.trans h2.symm

theorem row_piece_0 (x : S1x128x128.Idx) :
    Tiles.Y0 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (View.ld (Val := Elt Ideal) (e' := .bf16) (iblk m c 2 t) (Rect.unit (s := S1x128x512) ![0, 0, 0] S1x128x128.size inb_S1x128x512_S1x128x128_0_0_0)) (iblk m c 7 t) (View.ld (Val := Elt Ideal) (e' := .f32) H (Rect.unit (s := S1x32x64x128) ![0, 0, 0, 0] S1x8x64x128.size inb_S1x32x64x128_S1x8x64x128_0_0_0_0)) (View.ld (Val := Elt Ideal) (e' := .f32) (iblk m c 6 t) (Rect.unit (s := S4x1x512) ![0, 0, 0] S1x1x512.size inb_S4x1x512_S1x1x512_0_0_0)) x
    = ROWS (args m c) (seqOf t) (chunkOf t) ((Rect.unit (s := S1x128x2048) ![0, 0, 0] S1x128x128.size inb_S1x128x2048_S1x128x128_0_0_0).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 0, 0, 0] S1x8x64x128.size inb_S1x32x64x128_S1x8x64x128_0_0_0_0) (ix4 0 ⟨0 + x2.val / 64, by omega⟩ ⟨x2.val % 64, by omega⟩ i)
      = (args m c).state (seqOf t) 0 ⟨0 + x2.val / 64, by omega⟩ ⟨x2.val % 64, by omega⟩ i (chunkOf t).val := fun i =>
    (ld_states _ 0 inb_S1x32x64x128_S1x8x64x128_0_0_0_0 ⟨0 + x2.val / 64, by omega⟩ ⟨x2.val % 64, by omega⟩ i (by dsimp only; omega)).trans
      (STATES_at (args m c) (seqOf t) (chunkOf t).val _ 0 ⟨0 + x2.val / 64, by omega⟩ ⟨x2.val % 64, by omega⟩ i (by show 0 + (0 + x2.val / 64) = 0 * 8 + (0 + x2.val / 64); omega))
  have h1 := (reads_0 m c t hr).Y0 _ x1 x2 ⟨0 + x2.val / 64, by omega⟩ rfl hy
  have h2 := (congrArg (ROWS (args m c) (seqOf t) (chunkOf t)) (emb_row 0 inb_S1x128x2048_S1x128x128_0_0_0 x1 x2 (by omega))).trans (ROWS_at (args m c) (seqOf t) (chunkOf t) ⟨0 + x2.val, by omega⟩ 0 ⟨0 + x2.val / 64, by omega⟩ ⟨x2.val % 64, by omega⟩ x1
    (by show 0 + x2.val = 0 * 512 + (0 + x2.val / 64) * 64 + x2.val % 64; omega))
  exact h1.trans h2.symm

theorem row_piece_1 (x : S1x128x128.Idx) :
    Tiles.Y1 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (View.ld (Val := Elt Ideal) (e' := .bf16) (iblk m c 2 t) (Rect.unit (s := S1x128x512) ![0, 0, 0] S1x128x128.size inb_S1x128x512_S1x128x128_0_0_0)) (iblk m c 7 t) (View.ld (Val := Elt Ideal) (e' := .f32) H (Rect.unit (s := S1x32x64x128) ![0, 0, 0, 0] S1x8x64x128.size inb_S1x32x64x128_S1x8x64x128_0_0_0_0)) (View.ld (Val := Elt Ideal) (e' := .f32) (iblk m c 6 t) (Rect.unit (s := S4x1x512) ![0, 0, 0] S1x1x512.size inb_S4x1x512_S1x1x512_0_0_0)) x
    = ROWS (args m c) (seqOf t) (chunkOf t) ((Rect.unit (s := S1x128x2048) ![0, 0, 128] S1x128x128.size inb_S1x128x2048_S1x128x128_0_0_128).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 0, 0, 0] S1x8x64x128.size inb_S1x32x64x128_S1x8x64x128_0_0_0_0) (ix4 0 ⟨2 + x2.val / 64, by omega⟩ ⟨x2.val % 64, by omega⟩ i)
      = (args m c).state (seqOf t) 0 ⟨2 + x2.val / 64, by omega⟩ ⟨x2.val % 64, by omega⟩ i (chunkOf t).val := fun i =>
    (ld_states _ 0 inb_S1x32x64x128_S1x8x64x128_0_0_0_0 ⟨2 + x2.val / 64, by omega⟩ ⟨x2.val % 64, by omega⟩ i (by dsimp only; omega)).trans
      (STATES_at (args m c) (seqOf t) (chunkOf t).val _ 0 ⟨2 + x2.val / 64, by omega⟩ ⟨x2.val % 64, by omega⟩ i (by show 0 + (2 + x2.val / 64) = 0 * 8 + (2 + x2.val / 64); omega))
  have h1 := (reads_0 m c t hr).Y1 _ x1 x2 ⟨2 + x2.val / 64, by omega⟩ rfl hy
  have h2 := (congrArg (ROWS (args m c) (seqOf t) (chunkOf t)) (emb_row 128 inb_S1x128x2048_S1x128x128_0_0_128 x1 x2 (by omega))).trans (ROWS_at (args m c) (seqOf t) (chunkOf t) ⟨128 + x2.val, by omega⟩ 0 ⟨2 + x2.val / 64, by omega⟩ ⟨x2.val % 64, by omega⟩ x1
    (by show 128 + x2.val = 0 * 512 + (2 + x2.val / 64) * 64 + x2.val % 64; omega))
  exact h1.trans h2.symm

theorem row_piece_2 (x : S1x128x128.Idx) :
    Tiles.Y2 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (View.ld (Val := Elt Ideal) (e' := .bf16) (iblk m c 2 t) (Rect.unit (s := S1x128x512) ![0, 0, 0] S1x128x128.size inb_S1x128x512_S1x128x128_0_0_0)) (iblk m c 7 t) (View.ld (Val := Elt Ideal) (e' := .f32) H (Rect.unit (s := S1x32x64x128) ![0, 0, 0, 0] S1x8x64x128.size inb_S1x32x64x128_S1x8x64x128_0_0_0_0)) (View.ld (Val := Elt Ideal) (e' := .f32) (iblk m c 6 t) (Rect.unit (s := S4x1x512) ![0, 0, 0] S1x1x512.size inb_S4x1x512_S1x1x512_0_0_0)) x
    = ROWS (args m c) (seqOf t) (chunkOf t) ((Rect.unit (s := S1x128x2048) ![0, 0, 256] S1x128x128.size inb_S1x128x2048_S1x128x128_0_0_256).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 0, 0, 0] S1x8x64x128.size inb_S1x32x64x128_S1x8x64x128_0_0_0_0) (ix4 0 ⟨4 + x2.val / 64, by omega⟩ ⟨x2.val % 64, by omega⟩ i)
      = (args m c).state (seqOf t) 0 ⟨4 + x2.val / 64, by omega⟩ ⟨x2.val % 64, by omega⟩ i (chunkOf t).val := fun i =>
    (ld_states _ 0 inb_S1x32x64x128_S1x8x64x128_0_0_0_0 ⟨4 + x2.val / 64, by omega⟩ ⟨x2.val % 64, by omega⟩ i (by dsimp only; omega)).trans
      (STATES_at (args m c) (seqOf t) (chunkOf t).val _ 0 ⟨4 + x2.val / 64, by omega⟩ ⟨x2.val % 64, by omega⟩ i (by show 0 + (4 + x2.val / 64) = 0 * 8 + (4 + x2.val / 64); omega))
  have h1 := (reads_0 m c t hr).Y2 _ x1 x2 ⟨4 + x2.val / 64, by omega⟩ rfl hy
  have h2 := (congrArg (ROWS (args m c) (seqOf t) (chunkOf t)) (emb_row 256 inb_S1x128x2048_S1x128x128_0_0_256 x1 x2 (by omega))).trans (ROWS_at (args m c) (seqOf t) (chunkOf t) ⟨256 + x2.val, by omega⟩ 0 ⟨4 + x2.val / 64, by omega⟩ ⟨x2.val % 64, by omega⟩ x1
    (by show 256 + x2.val = 0 * 512 + (4 + x2.val / 64) * 64 + x2.val % 64; omega))
  exact h1.trans h2.symm

theorem row_piece_3 (x : S1x128x128.Idx) :
    Tiles.Y3 (View.ld (Val := Elt Ideal) (e' := .f32) (iblk m c 3 t) (Rect.unit (s := S128x512) ![0, 0] S128x128.size inb_S128x512_S128x128_0_0)) (View.ld (Val := Elt Ideal) (e' := .f32) (iblk m c 4 t) (Rect.unit (s := S4x1x128) ![0, 0, 0] S1x1x128.size inb_S4x1x128_S1x1x128_0_0_0)) (View.ld (Val := Elt Ideal) (e' := .f32) (iblk m c 5 t) (Rect.unit (s := S4x1x128) ![0, 0, 0] S1x1x128.size inb_S4x1x128_S1x1x128_0_0_0))
      (View.ld (Val := Elt Ideal) (e' := .bf16) (X0_0 m c t) (Rect.unit (s := S1x128x2048) ![0, 0, 0] S1x128x512.size inb_S1x128x2048_S1x128x512_0_0_0)) (View.ld (Val := Elt Ideal) (e' := .bf16) (iblk m c 1 t) (Rect.unit (s := S1x128x512) ![0, 0, 0] S1x128x128.size inb_S1x128x512_S1x128x128_0_0_0)) (View.ld (Val := Elt Ideal) (e' := .bf16) (iblk m c 2 t) (Rect.unit (s := S1x128x512) ![0, 0, 0] S1x128x128.size inb_S1x128x512_S1x128x128_0_0_0)) (iblk m c 7 t) (View.ld (Val := Elt Ideal) (e' := .f32) H (Rect.unit (s := S1x32x64x128) ![0, 0, 0, 0] S1x8x64x128.size inb_S1x32x64x128_S1x8x64x128_0_0_0_0)) (View.ld (Val := Elt Ideal) (e' := .f32) (iblk m c 6 t) (Rect.unit (s := S4x1x512) ![0, 0, 0] S1x1x512.size inb_S4x1x512_S1x1x512_0_0_0)) x
    = ROWS (args m c) (seqOf t) (chunkOf t) ((Rect.unit (s := S1x128x2048) ![0, 0, 384] S1x128x128.size inb_S1x128x2048_S1x128x128_0_0_384).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 0, 0, 0] S1x8x64x128.size inb_S1x32x64x128_S1x8x64x128_0_0_0_0) (ix4 0 ⟨6 + x2.val / 64, by omega⟩ ⟨x2.val % 64, by omega⟩ i)
      = (args m c).state (seqOf t) 0 ⟨6 + x2.val / 64, by omega⟩ ⟨x2.val % 64, by omega⟩ i (chunkOf t).val := fun i =>
    (ld_states _ 0 inb_S1x32x64x128_S1x8x64x128_0_0_0_0 ⟨6 + x2.val / 64, by omega⟩ ⟨x2.val % 64, by omega⟩ i (by dsimp only; omega)).trans
      (STATES_at (args m c) (seqOf t) (chunkOf t).val _ 0 ⟨6 + x2.val / 64, by omega⟩ ⟨x2.val % 64, by omega⟩ i (by show 0 + (6 + x2.val / 64) = 0 * 8 + (6 + x2.val / 64); omega))
  have h1 := (reads_0 m c t hr).Y3 _ x1 x2 ⟨6 + x2.val / 64, by omega⟩ rfl hy
  have h2 := (congrArg (ROWS (args m c) (seqOf t) (chunkOf t)) (emb_row 384 inb_S1x128x2048_S1x128x128_0_0_384 x1 x2 (by omega))).trans (ROWS_at (args m c) (seqOf t) (chunkOf t) ⟨384 + x2.val, by omega⟩ 0 ⟨6 + x2.val / 64, by omega⟩ ⟨x2.val % 64, by omega⟩ x1
    (by show 384 + x2.val = 0 * 512 + (6 + x2.val / 64) * 64 + x2.val % 64; omega))
  exact h1.trans h2.symm

theorem row_piece_4 (x : S1x128x128.Idx) :
    Tiles.Y0 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (View.ld (Val := Elt Ideal) (e' := .bf16) (iblk m c 2 t) (Rect.unit (s := S1x128x512) ![0, 0, 128] S1x128x128.size inb_S1x128x512_S1x128x128_0_0_128)) (iblk m c 7 t) (View.ld (Val := Elt Ideal) (e' := .f32) H (Rect.unit (s := S1x32x64x128) ![0, 8, 0, 0] S1x8x64x128.size inb_S1x32x64x128_S1x8x64x128_0_8_0_0)) (View.ld (Val := Elt Ideal) (e' := .f32) (iblk m c 6 t) (Rect.unit (s := S4x1x512) ![1, 0, 0] S1x1x512.size inb_S4x1x512_S1x1x512_1_0_0)) x
    = ROWS (args m c) (seqOf t) (chunkOf t) ((Rect.unit (s := S1x128x2048) ![0, 0, 512] S1x128x128.size inb_S1x128x2048_S1x128x128_0_0_512).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 8, 0, 0] S1x8x64x128.size inb_S1x32x64x128_S1x8x64x128_0_8_0_0) (ix4 0 ⟨0 + x2.val / 64, by omega⟩ ⟨x2.val % 64, by omega⟩ i)
      = (args m c).state (seqOf t) 1 ⟨0 + x2.val / 64, by omega⟩ ⟨x2.val % 64, by omega⟩ i (chunkOf t).val := fun i =>
    (ld_states _ 8 inb_S1x32x64x128_S1x8x64x128_0_8_0_0 ⟨0 + x2.val / 64, by omega⟩ ⟨x2.val % 64, by omega⟩ i (by dsimp only; omega)).trans
      (STATES_at (args m c) (seqOf t) (chunkOf t).val _ 1 ⟨0 + x2.val / 64, by omega⟩ ⟨x2.val % 64, by omega⟩ i (by show 8 + (0 + x2.val / 64) = 1 * 8 + (0 + x2.val / 64); omega))
  have h1 := (reads_1 m c t hr).Y0 _ x1 x2 ⟨0 + x2.val / 64, by omega⟩ rfl hy
  have h2 := (congrArg (ROWS (args m c) (seqOf t) (chunkOf t)) (emb_row 512 inb_S1x128x2048_S1x128x128_0_0_512 x1 x2 (by omega))).trans (ROWS_at (args m c) (seqOf t) (chunkOf t) ⟨512 + x2.val, by omega⟩ 1 ⟨0 + x2.val / 64, by omega⟩ ⟨x2.val % 64, by omega⟩ x1
    (by show 512 + x2.val = 1 * 512 + (0 + x2.val / 64) * 64 + x2.val % 64; omega))
  exact h1.trans h2.symm

theorem row_piece_5 (x : S1x128x128.Idx) :
    Tiles.Y1 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (View.ld (Val := Elt Ideal) (e' := .bf16) (iblk m c 2 t) (Rect.unit (s := S1x128x512) ![0, 0, 128] S1x128x128.size inb_S1x128x512_S1x128x128_0_0_128)) (iblk m c 7 t) (View.ld (Val := Elt Ideal) (e' := .f32) H (Rect.unit (s := S1x32x64x128) ![0, 8, 0, 0] S1x8x64x128.size inb_S1x32x64x128_S1x8x64x128_0_8_0_0)) (View.ld (Val := Elt Ideal) (e' := .f32) (iblk m c 6 t) (Rect.unit (s := S4x1x512) ![1, 0, 0] S1x1x512.size inb_S4x1x512_S1x1x512_1_0_0)) x
    = ROWS (args m c) (seqOf t) (chunkOf t) ((Rect.unit (s := S1x128x2048) ![0, 0, 640] S1x128x128.size inb_S1x128x2048_S1x128x128_0_0_640).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 8, 0, 0] S1x8x64x128.size inb_S1x32x64x128_S1x8x64x128_0_8_0_0) (ix4 0 ⟨2 + x2.val / 64, by omega⟩ ⟨x2.val % 64, by omega⟩ i)
      = (args m c).state (seqOf t) 1 ⟨2 + x2.val / 64, by omega⟩ ⟨x2.val % 64, by omega⟩ i (chunkOf t).val := fun i =>
    (ld_states _ 8 inb_S1x32x64x128_S1x8x64x128_0_8_0_0 ⟨2 + x2.val / 64, by omega⟩ ⟨x2.val % 64, by omega⟩ i (by dsimp only; omega)).trans
      (STATES_at (args m c) (seqOf t) (chunkOf t).val _ 1 ⟨2 + x2.val / 64, by omega⟩ ⟨x2.val % 64, by omega⟩ i (by show 8 + (2 + x2.val / 64) = 1 * 8 + (2 + x2.val / 64); omega))
  have h1 := (reads_1 m c t hr).Y1 _ x1 x2 ⟨2 + x2.val / 64, by omega⟩ rfl hy
  have h2 := (congrArg (ROWS (args m c) (seqOf t) (chunkOf t)) (emb_row 640 inb_S1x128x2048_S1x128x128_0_0_640 x1 x2 (by omega))).trans (ROWS_at (args m c) (seqOf t) (chunkOf t) ⟨640 + x2.val, by omega⟩ 1 ⟨2 + x2.val / 64, by omega⟩ ⟨x2.val % 64, by omega⟩ x1
    (by show 640 + x2.val = 1 * 512 + (2 + x2.val / 64) * 64 + x2.val % 64; omega))
  exact h1.trans h2.symm

theorem row_piece_6 (x : S1x128x128.Idx) :
    Tiles.Y2 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (View.ld (Val := Elt Ideal) (e' := .bf16) (iblk m c 2 t) (Rect.unit (s := S1x128x512) ![0, 0, 128] S1x128x128.size inb_S1x128x512_S1x128x128_0_0_128)) (iblk m c 7 t) (View.ld (Val := Elt Ideal) (e' := .f32) H (Rect.unit (s := S1x32x64x128) ![0, 8, 0, 0] S1x8x64x128.size inb_S1x32x64x128_S1x8x64x128_0_8_0_0)) (View.ld (Val := Elt Ideal) (e' := .f32) (iblk m c 6 t) (Rect.unit (s := S4x1x512) ![1, 0, 0] S1x1x512.size inb_S4x1x512_S1x1x512_1_0_0)) x
    = ROWS (args m c) (seqOf t) (chunkOf t) ((Rect.unit (s := S1x128x2048) ![0, 0, 768] S1x128x128.size inb_S1x128x2048_S1x128x128_0_0_768).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 8, 0, 0] S1x8x64x128.size inb_S1x32x64x128_S1x8x64x128_0_8_0_0) (ix4 0 ⟨4 + x2.val / 64, by omega⟩ ⟨x2.val % 64, by omega⟩ i)
      = (args m c).state (seqOf t) 1 ⟨4 + x2.val / 64, by omega⟩ ⟨x2.val % 64, by omega⟩ i (chunkOf t).val := fun i =>
    (ld_states _ 8 inb_S1x32x64x128_S1x8x64x128_0_8_0_0 ⟨4 + x2.val / 64, by omega⟩ ⟨x2.val % 64, by omega⟩ i (by dsimp only; omega)).trans
      (STATES_at (args m c) (seqOf t) (chunkOf t).val _ 1 ⟨4 + x2.val / 64, by omega⟩ ⟨x2.val % 64, by omega⟩ i (by show 8 + (4 + x2.val / 64) = 1 * 8 + (4 + x2.val / 64); omega))
  have h1 := (reads_1 m c t hr).Y2 _ x1 x2 ⟨4 + x2.val / 64, by omega⟩ rfl hy
  have h2 := (congrArg (ROWS (args m c) (seqOf t) (chunkOf t)) (emb_row 768 inb_S1x128x2048_S1x128x128_0_0_768 x1 x2 (by omega))).trans (ROWS_at (args m c) (seqOf t) (chunkOf t) ⟨768 + x2.val, by omega⟩ 1 ⟨4 + x2.val / 64, by omega⟩ ⟨x2.val % 64, by omega⟩ x1
    (by show 768 + x2.val = 1 * 512 + (4 + x2.val / 64) * 64 + x2.val % 64; omega))
  exact h1.trans h2.symm

theorem row_piece_7 (x : S1x128x128.Idx) :
    Tiles.Y3 (View.ld (Val := Elt Ideal) (e' := .f32) (iblk m c 3 t) (Rect.unit (s := S128x512) ![0, 128] S128x128.size inb_S128x512_S128x128_0_128)) (View.ld (Val := Elt Ideal) (e' := .f32) (iblk m c 4 t) (Rect.unit (s := S4x1x128) ![1, 0, 0] S1x1x128.size inb_S4x1x128_S1x1x128_1_0_0)) (View.ld (Val := Elt Ideal) (e' := .f32) (iblk m c 5 t) (Rect.unit (s := S4x1x128) ![1, 0, 0] S1x1x128.size inb_S4x1x128_S1x1x128_1_0_0))
      (View.ld (Val := Elt Ideal) (e' := .bf16) (X0_0 m c t) (Rect.unit (s := S1x128x2048) ![0, 0, 512] S1x128x512.size inb_S1x128x2048_S1x128x512_0_0_512)) (View.ld (Val := Elt Ideal) (e' := .bf16) (iblk m c 1 t) (Rect.unit (s := S1x128x512) ![0, 0, 128] S1x128x128.size inb_S1x128x512_S1x128x128_0_0_128)) (View.ld (Val := Elt Ideal) (e' := .bf16) (iblk m c 2 t) (Rect.unit (s := S1x128x512) ![0, 0, 128] S1x128x128.size inb_S1x128x512_S1x128x128_0_0_128)) (iblk m c 7 t) (View.ld (Val := Elt Ideal) (e' := .f32) H (Rect.unit (s := S1x32x64x128) ![0, 8, 0, 0] S1x8x64x128.size inb_S1x32x64x128_S1x8x64x128_0_8_0_0)) (View.ld (Val := Elt Ideal) (e' := .f32) (iblk m c 6 t) (Rect.unit (s := S4x1x512) ![1, 0, 0] S1x1x512.size inb_S4x1x512_S1x1x512_1_0_0)) x
    = ROWS (args m c) (seqOf t) (chunkOf t) ((Rect.unit (s := S1x128x2048) ![0, 0, 896] S1x128x128.size inb_S1x128x2048_S1x128x128_0_0_896).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 8, 0, 0] S1x8x64x128.size inb_S1x32x64x128_S1x8x64x128_0_8_0_0) (ix4 0 ⟨6 + x2.val / 64, by omega⟩ ⟨x2.val % 64, by omega⟩ i)
      = (args m c).state (seqOf t) 1 ⟨6 + x2.val / 64, by omega⟩ ⟨x2.val % 64, by omega⟩ i (chunkOf t).val := fun i =>
    (ld_states _ 8 inb_S1x32x64x128_S1x8x64x128_0_8_0_0 ⟨6 + x2.val / 64, by omega⟩ ⟨x2.val % 64, by omega⟩ i (by dsimp only; omega)).trans
      (STATES_at (args m c) (seqOf t) (chunkOf t).val _ 1 ⟨6 + x2.val / 64, by omega⟩ ⟨x2.val % 64, by omega⟩ i (by show 8 + (6 + x2.val / 64) = 1 * 8 + (6 + x2.val / 64); omega))
  have h1 := (reads_1 m c t hr).Y3 _ x1 x2 ⟨6 + x2.val / 64, by omega⟩ rfl hy
  have h2 := (congrArg (ROWS (args m c) (seqOf t) (chunkOf t)) (emb_row 896 inb_S1x128x2048_S1x128x128_0_0_896 x1 x2 (by omega))).trans (ROWS_at (args m c) (seqOf t) (chunkOf t) ⟨896 + x2.val, by omega⟩ 1 ⟨6 + x2.val / 64, by omega⟩ ⟨x2.val % 64, by omega⟩ x1
    (by show 896 + x2.val = 1 * 512 + (6 + x2.val / 64) * 64 + x2.val % 64; omega))
  exact h1.trans h2.symm

theorem row_piece_8 (x : S1x128x128.Idx) :
    Tiles.Y0 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (View.ld (Val := Elt Ideal) (e' := .bf16) (iblk m c 2 t) (Rect.unit (s := S1x128x512) ![0, 0, 256] S1x128x128.size inb_S1x128x512_S1x128x128_0_0_256)) (iblk m c 7 t) (View.ld (Val := Elt Ideal) (e' := .f32) H (Rect.unit (s := S1x32x64x128) ![0, 16, 0, 0] S1x8x64x128.size inb_S1x32x64x128_S1x8x64x128_0_16_0_0)) (View.ld (Val := Elt Ideal) (e' := .f32) (iblk m c 6 t) (Rect.unit (s := S4x1x512) ![2, 0, 0] S1x1x512.size inb_S4x1x512_S1x1x512_2_0_0)) x
    = ROWS (args m c) (seqOf t) (chunkOf t) ((Rect.unit (s := S1x128x2048) ![0, 0, 1024] S1x128x128.size inb_S1x128x2048_S1x128x128_0_0_1024).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 16, 0, 0] S1x8x64x128.size inb_S1x32x64x128_S1x8x64x128_0_16_0_0) (ix4 0 ⟨0 + x2.val / 64, by omega⟩ ⟨x2.val % 64, by omega⟩ i)
      = (args m c).state (seqOf t) 2 ⟨0 + x2.val / 64, by omega⟩ ⟨x2.val % 64, by omega⟩ i (chunkOf t).val := fun i =>
    (ld_states _ 16 inb_S1x32x64x128_S1x8x64x128_0_16_0_0 ⟨0 + x2.val / 64, by omega⟩ ⟨x2.val % 64, by omega⟩ i (by dsimp only; omega)).trans
      (STATES_at (args m c) (seqOf t) (chunkOf t).val _ 2 ⟨0 + x2.val / 64, by omega⟩ ⟨x2.val % 64, by omega⟩ i (by show 16 + (0 + x2.val / 64) = 2 * 8 + (0 + x2.val / 64); omega))
  have h1 := (reads_2 m c t hr).Y0 _ x1 x2 ⟨0 + x2.val / 64, by omega⟩ rfl hy
  have h2 := (congrArg (ROWS (args m c) (seqOf t) (chunkOf t)) (emb_row 1024 inb_S1x128x2048_S1x128x128_0_0_1024 x1 x2 (by omega))).trans (ROWS_at (args m c) (seqOf t) (chunkOf t) ⟨1024 + x2.val, by omega⟩ 2 ⟨0 + x2.val / 64, by omega⟩ ⟨x2.val % 64, by omega⟩ x1
    (by show 1024 + x2.val = 2 * 512 + (0 + x2.val / 64) * 64 + x2.val % 64; omega))
  exact h1.trans h2.symm

theorem row_piece_9 (x : S1x128x128.Idx) :
    Tiles.Y1 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (View.ld (Val := Elt Ideal) (e' := .bf16) (iblk m c 2 t) (Rect.unit (s := S1x128x512) ![0, 0, 256] S1x128x128.size inb_S1x128x512_S1x128x128_0_0_256)) (iblk m c 7 t) (View.ld (Val := Elt Ideal) (e' := .f32) H (Rect.unit (s := S1x32x64x128) ![0, 16, 0, 0] S1x8x64x128.size inb_S1x32x64x128_S1x8x64x128_0_16_0_0)) (View.ld (Val := Elt Ideal) (e' := .f32) (iblk m c 6 t) (Rect.unit (s := S4x1x512) ![2, 0, 0] S1x1x512.size inb_S4x1x512_S1x1x512_2_0_0)) x
    = ROWS (args m c) (seqOf t) (chunkOf t) ((Rect.unit (s := S1x128x2048) ![0, 0, 1152] S1x128x128.size inb_S1x128x2048_S1x128x128_0_0_1152).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 16, 0, 0] S1x8x64x128.size inb_S1x32x64x128_S1x8x64x128_0_16_0_0) (ix4 0 ⟨2 + x2.val / 64, by omega⟩ ⟨x2.val % 64, by omega⟩ i)
      = (args m c).state (seqOf t) 2 ⟨2 + x2.val / 64, by omega⟩ ⟨x2.val % 64, by omega⟩ i (chunkOf t).val := fun i =>
    (ld_states _ 16 inb_S1x32x64x128_S1x8x64x128_0_16_0_0 ⟨2 + x2.val / 64, by omega⟩ ⟨x2.val % 64, by omega⟩ i (by dsimp only; omega)).trans
      (STATES_at (args m c) (seqOf t) (chunkOf t).val _ 2 ⟨2 + x2.val / 64, by omega⟩ ⟨x2.val % 64, by omega⟩ i (by show 16 + (2 + x2.val / 64) = 2 * 8 + (2 + x2.val / 64); omega))
  have h1 := (reads_2 m c t hr).Y1 _ x1 x2 ⟨2 + x2.val / 64, by omega⟩ rfl hy
  have h2 := (congrArg (ROWS (args m c) (seqOf t) (chunkOf t)) (emb_row 1152 inb_S1x128x2048_S1x128x128_0_0_1152 x1 x2 (by omega))).trans (ROWS_at (args m c) (seqOf t) (chunkOf t) ⟨1152 + x2.val, by omega⟩ 2 ⟨2 + x2.val / 64, by omega⟩ ⟨x2.val % 64, by omega⟩ x1
    (by show 1152 + x2.val = 2 * 512 + (2 + x2.val / 64) * 64 + x2.val % 64; omega))
  exact h1.trans h2.symm

theorem row_piece_10 (x : S1x128x128.Idx) :
    Tiles.Y2 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (View.ld (Val := Elt Ideal) (e' := .bf16) (iblk m c 2 t) (Rect.unit (s := S1x128x512) ![0, 0, 256] S1x128x128.size inb_S1x128x512_S1x128x128_0_0_256)) (iblk m c 7 t) (View.ld (Val := Elt Ideal) (e' := .f32) H (Rect.unit (s := S1x32x64x128) ![0, 16, 0, 0] S1x8x64x128.size inb_S1x32x64x128_S1x8x64x128_0_16_0_0)) (View.ld (Val := Elt Ideal) (e' := .f32) (iblk m c 6 t) (Rect.unit (s := S4x1x512) ![2, 0, 0] S1x1x512.size inb_S4x1x512_S1x1x512_2_0_0)) x
    = ROWS (args m c) (seqOf t) (chunkOf t) ((Rect.unit (s := S1x128x2048) ![0, 0, 1280] S1x128x128.size inb_S1x128x2048_S1x128x128_0_0_1280).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 16, 0, 0] S1x8x64x128.size inb_S1x32x64x128_S1x8x64x128_0_16_0_0) (ix4 0 ⟨4 + x2.val / 64, by omega⟩ ⟨x2.val % 64, by omega⟩ i)
      = (args m c).state (seqOf t) 2 ⟨4 + x2.val / 64, by omega⟩ ⟨x2.val % 64, by omega⟩ i (chunkOf t).val := fun i =>
    (ld_states _ 16 inb_S1x32x64x128_S1x8x64x128_0_16_0_0 ⟨4 + x2.val / 64, by omega⟩ ⟨x2.val % 64, by omega⟩ i (by dsimp only; omega)).trans
      (STATES_at (args m c) (seqOf t) (chunkOf t).val _ 2 ⟨4 + x2.val / 64, by omega⟩ ⟨x2.val % 64, by omega⟩ i (by show 16 + (4 + x2.val / 64) = 2 * 8 + (4 + x2.val / 64); omega))
  have h1 := (reads_2 m c t hr).Y2 _ x1 x2 ⟨4 + x2.val / 64, by omega⟩ rfl hy
  have h2 := (congrArg (ROWS (args m c) (seqOf t) (chunkOf t)) (emb_row 1280 inb_S1x128x2048_S1x128x128_0_0_1280 x1 x2 (by omega))).trans (ROWS_at (args m c) (seqOf t) (chunkOf t) ⟨1280 + x2.val, by omega⟩ 2 ⟨4 + x2.val / 64, by omega⟩ ⟨x2.val % 64, by omega⟩ x1
    (by show 1280 + x2.val = 2 * 512 + (4 + x2.val / 64) * 64 + x2.val % 64; omega))
  exact h1.trans h2.symm

theorem row_piece_11 (x : S1x128x128.Idx) :
    Tiles.Y3 (View.ld (Val := Elt Ideal) (e' := .f32) (iblk m c 3 t) (Rect.unit (s := S128x512) ![0, 256] S128x128.size inb_S128x512_S128x128_0_256)) (View.ld (Val := Elt Ideal) (e' := .f32) (iblk m c 4 t) (Rect.unit (s := S4x1x128) ![2, 0, 0] S1x1x128.size inb_S4x1x128_S1x1x128_2_0_0)) (View.ld (Val := Elt Ideal) (e' := .f32) (iblk m c 5 t) (Rect.unit (s := S4x1x128) ![2, 0, 0] S1x1x128.size inb_S4x1x128_S1x1x128_2_0_0))
      (View.ld (Val := Elt Ideal) (e' := .bf16) (X0_0 m c t) (Rect.unit (s := S1x128x2048) ![0, 0, 1024] S1x128x512.size inb_S1x128x2048_S1x128x512_0_0_1024)) (View.ld (Val := Elt Ideal) (e' := .bf16) (iblk m c 1 t) (Rect.unit (s := S1x128x512) ![0, 0, 256] S1x128x128.size inb_S1x128x512_S1x128x128_0_0_256)) (View.ld (Val := Elt Ideal) (e' := .bf16) (iblk m c 2 t) (Rect.unit (s := S1x128x512) ![0, 0, 256] S1x128x128.size inb_S1x128x512_S1x128x128_0_0_256)) (iblk m c 7 t) (View.ld (Val := Elt Ideal) (e' := .f32) H (Rect.unit (s := S1x32x64x128) ![0, 16, 0, 0] S1x8x64x128.size inb_S1x32x64x128_S1x8x64x128_0_16_0_0)) (View.ld (Val := Elt Ideal) (e' := .f32) (iblk m c 6 t) (Rect.unit (s := S4x1x512) ![2, 0, 0] S1x1x512.size inb_S4x1x512_S1x1x512_2_0_0)) x
    = ROWS (args m c) (seqOf t) (chunkOf t) ((Rect.unit (s := S1x128x2048) ![0, 0, 1408] S1x128x128.size inb_S1x128x2048_S1x128x128_0_0_1408).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 16, 0, 0] S1x8x64x128.size inb_S1x32x64x128_S1x8x64x128_0_16_0_0) (ix4 0 ⟨6 + x2.val / 64, by omega⟩ ⟨x2.val % 64, by omega⟩ i)
      = (args m c).state (seqOf t) 2 ⟨6 + x2.val / 64, by omega⟩ ⟨x2.val % 64, by omega⟩ i (chunkOf t).val := fun i =>
    (ld_states _ 16 inb_S1x32x64x128_S1x8x64x128_0_16_0_0 ⟨6 + x2.val / 64, by omega⟩ ⟨x2.val % 64, by omega⟩ i (by dsimp only; omega)).trans
      (STATES_at (args m c) (seqOf t) (chunkOf t).val _ 2 ⟨6 + x2.val / 64, by omega⟩ ⟨x2.val % 64, by omega⟩ i (by show 16 + (6 + x2.val / 64) = 2 * 8 + (6 + x2.val / 64); omega))
  have h1 := (reads_2 m c t hr).Y3 _ x1 x2 ⟨6 + x2.val / 64, by omega⟩ rfl hy
  have h2 := (congrArg (ROWS (args m c) (seqOf t) (chunkOf t)) (emb_row 1408 inb_S1x128x2048_S1x128x128_0_0_1408 x1 x2 (by omega))).trans (ROWS_at (args m c) (seqOf t) (chunkOf t) ⟨1408 + x2.val, by omega⟩ 2 ⟨6 + x2.val / 64, by omega⟩ ⟨x2.val % 64, by omega⟩ x1
    (by show 1408 + x2.val = 2 * 512 + (6 + x2.val / 64) * 64 + x2.val % 64; omega))
  exact h1.trans h2.symm

theorem row_piece_12 (x : S1x128x128.Idx) :
    Tiles.Y0 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (View.ld (Val := Elt Ideal) (e' := .bf16) (iblk m c 2 t) (Rect.unit (s := S1x128x512) ![0, 0, 384] S1x128x128.size inb_S1x128x512_S1x128x128_0_0_384)) (iblk m c 7 t) (View.ld (Val := Elt Ideal) (e' := .f32) H (Rect.unit (s := S1x32x64x128) ![0, 24, 0, 0] S1x8x64x128.size inb_S1x32x64x128_S1x8x64x128_0_24_0_0)) (View.ld (Val := Elt Ideal) (e' := .f32) (iblk m c 6 t) (Rect.unit (s := S4x1x512) ![3, 0, 0] S1x1x512.size inb_S4x1x512_S1x1x512_3_0_0)) x
    = ROWS (args m c) (seqOf t) (chunkOf t) ((Rect.unit (s := S1x128x2048) ![0, 0, 1536] S1x128x128.size inb_S1x128x2048_S1x128x128_0_0_1536).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 24, 0, 0] S1x8x64x128.size inb_S1x32x64x128_S1x8x64x128_0_24_0_0) (ix4 0 ⟨0 + x2.val / 64, by omega⟩ ⟨x2.val % 64, by omega⟩ i)
      = (args m c).state (seqOf t) 3 ⟨0 + x2.val / 64, by omega⟩ ⟨x2.val % 64, by omega⟩ i (chunkOf t).val := fun i =>
    (ld_states _ 24 inb_S1x32x64x128_S1x8x64x128_0_24_0_0 ⟨0 + x2.val / 64, by omega⟩ ⟨x2.val % 64, by omega⟩ i (by dsimp only; omega)).trans
      (STATES_at (args m c) (seqOf t) (chunkOf t).val _ 3 ⟨0 + x2.val / 64, by omega⟩ ⟨x2.val % 64, by omega⟩ i (by show 24 + (0 + x2.val / 64) = 3 * 8 + (0 + x2.val / 64); omega))
  have h1 := (reads_3 m c t hr).Y0 _ x1 x2 ⟨0 + x2.val / 64, by omega⟩ rfl hy
  have h2 := (congrArg (ROWS (args m c) (seqOf t) (chunkOf t)) (emb_row 1536 inb_S1x128x2048_S1x128x128_0_0_1536 x1 x2 (by omega))).trans (ROWS_at (args m c) (seqOf t) (chunkOf t) ⟨1536 + x2.val, by omega⟩ 3 ⟨0 + x2.val / 64, by omega⟩ ⟨x2.val % 64, by omega⟩ x1
    (by show 1536 + x2.val = 3 * 512 + (0 + x2.val / 64) * 64 + x2.val % 64; omega))
  exact h1.trans h2.symm

theorem row_piece_13 (x : S1x128x128.Idx) :
    Tiles.Y1 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (View.ld (Val := Elt Ideal) (e' := .bf16) (iblk m c 2 t) (Rect.unit (s := S1x128x512) ![0, 0, 384] S1x128x128.size inb_S1x128x512_S1x128x128_0_0_384)) (iblk m c 7 t) (View.ld (Val := Elt Ideal) (e' := .f32) H (Rect.unit (s := S1x32x64x128) ![0, 24, 0, 0] S1x8x64x128.size inb_S1x32x64x128_S1x8x64x128_0_24_0_0)) (View.ld (Val := Elt Ideal) (e' := .f32) (iblk m c 6 t) (Rect.unit (s := S4x1x512) ![3, 0, 0] S1x1x512.size inb_S4x1x512_S1x1x512_3_0_0)) x
    = ROWS (args m c) (seqOf t) (chunkOf t) ((Rect.unit (s := S1x128x2048) ![0, 0, 1664] S1x128x128.size inb_S1x128x2048_S1x128x128_0_0_1664).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 24, 0, 0] S1x8x64x128.size inb_S1x32x64x128_S1x8x64x128_0_24_0_0) (ix4 0 ⟨2 + x2.val / 64, by omega⟩ ⟨x2.val % 64, by omega⟩ i)
      = (args m c).state (seqOf t) 3 ⟨2 + x2.val / 64, by omega⟩ ⟨x2.val % 64, by omega⟩ i (chunkOf t).val := fun i =>
    (ld_states _ 24 inb_S1x32x64x128_S1x8x64x128_0_24_0_0 ⟨2 + x2.val / 64, by omega⟩ ⟨x2.val % 64, by omega⟩ i (by dsimp only; omega)).trans
      (STATES_at (args m c) (seqOf t) (chunkOf t).val _ 3 ⟨2 + x2.val / 64, by omega⟩ ⟨x2.val % 64, by omega⟩ i (by show 24 + (2 + x2.val / 64) = 3 * 8 + (2 + x2.val / 64); omega))
  have h1 := (reads_3 m c t hr).Y1 _ x1 x2 ⟨2 + x2.val / 64, by omega⟩ rfl hy
  have h2 := (congrArg (ROWS (args m c) (seqOf t) (chunkOf t)) (emb_row 1664 inb_S1x128x2048_S1x128x128_0_0_1664 x1 x2 (by omega))).trans (ROWS_at (args m c) (seqOf t) (chunkOf t) ⟨1664 + x2.val, by omega⟩ 3 ⟨2 + x2.val / 64, by omega⟩ ⟨x2.val % 64, by omega⟩ x1
    (by show 1664 + x2.val = 3 * 512 + (2 + x2.val / 64) * 64 + x2.val % 64; omega))
  exact h1.trans h2.symm

theorem row_piece_14 (x : S1x128x128.Idx) :
    Tiles.Y2 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (View.ld (Val := Elt Ideal) (e' := .bf16) (iblk m c 2 t) (Rect.unit (s := S1x128x512) ![0, 0, 384] S1x128x128.size inb_S1x128x512_S1x128x128_0_0_384)) (iblk m c 7 t) (View.ld (Val := Elt Ideal) (e' := .f32) H (Rect.unit (s := S1x32x64x128) ![0, 24, 0, 0] S1x8x64x128.size inb_S1x32x64x128_S1x8x64x128_0_24_0_0)) (View.ld (Val := Elt Ideal) (e' := .f32) (iblk m c 6 t) (Rect.unit (s := S4x1x512) ![3, 0, 0] S1x1x512.size inb_S4x1x512_S1x1x512_3_0_0)) x
    = ROWS (args m c) (seqOf t) (chunkOf t) ((Rect.unit (s := S1x128x2048) ![0, 0, 1792] S1x128x128.size inb_S1x128x2048_S1x128x128_0_0_1792).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 24, 0, 0] S1x8x64x128.size inb_S1x32x64x128_S1x8x64x128_0_24_0_0) (ix4 0 ⟨4 + x2.val / 64, by omega⟩ ⟨x2.val % 64, by omega⟩ i)
      = (args m c).state (seqOf t) 3 ⟨4 + x2.val / 64, by omega⟩ ⟨x2.val % 64, by omega⟩ i (chunkOf t).val := fun i =>
    (ld_states _ 24 inb_S1x32x64x128_S1x8x64x128_0_24_0_0 ⟨4 + x2.val / 64, by omega⟩ ⟨x2.val % 64, by omega⟩ i (by dsimp only; omega)).trans
      (STATES_at (args m c) (seqOf t) (chunkOf t).val _ 3 ⟨4 + x2.val / 64, by omega⟩ ⟨x2.val % 64, by omega⟩ i (by show 24 + (4 + x2.val / 64) = 3 * 8 + (4 + x2.val / 64); omega))
  have h1 := (reads_3 m c t hr).Y2 _ x1 x2 ⟨4 + x2.val / 64, by omega⟩ rfl hy
  have h2 := (congrArg (ROWS (args m c) (seqOf t) (chunkOf t)) (emb_row 1792 inb_S1x128x2048_S1x128x128_0_0_1792 x1 x2 (by omega))).trans (ROWS_at (args m c) (seqOf t) (chunkOf t) ⟨1792 + x2.val, by omega⟩ 3 ⟨4 + x2.val / 64, by omega⟩ ⟨x2.val % 64, by omega⟩ x1
    (by show 1792 + x2.val = 3 * 512 + (4 + x2.val / 64) * 64 + x2.val % 64; omega))
  exact h1.trans h2.symm

theorem row_piece_15 (x : S1x128x128.Idx) :
    Tiles.Y3 (View.ld (Val := Elt Ideal) (e' := .f32) (iblk m c 3 t) (Rect.unit (s := S128x512) ![0, 384] S128x128.size inb_S128x512_S128x128_0_384)) (View.ld (Val := Elt Ideal) (e' := .f32) (iblk m c 4 t) (Rect.unit (s := S4x1x128) ![3, 0, 0] S1x1x128.size inb_S4x1x128_S1x1x128_3_0_0)) (View.ld (Val := Elt Ideal) (e' := .f32) (iblk m c 5 t) (Rect.unit (s := S4x1x128) ![3, 0, 0] S1x1x128.size inb_S4x1x128_S1x1x128_3_0_0))
      (View.ld (Val := Elt Ideal) (e' := .bf16) (X0_0 m c t) (Rect.unit (s := S1x128x2048) ![0, 0, 1536] S1x128x512.size inb_S1x128x2048_S1x128x512_0_0_1536)) (View.ld (Val := Elt Ideal) (e' := .bf16) (iblk m c 1 t) (Rect.unit (s := S1x128x512) ![0, 0, 384] S1x128x128.size inb_S1x128x512_S1x128x128_0_0_384)) (View.ld (Val := Elt Ideal) (e' := .bf16) (iblk m c 2 t) (Rect.unit (s := S1x128x512) ![0, 0, 384] S1x128x128.size inb_S1x128x512_S1x128x128_0_0_384)) (iblk m c 7 t) (View.ld (Val := Elt Ideal) (e' := .f32) H (Rect.unit (s := S1x32x64x128) ![0, 24, 0, 0] S1x8x64x128.size inb_S1x32x64x128_S1x8x64x128_0_24_0_0)) (View.ld (Val := Elt Ideal) (e' := .f32) (iblk m c 6 t) (Rect.unit (s := S4x1x512) ![3, 0, 0] S1x1x512.size inb_S4x1x512_S1x1x512_3_0_0)) x
    = ROWS (args m c) (seqOf t) (chunkOf t) ((Rect.unit (s := S1x128x2048) ![0, 0, 1920] S1x128x128.size inb_S1x128x2048_S1x128x128_0_0_1920).emb x) := by
  subst hH
  idx_vars x
  obtain rfl : x0 = 0 := Subsingleton.elim _ _
  have hy : ∀ i : Fin 128, View.ld (Val := Elt Ideal) (e' := .f32) (STATES (args m c) (seqOf t) (chunkOf t).val) (Rect.unit (s := S1x32x64x128) ![0, 24, 0, 0] S1x8x64x128.size inb_S1x32x64x128_S1x8x64x128_0_24_0_0) (ix4 0 ⟨6 + x2.val / 64, by omega⟩ ⟨x2.val % 64, by omega⟩ i)
      = (args m c).state (seqOf t) 3 ⟨6 + x2.val / 64, by omega⟩ ⟨x2.val % 64, by omega⟩ i (chunkOf t).val := fun i =>
    (ld_states _ 24 inb_S1x32x64x128_S1x8x64x128_0_24_0_0 ⟨6 + x2.val / 64, by omega⟩ ⟨x2.val % 64, by omega⟩ i (by dsimp only; omega)).trans
      (STATES_at (args m c) (seqOf t) (chunkOf t).val _ 3 ⟨6 + x2.val / 64, by omega⟩ ⟨x2.val % 64, by omega⟩ i (by show 24 + (6 + x2.val / 64) = 3 * 8 + (6 + x2.val / 64); omega))
  have h1 := (reads_3 m c t hr).Y3 _ x1 x2 ⟨6 + x2.val / 64, by omega⟩ rfl hy
  have h2 := (congrArg (ROWS (args m c) (seqOf t) (chunkOf t)) (emb_row 1920 inb_S1x128x2048_S1x128x128_0_0_1920 x1 x2 (by omega))).trans (ROWS_at (args m c) (seqOf t) (chunkOf t) ⟨1920 + x2.val, by omega⟩ 3 ⟨6 + x2.val / 64, by omega⟩ ⟨x2.val % 64, by omega⟩ x1
    (by show 1920 + x2.val = 3 * 512 + (6 + x2.val / 64) * 64 + x2.val % 64; omega))
  exact h1.trans h2.symm

end Cert.SsdIdeal.Blocks

end
-- ==== Proof.SsdPoint.lean ====
/-
  The kernel of the chunked recurrence over all its grid points: every point stores its chunk's rows and leaves its
  chunk's states, so the arrays the kernel ends with are the recurrence's rows and last states.
-/
module

public import proofs.«01_k».proof.Proof.SsdPieces

@[expose] public section

set_option maxRecDepth 16384

noncomputable section

open Idealize.ShloMosaic Idealize.ShloMosaic.TcCoe Idealize.ShloMosaic.Tactic

namespace Cert.SsdIdeal.Blocks

open Cert.SsdIdeal Cert.SsdIdeal.Gen Cert.SsdChunk Cert.SsdIdeal.Tiles

/-- An index whose channel lies in a stored pair of heads. -/
theorem in_row (o : Nat) (inb) (y : S1x128x2048.Idx) (h : o ≤ (y 2).val) (h' : (y 2).val < o + 128) :
    y ∈ (Rect.unit (s := S1x128x2048) ![0, 0, o] S1x128x128.size inb).set := by
  refine Rect.mem_set_unit.mpr fun a => ?_
  match a with
  | ⟨0, _⟩ => exact ⟨Nat.zero_le _, (show (y 0).val < 0 + 1 from Nat.zero_add 1 ▸ (y 0).isLt)⟩
  | ⟨1, _⟩ => exact ⟨Nat.zero_le _, (show (y 1).val < 0 + 128 from Nat.zero_add 128 ▸ (y 1).isLt)⟩
  | ⟨2, _⟩ => exact ⟨h, h'⟩

/-- An index of a stored head's state. -/
theorem in_state (o : Nat) (inb) (y : S1x32x64x128.Idx) (h : (y 1).val = o) :
    y ∈ (Rect.unit (s := S1x32x64x128) ![0, o, 0, 0] S1x1x64x128.size inb).set := by
  refine Rect.mem_set_unit.mpr fun a => ?_
  match a with
  | ⟨0, _⟩ => exact ⟨Nat.zero_le _, (show (y 0).val < 0 + 1 from Nat.zero_add 1 ▸ (y 0).isLt)⟩
  | ⟨1, _⟩ => exact ⟨le_of_eq h.symm, (show (y 1).val < o + 1 by omega)⟩
  | ⟨2, _⟩ => exact ⟨Nat.zero_le _, (show (y 2).val < 0 + 64 from Nat.zero_add 64 ▸ (y 2).isLt)⟩
  | ⟨3, _⟩ => exact ⟨Nat.zero_le _, (show (y 3).val < 0 + 128 from Nat.zero_add 128 ▸ (y 3).isLt)⟩

variable (m : (ℓ : Loc nD τ sig) → Buf (Elt Ideal) ℓ) (c : Dev nD) (t : Fin cfg0.N)

/-- No state before the first chunk. -/
theorem zero_states (h0 : t.val % 32 = 0) : (k0_pay1 (F := Ideal) : S1x32x64x128.Idx → EReal) = STATES (args m c) (seqOf t) (chunkOf t).val := by
  funext y
  have e : (chunkOf t).val = 0 := h0
  rw [e]
  show _ = (0 : EReal)
  pointwise [k0_pay1]

/-- The rows a first chunk stores. -/
theorem rows_first (hr : (args m c).Real) (h0 : t.val % 32 = 0) : (outsAt0 m c t.val t.isLt).1 = ROWS (args m c) (seqOf t) (chunkOf t) := by
  funext y
  rw [outsAt0_A m c t h0]
  frame_open
  simp (disch := decide) only [↓ View.readCov_skip, ↓ View.readCov_cons_toLoadRect, ↓ View.readCov_fill]
  frame_out
  refine View.canon_append_of_piecesOf (Val := Elt Ideal) (e := .bf16) (ROWS (args m c) (seqOf t) (chunkOf t)) [] [_, _, _, _, _, _, _, _, _, _, _, _, _, _, _, _] ⟨?_, ?_, ?_, ?_, ?_, ?_, ?_, ?_, ?_, ?_, ?_, ?_, ?_, ?_, ?_, ?_, trivial⟩ y ?_
  · exact fun x => (congrFun (row_tile_3_3 _ _ _ _ _ _ _ _ _) x).trans (row_piece_15 m c t hr _ (zero_states m c t h0) x)
  · exact fun x => (congrFun (row_tile_3_2 _ _ _ _ _ _ _ _ _) x).trans (row_piece_14 m c t hr _ (zero_states m c t h0) x)
  · exact fun x => (congrFun (row_tile_3_1 _ _ _ _ _ _ _ _ _) x).trans (row_piece_13 m c t hr _ (zero_states m c t h0) x)
  · exact fun x => (congrFun (row_tile_3_0 _ _ _ _ _ _ _ _ _) x).trans (row_piece_12 m c t hr _ (zero_states m c t h0) x)
  · exact fun x => (congrFun (row_tile_2_3 _ _ _ _ _ _ _ _ _) x).trans (row_piece_11 m c t hr _ (zero_states m c t h0) x)
  · exact fun x => (congrFun (row_tile_2_2 _ _ _ _ _ _ _ _ _) x).trans (row_piece_10 m c t hr _ (zero_states m c t h0) x)
  · exact fun x => (congrFun (row_tile_2_1 _ _ _ _ _ _ _ _ _) x).trans (row_piece_9 m c t hr _ (zero_states m c t h0) x)
  · exact fun x => (congrFun (row_tile_2_0 _ _ _ _ _ _ _ _ _) x).trans (row_piece_8 m c t hr _ (zero_states m c t h0) x)
  · exact fun x => (congrFun (row_tile_1_3 _ _ _ _ _ _ _ _ _) x).trans (row_piece_7 m c t hr _ (zero_states m c t h0) x)
  · exact fun x => (congrFun (row_tile_1_2 _ _ _ _ _ _ _ _ _) x).trans (row_piece_6 m c t hr _ (zero_states m c t h0) x)
  · exact fun x => (congrFun (row_tile_1_1 _ _ _ _ _ _ _ _ _) x).trans (row_piece_5 m c t hr _ (zero_states m c t h0) x)
  · exact fun x => (congrFun (row_tile_1_0 _ _ _ _ _ _ _ _ _) x).trans (row_piece_4 m c t hr _ (zero_states m c t h0) x)
  · exact fun x => (congrFun (row_tile_0_3 _ _ _ _ _ _ _ _ _) x).trans (row_piece_3 m c t hr _ (zero_states m c t h0) x)
  · exact fun x => (congrFun (row_tile_0_2 _ _ _ _ _ _ _ _ _) x).trans (row_piece_2 m c t hr _ (zero_states m c t h0) x)
  · exact fun x => (congrFun (row_tile_0_1 _ _ _ _ _ _ _ _ _) x).trans (row_piece_1 m c t hr _ (zero_states m c t h0) x)
  · exact fun x => (congrFun (row_tile_0_0 _ _ _ _ _ _ _ _ _) x).trans (row_piece_0 m c t hr _ (zero_states m c t h0) x)
  · have hy : (y 2).val < 2048 := (y 2).isLt
    have hq : (y 2).val / 128 < 16 := by omega
    match hi : (y 2).val / 128, hq with
    | 0, _ => exact ⟨_, .tail _ (.tail _ (.tail _ (.tail _ (.tail _ (.tail _ (.tail _ (.tail _ (.tail _ (.tail _ (.tail _ (.tail _ (.tail _ (.tail _ (.tail _ (.head _))))))))))))))), in_row 0 (by decide) y (by omega) (by omega)⟩
    | 1, _ => exact ⟨_, .tail _ (.tail _ (.tail _ (.tail _ (.tail _ (.tail _ (.tail _ (.tail _ (.tail _ (.tail _ (.tail _ (.tail _ (.tail _ (.tail _ (.head _)))))))))))))), in_row 128 (by decide) y (by omega) (by omega)⟩
    | 2, _ => exact ⟨_, .tail _ (.tail _ (.tail _ (.tail _ (.tail _ (.tail _ (.tail _ (.tail _ (.tail _ (.tail _ (.tail _ (.tail _ (.tail _ (.head _))))))))))))), in_row 256 (by decide) y (by omega) (by omega)⟩
    | 3, _ => exact ⟨_, .tail _ (.tail _ (.tail _ (.tail _ (.tail _ (.tail _ (.tail _ (.tail _ (.tail _ (.tail _ (.tail _ (.tail _ (.head _)))))))))))), in_row 384 (by decide) y (by omega) (by omega)⟩
    | 4, _ => exact ⟨_, .tail _ (.tail _ (.tail _ (.tail _ (.tail _ (.tail _ (.tail _ (.tail _ (.tail _ (.tail _ (.tail _ (.head _))))))))))), in_row 512 (by decide) y (by omega) (by omega)⟩
    | 5, _ => exact ⟨_, .tail _ (.tail _ (.tail _ (.tail _ (.tail _ (.tail _ (.tail _ (.tail _ (.tail _ (.tail _ (.head _)))))))))), in_row 640 (by decide) y (by omega) (by omega)⟩
    | 6, _ => exact ⟨_, .tail _ (.tail _ (.tail _ (.tail _ (.tail _ (.tail _ (.tail _ (.tail _ (.tail _ (.head _))))))))), in_row 768 (by decide) y (by omega) (by omega)⟩
    | 7, _ => exact ⟨_, .tail _ (.tail _ (.tail _ (.tail _ (.tail _ (.tail _ (.tail _ (.tail _ (.head _)))))))), in_row 896 (by decide) y (by omega) (by omega)⟩
    | 8, _ => exact ⟨_, .tail _ (.tail _ (.tail _ (.tail _ (.tail _ (.tail _ (.tail _ (.head _))))))), in_row 1024 (by decide) y (by omega) (by omega)⟩
    | 9, _ => exact ⟨_, .tail _ (.tail _ (.tail _ (.tail _ (.tail _ (.tail _ (.head _)))))), in_row 1152 (by decide) y (by omega) (by omega)⟩
    | 10, _ => exact ⟨_, .tail _ (.tail _ (.tail _ (.tail _ (.tail _ (.head _))))), in_row 1280 (by decide) y (by omega) (by omega)⟩
    | 11, _ => exact ⟨_, .tail _ (.tail _ (.tail _ (.tail _ (.head _)))), in_row 1408 (by decide) y (by omega) (by omega)⟩
    | 12, _ => exact ⟨_, .tail _ (.tail _ (.tail _ (.head _))), in_row 1536 (by decide) y (by omega) (by omega)⟩
    | 13, _ => exact ⟨_, .tail _ (.tail _ (.head _)), in_row 1664 (by decide) y (by omega) (by omega)⟩
    | 14, _ => exact ⟨_, .tail _ (.head _), in_row 1792 (by decide) y (by omega) (by omega)⟩
    | 15, _ => exact ⟨_, .head _, in_row 1920 (by decide) y (by omega) (by omega)⟩
    | k + 16, h => exact absurd h (by omega)

/-- The states a first chunk leaves. -/
theorem states_first (hr : (args m c).Real) (h0 : t.val % 32 = 0) : (outsAt0 m c t.val t.isLt).2 = STATES (args m c) (seqOf t) ((chunkOf t).val + 1) := by
  funext y
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (STATES (args m c) (seqOf t) ((chunkOf t).val + 1)) [_] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y ?_
  · exact fun x => (congrFun (state_tile_3_7 _ _ _ _ _ _ _) x).trans (state_piece_31 m c t hr _ (zero_states m c t h0) x)
  · exact fun x => (congrFun (state_tile_3_6 _ _ _ _ _ _ _) x).trans (state_piece_30 m c t hr _ (zero_states m c t h0) x)
  · exact fun x => (congrFun (state_tile_3_5 _ _ _ _ _ _ _) x).trans (state_piece_29 m c t hr _ (zero_states m c t h0) x)
  · exact fun x => (congrFun (state_tile_3_4 _ _ _ _ _ _ _) x).trans (state_piece_28 m c t hr _ (zero_states m c t h0) x)
  · exact fun x => (congrFun (state_tile_3_3 _ _ _ _ _ _ _) x).trans (state_piece_27 m c t hr _ (zero_states m c t h0) x)
  · exact fun x => (congrFun (state_tile_3_2 _ _ _ _ _ _ _) x).trans (state_piece_26 m c t hr _ (zero_states m c t h0) x)
  · exact fun x => (congrFun (state_tile_3_1 _ _ _ _ _ _ _) x).trans (state_piece_25 m c t hr _ (zero_states m c t h0) x)
  · exact fun x => (congrFun (state_tile_3_0 _ _ _ _ _ _ _) x).trans (state_piece_24 m c t hr _ (zero_states m c t h0) x)
  · exact fun x => (congrFun (state_tile_2_7 _ _ _ _ _ _ _) x).trans (state_piece_23 m c t hr _ (zero_states m c t h0) x)
  · exact fun x => (congrFun (state_tile_2_6 _ _ _ _ _ _ _) x).trans (state_piece_22 m c t hr _ (zero_states m c t h0) x)
  · exact fun x => (congrFun (state_tile_2_5 _ _ _ _ _ _ _) x).trans (state_piece_21 m c t hr _ (zero_states m c t h0) x)
  · exact fun x => (congrFun (state_tile_2_4 _ _ _ _ _ _ _) x).trans (state_piece_20 m c t hr _ (zero_states m c t h0) x)
  · exact fun x => (congrFun (state_tile_2_3 _ _ _ _ _ _ _) x).trans (state_piece_19 m c t hr _ (zero_states m c t h0) x)
  · exact fun x => (congrFun (state_tile_2_2 _ _ _ _ _ _ _) x).trans (state_piece_18 m c t hr _ (zero_states m c t h0) x)
  · exact fun x => (congrFun (state_tile_2_1 _ _ _ _ _ _ _) x).trans (state_piece_17 m c t hr _ (zero_states m c t h0) x)
  · exact fun x => (congrFun (state_tile_2_0 _ _ _ _ _ _ _) x).trans (state_piece_16 m c t hr _ (zero_states m c t h0) x)
  · exact fun x => (congrFun (state_tile_1_7 _ _ _ _ _ _ _) x).trans (state_piece_15 m c t hr _ (zero_states m c t h0) x)
  · exact fun x => (congrFun (state_tile_1_6 _ _ _ _ _ _ _) x).trans (state_piece_14 m c t hr _ (zero_states m c t h0) x)
  · exact fun x => (congrFun (state_tile_1_5 _ _ _ _ _ _ _) x).trans (state_piece_13 m c t hr _ (zero_states m c t h0) x)
  · exact fun x => (congrFun (state_tile_1_4 _ _ _ _ _ _ _) x).trans (state_piece_12 m c t hr _ (zero_states m c t h0) x)
  · exact fun x => (congrFun (state_tile_1_3 _ _ _ _ _ _ _) x).trans (state_piece_11 m c t hr _ (zero_states m c t h0) x)
  · exact fun x => (congrFun (state_tile_1_2 _ _ _ _ _ _ _) x).trans (state_piece_10 m c t hr _ (zero_states m c t h0) x)
  · exact fun x => (congrFun (state_tile_1_1 _ _ _ _ _ _ _) x).trans (state_piece_9 m c t hr _ (zero_states m c t h0) x)
  · exact fun x => (congrFun (state_tile_1_0 _ _ _ _ _ _ _) x).trans (state_piece_8 m c t hr _ (zero_states m c t h0) x)
  · exact fun x => (congrFun (state_tile_0_7 _ _ _ _ _ _ _) x).trans (state_piece_7 m c t hr _ (zero_states m c t h0) x)
  · exact fun x => (congrFun (state_tile_0_6 _ _ _ _ _ _ _) x).trans (state_piece_6 m c t hr _ (zero_states m c t h0) x)
  · exact fun x => (congrFun (state_tile_0_5 _ _ _ _ _ _ _) x).trans (state_piece_5 m c t hr _ (zero_states m c t h0) x)
  · exact fun x => (congrFun (state_tile_0_4 _ _ _ _ _ _ _) x).trans (state_piece_4 m c t hr _ (zero_states m c t h0) x)
  · exact fun x => (congrFun (state_tile_0_3 _ _ _ _ _ _ _) x).trans (state_piece_3 m c t hr _ (zero_states m c t h0) x)
  · exact fun x => (congrFun (state_tile_0_2 _ _ _ _ _ _ _) x).trans (state_piece_2 m c t hr _ (zero_states m c t h0) x)
  · exact fun x => (congrFun (state_tile_0_1 _ _ _ _ _ _ _) x).trans (state_piece_1 m c t hr _ (zero_states m c t h0) x)
  · exact fun x => (congrFun (state_tile_0_0 _ _ _ _ _ _ _) x).trans (state_piece_0 m c t hr _ (zero_states m c t h0) x)
  · have hy : (y 1).val < 32 := (y 1).isLt
    match hi : (y 1).val, hy with
    | 0, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), in_state 0 (by decide) y hi⟩
    | 1, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), in_state 1 (by decide) y hi⟩
    | 2, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), in_state 2 (by decide) y hi⟩
    | 3, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), in_state 3 (by decide) y hi⟩
    | 4, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), in_state 4 (by decide) y hi⟩
    | 5, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), in_state 5 (by decide) y hi⟩
    | 6, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), in_state 6 (by decide) y hi⟩
    | 7, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), in_state 7 (by decide) y hi⟩
    | 8, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), in_state 8 (by decide) y hi⟩
    | 9, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), in_state 9 (by decide) y hi⟩
    | 10, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), in_state 10 (by decide) y hi⟩
    | 11, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), in_state 11 (by decide) y hi⟩
    | 12, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), in_state 12 (by decide) y hi⟩
    | 13, _ => exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), in_state 13 (by decide) y hi⟩
    | 14, _ => exact ⟨_, .tail _ (.tail _ (.tail _ (.tail _ (.tail _ (.tail _ (.tail _ (.tail _ (.tail _ (.tail _ (.tail _ (.tail _ (.tail _ (.tail _ (.tail _ (.tail _ (.tail _ (.head _))))))))))))))))), in_state 14 (by decide) y hi⟩
    | 15, _ => exact ⟨_, .tail _ (.tail _ (.tail _ (.tail _ (.tail _ (.tail _ (.tail _ (.tail _ (.tail _ (.tail _ (.tail _ (.tail _ (.tail _ (.tail _ (.tail _ (.tail _ (.head _)))))))))))))))), in_state 15 (by decide) y hi⟩
    | 16, _ => exact ⟨_, .tail _ (.tail _ (.tail _ (.tail _ (.tail _ (.tail _ (.tail _ (.tail _ (.tail _ (.tail _ (.tail _ (.tail _ (.tail _ (.tail _ (.tail _ (.head _))))))))))))))), in_state 16 (by decide) y hi⟩
    | 17, _ => exact ⟨_, .tail _ (.tail _ (.tail _ (.tail _ (.tail _ (.tail _ (.tail _ (.tail _ (.tail _ (.tail _ (.tail _ (.tail _ (.tail _ (.tail _ (.head _)))))))))))))), in_state 17 (by decide) y hi⟩
    | 18, _ => exact ⟨_, .tail _ (.tail _ (.tail _ (.tail _ (.tail _ (.tail _ (.tail _ (.tail _ (.tail _ (.tail _ (.tail _ (.tail _ (.tail _ (.head _))))))))))))), in_state 18 (by decide) y hi⟩
    | 19, _ => exact ⟨_, .tail _ (.tail _ (.tail _ (.tail _ (.tail _ (.tail _ (.tail _ (.tail _ (.tail _ (.tail _ (.tail _ (.tail _ (.head _)))))))))))), in_state 19 (by decide) y hi⟩
    | 20, _ => exact ⟨_, .tail _ (.tail _ (.tail _ (.tail _ (.tail _ (.tail _ (.tail _ (.tail _ (.tail _ (.tail _ (.tail _ (.head _))))))))))), in_state 20 (by decide) y hi⟩
    | 21, _ => exact ⟨_, .tail _ (.tail _ (.tail _ (.tail _ (.tail _ (.tail _ (.tail _ (.tail _ (.tail _ (.tail _ (.head _)))))))))), in_state 21 (by decide) y hi⟩
    | 22, _ => exact ⟨_, .tail _ (.tail _ (.tail _ (.tail _ (.tail _ (.tail _ (.tail _ (.tail _ (.tail _ (.head _))))))))), in_state 22 (by decide) y hi⟩
    | 23, _ => exact ⟨_, .tail _ (.tail _ (.tail _ (.tail _ (.tail _ (.tail _ (.tail _ (.tail _ (.head _)))))))), in_state 23 (by decide) y hi⟩
    | 24, _ => exact ⟨_, .tail _ (.tail _ (.tail _ (.tail _ (.tail _ (.tail _ (.tail _ (.head _))))))), in_state 24 (by decide) y hi⟩
    | 25, _ => exact ⟨_, .tail _ (.tail _ (.tail _ (.tail _ (.tail _ (.tail _ (.head _)))))), in_state 25 (by decide) y hi⟩
    | 26, _ => exact ⟨_, .tail _ (.tail _ (.tail _ (.tail _ (.tail _ (.head _))))), in_state 26 (by decide) y hi⟩
    | 27, _ => exact ⟨_, .tail _ (.tail _ (.tail _ (.tail _ (.head _)))), in_state 27 (by decide) y hi⟩
    | 28, _ => exact ⟨_, .tail _ (.tail _ (.tail _ (.head _))), in_state 28 (by decide) y hi⟩
    | 29, _ => exact ⟨_, .tail _ (.tail _ (.head _)), in_state 29 (by decide) y hi⟩
    | 30, _ => exact ⟨_, .tail _ (.head _), in_state 30 (by decide) y hi⟩
    | 31, _ => exact ⟨_, .head _, in_state 31 (by decide) y hi⟩
    | k + 32, h => exact absurd h (by omega)

/-- The rows a later chunk stores, from the states the chunk before left. -/
theorem rows_next (hr : (args m c).Real) (h0 : ¬ t.val % 32 = 0)
    (hH : (outsAt0 m c (t.val - 1) (Nat.lt_of_le_of_lt (Nat.sub_le _ _) t.isLt)).2 = STATES (args m c) (seqOf t) (chunkOf t).val) :
    (outsAt0 m c t.val t.isLt).1 = ROWS (args m c) (seqOf t) (chunkOf t) := by
  funext y
  rw [outsAt0_B m c t h0]
  frame_out
  refine View.canon_append_of_piecesOf (Val := Elt Ideal) (e := .bf16) (ROWS (args m c) (seqOf t) (chunkOf t)) [] [_, _, _, _, _, _, _, _, _, _, _, _, _, _, _, _] ⟨?_, ?_, ?_, ?_, ?_, ?_, ?_, ?_, ?_, ?_, ?_, ?_, ?_, ?_, ?_, ?_, trivial⟩ y ?_
  · exact fun x => (congrFun (row_tile_3_3 _ _ _ _ _ _ _ _ _) x).trans (row_piece_15 m c t hr _ hH x)
  · exact fun x => (congrFun (row_tile_3_2 _ _ _ _ _ _ _ _ _) x).trans (row_piece_14 m c t hr _ hH x)
  · exact fun x => (congrFun (row_tile_3_1 _ _ _ _ _ _ _ _ _) x).trans (row_piece_13 m c t hr _ hH x)
  · exact fun x => (congrFun (row_tile_3_0 _ _ _ _ _ _ _ _ _) x).trans (row_piece_12 m c t hr _ hH x)
  · exact fun x => (congrFun (row_tile_2_3 _ _ _ _ _ _ _ _ _) x).trans (row_piece_11 m c t hr _ hH x)
  · exact fun x => (congrFun (row_tile_2_2 _ _ _ _ _ _ _ _ _) x).trans (row_piece_10 m c t hr _ hH x)
  · exact fun x => (congrFun (row_tile_2_1 _ _ _ _ _ _ _ _ _) x).trans (row_piece_9 m c t hr _ hH x)
  · exact fun x => (congrFun (row_tile_2_0 _ _ _ _ _ _ _ _ _) x).trans (row_piece_8 m c t hr _ hH x)
  · exact fun x => (congrFun (row_tile_1_3 _ _ _ _ _ _ _ _ _) x).trans (row_piece_7 m c t hr _ hH x)
  · exact fun x => (congrFun (row_tile_1_2 _ _ _ _ _ _ _ _ _) x).trans (row_piece_6 m c t hr _ hH x)
  · exact fun x => (congrFun (row_tile_1_1 _ _ _ _ _ _ _ _ _) x).trans (row_piece_5 m c t hr _ hH x)
  · exact fun x => (congrFun (row_tile_1_0 _ _ _ _ _ _ _ _ _) x).trans (row_piece_4 m c t hr _ hH x)
  · exact fun x => (congrFun (row_tile_0_3 _ _ _ _ _ _ _ _ _) x).trans (row_piece_3 m c t hr _ hH x)
  · exact fun x => (congrFun (row_tile_0_2 _ _ _ _ _ _ _ _ _) x).trans (row_piece_2 m c t hr _ hH x)
  · exact fun x => (congrFun (row_tile_0_1 _ _ _ _ _ _ _ _ _) x).trans (row_piece_1 m c t hr _ hH x)
  · exact fun x => (congrFun (row_tile_0_0 _ _ _ _ _ _ _ _ _) x).trans (row_piece_0 m c t hr _ hH x)
  · have hy : (y 2).val < 2048 := (y 2).isLt
    have hq : (y 2).val / 128 < 16 := by omega
    match hi : (y 2).val / 128, hq with
    | 0, _ => exact ⟨_, .tail _ (.tail _ (.tail _ (.tail _ (.tail _ (.tail _ (.tail _ (.tail _ (.tail _ (.tail _ (.tail _ (.tail _ (.tail _ (.tail _ (.tail _ (.head _))))))))))))))), in_row 0 (by decide) y (by omega) (by omega)⟩
    | 1, _ => exact ⟨_, .tail _ (.tail _ (.tail _ (.tail _ (.tail _ (.tail _ (.tail _ (.tail _ (.tail _ (.tail _ (.tail _ (.tail _ (.tail _ (.tail _ (.head _)))))))))))))), in_row 128 (by decide) y (by omega) (by omega)⟩
    | 2, _ => exact ⟨_, .tail _ (.tail _ (.tail _ (.tail _ (.tail _ (.tail _ (.tail _ (.tail _ (.tail _ (.tail _ (.tail _ (.tail _ (.tail _ (.head _))))))))))))), in_row 256 (by decide) y (by omega) (by omega)⟩
    | 3, _ => exact ⟨_, .tail _ (.tail _ (.tail _ (.tail _ (.tail _ (.tail _ (.tail _ (.tail _ (.tail _ (.tail _ (.tail _ (.tail _ (.head _)))))))))))), in_row 384 (by decide) y (by omega) (by omega)⟩
    | 4, _ => exact ⟨_, .tail _ (.tail _ (.tail _ (.tail _ (.tail _ (.tail _ (.tail _ (.tail _ (.tail _ (.tail _ (.tail _ (.head _))))))))))), in_row 512 (by decide) y (by omega) (by omega)⟩
    | 5, _ => exact ⟨_, .tail _ (.tail _ (.tail _ (.tail _ (.tail _ (.tail _ (.tail _ (.tail _ (.tail _ (.tail _ (.head _)))))))))), in_row 640 (by decide) y (by omega) (by omega)⟩
    | 6, _ => exact ⟨_, .tail _ (.tail _ (.tail _ (.tail _ (.tail _ (.tail _ (.tail _ (.tail _ (.tail _ (.head _))))))))), in_row 768 (by decide) y (by omega) (by omega)⟩
    | 7, _ => exact ⟨_, .tail _ (.tail _ (.tail _ (.tail _ (.tail _ (.tail _ (.tail _ (.tail _ (.head _)))))))), in_row 896 (by decide) y (by omega) (by omega)⟩
    | 8, _ => exact ⟨_, .tail _ (.tail _ (.tail _ (.tail _ (.tail _ (.tail _ (.tail _ (.head _))))))), in_row 1024 (by decide) y (by omega) (by omega)⟩
    | 9, _ => exact ⟨_, .tail _ (.tail _ (.tail _ (.tail _ (.tail _ (.tail _ (.head _)))))), in_row 1152 (by decide) y (by omega) (by omega)⟩
    | 10, _ => exact ⟨_, .tail _ (.tail _ (.tail _ (.tail _ (.tail _ (.head _))))), in_row 1280 (by decide) y (by omega) (by omega)⟩
    | 11, _ => exact ⟨_, .tail _ (.tail _ (.tail _ (.tail _ (.head _)))), in_row 1408 (by decide) y (by omega) (by omega)⟩
    | 12, _ => exact ⟨_, .tail _ (.tail _ (.tail _ (.head _))), in_row 1536 (by decide) y (by omega) (by omega)⟩
    | 13, _ => exact ⟨_, .tail _ (.tail _ (.head _)), in_row 1664 (by decide) y (by omega) (by omega)⟩
    | 14, _ => exact ⟨_, .tail _ (.head _), in_row 1792 (by decide) y (by omega) (by omega)⟩
    | 15, _ => exact ⟨_, .head _, in_row 1920 (by decide) y (by omega) (by omega)⟩
    | k + 16, h => exact absurd h (by omega)

/-- The states a later chunk leaves, from those the chunk before left. -/
theorem states_next (hr : (args m c).Real) (h0 : ¬ t.val % 32 = 0)
    (hH : (outsAt0 m c (t.val - 1) (Nat.lt_of_le_of_lt (Nat.sub_le _ _) t.isLt)).2 = STATES (args m c) (seqOf t) (chunkOf t).val) :
    (outsAt0 m c t.val t.isLt).2 = STATES (args m c) (seqOf t) ((chunkOf t).val + 1) := by
  funext y
  rw [outsAt0_B m c t h0]
  frame_out
  refine View.canon_append_of_piecesOf (Val := Elt Ideal) (e := .f32) (STATES (args m c) (seqOf t) ((chunkOf t).val + 1)) [] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y ?_
  · exact fun x => (congrFun (state_tile_3_7 _ _ _ _ _ _ _) x).trans (state_piece_31 m c t hr _ hH x)
  · exact fun x => (congrFun (state_tile_3_6 _ _ _ _ _ _ _) x).trans (state_piece_30 m c t hr _ hH x)
  · exact fun x => (congrFun (state_tile_3_5 _ _ _ _ _ _ _) x).trans (state_piece_29 m c t hr _ hH x)
  · exact fun x => (congrFun (state_tile_3_4 _ _ _ _ _ _ _) x).trans (state_piece_28 m c t hr _ hH x)
  · exact fun x => (congrFun (state_tile_3_3 _ _ _ _ _ _ _) x).trans (state_piece_27 m c t hr _ hH x)
  · exact fun x => (congrFun (state_tile_3_2 _ _ _ _ _ _ _) x).trans (state_piece_26 m c t hr _ hH x)
  · exact fun x => (congrFun (state_tile_3_1 _ _ _ _ _ _ _) x).trans (state_piece_25 m c t hr _ hH x)
  · exact fun x => (congrFun (state_tile_3_0 _ _ _ _ _ _ _) x).trans (state_piece_24 m c t hr _ hH x)
  · exact fun x => (congrFun (state_tile_2_7 _ _ _ _ _ _ _) x).trans (state_piece_23 m c t hr _ hH x)
  · exact fun x => (congrFun (state_tile_2_6 _ _ _ _ _ _ _) x).trans (state_piece_22 m c t hr _ hH x)
  · exact fun x => (congrFun (state_tile_2_5 _ _ _ _ _ _ _) x).trans (state_piece_21 m c t hr _ hH x)
  · exact fun x => (congrFun (state_tile_2_4 _ _ _ _ _ _ _) x).trans (state_piece_20 m c t hr _ hH x)
  · exact fun x => (congrFun (state_tile_2_3 _ _ _ _ _ _ _) x).trans (state_piece_19 m c t hr _ hH x)
  · exact fun x => (congrFun (state_tile_2_2 _ _ _ _ _ _ _) x).trans (state_piece_18 m c t hr _ hH x)
  · exact fun x => (congrFun (state_tile_2_1 _ _ _ _ _ _ _) x).trans (state_piece_17 m c t hr _ hH x)
  · exact fun x => (congrFun (state_tile_2_0 _ _ _ _ _ _ _) x).trans (state_piece_16 m c t hr _ hH x)
  · exact fun x => (congrFun (state_tile_1_7 _ _ _ _ _ _ _) x).trans (state_piece_15 m c t hr _ hH x)
  · exact fun x => (congrFun (state_tile_1_6 _ _ _ _ _ _ _) x).trans (state_piece_14 m c t hr _ hH x)
  · exact fun x => (congrFun (state_tile_1_5 _ _ _ _ _ _ _) x).trans (state_piece_13 m c t hr _ hH x)
  · exact fun x => (congrFun (state_tile_1_4 _ _ _ _ _ _ _) x).trans (state_piece_12 m c t hr _ hH x)
  · exact fun x => (congrFun (state_tile_1_3 _ _ _ _ _ _ _) x).trans (state_piece_11 m c t hr _ hH x)
  · exact fun x => (congrFun (state_tile_1_2 _ _ _ _ _ _ _) x).trans (state_piece_10 m c t hr _ hH x)
  · exact fun x => (congrFun (state_tile_1_1 _ _ _ _ _ _ _) x).trans (state_piece_9 m c t hr _ hH x)
  · exact fun x => (congrFun (state_tile_1_0 _ _ _ _ _ _ _) x).trans (state_piece_8 m c t hr _ hH x)
  · exact fun x => (congrFun (state_tile_0_7 _ _ _ _ _ _ _) x).trans (state_piece_7 m c t hr _ hH x)
  · exact fun x => (congrFun (state_tile_0_6 _ _ _ _ _ _ _) x).trans (state_piece_6 m c t hr _ hH x)
  · exact fun x => (congrFun (state_tile_0_5 _ _ _ _ _ _ _) x).trans (state_piece_5 m c t hr _ hH x)
  · exact fun x => (congrFun (state_tile_0_4 _ _ _ _ _ _ _) x).trans (state_piece_4 m c t hr _ hH x)
  · exact fun x => (congrFun (state_tile_0_3 _ _ _ _ _ _ _) x).trans (state_piece_3 m c t hr _ hH x)
  · exact fun x => (congrFun (state_tile_0_2 _ _ _ _ _ _ _) x).trans (state_piece_2 m c t hr _ hH x)
  · exact fun x => (congrFun (state_tile_0_1 _ _ _ _ _ _ _) x).trans (state_piece_1 m c t hr _ hH x)
  · exact fun x => (congrFun (state_tile_0_0 _ _ _ _ _ _ _) x).trans (state_piece_0 m c t hr _ hH x)
  · have hy : (y 1).val < 32 := (y 1).isLt
    match hi : (y 1).val, hy with
    | 0, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), in_state 0 (by decide) y hi⟩
    | 1, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), in_state 1 (by decide) y hi⟩
    | 2, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), in_state 2 (by decide) y hi⟩
    | 3, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), in_state 3 (by decide) y hi⟩
    | 4, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), in_state 4 (by decide) y hi⟩
    | 5, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), in_state 5 (by decide) y hi⟩
    | 6, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), in_state 6 (by decide) y hi⟩
    | 7, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), in_state 7 (by decide) y hi⟩
    | 8, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), in_state 8 (by decide) y hi⟩
    | 9, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), in_state 9 (by decide) y hi⟩
    | 10, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), in_state 10 (by decide) y hi⟩
    | 11, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), in_state 11 (by decide) y hi⟩
    | 12, _ => exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), in_state 12 (by decide) y hi⟩
    | 13, _ => exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), in_state 13 (by decide) y hi⟩
    | 14, _ => exact ⟨_, .tail _ (.tail _ (.tail _ (.tail _ (.tail _ (.tail _ (.tail _ (.tail _ (.tail _ (.tail _ (.tail _ (.tail _ (.tail _ (.tail _ (.tail _ (.tail _ (.tail _ (.head _))))))))))))))))), in_state 14 (by decide) y hi⟩
    | 15, _ => exact ⟨_, .tail _ (.tail _ (.tail _ (.tail _ (.tail _ (.tail _ (.tail _ (.tail _ (.tail _ (.tail _ (.tail _ (.tail _ (.tail _ (.tail _ (.tail _ (.tail _ (.head _)))))))))))))))), in_state 15 (by decide) y hi⟩
    | 16, _ => exact ⟨_, .tail _ (.tail _ (.tail _ (.tail _ (.tail _ (.tail _ (.tail _ (.tail _ (.tail _ (.tail _ (.tail _ (.tail _ (.tail _ (.tail _ (.tail _ (.head _))))))))))))))), in_state 16 (by decide) y hi⟩
    | 17, _ => exact ⟨_, .tail _ (.tail _ (.tail _ (.tail _ (.tail _ (.tail _ (.tail _ (.tail _ (.tail _ (.tail _ (.tail _ (.tail _ (.tail _ (.tail _ (.head _)))))))))))))), in_state 17 (by decide) y hi⟩
    | 18, _ => exact ⟨_, .tail _ (.tail _ (.tail _ (.tail _ (.tail _ (.tail _ (.tail _ (.tail _ (.tail _ (.tail _ (.tail _ (.tail _ (.tail _ (.head _))))))))))))), in_state 18 (by decide) y hi⟩
    | 19, _ => exact ⟨_, .tail _ (.tail _ (.tail _ (.tail _ (.tail _ (.tail _ (.tail _ (.tail _ (.tail _ (.tail _ (.tail _ (.tail _ (.head _)))))))))))), in_state 19 (by decide) y hi⟩
    | 20, _ => exact ⟨_, .tail _ (.tail _ (.tail _ (.tail _ (.tail _ (.tail _ (.tail _ (.tail _ (.tail _ (.tail _ (.tail _ (.head _))))))))))), in_state 20 (by decide) y hi⟩
    | 21, _ => exact ⟨_, .tail _ (.tail _ (.tail _ (.tail _ (.tail _ (.tail _ (.tail _ (.tail _ (.tail _ (.tail _ (.head _)))))))))), in_state 21 (by decide) y hi⟩
    | 22, _ => exact ⟨_, .tail _ (.tail _ (.tail _ (.tail _ (.tail _ (.tail _ (.tail _ (.tail _ (.tail _ (.head _))))))))), in_state 22 (by decide) y hi⟩
    | 23, _ => exact ⟨_, .tail _ (.tail _ (.tail _ (.tail _ (.tail _ (.tail _ (.tail _ (.tail _ (.head _)))))))), in_state 23 (by decide) y hi⟩
    | 24, _ => exact ⟨_, .tail _ (.tail _ (.tail _ (.tail _ (.tail _ (.tail _ (.tail _ (.head _))))))), in_state 24 (by decide) y hi⟩
    | 25, _ => exact ⟨_, .tail _ (.tail _ (.tail _ (.tail _ (.tail _ (.tail _ (.head _)))))), in_state 25 (by decide) y hi⟩
    | 26, _ => exact ⟨_, .tail _ (.tail _ (.tail _ (.tail _ (.tail _ (.head _))))), in_state 26 (by decide) y hi⟩
    | 27, _ => exact ⟨_, .tail _ (.tail _ (.tail _ (.tail _ (.head _)))), in_state 27 (by decide) y hi⟩
    | 28, _ => exact ⟨_, .tail _ (.tail _ (.tail _ (.head _))), in_state 28 (by decide) y hi⟩
    | 29, _ => exact ⟨_, .tail _ (.tail _ (.head _)), in_state 29 (by decide) y hi⟩
    | 30, _ => exact ⟨_, .tail _ (.head _), in_state 30 (by decide) y hi⟩
    | 31, _ => exact ⟨_, .head _, in_state 31 (by decide) y hi⟩
    | k + 32, h => exact absurd h (by omega)

/-- The states every point leaves. -/
theorem states_at (hr : (args m c).Real) : ∀ (n : Nat) (hn : n < cfg0.N), (outsAt0 m c n hn).2 = STATES (args m c) (seqOf ⟨n, hn⟩) ((chunkOf ⟨n, hn⟩).val + 1)
  | 0, hn => states_first m c ⟨0, hn⟩ hr rfl
  | n + 1, hn => by
    by_cases h0 : (n + 1) % 32 = 0
    · exact states_first m c ⟨n + 1, hn⟩ hr h0
    · refine states_next m c ⟨n + 1, hn⟩ hr h0 ?_
      have ih := states_at hr n (Nat.lt_of_succ_lt hn)
      have e1 : seqOf ⟨n, Nat.lt_of_succ_lt hn⟩ = seqOf ⟨n + 1, hn⟩ := Fin.ext (by show n / 32 = (n + 1) / 32; omega)
      have e2 : (chunkOf ⟨n, Nat.lt_of_succ_lt hn⟩).val + 1 = (chunkOf ⟨n + 1, hn⟩).val := by show n % 32 + 1 = (n + 1) % 32; omega
      rw [e1, e2] at ih
      exact ih

/-- The rows every point stores. -/
theorem rows_at (hr : (args m c).Real) (t : Fin cfg0.N) : (outsAt0 m c t.val t.isLt).1 = ROWS (args m c) (seqOf t) (chunkOf t) := by
  by_cases h0 : t.val % 32 = 0
  · exact rows_first m c t hr h0
  · refine rows_next m c t hr h0 ?_
    have ih := states_at m c hr (t.val - 1) (Nat.lt_of_le_of_lt (Nat.sub_le _ _) t.isLt)
    have e1 : seqOf ⟨t.val - 1, Nat.lt_of_le_of_lt (Nat.sub_le _ _) t.isLt⟩ = seqOf t := Fin.ext (by show (t.val - 1) / 32 = t.val / 32; omega)
    have e2 : (chunkOf ⟨t.val - 1, Nat.lt_of_le_of_lt (Nat.sub_le _ _) t.isLt⟩).val + 1 = (chunkOf t).val := by show (t.val - 1) % 32 + 1 = t.val % 32; omega
    rw [e1, e2] at ih
    exact ih

end Cert.SsdIdeal.Blocks

end
-- ==== Proof.SsdValue.lean ====
/-
  The arrays the chunked recurrence's kernel ends with: the recurrence's rows and its last states.
-/
module

public import proofs.«01_k».proof.Proof.SsdPoint

@[expose] public section

set_option maxRecDepth 16384

noncomputable section

open Idealize.ShloMosaic Idealize.ShloMosaic.TcCoe

namespace Cert.SsdIdeal.Blocks

open Cert.SsdIdeal Cert.SsdIdeal.Gen Cert.SsdChunk

variable (m : (ℓ : Loc nD τ sig) → Buf (Elt Ideal) ℓ) (c : Dev nD)

/-- The rows, as the kernel's array. -/
def rowsArray (A : Args) : S4x4096x2048.Idx → EReal := fun i =>
  A.row (i 0) ⟨(i 1).val / 128, by have h : (i 1).val < 4096 := (i 1).isLt; omega⟩ ⟨(i 2).val / 512, by have h : (i 2).val < 2048 := (i 2).isLt; omega⟩
    ⟨(i 2).val % 512 / 64, by omega⟩ ⟨(i 2).val % 64, by omega⟩ ⟨(i 1).val % 128, by omega⟩

/-- The last states, as the kernel's array. -/
def statesArray (A : Args) : S4x32x64x128.Idx → EReal := fun i =>
  A.state (i 0) ⟨(i 1).val / 8, by have h : (i 1).val < 32 := (i 1).isLt; omega⟩ ⟨(i 1).val % 8, by omega⟩ (i 2) (i 3) 32

theorem rows_block (A : Args) (t : Fin cfg0.N) (y : S1x128x2048.Idx) : ROWS A (seqOf t) (chunkOf t) y = rowsArray A (((cfg0.win 8).blk t).view.emb y) := by
  idx_vars y
  have ht : t.val < 128 := t.isLt
  have he : ((cfg0.win 8).blk t).view.emb (ix3 y0 y1 y2)
      = (ix3 (seqOf t) (⟨t.val % 32 * 128 + y1.val, by omega⟩ : Fin 4096) y2 : S4x4096x2048.Idx) := by
    blk_ext [idx t]
  rw [he]
  have e1 : (⟨(t.val % 32 * 128 + y1.val) / 128, by omega⟩ : Fin 32) = chunkOf t := Fin.ext (by show _ = t.val % 32; dsimp only; omega)
  have e2 : (⟨(t.val % 32 * 128 + y1.val) % 128, by omega⟩ : Fin 128) = y1 := Fin.ext (by dsimp only; omega)
  show A.row _ _ _ _ _ _ = A.row _ ⟨(t.val % 32 * 128 + y1.val) / 128, _⟩ _ _ _ ⟨(t.val % 32 * 128 + y1.val) % 128, _⟩
  rw [e1, e2]
  rfl

theorem states_block (A : Args) (t : Fin cfg0.N) (h : t.val % 32 = 31) (y : S1x32x64x128.Idx) : STATES A (seqOf t) 32 y = statesArray A (((cfg0.win 9).blk t).view.emb y) := by
  idx_vars y
  have ht : t.val < 128 := t.isLt
  have he : ((cfg0.win 9).blk t).view.emb (ix4 y0 y1 y2 y3)
      = (ix4 (seqOf t) y1 y2 y3 : S4x32x64x128.Idx) := by
    blk_ext [idx t]
  rw [he]
  rfl

theorem final8 (hr : (args m c).Real) : (dats m 0 c).arrAt 8 cfg0.N = rowsArray (args m c) := by
  refine (dats m 0 c).arrAt_eq_of_covers 8 _ (by decide +kernel) fun t _ y => ?_
  blk_simp
  rw [after0_8, rows_at m c hr t]
  exact rows_block (args m c) t y

theorem final9 (hr : (args m c).Real) : (dats m 0 c).arrAt 9 cfg0.N = statesArray (args m c) := by
  refine (dats m 0 c).arrAt_eq_of_covers 9 _ (by decide +kernel) fun t hf y => ?_
  blk_simp
  rw [after0_9, states_at m c hr t.val t.isLt]
  have h31 := (flush0_9 t).mp hf
  have e : (chunkOf ⟨t.val, t.isLt⟩).val + 1 = 32 := by show t.val % 32 + 1 = 32; omega
  rw [e]
  exact states_block (args m c) t h31 y

end Cert.SsdIdeal.Blocks

end
-- ==== Proof.SsdPre.lean ====
/-
  What the precondition says: the step sizes, their bias and the decay rates are real numbers.
-/
module

public import proofs.«01_k».proof.Pre_finite_steps
public import proofs.«01_k».proof.Proof.SsdValue
public import Idealize.ShloMosaic.Lib.ReduceAll
public import Idealize.ShloMosaic.Lib.WordArith

@[expose] public section

set_option maxRecDepth 16384

noncomputable section

open Idealize.ShloMosaic Idealize.ShloMosaic.TcCoe

namespace Cert.SsdIdeal.Blocks

open Cert.SsdIdeal Cert.SsdIdeal.Gen Cert.SsdChunk

/-- An extended real strictly between the infinities is a real number. -/
theorem real_of_between (x : EReal) (h1 : FloatOps.cmpf (F := Ideal) (φ := .f32) .olt x (FloatOps.ofBits (F := Ideal) .f32 0x7F800000#32) = 1#1)
    (h2 : FloatOps.cmpf (F := Ideal) (φ := .f32) .ogt x (FloatOps.ofBits (F := Ideal) .f32 0xFF800000#32) = 1#1) : ∃ v : ℝ, x = (v : EReal) := by
  have t1 : (FloatOps.ofBits (F := Ideal) .f32 0x7F800000#32 : EReal) = ⊤ := by
    show Ideal.ofBits .f32 0x7F800000#32 = ⊤
    simp [Ideal.ofBits, Ideal.ieee]
  have t2 : (FloatOps.ofBits (F := Ideal) .f32 0xFF800000#32 : EReal) = ⊥ := by
    show Ideal.ofBits .f32 0xFF800000#32 = ⊥
    simp [Ideal.ofBits, Ideal.ieee]
  induction x using EReal.rec with
  | bot =>
    rw [t2] at h2
    exact absurd h2 (by simp [Ideal.cmpf_def, Ideal.cmp])
  | top =>
    rw [t1] at h1
    exact absurd h1 (by simp [Ideal.cmpf_def, Ideal.cmp])
  | coe v => exact ⟨v, rfl⟩

theorem and_ones (a b : BitVec 1) (h : a &&& b = 1#1) : a = 1#1 ∧ b = 1#1 := by
  revert a b; decide

theorem real_of_pre [Cert.Pre_finite_steps.Facts] (m : (ℓ : Loc nD τ sig) → Buf (Elt Ideal) ℓ) (c : Dev nD)
    (h : Cert.Pre_finite_steps.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : (args m c).Real := by
  have h0 := congrFun h ix0
  dsimp only [Cert.Pre_finite_steps.fn, Cert.Pre_finite_steps.fn_part1] at h0
  obtain ⟨h01, h3⟩ := and_ones _ _ h0
  obtain ⟨h1, h2⟩ := and_ones _ _ h01
  refine ⟨fun n s k => ?_, fun k => ?_, fun k => ?_⟩
  · obtain ⟨a, b⟩ := and_ones _ _ (Host.reduce_andi_all _ _ _ _ _ h1 (ix3 n s k))
    exact real_of_between _ a b
  · obtain ⟨a, b⟩ := and_ones _ _ (Host.reduce_andi_all _ _ _ _ _ h2 (ix1 k))
    exact real_of_between _ a b
  · obtain ⟨a, b⟩ := and_ones _ _ (Host.reduce_andi_all _ _ _ _ _ h3 (ix1 k))
    exact real_of_between _ a b

end Cert.SsdIdeal.Blocks

end
-- ==== Proof.SsdRefStep.lean ====
/-
  One trip of the reference's scan over the chunks, read element by element: the trip's chunk of each array, the running
  sum of the log decays, the state it hands on and the rows it stores.
-/
module

public import proofs.«01_k».proof.Proof.SsdMath
public import proofs.«01_k».proof.Proof.Gen.SsdRefIdeal.Run
public import Idealize.ShloMosaic.Lib.ValueIdxRank6
public import Idealize.ShloMosaic.Lib.WordCmp
public import Idealize.ShloMosaic.Lib.DynamicIndex
public import Idealize.ShloMosaic.Lib.Pipeline.ValueKit

@[expose] public section

set_option maxRecDepth 16384

noncomputable section

open Idealize.ShloMosaic Idealize.ShloMosaic.TcCoe

namespace Cert.SsdRefIdeal.Step

open Cert.SsdRefIdeal Cert.SsdRefIdeal.Gen Cert.SsdRefIdeal.Value Cert.SsdChunk

variable (V0 : Valuation τ sig (Elt Ideal)) (k : Fin 32)
  (hk : V0 (Proc.devRef .tc main_v40_6) = fun _ => BitVec.ofNat 32 k.val)

/-- The float window sum along the second axis is the running sum. -/
theorem window_at (x : FVec Ideal S4x128x4x8 .f32) (n : Fin 4) (l : Fin 128) (g : Fin 4) (e : Fin 8) :
    Host.reduceWindowAdd ![1, 128, 1, 1] ![1, 1, 1, 1] ![0, 127, 0, 0] ![0, 0, 0, 0] x
      (broadcastInDim S_ ![] bcast_S_S_ (constant S_ .f32 0x00000000#32))
      reduceWindows_S4x128x4x8_S4x128x4x8_w1s1p0_0_w128s1p127_0_w1s1p0_0_w1s1p0_0 h_S_ (ix4 n l g e)
      = cum (fun s => x (ix4 n s g e)) l := by
  have h0 : (broadcastInDim S_ ![] bcast_S_S_ (constant (F := Ideal) S_ .f32 0x00000000#32)) (Shape.Idx.first h_S_) = (0 : EReal) := by
    pointwise []
  change Ideal.hostReduceWindowAdd ![1, 128, 1, 1] ![1, 1, 1, 1] ![0, 127, 0, 0] ![0, 0, 0, 0]
    reduceWindows_S4x128x4x8_S4x128x4x8_w1s1p0_0_w128s1p127_0_w1s1p0_0_w1s1p0_0 x
    ((broadcastInDim S_ ![] bcast_S_S_ (constant (F := Ideal) S_ .f32 0x00000000#32)) (Shape.Idx.first h_S_)) (ix4 n l g e) = _
  rw [h0, window_fold, ← window_sum]
  have hb : Function.Bijective (fun s : Fin 128 => (ix4 0 s 0 0 : (⟨4, ![1, 128, 1, 1]⟩ : Shape).Idx)) := by
    constructor
    · intro s s' h
      exact congrFun h 1
    · intro i
      refine ⟨i 1, ?_⟩
      funext a
      match a with
      | ⟨0, _⟩ => exact Subsingleton.elim (α := Fin 1) _ _
      | ⟨1, _⟩ => rfl
      | ⟨2, _⟩ => exact Subsingleton.elim (α := Fin 1) _ _
      | ⟨3, _⟩ => exact Subsingleton.elim (α := Fin 1) _ _
  rw [← hb.sum_comp]
  refine Finset.sum_congr rfl fun s _ => ?_
  have hl := l.isLt
  have hs := s.isLt
  by_cases h : 127 ≤ l.val + s.val
  · rw [dif_pos h, dif_pos]
    · refine congrArg x (funext fun a => Fin.ext ?_)
      match a with
      | ⟨0, _⟩ => change n.val * 1 + 0 - 0 = n.val; omega
      | ⟨1, _⟩ => change l.val * 1 + s.val - 127 = l.val + s.val - 127; omega
      | ⟨2, _⟩ => change g.val * 1 + 0 - 0 = g.val; omega
      | ⟨3, _⟩ => change e.val * 1 + 0 - 0 = e.val; omega
    · intro a
      match a with
      | ⟨0, _⟩ => change 0 ≤ n.val * 1 + 0 ∧ n.val * 1 + 0 - 0 < 4; omega
      | ⟨1, _⟩ => change 127 ≤ l.val * 1 + s.val ∧ l.val * 1 + s.val - 127 < 128; omega
      | ⟨2, _⟩ => change 0 ≤ g.val * 1 + 0 ∧ g.val * 1 + 0 - 0 < 4; omega
      | ⟨3, _⟩ => change 0 ≤ e.val * 1 + 0 ∧ e.val * 1 + 0 - 0 < 8; omega
  · rw [dif_neg h, dif_neg]
    intro hin
    have h1 := (hin 1).1
    change 127 ≤ l.val * 1 + s.val at h1
    omega

include hk in
/-- A trip's start on an array of rank 5 is its own number on the first axis and zero on the others. -/
theorem start5 (a : Fin 5) : (((![V0 (Proc.devRef .tc main_v40_6), constantI S_ 32 0#32, constantI S_ 32 0#32, constantI S_ 32 0#32, constantI S_ 32 0#32] : Fin 5 → (⟨S_, .i32⟩ : BufTy).Contents (Elt Ideal))) a (Shape.Idx.first h_S_)).toInt
    = ((![k.val, 0, 0, 0, 0] : Fin 5 → Nat) a : Int) := by
  fin_cases a
  · change BitVec.toInt (V0 (Proc.devRef .tc main_v40_6) (Shape.Idx.first h_S_)) = (k.val : Int)
    rw [hk]
    exact toInt_ofNat_of_lt (by have := k.isLt; omega)
  · rfl
  · rfl
  · rfl
  · rfl

include hk in
/-- A trip's start on an array of rank 6 is its own number on the first axis and zero on the others. -/
theorem start6 (a : Fin 6) : (((![V0 (Proc.devRef .tc main_v40_6), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt
    = ((![k.val, 0, 0, 0, 0, 0] : Fin 6 → Nat) a : Int) := by
  fin_cases a
  · change BitVec.toInt (V0 (Proc.devRef .tc main_v40_6) (Shape.Idx.first h_S_)) = (k.val : Int)
    rw [hk]
    exact toInt_ofNat_of_lt (by have := k.isLt; omega)
  · rfl
  · rfl
  · rfl
  · rfl
  · rfl

theorem fitsX (k : Fin 32) : S32x4x128x4x8x64.Slices (![k.val, 0, 0, 0, 0, 0] : Fin 6 → Nat) S1x4x128x4x8x64 := by
  revert k; decide +kernel

theorem fitsA (k : Fin 32) : S32x4x128x4x8.Slices (![k.val, 0, 0, 0, 0] : Fin 5 → Nat) S1x4x128x4x8 := by
  revert k; decide +kernel

theorem fitsB (k : Fin 32) : S32x4x128x4x128.Slices (![k.val, 0, 0, 0, 0] : Fin 5 → Nat) S1x4x128x4x128 := by
  revert k; decide +kernel

include hk in
/-- The trip's chunk of the inputs. -/
theorem x_at (n : Fin 4) (l : Fin 128) (g : Fin 4) (e : Fin 8) (p : Fin 64) :
    res_main_while0b_v46 V0 (ix5 n l g e p) = V0 (Proc.devRef .tc main_v40_0) (ix6 k n l g e p) := by
  unfold res_main_while0b_v46
  rw [Host.dynamicSlice_eq_extractStridedSlice _ _ _ (![k.val, 0, 0, 0, 0, 0] : Fin 6 → Nat) _ (fitsX k) (start6 V0 k hk)]
  pointwise []

include hk in
/-- The trip's chunk of the state's input rows. -/
theorem b_at (n : Fin 4) (l : Fin 128) (g : Fin 4) (q : Fin 128) :
    res_main_while0b_v48 V0 (ix4 n l g q) = V0 (Proc.devRef .tc main_v40_2) (ix5 k n l g q) := by
  unfold res_main_while0b_v48
  rw [Host.dynamicSlice_eq_extractStridedSlice _ _ _ (![k.val, 0, 0, 0, 0] : Fin 5 → Nat) _ (fitsB k) (start5 V0 k hk)]
  pointwise []

include hk in
/-- The trip's chunk of the state's output rows. -/
theorem c_at (n : Fin 4) (l : Fin 128) (g : Fin 4) (q : Fin 128) :
    res_main_while0b_v49 V0 (ix4 n l g q) = V0 (Proc.devRef .tc main_v40_3) (ix5 k n l g q) := by
  unfold res_main_while0b_v49
  rw [Host.dynamicSlice_eq_extractStridedSlice _ _ _ (![k.val, 0, 0, 0, 0] : Fin 5 → Nat) _ (fitsB k) (start5 V0 k hk)]
  pointwise []

include hk in
/-- The trip's chunk of the skip terms. -/
theorem skip_at (n : Fin 4) (l : Fin 128) (g : Fin 4) (e : Fin 8) (p : Fin 64) :
    (shapeCast S4x128x4x8x64 (Host.dynamicSlice S1x4x128x4x8x64 (V0 (Proc.devRef .tc main_v40_4)) (fun k => (((![V0 (Proc.devRef .tc main_v40_6), constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) sliceFits_S32x4x128x4x8x64_S1x4x128x4x8x64) shapeCasts_S1x4x128x4x8x64_S4x128x4x8x64 : FVec Ideal S4x128x4x8x64 .f32) (ix5 n l g e p) = V0 (Proc.devRef .tc main_v40_4) (ix6 k n l g e p) := by
  rw [Host.dynamicSlice_eq_extractStridedSlice _ _ _ (![k.val, 0, 0, 0, 0, 0] : Fin 6 → Nat) _ (fitsX k) (start6 V0 k hk)]
  pointwise []

include hk in
/-- The trip's chunk of the log decays. -/
theorem a_at (n : Fin 4) (l : Fin 128) (g : Fin 4) (e : Fin 8) :
    (shapeCast S4x128x4x8 (Host.dynamicSlice S1x4x128x4x8 (V0 (Proc.devRef .tc main_v40_1)) (fun k => (((![V0 (Proc.devRef .tc main_v40_6), constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x128x4x8_S1x4x128x4x8) shapeCasts_S1x4x128x4x8_S4x128x4x8 : FVec Ideal S4x128x4x8 .f32) (ix4 n l g e) = V0 (Proc.devRef .tc main_v40_1) (ix5 k n l g e) := by
  rw [Host.dynamicSlice_eq_extractStridedSlice _ _ _ (![k.val, 0, 0, 0, 0] : Fin 5 → Nat) _ (fitsA k) (start5 V0 k hk)]
  pointwise []

include hk in
/-- The running sum of the trip's log decays. -/
theorem cum_at (n : Fin 4) (l : Fin 128) (g : Fin 4) (e : Fin 8) :
    res_main_while0b_v51 V0 (ix4 n l g e) = cum (fun s => V0 (Proc.devRef .tc main_v40_1) (ix5 k n s g e)) l := by
  unfold res_main_while0b_v51
  rw [window_at]
  exact congrArg (fun f => cum f l) (funext fun s => a_at V0 k hk n s g e)

include hk in
/-- The state after the trip. -/
theorem state_at (n : Fin 4) (g : Fin 4) (e : Fin 8) (p : Fin 64) (q : Fin 128) :
    step_main_v40_7 V0 (ix5 n g e p q) = stateOut (fun s => V0 (Proc.devRef .tc main_v40_1) (ix5 k n s g e))
      (fun s => V0 (Proc.devRef .tc main_v40_0) (ix6 k n s g e p)) (fun s => V0 (Proc.devRef .tc main_v40_2) (ix5 k n s g q))
      (V0 (Proc.devRef .tc main_v40_7) (ix5 n g e p q)) := by
  unfold step_main_v40_7 stateOut
  simp only [← x_at V0 k hk, ← b_at V0 k hk, ← cum_at V0 k hk]
  generalize res_main_while0b_v51 V0 = C
  generalize res_main_while0b_v46 V0 = X
  generalize res_main_while0b_v48 V0 = B
  pointwise [id]

theorem if_congr_dec {α : Type} {P Q : Prop} [Decidable P] [Decidable Q] {a b : α} (h : P ↔ Q) :
    (if _h : P then a else b) = if Q then a else b := by
  by_cases hp : P
  · rw [dif_pos hp, if_pos (h.mp hp)]
  · rw [dif_neg hp, if_neg fun q => hp (h.mpr q)]

/-- The rows of one trip, as the reference computes them. -/
def ROWS : FVec Ideal S4x128x4x8x64 .f32 :=
  addf (addf (transpose S4x128x4x8x64 [0, 4, 1, 2, 3] (Host.dotGeneral (φ₁ := .f32) (φ₂ := .f32) dot_S4x128x4x8x64_S4x128x128x4x8_S4x4x8x64x128_1_2_4_1_023_034 none (res_main_while0b_v46 V0 : FVec Ideal S4x128x4x8x64 .f32) (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral (φ₁ := .f32) (φ₂ := .f32) dot_S4x128x4x128_S4x128x4x128_S4x4x128x128_3_3_1_1_02_02 none (res_main_while0b_v48 V0 : FVec Ideal S4x128x4x128 .f32) (res_main_while0b_v49 V0 : FVec Ideal S4x128x4x128 .f32)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v40_5))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v51 V0 : FVec Ideal S4x128x4x8 .f32))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v51 V0 : FVec Ideal S4x128x4x8 .f32)))) (broadcastInDim S4x128x128x4x8 ![] bcast_S_S4x128x128x4x8 (id (constant S_ .f32 0xFF800000#32))))))) transposes_S4x4x8x64x128_S4x128x4x8x64_0_4_1_2_3) (mulf (transpose S4x128x4x8x64 [0, 4, 1, 2, 3] (Host.dotGeneral (φ₁ := .f32) (φ₂ := .f32) dot_S4x4x8x64x128_S4x128x4x128_S4x4x8x64x128_4_3_23_1_01_02 none (V0 (Proc.devRef .tc main_v40_7) : FVec Ideal S4x4x8x64x128 .f32) (res_main_while0b_v49 V0 : FVec Ideal S4x128x4x128 .f32)) transposes_S4x4x8x64x128_S4x128x4x8x64_0_4_1_2_3) (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v51 V0 : FVec Ideal S4x128x4x8 .f32)))))) (shapeCast S4x128x4x8x64 (Host.dynamicSlice S1x4x128x4x8x64 (V0 (Proc.devRef .tc main_v40_4)) (fun k => (((![V0 (Proc.devRef .tc main_v40_6), constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) sliceFits_S32x4x128x4x8x64_S1x4x128x4x8x64) shapeCasts_S1x4x128x4x8x64_S4x128x4x8x64)

include hk in
theorem ROWS_at (hm : ∀ l s : Fin 128, V0 (Proc.devRef .tc main_v40_5) (ix5 0 l s 0 0) = BitVec.ofBool (decide (s.val ≤ l.val)))
    (n : Fin 4) (l : Fin 128) (g : Fin 4) (e : Fin 8) (p : Fin 64) :
    ROWS V0 (ix5 n l g e p) = rowOut (fun s => V0 (Proc.devRef .tc main_v40_1) (ix5 k n s g e))
      (fun s => V0 (Proc.devRef .tc main_v40_0) (ix6 k n s g e p)) (fun s q => V0 (Proc.devRef .tc main_v40_2) (ix5 k n s g q))
      (fun l q => V0 (Proc.devRef .tc main_v40_3) (ix5 k n l g q)) (V0 (Proc.devRef .tc main_v40_4) (ix6 k n l g e p))
      (fun q => V0 (Proc.devRef .tc main_v40_7) (ix5 n g e p q)) l := by
  unfold ROWS rowOut fade
  simp only [← x_at V0 k hk, ← b_at V0 k hk, ← c_at V0 k hk, ← cum_at V0 k hk, ← skip_at V0 k hk]
  generalize res_main_while0b_v51 V0 = C
  generalize res_main_while0b_v46 V0 = X
  generalize res_main_while0b_v48 V0 = B
  generalize res_main_while0b_v49 V0 = D
  generalize (shapeCast S4x128x4x8x64 (Host.dynamicSlice S1x4x128x4x8x64 (V0 (Proc.devRef .tc main_v40_4)) _ _) _ : FVec Ideal S4x128x4x8x64 .f32) = E
  pointwise [hm, id_eq]

include hk in
/-- The stacked rows after the trip: its own are new, the others as before. -/
theorem rows_at (hm : ∀ l s : Fin 128, V0 (Proc.devRef .tc main_v40_5) (ix5 0 l s 0 0) = BitVec.ofBool (decide (s.val ≤ l.val)))
    (k' : Fin 32) (n : Fin 4) (l : Fin 128) (g : Fin 4) (e : Fin 8) (p : Fin 64) :
    step_main_v40_8 V0 (ix6 k' n l g e p) = if k'.val = k.val then rowOut (fun s => V0 (Proc.devRef .tc main_v40_1) (ix5 k n s g e))
      (fun s => V0 (Proc.devRef .tc main_v40_0) (ix6 k n s g e p)) (fun s q => V0 (Proc.devRef .tc main_v40_2) (ix5 k n s g q))
      (fun l q => V0 (Proc.devRef .tc main_v40_3) (ix5 k n l g q)) (V0 (Proc.devRef .tc main_v40_4) (ix6 k n l g e p))
      (fun q => V0 (Proc.devRef .tc main_v40_7) (ix5 n g e p q)) l else V0 (Proc.devRef .tc main_v40_8) (ix6 k' n l g e p) := by
  rw [← ROWS_at V0 k hk hm]
  change Host.dynamicUpdateSlice (V0 (Proc.devRef .tc main_v40_8)) (broadcastInDim S1x4x128x4x8x64 ![1, 2, 3, 4, 5] bcast_S4x128x4x8x64_S1x4x128x4x8x64_1_2_3_4_5 (ROWS V0))
    (fun a => (((![V0 (Proc.devRef .tc main_v40_6), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt)
    updateFits_S32x4x128x4x8x64_S1x4x128x4x8x64 (ix6 k' n l g e p) = _
  generalize ROWS V0 = Y
  generalize V0 (Proc.devRef .tc main_v40_8) = Z
  rw [Host.dynamicUpdateSlice_eq_updateSlice _ _ _ _ (![k.val, 0, 0, 0, 0, 0] : Fin 6 → Nat)
    (fun a => by
      have h : (![k.val, 0, 0, 0, 0, 0] : Fin 6 → Nat) a + S1x4x128x4x8x64.size (a.cast (fitsX k).1.symm) ≤ (Proc.devRef .tc main_v40_8 : DevRef τ sig).ty.shape.size a := (fitsX k).2 a
      rw [start6 V0 k hk a]
      omega) (fitsX k)]
  have hn := n.isLt
  have hl := l.isLt
  have hg := g.isLt
  have he := e.isLt
  have hp := p.isLt
  pointwise []
  refine if_congr_dec ?_
  constructor
  · intro h
    have h0 := h (0 : Fin 6)
    change k.val ≤ k'.val ∧ k'.val < k.val + 1 at h0
    omega
  · intro h a
    change Fin 6 at a
    match a with
    | ⟨0, _⟩ => change k.val ≤ k'.val ∧ k'.val < k.val + 1; omega
    | ⟨1, _⟩ => change 0 ≤ n.val ∧ n.val < 0 + 4; omega
    | ⟨2, _⟩ => change 0 ≤ l.val ∧ l.val < 0 + 128; omega
    | ⟨3, _⟩ => change 0 ≤ g.val ∧ g.val < 0 + 4; omega
    | ⟨4, _⟩ => change 0 ≤ e.val ∧ e.val < 0 + 8; omega
    | ⟨5, _⟩ => change 0 ≤ p.val ∧ p.val < 0 + 64; omega

end Cert.SsdRefIdeal.Step

end
-- ==== Proof.SsdRefEntry.lean ====
/-
  What the reference's scan over the chunks starts from, read element by element: the inputs times their steps, the log
  decays, the rows of the state's input and output matrices, the skip terms, the causal mask and the zero state.
-/
module

public import proofs.«01_k».proof.Proof.SsdMath
public import proofs.«01_k».proof.Proof.Gen.SsdRefIdeal.Run
public import Idealize.ShloMosaic.Lib.ValueIdxRank6
public import Idealize.ShloMosaic.Lib.WordCmp
public import Idealize.ShloMosaic.Lib.Pipeline.ValueKit

@[expose] public section

set_option maxRecDepth 16384

noncomputable section

open Idealize.ShloMosaic Idealize.ShloMosaic.TcCoe Idealize.ShloMosaic.Pipeline Idealize.ShloMosaic.StableHlo

namespace Cert.SsdRefIdeal.Entry

open Cert.SsdRefIdeal Cert.SsdRefIdeal.Gen Cert.SsdRefIdeal.Value Cert.SsdChunk

/-- A zero at every step and head. -/
def ZERO : FVec Ideal S4x4096x32 .f32 := broadcastInDim S4x4096x32 ![] bcast_S_S4x4096x32 (constant S_ .f32 0x00000000#32)

/-- The steps before the softplus. -/
def PRE (dt : FVec Ideal S4x4096x32 .f32) (bias : FVec Ideal S32 .f32) : FVec Ideal S4x4096x32 .f32 :=
  addf dt (broadcastInDim S4x4096x32 ![0, 1, 2] bcast_S1x1x32_S4x4096x32_0_1_2 (broadcastInDim S1x1x32 ![2] bcast_S32_S1x1x32_2 bias))

/-- The softplus, as the reference computes it. -/
def SOFT (v : FVec Ideal S4x4096x32 .f32) : FVec Ideal S4x4096x32 .f32 :=
  select (cmpf .une (subf v ZERO) (subf v ZERO)) (addf v ZERO)
    (addf (maximumf v ZERO) (Host.log1p (Host.exp (Host.negf (Host.absf (subf v ZERO))))))

/-- The inputs, heads apart. -/
def XS (x : FVec Ideal S4x4096x3072 .f32) : FVec Ideal S4x4096x4x8x64 .f32 :=
  shapeCast S4x4096x4x8x64 (extractStridedSlice S4x4096x2048 ![0, 0, 0] x slices_S4x4096x3072_S4x4096x2048_0_0_0) shapeCasts_S4x4096x2048_S4x4096x4x8x64

/-- The steps, heads apart. -/
def STEPS (dt : FVec Ideal S4x4096x32 .f32) (bias : FVec Ideal S32 .f32) : FVec Ideal S4x4096x4x8 .f32 :=
  shapeCast S4x4096x4x8 (SOFT (PRE dt bias)) shapeCasts_S4x4096x32_S4x4096x4x8

def E0 (x : FVec Ideal S4x4096x3072 .f32) (dt : FVec Ideal S4x4096x32 .f32) (bias : FVec Ideal S32 .f32) : FVec Ideal S32x4x128x4x8x64 .f32 :=
  transpose S32x4x128x4x8x64 [1, 0, 2, 3, 4, 5] (shapeCast S4x32x128x4x8x64 (mulf (XS x) (broadcastInDim S4x4096x4x8x64 ![0, 1, 2, 3, 4] bcast_S4x4096x4x8x1_S4x4096x4x8x64_0_1_2_3_4
    (broadcastInDim S4x4096x4x8x1 ![0, 1, 2, 3] bcast_S4x4096x4x8_S4x4096x4x8x1_0_1_2_3 (STEPS dt bias)))) shapeCasts_S4x4096x4x8x64_S4x32x128x4x8x64) transposes_S4x32x128x4x8x64_S32x4x128x4x8x64_1_0_2_3_4_5

def E1 (dt : FVec Ideal S4x4096x32 .f32) (bias alog : FVec Ideal S32 .f32) : FVec Ideal S32x4x128x4x8 .f32 :=
  transpose S32x4x128x4x8 [1, 0, 2, 3, 4] (shapeCast S4x32x128x4x8 (mulf (STEPS dt bias) (broadcastInDim S4x4096x4x8 ![0, 1, 2, 3] bcast_S1x1x4x8_S4x4096x4x8_0_1_2_3
    (broadcastInDim S1x1x4x8 ![2, 3] bcast_S4x8_S1x1x4x8_2_3 (Host.negf (shapeCast S4x8 (Host.exp alog) shapeCasts_S32_S4x8))))) shapeCasts_S4x4096x4x8_S4x32x128x4x8) transposes_S4x32x128x4x8_S32x4x128x4x8_1_0_2_3_4

def E2 (x : FVec Ideal S4x4096x3072 .f32) : FVec Ideal S32x4x128x4x128 .f32 :=
  transpose S32x4x128x4x128 [1, 0, 2, 3, 4] (shapeCast S4x32x128x4x128 (shapeCast S4x4096x4x128 (extractStridedSlice S4x4096x512 ![0, 0, 2048] x slices_S4x4096x3072_S4x4096x512_0_0_2048) shapeCasts_S4x4096x512_S4x4096x4x128) shapeCasts_S4x4096x4x128_S4x32x128x4x128) transposes_S4x32x128x4x128_S32x4x128x4x128_1_0_2_3_4

def E3 (x : FVec Ideal S4x4096x3072 .f32) : FVec Ideal S32x4x128x4x128 .f32 :=
  transpose S32x4x128x4x128 [1, 0, 2, 3, 4] (shapeCast S4x32x128x4x128 (shapeCast S4x4096x4x128 (extractStridedSlice S4x4096x512 ![0, 0, 2560] x slices_S4x4096x3072_S4x4096x512_0_0_2560) shapeCasts_S4x4096x512_S4x4096x4x128) shapeCasts_S4x4096x4x128_S4x32x128x4x128) transposes_S4x32x128x4x128_S32x4x128x4x128_1_0_2_3_4

def E4 (x : FVec Ideal S4x4096x3072 .f32) (d : FVec Ideal S32 .f32) : FVec Ideal S32x4x128x4x8x64 .f32 :=
  transpose S32x4x128x4x8x64 [1, 0, 2, 3, 4, 5] (shapeCast S4x32x128x4x8x64 (mulf (broadcastInDim S4x4096x4x8x64 ![0, 1, 2, 3, 4] bcast_S1x1x4x8x1_S4x4096x4x8x64_0_1_2_3_4
    (broadcastInDim S1x1x4x8x1 ![2, 3, 4] bcast_S4x8x1_S1x1x4x8x1_2_3_4 (broadcastInDim S4x8x1 ![0, 1] bcast_S4x8_S4x8x1_0_1 (shapeCast S4x8 d shapeCasts_S32_S4x8)))) (XS x)) shapeCasts_S4x4096x4x8x64_S4x32x128x4x8x64) transposes_S4x32x128x4x8x64_S32x4x128x4x8x64_1_0_2_3_4_5

def E5 : IVec S1x128x128x1x1 1 :=
  broadcastInDim S1x128x128x1x1 ![1, 2] bcast_S128x128_S1x128x128x1x1_1_2 (select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1)))

variable (m : (ℓ : Loc nD τ sig) → Buf (Elt Ideal) ℓ) (c : Dev nD)

theorem entry0 : entryContents preI m c (Proc.devRef .tc main_v40_0) = E0 (m ((c.tc : Thread nD τ).loc main_arg0)) (m ((c.tc : Thread nD τ).loc main_arg1)) (m ((c.tc : Thread nD τ).loc main_arg2)) := by
  simp only [entryContents, afterL_cons, afterL_nil]
  after_results_entrywise []

theorem entry1 : entryContents preI m c (Proc.devRef .tc main_v40_1) = E1 (m ((c.tc : Thread nD τ).loc main_arg1)) (m ((c.tc : Thread nD τ).loc main_arg2)) (m ((c.tc : Thread nD τ).loc main_arg3)) := by
  simp only [entryContents, afterL_cons, afterL_nil]
  after_results_entrywise []

theorem entry2 : entryContents preI m c (Proc.devRef .tc main_v40_2) = E2 (m ((c.tc : Thread nD τ).loc main_arg0)) := by
  simp only [entryContents, afterL_cons, afterL_nil]
  after_results_entrywise []

theorem entry3 : entryContents preI m c (Proc.devRef .tc main_v40_3) = E3 (m ((c.tc : Thread nD τ).loc main_arg0)) := by
  simp only [entryContents, afterL_cons, afterL_nil]
  after_results_entrywise []

theorem entry4 : entryContents preI m c (Proc.devRef .tc main_v40_4) = E4 (m ((c.tc : Thread nD τ).loc main_arg0)) (m ((c.tc : Thread nD τ).loc main_arg4)) := by
  simp only [entryContents, afterL_cons, afterL_nil]
  after_results_entrywise []

theorem entry5 : entryContents preI m c (Proc.devRef .tc main_v40_5) = E5  := by
  simp only [entryContents, afterL_cons, afterL_nil]
  after_results_entrywise []

theorem entry7 : entryContents preI m c (Proc.devRef .tc main_v40_7) = broadcastInDim S4x4x8x64x128 ![] bcast_S_S4x4x8x64x128 (constant (F := Ideal) S_ .f32 0x00000000#32) := by
  simp only [entryContents, afterL_cons, afterL_nil]
  after_results_entrywise []

/-- The mask holds where the later step is not before the earlier one. -/
theorem E5_at (l s : Fin 128) : E5 (ix5 0 l s 0 0) = BitVec.ofBool (decide (s.val ≤ l.val)) := by
  pointwise [E5]
  exact (by decide +kernel : ∀ l s : Fin 128, Scalar.select (IntOp.cmpi CmpIPredicate.sge (IntOp.addi (BitVec.ofNat 32 l.val) 0#32) (BitVec.ofNat 32 s.val)) 1#1 0#1
    = BitVec.ofBool (decide (s.val ≤ l.val))) l s

/-- The softplus at one step. -/
theorem SOFT_at (v : FVec Ideal S4x4096x32 .f32) (n : Fin 4) (r : Fin 4096) (j : Fin 32) :
    SOFT v (ix3 n r j) = softplus (v (ix3 n r j)) := by
  pointwise [SOFT, ZERO, softplus, ne_eq, not_true_eq_false, if_false, ite_false]

/-- The step of a head at one position. -/
theorem STEPS_at (dt : FVec Ideal S4x4096x32 .f32) (bias : FVec Ideal S32 .f32) (n : Fin 4) (r : Fin 4096) (g : Fin 4) (e : Fin 8) :
    STEPS dt bias (ix4 n r g e) = softplus (dt (ix3 n r ⟨g.val * 8 + e.val, by omega⟩) + bias (ix1 ⟨g.val * 8 + e.val, by omega⟩)) := by
  unfold STEPS
  have h : (shapeCast S4x4096x4x8 (SOFT (PRE dt bias)) shapeCasts_S4x4096x32_S4x4096x4x8 : FVec Ideal S4x4096x4x8 .f32) (ix4 n r g e)
      = SOFT (PRE dt bias) (ix3 n r ⟨g.val * 8 + e.val, by omega⟩) := by
    generalize SOFT (PRE dt bias) = S
    pointwise []
  rw [h, SOFT_at]
  pointwise [PRE]

theorem E0_at (x : FVec Ideal S4x4096x3072 .f32) (dt : FVec Ideal S4x4096x32 .f32) (bias : FVec Ideal S32 .f32)
    (k : Fin 32) (n : Fin 4) (l : Fin 128) (g : Fin 4) (e : Fin 8) (p : Fin 64) :
    E0 x dt bias (ix6 k n l g e p) = x (ix3 n ⟨k.val * 128 + l.val, by omega⟩ ⟨g.val * 512 + e.val * 64 + p.val, by omega⟩)
      * softplus (dt (ix3 n ⟨k.val * 128 + l.val, by omega⟩ ⟨g.val * 8 + e.val, by omega⟩) + bias (ix1 ⟨g.val * 8 + e.val, by omega⟩)) := by
  rw [← STEPS_at]
  unfold E0 XS
  generalize STEPS dt bias = S
  pointwise []

theorem E1_at (dt : FVec Ideal S4x4096x32 .f32) (bias alog : FVec Ideal S32 .f32)
    (k : Fin 32) (n : Fin 4) (l : Fin 128) (g : Fin 4) (e : Fin 8) :
    E1 dt bias alog (ix5 k n l g e) = softplus (dt (ix3 n ⟨k.val * 128 + l.val, by omega⟩ ⟨g.val * 8 + e.val, by omega⟩) + bias (ix1 ⟨g.val * 8 + e.val, by omega⟩))
      * -Ideal.exp (alog (ix1 ⟨g.val * 8 + e.val, by omega⟩)) := by
  rw [← STEPS_at]
  unfold E1
  generalize STEPS dt bias = S
  pointwise []

theorem E2_at (x : FVec Ideal S4x4096x3072 .f32) (k : Fin 32) (n : Fin 4) (l : Fin 128) (g : Fin 4) (q : Fin 128) :
    E2 x (ix5 k n l g q) = x (ix3 n ⟨k.val * 128 + l.val, by omega⟩ ⟨2048 + (g.val * 128 + q.val), by omega⟩) := by
  pointwise [E2]

theorem E3_at (x : FVec Ideal S4x4096x3072 .f32) (k : Fin 32) (n : Fin 4) (l : Fin 128) (g : Fin 4) (q : Fin 128) :
    E3 x (ix5 k n l g q) = x (ix3 n ⟨k.val * 128 + l.val, by omega⟩ ⟨2560 + (g.val * 128 + q.val), by omega⟩) := by
  pointwise [E3]

theorem E4_at (x : FVec Ideal S4x4096x3072 .f32) (d : FVec Ideal S32 .f32) (k : Fin 32) (n : Fin 4) (l : Fin 128) (g : Fin 4) (e : Fin 8) (p : Fin 64) :
    E4 x d (ix6 k n l g e p) = d (ix1 ⟨g.val * 8 + e.val, by omega⟩) * x (ix3 n ⟨k.val * 128 + l.val, by omega⟩ ⟨g.val * 512 + e.val * 64 + p.val, by omega⟩) := by
  pointwise [E4, XS]

end Cert.SsdRefIdeal.Entry

end
-- ==== Proof.SsdRefValue.lean ====
/-
  The reference's two result arrays: the rows and the last states of the layer, by induction on the trips of the scan.
-/
module

public import proofs.«01_k».proof.Proof.SsdSpec
public import proofs.«01_k».proof.Proof.SsdRefStep
public import proofs.«01_k».proof.Proof.SsdRefEntry

@[expose] public section

set_option maxRecDepth 16384

noncomputable section

open Idealize.ShloMosaic Idealize.ShloMosaic.TcCoe Idealize.ShloMosaic.Pipeline Idealize.ShloMosaic.StableHlo

namespace Cert.SsdRefIdeal.Layer

open Cert.SsdRefIdeal Cert.SsdRefIdeal.Gen Cert.SsdRefIdeal.Value Cert.SsdRefIdeal.Step Cert.SsdRefIdeal.Entry Cert.SsdChunk

/-- The layer's arguments from the argument arrays. -/
def argsOf (x : FVec Ideal S4x4096x3072 .f32) (dt : FVec Ideal S4x4096x32 .f32) (bias alog d : FVec Ideal S32 .f32) : Args where
  x n r j := x (ix3 n r j)
  dt n r h := dt (ix3 n r h)
  bias h := bias (ix1 h)
  alog h := alog (ix1 h)
  skip h := d (ix1 h)

/-- The rows, as an array. -/
def ROWSOF (A : Args) : FVec Ideal S4x4096x2048 .bf16 := fun i =>
  A.row (i 0) ⟨(i 1).val / 128, by have h : (i 1).val < 4096 := (i 1).isLt; omega⟩ ⟨(i 2).val / 512, by have h : (i 2).val < 2048 := (i 2).isLt; omega⟩
    ⟨(i 2).val % 512 / 64, by omega⟩ ⟨(i 2).val % 64, by omega⟩ ⟨(i 1).val % 128, by omega⟩

/-- The last states, as an array. -/
def STATEOF (A : Args) : FVec Ideal S4x32x64x128 .f32 := fun i =>
  A.state (i 0) ⟨(i 1).val / 8, by have h : (i 1).val < 32 := (i 1).isLt; omega⟩ ⟨(i 1).val % 8, by omega⟩ (i 2) (i 3) 32

variable (m : (ℓ : Loc nD τ sig) → Buf (Elt Ideal) ℓ) (c : Dev nD)

/-- The contents before trip `k`. -/
abbrev before (k : Nat) : Valuation τ sig (Elt Ideal) := STEP^[k] (entryContents preI m c)

/-- The launch's arguments. -/
abbrev args : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

theorem before_succ (k : Nat) : before m c (k + 1) = STEP (before m c k) := Function.iterate_succ_apply' _ _ _

theorem before0 : ∀ k, before m c k (Proc.devRef .tc main_v40_0) = entryContents preI m c (Proc.devRef .tc main_v40_0)
  | 0 => rfl
  | k + 1 => by rw [before_succ, STEP_main_v40_0, before0 k]

theorem before1 : ∀ k, before m c k (Proc.devRef .tc main_v40_1) = entryContents preI m c (Proc.devRef .tc main_v40_1)
  | 0 => rfl
  | k + 1 => by rw [before_succ, STEP_main_v40_1, before1 k]

theorem before2 : ∀ k, before m c k (Proc.devRef .tc main_v40_2) = entryContents preI m c (Proc.devRef .tc main_v40_2)
  | 0 => rfl
  | k + 1 => by rw [before_succ, STEP_main_v40_2, before2 k]

theorem before3 : ∀ k, before m c k (Proc.devRef .tc main_v40_3) = entryContents preI m c (Proc.devRef .tc main_v40_3)
  | 0 => rfl
  | k + 1 => by rw [before_succ, STEP_main_v40_3, before3 k]

theorem before4 : ∀ k, before m c k (Proc.devRef .tc main_v40_4) = entryContents preI m c (Proc.devRef .tc main_v40_4)
  | 0 => rfl
  | k + 1 => by rw [before_succ, STEP_main_v40_4, before4 k]

theorem before5 : ∀ k, before m c k (Proc.devRef .tc main_v40_5) = entryContents preI m c (Proc.devRef .tc main_v40_5)
  | 0 => rfl
  | k + 1 => by rw [before_succ, STEP_main_v40_5, before5 k]

/-- The counter before trip `k`. -/
theorem before6 (k : Nat) : before m c k (Proc.devRef .tc main_v40_6) = fun _ => BitVec.ofNat 32 k := by
  refine (atK_agree m c k main_v40_6 (by decide)).symm.trans ((atK_ctr m c k).trans ?_)
  funext _
  simp [Scf.iv]

/-- The mask before every trip. -/
theorem mask (k : Nat) (l s : Fin 128) : before m c k (Proc.devRef .tc main_v40_5) (ix5 0 l s 0 0) = BitVec.ofBool (decide (s.val ≤ l.val)) := by
  rw [before5, entry5]
  exact E5_at l s

theorem decays (k : Fin 32) (n g : Fin 4) (e : Fin 8) :
    (fun s => before m c k.val (Proc.devRef .tc main_v40_1) (ix5 k n s g e)) = (args m c).decay n k g e := by
  funext s
  rw [before1, entry1]
  exact E1_at _ _ _ k n s g e

theorem inputs (k : Fin 32) (n g : Fin 4) (e : Fin 8) (p : Fin 64) :
    (fun s => before m c k.val (Proc.devRef .tc main_v40_0) (ix6 k n s g e p)) = (args m c).input n k g e p := by
  funext s
  rw [before0, entry0]
  exact E0_at _ _ _ k n s g e p

theorem inBs (k : Fin 32) (n g : Fin 4) :
    (fun s q => before m c k.val (Proc.devRef .tc main_v40_2) (ix5 k n s g q)) = (args m c).inB n k g := by
  funext s q
  rw [before2, entry2]
  exact E2_at _ k n s g q

theorem outCs (k : Fin 32) (n g : Fin 4) :
    (fun s q => before m c k.val (Proc.devRef .tc main_v40_3) (ix5 k n s g q)) = (args m c).outC n k g := by
  funext s q
  rw [before3, entry3]
  exact E3_at _ k n s g q

theorem skips (k : Fin 32) (n g : Fin 4) (e : Fin 8) (p : Fin 64) (l : Fin 128) :
    before m c k.val (Proc.devRef .tc main_v40_4) (ix6 k n l g e p) = (args m c).skipped n k g e p l := by
  rw [before4, entry4]
  exact E4_at _ _ k n l g e p

/-- The state before trip `k`. -/
theorem states (n g : Fin 4) (e : Fin 8) (p : Fin 64) (q : Fin 128) : ∀ k, k ≤ 32 →
    before m c k (Proc.devRef .tc main_v40_7) (ix5 n g e p q) = (args m c).state n g e p q k
  | 0, _ => by
    refine (congrFun (entry7 m c) (ix5 n g e p q)).trans ?_
    rw [Args.state]
    pointwise []
  | k + 1, h => by
    rw [before_succ, STEP_main_v40_7, (args m c).state_succ n g e p q ⟨k, by omega⟩, state_at (before m c k) ⟨k, by omega⟩ (before6 m c k),
      states n g e p q k (by omega)]
    have h1 := decays m c ⟨k, by omega⟩ n g e
    have h2 := inputs m c ⟨k, by omega⟩ n g e p
    have h3 := inBs m c ⟨k, by omega⟩ n g
    dsimp only at h1 h2 h3
    rw [h1, h2, show (fun s : Fin 128 => before m c k (Proc.devRef .tc main_v40_2) (ix5 (⟨k, by omega⟩ : Fin 32) n s g q))
      = fun s => (args m c).inB n ⟨k, by omega⟩ g s q from funext fun s => congrFun (congrFun h3 s) q]

/-- The stacked rows before trip `k`: those of the trips before it are the layer's. -/
theorem rows (k' : Fin 32) (n g : Fin 4) (e : Fin 8) (p : Fin 64) (l : Fin 128) : ∀ k, k ≤ 32 → k'.val < k →
    before m c k (Proc.devRef .tc main_v40_8) (ix6 k' n l g e p) = (args m c).row n k' g e p l
  | 0, _, h => absurd h (Nat.not_lt_zero _)
  | k + 1, h, hlt => by
    rw [before_succ, STEP_main_v40_8, rows_at (before m c k) ⟨k, by omega⟩ (before6 m c k) (mask m c k)]
    by_cases e' : k'.val = k
    · obtain rfl : k = k'.val := e'.symm
      rw [if_pos rfl]
      unfold Args.row
      have h1 := decays m c k' n g e
      have h2 := inputs m c k' n g e p
      have h3 := inBs m c k' n g
      have h4 := outCs m c k' n g
      have h5 := skips m c k' n g e p l
      have h6 : (fun q => before m c k'.val (Proc.devRef .tc main_v40_7) (ix5 n g e p q)) = fun q => (args m c).state n g e p q k'.val :=
        funext fun q => states m c n g e p q k'.val (by omega)
      exact (congr (congr (congr (congr (congr (congr (congrArg rowOut h1) h2) h3) h4) h5) h6) rfl)
    · rw [if_neg e']
      exact rows k' n g e p l k (by omega) (by omega)

/-- The first result holds the layer's rows. -/
theorem out0 : out_main_v44 (before m c 32) = ROWSOF (args m c) := by
  have h := fun k' n g e p l => rows m c k' n g e p l 32 (le_refl _) k'.isLt
  funext y
  idx_vars y
  unfold out_main_v44
  generalize before m c 32 (Proc.devRef .tc main_v40_8) = Z at h
  refine Eq.trans ?_ (h _ _ _ _ _ _)
  have ee : (y2.val / 64) % 8 = y2.val % 512 / 64 := by omega
  pointwise []
  congr 2
  exact Fin.ext ee

/-- The second result holds the last states. -/
theorem out1 : out_main_v45 (before m c 32) = STATEOF (args m c) := by
  have h := fun n g e p q => states m c n g e p q 32 (le_refl _)
  funext y
  idx_vars y
  unfold out_main_v45
  generalize before m c 32 (Proc.devRef .tc main_v40_7) = Z at h
  refine Eq.trans ?_ (h _ _ _ _ _)
  pointwise []

end Cert.SsdRefIdeal.Layer

end
-- ==== Proof.SsdEqual.lean ====
/-
  The kernel's and the reference's arguments are the same when their argument arrays are.
-/
module

public import proofs.«01_k».proof.Proof.SsdBlocks
public import proofs.«01_k».proof.Proof.SsdRefValue

@[expose] public section

set_option maxRecDepth 16384

noncomputable section

open Idealize.ShloMosaic Idealize.ShloMosaic.TcCoe

namespace Cert.SsdIdeal.Blocks

/-- Equal argument arrays give equal arguments of the layer. -/
theorem args_eq (m : (ℓ : Loc Cert.SsdIdeal.nD Cert.SsdIdeal.τ Cert.SsdIdeal.sig) → Buf (Elt Ideal) ℓ)
    (m' : (ℓ : Loc Cert.SsdRefIdeal.nD Cert.SsdRefIdeal.τ Cert.SsdRefIdeal.sig) → Buf (Elt Ideal) ℓ) (c : Dev Cert.SsdIdeal.nD)
    (h : m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)) :
    Cert.SsdRefIdeal.Layer.args m' c = args m c := by
  obtain ⟨h0, h1, h2, h3, h4⟩ := h
  unfold Cert.SsdRefIdeal.Layer.args
  rw [h0, h1, h2, h3, h4]
  rfl

end Cert.SsdIdeal.Blocks

end
-- ==== Proof.FfnMath.lean ====
/-
  The mathematics the feed-forward calls share, over the extended reals: one hidden unit of the gated layer,
  a block of 256 hidden units brought through the down projection, and the fact that the eleven blocks a row tile
  goes through add up to the whole contraction over the 2816 hidden units.
-/
module

public import Idealize.ShloMosaic.Lib.Pointwise

@[expose] public section

set_option maxRecDepth 16384

noncomputable section

open Idealize.ShloMosaic

namespace Cert.Ffn

/-- A row scaled to unit mean square and by the weights `g`. -/
def normed (x g : Fin 1024 → EReal) (k : Fin 1024) : EReal :=
  x k * Ideal.rsqrt (Ideal.div (∑ j, x j * x j) (Ideal.ofBits .f32 0x44800000#32) + Ideal.ofBits .f32 0x3727C5AC#32) * g k

/-- One hidden unit: `silu(x · g) * (x · u)` of a normalised row `x` and the unit's gate and up columns. -/
def hiddenUnit (x g u : Fin 1024 → EReal) : EReal :=
  (∑ k, x k * g k) * Ideal.logistic (∑ k, x k * g k) * ∑ k, x k * u k

/-- The feed-forward layer of a row `x` at one output column: the row plus half the gated layer of its normalised self. -/
def ffnAt (x g : Fin 1024 → EReal) (up : Fin 1024 → Fin 5632 → EReal) (down : Fin 2816 → Fin 1024 → EReal) (l : Fin 1024) : EReal :=
  x l + Ideal.ofBits .f32 0x3F000000#32 *
    ∑ f : Fin 2816, hiddenUnit (normed x g) (fun k => up k ⟨f.val, by omega⟩) (fun k => up k ⟨2816 + f.val, by omega⟩) * down f l

/-- A row with the mixer's projected output added: `x + o · w`. -/
def mixed {n : Nat} (x : Fin 1024 → EReal) (o : Fin n → EReal) (w : Fin n → Fin 1024 → EReal) (l : Fin 1024) : EReal :=
  x l + ∑ k, o k * w k l

/-- The state-space mixer's gated row: `y * silu(z)` scaled to unit mean square and by the weights `g`. -/
def gated (y z g : Fin 2048 → EReal) (k : Fin 2048) : EReal :=
  y k * (z k * Ideal.logistic (z k))
    * Ideal.rsqrt (Ideal.div (∑ j, y j * (z j * Ideal.logistic (z j)) * (y j * (z j * Ideal.logistic (z j))))
        (Ideal.ofBits .f32 0x45000000#32) + Ideal.ofBits .f32 0x3727C5AC#32) * g k

/-- The feed-forward layer of a row `x` whose gate and up columns, and whose left and right down columns, lie apart. -/
def ffnSplit (x g : Fin 1024 → EReal) (wg wu : Fin 1024 → Fin 2816 → EReal) (da db : Fin 2816 → Fin 512 → EReal) (l : Fin 1024) : EReal :=
  x l + Ideal.ofBits .f32 0x3F000000#32 * ∑ f : Fin 2816,
    hiddenUnit (normed x g) (fun k => wg k f) (fun k => wu k f)
      * (if h : l.val < 512 then da f ⟨l.val, h⟩ else db f ⟨l.val - 512, by omega⟩)

/-- Laid side by side again, they give the layer. -/
theorem ffnSplit_eq (x g : Fin 1024 → EReal) (wg wu : Fin 1024 → Fin 2816 → EReal) (da db : Fin 2816 → Fin 512 → EReal)
    (up : Fin 1024 → Fin 5632 → EReal) (down : Fin 2816 → Fin 1024 → EReal)
    (hg : ∀ k f, wg k f = up k ⟨f.val, by omega⟩) (hu : ∀ k f, wu k f = up k ⟨2816 + f.val, by omega⟩)
    (ha : ∀ f (l : Fin 512), da f l = down f ⟨l.val, by omega⟩) (hb : ∀ f (l : Fin 512), db f l = down f ⟨512 + l.val, by omega⟩)
    (l : Fin 1024) : ffnSplit x g wg wu da db l = ffnAt x g up down l := by
  unfold ffnSplit ffnAt
  simp only [hg, hu]
  refine congrArg (fun s => x l + Ideal.ofBits .f32 0x3F000000#32 * s) (Finset.sum_congr rfl fun f _ => congrArg _ ?_)
  by_cases h : l.val < 512
  · simp only [h, ↓reduceDIte, ha]
  · simp only [h, ↓reduceDIte, hb]
    exact congrArg (down f) (Fin.ext (by simp only; omega))

/-- A sum of eleven terms, written out. -/
theorem sum_eleven (F : Fin 11 → EReal) :
    ∑ j, F j = F 0 + F 1 + F 2 + F 3 + F 4 + F 5 + F 6 + F 7 + F 8 + F 9 + F 10 := by
  rw [Fin.sum_univ_castSucc, Fin.sum_univ_castSucc, Fin.sum_univ_castSucc, Fin.sum_univ_eight]
  rfl

/-- Eleven consecutive blocks of 256 summed one after another from zero are the whole sum over 2816. -/
theorem sum_blocks (f : Fin 2816 → EReal) :
    ∑ k, f k = (∑ t : Fin 256, f ⟨t.val, by omega⟩) + (∑ t : Fin 256, f ⟨256 + t.val, by omega⟩)
      + (∑ t : Fin 256, f ⟨512 + t.val, by omega⟩) + (∑ t : Fin 256, f ⟨768 + t.val, by omega⟩)
      + (∑ t : Fin 256, f ⟨1024 + t.val, by omega⟩) + (∑ t : Fin 256, f ⟨1280 + t.val, by omega⟩)
      + (∑ t : Fin 256, f ⟨1536 + t.val, by omega⟩) + (∑ t : Fin 256, f ⟨1792 + t.val, by omega⟩)
      + (∑ t : Fin 256, f ⟨2048 + t.val, by omega⟩) + (∑ t : Fin 256, f ⟨2304 + t.val, by omega⟩)
      + (∑ t : Fin 256, f ⟨2560 + t.val, by omega⟩) := by
  rw [Fin.sum_univ_tiles 11 256 rfl f, sum_eleven]
  simp only [Fin.isValue, Fin.val_zero, zero_mul, zero_add]
  rfl

end Cert.Ffn

end
-- ==== Proof.FfnAPure.lean ====
/-
  What one row tile of the feed-forward call holds after its body, element by element: the body goes through the
  2816 hidden units in eleven blocks of 256, and each payload adds one or two blocks to the running sum.
-/
module

public import proofs.«01_k».proof.Proof.FfnMath
public import proofs.«01_k».proof.Proof.Gen.FfnAIdeal.Value
public import Idealize.ShloMosaic.Lib.Pipeline.ValueKit

@[expose] public section

set_option maxRecDepth 16384

noncomputable section

open Idealize.ShloMosaic Idealize.ShloMosaic.TcCoe Idealize.SL.Sem

namespace Cert.FfnAIdeal.Pure

open Cert.FfnAIdeal Cert.FfnAIdeal.Gen Cert.Ffn

/-- A block of 256 hidden units of row `r`, brought to output column `l` by the left or right half of the down weights. -/
def block (x : FVec Ideal S512x1024 .bf16) (wg wu : FVec Ideal S1024x256 .bf16) (da db : FVec Ideal S256x512 .bf16)
    (r : Fin 512) (l : Fin 1024) : EReal :=
  if h : l.val < 512 then
    ∑ t : Fin 256, hiddenUnit (fun k => x (ix2 r k)) (fun k => wg (ix2 k t)) (fun k => wu (ix2 k t)) * da (ix2 t ⟨l.val, h⟩)
  else
    ∑ t : Fin 256, hiddenUnit (fun k => x (ix2 r k)) (fun k => wg (ix2 k t)) (fun k => wu (ix2 k t)) * db (ix2 t ⟨l.val - 512, by omega⟩)

/-- The normalised row, as the body keeps it. -/
theorem pay1_at (v0 : FVec Ideal S512x1024 .f32) (v1 : FVec Ideal S1x1024 .f32) (r : Fin 512) (k : Fin 1024) :
    k0_pay1 (F := Ideal) v0 v1 (ix2 r k) = normed (fun k => v0 (ix2 r k)) (fun k => v1 (ix2 0 k)) k := by
  pointwise [k0_pay1, normed]

/-- The first block. -/
theorem pay2_at (v0 : FVec Ideal S512x1024 .f32) (v1 : FVec Ideal S1x1024 .f32) (v17 : FVec Ideal S1024x256 .bf16) (v20 : FVec Ideal S1024x256 .bf16) (v27 : FVec Ideal S256x512 .bf16) (v30 : FVec Ideal S256x512 .bf16) (r : Fin 512) (l : Fin 1024) :
    k0_pay2 (F := Ideal) v0 v1 v17 v20 v27 v30 (ix2 r l) = block (k0_pay1 (F := Ideal) v0 v1) v17 v20 v27 v30 r l := by
  pointwise [k0_pay2, block, hiddenUnit]

/-- Two more blocks on top of the running sum. -/
theorem pay4_at (v15 : FVec Ideal S512x1024 .bf16) (v34 : FVec Ideal S512x1024 .f32) (v36 : FVec Ideal S1024x256 .bf16) (v38 : FVec Ideal S1024x256 .bf16) (v45 : FVec Ideal S256x512 .bf16) (v48 : FVec Ideal S256x512 .bf16) (v53 : FVec Ideal S1024x256 .bf16) (v56 : FVec Ideal S1024x256 .bf16) (v63 : FVec Ideal S256x512 .bf16) (v66 : FVec Ideal S256x512 .bf16) (r : Fin 512) (l : Fin 1024) :
    k0_pay4 (F := Ideal) v15 v34 v36 v38 v45 v48 v53 v56 v63 v66 (ix2 r l) =
      v34 (ix2 r l) + block v15 v36 v38 v45 v48 r l + block v15 v53 v56 v63 v66 r l := by
  pointwise [k0_pay4, block, hiddenUnit]

/-- Two more blocks on top of the running sum. -/
theorem pay6_at (v15 : FVec Ideal S512x1024 .bf16) (v70 : FVec Ideal S512x1024 .f32) (v72 : FVec Ideal S1024x256 .bf16) (v74 : FVec Ideal S1024x256 .bf16) (v81 : FVec Ideal S256x512 .bf16) (v84 : FVec Ideal S256x512 .bf16) (v89 : FVec Ideal S1024x256 .bf16) (v92 : FVec Ideal S1024x256 .bf16) (v99 : FVec Ideal S256x512 .bf16) (v102 : FVec Ideal S256x512 .bf16) (r : Fin 512) (l : Fin 1024) :
    k0_pay6 (F := Ideal) v15 v70 v72 v74 v81 v84 v89 v92 v99 v102 (ix2 r l) =
      v70 (ix2 r l) + block v15 v72 v74 v81 v84 r l + block v15 v89 v92 v99 v102 r l := by
  pointwise [k0_pay6, block, hiddenUnit]

/-- Two more blocks on top of the running sum. -/
theorem pay8_at (v15 : FVec Ideal S512x1024 .bf16) (v106 : FVec Ideal S512x1024 .f32) (v108 : FVec Ideal S1024x256 .bf16) (v110 : FVec Ideal S1024x256 .bf16) (v117 : FVec Ideal S256x512 .bf16) (v120 : FVec Ideal S256x512 .bf16) (v125 : FVec Ideal S1024x256 .bf16) (v128 : FVec Ideal S1024x256 .bf16) (v135 : FVec Ideal S256x512 .bf16) (v138 : FVec Ideal S256x512 .bf16) (r : Fin 512) (l : Fin 1024) :
    k0_pay8 (F := Ideal) v15 v106 v108 v110 v117 v120 v125 v128 v135 v138 (ix2 r l) =
      v106 (ix2 r l) + block v15 v108 v110 v117 v120 r l + block v15 v125 v128 v135 v138 r l := by
  pointwise [k0_pay8, block, hiddenUnit]

/-- Two more blocks on top of the running sum. -/
theorem pay10_at (v15 : FVec Ideal S512x1024 .bf16) (v142 : FVec Ideal S512x1024 .f32) (v144 : FVec Ideal S1024x256 .bf16) (v146 : FVec Ideal S1024x256 .bf16) (v153 : FVec Ideal S256x512 .bf16) (v156 : FVec Ideal S256x512 .bf16) (v161 : FVec Ideal S1024x256 .bf16) (v164 : FVec Ideal S1024x256 .bf16) (v171 : FVec Ideal S256x512 .bf16) (v174 : FVec Ideal S256x512 .bf16) (r : Fin 512) (l : Fin 1024) :
    k0_pay10 (F := Ideal) v15 v142 v144 v146 v153 v156 v161 v164 v171 v174 (ix2 r l) =
      v142 (ix2 r l) + block v15 v144 v146 v153 v156 r l + block v15 v161 v164 v171 v174 r l := by
  pointwise [k0_pay10, block, hiddenUnit]

/-- The last two blocks, the half, and the residual row. -/
theorem pay12_at (v0 : FVec Ideal S512x1024 .f32) (v15 : FVec Ideal S512x1024 .bf16) (v178 : FVec Ideal S512x1024 .f32) (v180 : FVec Ideal S1024x256 .bf16) (v182 : FVec Ideal S1024x256 .bf16) (v189 : FVec Ideal S256x512 .bf16) (v192 : FVec Ideal S256x512 .bf16) (v197 : FVec Ideal S1024x256 .bf16) (v200 : FVec Ideal S1024x256 .bf16) (v207 : FVec Ideal S256x512 .bf16) (v210 : FVec Ideal S256x512 .bf16) (r : Fin 512) (l : Fin 1024) :
    k0_pay12 (F := Ideal) v0 v15 v178 v180 v182 v189 v192 v197 v200 v207 v210 (ix2 r l) =
      v0 (ix2 r l) + Ideal.ofBits .f32 0x3F000000#32 *
        (v178 (ix2 r l) + block v15 v180 v182 v189 v192 r l + block v15 v197 v200 v207 v210 r l) := by
  pointwise [k0_pay12, block, hiddenUnit]

/-- The tile: every row at every column is the feed-forward layer of that row. -/
theorem out_at (x0 : FVec Ideal S512x1024 .f32) (x1 : FVec Ideal S1x1024 .f32) (x2 x3 : FVec Ideal S1024x2816 .bf16)
    (x4 x5 : FVec Ideal S2816x512 .bf16) (r : Fin 512) (l : Fin 1024) :
    out0_6 (F := Ideal) x0 x1 x2 x3 x4 x5 (ix2 r l) =
      x0 (ix2 r l) + Ideal.ofBits .f32 0x3F000000#32 * ∑ f : Fin 2816,
        hiddenUnit (normed (fun k => x0 (ix2 r k)) (fun k => x1 (ix2 0 k))) (fun k => x2 (ix2 k f)) (fun k => x3 (ix2 k f))
          * (if h : l.val < 512 then x4 (ix2 f ⟨l.val, h⟩) else x5 (ix2 f ⟨l.val - 512, by omega⟩)) := by
  frame_out
  rw [sum_blocks, pay12_at, pay10_at, pay8_at, pay6_at, pay4_at, pay2_at]
  have hx : k0_pay13 (F := Ideal) x0 x1 x2 x3 x4 x5 = k0_pay1 (F := Ideal) x0 x1 := by unfold k0_pay13; frame_out
  have hn : (fun k => k0_pay1 (F := Ideal) x0 x1 (ix2 r k)) = normed (fun k => x0 (ix2 r k)) (fun k => x1 (ix2 0 k)) :=
    funext (pay1_at x0 x1 r)
  rw [hx]
  by_cases h : l.val < 512 <;>
  · simp only [block, h, ↓reduceDIte, hn]
    pointwise [k0_pay3, k0_pay5, k0_pay7, k0_pay9, k0_pay11]

end Cert.FfnAIdeal.Pure

end
-- ==== Proof.FfnAValue.lean ====
/-
  The feed-forward call's result array is the layer's own term of its arguments, as the plain reference computes it.
-/
module

public import proofs.«01_k».proof.Proof.FfnAPure
public import proofs.«01_k».proof.Proof.Gen.FfnARefIdeal.Run

@[expose] public section

set_option maxRecDepth 16384

noncomputable section

open Idealize.ShloMosaic Idealize.ShloMosaic.TcCoe Idealize.SL.Sem
open Idealize.ShloMosaic.Pipeline (Dat)

namespace Cert.FfnARefIdeal.Layer

open Cert.FfnARefIdeal Cert.FfnARefIdeal.Gen Cert.Ffn

/-- What the reference computes of the rows `h`, the norm weights `g`, and the up and down weights. -/
def REF (h : FVec Ideal S16384x1024 .f32) (g : FVec Ideal S1024 .f32) (wu : FVec Ideal S1024x5632 .f32)
    (wd : FVec Ideal S2816x1024 .f32) : FVec Ideal S16384x1024 .f32 :=
  addf h (mulf (broadcastInDim S16384x1024 ![] bcast_S_S16384x1024 (constant S_ .f32 0x3F000000#32)) (Host.dotGeneral dot_S16384x2816_S2816x1024_S16384x1024_1_0_0_1_n_n none (mulf (mulf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0)))))) (extractStridedSlice S16384x2816 ![0, 2816] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_2816)) wd))

/-- The reference, row by row. -/
theorem REF_at (h : FVec Ideal S16384x1024 .f32) (g : FVec Ideal S1024 .f32) (wu : FVec Ideal S1024x5632 .f32)
    (wd : FVec Ideal S2816x1024 .f32) (r : Fin 16384) (l : Fin 1024) :
    REF h g wu wd (ix2 r l) = ffnAt (fun k => h (ix2 r k)) (fun k => g (ix1 k)) (fun k f => wu (ix2 k f))
      (fun f l => wd (ix2 f l)) l := by
  pointwise [REF, ffnAt, normed, hiddenUnit, Ideal.logistic]

end Cert.FfnARefIdeal.Layer

namespace Cert.FfnAIdeal.Layer

open Cert.FfnAIdeal Cert.FfnAIdeal.Gen Cert.FfnAIdeal.Pure Cert.Ffn
open Cert.FfnARefIdeal.Layer (REF REF_at)

variable (m : (ℓ : Loc nD τ sig) → Buf (Elt Ideal) ℓ)

/-- Where each window's block lies at grid point `t`: the rows' tiles move, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- At grid point `t` the tile's row `r` is the layer of the array's row. -/
theorem point (c : Dev nD) (t : Fin cfg0.N) (r : Fin 512) (l : Fin 1024) (q : Fin 16384) (hq : q.val = t.val * 512 + r.val) :
    out0_6 (F := Ideal) (iblk m c 0 t) (iblk m c 1 t) (iblk m c 2 t) (iblk m c 3 t) (iblk m c 4 t) (iblk m c 5 t) (ix2 r l)
      = REF (m ((c : Thread nD τ).loc main_arg0)) (m ((c : Thread nD τ).loc main_arg1))
          (m ((c : Thread nD τ).loc main_arg2)) (m ((c : Thread nD τ).loc main_arg3)) (ix2 q l) := by
  rw [REF_at]
  refine (out_at _ _ _ _ _ _ r l).trans ?_
  unfold ffnAt normed hiddenUnit
  by_cases h : l.val < 512
  · simp only [h, ↓reduceDIte]
    blk_point [iblk, V, idx t]
  · simp only [h, ↓reduceDIte]
    blk_point [iblk, V, idx t]

/-- The result array. -/
theorem final (c : Dev nD) : (dats m 0 c).arrAt 6 (cfgs 0).N =
    REF (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ y => ?_
  blk_simp
  rw [after0_6]
  idx_vars y
  have ht : t.val < 32 := t.isLt
  have he : ((View.whole main_v7).slice (win0_6.rect t)).emb (ix2 y0 y1)
      = (ix2 (⟨t.val * 512 + y0.val, by omega⟩ : Fin 16384) y1 : S16384x1024.Idx) := by
    blk_ext [idx t]
  rw [he]
  exact point m c t y0 y1 _ rfl

end Cert.FfnAIdeal.Layer

end
-- ==== Proof.FfnZPure.lean ====
/-
  What one row tile of the last feed-forward call, which adds the projected attention output first and ends with the final normalisation holds after its body, element by element.
-/
module

public import proofs.«01_k».proof.Proof.FfnMath
public import proofs.«01_k».proof.Proof.Gen.FfnZIdeal.Value
public import Idealize.ShloMosaic.Lib.Pipeline.ValueKit

@[expose] public section

set_option maxRecDepth 16384

noncomputable section

open Idealize.ShloMosaic Idealize.ShloMosaic.TcCoe Idealize.SL.Sem

namespace Cert.FfnZIdeal.Pure

open Cert.FfnZIdeal Cert.FfnZIdeal.Gen Cert.Ffn

/-- A block of 256 hidden units of row `r`, brought to output column `l` by the left or right half of the down weights. -/
def block (x : FVec Ideal S512x1024 .bf16) (wg wu : FVec Ideal S1024x256 .bf16) (da db : FVec Ideal S256x512 .bf16)
    (r : Fin 512) (l : Fin 1024) : EReal :=
  if h : l.val < 512 then
    ∑ t : Fin 256, hiddenUnit (fun k => x (ix2 r k)) (fun k => wg (ix2 k t)) (fun k => wu (ix2 k t)) * da (ix2 t ⟨l.val, h⟩)
  else
    ∑ t : Fin 256, hiddenUnit (fun k => x (ix2 r k)) (fun k => wg (ix2 k t)) (fun k => wu (ix2 k t)) * db (ix2 t ⟨l.val - 512, by omega⟩)

/-- The row after the mixer's projected output is added. -/
theorem pay2_at (v0 : FVec Ideal S512x1024 .f32) (v1 : FVec Ideal S512x1024 .bf16) (v3 : FVec Ideal S1024x1024 .bf16) (r : Fin 512) (l : Fin 1024) :
    k0_pay2 (F := Ideal) v0 v1 v3 (ix2 r l) = (mixed (fun k => v0 (ix2 r k)) (fun k => v1 (ix2 r k)) (fun k l => v3 (ix2 k l))) l := by
  pointwise [k0_pay2, mixed]

/-- That row normalised, as the body keeps it. -/
theorem pay3_at (v0 : FVec Ideal S512x1024 .f32) (v1 : FVec Ideal S512x1024 .bf16) (v3 : FVec Ideal S1024x1024 .bf16) (v7 : FVec Ideal S1x1024 .f32) (r : Fin 512) (l : Fin 1024) :
    k0_pay3 (F := Ideal) v0 v1 v3 v7 (ix2 r l) = normed (mixed (fun k => v0 (ix2 r k)) (fun k => v1 (ix2 r k)) (fun k l => v3 (ix2 k l))) (fun k => v7 (ix2 0 k)) l := by
  have h : k0_pay3 (F := Ideal) v0 v1 v3 v7 (ix2 r l) = normed (fun l => k0_pay2 (F := Ideal) v0 v1 v3 (ix2 r l)) (fun k => v7 (ix2 0 k)) l := by
    pointwise [k0_pay3, normed]
  rw [h]
  simp only [pay2_at]

/-- The first two blocks. -/
theorem pay7_at (v0 : FVec Ideal S512x1024 .f32) (v1 : FVec Ideal S512x1024 .bf16) (v3 : FVec Ideal S1024x1024 .bf16) (v7 : FVec Ideal S1x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16) (r : Fin 512) (l : Fin 1024) :
    k0_pay7 (F := Ideal) (k0_pay3 v0 v1 v3 v7) (k0_pay4 (F := Ideal)) (k0_pay5 v0 v1 v3 v7 a b) (k0_pay6 v0 v1 v3 v7 a b c) d a' b' c' d' (ix2 r l) =
      block (k0_pay3 v0 v1 v3 v7) a b c d r l + block (k0_pay3 v0 v1 v3 v7) a' b' c' d' r l := by
  pointwise [k0_pay7, k0_pay4, k0_pay5, k0_pay6, block, hiddenUnit]

/-- Two more blocks on top of the running sum. -/
theorem pay10_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay10 (F := Ideal) x s (k0_pay8 x a b) (k0_pay9 x a b c) d a' b' c' d' (ix2 r l) =
      s (ix2 r l) + block x a b c d r l + block x a' b' c' d' r l := by
  pointwise [k0_pay10, k0_pay8, k0_pay9, block, hiddenUnit]

/-- Two more blocks on top of the running sum. -/
theorem pay13_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay13 (F := Ideal) x s (k0_pay11 x a b) (k0_pay12 x a b c) d a' b' c' d' (ix2 r l) =
      s (ix2 r l) + block x a b c d r l + block x a' b' c' d' r l := by
  pointwise [k0_pay13, k0_pay11, k0_pay12, block, hiddenUnit]

/-- Two more blocks on top of the running sum. -/
theorem pay16_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay16 (F := Ideal) x s (k0_pay14 x a b) (k0_pay15 x a b c) d a' b' c' d' (ix2 r l) =
      s (ix2 r l) + block x a b c d r l + block x a' b' c' d' r l := by
  pointwise [k0_pay16, k0_pay14, k0_pay15, block, hiddenUnit]

/-- Two more blocks on top of the running sum. -/
theorem pay19_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay19 (F := Ideal) x s (k0_pay17 x a b) (k0_pay18 x a b c) d a' b' c' d' (ix2 r l) =
      s (ix2 r l) + block x a b c d r l + block x a' b' c' d' r l := by
  pointwise [k0_pay19, k0_pay17, k0_pay18, block, hiddenUnit]

/-- The last block, the half, the residual row, and the final normalisation. -/
theorem pay1_at (y s : FVec Ideal S512x1024 .f32) (x : FVec Ideal S512x1024 .bf16) (a : FVec Ideal S1024x256 .bf16) (b : FVec Ideal S1024x256 .bf16) (c : FVec Ideal S256x512 .bf16) (d : FVec Ideal S256x512 .bf16) (gf : FVec Ideal S1x1024 .f32)
    (r : Fin 512) (l : Fin 1024) :
    k0_pay1 (F := Ideal) y s (k0_pay20 x a b) (k0_pay21 x a b c) d gf (ix2 r l) =
      normed (fun l => y (ix2 r l) + Ideal.ofBits .f32 0x3F000000#32 * (s (ix2 r l) + block x a b c d r l))
        (fun k => gf (ix2 0 k)) l := by
  pointwise [k0_pay1, k0_pay20, k0_pay21, block, hiddenUnit, normed]

/-- The tile: every row at every column is the layer of that row. -/
theorem out_at (x0 : FVec Ideal S512x1024 .f32) (x1 : FVec Ideal S1x1024 .f32) (x2 : FVec Ideal S1024x2816 .bf16) (x3 : FVec Ideal S1024x2816 .bf16) (x4 : FVec Ideal S2816x512 .bf16) (x5 : FVec Ideal S2816x512 .bf16) (x6 : FVec Ideal S512x1024 .bf16) (x7 : FVec Ideal S1024x1024 .bf16) (x8 : FVec Ideal S1x1024 .f32) (r : Fin 512) (l : Fin 1024) :
    out0_9 (F := Ideal) x0 x1 x2 x3 x4 x5 x6 x7 x8 (ix2 r l) =
      normed (ffnSplit (mixed (fun k => x0 (ix2 r k)) (fun k => x6 (ix2 r k)) (fun k l => x7 (ix2 k l))) (fun k => x1 (ix2 0 k)) (fun k f => x2 (ix2 k f)) (fun k f => x3 (ix2 k f)) (fun f l => x4 (ix2 f l)) (fun f l => x5 (ix2 f l))) (fun k => x8 (ix2 0 k)) l := by
  frame_out
  have hx : k0_pay22 (F := Ideal) x0 x1 x2 x3 x4 x5 x6 x7 x8 = k0_pay3 (F := Ideal) x0 x6 x7 x1 := by unfold k0_pay22; frame_out
  have hn : (fun k => k0_pay3 (F := Ideal) x0 x6 x7 x1 (ix2 r k)) = normed (mixed (fun k => x0 (ix2 r k)) (fun k => x6 (ix2 r k)) (fun k l => x7 (ix2 k l))) (fun k => x1 (ix2 0 k)) :=
    funext (pay3_at x0 x6 x7 x1 r)
  rw [hx, pay1_at]
  refine congrArg (fun x => normed x (fun k => x8 (ix2 0 k)) l) (funext fun l => ?_)
  rw [pay19_at, pay16_at, pay13_at, pay10_at, pay7_at, pay2_at]
  unfold ffnSplit
  rw [sum_blocks]
  by_cases h : l.val < 512 <;>
  · simp only [block, h, ↓reduceDIte, hn]
    pointwise []

end Cert.FfnZIdeal.Pure

end
-- ==== Proof.FfnZValue.lean ====
/-
  The result array of the last feed-forward call, which adds the projected attention output first and ends with the final normalisation
  is the layer's own term of its arguments, as the plain reference computes it.
-/
module

public import proofs.«01_k».proof.Proof.FfnZPure
public import proofs.«01_k».proof.Proof.Gen.FfnZRefIdeal.Run

@[expose] public section

set_option maxRecDepth 16384

noncomputable section

open Idealize.ShloMosaic Idealize.ShloMosaic.TcCoe Idealize.SL.Sem
open Idealize.ShloMosaic.Pipeline (Dat)

namespace Cert.FfnZRefIdeal.Layer

open Cert.FfnZRefIdeal Cert.FfnZRefIdeal.Gen Cert.Ffn

/-- The rows with the mixer's projected output added, as the reference computes them. -/
def MIX (h o : FVec Ideal S16384x1024 .f32) (w : FVec Ideal S1024x1024 .f32) : FVec Ideal S16384x1024 .f32 :=
  addf h (Host.dotGeneral dot_S16384x1024_S1024x1024_S16384x1024_1_0_0_1_n_n none o w)

theorem MIX_at (h o : FVec Ideal S16384x1024 .f32) (w : FVec Ideal S1024x1024 .f32) (r : Fin 16384) (l : Fin 1024) :
    MIX h o w (ix2 r l) = mixed (fun k => h (ix2 r k)) (fun k => o (ix2 r k)) (fun k l => w (ix2 k l)) l := by
  pointwise [MIX, mixed]

/-- The feed-forward layer of the rows `h`, as the reference computes it. -/
def LAYER (h : FVec Ideal S16384x1024 .f32) (g : FVec Ideal S1024 .f32) (wu : FVec Ideal S1024x5632 .f32)
    (wd : FVec Ideal S2816x1024 .f32) : FVec Ideal S16384x1024 .f32 :=
  addf h (mulf (broadcastInDim S16384x1024 ![] bcast_S_S16384x1024 (constant S_ .f32 0x3F000000#32)) (Host.dotGeneral dot_S16384x2816_S2816x1024_S16384x1024_1_0_0_1_n_n none (mulf (mulf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0)))))) (extractStridedSlice S16384x2816 ![0, 2816] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_2816)) wd))

theorem LAYER_at (h : FVec Ideal S16384x1024 .f32) (g : FVec Ideal S1024 .f32) (wu : FVec Ideal S1024x5632 .f32)
    (wd : FVec Ideal S2816x1024 .f32) (r : Fin 16384) (l : Fin 1024) :
    LAYER h g wu wd (ix2 r l) = ffnAt (fun k => h (ix2 r k)) (fun k => g (ix1 k)) (fun k f => wu (ix2 k f))
      (fun f l => wd (ix2 f l)) l := by
  pointwise [LAYER, ffnAt, normed, hiddenUnit, Ideal.logistic]

/-- The row normalisation, as the reference computes it. -/
def NORM (h : FVec Ideal S16384x1024 .f32) (g : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

theorem NORM_at (h : FVec Ideal S16384x1024 .f32) (g : FVec Ideal S1024 .f32) (r : Fin 16384) (l : Fin 1024) :
    NORM h g (ix2 r l) = normed (fun k => h (ix2 r k)) (fun k => g (ix1 k)) l := by
  pointwise [NORM, normed]

/-- What the reference computes of its arguments. -/
def REF (h : FVec Ideal S16384x1024 .f32) (g : FVec Ideal S1024 .f32) (wu : FVec Ideal S1024x5632 .f32) (wd : FVec Ideal S2816x1024 .f32) (o : FVec Ideal S16384x1024 .f32) (w : FVec Ideal S1024x1024 .f32) (gf : FVec Ideal S1024 .f32) : FVec Ideal S16384x1024 .f32 :=
  NORM (LAYER (MIX h o w) g wu wd) gf

theorem REF_at (h : FVec Ideal S16384x1024 .f32) (g : FVec Ideal S1024 .f32) (wu : FVec Ideal S1024x5632 .f32) (wd : FVec Ideal S2816x1024 .f32) (o : FVec Ideal S16384x1024 .f32) (w : FVec Ideal S1024x1024 .f32) (gf : FVec Ideal S1024 .f32) (r : Fin 16384) (l : Fin 1024) :
    REF h g wu wd o w gf (ix2 r l) = normed (ffnAt (mixed (fun k => h (ix2 r k)) (fun k => o (ix2 r k)) (fun k l => w (ix2 k l))) (fun k => g (ix1 k)) (fun k f => wu (ix2 k f)) (fun f l => wd (ix2 f l))) (fun k => gf (ix1 k)) l := by
  simp only [REF, NORM_at, LAYER_at, MIX_at]

/-- The reference's result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.FfnZRefIdeal.Layer

namespace Cert.FfnZIdeal.Layer

open Cert.FfnZIdeal Cert.FfnZIdeal.Gen Cert.FfnZIdeal.Pure Cert.Ffn
open Cert.FfnZRefIdeal.Layer (REF REF_at)

variable (m : (ℓ : Loc nD τ sig) → Buf (Elt Ideal) ℓ)

/-- Where each window's block lies at grid point `t`: the rows' tiles move, the weights stay. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![0, 0]
    ∧ win0_9.index t = ![t.val, 0] :=
  (by decide +kernel : ∀ t : Fin grid0.N, _)

/-- At grid point `t` the tile's row `r` is the layer of the array's row. -/
theorem point (c : Dev nD) (t : Fin cfg0.N) (r : Fin 512) (l : Fin 1024) (q : Fin 16384) (hq : q.val = t.val * 512 + r.val) :
    out0_9 (F := Ideal) (iblk m c 0 t) (iblk m c 1 t) (iblk m c 2 t) (iblk m c 3 t) (iblk m c 4 t) (iblk m c 5 t) (iblk m c 6 t) (iblk m c 7 t) (iblk m c 8 t) (ix2 r l)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 q l) := by
  rw [REF_at]
  refine (out_at _ _ _ _ _ _ _ _ _ r l).trans ?_
  refine (congrArg (fun x => normed x _ l) (funext (ffnSplit_eq _ _ _ _ _ _ (fun k f => m ((c : Thread nD τ).loc main_arg2) (ix2 k f)) (fun f l => m ((c : Thread nD τ).loc main_arg3) (ix2 f l))
    (fun k f => by blk_point [iblk, V, idx t]) (fun k f => by blk_point [iblk, V, idx t])
    (fun f l => by blk_point [iblk, V, idx t]) (fun f l => by blk_point [iblk, V, idx t])))).trans ?_
  have hx : (fun k : Fin 1024 => iblk m c 0 t (ix2 r k)) = fun k => m ((c : Thread nD τ).loc main_arg0) (ix2 q k) := funext fun k => by blk_point [iblk, V, idx t]
  have hg : (fun k : Fin 1024 => iblk m c 1 t (ix2 (0 : Fin 1) k)) = fun k => m ((c : Thread nD τ).loc main_arg1) (ix1 k) := funext fun k => by blk_point [iblk, V, idx t]
  have ho : (fun k : Fin 1024 => iblk m c 6 t (ix2 r k)) = fun k => m ((c : Thread nD τ).loc main_arg4) (ix2 q k) := funext fun k => by blk_point [iblk, V, idx t]
  have hf : (fun k : Fin 1024 => iblk m c 8 t (ix2 (0 : Fin 1) k)) = fun k => m ((c : Thread nD τ).loc main_arg6) (ix1 k) := funext fun k => by blk_point [iblk, V, idx t]
  have hw : (fun (k : Fin 1024) (l : Fin 1024) => iblk m c 7 t (ix2 k l)) = fun k l => m ((c : Thread nD τ).loc main_arg5) (ix2 k l) := funext fun k => funext fun l => by blk_point [iblk, V, idx t]
  rw [hx, hg, ho, hf, hw]

/-- The result array. -/
theorem final (c : Dev nD) : (dats m 0 c).arrAt 9 (cfgs 0).N =
    REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  idx_vars y
  have ht : t.val < 32 := t.isLt
  have he : ((View.whole main_v10).slice (win0_9.rect t)).emb (ix2 y0 y1)
      = (ix2 (⟨t.val * 512 + y0.val, by omega⟩ : Fin 16384) y1 : S16384x1024.Idx) := by
    blk_ext [idx t]
  rw [he]
  exact point m c t y0 y1 _ rfl

end Cert.FfnZIdeal.Layer

end
-- ==== Proof.FfnMPure.lean ====
/-
  What one row tile of the feed-forward call that first adds the projected attention output holds after its body, element by element.
-/
module

public import proofs.«01_k».proof.Proof.FfnMath
public import proofs.«01_k».proof.Proof.Gen.FfnMIdeal.Value
public import Idealize.ShloMosaic.Lib.Pipeline.ValueKit

@[expose] public section

set_option maxRecDepth 16384

noncomputable section

open Idealize.ShloMosaic Idealize.ShloMosaic.TcCoe Idealize.SL.Sem

namespace Cert.FfnMIdeal.Pure

open Cert.FfnMIdeal Cert.FfnMIdeal.Gen Cert.Ffn

/-- A block of 256 hidden units of row `r`, brought to output column `l` by the left or right half of the down weights. -/
def block (x : FVec Ideal S512x1024 .bf16) (wg wu : FVec Ideal S1024x256 .bf16) (da db : FVec Ideal S256x512 .bf16)
    (r : Fin 512) (l : Fin 1024) : EReal :=
  if h : l.val < 512 then
    ∑ t : Fin 256, hiddenUnit (fun k => x (ix2 r k)) (fun k => wg (ix2 k t)) (fun k => wu (ix2 k t)) * da (ix2 t ⟨l.val, h⟩)
  else
    ∑ t : Fin 256, hiddenUnit (fun k => x (ix2 r k)) (fun k => wg (ix2 k t)) (fun k => wu (ix2 k t)) * db (ix2 t ⟨l.val - 512, by omega⟩)

/-- The row after the mixer's projected output is added. -/
theorem pay2_at (v0 : FVec Ideal S512x1024 .f32) (v1 : FVec Ideal S512x1024 .bf16) (v3 : FVec Ideal S1024x1024 .bf16) (r : Fin 512) (l : Fin 1024) :
    k0_pay2 (F := Ideal) v0 v1 v3 (ix2 r l) = (mixed (fun k => v0 (ix2 r k)) (fun k => v1 (ix2 r k)) (fun k l => v3 (ix2 k l))) l := by
  pointwise [k0_pay2, mixed]

/-- That row normalised, as the body keeps it. -/
theorem pay3_at (v0 : FVec Ideal S512x1024 .f32) (v1 : FVec Ideal S512x1024 .bf16) (v3 : FVec Ideal S1024x1024 .bf16) (v7 : FVec Ideal S1x1024 .f32) (r : Fin 512) (l : Fin 1024) :
    k0_pay3 (F := Ideal) v0 v1 v3 v7 (ix2 r l) = normed (mixed (fun k => v0 (ix2 r k)) (fun k => v1 (ix2 r k)) (fun k l => v3 (ix2 k l))) (fun k => v7 (ix2 0 k)) l := by
  have h : k0_pay3 (F := Ideal) v0 v1 v3 v7 (ix2 r l) = normed (fun l => k0_pay2 (F := Ideal) v0 v1 v3 (ix2 r l)) (fun k => v7 (ix2 0 k)) l := by
    pointwise [k0_pay3, normed]
  rw [h]
  simp only [pay2_at]

/-- The first two blocks. -/
theorem pay7_at (v0 : FVec Ideal S512x1024 .f32) (v1 : FVec Ideal S512x1024 .bf16) (v3 : FVec Ideal S1024x1024 .bf16) (v7 : FVec Ideal S1x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16) (r : Fin 512) (l : Fin 1024) :
    k0_pay7 (F := Ideal) (k0_pay3 v0 v1 v3 v7) (k0_pay4 (F := Ideal)) (k0_pay5 v0 v1 v3 v7 a b) (k0_pay6 v0 v1 v3 v7 a b c) d a' b' c' d' (ix2 r l) =
      block (k0_pay3 v0 v1 v3 v7) a b c d r l + block (k0_pay3 v0 v1 v3 v7) a' b' c' d' r l := by
  pointwise [k0_pay7, k0_pay4, k0_pay5, k0_pay6, block, hiddenUnit]

/-- Two more blocks on top of the running sum. -/
theorem pay10_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay10 (F := Ideal) x s (k0_pay8 x a b) (k0_pay9 x a b c) d a' b' c' d' (ix2 r l) =
      s (ix2 r l) + block x a b c d r l + block x a' b' c' d' r l := by
  pointwise [k0_pay10, k0_pay8, k0_pay9, block, hiddenUnit]

/-- Two more blocks on top of the running sum. -/
theorem pay13_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay13 (F := Ideal) x s (k0_pay11 x a b) (k0_pay12 x a b c) d a' b' c' d' (ix2 r l) =
      s (ix2 r l) + block x a b c d r l + block x a' b' c' d' r l := by
  pointwise [k0_pay13, k0_pay11, k0_pay12, block, hiddenUnit]

/-- Two more blocks on top of the running sum. -/
theorem pay16_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay16 (F := Ideal) x s (k0_pay14 x a b) (k0_pay15 x a b c) d a' b' c' d' (ix2 r l) =
      s (ix2 r l) + block x a b c d r l + block x a' b' c' d' r l := by
  pointwise [k0_pay16, k0_pay14, k0_pay15, block, hiddenUnit]

/-- Two more blocks on top of the running sum. -/
theorem pay19_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay19 (F := Ideal) x s (k0_pay17 x a b) (k0_pay18 x a b c) d a' b' c' d' (ix2 r l) =
      s (ix2 r l) + block x a b c d r l + block x a' b' c' d' r l := by
  pointwise [k0_pay19, k0_pay17, k0_pay18, block, hiddenUnit]

/-- The last block, the half, and the residual row. -/
theorem pay1_at (y s : FVec Ideal S512x1024 .f32) (x : FVec Ideal S512x1024 .bf16) (a : FVec Ideal S1024x256 .bf16) (b : FVec Ideal S1024x256 .bf16) (c : FVec Ideal S256x512 .bf16) (d : FVec Ideal S256x512 .bf16) (r : Fin 512) (l : Fin 1024) :
    k0_pay1 (F := Ideal) y s (k0_pay20 x a b) (k0_pay21 x a b c) d (ix2 r l) =
      y (ix2 r l) + Ideal.ofBits .f32 0x3F000000#32 * (s (ix2 r l) + block x a b c d r l) := by
  pointwise [k0_pay1, k0_pay20, k0_pay21, block, hiddenUnit]

/-- The tile: every row at every column is the layer of that row. -/
theorem out_at (x0 : FVec Ideal S512x1024 .f32) (x1 : FVec Ideal S1x1024 .f32) (x2 : FVec Ideal S1024x2816 .bf16) (x3 : FVec Ideal S1024x2816 .bf16) (x4 : FVec Ideal S2816x512 .bf16) (x5 : FVec Ideal S2816x512 .bf16) (x6 : FVec Ideal S512x1024 .bf16) (x7 : FVec Ideal S1024x1024 .bf16) (r : Fin 512) (l : Fin 1024) :
    out0_8 (F := Ideal) x0 x1 x2 x3 x4 x5 x6 x7 (ix2 r l) =
      ffnSplit (mixed (fun k => x0 (ix2 r k)) (fun k => x6 (ix2 r k)) (fun k l => x7 (ix2 k l))) (fun k => x1 (ix2 0 k)) (fun k f => x2 (ix2 k f)) (fun k f => x3 (ix2 k f)) (fun f l => x4 (ix2 f l)) (fun f l => x5 (ix2 f l)) l := by
  frame_out
  have hx : k0_pay22 (F := Ideal) x0 x1 x2 x3 x4 x5 x6 x7 = k0_pay3 (F := Ideal) x0 x6 x7 x1 := by unfold k0_pay22; frame_out
  have hn : (fun k => k0_pay3 (F := Ideal) x0 x6 x7 x1 (ix2 r k)) = normed (mixed (fun k => x0 (ix2 r k)) (fun k => x6 (ix2 r k)) (fun k l => x7 (ix2 k l))) (fun k => x1 (ix2 0 k)) :=
    funext (pay3_at x0 x6 x7 x1 r)
  rw [hx, pay1_at, pay19_at, pay16_at, pay13_at, pay10_at, pay7_at, pay2_at]
  unfold ffnSplit
  rw [sum_blocks]
  by_cases h : l.val < 512 <;>
  · simp only [block, h, ↓reduceDIte, hn]
    pointwise []

end Cert.FfnMIdeal.Pure

end
-- ==== Proof.FfnMValue.lean ====
/-
  The result array of the feed-forward call that first adds the projected attention output
  is the layer's own term of its arguments, as the plain reference computes it.
-/
module

public import proofs.«01_k».proof.Proof.FfnMPure
public import proofs.«01_k».proof.Proof.Gen.FfnMRefIdeal.Run

@[expose] public section

set_option maxRecDepth 16384

noncomputable section

open Idealize.ShloMosaic Idealize.ShloMosaic.TcCoe Idealize.SL.Sem
open Idealize.ShloMosaic.Pipeline (Dat)

namespace Cert.FfnMRefIdeal.Layer

open Cert.FfnMRefIdeal Cert.FfnMRefIdeal.Gen Cert.Ffn

/-- The rows with the mixer's projected output added, as the reference computes them. -/
def MIX (h o : FVec Ideal S16384x1024 .f32) (w : FVec Ideal S1024x1024 .f32) : FVec Ideal S16384x1024 .f32 :=
  addf h (Host.dotGeneral dot_S16384x1024_S1024x1024_S16384x1024_1_0_0_1_n_n none o w)

theorem MIX_at (h o : FVec Ideal S16384x1024 .f32) (w : FVec Ideal S1024x1024 .f32) (r : Fin 16384) (l : Fin 1024) :
    MIX h o w (ix2 r l) = mixed (fun k => h (ix2 r k)) (fun k => o (ix2 r k)) (fun k l => w (ix2 k l)) l := by
  pointwise [MIX, mixed]

/-- The feed-forward layer of the rows `h`, as the reference computes it. -/
def LAYER (h : FVec Ideal S16384x1024 .f32) (g : FVec Ideal S1024 .f32) (wu : FVec Ideal S1024x5632 .f32)
    (wd : FVec Ideal S2816x1024 .f32) : FVec Ideal S16384x1024 .f32 :=
  addf h (mulf (broadcastInDim S16384x1024 ![] bcast_S_S16384x1024 (constant S_ .f32 0x3F000000#32)) (Host.dotGeneral dot_S16384x2816_S2816x1024_S16384x1024_1_0_0_1_n_n none (mulf (mulf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0)))))) (extractStridedSlice S16384x2816 ![0, 2816] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_2816)) wd))

theorem LAYER_at (h : FVec Ideal S16384x1024 .f32) (g : FVec Ideal S1024 .f32) (wu : FVec Ideal S1024x5632 .f32)
    (wd : FVec Ideal S2816x1024 .f32) (r : Fin 16384) (l : Fin 1024) :
    LAYER h g wu wd (ix2 r l) = ffnAt (fun k => h (ix2 r k)) (fun k => g (ix1 k)) (fun k f => wu (ix2 k f))
      (fun f l => wd (ix2 f l)) l := by
  pointwise [LAYER, ffnAt, normed, hiddenUnit, Ideal.logistic]

/-- What the reference computes of its arguments. -/
def REF (h : FVec Ideal S16384x1024 .f32) (g : FVec Ideal S1024 .f32) (wu : FVec Ideal S1024x5632 .f32) (wd : FVec Ideal S2816x1024 .f32) (o : FVec Ideal S16384x1024 .f32) (w : FVec Ideal S1024x1024 .f32) : FVec Ideal S16384x1024 .f32 :=
  LAYER (MIX h o w) g wu wd

theorem REF_at (h : FVec Ideal S16384x1024 .f32) (g : FVec Ideal S1024 .f32) (wu : FVec Ideal S1024x5632 .f32) (wd : FVec Ideal S2816x1024 .f32) (o : FVec Ideal S16384x1024 .f32) (w : FVec Ideal S1024x1024 .f32) (r : Fin 16384) (l : Fin 1024) :
    REF h g wu wd o w (ix2 r l) = ffnAt (mixed (fun k => h (ix2 r k)) (fun k => o (ix2 r k)) (fun k l => w (ix2 k l))) (fun k => g (ix1 k)) (fun k f => wu (ix2 k f)) (fun f l => wd (ix2 f l)) l := by
  simp only [REF, LAYER_at, MIX_at]

/-- The reference's result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.FfnMRefIdeal.Layer

namespace Cert.FfnMIdeal.Layer

open Cert.FfnMIdeal Cert.FfnMIdeal.Gen Cert.FfnMIdeal.Pure Cert.Ffn
open Cert.FfnMRefIdeal.Layer (REF REF_at)

variable (m : (ℓ : Loc nD τ sig) → Buf (Elt Ideal) ℓ)

/-- Where each window's block lies at grid point `t`: the rows' tiles move, the weights stay. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![t.val, 0] :=
  (by decide +kernel : ∀ t : Fin grid0.N, _)

/-- At grid point `t` the tile's row `r` is the layer of the array's row. -/
theorem point (c : Dev nD) (t : Fin cfg0.N) (r : Fin 512) (l : Fin 1024) (q : Fin 16384) (hq : q.val = t.val * 512 + r.val) :
    out0_8 (F := Ideal) (iblk m c 0 t) (iblk m c 1 t) (iblk m c 2 t) (iblk m c 3 t) (iblk m c 4 t) (iblk m c 5 t) (iblk m c 6 t) (iblk m c 7 t) (ix2 r l)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 q l) := by
  rw [REF_at]
  refine (out_at _ _ _ _ _ _ _ _ r l).trans ?_
  refine ((ffnSplit_eq _ _ _ _ _ _ (fun k f => m ((c : Thread nD τ).loc main_arg2) (ix2 k f)) (fun f l => m ((c : Thread nD τ).loc main_arg3) (ix2 f l))
    (fun k f => by blk_point [iblk, V, idx t]) (fun k f => by blk_point [iblk, V, idx t])
    (fun f l => by blk_point [iblk, V, idx t]) (fun f l => by blk_point [iblk, V, idx t])) l).trans ?_
  have hx : (fun k : Fin 1024 => iblk m c 0 t (ix2 r k)) = fun k => m ((c : Thread nD τ).loc main_arg0) (ix2 q k) := funext fun k => by blk_point [iblk, V, idx t]
  have hg : (fun k : Fin 1024 => iblk m c 1 t (ix2 (0 : Fin 1) k)) = fun k => m ((c : Thread nD τ).loc main_arg1) (ix1 k) := funext fun k => by blk_point [iblk, V, idx t]
  have ho : (fun k : Fin 1024 => iblk m c 6 t (ix2 r k)) = fun k => m ((c : Thread nD τ).loc main_arg4) (ix2 q k) := funext fun k => by blk_point [iblk, V, idx t]
  have hw : (fun (k : Fin 1024) (l : Fin 1024) => iblk m c 7 t (ix2 k l)) = fun k l => m ((c : Thread nD τ).loc main_arg5) (ix2 k l) := funext fun k => funext fun l => by blk_point [iblk, V, idx t]
  rw [hx, hg, ho, hw]

/-- The result array. -/
theorem final (c : Dev nD) : (dats m 0 c).arrAt 8 (cfgs 0).N =
    REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  idx_vars y
  have ht : t.val < 32 := t.isLt
  have he : ((View.whole main_v9).slice (win0_8.rect t)).emb (ix2 y0 y1)
      = (ix2 (⟨t.val * 512 + y0.val, by omega⟩ : Fin 16384) y1 : S16384x1024.Idx) := by
    blk_ext [idx t]
  rw [he]
  exact point m c t y0 y1 _ rfl

end Cert.FfnMIdeal.Layer

end
-- ==== Proof.FfnGPure.lean ====
/-
  What one row tile of the feed-forward call that first adds the gated and projected output of the state-space mixer holds after its body, element by element.
-/
module

public import proofs.«01_k».proof.Proof.FfnMath
public import proofs.«01_k».proof.Proof.Gen.FfnGIdeal.Value
public import Idealize.ShloMosaic.Lib.Pipeline.ValueKit

@[expose] public section

set_option maxRecDepth 16384

noncomputable section

open Idealize.ShloMosaic Idealize.ShloMosaic.TcCoe Idealize.SL.Sem

namespace Cert.FfnGIdeal.Pure

open Cert.FfnGIdeal Cert.FfnGIdeal.Gen Cert.Ffn

/-- A block of 256 hidden units of row `r`, brought to output column `l` by the left or right half of the down weights. -/
def block (x : FVec Ideal S512x1024 .bf16) (wg wu : FVec Ideal S1024x256 .bf16) (da db : FVec Ideal S256x512 .bf16)
    (r : Fin 512) (l : Fin 1024) : EReal :=
  if h : l.val < 512 then
    ∑ t : Fin 256, hiddenUnit (fun k => x (ix2 r k)) (fun k => wg (ix2 k t)) (fun k => wu (ix2 k t)) * da (ix2 t ⟨l.val, h⟩)
  else
    ∑ t : Fin 256, hiddenUnit (fun k => x (ix2 r k)) (fun k => wg (ix2 k t)) (fun k => wu (ix2 k t)) * db (ix2 t ⟨l.val - 512, by omega⟩)

/-- The row after the mixer's gated and projected output is added. -/
theorem pay2_at (v0 : FVec Ideal S512x1024 .f32) (v1 v4 : FVec Ideal S512x2048 .bf16) (v10 : FVec Ideal S1x2048 .f32) (v25 : FVec Ideal S2048x1024 .bf16) (r : Fin 512) (l : Fin 1024) :
    k0_pay2 (F := Ideal) v0 v1 v4 v10 v25 (ix2 r l) = (mixed (fun k => v0 (ix2 r k)) (gated (fun k => v1 (ix2 r k)) (fun k => v4 (ix2 r k)) (fun k => v10 (ix2 0 k))) (fun k l => v25 (ix2 k l))) l := by
  pointwise [k0_pay2, mixed, gated]

/-- That row normalised, as the body keeps it. -/
theorem pay5_at (v0 : FVec Ideal S512x1024 .f32) (v1 v4 : FVec Ideal S512x2048 .bf16) (v10 : FVec Ideal S1x2048 .f32) (v25 : FVec Ideal S2048x1024 .bf16) (v7 : FVec Ideal S1x1024 .f32) (r : Fin 512) (l : Fin 1024) :
    k0_pay5 (F := Ideal) (k0_pay2 v0 v1 v4 v10 v25) (k0_pay3 v7) (k0_pay4 v0 v1 v4 v10 v25) (ix2 r l) = normed (mixed (fun k => v0 (ix2 r k)) (gated (fun k => v1 (ix2 r k)) (fun k => v4 (ix2 r k)) (fun k => v10 (ix2 0 k))) (fun k l => v25 (ix2 k l))) (fun k => v7 (ix2 0 k)) l := by
  have h : k0_pay5 (F := Ideal) (k0_pay2 v0 v1 v4 v10 v25) (k0_pay3 v7) (k0_pay4 v0 v1 v4 v10 v25) (ix2 r l)
      = normed (fun l => k0_pay2 (F := Ideal) v0 v1 v4 v10 v25 (ix2 r l)) (fun k => v7 (ix2 0 k)) l := by
    pointwise [k0_pay5, k0_pay3, k0_pay4, normed]
  rw [h]
  simp only [pay2_at]

/-- The first block. -/
theorem pay6_at (y : FVec Ideal S512x1024 .f32) (g : FVec Ideal S1x1024 .f32) (q : FVec Ideal S512x1024 .f32) (a : FVec Ideal S1024x256 .bf16) (b : FVec Ideal S1024x256 .bf16) (c : FVec Ideal S256x512 .bf16) (d : FVec Ideal S256x512 .bf16) (r : Fin 512) (l : Fin 1024) :
    k0_pay6 (F := Ideal) y g q a b c d (ix2 r l) = block (k0_pay5 y g q) a b c d r l := by
  pointwise [k0_pay6, block, hiddenUnit]

/-- Two more blocks on top of the first. -/
theorem pay9_at (y : FVec Ideal S512x1024 .f32) (g : FVec Ideal S1x1024 .f32) (q s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay9 (F := Ideal) (k0_pay5 y g q) s (k0_pay7 y g q a b) (k0_pay8 y g q a b c) d a' b' c' d' (ix2 r l) =
      s (ix2 r l) + block (k0_pay5 y g q) a b c d r l + block (k0_pay5 y g q) a' b' c' d' r l := by
  pointwise [k0_pay9, k0_pay7, k0_pay8, block, hiddenUnit]

/-- Two more blocks on top of the running sum. -/
theorem pay12_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay12 (F := Ideal) x s (k0_pay10 x a b) (k0_pay11 x a b c) d a' b' c' d' (ix2 r l) =
      s (ix2 r l) + block x a b c d r l + block x a' b' c' d' r l := by
  pointwise [k0_pay12, k0_pay10, k0_pay11, block, hiddenUnit]

/-- Two more blocks on top of the running sum. -/
theorem pay15_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay15 (F := Ideal) x s (k0_pay13 x a b) (k0_pay14 x a b c) d a' b' c' d' (ix2 r l) =
      s (ix2 r l) + block x a b c d r l + block x a' b' c' d' r l := by
  pointwise [k0_pay15, k0_pay13, k0_pay14, block, hiddenUnit]

/-- Two more blocks on top of the running sum. -/
theorem pay18_at (x : FVec Ideal S512x1024 .bf16) (s : FVec Ideal S512x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 512) (l : Fin 1024) :
    k0_pay18 (F := Ideal) x s (k0_pay16 x a b) (k0_pay17 x a b c) d a' b' c' d' (ix2 r l) =
      s (ix2 r l) + block x a b c d r l + block x a' b' c' d' r l := by
  pointwise [k0_pay18, k0_pay16, k0_pay17, block, hiddenUnit]

/-- The last two blocks, the half, and the residual row. -/
theorem pay1_at (y s : FVec Ideal S512x1024 .f32) (x : FVec Ideal S512x1024 .bf16) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16) (r : Fin 512) (l : Fin 1024) :
    k0_pay1 (F := Ideal) y x s (k0_pay19 x a b) (k0_pay20 x a b c) d a' b' c' d' (ix2 r l) =
      y (ix2 r l) + Ideal.ofBits .f32 0x3F000000#32 * (s (ix2 r l) + block x a b c d r l + block x a' b' c' d' r l) := by
  pointwise [k0_pay1, k0_pay19, k0_pay20, block, hiddenUnit]

/-- The tile: every row at every column is the layer of that row. -/
theorem out_at (x0 : FVec Ideal S512x1024 .f32) (x1 : FVec Ideal S1x1024 .f32) (x2 : FVec Ideal S1024x2816 .bf16) (x3 : FVec Ideal S1024x2816 .bf16) (x4 : FVec Ideal S2816x512 .bf16) (x5 : FVec Ideal S2816x512 .bf16) (x6 : FVec Ideal S512x2048 .bf16) (x7 : FVec Ideal S2048x1024 .bf16) (x8 : FVec Ideal S512x2048 .bf16) (x9 : FVec Ideal S1x2048 .f32) (r : Fin 512) (l : Fin 1024) :
    out0_10 (F := Ideal) x0 x1 x2 x3 x4 x5 x6 x7 x8 x9 (ix2 r l) =
      ffnSplit (mixed (fun k => x0 (ix2 r k)) (gated (fun k => x6 (ix2 r k)) (fun k => x8 (ix2 r k)) (fun k => x9 (ix2 0 k))) (fun k l => x7 (ix2 k l))) (fun k => x1 (ix2 0 k)) (fun k f => x2 (ix2 k f)) (fun k f => x3 (ix2 k f)) (fun f l => x4 (ix2 f l)) (fun f l => x5 (ix2 f l)) l := by
  frame_out
  have h1 : k0_pay21 (F := Ideal) x0 x1 x2 x3 x4 x5 x6 x7 x8 x9 = k0_pay2 (F := Ideal) x0 x6 x8 x9 x7 := by unfold k0_pay21; frame_out
  have h2 : k0_pay22 (F := Ideal) x0 x1 x2 x3 x4 x5 x6 x7 x8 x9 = k0_pay3 (F := Ideal) x1 := by unfold k0_pay22; frame_out
  have h3 : k0_pay23 (F := Ideal) x0 x1 x2 x3 x4 x5 x6 x7 x8 x9 = k0_pay4 (F := Ideal) x0 x6 x8 x9 x7 := by unfold k0_pay23; frame_out
  have hx : k0_pay24 (F := Ideal) x0 x1 x2 x3 x4 x5 x6 x7 x8 x9 = k0_pay5 (F := Ideal) (k0_pay2 (F := Ideal) x0 x6 x8 x9 x7) (k0_pay3 x1) (k0_pay4 (F := Ideal) x0 x6 x8 x9 x7) := by unfold k0_pay24; rw [h1, h2, h3]
  have hn : (fun k => k0_pay5 (F := Ideal) (k0_pay2 (F := Ideal) x0 x6 x8 x9 x7) (k0_pay3 x1) (k0_pay4 (F := Ideal) x0 x6 x8 x9 x7) (ix2 r k)) = normed (mixed (fun k => x0 (ix2 r k)) (gated (fun k => x6 (ix2 r k)) (fun k => x8 (ix2 r k)) (fun k => x9 (ix2 0 k))) (fun k l => x7 (ix2 k l))) (fun k => x1 (ix2 0 k)) :=
    funext (pay5_at x0 x6 x8 x9 x7 x1 r)
  rw [hx, h1, h2, h3, pay1_at, pay18_at, pay15_at, pay12_at, pay9_at, pay6_at, pay2_at]
  unfold ffnSplit
  rw [sum_blocks]
  by_cases h : l.val < 512 <;>
  · simp only [block, h, ↓reduceDIte, hn]
    pointwise []

end Cert.FfnGIdeal.Pure

end
-- ==== Proof.FfnGValue.lean ====
/-
  The result array of the feed-forward call that first adds the gated and projected output of the state-space mixer
  is the layer's own term of its arguments, as the plain reference computes it.
-/
module

public import proofs.«01_k».proof.Proof.FfnGPure
public import proofs.«01_k».proof.Proof.Gen.FfnGRefIdeal.Run

@[expose] public section

set_option maxRecDepth 16384

noncomputable section

open Idealize.ShloMosaic Idealize.ShloMosaic.TcCoe Idealize.SL.Sem
open Idealize.ShloMosaic.Pipeline (Dat)

namespace Cert.FfnGRefIdeal.Layer

open Cert.FfnGRefIdeal Cert.FfnGRefIdeal.Gen Cert.Ffn

/-- The rows with the mixer's projected output added, as the reference computes them. -/
def MIX (h : FVec Ideal S16384x1024 .f32) (y z : FVec Ideal S16384x2048 .f32) (nw : FVec Ideal S2048 .f32) (w : FVec Ideal S2048x1024 .f32) : FVec Ideal S16384x1024 .f32 :=
  addf h (Host.dotGeneral dot_S16384x2048_S2048x1024_S16384x1024_1_0_0_1_n_n none (mulf (mulf (mulf y (mulf z (Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))))) (broadcastInDim S16384x2048 ![0, 1] bcast_S16384x1_S16384x2048_0_1 (Host.rsqrt (addf (Host.divf (broadcastInDim S16384x1 ![0] bcast_S16384_S16384x1_0 (Host.reduceAdd (mulf (mulf y (mulf z (Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))))) (mulf y (mulf z (Host.divf (broadcastInDim S16384x2048 ![] bcast_S_S16384x2048 (constant S_ .f32 0x3F800000#32)) (addf (broadcastInDim S16384x2048 ![] bcast_S_S16384x2048 (constant S_ .f32 0x3F800000#32)) (Host.exp (Host.negf z))))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 nw))) w)

theorem MIX_at (h : FVec Ideal S16384x1024 .f32) (y z : FVec Ideal S16384x2048 .f32) (nw : FVec Ideal S2048 .f32) (w : FVec Ideal S2048x1024 .f32) (r : Fin 16384) (l : Fin 1024) :
    MIX h y z nw w (ix2 r l) = mixed (fun k => h (ix2 r k)) (gated (fun k => y (ix2 r k)) (fun k => z (ix2 r k)) (fun k => nw (ix1 k))) (fun k l => w (ix2 k l)) l := by
  pointwise [MIX, mixed, gated, Ideal.logistic]

/-- The feed-forward layer of the rows `h`, as the reference computes it. -/
def LAYER (h : FVec Ideal S16384x1024 .f32) (g : FVec Ideal S1024 .f32) (wu : FVec Ideal S1024x5632 .f32)
    (wd : FVec Ideal S2816x1024 .f32) : FVec Ideal S16384x1024 .f32 :=
  addf h (mulf (broadcastInDim S16384x1024 ![] bcast_S_S16384x1024 (constant S_ .f32 0x3F000000#32)) (Host.dotGeneral dot_S16384x2816_S2816x1024_S16384x1024_1_0_0_1_n_n none (mulf (mulf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_0)))))) (extractStridedSlice S16384x2816 ![0, 2816] (Host.dotGeneral dot_S16384x1024_S1024x5632_S16384x5632_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) wu) slices_S16384x5632_S16384x2816_0_2816)) wd))

theorem LAYER_at (h : FVec Ideal S16384x1024 .f32) (g : FVec Ideal S1024 .f32) (wu : FVec Ideal S1024x5632 .f32)
    (wd : FVec Ideal S2816x1024 .f32) (r : Fin 16384) (l : Fin 1024) :
    LAYER h g wu wd (ix2 r l) = ffnAt (fun k => h (ix2 r k)) (fun k => g (ix1 k)) (fun k f => wu (ix2 k f))
      (fun f l => wd (ix2 f l)) l := by
  pointwise [LAYER, ffnAt, normed, hiddenUnit, Ideal.logistic]

/-- What the reference computes of its arguments. -/
def REF (h : FVec Ideal S16384x1024 .f32) (g : FVec Ideal S1024 .f32) (wu : FVec Ideal S1024x5632 .f32) (wd : FVec Ideal S2816x1024 .f32) (y : FVec Ideal S16384x2048 .f32) (w : FVec Ideal S2048x1024 .f32) (z : FVec Ideal S16384x2048 .f32) (nw : FVec Ideal S2048 .f32) : FVec Ideal S16384x1024 .f32 :=
  LAYER (MIX h y z nw w) g wu wd

theorem REF_at (h : FVec Ideal S16384x1024 .f32) (g : FVec Ideal S1024 .f32) (wu : FVec Ideal S1024x5632 .f32) (wd : FVec Ideal S2816x1024 .f32) (y : FVec Ideal S16384x2048 .f32) (w : FVec Ideal S2048x1024 .f32) (z : FVec Ideal S16384x2048 .f32) (nw : FVec Ideal S2048 .f32) (r : Fin 16384) (l : Fin 1024) :
    REF h g wu wd y w z nw (ix2 r l) = ffnAt (mixed (fun k => h (ix2 r k)) (gated (fun k => y (ix2 r k)) (fun k => z (ix2 r k)) (fun k => nw (ix1 k))) (fun k l => w (ix2 k l))) (fun k => g (ix1 k)) (fun k f => wu (ix2 k f)) (fun f l => wd (ix2 f l)) l := by
  simp only [REF, LAYER_at, MIX_at]

/-- The reference's result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.FfnGRefIdeal.Layer

namespace Cert.FfnGIdeal.Layer

open Cert.FfnGIdeal Cert.FfnGIdeal.Gen Cert.FfnGIdeal.Pure Cert.Ffn
open Cert.FfnGRefIdeal.Layer (REF REF_at)

variable (m : (ℓ : Loc nD τ sig) → Buf (Elt Ideal) ℓ)

/-- Where each window's block lies at grid point `t`: the rows' tiles move, the weights stay. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![t.val, 0]
    ∧ win0_9.index t = ![0, 0]
    ∧ win0_10.index t = ![t.val, 0] :=
  (by decide +kernel : ∀ t : Fin grid0.N, _)

/-- At grid point `t` the tile's row `r` is the layer of the array's row. -/
theorem point (c : Dev nD) (t : Fin cfg0.N) (r : Fin 512) (l : Fin 1024) (q : Fin 16384) (hq : q.val = t.val * 512 + r.val) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r l)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 q l) := by
  rw [REF_at]
  refine (out_at _ _ _ _ _ _ _ _ _ _ r l).trans ?_
  refine ((ffnSplit_eq _ _ _ _ _ _ (fun k f => m ((c : Thread nD τ).loc main_arg2) (ix2 k f)) (fun f l => m ((c : Thread nD τ).loc main_arg3) (ix2 f l))
    (fun k f => by blk_point [iblk, V, idx t]) (fun k f => by blk_point [iblk, V, idx t])
    (fun f l => by blk_point [iblk, V, idx t]) (fun f l => by blk_point [iblk, V, idx t])) l).trans ?_
  have hx : (fun k : Fin 1024 => iblk m c 0 t (ix2 r k)) = fun k => m ((c : Thread nD τ).loc main_arg0) (ix2 q k) := funext fun k => by blk_point [iblk, V, idx t]
  have hg : (fun k : Fin 1024 => iblk m c 1 t (ix2 (0 : Fin 1) k)) = fun k => m ((c : Thread nD τ).loc main_arg1) (ix1 k) := funext fun k => by blk_point [iblk, V, idx t]
  have hy : (fun k : Fin 2048 => iblk m c 6 t (ix2 r k)) = fun k => m ((c : Thread nD τ).loc main_arg4) (ix2 q k) := funext fun k => by blk_point [iblk, V, idx t]
  have hz : (fun k : Fin 2048 => iblk m c 8 t (ix2 r k)) = fun k => m ((c : Thread nD τ).loc main_arg6) (ix2 q k) := funext fun k => by blk_point [iblk, V, idx t]
  have hn : (fun k : Fin 2048 => iblk m c 9 t (ix2 (0 : Fin 1) k)) = fun k => m ((c : Thread nD τ).loc main_arg7) (ix1 k) := funext fun k => by blk_point [iblk, V, idx t]
  have hw : (fun (k : Fin 2048) (l : Fin 1024) => iblk m c 7 t (ix2 k l)) = fun k l => m ((c : Thread nD τ).loc main_arg5) (ix2 k l) := funext fun k => funext fun l => by blk_point [iblk, V, idx t]
  rw [hx, hg, hy, hz, hn, hw]

/-- The result array. -/
theorem final (c : Dev nD) : (dats m 0 c).arrAt 10 (cfgs 0).N =
    REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  idx_vars y
  have ht : t.val < 32 := t.isLt
  have he : ((View.whole main_v11).slice (win0_10.rect t)).emb (ix2 y0 y1)
      = (ix2 (⟨t.val * 512 + y0.val, by omega⟩ : Fin 16384) y1 : S16384x1024.Idx) := by
    blk_ext [idx t]
  rw [he]
  exact point m c t y0 y1 _ rfl

end Cert.FfnGIdeal.Layer

end
-- ==== Proof.FfnSPure.lean ====
/-
  What the one tile of the last feed-forward call for the sampled tokens, which adds the projected attention output first and ends with the final normalisation holds after its body, element by element.
-/
module

public import proofs.«01_k».proof.Proof.FfnMath
public import proofs.«01_k».proof.Proof.Gen.FfnSIdeal.Value
public import Idealize.ShloMosaic.Lib.Pipeline.ValueKit

@[expose] public section

set_option maxRecDepth 16384

noncomputable section

open Idealize.ShloMosaic Idealize.ShloMosaic.TcCoe Idealize.SL.Sem

namespace Cert.FfnSIdeal.Pure

open Cert.FfnSIdeal Cert.FfnSIdeal.Gen Cert.Ffn

/-- A block of 256 hidden units of row `r`, brought to output column `l` by the left or right half of the down weights. -/
def block (x : FVec Ideal S32x1024 .bf16) (wg wu : FVec Ideal S1024x256 .bf16) (da db : FVec Ideal S256x512 .bf16)
    (r : Fin 32) (l : Fin 1024) : EReal :=
  if h : l.val < 512 then
    ∑ t : Fin 256, hiddenUnit (fun k => x (ix2 r k)) (fun k => wg (ix2 k t)) (fun k => wu (ix2 k t)) * da (ix2 t ⟨l.val, h⟩)
  else
    ∑ t : Fin 256, hiddenUnit (fun k => x (ix2 r k)) (fun k => wg (ix2 k t)) (fun k => wu (ix2 k t)) * db (ix2 t ⟨l.val - 512, by omega⟩)

/-- The row after the mixer's projected output is added. -/
theorem pay2_at (v0 : FVec Ideal S32x1024 .f32) (v1 : FVec Ideal S32x1024 .f32) (v3 : FVec Ideal S1024x1024 .bf16) (r : Fin 32) (l : Fin 1024) :
    k0_pay2 (F := Ideal) v0 v1 v3 (ix2 r l) = (mixed (fun k => v0 (ix2 r k)) (fun k => v1 (ix2 r k)) (fun k l => v3 (ix2 k l))) l := by
  pointwise [k0_pay2, mixed]

/-- That row normalised, as the body keeps it. -/
theorem pay3_at (v0 : FVec Ideal S32x1024 .f32) (v1 : FVec Ideal S32x1024 .f32) (v3 : FVec Ideal S1024x1024 .bf16) (v7 : FVec Ideal S1x1024 .f32) (r : Fin 32) (l : Fin 1024) :
    k0_pay3 (F := Ideal) v0 v1 v3 v7 (ix2 r l) = normed (mixed (fun k => v0 (ix2 r k)) (fun k => v1 (ix2 r k)) (fun k l => v3 (ix2 k l))) (fun k => v7 (ix2 0 k)) l := by
  have h : k0_pay3 (F := Ideal) v0 v1 v3 v7 (ix2 r l) = normed (fun l => k0_pay2 (F := Ideal) v0 v1 v3 (ix2 r l)) (fun k => v7 (ix2 0 k)) l := by
    pointwise [k0_pay3, normed]
  rw [h]
  simp only [pay2_at]

/-- The first two blocks. -/
theorem pay7_at (v0 : FVec Ideal S32x1024 .f32) (v1 : FVec Ideal S32x1024 .f32) (v3 : FVec Ideal S1024x1024 .bf16) (v7 : FVec Ideal S1x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16) (r : Fin 32) (l : Fin 1024) :
    k0_pay7 (F := Ideal) (k0_pay3 v0 v1 v3 v7) (k0_pay4 (F := Ideal)) (k0_pay5 v0 v1 v3 v7 a b) (k0_pay6 v0 v1 v3 v7 a b c) d a' b' c' d' (ix2 r l) =
      block (k0_pay3 v0 v1 v3 v7) a b c d r l + block (k0_pay3 v0 v1 v3 v7) a' b' c' d' r l := by
  pointwise [k0_pay7, k0_pay4, k0_pay5, k0_pay6, block, hiddenUnit]

/-- Two more blocks on top of the running sum. -/
theorem pay10_at (x : FVec Ideal S32x1024 .bf16) (s : FVec Ideal S32x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 32) (l : Fin 1024) :
    k0_pay10 (F := Ideal) x s (k0_pay8 x a b) (k0_pay9 x a b c) d a' b' c' d' (ix2 r l) =
      s (ix2 r l) + block x a b c d r l + block x a' b' c' d' r l := by
  pointwise [k0_pay10, k0_pay8, k0_pay9, block, hiddenUnit]

/-- Two more blocks on top of the running sum. -/
theorem pay13_at (x : FVec Ideal S32x1024 .bf16) (s : FVec Ideal S32x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 32) (l : Fin 1024) :
    k0_pay13 (F := Ideal) x s (k0_pay11 x a b) (k0_pay12 x a b c) d a' b' c' d' (ix2 r l) =
      s (ix2 r l) + block x a b c d r l + block x a' b' c' d' r l := by
  pointwise [k0_pay13, k0_pay11, k0_pay12, block, hiddenUnit]

/-- Two more blocks on top of the running sum. -/
theorem pay16_at (x : FVec Ideal S32x1024 .bf16) (s : FVec Ideal S32x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 32) (l : Fin 1024) :
    k0_pay16 (F := Ideal) x s (k0_pay14 x a b) (k0_pay15 x a b c) d a' b' c' d' (ix2 r l) =
      s (ix2 r l) + block x a b c d r l + block x a' b' c' d' r l := by
  pointwise [k0_pay16, k0_pay14, k0_pay15, block, hiddenUnit]

/-- Two more blocks on top of the running sum. -/
theorem pay19_at (x : FVec Ideal S32x1024 .bf16) (s : FVec Ideal S32x1024 .f32) (a : FVec Ideal S1024x256 .bf16) (b : FVec Ideal S1024x256 .bf16) (c : FVec Ideal S256x512 .bf16) (d : FVec Ideal S256x512 .bf16) (a' : FVec Ideal S1024x256 .bf16) (b' : FVec Ideal S1024x256 .bf16) (c' : FVec Ideal S256x512 .bf16) (d' : FVec Ideal S256x512 .bf16)
    (r : Fin 32) (l : Fin 1024) :
    k0_pay19 (F := Ideal) x s (k0_pay17 x a b) (k0_pay18 x a b c) d a' b' c' d' (ix2 r l) =
      s (ix2 r l) + block x a b c d r l + block x a' b' c' d' r l := by
  pointwise [k0_pay19, k0_pay17, k0_pay18, block, hiddenUnit]

/-- The last block, the half, the residual row, and the final normalisation. -/
theorem pay1_at (y s : FVec Ideal S32x1024 .f32) (x : FVec Ideal S32x1024 .bf16) (a : FVec Ideal S1024x256 .bf16) (b : FVec Ideal S1024x256 .bf16) (c : FVec Ideal S256x512 .bf16) (d : FVec Ideal S256x512 .bf16) (gf : FVec Ideal S1x1024 .f32)
    (r : Fin 32) (l : Fin 1024) :
    k0_pay1 (F := Ideal) y s (k0_pay20 x a b) (k0_pay21 x a b c) d gf (ix2 r l) =
      normed (fun l => y (ix2 r l) + Ideal.ofBits .f32 0x3F000000#32 * (s (ix2 r l) + block x a b c d r l))
        (fun k => gf (ix2 0 k)) l := by
  pointwise [k0_pay1, k0_pay20, k0_pay21, block, hiddenUnit, normed]

/-- The tile: every row at every column is the layer of that row. -/
theorem out_at (x0 : FVec Ideal S32x1024 .f32) (x1 : FVec Ideal S1x1024 .f32) (x2 : FVec Ideal S1024x2816 .bf16) (x3 : FVec Ideal S1024x2816 .bf16) (x4 : FVec Ideal S2816x512 .bf16) (x5 : FVec Ideal S2816x512 .bf16) (x6 : FVec Ideal S32x1024 .f32) (x7 : FVec Ideal S1024x1024 .bf16) (x8 : FVec Ideal S1x1024 .f32) (r : Fin 32) (l : Fin 1024) :
    out0_9 (F := Ideal) x0 x1 x2 x3 x4 x5 x6 x7 x8 (ix2 r l) =
      normed (ffnSplit (mixed (fun k => x0 (ix2 r k)) (fun k => x6 (ix2 r k)) (fun k l => x7 (ix2 k l))) (fun k => x1 (ix2 0 k)) (fun k f => x2 (ix2 k f)) (fun k f => x3 (ix2 k f)) (fun f l => x4 (ix2 f l)) (fun f l => x5 (ix2 f l))) (fun k => x8 (ix2 0 k)) l := by
  frame_out
  have hx : k0_pay22 (F := Ideal) x0 x1 x2 x3 x4 x5 x6 x7 x8 = k0_pay3 (F := Ideal) x0 x6 x7 x1 := by unfold k0_pay22; frame_out
  have hn : (fun k => k0_pay3 (F := Ideal) x0 x6 x7 x1 (ix2 r k)) = normed (mixed (fun k => x0 (ix2 r k)) (fun k => x6 (ix2 r k)) (fun k l => x7 (ix2 k l))) (fun k => x1 (ix2 0 k)) :=
    funext (pay3_at x0 x6 x7 x1 r)
  rw [hx, pay1_at]
  refine congrArg (fun x => normed x (fun k => x8 (ix2 0 k)) l) (funext fun l => ?_)
  rw [pay19_at, pay16_at, pay13_at, pay10_at, pay7_at, pay2_at]
  unfold ffnSplit
  rw [sum_blocks]
  by_cases h : l.val < 512 <;>
  · simp only [block, h, ↓reduceDIte, hn]
    pointwise []

end Cert.FfnSIdeal.Pure

end
-- ==== Proof.FfnSValue.lean ====
/-
  The result array of the last feed-forward call for the sampled tokens, which adds the projected attention output first and ends with the final normalisation
  is the layer's own term of its arguments, as the plain reference computes it.
-/
module

public import proofs.«01_k».proof.Proof.FfnSPure
public import proofs.«01_k».proof.Proof.Gen.FfnSRefIdeal.Run

@[expose] public section

set_option maxRecDepth 16384

noncomputable section

open Idealize.ShloMosaic Idealize.ShloMosaic.TcCoe Idealize.SL.Sem
open Idealize.ShloMosaic.Pipeline (Dat)

namespace Cert.FfnSRefIdeal.Layer

open Cert.FfnSRefIdeal Cert.FfnSRefIdeal.Gen Cert.Ffn

/-- The rows with the mixer's projected output added, as the reference computes them. -/
def MIX (h o : FVec Ideal S32x1024 .f32) (w : FVec Ideal S1024x1024 .f32) : FVec Ideal S32x1024 .f32 :=
  addf h (Host.dotGeneral dot_S32x1024_S1024x1024_S32x1024_1_0_0_1_n_n none o w)

theorem MIX_at (h o : FVec Ideal S32x1024 .f32) (w : FVec Ideal S1024x1024 .f32) (r : Fin 32) (l : Fin 1024) :
    MIX h o w (ix2 r l) = mixed (fun k => h (ix2 r k)) (fun k => o (ix2 r k)) (fun k l => w (ix2 k l)) l := by
  pointwise [MIX, mixed]

/-- The feed-forward layer of the rows `h`, as the reference computes it. -/
def LAYER (h : FVec Ideal S32x1024 .f32) (g : FVec Ideal S1024 .f32) (wu : FVec Ideal S1024x5632 .f32)
    (wd : FVec Ideal S2816x1024 .f32) : FVec Ideal S32x1024 .f32 :=
  addf h (mulf (broadcastInDim S32x1024 ![] bcast_S_S32x1024 (constant S_ .f32 0x3F000000#32)) (Host.dotGeneral dot_S32x2816_S2816x1024_S32x1024_1_0_0_1_n_n none (mulf (mulf (extractStridedSlice S32x2816 ![0, 0] (Host.dotGeneral dot_S32x1024_S1024x5632_S32x5632_1_0_0_1_n_n none (mulf (mulf h (broadcastInDim S32x1024 ![0, 1] bcast_S32x1_S32x1024_0_1 (Host.rsqrt (addf (Host.divf (broadcastInDim S32x1 ![0] bcast_S32_S32x1_0 (Host.reduceAdd (mulf h h) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x3727C5AC#32)))))) (broadcastInDim S32x1024 ![0, 1] bcast_S1x1024_S32x1024_0_1 (broadcastInDim S1x1024 ![1] bcast_S1024_S1x1024_1 g))) wu) slices_S32x5632_S32x2816_0_0) (Host.divf (broadcastInDim S32x2816 ![] bcast_S_S32x2816 (constant S_ .f32 0x3F800000#32)) (addf (broadcastInDim S32x2816 ![] bcast_S_S32x2816 (constant S_ .f32 0x3F800000#32)) (Host.exp (Host.negf (extractStridedSlice S32x2816 ![0, 0] (Host.dotGeneral dot_S32x1024_S1024x5632_S32x5632_1_0_0_1_n_n none (mulf (mulf h (broadcastInDim S32x1024 ![0, 1] bcast_S32x1_S32x1024_0_1 (Host.rsqrt (addf (Host.divf (broadcastInDim S32x1 ![0] bcast_S32_S32x1_0 (Host.reduceAdd (mulf h h) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x3727C5AC#32)))))) (broadcastInDim S32x1024 ![0, 1] bcast_S1x1024_S32x1024_0_1 (broadcastInDim S1x1024 ![1] bcast_S1024_S1x1024_1 g))) wu) slices_S32x5632_S32x2816_0_0)))))) (extractStridedSlice S32x2816 ![0, 2816] (Host.dotGeneral dot_S32x1024_S1024x5632_S32x5632_1_0_0_1_n_n none (mulf (mulf h (broadcastInDim S32x1024 ![0, 1] bcast_S32x1_S32x1024_0_1 (Host.rsqrt (addf (Host.divf (broadcastInDim S32x1 ![0] bcast_S32_S32x1_0 (Host.reduceAdd (mulf h h) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x3727C5AC#32)))))) (broadcastInDim S32x1024 ![0, 1] bcast_S1x1024_S32x1024_0_1 (broadcastInDim S1x1024 ![1] bcast_S1024_S1x1024_1 g))) wu) slices_S32x5632_S32x2816_0_2816)) wd))

theorem LAYER_at (h : FVec Ideal S32x1024 .f32) (g : FVec Ideal S1024 .f32) (wu : FVec Ideal S1024x5632 .f32)
    (wd : FVec Ideal S2816x1024 .f32) (r : Fin 32) (l : Fin 1024) :
    LAYER h g wu wd (ix2 r l) = ffnAt (fun k => h (ix2 r k)) (fun k => g (ix1 k)) (fun k f => wu (ix2 k f))
      (fun f l => wd (ix2 f l)) l := by
  pointwise [LAYER, ffnAt, normed, hiddenUnit, Ideal.logistic]

/-- The row normalisation, as the reference computes it. -/
def NORM (h : FVec Ideal S32x1024 .f32) (g : FVec Ideal S1024 .f32) : FVec Ideal S32x1024 .f32 :=
  mulf (mulf h (broadcastInDim S32x1024 ![0, 1] bcast_S32x1_S32x1024_0_1 (Host.rsqrt (addf (Host.divf (broadcastInDim S32x1 ![0] bcast_S32_S32x1_0 (Host.reduceAdd (mulf h h) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x3727C5AC#32)))))) (broadcastInDim S32x1024 ![0, 1] bcast_S1x1024_S32x1024_0_1 (broadcastInDim S1x1024 ![1] bcast_S1024_S1x1024_1 g))

theorem NORM_at (h : FVec Ideal S32x1024 .f32) (g : FVec Ideal S1024 .f32) (r : Fin 32) (l : Fin 1024) :
    NORM h g (ix2 r l) = normed (fun k => h (ix2 r k)) (fun k => g (ix1 k)) l := by
  pointwise [NORM, normed]

/-- What the reference computes of its arguments. -/
def REF (h : FVec Ideal S32x1024 .f32) (g : FVec Ideal S1024 .f32) (wu : FVec Ideal S1024x5632 .f32) (wd : FVec Ideal S2816x1024 .f32) (o : FVec Ideal S32x1024 .f32) (w : FVec Ideal S1024x1024 .f32) (gf : FVec Ideal S1024 .f32) : FVec Ideal S32x1024 .f32 :=
  NORM (LAYER (MIX h o w) g wu wd) gf

theorem REF_at (h : FVec Ideal S32x1024 .f32) (g : FVec Ideal S1024 .f32) (wu : FVec Ideal S1024x5632 .f32) (wd : FVec Ideal S2816x1024 .f32) (o : FVec Ideal S32x1024 .f32) (w : FVec Ideal S1024x1024 .f32) (gf : FVec Ideal S1024 .f32) (r : Fin 32) (l : Fin 1024) :
    REF h g wu wd o w gf (ix2 r l) = normed (ffnAt (mixed (fun k => h (ix2 r k)) (fun k => o (ix2 r k)) (fun k l => w (ix2 k l))) (fun k => g (ix1 k)) (fun k f => wu (ix2 k f)) (fun f l => wd (ix2 f l))) (fun k => gf (ix1 k)) l := by
  simp only [REF, NORM_at, LAYER_at, MIX_at]

/-- The reference's result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.FfnSRefIdeal.Layer

namespace Cert.FfnSIdeal.Layer

open Cert.FfnSIdeal Cert.FfnSIdeal.Gen Cert.FfnSIdeal.Pure Cert.Ffn
open Cert.FfnSRefIdeal.Layer (REF REF_at)

variable (m : (ℓ : Loc nD τ sig) → Buf (Elt Ideal) ℓ)

/-- Where each window's block lies at grid point `t`: the rows' tiles move, the weights stay. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![0, 0]
    ∧ win0_9.index t = ![t.val, 0] :=
  (by decide +kernel : ∀ t : Fin grid0.N, _)

/-- At grid point `t` the tile's row `r` is the layer of the array's row. -/
theorem point (c : Dev nD) (t : Fin cfg0.N) (r : Fin 32) (l : Fin 1024) (q : Fin 32) (hq : q.val = t.val * 32 + r.val) :
    out0_9 (F := Ideal) (iblk m c 0 t) (iblk m c 1 t) (iblk m c 2 t) (iblk m c 3 t) (iblk m c 4 t) (iblk m c 5 t) (iblk m c 6 t) (iblk m c 7 t) (iblk m c 8 t) (ix2 r l)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 q l) := by
  rw [REF_at]
  refine (out_at _ _ _ _ _ _ _ _ _ r l).trans ?_
  refine (congrArg (fun x => normed x _ l) (funext (ffnSplit_eq _ _ _ _ _ _ (fun k f => m ((c : Thread nD τ).loc main_arg2) (ix2 k f)) (fun f l => m ((c : Thread nD τ).loc main_arg3) (ix2 f l))
    (fun k f => by blk_point [iblk, V, idx t]) (fun k f => by blk_point [iblk, V, idx t])
    (fun f l => by blk_point [iblk, V, idx t]) (fun f l => by blk_point [iblk, V, idx t])))).trans ?_
  have hx : (fun k : Fin 1024 => iblk m c 0 t (ix2 r k)) = fun k => m ((c : Thread nD τ).loc main_arg0) (ix2 q k) := funext fun k => by blk_point [iblk, V, idx t]
  have hg : (fun k : Fin 1024 => iblk m c 1 t (ix2 (0 : Fin 1) k)) = fun k => m ((c : Thread nD τ).loc main_arg1) (ix1 k) := funext fun k => by blk_point [iblk, V, idx t]
  have ho : (fun k : Fin 1024 => iblk m c 6 t (ix2 r k)) = fun k => m ((c : Thread nD τ).loc main_arg4) (ix2 q k) := funext fun k => by blk_point [iblk, V, idx t]
  have hf : (fun k : Fin 1024 => iblk m c 8 t (ix2 (0 : Fin 1) k)) = fun k => m ((c : Thread nD τ).loc main_arg6) (ix1 k) := funext fun k => by blk_point [iblk, V, idx t]
  have hw : (fun (k : Fin 1024) (l : Fin 1024) => iblk m c 7 t (ix2 k l)) = fun k l => m ((c : Thread nD τ).loc main_arg5) (ix2 k l) := funext fun k => funext fun l => by blk_point [iblk, V, idx t]
  rw [hx, hg, ho, hf, hw]

/-- The result array. -/
theorem final (c : Dev nD) : (dats m 0 c).arrAt 9 (cfgs 0).N =
    REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  idx_vars y
  have ht : t.val < 1 := t.isLt
  have he : ((View.whole main_v9).slice (win0_9.rect t)).emb (ix2 y0 y1)
      = (ix2 (⟨t.val * 32 + y0.val, by omega⟩ : Fin 32) y1 : S32x1024.Idx) := by
    blk_ext [idx t]
  rw [he]
  exact point m c t y0 y1 _ rfl

end Cert.FfnSIdeal.Layer

end
-- ==== Proof.RopeMath.lean ====
/-
  The rotary position embedding on the extended reals, row by row: how the query and key rows are defined by the
  layer, and the same rows as a sum of three products with lane tables that are zero or one outside the rotated lanes.
-/
module

public import proofs.«01_k».proof.Proof.FfnMath

@[expose] public section

noncomputable section

open Idealize.ShloMosaic

namespace Cert.Rope

open Cert.Ffn

/-- A row projected: output column `j` of the normalised row against the weights. -/
def projected {n : Nat} (x g : Fin 1024 → EReal) (w : Fin 1024 → Fin n → EReal) (j : Fin n) : EReal :=
  ∑ k : Fin 1024, normed x g k * w k j

/-- Column `j` of a row of eight heads of 128 lanes after the rotation: the first 32 lanes of a head turn in pairs
    sixteen lanes apart by the angles whose cosines and sines are `c` and `s`; the others stay. -/
def turned (y : Fin 1024 → EReal) (c s : Fin 16 → EReal) (j : Fin 1024) : EReal :=
  if h : j.val % 128 < 16 then y j * c ⟨j.val % 128, h⟩ - y ⟨j.val + 16, by omega⟩ * s ⟨j.val % 128, h⟩
  else if h' : j.val % 128 < 32 then
    y j * c ⟨j.val % 128 - 16, by omega⟩ + y ⟨j.val - 16, by omega⟩ * s ⟨j.val % 128 - 16, by omega⟩
  else y j

/-- The same column as three products with tables of 128 lanes, the row read also sixteen lanes on and back within its head. -/
def threeTerms (y : Fin 1024 → EReal) (C L H : Fin 128 → EReal) (j : Fin 1024) : EReal :=
  y j * C ⟨j.val % 128, by omega⟩
    + y ⟨j.val / 128 * 128 + (j.val % 128 + 16) % 128, by omega⟩ * L ⟨j.val % 128, by omega⟩
    + y ⟨j.val / 128 * 128 + (j.val % 128 + 112) % 128, by omega⟩ * H ⟨j.val % 128, by omega⟩

/-- Three products at the right places are that column. -/
theorem threeTerms_of (y : Fin 1024 → EReal) (C L H : Fin 128 → EReal) (j a b d : Fin 1024) (l l' l'' : Fin 128)
    (ha : a.val = j.val) (hl : l.val = j.val % 128) (hb : b.val = j.val / 128 * 128 + (j.val % 128 + 16) % 128)
    (hl' : l'.val = j.val % 128) (hd : d.val = j.val / 128 * 128 + (j.val % 128 + 112) % 128) (hl'' : l''.val = j.val % 128) :
    y a * C l + y b * L l' + y d * H l'' = threeTerms y C L H j := by
  have e0 : a = j := Fin.ext ha
  have e1 : l = ⟨j.val % 128, by omega⟩ := Fin.ext hl
  have e2 : l' = ⟨j.val % 128, by omega⟩ := Fin.ext hl'
  have e3 : l'' = ⟨j.val % 128, by omega⟩ := Fin.ext hl''
  have e4 : b = ⟨j.val / 128 * 128 + (j.val % 128 + 16) % 128, by omega⟩ := Fin.ext hb
  have e5 : d = ⟨j.val / 128 * 128 + (j.val % 128 + 112) % 128, by omega⟩ := Fin.ext hd
  subst e0
  unfold threeTerms
  exact congrArg₂ _ (congrArg₂ _ (congrArg₂ _ rfl (congrArg C e1)) (congrArg₂ _ (congrArg y e4) (congrArg L e2))) (congrArg₂ _ (congrArg y e5) (congrArg H e3))

/-- The two are equal when the tables hold the cosines twice and ones, the negated sines and zeros, and zeros, the sines and zeros. -/
theorem threeTerms_eq (y : Fin 1024 → EReal) (c s : Fin 16 → EReal) (C L H : Fin 128 → EReal)
    (hC : ∀ l : Fin 128, C l = if h : l.val < 16 then c ⟨l.val, h⟩ else if h' : l.val < 32 then c ⟨l.val - 16, by omega⟩ else 1)
    (hL : ∀ l : Fin 128, L l = if h : l.val < 16 then -s ⟨l.val, h⟩ else 0)
    (hH : ∀ l : Fin 128, H l = if h : l.val < 16 then 0 else if h' : l.val < 32 then s ⟨l.val - 16, by omega⟩ else 0)
    (j : Fin 1024) : threeTerms y C L H j = turned y c s j := by
  have hj := j.isLt
  unfold threeTerms turned
  rw [hC, hL, hH]
  by_cases h : j.val % 128 < 16
  · simp only [h, ↓reduceDIte, mul_zero, add_zero, mul_neg, sub_eq_add_neg]
    have e : (⟨j.val / 128 * 128 + (j.val % 128 + 16) % 128, by omega⟩ : Fin 1024) = ⟨j.val + 16, by omega⟩ := Fin.ext (by dsimp only; omega)
    rw [e]
  · by_cases h' : j.val % 128 < 32
    · simp only [h, h', ↓reduceDIte, mul_zero, add_zero]
      have e : (⟨j.val / 128 * 128 + (j.val % 128 + 112) % 128, by omega⟩ : Fin 1024) = ⟨j.val - 16, by omega⟩ := Fin.ext (by dsimp only; omega)
      rw [e]
    · simp only [h, h', ↓reduceDIte, mul_zero, add_zero, mul_one]

end Cert.Rope

end
-- ==== Proof.KvPPure.lean ====
/-
  What one row tile of the key and value call for the prompt holds after its body, element by element.
-/
module

public import proofs.«01_k».proof.Proof.RopeMath
public import proofs.«01_k».proof.Proof.Gen.KvPIdeal.Value
public import Idealize.ShloMosaic.Lib.Pipeline.ValueKit

@[expose] public section

set_option maxRecDepth 16384

noncomputable section

open Idealize.ShloMosaic Idealize.ShloMosaic.TcCoe Idealize.SL.Sem

namespace Cert.KvPIdeal.Pure

open Cert.KvPIdeal Cert.KvPIdeal.Gen Cert.Ffn Cert.Rope

/-- The projected rows before the rotation. -/
theorem proj_at (v0 : FVec Ideal S256x1024 .f32) (v2 : FVec Ideal S1x1024 .f32) (v17 : FVec Ideal S1024x1024 .bf16)
    (r : Fin 256) (j : Fin 1024) : k0_pay7 (F := Ideal) v0 v2 v17 (ix2 r j)
      = projected (fun k => v0 (ix2 r k)) (fun k => v2 (ix2 0 k)) (fun k j => v17 (ix2 k j)) j := by
  pointwise [k0_pay7, k0_pay6, projected, normed]

/-- The eight heads side by side, each turned as three products. -/
theorem heads (v0 : FVec Ideal S256x1024 .f32) (v2 : FVec Ideal S1x1024 .f32) (v17 : FVec Ideal S1024x1024 .bf16)
    (C L H : FVec Ideal S256x128 .f32) (r : Fin 256) (j : Fin 1024) :
    k0_pay1 (F := Ideal) (k0_pay10 H) (k0_pay11 v0 v2 v17 C L H) (k0_pay16 (k0_pay10 H) (k0_pay13 v0 v2 v17) (k0_pay14 v0 v2 v17 C) (k0_pay15 v0 v2 v17 L))
      (k0_pay17 (k0_pay7 v0 v2 v17) (k0_pay8 C) (k0_pay9 L) (k0_pay10 H))
      (k0_pay18 (k0_pay7 v0 v2 v17) (k0_pay8 C) (k0_pay9 L) (k0_pay10 H))
      (k0_pay19 (k0_pay7 v0 v2 v17) (k0_pay8 C) (k0_pay9 L) (k0_pay10 H))
      (k0_pay20 (k0_pay7 v0 v2 v17) (k0_pay8 C) (k0_pay9 L) (k0_pay10 H))
      (k0_pay21 (k0_pay7 v0 v2 v17) (k0_pay8 C) (k0_pay9 L) (k0_pay10 H))
      (k0_pay23 (k0_pay7 v0 v2 v17)) (k0_pay24 (k0_pay7 v0 v2 v17) (k0_pay8 C)) (k0_pay25 (k0_pay7 v0 v2 v17) (k0_pay9 L)) (ix2 r j)
    = threeTerms (fun j => k0_pay7 (F := Ideal) v0 v2 v17 (ix2 r j)) (fun l => C (ix2 r l)) (fun l => L (ix2 r l)) (fun l => H (ix2 r l)) j := by
  have hj := j.isLt
  generalize hE : k0_pay7 (F := Ideal) v0 v2 v17 = E
  simp only [k0_pay11, k0_pay12, k0_pay13, k0_pay14, k0_pay15, hE]
  pointwise [k0_pay1, k0_pay8, k0_pay9, k0_pay10, k0_pay16, k0_pay17, k0_pay18, k0_pay19, k0_pay20, k0_pay21, k0_pay22, k0_pay23, k0_pay24, k0_pay25]
  split_ifs <;>
    exact threeTerms_of (fun j => E (ix2 r j)) (fun l => C (ix2 r l)) (fun l => L (ix2 r l)) (fun l => H (ix2 r l)) j _ _ _ _ _ _
      (by first | omega | (dsimp only; omega)) (by first | omega | (dsimp only; omega)) (by first | omega | (dsimp only; omega))
      (by first | omega | (dsimp only; omega)) (by first | omega | (dsimp only; omega)) (by first | omega | (dsimp only; omega))

/-- The first result's tile: the projected row turned. -/
theorem out_k (x0 : FVec Ideal S256x1024 .f32) (x1 : FVec Ideal S1x1024 .f32) (x2 : FVec Ideal S1024x2048 .bf16)
    (x3 x4 x5 : FVec Ideal S256x128 .f32) (r : Fin 256) (j : Fin 1024) : out0_6 (F := Ideal) x0 x1 x2 x3 x4 x5 (ix2 r j)
    = threeTerms (projected (fun k => x0 (ix2 r k)) (fun k => x1 (ix2 0 k)) (fun k j => x2 (ix2 k ⟨j.val, by omega⟩)))
       (fun l => x3 (ix2 r l)) (fun l => x4 (ix2 r l)) (fun l => x5 (ix2 r l)) j := by
  frame_out
  simp only [k0_pay26, k0_pay27, k0_pay28, k0_pay29, k0_pay30, k0_pay31, k0_pay32, k0_pay33, k0_pay34, k0_pay35, k0_pay36, k0_pay37, k0_pay38, k0_pay39, k0_pay40]
  frame_out
  refine (heads _ _ _ _ _ _ r j).trans ?_
  simp only [proj_at]
  pointwise []

/-- The second result's tile: the projected row, its columns the second half of the weights'. -/
theorem out_v (x0 : FVec Ideal S256x1024 .f32) (x1 : FVec Ideal S1x1024 .f32) (x2 : FVec Ideal S1024x2048 .bf16)
    (x3 x4 x5 : FVec Ideal S256x128 .f32) (r : Fin 256) (j : Fin 1024) : out0_7 (F := Ideal) x0 x1 x2 x3 x4 x5 (ix2 r j)
    = projected (fun k => x0 (ix2 r k)) (fun k => x1 (ix2 0 k)) (fun k j => x2 (ix2 k ⟨1024 + j.val, by omega⟩)) j := by
  frame_out
  unfold k0_pay26
  frame_out
  pointwise [k0_pay2, k0_pay6, projected, normed]

/-- The third result's tile: the mean of the turned rows. -/
theorem out_m (x0 : FVec Ideal S256x1024 .f32) (x1 : FVec Ideal S1x1024 .f32) (x2 : FVec Ideal S1024x2048 .bf16)
    (x3 x4 x5 : FVec Ideal S256x128 .f32) (j : Fin 1024) : out0_8 (F := Ideal) x0 x1 x2 x3 x4 x5 (ix3 0 0 j)
    = (∑ r : Fin 256, threeTerms (projected (fun k => x0 (ix2 r k)) (fun k => x1 (ix2 0 k)) (fun k j => x2 (ix2 k ⟨j.val, by omega⟩)))
       (fun l => x3 (ix2 r l)) (fun l => x4 (ix2 r l)) (fun l => x5 (ix2 r l)) j) * Ideal.ofBits .f32 0x3B800000#32 := by
  frame_out
  simp only [k0_pay26, k0_pay27, k0_pay28, k0_pay29, k0_pay30, k0_pay31, k0_pay32, k0_pay33, k0_pay34, k0_pay35, k0_pay36, k0_pay37, k0_pay38, k0_pay39, k0_pay40]
  frame_out
  have e : ∀ (a0 a1 a2 a3 a4 a5 a6 a7 a8 a9 a10 : FVec Ideal S256x128 .f32) (j : Fin 1024),
      k0_pay3 (F := Ideal) a0 a1 a2 a3 a4 a5 a6 a7 a8 a9 a10 (ix3 0 0 j)
        = (∑ r : Fin 256, k0_pay1 (F := Ideal) a0 a1 a2 a3 a4 a5 a6 a7 a8 a9 a10 (ix2 r j)) * Ideal.ofBits .f32 0x3B800000#32 := by
    intro a0 a1 a2 a3 a4 a5 a6 a7 a8 a9 a10 j
    generalize hq : k0_pay1 (F := Ideal) a0 a1 a2 a3 a4 a5 a6 a7 a8 a9 a10 = q
    simp only [k0_pay3, hq]
    pointwise []
  rw [e]
  refine congrArg₂ (· * ·) (Finset.sum_congr rfl fun r _ => (heads _ _ _ _ _ _ r j).trans ?_) rfl
  simp only [proj_at]
  pointwise []

end Cert.KvPIdeal.Pure

end
-- ==== Proof.KvPRefValue.lean ====
/-
  The result arrays of the key and value call of the prompt are the layer's own terms of its arguments, as the plain reference
  computes them.
-/
module

public import proofs.«01_k».proof.Proof.KvPPure
public import proofs.«01_k».proof.Proof.Gen.KvPRefIdeal.Run

@[expose] public section

set_option maxRecDepth 16384

noncomputable section

open Idealize.ShloMosaic Idealize.ShloMosaic.TcCoe Idealize.SL.Sem
open Idealize.ShloMosaic.Pipeline (Dat)

namespace Cert.KvPRefIdeal.Layer

open Cert.KvPRefIdeal Cert.KvPRefIdeal.Gen Cert.Ffn Cert.Rope

/-- The normalised rows against the weights, as the reference computes them. -/
def PROJ (h : FVec Ideal S4x4096x1024 .f32) (g : FVec Ideal S1024 .f32) (w : FVec Ideal S1024x2048 .f32) : FVec Ideal S4x4096x2048 .f32 :=
  Host.dotGeneral dot_S4x4096x1024_S1024x2048_S4x4096x2048_2_0_01_1_n_n none (mulf (mulf h (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf h h) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) w

/-- The sixteen frequencies. -/
def FREQ : FVec Ideal S16 .f32 := Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32)))

/-- The positions. -/
def POS : FVec Ideal S4096 .f32 := sitofp .f32 (iotaInDim S4096 32 0)

/-- The angle of each position and frequency. -/
def ANG : FVec Ideal S4096x16 .f32 := mulf (broadcastInDim S4096x16 ![0, 1] bcast_S4096x1_S4096x16_0_1 (broadcastInDim S4096x1 ![0] bcast_S4096_S4096x1_0 POS)) (broadcastInDim S4096x16 ![0, 1] bcast_S1x16_S4096x16_0_1 (broadcastInDim S1x16 ![1] bcast_S16_S1x16_1 FREQ))

/-- Every head turned, as the reference computes it. -/
def TURN (y : FVec Ideal S4x4096x8x128 .f32) (C S : FVec Ideal S4096x16 .f32) : FVec Ideal S4x4096x8x128 .f32 :=
  concatenate S4x4096x8x128 3 [⟨S4x4096x8x32, (concatenate S4x4096x8x32 3 [⟨S4x4096x8x16, (subf (mulf (extractStridedSlice S4x4096x8x16 ![0, 0, 0, 0] (extractStridedSlice S4x4096x8x32 ![0, 0, 0, 0] y slices_S4x4096x8x128_S4x4096x8x32_0_0_0_0) slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 C))) (mulf (extractStridedSlice S4x4096x8x16 ![0, 0, 0, 16] (extractStridedSlice S4x4096x8x32 ![0, 0, 0, 0] y slices_S4x4096x8x128_S4x4096x8x32_0_0_0_0) slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 S))))⟩, ⟨S4x4096x8x16, (addf (mulf (extractStridedSlice S4x4096x8x16 ![0, 0, 0, 16] (extractStridedSlice S4x4096x8x32 ![0, 0, 0, 0] y slices_S4x4096x8x128_S4x4096x8x32_0_0_0_0) slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 C))) (mulf (extractStridedSlice S4x4096x8x16 ![0, 0, 0, 0] (extractStridedSlice S4x4096x8x32 ![0, 0, 0, 0] y slices_S4x4096x8x128_S4x4096x8x32_0_0_0_0) slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 S))))⟩] concatenates_S4x4096x8x16_S4x4096x8x16_S4x4096x8x32_d3)⟩, ⟨S4x4096x8x96, (extractStridedSlice S4x4096x8x96 ![0, 0, 0, 32] y slices_S4x4096x8x128_S4x4096x8x96_0_0_0_32)⟩] concatenates_S4x4096x8x32_S4x4096x8x96_S4x4096x8x128_d3

/-- The heads turned. -/
def HEADS (h : FVec Ideal S4x4096x1024 .f32) (g : FVec Ideal S1024 .f32) (w : FVec Ideal S1024x2048 .f32) : FVec Ideal S4x4096x8x128 .f32 := shapeCast _ (extractStridedSlice S4x4096x1x8x128 ![0, 0, 0, 0, 0] (shapeCast _ (PROJ h g w) shapeCasts_S4x4096x2048_S4x4096x2x8x128) slices_S4x4096x2x8x128_S4x4096x1x8x128_0_0_0_0_0) shapeCasts_S4x4096x1x8x128_S4x4096x8x128

/-- The turned rows. -/
def TURNED (h : FVec Ideal S4x4096x1024 .f32) (g : FVec Ideal S1024 .f32) (w : FVec Ideal S1024x2048 .f32) : FVec Ideal S4x4096x8x128 .f32 := TURN (HEADS h g w) (Host.cos ANG) (Host.sin ANG)

/-- What the reference computes of its arguments: the turned rows, a row for a token. -/
def REF (h : FVec Ideal S4x4096x1024 .f32) (g : FVec Ideal S1024 .f32) (w : FVec Ideal S1024x2048 .f32) : FVec Ideal S16384x1024 .f32 := shapeCast _ (TURNED h g w) shapeCasts_S4x4096x8x128_S16384x1024

theorem PROJ_at (h : FVec Ideal S4x4096x1024 .f32) (g : FVec Ideal S1024 .f32) (w : FVec Ideal S1024x2048 .f32) (n : Fin 4) (l : Fin 4096) (j : Fin 2048) : PROJ h g w (ix3 n l j)
    = projected (fun k => h (ix3 n l k)) (fun k => g (ix1 k)) (fun k j => w (ix2 k j)) j := by
  pointwise [PROJ, projected, normed]

theorem HEADS_at (h : FVec Ideal S4x4096x1024 .f32) (g : FVec Ideal S1024 .f32) (w : FVec Ideal S1024x2048 .f32) (n : Fin 4) (l : Fin 4096) (j : Fin 1024) : HEADS h g w (ix4 n l ⟨j.val / 128, by omega⟩ ⟨j.val % 128, by omega⟩)
    = projected (fun k => h (ix3 n l k)) (fun k => g (ix1 k)) (fun k j => w (ix2 k ⟨j.val, by omega⟩)) j := by
  have e : HEADS h g w (ix4 n l ⟨j.val / 128, by omega⟩ ⟨j.val % 128, by omega⟩) = PROJ h g w (ix3 n l ⟨j.val, by omega⟩) := by
    pointwise [HEADS]
    simp only [Nat.div_add_mod']
  rw [e, PROJ_at]
  rfl

theorem TURN_at (y : FVec Ideal S4x4096x8x128 .f32) (C S : FVec Ideal S4096x16 .f32) (n : Fin 4) (l : Fin 4096) (j : Fin 1024) :
    TURN y C S (ix4 n l ⟨j.val / 128, by omega⟩ ⟨j.val % 128, by omega⟩)
      = turned (fun j => y (ix4 n l ⟨j.val / 128, by omega⟩ ⟨j.val % 128, by omega⟩)) (fun p => C (ix2 l p)) (fun p => S (ix2 l p)) j := by
  have hj := j.isLt
  have e1 : ∀ h : j.val % 128 < 16, (j.val + 16) / 128 = j.val / 128 := fun h => by omega
  have e2 : ∀ h : j.val % 128 < 16, (j.val + 16) % 128 = j.val % 128 + 16 := fun h => by omega
  have e3 : ∀ h : ¬ j.val % 128 < 16, (j.val - 16) / 128 = j.val / 128 := fun h => by omega
  have e4 : ∀ h : ¬ j.val % 128 < 16, (j.val - 16) % 128 = j.val % 128 - 16 := fun h => by omega
  unfold turned
  by_cases h : j.val % 128 < 16
  · have h32 : j.val % 128 < 32 := by omega
    simp only [h, ↓reduceDIte, e1 h, e2 h]
    pointwise [TURN]
    simp only [h, h32, ↓reduceDIte, Nat.add_comm 16]
  · by_cases h' : j.val % 128 < 32
    · simp only [h, h', ↓reduceDIte, e3 h, e4 h]
      pointwise [TURN]
      have e5 : 16 + (j.val % 128 - 16) = j.val % 128 := by omega
      simp only [h, h', ↓reduceDIte, e5]
    · simp only [h, h', ↓reduceDIte]
      pointwise [TURN]
      have e5 : 32 + (j.val % 128 - 32) = j.val % 128 := by omega
      simp only [h', ↓reduceDIte, e5]

theorem REF_at (h : FVec Ideal S4x4096x1024 .f32) (g : FVec Ideal S1024 .f32) (w : FVec Ideal S1024x2048 .f32) (q : Fin 16384) (j : Fin 1024) : REF h g w (ix2 q j)
    = turned (projected (fun k => h (ix3 ⟨q.val / 4096, by omega⟩ ⟨q.val % 4096, by omega⟩ k)) (fun k => g (ix1 k)) (fun k j => w (ix2 k ⟨j.val, by omega⟩)))
      (fun p => Ideal.cos (ANG (ix2 ⟨q.val % 4096, by omega⟩ p))) (fun p => Ideal.sin (ANG (ix2 ⟨q.val % 4096, by omega⟩ p))) j := by
  have hj := j.isLt
  have e : REF h g w (ix2 q j) = TURNED h g w (ix4 ⟨q.val / 4096, by omega⟩ ⟨q.val % 4096, by omega⟩ ⟨j.val / 128, by omega⟩ ⟨j.val % 128, by omega⟩) := by
    pointwise [REF]
  rw [e]
  unfold TURNED
  rw [TURN_at]
  simp only [HEADS_at]
  rfl

/-- The reference's first result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := rfl

/-- The second result: the values, a row for a token. -/
def VAL (h : FVec Ideal S4x4096x1024 .f32) (g : FVec Ideal S1024 .f32) (w : FVec Ideal S1024x2048 .f32) : FVec Ideal S16384x1024 .f32 := shapeCast _ (shapeCast _ (extractStridedSlice S4x4096x1x8x128 ![0, 0, 1, 0, 0] (shapeCast _ (PROJ h g w) shapeCasts_S4x4096x2048_S4x4096x2x8x128) slices_S4x4096x2x8x128_S4x4096x1x8x128_0_0_1_0_0) shapeCasts_S4x4096x1x8x128_S4x4096x8x128) shapeCasts_S4x4096x8x128_S16384x1024

theorem VAL_at (h : FVec Ideal S4x4096x1024 .f32) (g : FVec Ideal S1024 .f32) (w : FVec Ideal S1024x2048 .f32) (q : Fin 16384) (j : Fin 1024) : VAL h g w (ix2 q j)
    = projected (fun k => h (ix3 ⟨q.val / 4096, by omega⟩ ⟨q.val % 4096, by omega⟩ k)) (fun k => g (ix1 k)) (fun k j => w (ix2 k ⟨1024 + j.val, by omega⟩)) j := by
  have hj := j.isLt
  have e : VAL h g w (ix2 q j) = PROJ h g w (ix3 ⟨q.val / 4096, by omega⟩ ⟨q.val % 4096, by omega⟩ ⟨1024 + j.val, by omega⟩) := by
    pointwise [VAL]
    simp only [Nat.add_assoc, Nat.div_add_mod']
  rw [e, PROJ_at]
  rfl

/-- The third result: the mean of the turned rows of every 256 tokens. -/
def MEANS (h : FVec Ideal S4x4096x1024 .f32) (g : FVec Ideal S1024 .f32) (w : FVec Ideal S1024x2048 .f32) : FVec Ideal S64x1x1024 .f32 := shapeCast _ (Host.divf (Host.reduceAdd (shapeCast _ (TURNED h g w) shapeCasts_S4x4096x8x128_S4x16x256x8x128) (constant S_ .f32 0x00000000#32) reducesTo_S4x16x256x8x128_S4x16x8x128_d2 h_S_) (broadcastInDim S4x16x8x128 ![] bcast_S_S4x16x8x128 (constant S_ .f32 0x43800000#32))) shapeCasts_S4x16x8x128_S64x1x1024

theorem MEANS_at (h : FVec Ideal S4x4096x1024 .f32) (g : FVec Ideal S1024 .f32) (w : FVec Ideal S1024x2048 .f32) (b : Fin 64) (j : Fin 1024) : MEANS h g w (ix3 b 0 j)
    = Ideal.div (∑ r : Fin 256, REF h g w (ix2 ⟨b.val * 256 + r.val, by omega⟩ j)) (Ideal.ofBits .f32 0x43800000#32) := by
  have hj := j.isLt
  unfold REF MEANS
  generalize TURNED h g w = Z
  have e1 : ∀ r : Fin 256, (b.val * 256 + r.val) / 4096 = b.val / 16 := fun r => by omega
  have e2 : ∀ r : Fin 256, (b.val * 256 + r.val) % 4096 = b.val % 16 * 256 + r.val := fun r => by omega
  pointwise []
  simp only [e1, e2]

theorem res_means (m : (ℓ : Loc nD τ sig) → Buf (Elt Ideal) ℓ) (c : Dev nD) :
    Value.res_main_v59 m c = MEANS (m ((c.tc : Thread nD τ).loc main_arg0)) (m ((c.tc : Thread nD τ).loc main_arg1)) (m ((c.tc : Thread nD τ).loc main_arg2)) := rfl

end Cert.KvPRefIdeal.Layer

end
-- ==== Proof.KvPValue.lean ====
/-
  The result arrays of the key and value call of the prompt are the reference's, index by index.
-/
module

public import proofs.«01_k».proof.Proof.KvPRefValue

@[expose] public section

set_option maxRecDepth 16384

noncomputable section

open Idealize.ShloMosaic Idealize.ShloMosaic.TcCoe Idealize.SL.Sem
open Idealize.ShloMosaic.Pipeline (Dat)

namespace Cert.KvPIdeal.Layer

open Cert.KvPIdeal Cert.KvPIdeal.Gen Cert.KvPIdeal.Pure Cert.Ffn Cert.Rope
open Cert.KvPRefIdeal.Layer (ANG FREQ MEANS MEANS_at POS REF REF_at VAL VAL_at)

/-- The angles, as the host code before the call computes them. -/
def KANG : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32))))))

theorem KANG_at (a : Fin 4096) (p : Fin 16) : KANG (ix2 a p) = ANG (ix2 a p) := by
  pointwise [KANG, ANG, POS, FREQ]

/-- The lanes' cosines: those of the sixteen angles twice, then ones. -/
def TC : FVec Ideal S4096x128 .f32 :=
  concatenate S4096x128 1 [⟨S4096x16, Host.cos KANG⟩, ⟨S4096x16, Host.cos KANG⟩, ⟨S4096x96, broadcastInDim S4096x96 ![] bcast_S_S4096x96 (constant S_ .f32 0x3F800000#32)⟩] concatenates_S4096x16_S4096x16_S4096x96_S4096x128_d1

/-- The factors of the lane sixteen places on: the negated sines, then zeros. -/
def TL : FVec Ideal S4096x128 .f32 :=
  concatenate S4096x128 1 [⟨S4096x16, Host.negf (Host.sin KANG)⟩, ⟨S4096x112, broadcastInDim S4096x112 ![] bcast_S_S4096x112 (constant S_ .f32 0x00000000#32)⟩] concatenates_S4096x16_S4096x112_S4096x128_d1

/-- The factors of the lane sixteen places back: zeros, the sines, then zeros. -/
def TH : FVec Ideal S4096x128 .f32 :=
  concatenate S4096x128 1 [⟨S4096x16, broadcastInDim S4096x16 ![] bcast_S_S4096x16 (constant S_ .f32 0x00000000#32)⟩, ⟨S4096x16, Host.sin KANG⟩, ⟨S4096x96, broadcastInDim S4096x96 ![] bcast_S_S4096x96 (constant S_ .f32 0x00000000#32)⟩] concatenates_S4096x16_S4096x16_S4096x96_S4096x128_d1

theorem TC_at (a : Fin 4096) (l : Fin 128) : TC (ix2 a l) = if h : l.val < 16 then Ideal.cos (ANG (ix2 a ⟨l.val, h⟩))
    else if h' : l.val < 32 then Ideal.cos (ANG (ix2 a ⟨l.val - 16, by omega⟩)) else 1 := by
  simp only [← KANG_at a]
  generalize hK : KANG = Z
  pointwise [TC, hK]
  have e : (l.val - 16 < 16) = (l.val < 32) := propext (by omega)
  simp only [e]

theorem TL_at (a : Fin 4096) (l : Fin 128) : TL (ix2 a l) = if h : l.val < 16 then -Ideal.sin (ANG (ix2 a ⟨l.val, h⟩)) else 0 := by
  simp only [← KANG_at a]
  generalize hK : KANG = Z
  pointwise [TL, hK]

theorem TH_at (a : Fin 4096) (l : Fin 128) : TH (ix2 a l) = if h : l.val < 16 then 0
    else if h' : l.val < 32 then Ideal.sin (ANG (ix2 a ⟨l.val - 16, by omega⟩)) else 0 := by
  simp only [← KANG_at a]
  generalize hK : KANG = Z
  pointwise [TH, hK]
  have e : (l.val - 16 < 16) = (l.val < 32) := propext (by omega)
  simp only [e]

variable (m : (ℓ : Loc nD τ sig) → Buf (Elt Ideal) ℓ)

theorem V_v24 (c : Dev nD) : (V m c main_v24 : S16384x1024.Idx → EReal) = (shapeCast S16384x1024 (α := EReal) (m ((c : Thread nD τ).loc main_arg0)) shapeCasts_S4x4096x1024_S16384x1024) := by
  unfold V
  simp only [List.flatten_cons, List.flatten_nil, List.append_nil, List.cons_append, List.nil_append, hostOps0]
  after_results
  rfl

theorem V_v25 (c : Dev nD) : (V m c main_v25 : S1024x2048.Idx → EReal) = (truncf (F := Ideal) .bf16 (m ((c : Thread nD τ).loc main_arg2)) bitsLt_bf16_f32) := by
  unfold V
  simp only [List.flatten_cons, List.flatten_nil, List.append_nil, List.cons_append, List.nil_append, hostOps0]
  after_results

theorem V_v26 (c : Dev nD) : (V m c main_v26 : S1x1024.Idx → EReal) = (shapeCast S1x1024 (α := EReal) (m ((c : Thread nD τ).loc main_arg1)) shapeCasts_S1024_S1x1024) := by
  unfold V
  simp only [List.flatten_cons, List.flatten_nil, List.append_nil, List.cons_append, List.nil_append, hostOps0]
  after_results
  rfl

theorem V_v18 (c : Dev nD) : (V m c main_v18 : S4096x128.Idx → EReal) = TC := by
  unfold V
  simp only [List.flatten_cons, List.flatten_nil, List.append_nil, List.cons_append, List.nil_append, hostOps0]
  after_results
  rfl

theorem V_v20 (c : Dev nD) : (V m c main_v20 : S4096x128.Idx → EReal) = TL := by
  unfold V
  simp only [List.flatten_cons, List.flatten_nil, List.append_nil, List.cons_append, List.nil_append, hostOps0]
  after_results
  rfl

theorem V_v23 (c : Dev nD) : (V m c main_v23 : S4096x128.Idx → EReal) = TH := by
  unfold V
  simp only [List.flatten_cons, List.flatten_nil, List.append_nil, List.cons_append, List.nil_append, hostOps0]
  after_results
  rfl

/-- Where each window's block lies at grid point `t`. -/
theorem idx : ∀ t : Fin cfg0.N, win0_0.index t = ![t.val, 0]
    ∧ win0_1.index t = ![0, 0]
    ∧ win0_2.index t = ![0, 0]
    ∧ win0_3.index t = ![t.val % 16, 0]
    ∧ win0_4.index t = ![t.val % 16, 0]
    ∧ win0_5.index t = ![t.val % 16, 0]
    ∧ win0_6.index t = ![t.val, 0]
    ∧ win0_7.index t = ![t.val, 0]
    ∧ win0_8.index t = ![t.val, 0, 0] :=
  (by decide +kernel : ∀ t : Fin grid0.N, _)

theorem rows_read (X : S16384x1024.Idx → EReal) (t : Fin cfg0.N) (r : Fin 256) (q : Fin 16384) (hq : q.val = t.val * 256 + r.val) (k : Fin 1024) :
    View.read (Elt Ideal) ((cfg0.win 0).blk t).view X (ix2 r k) = X (ix2 q k) := by
  have ht : t.val < 64 := t.isLt
  blk_point [idx t]

theorem gain_read (X : S1x1024.Idx → EReal) (t : Fin cfg0.N) (k : Fin 1024) :
    View.read (Elt Ideal) ((cfg0.win 1).blk t).view X (ix2 0 k) = X (ix2 0 k) := by
  blk_point [idx t]

theorem weight_read (X : S1024x2048.Idx → EReal) (t : Fin cfg0.N) (k : Fin 1024) (j : Fin 2048) :
    View.read (Elt Ideal) ((cfg0.win 2).blk t).view X (ix2 k j) = X (ix2 k j) := by
  blk_point [idx t]

theorem cos_read (X : S4096x128.Idx → EReal) (t : Fin cfg0.N) (r : Fin 256) (q : Fin 16384) (hq : q.val = t.val * 256 + r.val) (l : Fin 128) :
    View.read (Elt Ideal) ((cfg0.win 3).blk t).view X (ix2 r l) = X (ix2 ⟨q.val % 4096, by omega⟩ l) := by
  have ht : t.val < 64 := t.isLt
  blk_point [idx t]

theorem low_read (X : S4096x128.Idx → EReal) (t : Fin cfg0.N) (r : Fin 256) (q : Fin 16384) (hq : q.val = t.val * 256 + r.val) (l : Fin 128) :
    View.read (Elt Ideal) ((cfg0.win 4).blk t).view X (ix2 r l) = X (ix2 ⟨q.val % 4096, by omega⟩ l) := by
  have ht : t.val < 64 := t.isLt
  blk_point [idx t]

theorem high_read (X : S4096x128.Idx → EReal) (t : Fin cfg0.N) (r : Fin 256) (q : Fin 16384) (hq : q.val = t.val * 256 + r.val) (l : Fin 128) :
    View.read (Elt Ideal) ((cfg0.win 5).blk t).view X (ix2 r l) = X (ix2 ⟨q.val % 4096, by omega⟩ l) := by
  have ht : t.val < 64 := t.isLt
  blk_point [idx t]

theorem cast_at (X : S4x4096x1024.Idx → EReal) (q : Fin 16384) (k : Fin 1024) :
    shapeCast S16384x1024 (α := EReal) X shapeCasts_S4x4096x1024_S16384x1024 (ix2 q k) = X (ix3 ⟨q.val / 4096, by omega⟩ ⟨q.val % 4096, by omega⟩ k) := by
  pointwise []

theorem rows_at (c : Dev nD) (t : Fin cfg0.N) (r : Fin 256) (q : Fin 16384) (hq : q.val = t.val * 256 + r.val) (k : Fin 1024) :
    iblk m c 0 t (ix2 r k) = (m ((c : Thread nD τ).loc main_arg0)) (ix3 ⟨q.val / 4096, by omega⟩ ⟨q.val % 4096, by omega⟩ k) := by
  refine (rows_read (V m c main_v24) t r q hq k).trans ?_
  rw [V_v24]
  exact cast_at _ q k

theorem gain_at (c : Dev nD) (t : Fin cfg0.N) (k : Fin 1024) : iblk m c 1 t (ix2 (0 : Fin 1) k) = (m ((c : Thread nD τ).loc main_arg1)) (ix1 k) := by
  refine (gain_read (V m c main_v26) t k).trans ?_
  rw [V_v26]
  pointwise []

theorem weight_at (c : Dev nD) (t : Fin cfg0.N) (k : Fin 1024) (j : Fin 2048) : iblk m c 2 t (ix2 k j) = (m ((c : Thread nD τ).loc main_arg2)) (ix2 k j) := by
  refine (weight_read (V m c main_v25) t k j).trans ?_
  rw [V_v25]
  pointwise []

/-- A row of a tile, turned: the reference's row. -/
theorem turned_row (c : Dev nD) (t : Fin cfg0.N) (r : Fin 256) (j : Fin 1024) (q : Fin 16384) (hq : q.val = t.val * 256 + r.val) :
    threeTerms (projected (fun k => iblk m c 0 t (ix2 r k)) (fun k => iblk m c 1 t (ix2 (0 : Fin 1) k)) (fun k j => iblk m c 2 t (ix2 k (⟨j.val, by omega⟩ : Fin 2048))))
      (fun l => iblk m c 3 t (ix2 r l)) (fun l => iblk m c 4 t (ix2 r l)) (fun l => iblk m c 5 t (ix2 r l)) j = REF (m ((c : Thread nD τ).loc main_arg0)) (m ((c : Thread nD τ).loc main_arg1)) (m ((c : Thread nD τ).loc main_arg2)) (ix2 q j) := by
  rw [REF_at]
  have hx : (fun k : Fin 1024 => iblk m c 0 t (ix2 r k)) = fun k => (m ((c : Thread nD τ).loc main_arg0)) (ix3 ⟨q.val / 4096, by omega⟩ ⟨q.val % 4096, by omega⟩ k) := funext fun k => rows_at m c t r q hq k
  have hg : (fun k : Fin 1024 => iblk m c 1 t (ix2 (0 : Fin 1) k)) = fun k => (m ((c : Thread nD τ).loc main_arg1)) (ix1 k) := funext fun k => gain_at m c t k
  have hw : (fun (k : Fin 1024) (j : Fin 1024) => iblk m c 2 t (ix2 k (⟨j.val, by omega⟩ : Fin 2048))) = fun k j => (m ((c : Thread nD τ).loc main_arg2)) (ix2 k ⟨j.val, by omega⟩) := funext fun k => funext fun j => weight_at m c t k _
  rw [hx, hg, hw]
  refine threeTerms_eq _ _ _ _ _ _ (fun l => ?_) (fun l => ?_) (fun l => ?_) j
  · refine (cos_read (V m c main_v18) t r q hq l).trans ?_
    rw [V_v18]
    exact TC_at _ l
  · refine (low_read (V m c main_v20) t r q hq l).trans ?_
    rw [V_v20]
    exact TL_at _ l
  · refine (high_read (V m c main_v23) t r q hq l).trans ?_
    rw [V_v23]
    exact TH_at _ l

theorem point_k (c : Dev nD) (t : Fin cfg0.N) (r : Fin 256) (j : Fin 1024) (q : Fin 16384) (hq : q.val = t.val * 256 + r.val) :
    out0_6 (F := Ideal) (iblk m c 0 t) (iblk m c 1 t) (iblk m c 2 t) (iblk m c 3 t) (iblk m c 4 t) (iblk m c 5 t) (ix2 r j) = REF (m ((c : Thread nD τ).loc main_arg0)) (m ((c : Thread nD τ).loc main_arg1)) (m ((c : Thread nD τ).loc main_arg2)) (ix2 q j) :=
  (out_k _ _ _ _ _ _ r j).trans (turned_row m c t r j q hq)

theorem point_v (c : Dev nD) (t : Fin cfg0.N) (r : Fin 256) (j : Fin 1024) (q : Fin 16384) (hq : q.val = t.val * 256 + r.val) :
    out0_7 (F := Ideal) (iblk m c 0 t) (iblk m c 1 t) (iblk m c 2 t) (iblk m c 3 t) (iblk m c 4 t) (iblk m c 5 t) (ix2 r j) = VAL (m ((c : Thread nD τ).loc main_arg0)) (m ((c : Thread nD τ).loc main_arg1)) (m ((c : Thread nD τ).loc main_arg2)) (ix2 q j) := by
  rw [VAL_at]
  refine (out_v _ _ _ _ _ _ r j).trans ?_
  have hx : (fun k : Fin 1024 => iblk m c 0 t (ix2 r k)) = fun k => (m ((c : Thread nD τ).loc main_arg0)) (ix3 ⟨q.val / 4096, by omega⟩ ⟨q.val % 4096, by omega⟩ k) := funext fun k => rows_at m c t r q hq k
  have hg : (fun k : Fin 1024 => iblk m c 1 t (ix2 (0 : Fin 1) k)) = fun k => (m ((c : Thread nD τ).loc main_arg1)) (ix1 k) := funext fun k => gain_at m c t k
  have hw : (fun (k : Fin 1024) (j : Fin 1024) => iblk m c 2 t (ix2 k (⟨1024 + j.val, by omega⟩ : Fin 2048))) = fun k j => (m ((c : Thread nD τ).loc main_arg2)) (ix2 k ⟨1024 + j.val, by omega⟩) := funext fun k => funext fun j => weight_at m c t k _
  rw [hx, hg, hw]

/-- Multiplying by the reciprocal of 256 is dividing by 256. -/
theorem mean_eq (x : EReal) : x * Ideal.ofBits .f32 0x3B800000#32 = Ideal.div x (Ideal.ofBits .f32 0x43800000#32) := by
  have e1 : Ideal.ofBits .f32 0x3B800000#32 = ((1 / 256 : ℝ) : EReal) := by
    simp [Ideal.ofBits, Ideal.ieee, -EReal.coe_mul]; norm_num
  have e2 : Ideal.ofBits .f32 0x43800000#32 = ((256 : ℝ) : EReal) := by
    simp [Ideal.ofBits, Ideal.ieee, -EReal.coe_mul]; norm_num
  rw [e1, e2, Ideal.div_coe (by norm_num : (256 : ℝ) ≠ 0)]

theorem point_m (c : Dev nD) (t : Fin cfg0.N) (j : Fin 1024) (b : Fin 64) (hb : b.val = t.val) :
    out0_8 (F := Ideal) (iblk m c 0 t) (iblk m c 1 t) (iblk m c 2 t) (iblk m c 3 t) (iblk m c 4 t) (iblk m c 5 t) (ix3 0 0 j) = MEANS (m ((c : Thread nD τ).loc main_arg0)) (m ((c : Thread nD τ).loc main_arg1)) (m ((c : Thread nD τ).loc main_arg2)) (ix3 b 0 j) := by
  rw [MEANS_at, ← mean_eq]
  refine (out_m _ _ _ _ _ _ j).trans ?_
  refine congrArg (· * _) (Finset.sum_congr rfl fun r _ => ?_)
  exact turned_row m c t r j _ (by dsimp only; omega)

theorem final6 (c : Dev nD) : (dats m 0 c).arrAt 6 (cfgs 0).N = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  have ht : t.val < 64 := t.isLt
  have he : ((View.whole main_v27_0).slice (win0_6.rect t)).emb (ix2 y0 y1)
      = (ix2 (⟨t.val * 256 + y0.val, by omega⟩ : Fin 16384) y1 : S16384x1024.Idx) := by
    blk_ext [idx t]
  rw [he]
  exact point_k m c t y0 y1 _ rfl

theorem final7 (c : Dev nD) : (dats m 0 c).arrAt 7 (cfgs 0).N = VAL (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  have ht : t.val < 64 := t.isLt
  have he : ((View.whole main_v27_1).slice (win0_7.rect t)).emb (ix2 y0 y1)
      = (ix2 (⟨t.val * 256 + y0.val, by omega⟩ : Fin 16384) y1 : S16384x1024.Idx) := by
    blk_ext [idx t]
  rw [he]
  exact point_v m c t y0 y1 _ rfl

theorem final8 (c : Dev nD) : (dats m 0 c).arrAt 8 (cfgs 0).N = MEANS (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  obtain rfl : y0 = 0 := Subsingleton.elim _ _
  obtain rfl : y1 = 0 := Subsingleton.elim _ _
  have ht : t.val < 64 := t.isLt
  have he : ((View.whole main_v27_2).slice (win0_8.rect t)).emb (ix3 0 0 y2)
      = (ix3 (⟨t.val, by omega⟩ : Fin 64) 0 y2 : S64x1x1024.Idx) := by
    blk_ext [idx t]
  rw [he]
  exact point_m m c t y2 _ rfl

end Cert.KvPIdeal.Layer

end
-- ==== Proof.KvSPure.lean ====
/-
  What one row tile of the key and value call for the sampled tokens holds after its body, element by element.
-/
module

public import proofs.«01_k».proof.Proof.RopeMath
public import proofs.«01_k».proof.Proof.Gen.KvSIdeal.Value
public import Idealize.ShloMosaic.Lib.Pipeline.ValueKit

@[expose] public section

set_option maxRecDepth 16384

noncomputable section

open Idealize.ShloMosaic Idealize.ShloMosaic.TcCoe Idealize.SL.Sem

namespace Cert.KvSIdeal.Pure

open Cert.KvSIdeal Cert.KvSIdeal.Gen Cert.Ffn Cert.Rope

/-- The projected rows before the rotation. -/
theorem proj_at (v0 : FVec Ideal S32x1024 .f32) (v2 : FVec Ideal S1x1024 .f32) (v17 : FVec Ideal S1024x1024 .bf16)
    (r : Fin 32) (j : Fin 1024) : k0_pay4 (F := Ideal) v0 v2 v17 (ix2 r j)
      = projected (fun k => v0 (ix2 r k)) (fun k => v2 (ix2 0 k)) (fun k j => v17 (ix2 k j)) j := by
  pointwise [k0_pay4, k0_pay3, projected, normed]

/-- The eight heads side by side, each turned as three products. -/
theorem heads (v0 : FVec Ideal S32x1024 .f32) (v2 : FVec Ideal S1x1024 .f32) (v17 : FVec Ideal S1024x1024 .bf16)
    (C L H : FVec Ideal S32x128 .f32) (r : Fin 32) (j : Fin 1024) :
    k0_pay1 (F := Ideal) (k0_pay7 H) (k0_pay8 v0 v2 v17 C L H) (k0_pay13 (k0_pay7 H) (k0_pay10 v0 v2 v17) (k0_pay11 v0 v2 v17 C) (k0_pay12 v0 v2 v17 L))
      (k0_pay14 (k0_pay4 v0 v2 v17) (k0_pay5 C) (k0_pay6 L) (k0_pay7 H))
      (k0_pay15 (k0_pay4 v0 v2 v17) (k0_pay5 C) (k0_pay6 L) (k0_pay7 H))
      (k0_pay16 (k0_pay4 v0 v2 v17) (k0_pay5 C) (k0_pay6 L) (k0_pay7 H))
      (k0_pay17 (k0_pay4 v0 v2 v17) (k0_pay5 C) (k0_pay6 L) (k0_pay7 H))
      (k0_pay18 (k0_pay4 v0 v2 v17) (k0_pay5 C) (k0_pay6 L) (k0_pay7 H))
      (k0_pay20 (k0_pay4 v0 v2 v17)) (k0_pay21 (k0_pay4 v0 v2 v17) (k0_pay5 C)) (k0_pay22 (k0_pay4 v0 v2 v17) (k0_pay6 L)) (ix2 r j)
    = threeTerms (fun j => k0_pay4 (F := Ideal) v0 v2 v17 (ix2 r j)) (fun l => C (ix2 r l)) (fun l => L (ix2 r l)) (fun l => H (ix2 r l)) j := by
  have hj := j.isLt
  generalize hE : k0_pay4 (F := Ideal) v0 v2 v17 = E
  simp only [k0_pay8, k0_pay9, k0_pay10, k0_pay11, k0_pay12, hE]
  pointwise [k0_pay1, k0_pay5, k0_pay6, k0_pay7, k0_pay13, k0_pay14, k0_pay15, k0_pay16, k0_pay17, k0_pay18, k0_pay19, k0_pay20, k0_pay21, k0_pay22]
  split_ifs <;>
    exact threeTerms_of (fun j => E (ix2 r j)) (fun l => C (ix2 r l)) (fun l => L (ix2 r l)) (fun l => H (ix2 r l)) j _ _ _ _ _ _
      (by first | omega | (dsimp only; omega)) (by first | omega | (dsimp only; omega)) (by first | omega | (dsimp only; omega))
      (by first | omega | (dsimp only; omega)) (by first | omega | (dsimp only; omega)) (by first | omega | (dsimp only; omega))

/-- The first result's tile: the projected row turned. -/
theorem out_k (x0 : FVec Ideal S32x1024 .f32) (x1 : FVec Ideal S1x1024 .f32) (x2 : FVec Ideal S1024x2048 .bf16)
    (x3 x4 x5 : FVec Ideal S32x128 .f32) (r : Fin 32) (j : Fin 1024) : out0_6 (F := Ideal) x0 x1 x2 x3 x4 x5 (ix2 r j)
    = threeTerms (projected (fun k => x0 (ix2 r k)) (fun k => x1 (ix2 0 k)) (fun k j => x2 (ix2 k ⟨j.val, by omega⟩)))
       (fun l => x3 (ix2 r l)) (fun l => x4 (ix2 r l)) (fun l => x5 (ix2 r l)) j := by
  frame_out
  unfold k0_pay23 k0_pay24 k0_pay25 k0_pay26
  frame_out
  refine (heads _ _ _ _ _ _ r j).trans ?_
  simp only [proj_at]
  pointwise []

/-- The second result's tile: the projected row, its columns the second half of the weights'. -/
theorem out_v (x0 : FVec Ideal S32x1024 .f32) (x1 : FVec Ideal S1x1024 .f32) (x2 : FVec Ideal S1024x2048 .bf16)
    (x3 x4 x5 : FVec Ideal S32x128 .f32) (r : Fin 32) (j : Fin 1024) : out0_7 (F := Ideal) x0 x1 x2 x3 x4 x5 (ix2 r j)
    = projected (fun k => x0 (ix2 r k)) (fun k => x1 (ix2 0 k)) (fun k j => x2 (ix2 k ⟨1024 + j.val, by omega⟩)) j := by
  frame_out
  pointwise [k0_pay2, k0_pay3, projected, normed]

end Cert.KvSIdeal.Pure

end
-- ==== Proof.KvSRefValue.lean ====
/-
  The result arrays of the key and value call of the sampled tokens are the layer's own terms of its arguments, as the plain reference
  computes them.
-/
module

public import proofs.«01_k».proof.Proof.KvSPure
public import proofs.«01_k».proof.Proof.Gen.KvSRefIdeal.Run

@[expose] public section

set_option maxRecDepth 16384

noncomputable section

open Idealize.ShloMosaic Idealize.ShloMosaic.TcCoe Idealize.SL.Sem
open Idealize.ShloMosaic.Pipeline (Dat)

namespace Cert.KvSRefIdeal.Layer

open Cert.KvSRefIdeal Cert.KvSRefIdeal.Gen Cert.Ffn Cert.Rope

/-- The normalised rows against the weights, as the reference computes them. -/
def PROJ (h : FVec Ideal S32x1x1024 .f32) (g : FVec Ideal S1024 .f32) (w : FVec Ideal S1024x2048 .f32) : FVec Ideal S32x1x2048 .f32 :=
  Host.dotGeneral dot_S32x1x1024_S1024x2048_S32x1x2048_2_0_01_1_n_n none (mulf (mulf h (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf h h) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x3727C5AC#32)))))) (broadcastInDim S32x1x1024 ![0, 1, 2] bcast_S1x1x1024_S32x1x1024_0_1_2 (broadcastInDim S1x1x1024 ![2] bcast_S1024_S1x1x1024_2 g))) w

/-- The sixteen frequencies. -/
def FREQ : FVec Ideal S16 .f32 := Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32)))

/-- The positions. -/
def POS : FVec Ideal S1 .f32 := sitofp .f32 (addi (broadcastInDim S1 ![] bcast_S_S1 (constantI S_ 32 8192#32)) (iotaInDim S1 32 0))

/-- The angle of each position and frequency. -/
def ANG : FVec Ideal S1x16 .f32 := mulf (broadcastInDim S1x16 ![0, 1] bcast_S1x1_S1x16_0_1 (broadcastInDim S1x1 ![0] bcast_S1_S1x1_0 POS)) (broadcastInDim S1x16 ![1] bcast_S16_S1x16_1 FREQ)

/-- Every head turned, as the reference computes it. -/
def TURN (y : FVec Ideal S32x1x8x128 .f32) (C S : FVec Ideal S1x16 .f32) : FVec Ideal S32x1x8x128 .f32 :=
  concatenate S32x1x8x128 3 [⟨S32x1x8x32, (concatenate S32x1x8x32 3 [⟨S32x1x8x16, (subf (mulf (extractStridedSlice S32x1x8x16 ![0, 0, 0, 0] (extractStridedSlice S32x1x8x32 ![0, 0, 0, 0] y slices_S32x1x8x128_S32x1x8x32_0_0_0_0) slices_S32x1x8x32_S32x1x8x16_0_0_0_0) (broadcastInDim S32x1x8x16 ![0, 1, 2, 3] bcast_S1x1x1x16_S32x1x8x16_0_1_2_3 (broadcastInDim S1x1x1x16 ![1, 3] bcast_S1x16_S1x1x1x16_1_3 C))) (mulf (extractStridedSlice S32x1x8x16 ![0, 0, 0, 16] (extractStridedSlice S32x1x8x32 ![0, 0, 0, 0] y slices_S32x1x8x128_S32x1x8x32_0_0_0_0) slices_S32x1x8x32_S32x1x8x16_0_0_0_16) (broadcastInDim S32x1x8x16 ![0, 1, 2, 3] bcast_S1x1x1x16_S32x1x8x16_0_1_2_3 (broadcastInDim S1x1x1x16 ![1, 3] bcast_S1x16_S1x1x1x16_1_3 S))))⟩, ⟨S32x1x8x16, (addf (mulf (extractStridedSlice S32x1x8x16 ![0, 0, 0, 16] (extractStridedSlice S32x1x8x32 ![0, 0, 0, 0] y slices_S32x1x8x128_S32x1x8x32_0_0_0_0) slices_S32x1x8x32_S32x1x8x16_0_0_0_16) (broadcastInDim S32x1x8x16 ![0, 1, 2, 3] bcast_S1x1x1x16_S32x1x8x16_0_1_2_3 (broadcastInDim S1x1x1x16 ![1, 3] bcast_S1x16_S1x1x1x16_1_3 C))) (mulf (extractStridedSlice S32x1x8x16 ![0, 0, 0, 0] (extractStridedSlice S32x1x8x32 ![0, 0, 0, 0] y slices_S32x1x8x128_S32x1x8x32_0_0_0_0) slices_S32x1x8x32_S32x1x8x16_0_0_0_0) (broadcastInDim S32x1x8x16 ![0, 1, 2, 3] bcast_S1x1x1x16_S32x1x8x16_0_1_2_3 (broadcastInDim S1x1x1x16 ![1, 3] bcast_S1x16_S1x1x1x16_1_3 S))))⟩] concatenates_S32x1x8x16_S32x1x8x16_S32x1x8x32_d3)⟩, ⟨S32x1x8x96, (extractStridedSlice S32x1x8x96 ![0, 0, 0, 32] y slices_S32x1x8x128_S32x1x8x96_0_0_0_32)⟩] concatenates_S32x1x8x32_S32x1x8x96_S32x1x8x128_d3

/-- The heads turned. -/
def HEADS (h : FVec Ideal S32x1x1024 .f32) (g : FVec Ideal S1024 .f32) (w : FVec Ideal S1024x2048 .f32) : FVec Ideal S32x1x8x128 .f32 := shapeCast _ (extractStridedSlice S32x1x1x8x128 ![0, 0, 0, 0, 0] (shapeCast _ (PROJ h g w) shapeCasts_S32x1x2048_S32x1x2x8x128) slices_S32x1x2x8x128_S32x1x1x8x128_0_0_0_0_0) shapeCasts_S32x1x1x8x128_S32x1x8x128

/-- The turned rows. -/
def TURNED (h : FVec Ideal S32x1x1024 .f32) (g : FVec Ideal S1024 .f32) (w : FVec Ideal S1024x2048 .f32) : FVec Ideal S32x1x8x128 .f32 := TURN (HEADS h g w) (Host.cos ANG) (Host.sin ANG)

/-- What the reference computes of its arguments: the turned rows, a row for a token. -/
def REF (h : FVec Ideal S32x1x1024 .f32) (g : FVec Ideal S1024 .f32) (w : FVec Ideal S1024x2048 .f32) : FVec Ideal S32x1024 .f32 := shapeCast _ (TURNED h g w) shapeCasts_S32x1x8x128_S32x1024

theorem PROJ_at (h : FVec Ideal S32x1x1024 .f32) (g : FVec Ideal S1024 .f32) (w : FVec Ideal S1024x2048 .f32) (n : Fin 32) (j : Fin 2048) : PROJ h g w (ix3 n (0 : Fin 1) j)
    = projected (fun k => h (ix3 n (0 : Fin 1) k)) (fun k => g (ix1 k)) (fun k j => w (ix2 k j)) j := by
  pointwise [PROJ, projected, normed]

theorem HEADS_at (h : FVec Ideal S32x1x1024 .f32) (g : FVec Ideal S1024 .f32) (w : FVec Ideal S1024x2048 .f32) (n : Fin 32) (j : Fin 1024) : HEADS h g w (ix4 n (0 : Fin 1) ⟨j.val / 128, by omega⟩ ⟨j.val % 128, by omega⟩)
    = projected (fun k => h (ix3 n (0 : Fin 1) k)) (fun k => g (ix1 k)) (fun k j => w (ix2 k ⟨j.val, by omega⟩)) j := by
  have e : HEADS h g w (ix4 n (0 : Fin 1) ⟨j.val / 128, by omega⟩ ⟨j.val % 128, by omega⟩) = PROJ h g w (ix3 n (0 : Fin 1) ⟨j.val, by omega⟩) := by
    pointwise [HEADS]
    simp only [Nat.div_add_mod']
  rw [e, PROJ_at]
  rfl

theorem TURN_at (y : FVec Ideal S32x1x8x128 .f32) (C S : FVec Ideal S1x16 .f32) (n : Fin 32) (j : Fin 1024) :
    TURN y C S (ix4 n (0 : Fin 1) ⟨j.val / 128, by omega⟩ ⟨j.val % 128, by omega⟩)
      = turned (fun j => y (ix4 n (0 : Fin 1) ⟨j.val / 128, by omega⟩ ⟨j.val % 128, by omega⟩)) (fun p => C (ix2 (0 : Fin 1) p)) (fun p => S (ix2 (0 : Fin 1) p)) j := by
  have hj := j.isLt
  have e1 : ∀ h : j.val % 128 < 16, (j.val + 16) / 128 = j.val / 128 := fun h => by omega
  have e2 : ∀ h : j.val % 128 < 16, (j.val + 16) % 128 = j.val % 128 + 16 := fun h => by omega
  have e3 : ∀ h : ¬ j.val % 128 < 16, (j.val - 16) / 128 = j.val / 128 := fun h => by omega
  have e4 : ∀ h : ¬ j.val % 128 < 16, (j.val - 16) % 128 = j.val % 128 - 16 := fun h => by omega
  unfold turned
  by_cases h : j.val % 128 < 16
  · have h32 : j.val % 128 < 32 := by omega
    simp only [h, ↓reduceDIte, e1 h, e2 h]
    pointwise [TURN]
    simp only [h, h32, ↓reduceDIte, Nat.add_comm 16]
  · by_cases h' : j.val % 128 < 32
    · simp only [h, h', ↓reduceDIte, e3 h, e4 h]
      pointwise [TURN]
      have e5 : 16 + (j.val % 128 - 16) = j.val % 128 := by omega
      simp only [h, h', ↓reduceDIte, e5]
    · simp only [h, h', ↓reduceDIte]
      pointwise [TURN]
      have e5 : 32 + (j.val % 128 - 32) = j.val % 128 := by omega
      simp only [h', ↓reduceDIte, e5]

theorem REF_at (h : FVec Ideal S32x1x1024 .f32) (g : FVec Ideal S1024 .f32) (w : FVec Ideal S1024x2048 .f32) (q : Fin 32) (j : Fin 1024) : REF h g w (ix2 q j)
    = turned (projected (fun k => h (ix3 q (0 : Fin 1) k)) (fun k => g (ix1 k)) (fun k j => w (ix2 k ⟨j.val, by omega⟩)))
      (fun p => Ideal.cos (ANG (ix2 (0 : Fin 1) p))) (fun p => Ideal.sin (ANG (ix2 (0 : Fin 1) p))) j := by
  have hj := j.isLt
  have e : REF h g w (ix2 q j) = TURNED h g w (ix4 q (0 : Fin 1) ⟨j.val / 128, by omega⟩ ⟨j.val % 128, by omega⟩) := by
    pointwise [REF]
  rw [e]
  unfold TURNED
  rw [TURN_at]
  simp only [HEADS_at]
  rfl

/-- The reference's first result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := rfl

/-- The second result: the values, a row for a token. -/
def VAL (h : FVec Ideal S32x1x1024 .f32) (g : FVec Ideal S1024 .f32) (w : FVec Ideal S1024x2048 .f32) : FVec Ideal S32x1024 .f32 := shapeCast _ (shapeCast _ (extractStridedSlice S32x1x1x8x128 ![0, 0, 1, 0, 0] (shapeCast _ (PROJ h g w) shapeCasts_S32x1x2048_S32x1x2x8x128) slices_S32x1x2x8x128_S32x1x1x8x128_0_0_1_0_0) shapeCasts_S32x1x1x8x128_S32x1x8x128) shapeCasts_S32x1x8x128_S32x1024

theorem VAL_at (h : FVec Ideal S32x1x1024 .f32) (g : FVec Ideal S1024 .f32) (w : FVec Ideal S1024x2048 .f32) (q : Fin 32) (j : Fin 1024) : VAL h g w (ix2 q j)
    = projected (fun k => h (ix3 q (0 : Fin 1) k)) (fun k => g (ix1 k)) (fun k j => w (ix2 k ⟨1024 + j.val, by omega⟩)) j := by
  have hj := j.isLt
  have e : VAL h g w (ix2 q j) = PROJ h g w (ix3 q (0 : Fin 1) ⟨1024 + j.val, by omega⟩) := by
    pointwise [VAL]
    simp only [Nat.add_assoc, Nat.div_add_mod']
  rw [e, PROJ_at]
  rfl

end Cert.KvSRefIdeal.Layer

end
-- ==== Proof.KvSValue.lean ====
/-
  The result arrays of the key and value call of the sampled tokens are the reference's, index by index.
-/
module

public import proofs.«01_k».proof.Proof.KvSRefValue

@[expose] public section

set_option maxRecDepth 16384

noncomputable section

open Idealize.ShloMosaic Idealize.ShloMosaic.TcCoe Idealize.SL.Sem
open Idealize.ShloMosaic.Pipeline (Dat)

namespace Cert.KvSIdeal.Layer

open Cert.KvSIdeal Cert.KvSIdeal.Gen Cert.KvSIdeal.Pure Cert.Ffn Cert.Rope
open Cert.KvSRefIdeal.Layer (ANG FREQ POS REF REF_at VAL VAL_at)

/-- The angles, as the host code before the call computes them. -/
def KANG : FVec Ideal S32x16 .f32 :=
  mulf (broadcastInDim S32x16 ![0, 1] bcast_S32x1_S32x16_0_1 (broadcastInDim S32x1 ![0] bcast_S32_S32x1_0 (sitofp .f32 (broadcastInDim S32 ![] bcast_S_S32 (constantI S_ 32 8192#32)))))
    (broadcastInDim S32x16 ![0, 1] bcast_S1x16_S32x16_0_1 (broadcastInDim S1x16 ![1] bcast_S16_S1x16_1
      (Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32))))))

theorem KANG_at (a : Fin 32) (p : Fin 16) : KANG (ix2 a p) = ANG (ix2 (0 : Fin 1) p) := by
  pointwise [KANG, ANG, POS, FREQ]
  rfl

/-- The lanes' cosines: those of the sixteen angles twice, then ones. -/
def TC : FVec Ideal S32x128 .f32 :=
  concatenate S32x128 1 [⟨S32x16, Host.cos KANG⟩, ⟨S32x16, Host.cos KANG⟩, ⟨S32x96, broadcastInDim S32x96 ![] bcast_S_S32x96 (constant S_ .f32 0x3F800000#32)⟩] concatenates_S32x16_S32x16_S32x96_S32x128_d1

/-- The factors of the lane sixteen places on: the negated sines, then zeros. -/
def TL : FVec Ideal S32x128 .f32 :=
  concatenate S32x128 1 [⟨S32x16, Host.negf (Host.sin KANG)⟩, ⟨S32x112, broadcastInDim S32x112 ![] bcast_S_S32x112 (constant S_ .f32 0x00000000#32)⟩] concatenates_S32x16_S32x112_S32x128_d1

/-- The factors of the lane sixteen places back: zeros, the sines, then zeros. -/
def TH : FVec Ideal S32x128 .f32 :=
  concatenate S32x128 1 [⟨S32x16, broadcastInDim S32x16 ![] bcast_S_S32x16 (constant S_ .f32 0x00000000#32)⟩, ⟨S32x16, Host.sin KANG⟩, ⟨S32x96, broadcastInDim S32x96 ![] bcast_S_S32x96 (constant S_ .f32 0x00000000#32)⟩] concatenates_S32x16_S32x16_S32x96_S32x128_d1

theorem TC_at (a : Fin 32) (l : Fin 128) : TC (ix2 a l) = if h : l.val < 16 then Ideal.cos (ANG (ix2 (0 : Fin 1) ⟨l.val, h⟩))
    else if h' : l.val < 32 then Ideal.cos (ANG (ix2 (0 : Fin 1) ⟨l.val - 16, by omega⟩)) else 1 := by
  simp only [← KANG_at a]
  generalize hK : KANG = Z
  pointwise [TC, hK]
  have e : (l.val - 16 < 16) = (l.val < 32) := propext (by omega)
  simp only [e]

theorem TL_at (a : Fin 32) (l : Fin 128) : TL (ix2 a l) = if h : l.val < 16 then -Ideal.sin (ANG (ix2 (0 : Fin 1) ⟨l.val, h⟩)) else 0 := by
  simp only [← KANG_at a]
  generalize hK : KANG = Z
  pointwise [TL, hK]

theorem TH_at (a : Fin 32) (l : Fin 128) : TH (ix2 a l) = if h : l.val < 16 then 0
    else if h' : l.val < 32 then Ideal.sin (ANG (ix2 (0 : Fin 1) ⟨l.val - 16, by omega⟩)) else 0 := by
  simp only [← KANG_at a]
  generalize hK : KANG = Z
  pointwise [TH, hK]
  have e : (l.val - 16 < 16) = (l.val < 32) := propext (by omega)
  simp only [e]

variable (m : (ℓ : Loc nD τ sig) → Buf (Elt Ideal) ℓ)

theorem V_v24 (c : Dev nD) : (V m c main_v24 : S32x1024.Idx → EReal) = (shapeCast S32x1024 (α := EReal) (m ((c : Thread nD τ).loc main_arg0)) shapeCasts_S32x1x1024_S32x1024) := by
  unfold V
  simp only [List.flatten_cons, List.flatten_nil, List.append_nil, List.cons_append, List.nil_append, hostOps0]
  after_results
  rfl

theorem V_v25 (c : Dev nD) : (V m c main_v25 : S1024x2048.Idx → EReal) = (truncf (F := Ideal) .bf16 (m ((c : Thread nD τ).loc main_arg2)) bitsLt_bf16_f32) := by
  unfold V
  simp only [List.flatten_cons, List.flatten_nil, List.append_nil, List.cons_append, List.nil_append, hostOps0]
  after_results

theorem V_v26 (c : Dev nD) : (V m c main_v26 : S1x1024.Idx → EReal) = (shapeCast S1x1024 (α := EReal) (m ((c : Thread nD τ).loc main_arg1)) shapeCasts_S1024_S1x1024) := by
  unfold V
  simp only [List.flatten_cons, List.flatten_nil, List.append_nil, List.cons_append, List.nil_append, hostOps0]
  after_results
  rfl

theorem V_v18 (c : Dev nD) : (V m c main_v18 : S32x128.Idx → EReal) = TC := by
  unfold V
  simp only [List.flatten_cons, List.flatten_nil, List.append_nil, List.cons_append, List.nil_append, hostOps0]
  after_results
  rfl

theorem V_v20 (c : Dev nD) : (V m c main_v20 : S32x128.Idx → EReal) = TL := by
  unfold V
  simp only [List.flatten_cons, List.flatten_nil, List.append_nil, List.cons_append, List.nil_append, hostOps0]
  after_results
  rfl

theorem V_v23 (c : Dev nD) : (V m c main_v23 : S32x128.Idx → EReal) = TH := by
  unfold V
  simp only [List.flatten_cons, List.flatten_nil, List.append_nil, List.cons_append, List.nil_append, hostOps0]
  after_results
  rfl

/-- Where each window's block lies at grid point `t`. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0] :=
  (by decide +kernel : ∀ t : Fin grid0.N, _)

theorem rows_read (X : S32x1024.Idx → EReal) (t : Fin cfg0.N) (r : Fin 32) (q : Fin 32) (hq : q.val = t.val * 32 + r.val) (k : Fin 1024) :
    View.read (Elt Ideal) ((cfg0.win 0).blk t).view X (ix2 r k) = X (ix2 q k) := by
  have ht : t.val < 1 := t.isLt
  blk_point [idx t]

theorem gain_read (X : S1x1024.Idx → EReal) (t : Fin cfg0.N) (k : Fin 1024) :
    View.read (Elt Ideal) ((cfg0.win 1).blk t).view X (ix2 0 k) = X (ix2 0 k) := by
  blk_point [idx t]

theorem weight_read (X : S1024x2048.Idx → EReal) (t : Fin cfg0.N) (k : Fin 1024) (j : Fin 2048) :
    View.read (Elt Ideal) ((cfg0.win 2).blk t).view X (ix2 k j) = X (ix2 k j) := by
  blk_point [idx t]

theorem cos_read (X : S32x128.Idx → EReal) (t : Fin cfg0.N) (r : Fin 32) (q : Fin 32) (hq : q.val = t.val * 32 + r.val) (l : Fin 128) :
    View.read (Elt Ideal) ((cfg0.win 3).blk t).view X (ix2 r l) = X (ix2 q l) := by
  have ht : t.val < 1 := t.isLt
  blk_point [idx t]

theorem low_read (X : S32x128.Idx → EReal) (t : Fin cfg0.N) (r : Fin 32) (q : Fin 32) (hq : q.val = t.val * 32 + r.val) (l : Fin 128) :
    View.read (Elt Ideal) ((cfg0.win 4).blk t).view X (ix2 r l) = X (ix2 q l) := by
  have ht : t.val < 1 := t.isLt
  blk_point [idx t]

theorem high_read (X : S32x128.Idx → EReal) (t : Fin cfg0.N) (r : Fin 32) (q : Fin 32) (hq : q.val = t.val * 32 + r.val) (l : Fin 128) :
    View.read (Elt Ideal) ((cfg0.win 5).blk t).view X (ix2 r l) = X (ix2 q l) := by
  have ht : t.val < 1 := t.isLt
  blk_point [idx t]

theorem cast_at (X : S32x1x1024.Idx → EReal) (q : Fin 32) (k : Fin 1024) :
    shapeCast S32x1024 (α := EReal) X shapeCasts_S32x1x1024_S32x1024 (ix2 q k) = X (ix3 q 0 k) := by
  pointwise []

theorem rows_at (c : Dev nD) (t : Fin cfg0.N) (r : Fin 32) (q : Fin 32) (hq : q.val = t.val * 32 + r.val) (k : Fin 1024) :
    iblk m c 0 t (ix2 r k) = (m ((c : Thread nD τ).loc main_arg0)) (ix3 q 0 k) := by
  refine (rows_read (V m c main_v24) t r q hq k).trans ?_
  rw [V_v24]
  exact cast_at _ q k

theorem gain_at (c : Dev nD) (t : Fin cfg0.N) (k : Fin 1024) : iblk m c 1 t (ix2 (0 : Fin 1) k) = (m ((c : Thread nD τ).loc main_arg1)) (ix1 k) := by
  refine (gain_read (V m c main_v26) t k).trans ?_
  rw [V_v26]
  pointwise []

theorem weight_at (c : Dev nD) (t : Fin cfg0.N) (k : Fin 1024) (j : Fin 2048) : iblk m c 2 t (ix2 k j) = (m ((c : Thread nD τ).loc main_arg2)) (ix2 k j) := by
  refine (weight_read (V m c main_v25) t k j).trans ?_
  rw [V_v25]
  pointwise []

/-- A row of a tile, turned: the reference's row. -/
theorem turned_row (c : Dev nD) (t : Fin cfg0.N) (r : Fin 32) (j : Fin 1024) (q : Fin 32) (hq : q.val = t.val * 32 + r.val) :
    threeTerms (projected (fun k => iblk m c 0 t (ix2 r k)) (fun k => iblk m c 1 t (ix2 (0 : Fin 1) k)) (fun k j => iblk m c 2 t (ix2 k (⟨j.val, by omega⟩ : Fin 2048))))
      (fun l => iblk m c 3 t (ix2 r l)) (fun l => iblk m c 4 t (ix2 r l)) (fun l => iblk m c 5 t (ix2 r l)) j = REF (m ((c : Thread nD τ).loc main_arg0)) (m ((c : Thread nD τ).loc main_arg1)) (m ((c : Thread nD τ).loc main_arg2)) (ix2 q j) := by
  rw [REF_at]
  have hx : (fun k : Fin 1024 => iblk m c 0 t (ix2 r k)) = fun k => (m ((c : Thread nD τ).loc main_arg0)) (ix3 q 0 k) := funext fun k => rows_at m c t r q hq k
  have hg : (fun k : Fin 1024 => iblk m c 1 t (ix2 (0 : Fin 1) k)) = fun k => (m ((c : Thread nD τ).loc main_arg1)) (ix1 k) := funext fun k => gain_at m c t k
  have hw : (fun (k : Fin 1024) (j : Fin 1024) => iblk m c 2 t (ix2 k (⟨j.val, by omega⟩ : Fin 2048))) = fun k j => (m ((c : Thread nD τ).loc main_arg2)) (ix2 k ⟨j.val, by omega⟩) := funext fun k => funext fun j => weight_at m c t k _
  rw [hx, hg, hw]
  refine threeTerms_eq _ _ _ _ _ _ (fun l => ?_) (fun l => ?_) (fun l => ?_) j
  · refine (cos_read (V m c main_v18) t r q hq l).trans ?_
    rw [V_v18]
    exact TC_at _ l
  · refine (low_read (V m c main_v20) t r q hq l).trans ?_
    rw [V_v20]
    exact TL_at _ l
  · refine (high_read (V m c main_v23) t r q hq l).trans ?_
    rw [V_v23]
    exact TH_at _ l

theorem point_k (c : Dev nD) (t : Fin cfg0.N) (r : Fin 32) (j : Fin 1024) (q : Fin 32) (hq : q.val = t.val * 32 + r.val) :
    out0_6 (F := Ideal) (iblk m c 0 t) (iblk m c 1 t) (iblk m c 2 t) (iblk m c 3 t) (iblk m c 4 t) (iblk m c 5 t) (ix2 r j) = REF (m ((c : Thread nD τ).loc main_arg0)) (m ((c : Thread nD τ).loc main_arg1)) (m ((c : Thread nD τ).loc main_arg2)) (ix2 q j) :=
  (out_k _ _ _ _ _ _ r j).trans (turned_row m c t r j q hq)

theorem point_v (c : Dev nD) (t : Fin cfg0.N) (r : Fin 32) (j : Fin 1024) (q : Fin 32) (hq : q.val = t.val * 32 + r.val) :
    out0_7 (F := Ideal) (iblk m c 0 t) (iblk m c 1 t) (iblk m c 2 t) (iblk m c 3 t) (iblk m c 4 t) (iblk m c 5 t) (ix2 r j) = VAL (m ((c : Thread nD τ).loc main_arg0)) (m ((c : Thread nD τ).loc main_arg1)) (m ((c : Thread nD τ).loc main_arg2)) (ix2 q j) := by
  rw [VAL_at]
  refine (out_v _ _ _ _ _ _ r j).trans ?_
  have hx : (fun k : Fin 1024 => iblk m c 0 t (ix2 r k)) = fun k => (m ((c : Thread nD τ).loc main_arg0)) (ix3 q 0 k) := funext fun k => rows_at m c t r q hq k
  have hg : (fun k : Fin 1024 => iblk m c 1 t (ix2 (0 : Fin 1) k)) = fun k => (m ((c : Thread nD τ).loc main_arg1)) (ix1 k) := funext fun k => gain_at m c t k
  have hw : (fun (k : Fin 1024) (j : Fin 1024) => iblk m c 2 t (ix2 k (⟨1024 + j.val, by omega⟩ : Fin 2048))) = fun k j => (m ((c : Thread nD τ).loc main_arg2)) (ix2 k ⟨1024 + j.val, by omega⟩) := funext fun k => funext fun j => weight_at m c t k _
  rw [hx, hg, hw]

theorem final6 (c : Dev nD) : (dats m 0 c).arrAt 6 (cfgs 0).N = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  have ht : t.val < 1 := t.isLt
  have he : ((View.whole main_v27_0).slice (win0_6.rect t)).emb (ix2 y0 y1)
      = (ix2 (⟨t.val * 32 + y0.val, by omega⟩ : Fin 32) y1 : S32x1024.Idx) := by
    blk_ext [idx t]
  rw [he]
  exact point_k m c t y0 y1 _ rfl

theorem final7 (c : Dev nD) : (dats m 0 c).arrAt 7 (cfgs 0).N = VAL (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  have ht : t.val < 1 := t.isLt
  have he : ((View.whole main_v27_1).slice (win0_7.rect t)).emb (ix2 y0 y1)
      = (ix2 (⟨t.val * 32 + y0.val, by omega⟩ : Fin 32) y1 : S32x1024.Idx) := by
    blk_ext [idx t]
  rw [he]
  exact point_v m c t y0 y1 _ rfl

end Cert.KvSIdeal.Layer

end
-- ==== Proof.QProjPure.lean ====
/-
  What one row tile of the query call holds after its body, element by element.
-/
module

public import proofs.«01_k».proof.Proof.RopeMath
public import proofs.«01_k».proof.Proof.Gen.QProjIdeal.Value
public import Idealize.ShloMosaic.Lib.Pipeline.ValueKit

@[expose] public section

set_option maxRecDepth 16384

noncomputable section

open Idealize.ShloMosaic Idealize.ShloMosaic.TcCoe Idealize.SL.Sem

namespace Cert.QProjIdeal.Pure

open Cert.QProjIdeal Cert.QProjIdeal.Gen Cert.Ffn Cert.Rope

/-- The projected rows before the rotation. -/
theorem proj_at (v0 : FVec Ideal S512x1024 .f32) (v2 : FVec Ideal S1x1024 .f32) (v17 : FVec Ideal S1024x1024 .bf16)
    (r : Fin 512) (j : Fin 1024) : k0_pay2 (F := Ideal) v0 v2 v17 (ix2 r j)
      = projected (fun k => v0 (ix2 r k)) (fun k => v2 (ix2 0 k)) (fun k j => v17 (ix2 k j)) j := by
  pointwise [k0_pay2, projected, normed]

/-- The eight heads side by side, each turned as three products. -/
theorem heads (v0 : FVec Ideal S512x1024 .f32) (v2 : FVec Ideal S1x1024 .f32) (v17 : FVec Ideal S1024x1024 .bf16)
    (C L H : FVec Ideal S512x128 .f32) (r : Fin 512) (j : Fin 1024) :
    k0_pay1 (F := Ideal) (k0_pay5 H) (k0_pay6 v0 v2 v17 C L H) (k0_pay11 (k0_pay5 H) (k0_pay8 v0 v2 v17) (k0_pay9 v0 v2 v17 C) (k0_pay10 v0 v2 v17 L))
      (k0_pay12 (k0_pay2 v0 v2 v17) (k0_pay3 C) (k0_pay4 L) (k0_pay5 H))
      (k0_pay13 (k0_pay2 v0 v2 v17) (k0_pay3 C) (k0_pay4 L) (k0_pay5 H))
      (k0_pay14 (k0_pay2 v0 v2 v17) (k0_pay3 C) (k0_pay4 L) (k0_pay5 H))
      (k0_pay15 (k0_pay2 v0 v2 v17) (k0_pay3 C) (k0_pay4 L) (k0_pay5 H))
      (k0_pay16 (k0_pay2 v0 v2 v17) (k0_pay3 C) (k0_pay4 L) (k0_pay5 H))
      (k0_pay18 (k0_pay2 v0 v2 v17)) (k0_pay19 (k0_pay2 v0 v2 v17) (k0_pay3 C)) (k0_pay20 (k0_pay2 v0 v2 v17) (k0_pay4 L)) (ix2 r j)
    = threeTerms (fun j => k0_pay2 (F := Ideal) v0 v2 v17 (ix2 r j)) (fun l => C (ix2 r l)) (fun l => L (ix2 r l)) (fun l => H (ix2 r l)) j := by
  have hj := j.isLt
  generalize hE : k0_pay2 (F := Ideal) v0 v2 v17 = E
  simp only [k0_pay6, k0_pay7, k0_pay8, k0_pay9, k0_pay10, hE]
  pointwise [k0_pay1, k0_pay3, k0_pay4, k0_pay5, k0_pay11, k0_pay12, k0_pay13, k0_pay14, k0_pay15, k0_pay16, k0_pay17, k0_pay18, k0_pay19, k0_pay20]
  split_ifs <;>
    exact threeTerms_of (fun j => E (ix2 r j)) (fun l => C (ix2 r l)) (fun l => L (ix2 r l)) (fun l => H (ix2 r l)) j _ _ _ _ _ _
      (by first | omega | (dsimp only; omega)) (by first | omega | (dsimp only; omega)) (by first | omega | (dsimp only; omega))
      (by first | omega | (dsimp only; omega)) (by first | omega | (dsimp only; omega)) (by first | omega | (dsimp only; omega))

/-- The first result's tile: the projected row turned. -/
theorem out_k (x0 : FVec Ideal S512x1024 .f32) (x1 : FVec Ideal S1x1024 .f32) (x2 : FVec Ideal S1024x1024 .bf16)
    (x3 x4 x5 : FVec Ideal S512x128 .f32) (r : Fin 512) (j : Fin 1024) : out0_6 (F := Ideal) x0 x1 x2 x3 x4 x5 (ix2 r j)
    = threeTerms (projected (fun k => x0 (ix2 r k)) (fun k => x1 (ix2 0 k)) (fun k j => x2 (ix2 k j)))
       (fun l => x3 (ix2 r l)) (fun l => x4 (ix2 r l)) (fun l => x5 (ix2 r l)) j := by
  frame_out
  unfold k0_pay21 k0_pay22 k0_pay23 k0_pay24
  frame_out
  refine (heads _ _ _ _ _ _ r j).trans ?_
  simp only [proj_at]

end Cert.QProjIdeal.Pure

end
-- ==== Proof.QProjRefValue.lean ====
/-
  The result arrays of the query call of the prompt are the layer's own terms of its arguments, as the plain reference
  computes them.
-/
module

public import proofs.«01_k».proof.Proof.QProjPure
public import proofs.«01_k».proof.Proof.Gen.QProjRefIdeal.Run

@[expose] public section

set_option maxRecDepth 16384

noncomputable section

open Idealize.ShloMosaic Idealize.ShloMosaic.TcCoe Idealize.SL.Sem
open Idealize.ShloMosaic.Pipeline (Dat)

namespace Cert.QProjRefIdeal.Layer

open Cert.QProjRefIdeal Cert.QProjRefIdeal.Gen Cert.Ffn Cert.Rope

/-- The normalised rows against the weights, as the reference computes them. -/
def PROJ (h : FVec Ideal S4x4096x1024 .f32) (g : FVec Ideal S1024 .f32) (w : FVec Ideal S1024x1024 .f32) : FVec Ideal S4x4096x1024 .f32 :=
  Host.dotGeneral dot_S4x4096x1024_S1024x1024_S4x4096x1024_2_0_01_1_n_n none (mulf (mulf h (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf h h) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) w

/-- The sixteen frequencies. -/
def FREQ : FVec Ideal S16 .f32 := Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32)))

/-- The positions. -/
def POS : FVec Ideal S4096 .f32 := sitofp .f32 (iotaInDim S4096 32 0)

/-- The angle of each position and frequency. -/
def ANG : FVec Ideal S4096x16 .f32 := mulf (broadcastInDim S4096x16 ![0, 1] bcast_S4096x1_S4096x16_0_1 (broadcastInDim S4096x1 ![0] bcast_S4096_S4096x1_0 POS)) (broadcastInDim S4096x16 ![0, 1] bcast_S1x16_S4096x16_0_1 (broadcastInDim S1x16 ![1] bcast_S16_S1x16_1 FREQ))

/-- Every head turned, as the reference computes it. -/
def TURN (y : FVec Ideal S4x4096x8x128 .f32) (C S : FVec Ideal S4096x16 .f32) : FVec Ideal S4x4096x8x128 .f32 :=
  concatenate S4x4096x8x128 3 [⟨S4x4096x8x32, (concatenate S4x4096x8x32 3 [⟨S4x4096x8x16, (subf (mulf (extractStridedSlice S4x4096x8x16 ![0, 0, 0, 0] (extractStridedSlice S4x4096x8x32 ![0, 0, 0, 0] y slices_S4x4096x8x128_S4x4096x8x32_0_0_0_0) slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 C))) (mulf (extractStridedSlice S4x4096x8x16 ![0, 0, 0, 16] (extractStridedSlice S4x4096x8x32 ![0, 0, 0, 0] y slices_S4x4096x8x128_S4x4096x8x32_0_0_0_0) slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 S))))⟩, ⟨S4x4096x8x16, (addf (mulf (extractStridedSlice S4x4096x8x16 ![0, 0, 0, 16] (extractStridedSlice S4x4096x8x32 ![0, 0, 0, 0] y slices_S4x4096x8x128_S4x4096x8x32_0_0_0_0) slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 C))) (mulf (extractStridedSlice S4x4096x8x16 ![0, 0, 0, 0] (extractStridedSlice S4x4096x8x32 ![0, 0, 0, 0] y slices_S4x4096x8x128_S4x4096x8x32_0_0_0_0) slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 S))))⟩] concatenates_S4x4096x8x16_S4x4096x8x16_S4x4096x8x32_d3)⟩, ⟨S4x4096x8x96, (extractStridedSlice S4x4096x8x96 ![0, 0, 0, 32] y slices_S4x4096x8x128_S4x4096x8x96_0_0_0_32)⟩] concatenates_S4x4096x8x32_S4x4096x8x96_S4x4096x8x128_d3

/-- The heads turned. -/
def HEADS (h : FVec Ideal S4x4096x1024 .f32) (g : FVec Ideal S1024 .f32) (w : FVec Ideal S1024x1024 .f32) : FVec Ideal S4x4096x8x128 .f32 := shapeCast _ (PROJ h g w) shapeCasts_S4x4096x1024_S4x4096x8x128

/-- The turned rows. -/
def TURNED (h : FVec Ideal S4x4096x1024 .f32) (g : FVec Ideal S1024 .f32) (w : FVec Ideal S1024x1024 .f32) : FVec Ideal S4x4096x8x128 .f32 := TURN (HEADS h g w) (Host.cos ANG) (Host.sin ANG)

/-- What the reference computes of its arguments: the turned rows, a row for a token. -/
def REF (h : FVec Ideal S4x4096x1024 .f32) (g : FVec Ideal S1024 .f32) (w : FVec Ideal S1024x1024 .f32) : FVec Ideal S16384x1024 .f32 := shapeCast _ (TURNED h g w) shapeCasts_S4x4096x8x128_S16384x1024

theorem PROJ_at (h : FVec Ideal S4x4096x1024 .f32) (g : FVec Ideal S1024 .f32) (w : FVec Ideal S1024x1024 .f32) (n : Fin 4) (l : Fin 4096) (j : Fin 1024) : PROJ h g w (ix3 n l j)
    = projected (fun k => h (ix3 n l k)) (fun k => g (ix1 k)) (fun k j => w (ix2 k j)) j := by
  pointwise [PROJ, projected, normed]

theorem HEADS_at (h : FVec Ideal S4x4096x1024 .f32) (g : FVec Ideal S1024 .f32) (w : FVec Ideal S1024x1024 .f32) (n : Fin 4) (l : Fin 4096) (j : Fin 1024) : HEADS h g w (ix4 n l ⟨j.val / 128, by omega⟩ ⟨j.val % 128, by omega⟩)
    = projected (fun k => h (ix3 n l k)) (fun k => g (ix1 k)) (fun k j => w (ix2 k j)) j := by
  have e : HEADS h g w (ix4 n l ⟨j.val / 128, by omega⟩ ⟨j.val % 128, by omega⟩) = PROJ h g w (ix3 n l ⟨j.val, by omega⟩) := by
    pointwise [HEADS]
  rw [e, PROJ_at]

theorem TURN_at (y : FVec Ideal S4x4096x8x128 .f32) (C S : FVec Ideal S4096x16 .f32) (n : Fin 4) (l : Fin 4096) (j : Fin 1024) :
    TURN y C S (ix4 n l ⟨j.val / 128, by omega⟩ ⟨j.val % 128, by omega⟩)
      = turned (fun j => y (ix4 n l ⟨j.val / 128, by omega⟩ ⟨j.val % 128, by omega⟩)) (fun p => C (ix2 l p)) (fun p => S (ix2 l p)) j := by
  have hj := j.isLt
  have e1 : ∀ h : j.val % 128 < 16, (j.val + 16) / 128 = j.val / 128 := fun h => by omega
  have e2 : ∀ h : j.val % 128 < 16, (j.val + 16) % 128 = j.val % 128 + 16 := fun h => by omega
  have e3 : ∀ h : ¬ j.val % 128 < 16, (j.val - 16) / 128 = j.val / 128 := fun h => by omega
  have e4 : ∀ h : ¬ j.val % 128 < 16, (j.val - 16) % 128 = j.val % 128 - 16 := fun h => by omega
  unfold turned
  by_cases h : j.val % 128 < 16
  · have h32 : j.val % 128 < 32 := by omega
    simp only [h, ↓reduceDIte, e1 h, e2 h]
    pointwise [TURN]
    simp only [h, h32, ↓reduceDIte, Nat.add_comm 16]
  · by_cases h' : j.val % 128 < 32
    · simp only [h, h', ↓reduceDIte, e3 h, e4 h]
      pointwise [TURN]
      have e5 : 16 + (j.val % 128 - 16) = j.val % 128 := by omega
      simp only [h, h', ↓reduceDIte, e5]
    · simp only [h, h', ↓reduceDIte]
      pointwise [TURN]
      have e5 : 32 + (j.val % 128 - 32) = j.val % 128 := by omega
      simp only [h', ↓reduceDIte, e5]

theorem REF_at (h : FVec Ideal S4x4096x1024 .f32) (g : FVec Ideal S1024 .f32) (w : FVec Ideal S1024x1024 .f32) (q : Fin 16384) (j : Fin 1024) : REF h g w (ix2 q j)
    = turned (projected (fun k => h (ix3 ⟨q.val / 4096, by omega⟩ ⟨q.val % 4096, by omega⟩ k)) (fun k => g (ix1 k)) (fun k j => w (ix2 k j)))
      (fun p => Ideal.cos (ANG (ix2 ⟨q.val % 4096, by omega⟩ p))) (fun p => Ideal.sin (ANG (ix2 ⟨q.val % 4096, by omega⟩ p))) j := by
  have hj := j.isLt
  have e : REF h g w (ix2 q j) = TURNED h g w (ix4 ⟨q.val / 4096, by omega⟩ ⟨q.val % 4096, by omega⟩ ⟨j.val / 128, by omega⟩ ⟨j.val % 128, by omega⟩) := by
    pointwise [REF]
  rw [e]
  unfold TURNED
  rw [TURN_at]
  simp only [HEADS_at]
  rfl

/-- The reference's first result buffer holds it. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := rfl

end Cert.QProjRefIdeal.Layer

end
-- ==== Proof.QProjValue.lean ====
/-
  The result arrays of the query call of the prompt are the reference's, index by index.
-/
module

public import proofs.«01_k».proof.Proof.QProjRefValue

@[expose] public section

set_option maxRecDepth 16384

noncomputable section

open Idealize.ShloMosaic Idealize.ShloMosaic.TcCoe Idealize.SL.Sem
open Idealize.ShloMosaic.Pipeline (Dat)

namespace Cert.QProjIdeal.Layer

open Cert.QProjIdeal Cert.QProjIdeal.Gen Cert.QProjIdeal.Pure Cert.Ffn Cert.Rope
open Cert.QProjRefIdeal.Layer (ANG FREQ POS REF REF_at)

/-- The angles, as the host code before the call computes them. -/
def KANG : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32))))))

theorem KANG_at (a : Fin 4096) (p : Fin 16) : KANG (ix2 a p) = ANG (ix2 a p) := by
  pointwise [KANG, ANG, POS, FREQ]

/-- The lanes' cosines: those of the sixteen angles twice, then ones. -/
def TC : FVec Ideal S4096x128 .f32 :=
  concatenate S4096x128 1 [⟨S4096x16, Host.cos KANG⟩, ⟨S4096x16, Host.cos KANG⟩, ⟨S4096x96, broadcastInDim S4096x96 ![] bcast_S_S4096x96 (constant S_ .f32 0x3F800000#32)⟩] concatenates_S4096x16_S4096x16_S4096x96_S4096x128_d1

/-- The factors of the lane sixteen places on: the negated sines, then zeros. -/
def TL : FVec Ideal S4096x128 .f32 :=
  concatenate S4096x128 1 [⟨S4096x16, Host.negf (Host.sin KANG)⟩, ⟨S4096x112, broadcastInDim S4096x112 ![] bcast_S_S4096x112 (constant S_ .f32 0x00000000#32)⟩] concatenates_S4096x16_S4096x112_S4096x128_d1

/-- The factors of the lane sixteen places back: zeros, the sines, then zeros. -/
def TH : FVec Ideal S4096x128 .f32 :=
  concatenate S4096x128 1 [⟨S4096x16, broadcastInDim S4096x16 ![] bcast_S_S4096x16 (constant S_ .f32 0x00000000#32)⟩, ⟨S4096x16, Host.sin KANG⟩, ⟨S4096x96, broadcastInDim S4096x96 ![] bcast_S_S4096x96 (constant S_ .f32 0x00000000#32)⟩] concatenates_S4096x16_S4096x16_S4096x96_S4096x128_d1

theorem TC_at (a : Fin 4096) (l : Fin 128) : TC (ix2 a l) = if h : l.val < 16 then Ideal.cos (ANG (ix2 a ⟨l.val, h⟩))
    else if h' : l.val < 32 then Ideal.cos (ANG (ix2 a ⟨l.val - 16, by omega⟩)) else 1 := by
  simp only [← KANG_at a]
  generalize hK : KANG = Z
  pointwise [TC, hK]
  have e : (l.val - 16 < 16) = (l.val < 32) := propext (by omega)
  simp only [e]

theorem TL_at (a : Fin 4096) (l : Fin 128) : TL (ix2 a l) = if h : l.val < 16 then -Ideal.sin (ANG (ix2 a ⟨l.val, h⟩)) else 0 := by
  simp only [← KANG_at a]
  generalize hK : KANG = Z
  pointwise [TL, hK]

theorem TH_at (a : Fin 4096) (l : Fin 128) : TH (ix2 a l) = if h : l.val < 16 then 0
    else if h' : l.val < 32 then Ideal.sin (ANG (ix2 a ⟨l.val - 16, by omega⟩)) else 0 := by
  simp only [← KANG_at a]
  generalize hK : KANG = Z
  pointwise [TH, hK]
  have e : (l.val - 16 < 16) = (l.val < 32) := propext (by omega)
  simp only [e]

variable (m : (ℓ : Loc nD τ sig) → Buf (Elt Ideal) ℓ)

theorem V_v24 (c : Dev nD) : (V m c main_v24 : S16384x1024.Idx → EReal) = (shapeCast S16384x1024 (α := EReal) (m ((c : Thread nD τ).loc main_arg0)) shapeCasts_S4x4096x1024_S16384x1024) := by
  unfold V
  simp only [List.flatten_cons, List.flatten_nil, List.append_nil, List.cons_append, List.nil_append, hostOps0]
  after_results
  rfl

theorem V_v25 (c : Dev nD) : (V m c main_v25 : S1024x1024.Idx → EReal) = (truncf (F := Ideal) .bf16 (m ((c : Thread nD τ).loc main_arg2)) bitsLt_bf16_f32) := by
  unfold V
  simp only [List.flatten_cons, List.flatten_nil, List.append_nil, List.cons_append, List.nil_append, hostOps0]
  after_results

theorem V_v26 (c : Dev nD) : (V m c main_v26 : S1x1024.Idx → EReal) = (shapeCast S1x1024 (α := EReal) (m ((c : Thread nD τ).loc main_arg1)) shapeCasts_S1024_S1x1024) := by
  unfold V
  simp only [List.flatten_cons, List.flatten_nil, List.append_nil, List.cons_append, List.nil_append, hostOps0]
  after_results
  rfl

theorem V_v18 (c : Dev nD) : (V m c main_v18 : S4096x128.Idx → EReal) = TC := by
  unfold V
  simp only [List.flatten_cons, List.flatten_nil, List.append_nil, List.cons_append, List.nil_append, hostOps0]
  after_results
  rfl

theorem V_v20 (c : Dev nD) : (V m c main_v20 : S4096x128.Idx → EReal) = TL := by
  unfold V
  simp only [List.flatten_cons, List.flatten_nil, List.append_nil, List.cons_append, List.nil_append, hostOps0]
  after_results
  rfl

theorem V_v23 (c : Dev nD) : (V m c main_v23 : S4096x128.Idx → EReal) = TH := by
  unfold V
  simp only [List.flatten_cons, List.flatten_nil, List.append_nil, List.cons_append, List.nil_append, hostOps0]
  after_results
  rfl

/-- Where each window's block lies at grid point `t`. -/
theorem idx : ∀ t : Fin cfg0.N, win0_0.index t = ![t.val, 0]
    ∧ win0_1.index t = ![0, 0]
    ∧ win0_2.index t = ![0, 0]
    ∧ win0_3.index t = ![t.val % 8, 0]
    ∧ win0_4.index t = ![t.val % 8, 0]
    ∧ win0_5.index t = ![t.val % 8, 0]
    ∧ win0_6.index t = ![t.val, 0] :=
  (by decide +kernel : ∀ t : Fin grid0.N, _)

theorem rows_read (X : S16384x1024.Idx → EReal) (t : Fin cfg0.N) (r : Fin 512) (q : Fin 16384) (hq : q.val = t.val * 512 + r.val) (k : Fin 1024) :
    View.read (Elt Ideal) ((cfg0.win 0).blk t).view X (ix2 r k) = X (ix2 q k) := by
  have ht : t.val < 32 := t.isLt
  blk_point [idx t]

theorem gain_read (X : S1x1024.Idx → EReal) (t : Fin cfg0.N) (k : Fin 1024) :
    View.read (Elt Ideal) ((cfg0.win 1).blk t).view X (ix2 0 k) = X (ix2 0 k) := by
  blk_point [idx t]

theorem weight_read (X : S1024x1024.Idx → EReal) (t : Fin cfg0.N) (k : Fin 1024) (j : Fin 1024) :
    View.read (Elt Ideal) ((cfg0.win 2).blk t).view X (ix2 k j) = X (ix2 k j) := by
  blk_point [idx t]

theorem cos_read (X : S4096x128.Idx → EReal) (t : Fin cfg0.N) (r : Fin 512) (q : Fin 16384) (hq : q.val = t.val * 512 + r.val) (l : Fin 128) :
    View.read (Elt Ideal) ((cfg0.win 3).blk t).view X (ix2 r l) = X (ix2 ⟨q.val % 4096, by omega⟩ l) := by
  have ht : t.val < 32 := t.isLt
  blk_point [idx t]

theorem low_read (X : S4096x128.Idx → EReal) (t : Fin cfg0.N) (r : Fin 512) (q : Fin 16384) (hq : q.val = t.val * 512 + r.val) (l : Fin 128) :
    View.read (Elt Ideal) ((cfg0.win 4).blk t).view X (ix2 r l) = X (ix2 ⟨q.val % 4096, by omega⟩ l) := by
  have ht : t.val < 32 := t.isLt
  blk_point [idx t]

theorem high_read (X : S4096x128.Idx → EReal) (t : Fin cfg0.N) (r : Fin 512) (q : Fin 16384) (hq : q.val = t.val * 512 + r.val) (l : Fin 128) :
    View.read (Elt Ideal) ((cfg0.win 5).blk t).view X (ix2 r l) = X (ix2 ⟨q.val % 4096, by omega⟩ l) := by
  have ht : t.val < 32 := t.isLt
  blk_point [idx t]

theorem cast_at (X : S4x4096x1024.Idx → EReal) (q : Fin 16384) (k : Fin 1024) :
    shapeCast S16384x1024 (α := EReal) X shapeCasts_S4x4096x1024_S16384x1024 (ix2 q k) = X (ix3 ⟨q.val / 4096, by omega⟩ ⟨q.val % 4096, by omega⟩ k) := by
  pointwise []

theorem rows_at (c : Dev nD) (t : Fin cfg0.N) (r : Fin 512) (q : Fin 16384) (hq : q.val = t.val * 512 + r.val) (k : Fin 1024) :
    iblk m c 0 t (ix2 r k) = (m ((c : Thread nD τ).loc main_arg0)) (ix3 ⟨q.val / 4096, by omega⟩ ⟨q.val % 4096, by omega⟩ k) := by
  refine (rows_read (V m c main_v24) t r q hq k).trans ?_
  rw [V_v24]
  exact cast_at _ q k

theorem gain_at (c : Dev nD) (t : Fin cfg0.N) (k : Fin 1024) : iblk m c 1 t (ix2 (0 : Fin 1) k) = (m ((c : Thread nD τ).loc main_arg1)) (ix1 k) := by
  refine (gain_read (V m c main_v26) t k).trans ?_
  rw [V_v26]
  pointwise []

theorem weight_at (c : Dev nD) (t : Fin cfg0.N) (k : Fin 1024) (j : Fin 1024) : iblk m c 2 t (ix2 k j) = (m ((c : Thread nD τ).loc main_arg2)) (ix2 k j) := by
  refine (weight_read (V m c main_v25) t k j).trans ?_
  rw [V_v25]
  pointwise []

/-- A row of a tile, turned: the reference's row. -/
theorem turned_row (c : Dev nD) (t : Fin cfg0.N) (r : Fin 512) (j : Fin 1024) (q : Fin 16384) (hq : q.val = t.val * 512 + r.val) :
    threeTerms (projected (fun k => iblk m c 0 t (ix2 r k)) (fun k => iblk m c 1 t (ix2 (0 : Fin 1) k)) (fun k j => iblk m c 2 t (ix2 k j)))
      (fun l => iblk m c 3 t (ix2 r l)) (fun l => iblk m c 4 t (ix2 r l)) (fun l => iblk m c 5 t (ix2 r l)) j = REF (m ((c : Thread nD τ).loc main_arg0)) (m ((c : Thread nD τ).loc main_arg1)) (m ((c : Thread nD τ).loc main_arg2)) (ix2 q j) := by
  rw [REF_at]
  have hx : (fun k : Fin 1024 => iblk m c 0 t (ix2 r k)) = fun k => (m ((c : Thread nD τ).loc main_arg0)) (ix3 ⟨q.val / 4096, by omega⟩ ⟨q.val % 4096, by omega⟩ k) := funext fun k => rows_at m c t r q hq k
  have hg : (fun k : Fin 1024 => iblk m c 1 t (ix2 (0 : Fin 1) k)) = fun k => (m ((c : Thread nD τ).loc main_arg1)) (ix1 k) := funext fun k => gain_at m c t k
  have hw : (fun (k : Fin 1024) (j : Fin 1024) => iblk m c 2 t (ix2 k j)) = fun k j => (m ((c : Thread nD τ).loc main_arg2)) (ix2 k j) := funext fun k => funext fun j => weight_at m c t k _
  rw [hx, hg, hw]
  refine threeTerms_eq _ _ _ _ _ _ (fun l => ?_) (fun l => ?_) (fun l => ?_) j
  · refine (cos_read (V m c main_v18) t r q hq l).trans ?_
    rw [V_v18]
    exact TC_at _ l
  · refine (low_read (V m c main_v20) t r q hq l).trans ?_
    rw [V_v20]
    exact TL_at _ l
  · refine (high_read (V m c main_v23) t r q hq l).trans ?_
    rw [V_v23]
    exact TH_at _ l

theorem point_k (c : Dev nD) (t : Fin cfg0.N) (r : Fin 512) (j : Fin 1024) (q : Fin 16384) (hq : q.val = t.val * 512 + r.val) :
    out0_6 (F := Ideal) (iblk m c 0 t) (iblk m c 1 t) (iblk m c 2 t) (iblk m c 3 t) (iblk m c 4 t) (iblk m c 5 t) (ix2 r j) = REF (m ((c : Thread nD τ).loc main_arg0)) (m ((c : Thread nD τ).loc main_arg1)) (m ((c : Thread nD τ).loc main_arg2)) (ix2 q j) :=
  (out_k _ _ _ _ _ _ r j).trans (turned_row m c t r j q hq)

theorem final6 (c : Dev nD) : (dats m 0 c).arrAt 6 (cfgs 0).N = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  have ht : t.val < 32 := t.isLt
  have he : ((View.whole main_v27).slice (win0_6.rect t)).emb (ix2 y0 y1)
      = (ix2 (⟨t.val * 512 + y0.val, by omega⟩ : Fin 16384) y1 : S16384x1024.Idx) := by
    blk_ext [idx t]
  rw [he]
  exact point_k m c t y0 y1 _ rfl

end Cert.QProjIdeal.Layer

end
-- ==== Proof.InProjMath.lean ====
/-
  The causal convolution of the mixer's first projection on the extended reals, column by column: a column of a
  sequence is the activation of four shifted products, the rows before the sequence's start being zero.
-/
module

public import proofs.«01_k».proof.Proof.RopeMath

@[expose] public section

noncomputable section

open Idealize.ShloMosaic

namespace Cert.InProj

/-- The activation `x * logistic x`. -/
def silu (x : EReal) : EReal := x * Ideal.logistic x

/-- A column of a sequence `b` rows back from row `l`: zero before the sequence's start. -/
def back (P : Fin 4096 → EReal) (b : Nat) (l : Fin 4096) : EReal := if h : b ≤ l.val then P ⟨l.val - b, by omega⟩ else 0

/-- The convolution of a column with four weights, and a bias. -/
def conv (P : Fin 4096 → EReal) (w : Fin 4 → EReal) (bias : EReal) (l : Fin 4096) : EReal :=
  back P 3 l * w 0 + back P 2 l * w 1 + back P 1 l * w 2 + back P 0 l * w 3 + bias

/-- A row of a tile `b` rows back: a row of the tile, or one of the eight rows before it. -/
def tap (P : Fin 512 → EReal) (prev : Fin 8 → EReal) (b : Nat) (hb : b ≤ 3) (r : Fin 512) : EReal :=
  if h : r.val < b then prev ⟨8 - b + r.val, by omega⟩ else P ⟨r.val - b, by omega⟩

/-- The convolution of a tile's column, in the order the tile adds its terms. -/
def convTile (P : Fin 512 → EReal) (prev : Fin 8 → EReal) (w0 w1 w2 w3 bias : EReal) (r : Fin 512) : EReal :=
  bias + w3 * P r + w2 * tap P prev 1 (by omega) r + w1 * tap P prev 2 (by omega) r + w0 * tap P prev 3 (by omega) r

/-- A tile's rows back are the sequence's when the tile's rows are and the eight rows before it are, or are zero at the start. -/
theorem tap_eq (S : Fin 4096 → EReal) (P : Fin 512 → EReal) (prev : Fin 8 → EReal) (a : Nat) (ha : a < 8)
    (hP : ∀ r : Fin 512, P r = S ⟨a * 512 + r.val, by omega⟩)
    (hprev : ∀ i : Fin 8, prev i = if h : 0 < a then S ⟨a * 512 + i.val - 8, by omega⟩ else 0)
    (b : Nat) (hb : b ≤ 3) (r : Fin 512) (l : Fin 4096) (hl : l.val = a * 512 + r.val) :
    tap P prev b hb r = back S b l := by
  unfold tap back
  by_cases h : r.val < b
  · simp only [h, ↓reduceDIte, hprev]
    by_cases h0 : 0 < a
    · have h1 : b ≤ l.val := by omega
      simp only [h0, h1, ↓reduceDIte]
      exact congrArg S (Fin.ext (by dsimp only; omega))
    · have h1 : ¬ b ≤ l.val := by omega
      simp only [h0, h1, ↓reduceDIte]
  · have h1 : b ≤ l.val := by omega
    simp only [h, h1, ↓reduceDIte, hP]
    exact congrArg S (Fin.ext (by dsimp only; omega))

/-- So a tile's convolution is the sequence's. -/
theorem convTile_eq (S : Fin 4096 → EReal) (P : Fin 512 → EReal) (prev : Fin 8 → EReal) (a : Nat) (ha : a < 8)
    (hP : ∀ r : Fin 512, P r = S ⟨a * 512 + r.val, by omega⟩)
    (hprev : ∀ i : Fin 8, prev i = if h : 0 < a then S ⟨a * 512 + i.val - 8, by omega⟩ else 0)
    (w : Fin 4 → EReal) (bias : EReal) (r : Fin 512) (l : Fin 4096) (hl : l.val = a * 512 + r.val) :
    convTile P prev (w 0) (w 1) (w 2) (w 3) bias r = conv S w bias l := by
  have e0 : P r = back S 0 l := by
    unfold back
    simp only [Nat.zero_le, ↓reduceDIte, hP]
    exact congrArg S (Fin.ext (by dsimp only; omega))
  unfold convTile conv
  rw [e0, tap_eq S P prev a ha hP hprev 1 (by omega) r l hl, tap_eq S P prev a ha hP hprev 2 (by omega) r l hl,
    tap_eq S P prev a ha hP hprev 3 (by omega) r l hl]
  simp only [mul_comm (w _)]
  ac_rfl

end Cert.InProj

end
-- ==== Proof.InProjRefValue.lean ====
/-
  The result arrays of the plain reference of the mixer's first projection of the prompt, index by index: the gate's
  columns, the activated convolution, the step columns set in groups of 128 lanes, and the last rows before the
  convolution.
-/
module

public import proofs.«01_k».proof.Proof.InProjMath
public import proofs.«01_k».proof.Proof.Gen.InProjRefIdeal.Run

@[expose] public section

set_option maxRecDepth 16384

noncomputable section

open Idealize.ShloMosaic Idealize.ShloMosaic.TcCoe Idealize.SL.Sem
open Idealize.ShloMosaic.Pipeline (Dat)

namespace Cert.InProjRefIdeal.Layer

open Cert.InProjRefIdeal Cert.InProjRefIdeal.Gen Cert.Ffn Cert.Rope Cert.InProj

/-- The normalised rows against the weights. -/
def PROJ (h : FVec Ideal S4x4096x1024 .f32) (g : FVec Ideal S1024 .f32) (w : FVec Ideal S1024x5152 .f32) : FVec Ideal S4x4096x5152 .f32 :=
  Host.dotGeneral dot_S4x4096x1024_S1024x5152_S4x4096x5152_2_0_01_1_n_n none (mulf (mulf h (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf h h) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) w

/-- The columns the convolution reads. -/
def XIN (h : FVec Ideal S4x4096x1024 .f32) (g : FVec Ideal S1024 .f32) (w : FVec Ideal S1024x5152 .f32) : FVec Ideal S4x4096x3072 .f32 :=
  extractStridedSlice S4x4096x3072 ![0, 0, 2048] (PROJ h g w) slices_S4x4096x5152_S4x4096x3072_0_0_2048

/-- A sequence's rows after three rows of zeros. -/
def ROWS (X : FVec Ideal S4x4096x3072 .f32) : FVec Ideal S4x4099x3072 .f32 :=
  concatenate S4x4099x3072 1 [⟨S4x3x3072, (broadcastInDim S4x3x3072 ![] bcast_S_S4x3x3072 (constant S_ .f32 0x00000000#32))⟩, ⟨S4x4096x3072, X⟩] concatenates_S4x3x3072_S4x4096x3072_S4x4099x3072_d1

/-- The convolution, from the rows with the zeros before them. -/
def PRE (C : FVec Ideal S4x4099x3072 .f32) (cw : FVec Ideal S4x3072 .f32) (cb : FVec Ideal S3072 .f32) : FVec Ideal S4x4096x3072 .f32 :=
  addf (addf (addf (addf (addf (broadcastInDim S4x4096x3072 ![] bcast_S_S4x4096x3072 (constant S_ .f32 0x00000000#32)) (mulf (extractStridedSlice S4x4096x3072 ![0, 0, 0] C slices_S4x4099x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] cw slices_S4x3072_S1x3072_0_0) shapeCasts_S1x3072_S3072))))) (mulf (extractStridedSlice S4x4096x3072 ![0, 1, 0] C slices_S4x4099x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] cw slices_S4x3072_S1x3072_1_0) shapeCasts_S1x3072_S3072))))) (mulf (extractStridedSlice S4x4096x3072 ![0, 2, 0] C slices_S4x4099x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] cw slices_S4x3072_S1x3072_2_0) shapeCasts_S1x3072_S3072))))) (mulf (extractStridedSlice S4x4096x3072 ![0, 3, 0] C slices_S4x4099x3072_S4x4096x3072_0_3_0) (broadcastInDim S4x4096x3072 ![0, 1, 2] bcast_S1x1x3072_S4x4096x3072_0_1_2 (broadcastInDim S1x1x3072 ![2] bcast_S3072_S1x1x3072_2 (shapeCast _ (extractStridedSlice S1x3072 ![3, 0] cw slices_S4x3072_S1x3072_3_0) shapeCasts_S1x3072_S3072))))) (broadcastInDim S4x4096x3072 ![0, 1, 2] bcast_S1x1x3072_S4x4096x3072_0_1_2 (broadcastInDim S1x1x3072 ![2] bcast_S3072_S1x1x3072_2 cb))

/-- The activation of an array. -/
def ACT (A : FVec Ideal S4x4096x3072 .f32) : FVec Ideal S4x4096x3072 .f32 :=
  mulf A (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf A))))

/-- The gate's columns, a row for a token. -/
def ZED (h : FVec Ideal S4x4096x1024 .f32) (g : FVec Ideal S1024 .f32) (w : FVec Ideal S1024x5152 .f32) : FVec Ideal S16384x2048 .bf16 :=
  truncf .bf16 (shapeCast _ (extractStridedSlice S4x4096x2048 ![0, 0, 0] (PROJ h g w) slices_S4x4096x5152_S4x4096x2048_0_0_0) shapeCasts_S4x4096x2048_S16384x2048) bitsLt_bf16_f32

/-- The activated convolution, a row for a token. -/
def XBC (h : FVec Ideal S4x4096x1024 .f32) (g : FVec Ideal S1024 .f32) (w : FVec Ideal S1024x5152 .f32) (cw : FVec Ideal S4x3072 .f32) (cb : FVec Ideal S3072 .f32) : FVec Ideal S16384x3072 .bf16 :=
  truncf .bf16 (shapeCast _ (ACT (PRE (ROWS (XIN h g w)) cw cb)) shapeCasts_S4x4096x3072_S16384x3072) bitsLt_bf16_f32

/-- The step columns, eight in each group of 128 lanes. -/
def STEPS (h : FVec Ideal S4x4096x1024 .f32) (g : FVec Ideal S1024 .f32) (w : FVec Ideal S1024x5152 .f32) : FVec Ideal S16384x512 .f32 :=
  shapeCast _ (pad S16384x4x128 ![0, 0, 0] ![0, 0, 120] ![0, 0, 0] (shapeCast _ (extractStridedSlice S4x4096x32 ![0, 0, 5120] (PROJ h g w) slices_S4x4096x5152_S4x4096x32_0_0_5120) shapeCasts_S4x4096x32_S16384x4x8) (sitofp .f32 (constantI S_ 32 0#32)) pads_S16384x4x8_S16384x4x128_000_000_01200 h_S_) shapeCasts_S16384x4x128_S16384x512

/-- The last rows before the convolution. -/
def LAST (h : FVec Ideal S4x4096x1024 .f32) (g : FVec Ideal S1024 .f32) (w : FVec Ideal S1024x5152 .f32) : FVec Ideal S4x8x3072 .f32 :=
  extractStridedSlice S4x8x3072 ![0, 4091, 0] (ROWS (XIN h g w)) slices_S4x4099x3072_S4x8x3072_0_4091_0

/-- A projected row's column. -/
def col (h : FVec Ideal S4x4096x1024 .f32) (g : FVec Ideal S1024 .f32) (w : FVec Ideal S1024x5152 .f32) (n : Fin 4) (l : Fin 4096) (j : Fin 5152) : EReal :=
  projected (fun k => h (ix3 n l k)) (fun k => g (ix1 k)) (fun k j => w (ix2 k j)) j

theorem PROJ_at (h : FVec Ideal S4x4096x1024 .f32) (g : FVec Ideal S1024 .f32) (w : FVec Ideal S1024x5152 .f32) (n : Fin 4) (l : Fin 4096) (j : Fin 5152) :
    PROJ h g w (ix3 n l j) = col h g w n l j := by
  pointwise [PROJ, col, projected, normed]

theorem XIN_at (h : FVec Ideal S4x4096x1024 .f32) (g : FVec Ideal S1024 .f32) (w : FVec Ideal S1024x5152 .f32) (n : Fin 4) (l : Fin 4096) (j : Fin 3072) :
    XIN h g w (ix3 n l j) = col h g w n l ⟨2048 + j.val, by omega⟩ := by
  rw [← PROJ_at]
  generalize hP : PROJ h g w = P
  pointwise [XIN, hP]

theorem ROWS_at (X : FVec Ideal S4x4096x3072 .f32) (n : Fin 4) (q : Fin 4099) (j : Fin 3072) :
    ROWS X (ix3 n q j) = if h : q.val < 3 then 0 else X (ix3 n ⟨q.val - 3, by omega⟩ j) := by
  pointwise [ROWS]

/-- A row of the padded sequence is a row of the sequence some places back. -/
theorem ROWS_back (X : FVec Ideal S4x4096x3072 .f32) (n : Fin 4) (l : Fin 4096) (j : Fin 3072) (b : Nat) (hb : b ≤ 3) (q : Fin 4099) (hq : q.val + b = l.val + 3) :
    ROWS X (ix3 n q j) = back (fun l => X (ix3 n l j)) b l := by
  rw [ROWS_at]
  unfold back
  by_cases h : q.val < 3
  · have h1 : ¬ b ≤ l.val := by omega
    simp only [h, h1, ↓reduceDIte]
  · have h1 : b ≤ l.val := by omega
    simp only [h, h1, ↓reduceDIte]
    exact congrArg (fun a => X (ix3 n a j)) (Fin.ext (by dsimp only; omega))

theorem PRE_gen (C : FVec Ideal S4x4099x3072 .f32) (cw : FVec Ideal S4x3072 .f32) (cb : FVec Ideal S3072 .f32) (n : Fin 4) (l : Fin 4096) (j : Fin 3072) :
    PRE C cw cb (ix3 n l j) = C (ix3 n ⟨l.val, by omega⟩ j) * cw (ix2 0 j) + C (ix3 n ⟨1 + l.val, by omega⟩ j) * cw (ix2 1 j)
      + C (ix3 n ⟨2 + l.val, by omega⟩ j) * cw (ix2 2 j) + C (ix3 n ⟨3 + l.val, by omega⟩ j) * cw (ix2 3 j) + cb (ix1 j) := by
  pointwise [PRE]

theorem PRE_at (X : FVec Ideal S4x4096x3072 .f32) (cw : FVec Ideal S4x3072 .f32) (cb : FVec Ideal S3072 .f32) (n : Fin 4) (l : Fin 4096) (j : Fin 3072) :
    PRE (ROWS X) cw cb (ix3 n l j) = conv (fun l => X (ix3 n l j)) (fun i => cw (ix2 i j)) (cb (ix1 j)) l := by
  rw [PRE_gen, ROWS_back X n l j 3 (by omega) ⟨l.val, by omega⟩ rfl, ROWS_back X n l j 2 (by omega) ⟨1 + l.val, by omega⟩ (by dsimp only; omega),
    ROWS_back X n l j 1 (by omega) ⟨2 + l.val, by omega⟩ (by dsimp only; omega), ROWS_back X n l j 0 (by omega) ⟨3 + l.val, by omega⟩ (by dsimp only; omega)]
  rfl

theorem ACT_at (A : FVec Ideal S4x4096x3072 .f32) (i : S4x4096x3072.Idx) : ACT A i = silu (A i) := by
  pointwise [ACT, silu, Ideal.logistic]

theorem ZED_at (h : FVec Ideal S4x4096x1024 .f32) (g : FVec Ideal S1024 .f32) (w : FVec Ideal S1024x5152 .f32) (q : Fin 16384) (j : Fin 2048) :
    ZED h g w (ix2 q j) = col h g w ⟨q.val / 4096, by omega⟩ ⟨q.val % 4096, by omega⟩ ⟨j.val, by omega⟩ := by
  rw [← PROJ_at]
  generalize hP : PROJ h g w = P
  pointwise [ZED, hP]

theorem XBC_at (h : FVec Ideal S4x4096x1024 .f32) (g : FVec Ideal S1024 .f32) (w : FVec Ideal S1024x5152 .f32) (cw : FVec Ideal S4x3072 .f32) (cb : FVec Ideal S3072 .f32) (q : Fin 16384) (j : Fin 3072) :
    XBC h g w cw cb (ix2 q j) = silu (conv (fun l => col h g w ⟨q.val / 4096, by omega⟩ l ⟨2048 + j.val, by omega⟩) (fun i => cw (ix2 i j)) (cb (ix1 j)) ⟨q.val % 4096, by omega⟩) := by
  have e : XBC h g w cw cb (ix2 q j) = ACT (PRE (ROWS (XIN h g w)) cw cb) (ix3 ⟨q.val / 4096, by omega⟩ ⟨q.val % 4096, by omega⟩ j) := by
    generalize hP : ACT (PRE (ROWS (XIN h g w)) cw cb) = P
    pointwise [XBC, hP]
  rw [e, ACT_at, PRE_at]
  simp only [XIN_at]

theorem STEPS_at (h : FVec Ideal S4x4096x1024 .f32) (g : FVec Ideal S1024 .f32) (w : FVec Ideal S1024x5152 .f32) (q : Fin 16384) (j : Fin 512) :
    STEPS h g w (ix2 q j) = if hj : j.val % 128 < 8 then col h g w ⟨q.val / 4096, by omega⟩ ⟨q.val % 4096, by omega⟩ ⟨5120 + (j.val / 128 * 8 + j.val % 128), by omega⟩ else 0 := by
  simp only [← PROJ_at]
  generalize hP : PROJ h g w = P
  pointwise [STEPS, hP]
  have h4 : j.val / 128 < 4 := by omega
  have e0 : (FloatOps.sitofp FTy.f32 0#32 : Ideal .f32) = (0 : EReal) := by
    show (((0#32 : BitVec 32).toInt : ℝ) : EReal) = 0
    simp
  simp only [h4, true_and, e0]

theorem LAST_at (h : FVec Ideal S4x4096x1024 .f32) (g : FVec Ideal S1024 .f32) (w : FVec Ideal S1024x5152 .f32) (n : Fin 4) (i : Fin 8) (j : Fin 3072) :
    LAST h g w (ix3 n i j) = col h g w n ⟨4088 + i.val, by omega⟩ ⟨2048 + j.val, by omega⟩ := by
  have e : LAST h g w (ix3 n i j) = ROWS (XIN h g w) (ix3 n ⟨4091 + i.val, by omega⟩ j) := by
    generalize hP : ROWS (XIN h g w) = P
    pointwise [LAST, hP]
  rw [e, ROWS_back _ n ⟨4088 + i.val, by omega⟩ j 0 (by omega) ⟨4091 + i.val, by omega⟩ (by dsimp only; omega)]
  exact XIN_at h g w n ⟨4088 + i.val, by omega⟩ j

/-- The reference's second result buffer holds it. -/
theorem res_xbc (m : (ℓ : Loc nD τ sig) → Buf (Elt Ideal) ℓ) (c : Dev nD) :
    Value.res_out1 m c = XBC (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.InProjRefIdeal.Layer

end
-- ==== Proof.InProjPure.lean ====
/-
  One tile of the mixer's first projection of the prompt, column chunk by column chunk: the projected chunk, its last
  eight rows, and its activated convolution with the eight rows that came before.
-/
module

public import proofs.«01_k».proof.Proof.InProjMath
public import proofs.«01_k».proof.Proof.Gen.InProjIdeal.Value
public import Idealize.ShloMosaic.Lib.Pipeline.ValueKit

@[expose] public section

set_option maxRecDepth 16384

noncomputable section

open Idealize.ShloMosaic Idealize.ShloMosaic.TcCoe Idealize.SL.Sem

namespace Cert.InProjIdeal.Pure

open Cert.InProjIdeal Cert.InProjIdeal.Gen Cert.Ffn Cert.Rope Cert.InProj

/-- The row numbers of eight rows. -/
abbrev IOTA : IVec S8x512 32 := iota .tc S8x512 32 [0] iota_S8x512_d0_w32

/-- A chunk's rows shifted by some rows, the first of them taken from the rows before. -/
def TAP (b : BitVec 32) (raw : FVec Ideal S512x512 .f32) (prev : FVec Ideal S8x512 .f32) : FVec Ideal S512x512 .f32 :=
  concatenate S512x512 0 [⟨S8x512, select (cmpi .slt IOTA (broadcast S8x512 b)) (dynamicRotate 0 b none prev rotates_S8x512_d0)
      (extractStridedSlice S8x512 ![0, 0] (dynamicRotate 0 b none raw rotates_S512x512_d0) slices_S512x512_o0_0_S8x512)⟩,
    ⟨S504x512, extractStridedSlice S504x512 ![8, 0] (dynamicRotate 0 b none raw rotates_S512x512_d0) slices_S512x512_o8_0_S504x512⟩]
    concatenates_S8x512_S504x512_S512x512_d0

/-- The comparison of a row number below eight with a shift picks between two values. -/
theorem pick (b : Fin 4) (r : Fin 8) (x y : EReal) :
    Scalar.select (IntOp.cmpi CmpIPredicate.slt (BitVec.ofNat 32 r.val) (BitVec.ofNat 32 b.val)) x y = if r.val < b.val then x else y := by
  have e : IntOp.cmpi CmpIPredicate.slt (BitVec.ofNat 32 r.val) (BitVec.ofNat 32 b.val) = if r.val < b.val then 1#1 else 0#1 := by
    revert b r
    decide
  rw [e]
  by_cases h : r.val < b.val <;> simp [h, Scalar.select]

theorem TAP_1 (raw : FVec Ideal S512x512 .f32) (prev : FVec Ideal S8x512 .f32) (r : Fin 512) (j : Fin 512) :
    TAP 1#32 raw prev (ix2 r j) = tap (fun r => raw (ix2 r j)) (fun i => prev (ix2 i j)) 1 (by omega) r := by
  pointwise [TAP, tap]
  by_cases h8 : r.val < 8
  · have e := pick 1 ⟨r.val, h8⟩ (prev (ix2 ⟨(r.val + 8 - 1) % 8, by omega⟩ j)) (raw (ix2 ⟨(r.val + 512 - 1) % 512, by omega⟩ j))
    simp only [h8, ↓reduceDIte]
    refine e.trans ?_
    by_cases h : r.val < 1
    · have h' : r.val < (1 : Fin 4).val := h
      simp only [h, h', ↓reduceDIte, ↓reduceIte]
      exact congrArg (fun a => prev (ix2 a j)) (Fin.ext (by dsimp only; omega))
    · have h' : ¬ r.val < (1 : Fin 4).val := h
      simp only [h, h', ↓reduceDIte, ↓reduceIte]
      exact congrArg (fun a => raw (ix2 a j)) (Fin.ext (by dsimp only; omega))
  · have h : ¬ r.val < 1 := by omega
    simp only [h8, h, ↓reduceDIte]
    exact congrArg (fun a => raw (ix2 a j)) (Fin.ext (by dsimp only; omega))

theorem TAP_2 (raw : FVec Ideal S512x512 .f32) (prev : FVec Ideal S8x512 .f32) (r : Fin 512) (j : Fin 512) :
    TAP 2#32 raw prev (ix2 r j) = tap (fun r => raw (ix2 r j)) (fun i => prev (ix2 i j)) 2 (by omega) r := by
  pointwise [TAP, tap]
  by_cases h8 : r.val < 8
  · have e := pick 2 ⟨r.val, h8⟩ (prev (ix2 ⟨(r.val + 8 - 2) % 8, by omega⟩ j)) (raw (ix2 ⟨(r.val + 512 - 2) % 512, by omega⟩ j))
    simp only [h8, ↓reduceDIte]
    refine e.trans ?_
    by_cases h : r.val < 2
    · have h' : r.val < (2 : Fin 4).val := h
      simp only [h, h', ↓reduceDIte, ↓reduceIte]
      exact congrArg (fun a => prev (ix2 a j)) (Fin.ext (by dsimp only; omega))
    · have h' : ¬ r.val < (2 : Fin 4).val := h
      simp only [h, h', ↓reduceDIte, ↓reduceIte]
      exact congrArg (fun a => raw (ix2 a j)) (Fin.ext (by dsimp only; omega))
  · have h : ¬ r.val < 2 := by omega
    simp only [h8, h, ↓reduceDIte]
    exact congrArg (fun a => raw (ix2 a j)) (Fin.ext (by dsimp only; omega))

theorem TAP_3 (raw : FVec Ideal S512x512 .f32) (prev : FVec Ideal S8x512 .f32) (r : Fin 512) (j : Fin 512) :
    TAP 3#32 raw prev (ix2 r j) = tap (fun r => raw (ix2 r j)) (fun i => prev (ix2 i j)) 3 (by omega) r := by
  pointwise [TAP, tap]
  by_cases h8 : r.val < 8
  · have e := pick 3 ⟨r.val, h8⟩ (prev (ix2 ⟨(r.val + 8 - 3) % 8, by omega⟩ j)) (raw (ix2 ⟨(r.val + 512 - 3) % 512, by omega⟩ j))
    simp only [h8, ↓reduceDIte]
    refine e.trans ?_
    by_cases h : r.val < 3
    · have h' : r.val < (3 : Fin 4).val := h
      simp only [h, h', ↓reduceDIte, ↓reduceIte]
      exact congrArg (fun a => prev (ix2 a j)) (Fin.ext (by dsimp only; omega))
    · have h' : ¬ r.val < (3 : Fin 4).val := h
      simp only [h, h', ↓reduceDIte, ↓reduceIte]
      exact congrArg (fun a => raw (ix2 a j)) (Fin.ext (by dsimp only; omega))
  · have h : ¬ r.val < 3 := by omega
    simp only [h8, h, ↓reduceDIte]
    exact congrArg (fun a => raw (ix2 a j)) (Fin.ext (by dsimp only; omega))

/-- A chunk's convolution before the activation. -/
def SUM (raw : FVec Ideal S512x512 .f32) (prev : FVec Ideal S8x512 .f32) (cb w3 w2 w1 w0 : FVec Ideal S1x512 .f32) : FVec Ideal S512x512 .f32 :=
  addf (addf (addf (addf (broadcastTo S512x512 (shapeCast S1x512 cb shapeCasts_S1x512_S1x512) broadcasts_S1x512_S512x512)
    (mulf (broadcastTo S512x512 w3 broadcasts_S1x512_S512x512) raw))
    (mulf (broadcastTo S512x512 w2 broadcasts_S1x512_S512x512) (TAP 1#32 raw prev)))
    (mulf (broadcastTo S512x512 w1 broadcasts_S1x512_S512x512) (TAP 2#32 raw prev)))
    (mulf (broadcastTo S512x512 w0 broadcasts_S1x512_S512x512) (TAP 3#32 raw prev))

/-- A chunk's activated convolution. -/
def CHUNK (raw : FVec Ideal S512x512 .f32) (prev : FVec Ideal S8x512 .f32) (cb w3 w2 w1 w0 : FVec Ideal S1x512 .f32) : FVec Ideal S512x512 .bf16 :=
  truncf .bf16 (mulf (SUM raw prev cb w3 w2 w1 w0) (logistic (SUM raw prev cb w3 w2 w1 w0))) bitsLt_bf16_f32

theorem SUM_at (raw : FVec Ideal S512x512 .f32) (prev : FVec Ideal S8x512 .f32) (cb w3 w2 w1 w0 : FVec Ideal S1x512 .f32) (r : Fin 512) (j : Fin 512) : SUM raw prev cb w3 w2 w1 w0 (ix2 r j)
    = convTile (fun r => raw (ix2 r j)) (fun i => prev (ix2 i j)) (w0 (ix2 0 j)) (w1 (ix2 0 j)) (w2 (ix2 0 j)) (w3 (ix2 0 j)) (cb (ix2 0 j)) r := by
  unfold convTile
  rw [← TAP_1, ← TAP_2, ← TAP_3]
  generalize h1 : TAP 1#32 raw prev = T1
  generalize h2 : TAP 2#32 raw prev = T2
  generalize h3 : TAP 3#32 raw prev = T3
  pointwise [SUM, h1, h2, h3]

theorem CHUNK_at (raw : FVec Ideal S512x512 .f32) (prev : FVec Ideal S8x512 .f32) (cb w3 w2 w1 w0 : FVec Ideal S1x512 .f32) (r : Fin 512) (j : Fin 512) : CHUNK raw prev cb w3 w2 w1 w0 (ix2 r j)
    = silu (convTile (fun r => raw (ix2 r j)) (fun i => prev (ix2 i j)) (w0 (ix2 0 j)) (w1 (ix2 0 j)) (w2 (ix2 0 j)) (w3 (ix2 0 j)) (cb (ix2 0 j)) r) := by
  rw [← SUM_at]
  generalize h : SUM raw prev cb w3 w2 w1 w0 = A
  pointwise [CHUNK, silu, h]

/-- The stored chunk 0 of the convolution. -/
theorem chunk_0 (raw : FVec Ideal S512x512 .f32) (prev : FVec Ideal S8x512 .f32) (cb w3 w2 w1 w0 : FVec Ideal S1x512 .f32) :
    k0_pay8 IOTA raw prev (k0_pay7 IOTA raw prev cb w3 w2 w1) 3#32 w0 = CHUNK raw prev cb w3 w2 w1 w0 := rfl

/-- The stored chunk 1 of the convolution. -/
theorem chunk_1 (raw : FVec Ideal S512x512 .f32) (prev : FVec Ideal S8x512 .f32) (cb w3 w2 w1 w0 : FVec Ideal S1x512 .f32) :
    k0_pay16 (k0_pay14 IOTA raw prev cb w3 w2 w1 w0) (k0_pay15 IOTA raw prev cb w3 w2 w1 w0) = CHUNK raw prev cb w3 w2 w1 w0 := rfl

/-- The stored chunk 2 of the convolution. -/
theorem chunk_2 (raw : FVec Ideal S512x512 .f32) (prev : FVec Ideal S8x512 .f32) (cb w3 w2 w1 w0 : FVec Ideal S1x512 .f32) :
    k0_pay25 IOTA raw prev (k0_pay22 raw cb w3) (k0_pay23 raw) (k0_pay24 IOTA raw prev) w2 w1 w0 = CHUNK raw prev cb w3 w2 w1 w0 := rfl

/-- The stored chunk 3 of the convolution. -/
theorem chunk_3 (raw : FVec Ideal S512x512 .f32) (prev : FVec Ideal S8x512 .f32) (cb w3 w2 w1 w0 : FVec Ideal S1x512 .f32) :
    k0_pay34 IOTA raw prev (k0_pay31 IOTA raw prev cb w3 w2) (k0_pay32 raw) (k0_pay33 IOTA raw prev) w1 w0 = CHUNK raw prev cb w3 w2 w1 w0 := rfl

/-- The stored chunk 4 of the convolution. -/
theorem chunk_4 (raw : FVec Ideal S512x512 .f32) (prev : FVec Ideal S8x512 .f32) (cb w3 w2 w1 w0 : FVec Ideal S1x512 .f32) :
    k0_pay44 (k0_pay40 IOTA raw prev cb w3 w2 w1) (k0_pay42 IOTA raw prev) (k0_pay43 raw) w0 = CHUNK raw prev cb w3 w2 w1 w0 := rfl

/-- The stored chunk 5 of the convolution. -/
theorem chunk_5 (raw : FVec Ideal S512x512 .f32) (prev : FVec Ideal S8x512 .f32) (cb w3 w2 w1 w0 : FVec Ideal S1x512 .f32) :
    k0_pay49 IOTA raw prev (k0_pay48 IOTA raw prev cb w3 w2) 2#32 w1 w0 = CHUNK raw prev cb w3 w2 w1 w0 := rfl

variable (x0 : FVec Ideal S512x1024 .f32) (x1 : FVec Ideal S1x1024 .f32) (x2 : FVec Ideal S1024x5152 .bf16)

/-- The projected column of a tile's row. -/
def RAW (r : Fin 512) (j : Fin 5152) : EReal :=
  projected (fun k => x0 (ix2 r k)) (fun k => x1 (ix2 0 k)) (fun k j => x2 (ix2 k j)) j

/-- A projected chunk. -/
theorem raw_at (x0 : FVec Ideal S512x1024 .f32) (x1 : FVec Ideal S1x1024 .f32) (W : FVec Ideal S1024x512 .bf16) (r : Fin 512) (j : Fin 512) : k0_pay4 (F := Ideal) x0 x1 W (ix2 r j)
    = projected (fun k => x0 (ix2 r k)) (fun k => x1 (ix2 0 k)) (fun k j => W (ix2 k j)) j := by
  pointwise [k0_pay4, k0_pay2, projected, normed]

theorem gate_at (x0 : FVec Ideal S512x1024 .f32) (x1 : FVec Ideal S1x1024 .f32) (W : FVec Ideal S1024x512 .bf16) (r : Fin 512) (j : Fin 512) : k0_pay6 (F := Ideal) (k0_pay2 x0 x1) W (ix2 r j)
    = projected (fun k => x0 (ix2 r k)) (fun k => x1 (ix2 0 k)) (fun k j => W (ix2 k j)) j := by
  pointwise [k0_pay6, k0_pay2, projected, normed]

theorem steps_at (x0 : FVec Ideal S512x1024 .f32) (x1 : FVec Ideal S1x1024 .f32) (W : FVec Ideal S1024x512 .bf16) (r : Fin 512) (j : Fin 512) : k0_pay39 (F := Ideal) (k0_pay2 x0 x1) W (ix2 r j)
    = projected (fun k => x0 (ix2 r k)) (fun k => x1 (ix2 0 k)) (fun k j => W (ix2 k j)) j := by
  pointwise [k0_pay39, k0_pay2, projected, normed]

theorem end_at (raw : FVec Ideal S512x512 .f32) (i : Fin 8) (j : Fin 512) : k0_pay11 (F := Ideal) raw (ix2 i j) = raw (ix2 ⟨504 + i.val, by omega⟩ j) := by
  pointwise [k0_pay11, k0_pay9]

theorem tail_at (raw : FVec Ideal S512x512 .f32) (i : Fin 8) (j : Fin 512) : k0_pay10 (F := Ideal) raw (ix3 0 i j) = raw (ix2 ⟨504 + i.val, by omega⟩ j) := by
  pointwise [k0_pay10, k0_pay9]

/-- A tile of the gate's columns. -/
def ZT : S512x2048.Idx → EReal := fun i =>
  RAW x0 x1 x2 (i 0) ⟨(i 1).val, by have h : (i 1).val < 2048 := (i 1).isLt; omega⟩

/-- A tile of the activated convolution, with the eight rows that came before. -/
def XT (x4 : FVec Ideal S4x3072 .f32) (x5 : FVec Ideal S1x3072 .f32) (prev : FVec Ideal S8x3072 .f32) : S512x3072.Idx → EReal := fun i =>
  silu (convTile (fun r => RAW x0 x1 x2 r ⟨2048 + (i 1).val, by have h : (i 1).val < 3072 := (i 1).isLt; omega⟩) (fun q => prev (ix2 q (i 1)))
    (x4 (ix2 0 (i 1))) (x4 (ix2 1 (i 1))) (x4 (ix2 2 (i 1))) (x4 (ix2 3 (i 1))) (x5 (ix2 0 (i 1))) (i 0))

/-- The last eight rows of a tile before the convolution. -/
def ET : S8x3072.Idx → EReal := fun i =>
  RAW x0 x1 x2 ⟨504 + (i 0).val, by have h : (i 0).val < 8 := (i 0).isLt; omega⟩ ⟨2048 + (i 1).val, by have h : (i 1).val < 3072 := (i 1).isLt; omega⟩

/-- The same rows, as the result's block. -/
def TT : S1x8x3072.Idx → EReal := fun i =>
  RAW x0 x1 x2 ⟨504 + (i 1).val, by have h : (i 1).val < 8 := (i 1).isLt; omega⟩ ⟨2048 + (i 2).val, by have h : (i 2).val < 3072 := (i 2).isLt; omega⟩

theorem z_piece_0 (x : S512x512.Idx) :
    k0_pay6 (F := Ideal) (k0_pay2 x0 x1) (View.ld (Val := Elt Ideal) (e' := .bf16) x2 (Rect.unit (s := S1024x5152) ![0, 0] S1024x512.size inb_S1024x5152_S1024x512_0_0)) x
      = ZT x0 x1 x2 ((Rect.unit (s := S512x2048) ![0, 0] S512x512.size inb_S512x2048_S512x512_0_0).emb x) := by
  obtain ⟨r, j, rfl⟩ : ∃ (r : Fin 512) (j : Fin 512), x = ix2 r j := ⟨x 0, x 1, (ix2_eta x).symm⟩
  refine (gate_at x0 x1 (View.ld (Val := Elt Ideal) (e' := .bf16) x2 (Rect.unit (s := S1024x5152) ![0, 0] S1024x512.size inb_S1024x5152_S1024x512_0_0)) r j).trans ?_
  have e : (Rect.unit (s := S512x2048) ![0, 0] S512x512.size inb_S512x2048_S512x512_0_0).emb (ix2 r j) = (ix2 r ⟨0 + j.val, by omega⟩ : S512x2048.Idx) := by
    blk_ext []
  rw [e]
  show _ = RAW x0 x1 x2 r ⟨0 + j.val, _⟩
  unfold RAW projected
  refine Finset.sum_congr rfl fun k _ => congrArg _ ?_
  pointwise []

theorem z_piece_1 (x : S512x512.Idx) :
    k0_pay13 (F := Ideal) (k0_pay2 x0 x1) (View.ld (Val := Elt Ideal) (e' := .bf16) x2 (Rect.unit (s := S1024x5152) ![0, 512] S1024x512.size inb_S1024x5152_S1024x512_0_512)) x
      = ZT x0 x1 x2 ((Rect.unit (s := S512x2048) ![0, 512] S512x512.size inb_S512x2048_S512x512_0_512).emb x) := by
  obtain ⟨r, j, rfl⟩ : ∃ (r : Fin 512) (j : Fin 512), x = ix2 r j := ⟨x 0, x 1, (ix2_eta x).symm⟩
  refine (gate_at x0 x1 (View.ld (Val := Elt Ideal) (e' := .bf16) x2 (Rect.unit (s := S1024x5152) ![0, 512] S1024x512.size inb_S1024x5152_S1024x512_0_512)) r j).trans ?_
  have e : (Rect.unit (s := S512x2048) ![0, 512] S512x512.size inb_S512x2048_S512x512_0_512).emb (ix2 r j) = (ix2 r ⟨512 + j.val, by omega⟩ : S512x2048.Idx) := by
    blk_ext []
  rw [e]
  show _ = RAW x0 x1 x2 r ⟨512 + j.val, _⟩
  unfold RAW projected
  refine Finset.sum_congr rfl fun k _ => congrArg _ ?_
  pointwise []

theorem z_piece_2 (x : S512x512.Idx) :
    k0_pay21 (F := Ideal) (k0_pay2 x0 x1) (View.ld (Val := Elt Ideal) (e' := .bf16) x2 (Rect.unit (s := S1024x5152) ![0, 1024] S1024x512.size inb_S1024x5152_S1024x512_0_1024)) x
      = ZT x0 x1 x2 ((Rect.unit (s := S512x2048) ![0, 1024] S512x512.size inb_S512x2048_S512x512_0_1024).emb x) := by
  obtain ⟨r, j, rfl⟩ : ∃ (r : Fin 512) (j : Fin 512), x = ix2 r j := ⟨x 0, x 1, (ix2_eta x).symm⟩
  refine (gate_at x0 x1 (View.ld (Val := Elt Ideal) (e' := .bf16) x2 (Rect.unit (s := S1024x5152) ![0, 1024] S1024x512.size inb_S1024x5152_S1024x512_0_1024)) r j).trans ?_
  have e : (Rect.unit (s := S512x2048) ![0, 1024] S512x512.size inb_S512x2048_S512x512_0_1024).emb (ix2 r j) = (ix2 r ⟨1024 + j.val, by omega⟩ : S512x2048.Idx) := by
    blk_ext []
  rw [e]
  show _ = RAW x0 x1 x2 r ⟨1024 + j.val, _⟩
  unfold RAW projected
  refine Finset.sum_congr rfl fun k _ => congrArg _ ?_
  pointwise []

theorem z_piece_3 (x : S512x512.Idx) :
    k0_pay30 (F := Ideal) (k0_pay2 x0 x1) (View.ld (Val := Elt Ideal) (e' := .bf16) x2 (Rect.unit (s := S1024x5152) ![0, 1536] S1024x512.size inb_S1024x5152_S1024x512_0_1536)) x
      = ZT x0 x1 x2 ((Rect.unit (s := S512x2048) ![0, 1536] S512x512.size inb_S512x2048_S512x512_0_1536).emb x) := by
  obtain ⟨r, j, rfl⟩ : ∃ (r : Fin 512) (j : Fin 512), x = ix2 r j := ⟨x 0, x 1, (ix2_eta x).symm⟩
  refine (gate_at x0 x1 (View.ld (Val := Elt Ideal) (e' := .bf16) x2 (Rect.unit (s := S1024x5152) ![0, 1536] S1024x512.size inb_S1024x5152_S1024x512_0_1536)) r j).trans ?_
  have e : (Rect.unit (s := S512x2048) ![0, 1536] S512x512.size inb_S512x2048_S512x512_0_1536).emb (ix2 r j) = (ix2 r ⟨1536 + j.val, by omega⟩ : S512x2048.Idx) := by
    blk_ext []
  rw [e]
  show _ = RAW x0 x1 x2 r ⟨1536 + j.val, _⟩
  unfold RAW projected
  refine Finset.sum_congr rfl fun k _ => congrArg _ ?_
  pointwise []

theorem w_0 (x2 : FVec Ideal S1024x5152 .bf16) (k : Fin 1024) (j : Fin 512) : (View.ld (Val := Elt Ideal) (e' := .bf16) x2 (Rect.unit (s := S1024x5152) ![0, 2048] S1024x512.size inb_S1024x5152_S1024x512_0_2048)) (ix2 k j) = x2 (ix2 k ⟨2048 + j.val, by omega⟩) := by
  pointwise []

/-- Chunk 0 of a tile's projected columns. -/
theorem raw_0 (r : Fin 512) (j : Fin 512) :
    (k0_pay4 x0 x1 (View.ld (Val := Elt Ideal) (e' := .bf16) x2 (Rect.unit (s := S1024x5152) ![0, 2048] S1024x512.size inb_S1024x5152_S1024x512_0_2048))) (ix2 r j) = RAW x0 x1 x2 r ⟨2048 + (0 + j.val), by omega⟩ := by
  refine (raw_at x0 x1 (View.ld (Val := Elt Ideal) (e' := .bf16) x2 (Rect.unit (s := S1024x5152) ![0, 2048] S1024x512.size inb_S1024x5152_S1024x512_0_2048)) r j).trans ?_
  unfold RAW projected
  refine Finset.sum_congr rfl fun k _ => congrArg _ ((w_0 x2 k j).trans ?_)
  exact congrArg (fun a => x2 (ix2 k a)) (Fin.ext (by dsimp only; omega))

theorem x_piece_0 (x4 : FVec Ideal S4x3072 .f32) (x5 : FVec Ideal S1x3072 .f32) (prev : FVec Ideal S8x3072 .f32) (x : S512x512.Idx) :
    k0_pay8 IOTA (k0_pay4 x0 x1 (View.ld (Val := Elt Ideal) (e' := .bf16) x2 (Rect.unit (s := S1024x5152) ![0, 2048] S1024x512.size inb_S1024x5152_S1024x512_0_2048))) (View.ld (Val := Elt Ideal) (e' := .f32) prev (Rect.unit (s := S8x3072) ![0, 0] S8x512.size inb_S8x3072_S8x512_0_0)) (k0_pay7 IOTA (k0_pay4 x0 x1 (View.ld (Val := Elt Ideal) (e' := .bf16) x2 (Rect.unit (s := S1024x5152) ![0, 2048] S1024x512.size inb_S1024x5152_S1024x512_0_2048))) (View.ld (Val := Elt Ideal) (e' := .f32) prev (Rect.unit (s := S8x3072) ![0, 0] S8x512.size inb_S8x3072_S8x512_0_0)) (View.ld (Val := Elt Ideal) (e' := .f32) x5 (Rect.unit (s := S1x3072) ![0, 0] S1x512.size inb_S1x3072_S1x512_0_0)) (View.ld (Val := Elt Ideal) (e' := .f32) x4 (Rect.unit (s := S4x3072) ![3, 0] S1x512.size inb_S4x3072_S1x512_3_0)) (View.ld (Val := Elt Ideal) (e' := .f32) x4 (Rect.unit (s := S4x3072) ![2, 0] S1x512.size inb_S4x3072_S1x512_2_0)) (View.ld (Val := Elt Ideal) (e' := .f32) x4 (Rect.unit (s := S4x3072) ![1, 0] S1x512.size inb_S4x3072_S1x512_1_0))) 3#32 (View.ld (Val := Elt Ideal) (e' := .f32) x4 (Rect.unit (s := S4x3072) ![0, 0] S1x512.size inb_S4x3072_S1x512_0_0)) x
      = XT x0 x1 x2 x4 x5 prev ((Rect.unit (s := S512x3072) ![0, 0] S512x512.size inb_S512x3072_S512x512_0_0).emb x) := by
  refine (congrFun (chunk_0 _ _ _ _ _ _ _) x).trans ?_
  obtain ⟨r, j, rfl⟩ : ∃ (r : Fin 512) (j : Fin 512), x = ix2 r j := ⟨x 0, x 1, (ix2_eta x).symm⟩
  have e : (Rect.unit (s := S512x3072) ![0, 0] S512x512.size inb_S512x3072_S512x512_0_0).emb (ix2 r j) = (ix2 r ⟨0 + j.val, by omega⟩ : S512x3072.Idx) := by
    blk_ext []
  rw [e, CHUNK_at]
  simp only [raw_0]
  have ep : ∀ i : Fin 8, (View.ld (Val := Elt Ideal) (e' := .f32) prev (Rect.unit (s := S8x3072) ![0, 0] S8x512.size inb_S8x3072_S8x512_0_0)) (ix2 i j) = prev (ix2 i ⟨0 + j.val, by omega⟩) := fun i => by pointwise []
  have e0 : (View.ld (Val := Elt Ideal) (e' := .f32) x4 (Rect.unit (s := S4x3072) ![0, 0] S1x512.size inb_S4x3072_S1x512_0_0)) (ix2 0 j) = x4 (ix2 0 ⟨0 + j.val, by omega⟩) := by pointwise []
  have e1 : (View.ld (Val := Elt Ideal) (e' := .f32) x4 (Rect.unit (s := S4x3072) ![1, 0] S1x512.size inb_S4x3072_S1x512_1_0)) (ix2 0 j) = x4 (ix2 1 ⟨0 + j.val, by omega⟩) := by pointwise []
  have e2 : (View.ld (Val := Elt Ideal) (e' := .f32) x4 (Rect.unit (s := S4x3072) ![2, 0] S1x512.size inb_S4x3072_S1x512_2_0)) (ix2 0 j) = x4 (ix2 2 ⟨0 + j.val, by omega⟩) := by pointwise []
  have e3 : (View.ld (Val := Elt Ideal) (e' := .f32) x4 (Rect.unit (s := S4x3072) ![3, 0] S1x512.size inb_S4x3072_S1x512_3_0)) (ix2 0 j) = x4 (ix2 3 ⟨0 + j.val, by omega⟩) := by pointwise []
  have eb : (View.ld (Val := Elt Ideal) (e' := .f32) x5 (Rect.unit (s := S1x3072) ![0, 0] S1x512.size inb_S1x3072_S1x512_0_0)) (ix2 0 j) = x5 (ix2 0 ⟨0 + j.val, by omega⟩) := by pointwise []
  simp only [ep, e0, e1, e2, e3, eb]
  rfl

theorem e_piece_0 (x : S8x512.Idx) :
    k0_pay11 (k0_pay4 x0 x1 (View.ld (Val := Elt Ideal) (e' := .bf16) x2 (Rect.unit (s := S1024x5152) ![0, 2048] S1024x512.size inb_S1024x5152_S1024x512_0_2048))) x = ET x0 x1 x2 ((Rect.unit (s := S8x3072) ![0, 0] S8x512.size inb_S8x3072_S8x512_0_0).emb x) := by
  obtain ⟨i, j, rfl⟩ : ∃ (i : Fin 8) (j : Fin 512), x = ix2 i j := ⟨x 0, x 1, (ix2_eta x).symm⟩
  have e : (Rect.unit (s := S8x3072) ![0, 0] S8x512.size inb_S8x3072_S8x512_0_0).emb (ix2 i j) = (ix2 i ⟨0 + j.val, by omega⟩ : S8x3072.Idx) := by
    blk_ext []
  rw [e]
  exact (end_at (k0_pay4 x0 x1 (View.ld (Val := Elt Ideal) (e' := .bf16) x2 (Rect.unit (s := S1024x5152) ![0, 2048] S1024x512.size inb_S1024x5152_S1024x512_0_2048))) i j).trans (raw_0 x0 x1 x2 _ j)

theorem t_piece_0 (x : S1x8x512.Idx) :
    k0_pay10 (k0_pay4 x0 x1 (View.ld (Val := Elt Ideal) (e' := .bf16) x2 (Rect.unit (s := S1024x5152) ![0, 2048] S1024x512.size inb_S1024x5152_S1024x512_0_2048))) x = TT x0 x1 x2 ((Rect.unit (s := S1x8x3072) ![0, 0, 0] S1x8x512.size inb_S1x8x3072_S1x8x512_0_0_0).emb x) := by
  obtain ⟨q, i, j, rfl⟩ : ∃ (q : Fin 1) (i : Fin 8) (j : Fin 512), x = ix3 q i j := ⟨x 0, x 1, x 2, (ix3_eta x).symm⟩
  obtain rfl : q = 0 := Subsingleton.elim _ _
  have e : (Rect.unit (s := S1x8x3072) ![0, 0, 0] S1x8x512.size inb_S1x8x3072_S1x8x512_0_0_0).emb (ix3 0 i j) = (ix3 0 i ⟨0 + j.val, by omega⟩ : S1x8x3072.Idx) := by
    blk_ext []
  rw [e]
  exact (tail_at (k0_pay4 x0 x1 (View.ld (Val := Elt Ideal) (e' := .bf16) x2 (Rect.unit (s := S1024x5152) ![0, 2048] S1024x512.size inb_S1024x5152_S1024x512_0_2048))) i j).trans (raw_0 x0 x1 x2 _ j)

theorem w_1 (x2 : FVec Ideal S1024x5152 .bf16) (k : Fin 1024) (j : Fin 512) : (View.ld (Val := Elt Ideal) (e' := .bf16) x2 (Rect.unit (s := S1024x5152) ![0, 2560] S1024x512.size inb_S1024x5152_S1024x512_0_2560)) (ix2 k j) = x2 (ix2 k ⟨2560 + j.val, by omega⟩) := by
  pointwise []

/-- Chunk 1 of a tile's projected columns. -/
theorem raw_1 (r : Fin 512) (j : Fin 512) :
    (k0_pay5 x0 x1 (View.ld (Val := Elt Ideal) (e' := .bf16) x2 (Rect.unit (s := S1024x5152) ![0, 2560] S1024x512.size inb_S1024x5152_S1024x512_0_2560))) (ix2 r j) = RAW x0 x1 x2 r ⟨2048 + (512 + j.val), by omega⟩ := by
  refine (raw_at x0 x1 (View.ld (Val := Elt Ideal) (e' := .bf16) x2 (Rect.unit (s := S1024x5152) ![0, 2560] S1024x512.size inb_S1024x5152_S1024x512_0_2560)) r j).trans ?_
  unfold RAW projected
  refine Finset.sum_congr rfl fun k _ => congrArg _ ((w_1 x2 k j).trans ?_)
  exact congrArg (fun a => x2 (ix2 k a)) (Fin.ext (by dsimp only; omega))

theorem x_piece_1 (x4 : FVec Ideal S4x3072 .f32) (x5 : FVec Ideal S1x3072 .f32) (prev : FVec Ideal S8x3072 .f32) (x : S512x512.Idx) :
    k0_pay16 (k0_pay14 IOTA (k0_pay5 x0 x1 (View.ld (Val := Elt Ideal) (e' := .bf16) x2 (Rect.unit (s := S1024x5152) ![0, 2560] S1024x512.size inb_S1024x5152_S1024x512_0_2560))) (View.ld (Val := Elt Ideal) (e' := .f32) prev (Rect.unit (s := S8x3072) ![0, 512] S8x512.size inb_S8x3072_S8x512_0_512)) (View.ld (Val := Elt Ideal) (e' := .f32) x5 (Rect.unit (s := S1x3072) ![0, 512] S1x512.size inb_S1x3072_S1x512_0_512)) (View.ld (Val := Elt Ideal) (e' := .f32) x4 (Rect.unit (s := S4x3072) ![3, 512] S1x512.size inb_S4x3072_S1x512_3_512)) (View.ld (Val := Elt Ideal) (e' := .f32) x4 (Rect.unit (s := S4x3072) ![2, 512] S1x512.size inb_S4x3072_S1x512_2_512)) (View.ld (Val := Elt Ideal) (e' := .f32) x4 (Rect.unit (s := S4x3072) ![1, 512] S1x512.size inb_S4x3072_S1x512_1_512)) (View.ld (Val := Elt Ideal) (e' := .f32) x4 (Rect.unit (s := S4x3072) ![0, 512] S1x512.size inb_S4x3072_S1x512_0_512))) (k0_pay15 IOTA (k0_pay5 x0 x1 (View.ld (Val := Elt Ideal) (e' := .bf16) x2 (Rect.unit (s := S1024x5152) ![0, 2560] S1024x512.size inb_S1024x5152_S1024x512_0_2560))) (View.ld (Val := Elt Ideal) (e' := .f32) prev (Rect.unit (s := S8x3072) ![0, 512] S8x512.size inb_S8x3072_S8x512_0_512)) (View.ld (Val := Elt Ideal) (e' := .f32) x5 (Rect.unit (s := S1x3072) ![0, 512] S1x512.size inb_S1x3072_S1x512_0_512)) (View.ld (Val := Elt Ideal) (e' := .f32) x4 (Rect.unit (s := S4x3072) ![3, 512] S1x512.size inb_S4x3072_S1x512_3_512)) (View.ld (Val := Elt Ideal) (e' := .f32) x4 (Rect.unit (s := S4x3072) ![2, 512] S1x512.size inb_S4x3072_S1x512_2_512)) (View.ld (Val := Elt Ideal) (e' := .f32) x4 (Rect.unit (s := S4x3072) ![1, 512] S1x512.size inb_S4x3072_S1x512_1_512)) (View.ld (Val := Elt Ideal) (e' := .f32) x4 (Rect.unit (s := S4x3072) ![0, 512] S1x512.size inb_S4x3072_S1x512_0_512))) x
      = XT x0 x1 x2 x4 x5 prev ((Rect.unit (s := S512x3072) ![0, 512] S512x512.size inb_S512x3072_S512x512_0_512).emb x) := by
  refine (congrFun (chunk_1 _ _ _ _ _ _ _) x).trans ?_
  obtain ⟨r, j, rfl⟩ : ∃ (r : Fin 512) (j : Fin 512), x = ix2 r j := ⟨x 0, x 1, (ix2_eta x).symm⟩
  have e : (Rect.unit (s := S512x3072) ![0, 512] S512x512.size inb_S512x3072_S512x512_0_512).emb (ix2 r j) = (ix2 r ⟨512 + j.val, by omega⟩ : S512x3072.Idx) := by
    blk_ext []
  rw [e, CHUNK_at]
  simp only [raw_1]
  have ep : ∀ i : Fin 8, (View.ld (Val := Elt Ideal) (e' := .f32) prev (Rect.unit (s := S8x3072) ![0, 512] S8x512.size inb_S8x3072_S8x512_0_512)) (ix2 i j) = prev (ix2 i ⟨512 + j.val, by omega⟩) := fun i => by pointwise []
  have e0 : (View.ld (Val := Elt Ideal) (e' := .f32) x4 (Rect.unit (s := S4x3072) ![0, 512] S1x512.size inb_S4x3072_S1x512_0_512)) (ix2 0 j) = x4 (ix2 0 ⟨512 + j.val, by omega⟩) := by pointwise []
  have e1 : (View.ld (Val := Elt Ideal) (e' := .f32) x4 (Rect.unit (s := S4x3072) ![1, 512] S1x512.size inb_S4x3072_S1x512_1_512)) (ix2 0 j) = x4 (ix2 1 ⟨512 + j.val, by omega⟩) := by pointwise []
  have e2 : (View.ld (Val := Elt Ideal) (e' := .f32) x4 (Rect.unit (s := S4x3072) ![2, 512] S1x512.size inb_S4x3072_S1x512_2_512)) (ix2 0 j) = x4 (ix2 2 ⟨512 + j.val, by omega⟩) := by pointwise []
  have e3 : (View.ld (Val := Elt Ideal) (e' := .f32) x4 (Rect.unit (s := S4x3072) ![3, 512] S1x512.size inb_S4x3072_S1x512_3_512)) (ix2 0 j) = x4 (ix2 3 ⟨512 + j.val, by omega⟩) := by pointwise []
  have eb : (View.ld (Val := Elt Ideal) (e' := .f32) x5 (Rect.unit (s := S1x3072) ![0, 512] S1x512.size inb_S1x3072_S1x512_0_512)) (ix2 0 j) = x5 (ix2 0 ⟨512 + j.val, by omega⟩) := by pointwise []
  simp only [ep, e0, e1, e2, e3, eb]
  rfl

theorem e_piece_1 (x : S8x512.Idx) :
    k0_pay19 (k0_pay5 x0 x1 (View.ld (Val := Elt Ideal) (e' := .bf16) x2 (Rect.unit (s := S1024x5152) ![0, 2560] S1024x512.size inb_S1024x5152_S1024x512_0_2560))) x = ET x0 x1 x2 ((Rect.unit (s := S8x3072) ![0, 512] S8x512.size inb_S8x3072_S8x512_0_512).emb x) := by
  obtain ⟨i, j, rfl⟩ : ∃ (i : Fin 8) (j : Fin 512), x = ix2 i j := ⟨x 0, x 1, (ix2_eta x).symm⟩
  have e : (Rect.unit (s := S8x3072) ![0, 512] S8x512.size inb_S8x3072_S8x512_0_512).emb (ix2 i j) = (ix2 i ⟨512 + j.val, by omega⟩ : S8x3072.Idx) := by
    blk_ext []
  rw [e]
  exact (end_at (k0_pay4 x0 x1 (View.ld (Val := Elt Ideal) (e' := .bf16) x2 (Rect.unit (s := S1024x5152) ![0, 2560] S1024x512.size inb_S1024x5152_S1024x512_0_2560))) i j).trans (raw_1 x0 x1 x2 _ j)

theorem t_piece_1 (x : S1x8x512.Idx) :
    k0_pay18 (k0_pay5 x0 x1 (View.ld (Val := Elt Ideal) (e' := .bf16) x2 (Rect.unit (s := S1024x5152) ![0, 2560] S1024x512.size inb_S1024x5152_S1024x512_0_2560))) x = TT x0 x1 x2 ((Rect.unit (s := S1x8x3072) ![0, 0, 512] S1x8x512.size inb_S1x8x3072_S1x8x512_0_0_512).emb x) := by
  obtain ⟨q, i, j, rfl⟩ : ∃ (q : Fin 1) (i : Fin 8) (j : Fin 512), x = ix3 q i j := ⟨x 0, x 1, x 2, (ix3_eta x).symm⟩
  obtain rfl : q = 0 := Subsingleton.elim _ _
  have e : (Rect.unit (s := S1x8x3072) ![0, 0, 512] S1x8x512.size inb_S1x8x3072_S1x8x512_0_0_512).emb (ix3 0 i j) = (ix3 0 i ⟨512 + j.val, by omega⟩ : S1x8x3072.Idx) := by
    blk_ext []
  rw [e]
  exact (tail_at (k0_pay4 x0 x1 (View.ld (Val := Elt Ideal) (e' := .bf16) x2 (Rect.unit (s := S1024x5152) ![0, 2560] S1024x512.size inb_S1024x5152_S1024x512_0_2560))) i j).trans (raw_1 x0 x1 x2 _ j)

theorem w_2 (x2 : FVec Ideal S1024x5152 .bf16) (k : Fin 1024) (j : Fin 512) : (View.ld (Val := Elt Ideal) (e' := .bf16) x2 (Rect.unit (s := S1024x5152) ![0, 3072] S1024x512.size inb_S1024x5152_S1024x512_0_3072)) (ix2 k j) = x2 (ix2 k ⟨3072 + j.val, by omega⟩) := by
  pointwise []

/-- Chunk 2 of a tile's projected columns. -/
theorem raw_2 (r : Fin 512) (j : Fin 512) :
    (k0_pay12 (k0_pay2 x0 x1) (View.ld (Val := Elt Ideal) (e' := .bf16) x2 (Rect.unit (s := S1024x5152) ![0, 3072] S1024x512.size inb_S1024x5152_S1024x512_0_3072))) (ix2 r j) = RAW x0 x1 x2 r ⟨2048 + (1024 + j.val), by omega⟩ := by
  refine (raw_at x0 x1 (View.ld (Val := Elt Ideal) (e' := .bf16) x2 (Rect.unit (s := S1024x5152) ![0, 3072] S1024x512.size inb_S1024x5152_S1024x512_0_3072)) r j).trans ?_
  unfold RAW projected
  refine Finset.sum_congr rfl fun k _ => congrArg _ ((w_2 x2 k j).trans ?_)
  exact congrArg (fun a => x2 (ix2 k a)) (Fin.ext (by dsimp only; omega))

theorem x_piece_2 (x4 : FVec Ideal S4x3072 .f32) (x5 : FVec Ideal S1x3072 .f32) (prev : FVec Ideal S8x3072 .f32) (x : S512x512.Idx) :
    k0_pay25 IOTA (k0_pay12 (k0_pay2 x0 x1) (View.ld (Val := Elt Ideal) (e' := .bf16) x2 (Rect.unit (s := S1024x5152) ![0, 3072] S1024x512.size inb_S1024x5152_S1024x512_0_3072))) (View.ld (Val := Elt Ideal) (e' := .f32) prev (Rect.unit (s := S8x3072) ![0, 1024] S8x512.size inb_S8x3072_S8x512_0_1024)) (k0_pay22 (k0_pay12 (k0_pay2 x0 x1) (View.ld (Val := Elt Ideal) (e' := .bf16) x2 (Rect.unit (s := S1024x5152) ![0, 3072] S1024x512.size inb_S1024x5152_S1024x512_0_3072))) (View.ld (Val := Elt Ideal) (e' := .f32) x5 (Rect.unit (s := S1x3072) ![0, 1024] S1x512.size inb_S1x3072_S1x512_0_1024)) (View.ld (Val := Elt Ideal) (e' := .f32) x4 (Rect.unit (s := S4x3072) ![3, 1024] S1x512.size inb_S4x3072_S1x512_3_1024))) (k0_pay23 (k0_pay12 (k0_pay2 x0 x1) (View.ld (Val := Elt Ideal) (e' := .bf16) x2 (Rect.unit (s := S1024x5152) ![0, 3072] S1024x512.size inb_S1024x5152_S1024x512_0_3072)))) (k0_pay24 IOTA (k0_pay12 (k0_pay2 x0 x1) (View.ld (Val := Elt Ideal) (e' := .bf16) x2 (Rect.unit (s := S1024x5152) ![0, 3072] S1024x512.size inb_S1024x5152_S1024x512_0_3072))) (View.ld (Val := Elt Ideal) (e' := .f32) prev (Rect.unit (s := S8x3072) ![0, 1024] S8x512.size inb_S8x3072_S8x512_0_1024))) (View.ld (Val := Elt Ideal) (e' := .f32) x4 (Rect.unit (s := S4x3072) ![2, 1024] S1x512.size inb_S4x3072_S1x512_2_1024)) (View.ld (Val := Elt Ideal) (e' := .f32) x4 (Rect.unit (s := S4x3072) ![1, 1024] S1x512.size inb_S4x3072_S1x512_1_1024)) (View.ld (Val := Elt Ideal) (e' := .f32) x4 (Rect.unit (s := S4x3072) ![0, 1024] S1x512.size inb_S4x3072_S1x512_0_1024)) x
      = XT x0 x1 x2 x4 x5 prev ((Rect.unit (s := S512x3072) ![0, 1024] S512x512.size inb_S512x3072_S512x512_0_1024).emb x) := by
  refine (congrFun (chunk_2 _ _ _ _ _ _ _) x).trans ?_
  obtain ⟨r, j, rfl⟩ : ∃ (r : Fin 512) (j : Fin 512), x = ix2 r j := ⟨x 0, x 1, (ix2_eta x).symm⟩
  have e : (Rect.unit (s := S512x3072) ![0, 1024] S512x512.size inb_S512x3072_S512x512_0_1024).emb (ix2 r j) = (ix2 r ⟨1024 + j.val, by omega⟩ : S512x3072.Idx) := by
    blk_ext []
  rw [e, CHUNK_at]
  simp only [raw_2]
  have ep : ∀ i : Fin 8, (View.ld (Val := Elt Ideal) (e' := .f32) prev (Rect.unit (s := S8x3072) ![0, 1024] S8x512.size inb_S8x3072_S8x512_0_1024)) (ix2 i j) = prev (ix2 i ⟨1024 + j.val, by omega⟩) := fun i => by pointwise []
  have e0 : (View.ld (Val := Elt Ideal) (e' := .f32) x4 (Rect.unit (s := S4x3072) ![0, 1024] S1x512.size inb_S4x3072_S1x512_0_1024)) (ix2 0 j) = x4 (ix2 0 ⟨1024 + j.val, by omega⟩) := by pointwise []
  have e1 : (View.ld (Val := Elt Ideal) (e' := .f32) x4 (Rect.unit (s := S4x3072) ![1, 1024] S1x512.size inb_S4x3072_S1x512_1_1024)) (ix2 0 j) = x4 (ix2 1 ⟨1024 + j.val, by omega⟩) := by pointwise []
  have e2 : (View.ld (Val := Elt Ideal) (e' := .f32) x4 (Rect.unit (s := S4x3072) ![2, 1024] S1x512.size inb_S4x3072_S1x512_2_1024)) (ix2 0 j) = x4 (ix2 2 ⟨1024 + j.val, by omega⟩) := by pointwise []
  have e3 : (View.ld (Val := Elt Ideal) (e' := .f32) x4 (Rect.unit (s := S4x3072) ![3, 1024] S1x512.size inb_S4x3072_S1x512_3_1024)) (ix2 0 j) = x4 (ix2 3 ⟨1024 + j.val, by omega⟩) := by pointwise []
  have eb : (View.ld (Val := Elt Ideal) (e' := .f32) x5 (Rect.unit (s := S1x3072) ![0, 1024] S1x512.size inb_S1x3072_S1x512_0_1024)) (ix2 0 j) = x5 (ix2 0 ⟨1024 + j.val, by omega⟩) := by pointwise []
  simp only [ep, e0, e1, e2, e3, eb]
  rfl

theorem e_piece_2 (x : S8x512.Idx) :
    k0_pay28 (k0_pay26 (k0_pay12 (k0_pay2 x0 x1) (View.ld (Val := Elt Ideal) (e' := .bf16) x2 (Rect.unit (s := S1024x5152) ![0, 3072] S1024x512.size inb_S1024x5152_S1024x512_0_3072)))) x = ET x0 x1 x2 ((Rect.unit (s := S8x3072) ![0, 1024] S8x512.size inb_S8x3072_S8x512_0_1024).emb x) := by
  obtain ⟨i, j, rfl⟩ : ∃ (i : Fin 8) (j : Fin 512), x = ix2 i j := ⟨x 0, x 1, (ix2_eta x).symm⟩
  have e : (Rect.unit (s := S8x3072) ![0, 1024] S8x512.size inb_S8x3072_S8x512_0_1024).emb (ix2 i j) = (ix2 i ⟨1024 + j.val, by omega⟩ : S8x3072.Idx) := by
    blk_ext []
  rw [e]
  exact (end_at (k0_pay4 x0 x1 (View.ld (Val := Elt Ideal) (e' := .bf16) x2 (Rect.unit (s := S1024x5152) ![0, 3072] S1024x512.size inb_S1024x5152_S1024x512_0_3072))) i j).trans (raw_2 x0 x1 x2 _ j)

theorem t_piece_2 (x : S1x8x512.Idx) :
    k0_pay27 (k0_pay12 (k0_pay2 x0 x1) (View.ld (Val := Elt Ideal) (e' := .bf16) x2 (Rect.unit (s := S1024x5152) ![0, 3072] S1024x512.size inb_S1024x5152_S1024x512_0_3072))) x = TT x0 x1 x2 ((Rect.unit (s := S1x8x3072) ![0, 0, 1024] S1x8x512.size inb_S1x8x3072_S1x8x512_0_0_1024).emb x) := by
  obtain ⟨q, i, j, rfl⟩ : ∃ (q : Fin 1) (i : Fin 8) (j : Fin 512), x = ix3 q i j := ⟨x 0, x 1, x 2, (ix3_eta x).symm⟩
  obtain rfl : q = 0 := Subsingleton.elim _ _
  have e : (Rect.unit (s := S1x8x3072) ![0, 0, 1024] S1x8x512.size inb_S1x8x3072_S1x8x512_0_0_1024).emb (ix3 0 i j) = (ix3 0 i ⟨1024 + j.val, by omega⟩ : S1x8x3072.Idx) := by
    blk_ext []
  rw [e]
  exact (tail_at (k0_pay4 x0 x1 (View.ld (Val := Elt Ideal) (e' := .bf16) x2 (Rect.unit (s := S1024x5152) ![0, 3072] S1024x512.size inb_S1024x5152_S1024x512_0_3072))) i j).trans (raw_2 x0 x1 x2 _ j)

theorem w_3 (x2 : FVec Ideal S1024x5152 .bf16) (k : Fin 1024) (j : Fin 512) : (View.ld (Val := Elt Ideal) (e' := .bf16) x2 (Rect.unit (s := S1024x5152) ![0, 3584] S1024x512.size inb_S1024x5152_S1024x512_0_3584)) (ix2 k j) = x2 (ix2 k ⟨3584 + j.val, by omega⟩) := by
  pointwise []

/-- Chunk 3 of a tile's projected columns. -/
theorem raw_3 (r : Fin 512) (j : Fin 512) :
    (k0_pay20 (k0_pay2 x0 x1) (View.ld (Val := Elt Ideal) (e' := .bf16) x2 (Rect.unit (s := S1024x5152) ![0, 3584] S1024x512.size inb_S1024x5152_S1024x512_0_3584))) (ix2 r j) = RAW x0 x1 x2 r ⟨2048 + (1536 + j.val), by omega⟩ := by
  refine (raw_at x0 x1 (View.ld (Val := Elt Ideal) (e' := .bf16) x2 (Rect.unit (s := S1024x5152) ![0, 3584] S1024x512.size inb_S1024x5152_S1024x512_0_3584)) r j).trans ?_
  unfold RAW projected
  refine Finset.sum_congr rfl fun k _ => congrArg _ ((w_3 x2 k j).trans ?_)
  exact congrArg (fun a => x2 (ix2 k a)) (Fin.ext (by dsimp only; omega))

theorem x_piece_3 (x4 : FVec Ideal S4x3072 .f32) (x5 : FVec Ideal S1x3072 .f32) (prev : FVec Ideal S8x3072 .f32) (x : S512x512.Idx) :
    k0_pay34 IOTA (k0_pay20 (k0_pay2 x0 x1) (View.ld (Val := Elt Ideal) (e' := .bf16) x2 (Rect.unit (s := S1024x5152) ![0, 3584] S1024x512.size inb_S1024x5152_S1024x512_0_3584))) (View.ld (Val := Elt Ideal) (e' := .f32) prev (Rect.unit (s := S8x3072) ![0, 1536] S8x512.size inb_S8x3072_S8x512_0_1536)) (k0_pay31 IOTA (k0_pay20 (k0_pay2 x0 x1) (View.ld (Val := Elt Ideal) (e' := .bf16) x2 (Rect.unit (s := S1024x5152) ![0, 3584] S1024x512.size inb_S1024x5152_S1024x512_0_3584))) (View.ld (Val := Elt Ideal) (e' := .f32) prev (Rect.unit (s := S8x3072) ![0, 1536] S8x512.size inb_S8x3072_S8x512_0_1536)) (View.ld (Val := Elt Ideal) (e' := .f32) x5 (Rect.unit (s := S1x3072) ![0, 1536] S1x512.size inb_S1x3072_S1x512_0_1536)) (View.ld (Val := Elt Ideal) (e' := .f32) x4 (Rect.unit (s := S4x3072) ![3, 1536] S1x512.size inb_S4x3072_S1x512_3_1536)) (View.ld (Val := Elt Ideal) (e' := .f32) x4 (Rect.unit (s := S4x3072) ![2, 1536] S1x512.size inb_S4x3072_S1x512_2_1536))) (k0_pay32 (k0_pay20 (k0_pay2 x0 x1) (View.ld (Val := Elt Ideal) (e' := .bf16) x2 (Rect.unit (s := S1024x5152) ![0, 3584] S1024x512.size inb_S1024x5152_S1024x512_0_3584)))) (k0_pay33 IOTA (k0_pay20 (k0_pay2 x0 x1) (View.ld (Val := Elt Ideal) (e' := .bf16) x2 (Rect.unit (s := S1024x5152) ![0, 3584] S1024x512.size inb_S1024x5152_S1024x512_0_3584))) (View.ld (Val := Elt Ideal) (e' := .f32) prev (Rect.unit (s := S8x3072) ![0, 1536] S8x512.size inb_S8x3072_S8x512_0_1536))) (View.ld (Val := Elt Ideal) (e' := .f32) x4 (Rect.unit (s := S4x3072) ![1, 1536] S1x512.size inb_S4x3072_S1x512_1_1536)) (View.ld (Val := Elt Ideal) (e' := .f32) x4 (Rect.unit (s := S4x3072) ![0, 1536] S1x512.size inb_S4x3072_S1x512_0_1536)) x
      = XT x0 x1 x2 x4 x5 prev ((Rect.unit (s := S512x3072) ![0, 1536] S512x512.size inb_S512x3072_S512x512_0_1536).emb x) := by
  refine (congrFun (chunk_3 _ _ _ _ _ _ _) x).trans ?_
  obtain ⟨r, j, rfl⟩ : ∃ (r : Fin 512) (j : Fin 512), x = ix2 r j := ⟨x 0, x 1, (ix2_eta x).symm⟩
  have e : (Rect.unit (s := S512x3072) ![0, 1536] S512x512.size inb_S512x3072_S512x512_0_1536).emb (ix2 r j) = (ix2 r ⟨1536 + j.val, by omega⟩ : S512x3072.Idx) := by
    blk_ext []
  rw [e, CHUNK_at]
  simp only [raw_3]
  have ep : ∀ i : Fin 8, (View.ld (Val := Elt Ideal) (e' := .f32) prev (Rect.unit (s := S8x3072) ![0, 1536] S8x512.size inb_S8x3072_S8x512_0_1536)) (ix2 i j) = prev (ix2 i ⟨1536 + j.val, by omega⟩) := fun i => by pointwise []
  have e0 : (View.ld (Val := Elt Ideal) (e' := .f32) x4 (Rect.unit (s := S4x3072) ![0, 1536] S1x512.size inb_S4x3072_S1x512_0_1536)) (ix2 0 j) = x4 (ix2 0 ⟨1536 + j.val, by omega⟩) := by pointwise []
  have e1 : (View.ld (Val := Elt Ideal) (e' := .f32) x4 (Rect.unit (s := S4x3072) ![1, 1536] S1x512.size inb_S4x3072_S1x512_1_1536)) (ix2 0 j) = x4 (ix2 1 ⟨1536 + j.val, by omega⟩) := by pointwise []
  have e2 : (View.ld (Val := Elt Ideal) (e' := .f32) x4 (Rect.unit (s := S4x3072) ![2, 1536] S1x512.size inb_S4x3072_S1x512_2_1536)) (ix2 0 j) = x4 (ix2 2 ⟨1536 + j.val, by omega⟩) := by pointwise []
  have e3 : (View.ld (Val := Elt Ideal) (e' := .f32) x4 (Rect.unit (s := S4x3072) ![3, 1536] S1x512.size inb_S4x3072_S1x512_3_1536)) (ix2 0 j) = x4 (ix2 3 ⟨1536 + j.val, by omega⟩) := by pointwise []
  have eb : (View.ld (Val := Elt Ideal) (e' := .f32) x5 (Rect.unit (s := S1x3072) ![0, 1536] S1x512.size inb_S1x3072_S1x512_0_1536)) (ix2 0 j) = x5 (ix2 0 ⟨1536 + j.val, by omega⟩) := by pointwise []
  simp only [ep, e0, e1, e2, e3, eb]
  rfl

theorem e_piece_3 (x : S8x512.Idx) :
    k0_pay37 (k0_pay20 (k0_pay2 x0 x1) (View.ld (Val := Elt Ideal) (e' := .bf16) x2 (Rect.unit (s := S1024x5152) ![0, 3584] S1024x512.size inb_S1024x5152_S1024x512_0_3584))) x = ET x0 x1 x2 ((Rect.unit (s := S8x3072) ![0, 1536] S8x512.size inb_S8x3072_S8x512_0_1536).emb x) := by
  obtain ⟨i, j, rfl⟩ : ∃ (i : Fin 8) (j : Fin 512), x = ix2 i j := ⟨x 0, x 1, (ix2_eta x).symm⟩
  have e : (Rect.unit (s := S8x3072) ![0, 1536] S8x512.size inb_S8x3072_S8x512_0_1536).emb (ix2 i j) = (ix2 i ⟨1536 + j.val, by omega⟩ : S8x3072.Idx) := by
    blk_ext []
  rw [e]
  exact (end_at (k0_pay4 x0 x1 (View.ld (Val := Elt Ideal) (e' := .bf16) x2 (Rect.unit (s := S1024x5152) ![0, 3584] S1024x512.size inb_S1024x5152_S1024x512_0_3584))) i j).trans (raw_3 x0 x1 x2 _ j)

theorem t_piece_3 (x : S1x8x512.Idx) :
    k0_pay36 (k0_pay20 (k0_pay2 x0 x1) (View.ld (Val := Elt Ideal) (e' := .bf16) x2 (Rect.unit (s := S1024x5152) ![0, 3584] S1024x512.size inb_S1024x5152_S1024x512_0_3584))) x = TT x0 x1 x2 ((Rect.unit (s := S1x8x3072) ![0, 0, 1536] S1x8x512.size inb_S1x8x3072_S1x8x512_0_0_1536).emb x) := by
  obtain ⟨q, i, j, rfl⟩ : ∃ (q : Fin 1) (i : Fin 8) (j : Fin 512), x = ix3 q i j := ⟨x 0, x 1, x 2, (ix3_eta x).symm⟩
  obtain rfl : q = 0 := Subsingleton.elim _ _
  have e : (Rect.unit (s := S1x8x3072) ![0, 0, 1536] S1x8x512.size inb_S1x8x3072_S1x8x512_0_0_1536).emb (ix3 0 i j) = (ix3 0 i ⟨1536 + j.val, by omega⟩ : S1x8x3072.Idx) := by
    blk_ext []
  rw [e]
  exact (tail_at (k0_pay4 x0 x1 (View.ld (Val := Elt Ideal) (e' := .bf16) x2 (Rect.unit (s := S1024x5152) ![0, 3584] S1024x512.size inb_S1024x5152_S1024x512_0_3584))) i j).trans (raw_3 x0 x1 x2 _ j)

theorem w_4 (x2 : FVec Ideal S1024x5152 .bf16) (k : Fin 1024) (j : Fin 512) : (View.ld (Val := Elt Ideal) (e' := .bf16) x2 (Rect.unit (s := S1024x5152) ![0, 4096] S1024x512.size inb_S1024x5152_S1024x512_0_4096)) (ix2 k j) = x2 (ix2 k ⟨4096 + j.val, by omega⟩) := by
  pointwise []

/-- Chunk 4 of a tile's projected columns. -/
theorem raw_4 (r : Fin 512) (j : Fin 512) :
    (k0_pay29 (k0_pay2 x0 x1) (View.ld (Val := Elt Ideal) (e' := .bf16) x2 (Rect.unit (s := S1024x5152) ![0, 4096] S1024x512.size inb_S1024x5152_S1024x512_0_4096))) (ix2 r j) = RAW x0 x1 x2 r ⟨2048 + (2048 + j.val), by omega⟩ := by
  refine (raw_at x0 x1 (View.ld (Val := Elt Ideal) (e' := .bf16) x2 (Rect.unit (s := S1024x5152) ![0, 4096] S1024x512.size inb_S1024x5152_S1024x512_0_4096)) r j).trans ?_
  unfold RAW projected
  refine Finset.sum_congr rfl fun k _ => congrArg _ ((w_4 x2 k j).trans ?_)
  exact congrArg (fun a => x2 (ix2 k a)) (Fin.ext (by dsimp only; omega))

theorem x_piece_4 (x4 : FVec Ideal S4x3072 .f32) (x5 : FVec Ideal S1x3072 .f32) (prev : FVec Ideal S8x3072 .f32) (x : S512x512.Idx) :
    k0_pay44 (k0_pay40 IOTA (k0_pay29 (k0_pay2 x0 x1) (View.ld (Val := Elt Ideal) (e' := .bf16) x2 (Rect.unit (s := S1024x5152) ![0, 4096] S1024x512.size inb_S1024x5152_S1024x512_0_4096))) (View.ld (Val := Elt Ideal) (e' := .f32) prev (Rect.unit (s := S8x3072) ![0, 2048] S8x512.size inb_S8x3072_S8x512_0_2048)) (View.ld (Val := Elt Ideal) (e' := .f32) x5 (Rect.unit (s := S1x3072) ![0, 2048] S1x512.size inb_S1x3072_S1x512_0_2048)) (View.ld (Val := Elt Ideal) (e' := .f32) x4 (Rect.unit (s := S4x3072) ![3, 2048] S1x512.size inb_S4x3072_S1x512_3_2048)) (View.ld (Val := Elt Ideal) (e' := .f32) x4 (Rect.unit (s := S4x3072) ![2, 2048] S1x512.size inb_S4x3072_S1x512_2_2048)) (View.ld (Val := Elt Ideal) (e' := .f32) x4 (Rect.unit (s := S4x3072) ![1, 2048] S1x512.size inb_S4x3072_S1x512_1_2048))) (k0_pay42 IOTA (k0_pay29 (k0_pay2 x0 x1) (View.ld (Val := Elt Ideal) (e' := .bf16) x2 (Rect.unit (s := S1024x5152) ![0, 4096] S1024x512.size inb_S1024x5152_S1024x512_0_4096))) (View.ld (Val := Elt Ideal) (e' := .f32) prev (Rect.unit (s := S8x3072) ![0, 2048] S8x512.size inb_S8x3072_S8x512_0_2048))) (k0_pay43 (k0_pay29 (k0_pay2 x0 x1) (View.ld (Val := Elt Ideal) (e' := .bf16) x2 (Rect.unit (s := S1024x5152) ![0, 4096] S1024x512.size inb_S1024x5152_S1024x512_0_4096)))) (View.ld (Val := Elt Ideal) (e' := .f32) x4 (Rect.unit (s := S4x3072) ![0, 2048] S1x512.size inb_S4x3072_S1x512_0_2048)) x
      = XT x0 x1 x2 x4 x5 prev ((Rect.unit (s := S512x3072) ![0, 2048] S512x512.size inb_S512x3072_S512x512_0_2048).emb x) := by
  refine (congrFun (chunk_4 _ _ _ _ _ _ _) x).trans ?_
  obtain ⟨r, j, rfl⟩ : ∃ (r : Fin 512) (j : Fin 512), x = ix2 r j := ⟨x 0, x 1, (ix2_eta x).symm⟩
  have e : (Rect.unit (s := S512x3072) ![0, 2048] S512x512.size inb_S512x3072_S512x512_0_2048).emb (ix2 r j) = (ix2 r ⟨2048 + j.val, by omega⟩ : S512x3072.Idx) := by
    blk_ext []
  rw [e, CHUNK_at]
  simp only [raw_4]
  have ep : ∀ i : Fin 8, (View.ld (Val := Elt Ideal) (e' := .f32) prev (Rect.unit (s := S8x3072) ![0, 2048] S8x512.size inb_S8x3072_S8x512_0_2048)) (ix2 i j) = prev (ix2 i ⟨2048 + j.val, by omega⟩) := fun i => by pointwise []
  have e0 : (View.ld (Val := Elt Ideal) (e' := .f32) x4 (Rect.unit (s := S4x3072) ![0, 2048] S1x512.size inb_S4x3072_S1x512_0_2048)) (ix2 0 j) = x4 (ix2 0 ⟨2048 + j.val, by omega⟩) := by pointwise []
  have e1 : (View.ld (Val := Elt Ideal) (e' := .f32) x4 (Rect.unit (s := S4x3072) ![1, 2048] S1x512.size inb_S4x3072_S1x512_1_2048)) (ix2 0 j) = x4 (ix2 1 ⟨2048 + j.val, by omega⟩) := by pointwise []
  have e2 : (View.ld (Val := Elt Ideal) (e' := .f32) x4 (Rect.unit (s := S4x3072) ![2, 2048] S1x512.size inb_S4x3072_S1x512_2_2048)) (ix2 0 j) = x4 (ix2 2 ⟨2048 + j.val, by omega⟩) := by pointwise []
  have e3 : (View.ld (Val := Elt Ideal) (e' := .f32) x4 (Rect.unit (s := S4x3072) ![3, 2048] S1x512.size inb_S4x3072_S1x512_3_2048)) (ix2 0 j) = x4 (ix2 3 ⟨2048 + j.val, by omega⟩) := by pointwise []
  have eb : (View.ld (Val := Elt Ideal) (e' := .f32) x5 (Rect.unit (s := S1x3072) ![0, 2048] S1x512.size inb_S1x3072_S1x512_0_2048)) (ix2 0 j) = x5 (ix2 0 ⟨2048 + j.val, by omega⟩) := by pointwise []
  simp only [ep, e0, e1, e2, e3, eb]
  rfl

theorem e_piece_4 (x : S8x512.Idx) :
    k0_pay47 (k0_pay29 (k0_pay2 x0 x1) (View.ld (Val := Elt Ideal) (e' := .bf16) x2 (Rect.unit (s := S1024x5152) ![0, 4096] S1024x512.size inb_S1024x5152_S1024x512_0_4096))) x = ET x0 x1 x2 ((Rect.unit (s := S8x3072) ![0, 2048] S8x512.size inb_S8x3072_S8x512_0_2048).emb x) := by
  obtain ⟨i, j, rfl⟩ : ∃ (i : Fin 8) (j : Fin 512), x = ix2 i j := ⟨x 0, x 1, (ix2_eta x).symm⟩
  have e : (Rect.unit (s := S8x3072) ![0, 2048] S8x512.size inb_S8x3072_S8x512_0_2048).emb (ix2 i j) = (ix2 i ⟨2048 + j.val, by omega⟩ : S8x3072.Idx) := by
    blk_ext []
  rw [e]
  exact (end_at (k0_pay4 x0 x1 (View.ld (Val := Elt Ideal) (e' := .bf16) x2 (Rect.unit (s := S1024x5152) ![0, 4096] S1024x512.size inb_S1024x5152_S1024x512_0_4096))) i j).trans (raw_4 x0 x1 x2 _ j)

theorem t_piece_4 (x : S1x8x512.Idx) :
    k0_pay46 (k0_pay29 (k0_pay2 x0 x1) (View.ld (Val := Elt Ideal) (e' := .bf16) x2 (Rect.unit (s := S1024x5152) ![0, 4096] S1024x512.size inb_S1024x5152_S1024x512_0_4096))) x = TT x0 x1 x2 ((Rect.unit (s := S1x8x3072) ![0, 0, 2048] S1x8x512.size inb_S1x8x3072_S1x8x512_0_0_2048).emb x) := by
  obtain ⟨q, i, j, rfl⟩ : ∃ (q : Fin 1) (i : Fin 8) (j : Fin 512), x = ix3 q i j := ⟨x 0, x 1, x 2, (ix3_eta x).symm⟩
  obtain rfl : q = 0 := Subsingleton.elim _ _
  have e : (Rect.unit (s := S1x8x3072) ![0, 0, 2048] S1x8x512.size inb_S1x8x3072_S1x8x512_0_0_2048).emb (ix3 0 i j) = (ix3 0 i ⟨2048 + j.val, by omega⟩ : S1x8x3072.Idx) := by
    blk_ext []
  rw [e]
  exact (tail_at (k0_pay4 x0 x1 (View.ld (Val := Elt Ideal) (e' := .bf16) x2 (Rect.unit (s := S1024x5152) ![0, 4096] S1024x512.size inb_S1024x5152_S1024x512_0_4096))) i j).trans (raw_4 x0 x1 x2 _ j)

theorem w_5 (x2 : FVec Ideal S1024x5152 .bf16) (k : Fin 1024) (j : Fin 512) : (View.ld (Val := Elt Ideal) (e' := .bf16) x2 (Rect.unit (s := S1024x5152) ![0, 4608] S1024x512.size inb_S1024x5152_S1024x512_0_4608)) (ix2 k j) = x2 (ix2 k ⟨4608 + j.val, by omega⟩) := by
  pointwise []

/-- Chunk 5 of a tile's projected columns. -/
theorem raw_5 (r : Fin 512) (j : Fin 512) :
    (k0_pay38 (k0_pay2 x0 x1) (View.ld (Val := Elt Ideal) (e' := .bf16) x2 (Rect.unit (s := S1024x5152) ![0, 4608] S1024x512.size inb_S1024x5152_S1024x512_0_4608))) (ix2 r j) = RAW x0 x1 x2 r ⟨2048 + (2560 + j.val), by omega⟩ := by
  refine (raw_at x0 x1 (View.ld (Val := Elt Ideal) (e' := .bf16) x2 (Rect.unit (s := S1024x5152) ![0, 4608] S1024x512.size inb_S1024x5152_S1024x512_0_4608)) r j).trans ?_
  unfold RAW projected
  refine Finset.sum_congr rfl fun k _ => congrArg _ ((w_5 x2 k j).trans ?_)
  exact congrArg (fun a => x2 (ix2 k a)) (Fin.ext (by dsimp only; omega))

theorem x_piece_5 (x4 : FVec Ideal S4x3072 .f32) (x5 : FVec Ideal S1x3072 .f32) (prev : FVec Ideal S8x3072 .f32) (x : S512x512.Idx) :
    k0_pay49 IOTA (k0_pay38 (k0_pay2 x0 x1) (View.ld (Val := Elt Ideal) (e' := .bf16) x2 (Rect.unit (s := S1024x5152) ![0, 4608] S1024x512.size inb_S1024x5152_S1024x512_0_4608))) (View.ld (Val := Elt Ideal) (e' := .f32) prev (Rect.unit (s := S8x3072) ![0, 2560] S8x512.size inb_S8x3072_S8x512_0_2560)) (k0_pay48 IOTA (k0_pay38 (k0_pay2 x0 x1) (View.ld (Val := Elt Ideal) (e' := .bf16) x2 (Rect.unit (s := S1024x5152) ![0, 4608] S1024x512.size inb_S1024x5152_S1024x512_0_4608))) (View.ld (Val := Elt Ideal) (e' := .f32) prev (Rect.unit (s := S8x3072) ![0, 2560] S8x512.size inb_S8x3072_S8x512_0_2560)) (View.ld (Val := Elt Ideal) (e' := .f32) x5 (Rect.unit (s := S1x3072) ![0, 2560] S1x512.size inb_S1x3072_S1x512_0_2560)) (View.ld (Val := Elt Ideal) (e' := .f32) x4 (Rect.unit (s := S4x3072) ![3, 2560] S1x512.size inb_S4x3072_S1x512_3_2560)) (View.ld (Val := Elt Ideal) (e' := .f32) x4 (Rect.unit (s := S4x3072) ![2, 2560] S1x512.size inb_S4x3072_S1x512_2_2560))) 2#32 (View.ld (Val := Elt Ideal) (e' := .f32) x4 (Rect.unit (s := S4x3072) ![1, 2560] S1x512.size inb_S4x3072_S1x512_1_2560)) (View.ld (Val := Elt Ideal) (e' := .f32) x4 (Rect.unit (s := S4x3072) ![0, 2560] S1x512.size inb_S4x3072_S1x512_0_2560)) x
      = XT x0 x1 x2 x4 x5 prev ((Rect.unit (s := S512x3072) ![0, 2560] S512x512.size inb_S512x3072_S512x512_0_2560).emb x) := by
  refine (congrFun (chunk_5 _ _ _ _ _ _ _) x).trans ?_
  obtain ⟨r, j, rfl⟩ : ∃ (r : Fin 512) (j : Fin 512), x = ix2 r j := ⟨x 0, x 1, (ix2_eta x).symm⟩
  have e : (Rect.unit (s := S512x3072) ![0, 2560] S512x512.size inb_S512x3072_S512x512_0_2560).emb (ix2 r j) = (ix2 r ⟨2560 + j.val, by omega⟩ : S512x3072.Idx) := by
    blk_ext []
  rw [e, CHUNK_at]
  simp only [raw_5]
  have ep : ∀ i : Fin 8, (View.ld (Val := Elt Ideal) (e' := .f32) prev (Rect.unit (s := S8x3072) ![0, 2560] S8x512.size inb_S8x3072_S8x512_0_2560)) (ix2 i j) = prev (ix2 i ⟨2560 + j.val, by omega⟩) := fun i => by pointwise []
  have e0 : (View.ld (Val := Elt Ideal) (e' := .f32) x4 (Rect.unit (s := S4x3072) ![0, 2560] S1x512.size inb_S4x3072_S1x512_0_2560)) (ix2 0 j) = x4 (ix2 0 ⟨2560 + j.val, by omega⟩) := by pointwise []
  have e1 : (View.ld (Val := Elt Ideal) (e' := .f32) x4 (Rect.unit (s := S4x3072) ![1, 2560] S1x512.size inb_S4x3072_S1x512_1_2560)) (ix2 0 j) = x4 (ix2 1 ⟨2560 + j.val, by omega⟩) := by pointwise []
  have e2 : (View.ld (Val := Elt Ideal) (e' := .f32) x4 (Rect.unit (s := S4x3072) ![2, 2560] S1x512.size inb_S4x3072_S1x512_2_2560)) (ix2 0 j) = x4 (ix2 2 ⟨2560 + j.val, by omega⟩) := by pointwise []
  have e3 : (View.ld (Val := Elt Ideal) (e' := .f32) x4 (Rect.unit (s := S4x3072) ![3, 2560] S1x512.size inb_S4x3072_S1x512_3_2560)) (ix2 0 j) = x4 (ix2 3 ⟨2560 + j.val, by omega⟩) := by pointwise []
  have eb : (View.ld (Val := Elt Ideal) (e' := .f32) x5 (Rect.unit (s := S1x3072) ![0, 2560] S1x512.size inb_S1x3072_S1x512_0_2560)) (ix2 0 j) = x5 (ix2 0 ⟨2560 + j.val, by omega⟩) := by pointwise []
  simp only [ep, e0, e1, e2, e3, eb]
  rfl

theorem e_piece_5 (x : S8x512.Idx) :
    k0_pay1 (k0_pay50 (k0_pay38 (k0_pay2 x0 x1) (View.ld (Val := Elt Ideal) (e' := .bf16) x2 (Rect.unit (s := S1024x5152) ![0, 4608] S1024x512.size inb_S1024x5152_S1024x512_0_4608)))) x = ET x0 x1 x2 ((Rect.unit (s := S8x3072) ![0, 2560] S8x512.size inb_S8x3072_S8x512_0_2560).emb x) := by
  obtain ⟨i, j, rfl⟩ : ∃ (i : Fin 8) (j : Fin 512), x = ix2 i j := ⟨x 0, x 1, (ix2_eta x).symm⟩
  have e : (Rect.unit (s := S8x3072) ![0, 2560] S8x512.size inb_S8x3072_S8x512_0_2560).emb (ix2 i j) = (ix2 i ⟨2560 + j.val, by omega⟩ : S8x3072.Idx) := by
    blk_ext []
  rw [e]
  exact (end_at (k0_pay4 x0 x1 (View.ld (Val := Elt Ideal) (e' := .bf16) x2 (Rect.unit (s := S1024x5152) ![0, 4608] S1024x512.size inb_S1024x5152_S1024x512_0_4608))) i j).trans (raw_5 x0 x1 x2 _ j)

theorem t_piece_5 (x : S1x8x512.Idx) :
    k0_pay51 (k0_pay38 (k0_pay2 x0 x1) (View.ld (Val := Elt Ideal) (e' := .bf16) x2 (Rect.unit (s := S1024x5152) ![0, 4608] S1024x512.size inb_S1024x5152_S1024x512_0_4608))) x = TT x0 x1 x2 ((Rect.unit (s := S1x8x3072) ![0, 0, 2560] S1x8x512.size inb_S1x8x3072_S1x8x512_0_0_2560).emb x) := by
  obtain ⟨q, i, j, rfl⟩ : ∃ (q : Fin 1) (i : Fin 8) (j : Fin 512), x = ix3 q i j := ⟨x 0, x 1, x 2, (ix3_eta x).symm⟩
  obtain rfl : q = 0 := Subsingleton.elim _ _
  have e : (Rect.unit (s := S1x8x3072) ![0, 0, 2560] S1x8x512.size inb_S1x8x3072_S1x8x512_0_0_2560).emb (ix3 0 i j) = (ix3 0 i ⟨2560 + j.val, by omega⟩ : S1x8x3072.Idx) := by
    blk_ext []
  rw [e]
  exact (tail_at (k0_pay4 x0 x1 (View.ld (Val := Elt Ideal) (e' := .bf16) x2 (Rect.unit (s := S1024x5152) ![0, 4608] S1024x512.size inb_S1024x5152_S1024x512_0_4608))) i j).trans (raw_5 x0 x1 x2 _ j)

end Cert.InProjIdeal.Pure

end
-- ==== Proof.InProjPoint.lean ====
/-
  What each grid point of the mixer's first projection of the prompt leaves: its tile of the gate's columns, of the
  activated convolution and of the step columns, and the last eight rows before the convolution, which the next point
  of the same sequence reads.
-/
module

public import proofs.«01_k».proof.Proof.InProjPure
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Layer

open Cert.InProjIdeal Cert.InProjIdeal.Gen Cert.InProjIdeal.Pure Cert.Ffn Cert.Rope Cert.InProj

/-- An index whose column lies in a stored chunk. -/
theorem in_chunk {R N n : Nat} (o : Nat) (inb) (y : (⟨2, ![R, N]⟩ : Shape).Idx) (h : o ≤ (y 1).val) (h' : (y 1).val < o + n) :
    y ∈ (Rect.unit (s := (⟨2, ![R, N]⟩ : Shape)) ![0, o] ![R, n] inb).set := by
  refine Rect.mem_set_unit.mpr fun a => ?_
  match a with
  | ⟨0, _⟩ => exact ⟨Nat.zero_le _, (show (y 0).val < 0 + R from (Nat.zero_add R).symm ▸ (y 0).isLt)⟩
  | ⟨1, _⟩ => exact ⟨h, h'⟩

/-- The same of the last rows' block. -/
theorem in_tail (o : Nat) (inb) (y : S1x8x3072.Idx) (h : o ≤ (y 2).val) (h' : (y 2).val < o + 512) :
    y ∈ (Rect.unit (s := S1x8x3072) ![0, 0, o] S1x8x512.size inb).set := by
  refine Rect.mem_set_unit.mpr fun a => ?_
  match a with
  | ⟨0, _⟩ => exact ⟨Nat.zero_le _, (show (y 0).val < 0 + 1 from Nat.zero_add 1 ▸ (y 0).isLt)⟩
  | ⟨1, _⟩ => exact ⟨Nat.zero_le _, (show (y 1).val < 0 + 8 from Nat.zero_add 8 ▸ (y 1).isLt)⟩
  | ⟨2, _⟩ => exact ⟨h, h'⟩

variable (m : (ℓ : Loc nD τ sig) → Buf (Elt Ideal) ℓ) (c : Dev nD)

/-- The gate's columns at a sequence's first point. -/
theorem gate_first (t : Fin cfg0.N) (h0 : t.val % 8 = 0) : (outsAt0 m c t.val t.isLt).1 = ZT (iblk m c 0 t) (iblk m c 1 t) (iblk m c 2 t) := by
  funext y
  rw [outsAt0_A m c t h0]
  frame_open
  simp (disch := decide) only [↓ View.readCov_skip, ↓ View.readCov_cons_toLoadRect, ↓ View.readCov_fill]
  frame_out
  refine View.canon_append_of_piecesOf (Val := Elt Ideal) (e := .bf16) (ZT (iblk m c 0 t) (iblk m c 1 t) (iblk m c 2 t)) [] [_, _, _, _] ⟨?_, ?_, ?_, ?_, trivial⟩ y ?_
  · exact fun x => z_piece_3 (iblk m c 0 t) (iblk m c 1 t) (iblk m c 2 t) x
  · exact fun x => z_piece_2 (iblk m c 0 t) (iblk m c 1 t) (iblk m c 2 t) x
  · exact fun x => z_piece_1 (iblk m c 0 t) (iblk m c 1 t) (iblk m c 2 t) x
  · exact fun x => z_piece_0 (iblk m c 0 t) (iblk m c 1 t) (iblk m c 2 t) x
  · have hy : (y 1).val < 2048 := (y 1).isLt
    have hq : (y 1).val / 512 < 4 := by omega
    match hi : (y 1).val / 512, hq with
    | 0, _ => exact ⟨_, .tail _ (.tail _ (.tail _ (.head _))), in_chunk 0 (by decide) y (by omega) (by omega)⟩
    | 1, _ => exact ⟨_, .tail _ (.tail _ (.head _)), in_chunk 512 (by decide) y (by omega) (by omega)⟩
    | 2, _ => exact ⟨_, .tail _ (.head _), in_chunk 1024 (by decide) y (by omega) (by omega)⟩
    | 3, _ => exact ⟨_, .head _, in_chunk 1536 (by decide) y (by omega) (by omega)⟩
    | k + 4, h => exact absurd h (by omega)

/-- The gate's columns at a later point. -/
theorem gate_next (t : Fin cfg0.N) (h0 : ¬ t.val % 8 = 0) : (outsAt0 m c t.val t.isLt).1 = ZT (iblk m c 0 t) (iblk m c 1 t) (iblk m c 2 t) := by
  funext y
  rw [outsAt0_B m c t h0]
  frame_open
  simp (disch := decide) only [↓ View.readCov_skip, ↓ View.readCov_cons_toLoadRect, ↓ View.readCov_fill]
  frame_out
  refine View.canon_append_of_piecesOf (Val := Elt Ideal) (e := .bf16) (ZT (iblk m c 0 t) (iblk m c 1 t) (iblk m c 2 t)) [] [_, _, _, _] ⟨?_, ?_, ?_, ?_, trivial⟩ y ?_
  · exact fun x => z_piece_3 (iblk m c 0 t) (iblk m c 1 t) (iblk m c 2 t) x
  · exact fun x => z_piece_2 (iblk m c 0 t) (iblk m c 1 t) (iblk m c 2 t) x
  · exact fun x => z_piece_1 (iblk m c 0 t) (iblk m c 1 t) (iblk m c 2 t) x
  · exact fun x => z_piece_0 (iblk m c 0 t) (iblk m c 1 t) (iblk m c 2 t) x
  · have hy : (y 1).val < 2048 := (y 1).isLt
    have hq : (y 1).val / 512 < 4 := by omega
    match hi : (y 1).val / 512, hq with
    | 0, _ => exact ⟨_, .tail _ (.tail _ (.tail _ (.head _))), in_chunk 0 (by decide) y (by omega) (by omega)⟩
    | 1, _ => exact ⟨_, .tail _ (.tail _ (.head _)), in_chunk 512 (by decide) y (by omega) (by omega)⟩
    | 2, _ => exact ⟨_, .tail _ (.head _), in_chunk 1024 (by decide) y (by omega) (by omega)⟩
    | 3, _ => exact ⟨_, .head _, in_chunk 1536 (by decide) y (by omega) (by omega)⟩
    | k + 4, h => exact absurd h (by omega)

/-- The gate's columns at every point. -/
theorem gate (t : Fin cfg0.N) : (outsAt0 m c t.val t.isLt).1 = ZT (iblk m c 0 t) (iblk m c 1 t) (iblk m c 2 t) :=
  if h : t.val % 8 = 0 then gate_first m c t h else gate_next m c t h

/-- The rows left for the next point at a sequence's first point. -/
theorem kept_first (t : Fin cfg0.N) (h0 : t.val % 8 = 0) : (outsAt0 m c t.val t.isLt).2.2.2.2 = ET (iblk m c 0 t) (iblk m c 1 t) (iblk m c 2 t) := by
  funext y
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (ET (iblk m c 0 t) (iblk m c 1 t) (iblk m c 2 t)) [_] [_, _, _, _, _, _] ⟨?_, ?_, ?_, ?_, ?_, ?_, trivial⟩ y ?_
  · exact fun x => e_piece_5 (iblk m c 0 t) (iblk m c 1 t) (iblk m c 2 t) x
  · exact fun x => e_piece_4 (iblk m c 0 t) (iblk m c 1 t) (iblk m c 2 t) x
  · exact fun x => e_piece_3 (iblk m c 0 t) (iblk m c 1 t) (iblk m c 2 t) x
  · exact fun x => e_piece_2 (iblk m c 0 t) (iblk m c 1 t) (iblk m c 2 t) x
  · exact fun x => e_piece_1 (iblk m c 0 t) (iblk m c 1 t) (iblk m c 2 t) x
  · exact fun x => e_piece_0 (iblk m c 0 t) (iblk m c 1 t) (iblk m c 2 t) x
  · have hy : (y 1).val < 3072 := (y 1).isLt
    have hq : (y 1).val / 512 < 6 := by omega
    match hi : (y 1).val / 512, hq with
    | 0, _ => exact ⟨_, .tail _ (.tail _ (.tail _ (.tail _ (.tail _ (.head _))))), in_chunk 0 (by decide) y (by omega) (by omega)⟩
    | 1, _ => exact ⟨_, .tail _ (.tail _ (.tail _ (.tail _ (.head _)))), in_chunk 512 (by decide) y (by omega) (by omega)⟩
    | 2, _ => exact ⟨_, .tail _ (.tail _ (.tail _ (.head _))), in_chunk 1024 (by decide) y (by omega) (by omega)⟩
    | 3, _ => exact ⟨_, .tail _ (.tail _ (.head _)), in_chunk 1536 (by decide) y (by omega) (by omega)⟩
    | 4, _ => exact ⟨_, .tail _ (.head _), in_chunk 2048 (by decide) y (by omega) (by omega)⟩
    | 5, _ => exact ⟨_, .head _, in_chunk 2560 (by decide) y (by omega) (by omega)⟩
    | k + 6, h => exact absurd h (by omega)

/-- The rows left for the next point at a later point. -/
theorem kept_next (t : Fin cfg0.N) (h0 : ¬ t.val % 8 = 0) : (outsAt0 m c t.val t.isLt).2.2.2.2 = ET (iblk m c 0 t) (iblk m c 1 t) (iblk m c 2 t) := by
  funext y
  rw [outsAt0_B m c t h0]
  frame_open
  simp (disch := decide) only [↓ View.readCov_skip, ↓ View.readCov_cons_toLoadRect, ↓ View.readCov_fill]
  frame_out
  refine View.canon_append_of_piecesOf (Val := Elt Ideal) (e := .f32) (ET (iblk m c 0 t) (iblk m c 1 t) (iblk m c 2 t)) [] [_, _, _, _, _, _] ⟨?_, ?_, ?_, ?_, ?_, ?_, trivial⟩ y ?_
  · exact fun x => e_piece_5 (iblk m c 0 t) (iblk m c 1 t) (iblk m c 2 t) x
  · exact fun x => e_piece_4 (iblk m c 0 t) (iblk m c 1 t) (iblk m c 2 t) x
  · exact fun x => e_piece_3 (iblk m c 0 t) (iblk m c 1 t) (iblk m c 2 t) x
  · exact fun x => e_piece_2 (iblk m c 0 t) (iblk m c 1 t) (iblk m c 2 t) x
  · exact fun x => e_piece_1 (iblk m c 0 t) (iblk m c 1 t) (iblk m c 2 t) x
  · exact fun x => e_piece_0 (iblk m c 0 t) (iblk m c 1 t) (iblk m c 2 t) x
  · have hy : (y 1).val < 3072 := (y 1).isLt
    have hq : (y 1).val / 512 < 6 := by omega
    match hi : (y 1).val / 512, hq with
    | 0, _ => exact ⟨_, .tail _ (.tail _ (.tail _ (.tail _ (.tail _ (.head _))))), in_chunk 0 (by decide) y (by omega) (by omega)⟩
    | 1, _ => exact ⟨_, .tail _ (.tail _ (.tail _ (.tail _ (.head _)))), in_chunk 512 (by decide) y (by omega) (by omega)⟩
    | 2, _ => exact ⟨_, .tail _ (.tail _ (.tail _ (.head _))), in_chunk 1024 (by decide) y (by omega) (by omega)⟩
    | 3, _ => exact ⟨_, .tail _ (.tail _ (.head _)), in_chunk 1536 (by decide) y (by omega) (by omega)⟩
    | 4, _ => exact ⟨_, .tail _ (.head _), in_chunk 2048 (by decide) y (by omega) (by omega)⟩
    | 5, _ => exact ⟨_, .head _, in_chunk 2560 (by decide) y (by omega) (by omega)⟩
    | k + 6, h => exact absurd h (by omega)

/-- The rows left for the next point at every point. -/
theorem kept (t : Fin cfg0.N) : (outsAt0 m c t.val t.isLt).2.2.2.2 = ET (iblk m c 0 t) (iblk m c 1 t) (iblk m c 2 t) :=
  if h : t.val % 8 = 0 then kept_first m c t h else kept_next m c t h

/-- The last rows' block at a sequence's first point. -/
theorem last_first (t : Fin cfg0.N) (h0 : t.val % 8 = 0) : (outsAt0 m c t.val t.isLt).2.2.2.1 = TT (iblk m c 0 t) (iblk m c 1 t) (iblk m c 2 t) := by
  funext y
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (TT (iblk m c 0 t) (iblk m c 1 t) (iblk m c 2 t)) [] [_, _, _, _, _, _] ⟨?_, ?_, ?_, ?_, ?_, ?_, trivial⟩ y ?_
  · exact fun x => t_piece_5 (iblk m c 0 t) (iblk m c 1 t) (iblk m c 2 t) x
  · exact fun x => t_piece_4 (iblk m c 0 t) (iblk m c 1 t) (iblk m c 2 t) x
  · exact fun x => t_piece_3 (iblk m c 0 t) (iblk m c 1 t) (iblk m c 2 t) x
  · exact fun x => t_piece_2 (iblk m c 0 t) (iblk m c 1 t) (iblk m c 2 t) x
  · exact fun x => t_piece_1 (iblk m c 0 t) (iblk m c 1 t) (iblk m c 2 t) x
  · exact fun x => t_piece_0 (iblk m c 0 t) (iblk m c 1 t) (iblk m c 2 t) x
  · have hy : (y 2).val < 3072 := (y 2).isLt
    have hq : (y 2).val / 512 < 6 := by omega
    match hi : (y 2).val / 512, hq with
    | 0, _ => exact ⟨_, .tail _ (.tail _ (.tail _ (.tail _ (.tail _ (.head _))))), in_tail 0 (by decide) y (by omega) (by omega)⟩
    | 1, _ => exact ⟨_, .tail _ (.tail _ (.tail _ (.tail _ (.head _)))), in_tail 512 (by decide) y (by omega) (by omega)⟩
    | 2, _ => exact ⟨_, .tail _ (.tail _ (.tail _ (.head _))), in_tail 1024 (by decide) y (by omega) (by omega)⟩
    | 3, _ => exact ⟨_, .tail _ (.tail _ (.head _)), in_tail 1536 (by decide) y (by omega) (by omega)⟩
    | 4, _ => exact ⟨_, .tail _ (.head _), in_tail 2048 (by decide) y (by omega) (by omega)⟩
    | 5, _ => exact ⟨_, .head _, in_tail 2560 (by decide) y (by omega) (by omega)⟩
    | k + 6, h => exact absurd h (by omega)

/-- The last rows' block at a later point. -/
theorem last_next (t : Fin cfg0.N) (h0 : ¬ t.val % 8 = 0) : (outsAt0 m c t.val t.isLt).2.2.2.1 = TT (iblk m c 0 t) (iblk m c 1 t) (iblk m c 2 t) := by
  funext y
  rw [outsAt0_B m c t h0]
  frame_open
  simp (disch := decide) only [↓ View.readCov_skip, ↓ View.readCov_cons_toLoadRect, ↓ View.readCov_fill]
  frame_out
  refine View.canon_append_of_piecesOf (Val := Elt Ideal) (e := .f32) (TT (iblk m c 0 t) (iblk m c 1 t) (iblk m c 2 t)) [] [_, _, _, _, _, _] ⟨?_, ?_, ?_, ?_, ?_, ?_, trivial⟩ y ?_
  · exact fun x => t_piece_5 (iblk m c 0 t) (iblk m c 1 t) (iblk m c 2 t) x
  · exact fun x => t_piece_4 (iblk m c 0 t) (iblk m c 1 t) (iblk m c 2 t) x
  · exact fun x => t_piece_3 (iblk m c 0 t) (iblk m c 1 t) (iblk m c 2 t) x
  · exact fun x => t_piece_2 (iblk m c 0 t) (iblk m c 1 t) (iblk m c 2 t) x
  · exact fun x => t_piece_1 (iblk m c 0 t) (iblk m c 1 t) (iblk m c 2 t) x
  · exact fun x => t_piece_0 (iblk m c 0 t) (iblk m c 1 t) (iblk m c 2 t) x
  · have hy : (y 2).val < 3072 := (y 2).isLt
    have hq : (y 2).val / 512 < 6 := by omega
    match hi : (y 2).val / 512, hq with
    | 0, _ => exact ⟨_, .tail _ (.tail _ (.tail _ (.tail _ (.tail _ (.head _))))), in_tail 0 (by decide) y (by omega) (by omega)⟩
    | 1, _ => exact ⟨_, .tail _ (.tail _ (.tail _ (.tail _ (.head _)))), in_tail 512 (by decide) y (by omega) (by omega)⟩
    | 2, _ => exact ⟨_, .tail _ (.tail _ (.tail _ (.head _))), in_tail 1024 (by decide) y (by omega) (by omega)⟩
    | 3, _ => exact ⟨_, .tail _ (.tail _ (.head _)), in_tail 1536 (by decide) y (by omega) (by omega)⟩
    | 4, _ => exact ⟨_, .tail _ (.head _), in_tail 2048 (by decide) y (by omega) (by omega)⟩
    | 5, _ => exact ⟨_, .head _, in_tail 2560 (by decide) y (by omega) (by omega)⟩
    | k + 6, h => exact absurd h (by omega)

/-- The last rows' block at every point. -/
theorem last (t : Fin cfg0.N) : (outsAt0 m c t.val t.isLt).2.2.2.1 = TT (iblk m c 0 t) (iblk m c 1 t) (iblk m c 2 t) :=
  if h : t.val % 8 = 0 then last_first m c t h else last_next m c t h

/-- The step columns at a sequence's first point. -/
theorem steps_first (t : Fin cfg0.N) (h0 : t.val % 8 = 0) : (outsAt0 m c t.val t.isLt).2.2.1 = k0_pay39 (F := Ideal) (k0_pay2 (iblk m c 0 t) (iblk m c 1 t)) (iblk m c 3 t) := by
  funext y
  rw [outsAt0_A m c t h0]
  frame_open
  simp (disch := decide) only [↓ View.readCov_skip, ↓ View.readCov_cons_toLoadRect, ↓ View.readCov_fill]
  frame_out

/-- The step columns at a later point. -/
theorem steps_next (t : Fin cfg0.N) (h0 : ¬ t.val % 8 = 0) : (outsAt0 m c t.val t.isLt).2.2.1 = k0_pay39 (F := Ideal) (k0_pay2 (iblk m c 0 t) (iblk m c 1 t)) (iblk m c 3 t) := by
  funext y
  rw [outsAt0_B m c t h0]
  frame_open
  simp (disch := decide) only [↓ View.readCov_skip, ↓ View.readCov_cons_toLoadRect, ↓ View.readCov_fill]
  frame_out

/-- The step columns at every point. -/
theorem steps (t : Fin cfg0.N) : (outsAt0 m c t.val t.isLt).2.2.1 = k0_pay39 (F := Ideal) (k0_pay2 (iblk m c 0 t) (iblk m c 1 t)) (iblk m c 3 t) :=
  if h : t.val % 8 = 0 then steps_first m c t h else steps_next m c t h

/-- The activated convolution at a sequence's first point: the rows before it are zero. -/
theorem conv_first (t : Fin cfg0.N) (h0 : t.val % 8 = 0) : (outsAt0 m c t.val t.isLt).2.1 = XT (iblk m c 0 t) (iblk m c 1 t) (iblk m c 2 t) (iblk m c 4 t) (iblk m c 5 t) (k0_pay3 (F := Ideal)) := by
  funext y
  rw [outsAt0_A m c t h0]
  frame_open
  simp (disch := decide) only [↓ View.readCov_skip, ↓ View.readCov_cons_toLoadRect, ↓ View.readCov_fill]
  frame_out
  refine View.canon_append_of_piecesOf (Val := Elt Ideal) (e := .bf16) (XT (iblk m c 0 t) (iblk m c 1 t) (iblk m c 2 t) (iblk m c 4 t) (iblk m c 5 t) (k0_pay3 (F := Ideal))) [] [_, _, _, _, _, _] ⟨?_, ?_, ?_, ?_, ?_, ?_, trivial⟩ y ?_
  · exact fun x => x_piece_5 (iblk m c 0 t) (iblk m c 1 t) (iblk m c 2 t) (iblk m c 4 t) (iblk m c 5 t) (k0_pay3 (F := Ideal)) x
  · exact fun x => x_piece_4 (iblk m c 0 t) (iblk m c 1 t) (iblk m c 2 t) (iblk m c 4 t) (iblk m c 5 t) (k0_pay3 (F := Ideal)) x
  · exact fun x => x_piece_3 (iblk m c 0 t) (iblk m c 1 t) (iblk m c 2 t) (iblk m c 4 t) (iblk m c 5 t) (k0_pay3 (F := Ideal)) x
  · exact fun x => x_piece_2 (iblk m c 0 t) (iblk m c 1 t) (iblk m c 2 t) (iblk m c 4 t) (iblk m c 5 t) (k0_pay3 (F := Ideal)) x
  · exact fun x => x_piece_1 (iblk m c 0 t) (iblk m c 1 t) (iblk m c 2 t) (iblk m c 4 t) (iblk m c 5 t) (k0_pay3 (F := Ideal)) x
  · exact fun x => x_piece_0 (iblk m c 0 t) (iblk m c 1 t) (iblk m c 2 t) (iblk m c 4 t) (iblk m c 5 t) (k0_pay3 (F := Ideal)) x
  · have hy : (y 1).val < 3072 := (y 1).isLt
    have hq : (y 1).val / 512 < 6 := by omega
    match hi : (y 1).val / 512, hq with
    | 0, _ => exact ⟨_, .tail _ (.tail _ (.tail _ (.tail _ (.tail _ (.head _))))), in_chunk 0 (by decide) y (by omega) (by omega)⟩
    | 1, _ => exact ⟨_, .tail _ (.tail _ (.tail _ (.tail _ (.head _)))), in_chunk 512 (by decide) y (by omega) (by omega)⟩
    | 2, _ => exact ⟨_, .tail _ (.tail _ (.tail _ (.head _))), in_chunk 1024 (by decide) y (by omega) (by omega)⟩
    | 3, _ => exact ⟨_, .tail _ (.tail _ (.head _)), in_chunk 1536 (by decide) y (by omega) (by omega)⟩
    | 4, _ => exact ⟨_, .tail _ (.head _), in_chunk 2048 (by decide) y (by omega) (by omega)⟩
    | 5, _ => exact ⟨_, .head _, in_chunk 2560 (by decide) y (by omega) (by omega)⟩
    | k + 6, h => exact absurd h (by omega)

/-- The activated convolution at a later point, with the rows left by the point before. -/
theorem conv_after (t : Fin cfg0.N) (h0 : ¬ t.val % 8 = 0) (H : FVec Ideal S8x3072 .f32)
    (hH : (outsAt0 m c (t.val - 1) (Nat.lt_of_le_of_lt (Nat.sub_le _ _) t.isLt)).2.2.2.2 = H) : (outsAt0 m c t.val t.isLt).2.1 = XT (iblk m c 0 t) (iblk m c 1 t) (iblk m c 2 t) (iblk m c 4 t) (iblk m c 5 t) H := by
  funext y
  rw [outsAt0_B m c t h0]
  frame_open
  simp (disch := decide) only [↓ View.readCov_skip, ↓ View.readCov_cons_toLoadRect, ↓ View.readCov_fill]
  frame_out
  simp only [read_unread_whole, hH]
  refine View.canon_append_of_piecesOf (Val := Elt Ideal) (e := .bf16) (XT (iblk m c 0 t) (iblk m c 1 t) (iblk m c 2 t) (iblk m c 4 t) (iblk m c 5 t) H) [] [_, _, _, _, _, _] ⟨?_, ?_, ?_, ?_, ?_, ?_, trivial⟩ y ?_
  · exact fun x => x_piece_5 (iblk m c 0 t) (iblk m c 1 t) (iblk m c 2 t) (iblk m c 4 t) (iblk m c 5 t) H x
  · exact fun x => x_piece_4 (iblk m c 0 t) (iblk m c 1 t) (iblk m c 2 t) (iblk m c 4 t) (iblk m c 5 t) H x
  · exact fun x => x_piece_3 (iblk m c 0 t) (iblk m c 1 t) (iblk m c 2 t) (iblk m c 4 t) (iblk m c 5 t) H x
  · exact fun x => x_piece_2 (iblk m c 0 t) (iblk m c 1 t) (iblk m c 2 t) (iblk m c 4 t) (iblk m c 5 t) H x
  · exact fun x => x_piece_1 (iblk m c 0 t) (iblk m c 1 t) (iblk m c 2 t) (iblk m c 4 t) (iblk m c 5 t) H x
  · exact fun x => x_piece_0 (iblk m c 0 t) (iblk m c 1 t) (iblk m c 2 t) (iblk m c 4 t) (iblk m c 5 t) H x
  · have hy : (y 1).val < 3072 := (y 1).isLt
    have hq : (y 1).val / 512 < 6 := by omega
    match hi : (y 1).val / 512, hq with
    | 0, _ => exact ⟨_, .tail _ (.tail _ (.tail _ (.tail _ (.tail _ (.head _))))), in_chunk 0 (by decide) y (by omega) (by omega)⟩
    | 1, _ => exact ⟨_, .tail _ (.tail _ (.tail _ (.tail _ (.head _)))), in_chunk 512 (by decide) y (by omega) (by omega)⟩
    | 2, _ => exact ⟨_, .tail _ (.tail _ (.tail _ (.head _))), in_chunk 1024 (by decide) y (by omega) (by omega)⟩
    | 3, _ => exact ⟨_, .tail _ (.tail _ (.head _)), in_chunk 1536 (by decide) y (by omega) (by omega)⟩
    | 4, _ => exact ⟨_, .tail _ (.head _), in_chunk 2048 (by decide) y (by omega) (by omega)⟩
    | 5, _ => exact ⟨_, .head _, in_chunk 2560 (by decide) y (by omega) (by omega)⟩
    | k + 6, h => exact absurd h (by omega)

/-- So they are the point before's last rows. -/
theorem conv_next (t : Fin cfg0.N) (h0 : ¬ t.val % 8 = 0) (p : Fin cfg0.N) (hp : p.val = t.val - 1) :
    (outsAt0 m c t.val t.isLt).2.1 = XT (iblk m c 0 t) (iblk m c 1 t) (iblk m c 2 t) (iblk m c 4 t) (iblk m c 5 t) (ET (iblk m c 0 p) (iblk m c 1 p) (iblk m c 2 p)) := by
  obtain rfl : p = ⟨t.val - 1, Nat.lt_of_le_of_lt (Nat.sub_le _ _) t.isLt⟩ := Fin.ext hp
  exact conv_after m c t h0 _ (kept m c ⟨t.val - 1, Nat.lt_of_le_of_lt (Nat.sub_le _ _) t.isLt⟩)

end Cert.InProjIdeal.Layer

end
-- ==== Proof.InProjValue.lean ====
/-
  The four result arrays of the mixer's first projection of the prompt are the reference's, index by index.
-/
module

public import proofs.«01_k».proof.Proof.InProjPoint
public import proofs.«01_k».proof.Proof.InProjRefValue

@[expose] public section

set_option maxRecDepth 16384

noncomputable section

open Idealize.ShloMosaic Idealize.ShloMosaic.TcCoe Idealize.SL.Sem
open Idealize.ShloMosaic.Pipeline (Dat)

namespace Cert.InProjIdeal.Layer

open Cert.InProjIdeal Cert.InProjIdeal.Gen Cert.InProjIdeal.Pure Cert.Ffn Cert.Rope Cert.InProj
open Cert.InProjRefIdeal.Layer (col ZED XBC STEPS LAST ZED_at XBC_at STEPS_at LAST_at)

/-- The step columns of the weights, eight in each group of 128 lanes, the others zero. -/
def SW (w : FVec Ideal S1024x5152 .f32) : FVec Ideal S1024x512 .bf16 :=
  truncf .bf16 (shapeCast S1024x512 (pad S1024x4x128 ![0, 0, 0] ![0, 0, 120] ![0, 0, 0]
    (shapeCast S1024x4x8 (extractStridedSlice S1024x32 ![0, 5120] w slices_S1024x5152_S1024x32_0_5120) shapeCasts_S1024x32_S1024x4x8)
    (sitofp .f32 (constantI S_ 32 0#32)) pads_S1024x4x8_S1024x4x128_000_000_01200 h_S_) shapeCasts_S1024x4x128_S1024x512) bitsLt_bf16_f32

theorem SW_at (w : FVec Ideal S1024x5152 .f32) (k : Fin 1024) (j : Fin 512) :
    SW w (ix2 k j) = if hj : j.val % 128 < 8 then w (ix2 k ⟨5120 + (j.val / 128 * 8 + j.val % 128), by omega⟩) else 0 := by
  pointwise [SW]
  have h4 : j.val / 128 < 4 := by omega
  have e0 : (FloatOps.sitofp FTy.f32 0#32 : Ideal .f32) = (0 : EReal) := by
    show (((0#32 : BitVec 32).toInt : ℝ) : EReal) = 0
    simp
  simp only [h4, true_and, e0]

variable (m : (ℓ : Loc nD τ sig) → Buf (Elt Ideal) ℓ)

theorem V_v5 (c : Dev nD) : (V m c main_v5 : S16384x1024.Idx → EReal) = (shapeCast S16384x1024 (α := EReal) (m ((c : Thread nD τ).loc main_arg0)) shapeCasts_S4x4096x1024_S16384x1024) := by
  unfold V
  simp only [List.flatten_cons, List.flatten_nil, List.append_nil, List.cons_append, List.nil_append, hostOps0, hostOps0_1, hostOps0_2]
  after_results
  rfl

theorem V_v6 (c : Dev nD) : (V m c main_v6 : S1024x5152.Idx → EReal) = (truncf (F := Ideal) .bf16 (m ((c : Thread nD τ).loc main_arg2)) bitsLt_bf16_f32) := by
  unfold V
  simp only [List.flatten_cons, List.flatten_nil, List.append_nil, List.cons_append, List.nil_append, hostOps0, hostOps0_1, hostOps0_2]
  after_results

theorem V_v7 (c : Dev nD) : (V m c main_v7 : S1x1024.Idx → EReal) = (shapeCast S1x1024 (α := EReal) (m ((c : Thread nD τ).loc main_arg1)) shapeCasts_S1024_S1x1024) := by
  unfold V
  simp only [List.flatten_cons, List.flatten_nil, List.append_nil, List.cons_append, List.nil_append, hostOps0, hostOps0_1, hostOps0_2]
  after_results
  rfl

theorem V_v8 (c : Dev nD) : (V m c main_v8 : S1x3072.Idx → EReal) = (shapeCast S1x3072 (α := EReal) (m ((c : Thread nD τ).loc main_arg4)) shapeCasts_S3072_S1x3072) := by
  unfold V
  simp only [List.flatten_cons, List.flatten_nil, List.append_nil, List.cons_append, List.nil_append, hostOps0, hostOps0_1, hostOps0_2]
  after_results
  rfl

theorem V_v4 (c : Dev nD) : (V m c main_v4 : S1024x512.Idx → EReal) = SW (m ((c : Thread nD τ).loc main_arg2)) := by
  unfold V
  simp only [List.flatten_cons, List.flatten_nil, List.append_nil, List.cons_append, List.nil_append, hostOps0, hostOps0_1, hostOps0_2]
  after_results
  rfl

/-- Where each window's block lies at grid point `t`. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val / 8, 0, 0] :=
  (by decide +kernel : ∀ t : Fin grid0.N, _)

theorem rows_read (X : S16384x1024.Idx → EReal) (t : Fin cfg0.N) (r : Fin 512) (q : Fin 16384) (hq : q.val = t.val * 512 + r.val) (k : Fin 1024) :
    View.read (Elt Ideal) ((cfg0.win 0).blk t).view X (ix2 r k) = X (ix2 q k) := by
  have ht : t.val < 32 := t.isLt
  blk_point [idx t]

theorem gain_read (X : S1x1024.Idx → EReal) (t : Fin cfg0.N) (k : Fin 1024) :
    View.read (Elt Ideal) ((cfg0.win 1).blk t).view X (ix2 0 k) = X (ix2 0 k) := by
  blk_point [idx t]

theorem weight_read (X : S1024x5152.Idx → EReal) (t : Fin cfg0.N) (k : Fin 1024) (j : Fin 5152) :
    View.read (Elt Ideal) ((cfg0.win 2).blk t).view X (ix2 k j) = X (ix2 k j) := by
  blk_point [idx t]

theorem step_weight_read (X : S1024x512.Idx → EReal) (t : Fin cfg0.N) (k : Fin 1024) (j : Fin 512) :
    View.read (Elt Ideal) ((cfg0.win 3).blk t).view X (ix2 k j) = X (ix2 k j) := by
  blk_point [idx t]

theorem taps_read (X : S4x3072.Idx → EReal) (t : Fin cfg0.N) (i : Fin 4) (j : Fin 3072) :
    View.read (Elt Ideal) ((cfg0.win 4).blk t).view X (ix2 i j) = X (ix2 i j) := by
  blk_point [idx t]

theorem bias_read (X : S1x3072.Idx → EReal) (t : Fin cfg0.N) (j : Fin 3072) :
    View.read (Elt Ideal) ((cfg0.win 5).blk t).view X (ix2 0 j) = X (ix2 0 j) := by
  blk_point [idx t]

theorem cast_at (X : S4x4096x1024.Idx → EReal) (q : Fin 16384) (k : Fin 1024) :
    shapeCast S16384x1024 (α := EReal) X shapeCasts_S4x4096x1024_S16384x1024 (ix2 q k) = X (ix3 ⟨q.val / 4096, by omega⟩ ⟨q.val % 4096, by omega⟩ k) := by
  pointwise []

theorem rows_at (c : Dev nD) (t : Fin cfg0.N) (r : Fin 512) (q : Fin 16384) (hq : q.val = t.val * 512 + r.val) (k : Fin 1024) :
    iblk m c 0 t (ix2 r k) = (m ((c : Thread nD τ).loc main_arg0)) (ix3 ⟨q.val / 4096, by omega⟩ ⟨q.val % 4096, by omega⟩ k) := by
  refine (rows_read (V m c main_v5) t r q hq k).trans ?_
  rw [V_v5]
  exact cast_at _ q k

theorem gain_at (c : Dev nD) (t : Fin cfg0.N) (k : Fin 1024) : iblk m c 1 t (ix2 (0 : Fin 1) k) = (m ((c : Thread nD τ).loc main_arg1)) (ix1 k) := by
  refine (gain_read (V m c main_v7) t k).trans ?_
  rw [V_v7]
  pointwise []

theorem weight_at (c : Dev nD) (t : Fin cfg0.N) (k : Fin 1024) (j : Fin 5152) : iblk m c 2 t (ix2 k j) = (m ((c : Thread nD τ).loc main_arg2)) (ix2 k j) := by
  refine (weight_read (V m c main_v6) t k j).trans ?_
  rw [V_v6]
  pointwise []

theorem step_weight_at (c : Dev nD) (t : Fin cfg0.N) (k : Fin 1024) (j : Fin 512) : iblk m c 3 t (ix2 k j) = SW (m ((c : Thread nD τ).loc main_arg2)) (ix2 k j) := by
  refine (step_weight_read (V m c main_v4) t k j).trans ?_
  rw [V_v4]

theorem taps_at (c : Dev nD) (t : Fin cfg0.N) (i : Fin 4) (j : Fin 3072) : iblk m c 4 t (ix2 i j) = (m ((c : Thread nD τ).loc main_arg3)) (ix2 i j) := by
  refine (taps_read (V m c main_arg3) t i j).trans ?_
  rw [V_main_arg3]

theorem bias_at (c : Dev nD) (t : Fin cfg0.N) (j : Fin 3072) : iblk m c 5 t (ix2 (0 : Fin 1) j) = (m ((c : Thread nD τ).loc main_arg4)) (ix1 j) := by
  refine (bias_read (V m c main_v8) t j).trans ?_
  rw [V_v8]
  pointwise []

/-- A tile's projected column is the layer's. -/
theorem raw_col (c : Dev nD) (t : Fin cfg0.N) (r : Fin 512) (j : Fin 5152) (n : Fin 4) (l : Fin 4096) (hq : n.val * 4096 + l.val = t.val * 512 + r.val) :
    RAW (iblk m c 0 t) (iblk m c 1 t) (iblk m c 2 t) r j = col (m ((c : Thread nD τ).loc main_arg0)) (m ((c : Thread nD τ).loc main_arg1)) (m ((c : Thread nD τ).loc main_arg2)) n l j := by
  have hx : (fun k : Fin 1024 => iblk m c 0 t (ix2 r k)) = fun k => (m ((c : Thread nD τ).loc main_arg0)) (ix3 n l k) := funext fun k => by
    refine (rows_at m c t r ⟨n.val * 4096 + l.val, by omega⟩ hq k).trans ?_
    have e1 : (⟨(n.val * 4096 + l.val) / 4096, by omega⟩ : Fin 4) = n := Fin.ext (by dsimp only; omega)
    have e2 : (⟨(n.val * 4096 + l.val) % 4096, by omega⟩ : Fin 4096) = l := Fin.ext (by dsimp only; omega)
    exact congrArg₂ (fun a b => (m ((c : Thread nD τ).loc main_arg0)) (ix3 a b k)) e1 e2
  have hg : (fun k : Fin 1024 => iblk m c 1 t (ix2 (0 : Fin 1) k)) = fun k => (m ((c : Thread nD τ).loc main_arg1)) (ix1 k) := funext fun k => gain_at m c t k
  have hw : (fun (k : Fin 1024) (j : Fin 5152) => iblk m c 2 t (ix2 k j)) = fun k j => (m ((c : Thread nD τ).loc main_arg2)) (ix2 k j) := funext fun k => funext fun j => weight_at m c t k j
  unfold RAW col
  rw [hx, hg, hw]

theorem point_z (c : Dev nD) (t : Fin cfg0.N) (r : Fin 512) (j : Fin 2048) (q : Fin 16384) (hq : q.val = t.val * 512 + r.val) :
    ZT (iblk m c 0 t) (iblk m c 1 t) (iblk m c 2 t) (ix2 r j) = ZED (m ((c : Thread nD τ).loc main_arg0)) (m ((c : Thread nD τ).loc main_arg1)) (m ((c : Thread nD τ).loc main_arg2)) (ix2 q j) := by
  rw [ZED_at]
  exact raw_col m c t r ⟨j.val, by omega⟩ _ _ (by dsimp only; omega)

theorem point_steps (c : Dev nD) (t : Fin cfg0.N) (r : Fin 512) (j : Fin 512) (q : Fin 16384) (hq : q.val = t.val * 512 + r.val) :
    k0_pay39 (F := Ideal) (k0_pay2 (iblk m c 0 t) (iblk m c 1 t)) (iblk m c 3 t) (ix2 r j) = STEPS (m ((c : Thread nD τ).loc main_arg0)) (m ((c : Thread nD τ).loc main_arg1)) (m ((c : Thread nD τ).loc main_arg2)) (ix2 q j) := by
  rw [STEPS_at]
  refine (steps_at (iblk m c 0 t) (iblk m c 1 t) (iblk m c 3 t) r j).trans ?_
  by_cases hj : j.val % 128 < 8
  · simp only [hj, ↓reduceDIte]
    refine Eq.trans ?_ (raw_col m c t r ⟨5120 + (j.val / 128 * 8 + j.val % 128), by omega⟩ ⟨q.val / 4096, by omega⟩ ⟨q.val % 4096, by omega⟩ (by dsimp only; omega))
    unfold RAW projected
    refine Finset.sum_congr rfl fun k _ => congrArg _ ?_
    refine (step_weight_at m c t k j).trans (Eq.trans ?_ (weight_at m c t k _).symm)
    rw [SW_at]
    simp only [hj, ↓reduceDIte]
  · simp only [hj, ↓reduceDIte]
    unfold projected
    refine Finset.sum_eq_zero fun k _ => ?_
    have e : iblk m c 3 t (ix2 k j) = (0 : EReal) := by
      refine (step_weight_at m c t k j).trans ?_
      rw [SW_at]
      simp only [hj, ↓reduceDIte]
    exact (congrArg (fun a : EReal => normed (fun k => iblk m c 0 t (ix2 r k)) (fun k => iblk m c 1 t (ix2 0 k)) k * a) e).trans (mul_zero _)

theorem point_last (c : Dev nD) (t : Fin cfg0.N) (ht : t.val % 8 = 7) (i : Fin 8) (j : Fin 3072) (n : Fin 4) (hn : n.val = t.val / 8) :
    TT (iblk m c 0 t) (iblk m c 1 t) (iblk m c 2 t) (ix3 0 i j) = LAST (m ((c : Thread nD τ).loc main_arg0)) (m ((c : Thread nD τ).loc main_arg1)) (m ((c : Thread nD τ).loc main_arg2)) (ix3 n i j) := by
  rw [LAST_at]
  exact raw_col m c t ⟨504 + i.val, by omega⟩ ⟨2048 + j.val, by omega⟩ n ⟨4088 + i.val, by omega⟩ (by dsimp only; omega)

/-- A tile's convolution is the sequence's, when the rows before it are the sequence's or zero. -/
theorem point_conv (c : Dev nD) (t : Fin cfg0.N) (prev : FVec Ideal S8x3072 .f32) (r : Fin 512) (j : Fin 3072) (q : Fin 16384) (hq : q.val = t.val * 512 + r.val)
    (hp : ∀ i : Fin 8, prev (ix2 i j) = if h : 0 < t.val % 8 then col (m ((c : Thread nD τ).loc main_arg0)) (m ((c : Thread nD τ).loc main_arg1)) (m ((c : Thread nD τ).loc main_arg2))
      ⟨q.val / 4096, by omega⟩ ⟨t.val % 8 * 512 + i.val - 8, by omega⟩ ⟨2048 + j.val, by omega⟩ else 0) :
    XT (iblk m c 0 t) (iblk m c 1 t) (iblk m c 2 t) (iblk m c 4 t) (iblk m c 5 t) prev (ix2 r j)
      = XBC (m ((c : Thread nD τ).loc main_arg0)) (m ((c : Thread nD τ).loc main_arg1)) (m ((c : Thread nD τ).loc main_arg2)) (m ((c : Thread nD τ).loc main_arg3)) (m ((c : Thread nD τ).loc main_arg4)) (ix2 q j) := by
  have ht : t.val < 32 := t.isLt
  rw [XBC_at]
  refine congrArg silu ?_
  have e := convTile_eq (fun l => col (m ((c : Thread nD τ).loc main_arg0)) (m ((c : Thread nD τ).loc main_arg1)) (m ((c : Thread nD τ).loc main_arg2)) ⟨q.val / 4096, by omega⟩ l ⟨2048 + j.val, by omega⟩)
    (fun r => RAW (iblk m c 0 t) (iblk m c 1 t) (iblk m c 2 t) r ⟨2048 + j.val, by omega⟩) (fun i => prev (ix2 i j)) (t.val % 8) (by omega)
    (fun r' => raw_col m c t r' _ _ _ (by dsimp only; omega)) hp
    (fun i => (m ((c : Thread nD τ).loc main_arg3)) (ix2 i j)) ((m ((c : Thread nD τ).loc main_arg4)) (ix1 j)) r ⟨q.val % 4096, by omega⟩ (by dsimp only; omega)
  refine Eq.trans ?_ e
  show convTile _ _ (iblk m c 4 t (ix2 (0 : Fin 4) j)) (iblk m c 4 t (ix2 (1 : Fin 4) j)) (iblk m c 4 t (ix2 (2 : Fin 4) j)) (iblk m c 4 t (ix2 (3 : Fin 4) j)) (iblk m c 5 t (ix2 (0 : Fin 1) j)) _ = _
  rw [taps_at, taps_at, taps_at, taps_at, bias_at]
  rfl

theorem zero_rows (i : Fin 8) (j : Fin 3072) : k0_pay3 (F := Ideal) (ix2 i j) = (0 : EReal) := by
  pointwise [k0_pay3]

theorem point_xbc (c : Dev nD) (t : Fin cfg0.N) (r : Fin 512) (j : Fin 3072) (q : Fin 16384) (hq : q.val = t.val * 512 + r.val) :
    (outsAt0 m c t.val t.isLt).2.1 (ix2 r j)
      = XBC (m ((c : Thread nD τ).loc main_arg0)) (m ((c : Thread nD τ).loc main_arg1)) (m ((c : Thread nD τ).loc main_arg2)) (m ((c : Thread nD τ).loc main_arg3)) (m ((c : Thread nD τ).loc main_arg4)) (ix2 q j) := by
  have ht : t.val < 32 := t.isLt
  by_cases h : t.val % 8 = 0
  · refine (congrFun (conv_first m c t h) (ix2 r j)).trans (point_conv m c t _ r j q hq fun i => ?_)
    have h' : ¬ 0 < t.val % 8 := by omega
    simp only [h', ↓reduceDIte]
    exact zero_rows i j
  · refine (congrFun (conv_next m c t h ⟨t.val - 1, Nat.lt_of_le_of_lt (Nat.sub_le _ _) t.isLt⟩ rfl) (ix2 r j)).trans (point_conv m c t _ r j q hq fun i => ?_)
    have h' : 0 < t.val % 8 := by omega
    simp only [h', ↓reduceDIte]
    exact raw_col m c ⟨t.val - 1, Nat.lt_of_le_of_lt (Nat.sub_le _ _) t.isLt⟩ ⟨504 + i.val, by omega⟩ ⟨2048 + j.val, by omega⟩ _ _ (by dsimp only; omega)

theorem final6 (c : Dev nD) : (dats m 0 c).arrAt 6 cfg0.N = ZED (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, gate m c t]
  idx_vars y
  have ht : t.val < 32 := t.isLt
  have he : ((cfg0.win 6).blk t).view.emb (ix2 y0 y1) = (ix2 (⟨t.val * 512 + y0.val, by omega⟩ : Fin 16384) y1 : S16384x2048.Idx) := by
    blk_ext [idx t]
  exact (point_z m c t y0 y1 _ rfl).trans (congrArg _ he.symm)

theorem final7 (c : Dev nD) : (dats m 0 c).arrAt 7 cfg0.N = XBC (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have ht : t.val < 32 := t.isLt
  have he : ((cfg0.win 7).blk t).view.emb (ix2 y0 y1) = (ix2 (⟨t.val * 512 + y0.val, by omega⟩ : Fin 16384) y1 : S16384x3072.Idx) := by
    blk_ext [idx t]
  exact (point_xbc m c t y0 y1 _ rfl).trans (congrArg _ he.symm)

theorem final8 (c : Dev nD) : (dats m 0 c).arrAt 8 cfg0.N = STEPS (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8, steps m c t]
  idx_vars y
  have ht : t.val < 32 := t.isLt
  have he : ((cfg0.win 8).blk t).view.emb (ix2 y0 y1) = (ix2 (⟨t.val * 512 + y0.val, by omega⟩ : Fin 16384) y1 : S16384x512.Idx) := by
    blk_ext [idx t]
  exact (point_steps m c t y0 y1 _ rfl).trans (congrArg _ he.symm)

theorem final9 (c : Dev nD) : (dats m 0 c).arrAt 9 cfg0.N = LAST (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9, last m c t]
  have h7 := (flush0_9 t).mp hf
  idx_vars y
  obtain rfl : y0 = 0 := Subsingleton.elim _ _
  have ht : t.val < 32 := t.isLt
  have he : ((cfg0.win 9).blk t).view.emb (ix3 0 y1 y2) = (ix3 (⟨t.val / 8, by omega⟩ : Fin 4) y1 y2 : S4x8x3072.Idx) := by
    blk_ext [idx t]
  exact (point_last m c t h7 y1 y2 _ rfl).trans (congrArg _ he.symm)

end Cert.InProjIdeal.Layer

end
-- ==== Proof.InSRefValue.lean ====
/-
  The reference of the sampled tokens' first mixer projection, entry by entry.
-/
module

public import proofs.«01_k».proof.Proof.RopeMath
public import proofs.«01_k».proof.Proof.Gen.InSRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InSRefIdeal.Layer

open Cert.InSRefIdeal Cert.InSRefIdeal.Gen Cert.Ffn Cert.Rope

/-- The normalised rows against the weights. -/
def PROJ (h : FVec Ideal S32x1024 .f32) (g : FVec Ideal S1024 .f32) (w : FVec Ideal S1024x5152 .f32) : FVec Ideal S32x5152 .f32 :=
  Host.dotGeneral dot_S32x1024_S1024x5152_S32x5152_1_0_0_1_n_n none (mulf (mulf h (broadcastInDim S32x1024 ![0, 1] bcast_S32x1_S32x1024_0_1 (Host.rsqrt (addf (Host.divf (broadcastInDim S32x1 ![0] bcast_S32_S32x1_0 (Host.reduceAdd (mulf h h) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x3727C5AC#32)))))) (broadcastInDim S32x1024 ![0, 1] bcast_S1x1024_S32x1024_0_1 (broadcastInDim S1x1024 ![1] bcast_S1024_S1x1024_1 g))) w

/-- The gate's columns. -/
def ZED (h : FVec Ideal S32x1024 .f32) (g : FVec Ideal S1024 .f32) (w : FVec Ideal S1024x5152 .f32) : FVec Ideal S32x2048 .f32 :=
  extractStridedSlice S32x2048 ![0, 0] (PROJ h g w) slices_S32x5152_S32x2048_0_0

/-- The columns the convolution reads. -/
def XBC (h : FVec Ideal S32x1024 .f32) (g : FVec Ideal S1024 .f32) (w : FVec Ideal S1024x5152 .f32) : FVec Ideal S32x3072 .f32 :=
  extractStridedSlice S32x3072 ![0, 2048] (PROJ h g w) slices_S32x5152_S32x3072_0_2048

/-- The convolution's state with the token's row after it, without the oldest row. -/
def SHIFT (s : FVec Ideal S32x3x3072 .f32) (X : FVec Ideal S32x3072 .f32) : FVec Ideal S32x3x3072 .f32 :=
  extractStridedSlice S32x3x3072 ![0, 1, 0] (concatenate S32x4x3072 1 [⟨S32x3x3072, s⟩, ⟨S32x1x3072, (broadcastInDim S32x1x3072 ![0, 2] bcast_S32x3072_S32x1x3072_0_2 X)⟩] concatenates_S32x3x3072_S32x1x3072_S32x4x3072_d1) slices_S32x4x3072_S32x3x3072_0_1_0

/-- The convolution's new state. -/
def CONV (h : FVec Ideal S32x1024 .f32) (g : FVec Ideal S1024 .f32) (w : FVec Ideal S1024x5152 .f32) (s : FVec Ideal S32x3x3072 .f32) : FVec Ideal S32x3x3072 .f32 := SHIFT s (XBC h g w)

/-- A projected row's column. -/
def col (h : FVec Ideal S32x1024 .f32) (g : FVec Ideal S1024 .f32) (w : FVec Ideal S1024x5152 .f32) (r : Fin 32) (j : Fin 5152) : EReal :=
  projected (fun k => h (ix2 r k)) (fun k => g (ix1 k)) (fun k j => w (ix2 k j)) j

theorem PROJ_at (h : FVec Ideal S32x1024 .f32) (g : FVec Ideal S1024 .f32) (w : FVec Ideal S1024x5152 .f32) (r : Fin 32) (j : Fin 5152) : PROJ h g w (ix2 r j) = col h g w r j := by
  pointwise [PROJ, col, projected, normed]

theorem ZED_at (h : FVec Ideal S32x1024 .f32) (g : FVec Ideal S1024 .f32) (w : FVec Ideal S1024x5152 .f32) (r : Fin 32) (j : Fin 2048) : ZED h g w (ix2 r j) = col h g w r ⟨j.val, by omega⟩ := by
  rw [← PROJ_at]
  generalize hP : PROJ h g w = P
  pointwise [ZED, hP]

theorem XBC_at (h : FVec Ideal S32x1024 .f32) (g : FVec Ideal S1024 .f32) (w : FVec Ideal S1024x5152 .f32) (r : Fin 32) (j : Fin 3072) : XBC h g w (ix2 r j) = col h g w r ⟨2048 + j.val, by omega⟩ := by
  rw [← PROJ_at]
  generalize hP : PROJ h g w = P
  pointwise [XBC, hP]

theorem SHIFT_at (s : FVec Ideal S32x3x3072 .f32) (X : FVec Ideal S32x3072 .f32) (n : Fin 32) (i : Fin 3) (j : Fin 3072) :
    SHIFT s X (ix3 n i j) = if h : 1 + i.val < 3 then s (ix3 n ⟨1 + i.val, by omega⟩ j) else X (ix2 n j) := by
  pointwise [SHIFT]

end Cert.InSRefIdeal.Layer

end
-- ==== Proof.InSValue.lean ====
/-
  The sampled tokens' first mixer projection: its two result arrays, chunk by chunk, and the convolution's new state
  built from one of them are the reference's.
-/
module

public import proofs.«01_k».proof.Proof.RopeMath
public import proofs.«01_k».proof.Proof.Gen.InSIdeal.Frame
public import Idealize.ShloMosaic.Lib.Pipeline.ValueKit
public import Idealize.ShloMosaic.Lib.Pipeline.ReadBack
public import proofs.«01_k».proof.Proof.InSRefValue

@[expose] public section

set_option maxRecDepth 16384

noncomputable section

open Idealize.ShloMosaic Idealize.ShloMosaic.TcCoe Idealize.SL.Sem
open Idealize.ShloMosaic.Pipeline (Dat)

namespace Cert.InSIdeal.Layer

open Cert.InSIdeal Cert.InSIdeal.Gen Cert.Ffn Cert.Rope
open Cert.InSRefIdeal.Layer (col ZED XBC SHIFT ZED_at XBC_at SHIFT_at)

variable (x0 : FVec Ideal S32x1024 .f32) (x1 : FVec Ideal S1x1024 .f32) (x2 : FVec Ideal S1024x5152 .bf16)

/-- The projected column of a row. -/
def RAW (r : Fin 32) (j : Fin 5152) : EReal :=
  projected (fun k => x0 (ix2 r k)) (fun k => x1 (ix2 0 k)) (fun k j => x2 (ix2 k j)) j

/-- A projected chunk. -/
theorem raw_at (x0 : FVec Ideal S32x1024 .f32) (x1 : FVec Ideal S1x1024 .f32) (W : FVec Ideal S1024x512 .bf16) (r : Fin 32) (j : Fin 512) : k0_pay2 (F := Ideal) x0 x1 W (ix2 r j)
    = projected (fun k => x0 (ix2 r k)) (fun k => x1 (ix2 0 k)) (fun k j => W (ix2 k j)) j := by
  pointwise [k0_pay2, k0_pay1, projected, normed]

/-- The gate's columns. -/
def ZT : S32x2048.Idx → EReal := fun i =>
  RAW x0 x1 x2 (i 0) ⟨(i 1).val, by have h : (i 1).val < 2048 := (i 1).isLt; omega⟩

/-- The columns the convolution reads. -/
def XT : S32x3072.Idx → EReal := fun i =>
  RAW x0 x1 x2 (i 0) ⟨2048 + (i 1).val, by have h : (i 1).val < 3072 := (i 1).isLt; omega⟩

/-- A projected chunk of the weights' columns is the projection's columns there. -/
theorem chunk (p : Nat) (hp : p + 512 ≤ 5152)
    (inb : ∀ a, (![0, p] : Fin 2 → Nat) a + S1024x512.size a ≤ S1024x5152.size a) (r : Fin 32) (j : Fin 512) :
    k0_pay2 (F := Ideal) x0 x1 (View.ld (Val := Elt Ideal) (e' := .bf16) x2 (Rect.unit (s := S1024x5152) ![0, p] S1024x512.size inb)) (ix2 r j)
      = RAW x0 x1 x2 r ⟨p + j.val, by omega⟩ := by
  refine (raw_at x0 x1 _ r j).trans ?_
  unfold RAW projected
  refine Finset.sum_congr rfl fun k _ => congrArg _ ?_
  pointwise []

/-- A chunk stored among the gate's columns. -/
theorem z_tile (o : Nat) (ho : o + 512 ≤ 2048)
    (inb : ∀ a, (![0, o] : Fin 2 → Nat) a + S1024x512.size a ≤ S1024x5152.size a) (inb') (x : S32x512.Idx) :
    k0_pay2 (F := Ideal) x0 x1 (View.ld (Val := Elt Ideal) (e' := .bf16) x2 (Rect.unit (s := S1024x5152) ![0, o] S1024x512.size inb)) x
      = ZT x0 x1 x2 ((Rect.unit (s := S32x2048) ![0, o] S32x512.size inb').emb x) := by
  obtain ⟨r, j, rfl⟩ : ∃ (r : Fin 32) (j : Fin 512), x = ix2 r j := ⟨x 0, x 1, (ix2_eta x).symm⟩
  refine (chunk x0 x1 x2 o (by omega) inb r j).trans ?_
  have e : (Rect.unit (s := S32x2048) ![0, o] S32x512.size inb').emb (ix2 r j) = (ix2 r ⟨o + j.val, by omega⟩ : S32x2048.Idx) := by
    blk_ext []
  rw [e]
  rfl

/-- A chunk stored among the columns the convolution reads. -/
theorem x_tile (o p : Nat) (ho : o + 512 ≤ 3072)
    (hp : p = 2048 + o) (inb : ∀ a, (![0, p] : Fin 2 → Nat) a + S1024x512.size a ≤ S1024x5152.size a) (inb') (x : S32x512.Idx) :
    k0_pay2 (F := Ideal) x0 x1 (View.ld (Val := Elt Ideal) (e' := .bf16) x2 (Rect.unit (s := S1024x5152) ![0, p] S1024x512.size inb)) x
      = XT x0 x1 x2 ((Rect.unit (s := S32x3072) ![0, o] S32x512.size inb').emb x) := by
  obtain ⟨r, j, rfl⟩ : ∃ (r : Fin 32) (j : Fin 512), x = ix2 r j := ⟨x 0, x 1, (ix2_eta x).symm⟩
  refine (chunk x0 x1 x2 p (by omega) inb r j).trans ?_
  have e : (Rect.unit (s := S32x3072) ![0, o] S32x512.size inb').emb (ix2 r j) = (ix2 r ⟨o + j.val, by omega⟩ : S32x3072.Idx) := by
    blk_ext []
  rw [e]
  exact congrArg (RAW x0 x1 x2 r) (Fin.ext (by show p + j.val = 2048 + (o + j.val); omega))

/-- An index whose column lies in a stored chunk. -/
theorem in_chunk {R N n : Nat} (o : Nat) (inb) (y : (⟨2, ![R, N]⟩ : Shape).Idx) (h : o ≤ (y 1).val) (h' : (y 1).val < o + n) :
    y ∈ (Rect.unit (s := (⟨2, ![R, N]⟩ : Shape)) ![0, o] ![R, n] inb).set := by
  refine Rect.mem_set_unit.mpr fun a => ?_
  match a with
  | ⟨0, _⟩ => exact ⟨Nat.zero_le _, (show (y 0).val < 0 + R from (Nat.zero_add R).symm ▸ (y 0).isLt)⟩
  | ⟨1, _⟩ => exact ⟨h, h'⟩

theorem gate : out0_3 (F := Ideal) x0 x1 x2 = ZT x0 x1 x2 := by
  funext y
  frame_out
  refine View.canon_append_of_piecesOf (Val := Elt Ideal) (e := .f32) (ZT x0 x1 x2) [] [_, _, _, _] ⟨?_, ?_, ?_, ?_, trivial⟩ y ?_
  · exact fun x => z_tile x0 x1 x2 1536 (by decide) _ (by decide) x
  · exact fun x => z_tile x0 x1 x2 1024 (by decide) _ (by decide) x
  · exact fun x => z_tile x0 x1 x2 512 (by decide) _ (by decide) x
  · exact fun x => z_tile x0 x1 x2 0 (by decide) _ (by decide) x
  · have hy : (y 1).val < 2048 := (y 1).isLt
    have hq : (y 1).val / 512 < 4 := by omega
    match hi : (y 1).val / 512, hq with
    | 0, _ => exact ⟨_, .tail _ (.tail _ (.tail _ (.head _))), in_chunk 0 (by decide) y (by omega) (by omega)⟩
    | 1, _ => exact ⟨_, .tail _ (.tail _ (.head _)), in_chunk 512 (by decide) y (by omega) (by omega)⟩
    | 2, _ => exact ⟨_, .tail _ (.head _), in_chunk 1024 (by decide) y (by omega) (by omega)⟩
    | 3, _ => exact ⟨_, .head _, in_chunk 1536 (by decide) y (by omega) (by omega)⟩
    | k + 4, h => exact absurd h (by omega)

theorem rows : out0_4 (F := Ideal) x0 x1 x2 = XT x0 x1 x2 := by
  funext y
  frame_out
  unfold k0_pay12
  frame_out
  refine View.canon_append_of_piecesOf (Val := Elt Ideal) (e := .f32) (XT x0 x1 x2) [] [_, _, _, _, _, _] ⟨?_, ?_, ?_, ?_, ?_, ?_, trivial⟩ y ?_
  · exact fun x => x_tile x0 x1 x2 2560 4608 (by decide) rfl _ (by decide) x
  · exact fun x => x_tile x0 x1 x2 2048 4096 (by decide) rfl _ (by decide) x
  · exact fun x => x_tile x0 x1 x2 1536 3584 (by decide) rfl _ (by decide) x
  · exact fun x => x_tile x0 x1 x2 1024 3072 (by decide) rfl _ (by decide) x
  · exact fun x => x_tile x0 x1 x2 512 2560 (by decide) rfl _ (by decide) x
  · exact fun x => x_tile x0 x1 x2 0 2048 (by decide) rfl _ (by decide) x
  · have hy : (y 1).val < 3072 := (y 1).isLt
    have hq : (y 1).val / 512 < 6 := by omega
    match hi : (y 1).val / 512, hq with
    | 0, _ => exact ⟨_, .tail _ (.tail _ (.tail _ (.tail _ (.tail _ (.head _))))), in_chunk 0 (by decide) y (by omega) (by omega)⟩
    | 1, _ => exact ⟨_, .tail _ (.tail _ (.tail _ (.tail _ (.head _)))), in_chunk 512 (by decide) y (by omega) (by omega)⟩
    | 2, _ => exact ⟨_, .tail _ (.tail _ (.tail _ (.head _))), in_chunk 1024 (by decide) y (by omega) (by omega)⟩
    | 3, _ => exact ⟨_, .tail _ (.tail _ (.head _)), in_chunk 1536 (by decide) y (by omega) (by omega)⟩
    | 4, _ => exact ⟨_, .tail _ (.head _), in_chunk 2048 (by decide) y (by omega) (by omega)⟩
    | 5, _ => exact ⟨_, .head _, in_chunk 2560 (by decide) y (by omega) (by omega)⟩
    | k + 6, h => exact absurd h (by omega)

variable (m : (ℓ : Loc nD τ sig) → Buf (Elt Ideal) ℓ)

theorem V_v0 (c : Dev nD) : (V m c main_v0 : S1024x5152.Idx → EReal) = (truncf (F := Ideal) .bf16 (m ((c : Thread nD τ).loc main_arg2)) bitsLt_bf16_f32) := by
  unfold V V0
  simp only [List.flatten_cons, List.flatten_nil, List.append_nil, List.cons_append, List.nil_append, hostOps0]
  after_results

theorem V_v1 (c : Dev nD) : (V m c main_v1 : S1x1024.Idx → EReal) = (shapeCast S1x1024 (α := EReal) (m ((c : Thread nD τ).loc main_arg1)) shapeCasts_S1024_S1x1024) := by
  unfold V V0
  simp only [List.flatten_cons, List.flatten_nil, List.append_nil, List.cons_append, List.nil_append, hostOps0]
  after_results
  rfl

/-- Each window's block is its array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem hidden_read (X : S32x1024.Idx → EReal) (t : Fin cfg0.N) (r : Fin 32) (k : Fin 1024) :
    View.read (Elt Ideal) ((cfg0.win 0).blk t).view X (ix2 r k) = X (ix2 r k) := by
  blk_point [idx t]

theorem gain_read (X : S1x1024.Idx → EReal) (t : Fin cfg0.N) (k : Fin 1024) :
    View.read (Elt Ideal) ((cfg0.win 1).blk t).view X (ix2 0 k) = X (ix2 0 k) := by
  blk_point [idx t]

theorem weight_read (X : S1024x5152.Idx → EReal) (t : Fin cfg0.N) (k : Fin 1024) (j : Fin 5152) :
    View.read (Elt Ideal) ((cfg0.win 2).blk t).view X (ix2 k j) = X (ix2 k j) := by
  blk_point [idx t]

theorem hidden_at (c : Dev nD) (t : Fin cfg0.N) (r : Fin 32) (k : Fin 1024) : iblk m c 0 t (ix2 r k) = (m ((c : Thread nD τ).loc main_arg0)) (ix2 r k) := by
  refine (hidden_read (V m c main_arg0) t r k).trans ?_
  rw [V_main_arg0]

theorem gain_at (c : Dev nD) (t : Fin cfg0.N) (k : Fin 1024) : iblk m c 1 t (ix2 (0 : Fin 1) k) = (m ((c : Thread nD τ).loc main_arg1)) (ix1 k) := by
  refine (gain_read (V m c main_v1) t k).trans ?_
  rw [V_v1]
  pointwise []

theorem weight_at (c : Dev nD) (t : Fin cfg0.N) (k : Fin 1024) (j : Fin 5152) : iblk m c 2 t (ix2 k j) = (m ((c : Thread nD τ).loc main_arg2)) (ix2 k j) := by
  refine (weight_read (V m c main_v0) t k j).trans ?_
  rw [V_v0]
  pointwise []

/-- A projected column is the layer's. -/
theorem raw_col (c : Dev nD) (t : Fin cfg0.N) (r : Fin 32) (j : Fin 5152) :
    RAW (iblk m c 0 t) (iblk m c 1 t) (iblk m c 2 t) r j = col (m ((c : Thread nD τ).loc main_arg0)) (m ((c : Thread nD τ).loc main_arg1)) (m ((c : Thread nD τ).loc main_arg2)) r j := by
  have hx : (fun k : Fin 1024 => iblk m c 0 t (ix2 r k)) = fun k => (m ((c : Thread nD τ).loc main_arg0)) (ix2 r k) := funext fun k => hidden_at m c t r k
  have hg : (fun k : Fin 1024 => iblk m c 1 t (ix2 (0 : Fin 1) k)) = fun k => (m ((c : Thread nD τ).loc main_arg1)) (ix1 k) := funext fun k => gain_at m c t k
  have hw : (fun (k : Fin 1024) (j : Fin 5152) => iblk m c 2 t (ix2 k j)) = fun k j => (m ((c : Thread nD τ).loc main_arg2)) (ix2 k j) := funext fun k => funext fun j => weight_at m c t k j
  unfold RAW col
  rw [hx, hg, hw]

theorem final3 (c : Dev nD) : (dats m 0 c).arrAt 3 cfg0.N = ZED (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, gate]
  idx_vars y
  have he : ((cfg0.win 3).blk t).view.emb (ix2 y0 y1) = (ix2 y0 y1 : S32x2048.Idx) := by
    blk_ext [idx t]
  have e : ZED (m ((c : Thread nD τ).loc main_arg0)) (m ((c : Thread nD τ).loc main_arg1)) (m ((c : Thread nD τ).loc main_arg2)) (ix2 y0 y1) = col (m ((c : Thread nD τ).loc main_arg0)) (m ((c : Thread nD τ).loc main_arg1)) (m ((c : Thread nD τ).loc main_arg2)) y0 ⟨y1.val, by omega⟩ := ZED_at _ _ _ y0 y1
  exact ((raw_col m c t y0 ⟨y1.val, by omega⟩).trans e.symm).trans (congrArg _ he.symm)

theorem final4 (c : Dev nD) : (dats m 0 c).arrAt 4 cfg0.N = XBC (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, rows]
  idx_vars y
  have he : ((cfg0.win 4).blk t).view.emb (ix2 y0 y1) = (ix2 y0 y1 : S32x3072.Idx) := by
    blk_ext [idx t]
  have e : XBC (m ((c : Thread nD τ).loc main_arg0)) (m ((c : Thread nD τ).loc main_arg1)) (m ((c : Thread nD τ).loc main_arg2)) (ix2 y0 y1) = col (m ((c : Thread nD τ).loc main_arg0)) (m ((c : Thread nD τ).loc main_arg1)) (m ((c : Thread nD τ).loc main_arg2)) y0 ⟨2048 + y1.val, by omega⟩ := XBC_at _ _ _ y0 y1
  exact ((raw_col m c t y0 ⟨2048 + y1.val, by omega⟩).trans e.symm).trans (congrArg _ he.symm)

/-- The new state, as the call's host lines build it. -/
theorem shift_eq (s : FVec Ideal S32x3x3072 .f32) (X : FVec Ideal S32x3072 .f32) :
    concatenate S32x3x3072 1 [⟨S32x2x3072, extractStridedSlice S32x2x3072 ![0, 1, 0] s slices_S32x3x3072_S32x2x3072_0_1_0⟩,
      ⟨S32x1x3072, broadcastInDim S32x1x3072 ![0, 2] bcast_S32x3072_S32x1x3072_0_2 X⟩] concatenates_S32x2x3072_S32x1x3072_S32x3x3072_d1
    = SHIFT s X := by
  funext y
  obtain ⟨n, i, j, rfl⟩ : ∃ (n : Fin 32) (i : Fin 3) (j : Fin 3072), y = ix3 n i j := ⟨y 0, y 1, y 2, (ix3_eta y).symm⟩
  refine Eq.trans ?_ (SHIFT_at s X n i j).symm
  pointwise []
  by_cases h : i.val < 2
  · have h' : 1 + i.val < 3 := by omega
    simp only [h, h', ↓reduceDIte]
  · have h' : ¬ 1 + i.val < 3 := by omega
    simp only [h, h', ↓reduceDIte]

/-- The new state after the call's host lines. -/
theorem tail (c : Dev nD) : Pipeline.afterTail₀ cfgs (dats m) 0 (V0 m) [hostOps1] c main_v5
    = SHIFT (m ((c : Thread nD τ).loc main_arg3)) ((dats m 0 c).arrAt 4 cfg0.N) := by
  unfold Pipeline.afterTail₀
  simp only [List.flatten_cons, List.flatten_nil, List.append_nil, List.cons_append, List.nil_append, hostOps1]
  after_results
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_v2_1) = (dats m 0 c).arrAt 4 cfg0.N :=
    Pipeline.withArrays_arr spec0 (by decide) c (V0 m c) _ 4
  refine (shift_eq _ _).trans ?_
  exact congrArg₂ SHIFT e3 e4

end Cert.InSIdeal.Layer

end
-- ==== Proof.lean ====
/-
  The proof of `Cert.Claim`: every program runs to the end with its arguments unchanged, and each kernel call computes
  its reference. The values are proved in the modules `…Value` under Proof/; this file puts them together.
-/
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.SsdPre
public import proofs.«01_k».proof.Proof.SsdRefValue
public import proofs.«01_k».proof.Proof.SsdEqual
public import proofs.«01_k».proof.Proof.Gen.FfnA
public import proofs.«01_k».proof.Proof.Gen.FfnA.Skeleton
public import proofs.«01_k».proof.Proof.Gen.FfnA.Launch
public import proofs.«01_k».proof.Proof.Gen.FfnA.Points
public import proofs.«01_k».proof.Proof.Gen.FfnA.Frame
public import proofs.«01_k».proof.Proof.Gen.FfnAIdeal
public import proofs.«01_k».proof.Proof.Gen.FfnAIdeal.Skeleton
public import proofs.«01_k».proof.Proof.Gen.FfnAIdeal.Launch
public import proofs.«01_k».proof.Proof.Gen.FfnAIdeal.Points
public import proofs.«01_k».proof.Proof.Gen.FfnAIdeal.Frame
public import proofs.«01_k».proof.Proof.Gen.FfnAIdeal.Value
public import proofs.«01_k».proof.Proof.Gen.FfnARefIdeal
public import proofs.«01_k».proof.Proof.Gen.FfnARefIdeal.Run
public import proofs.«01_k».proof.Proof.FfnMath
public import proofs.«01_k».proof.Proof.FfnAPure
public import proofs.«01_k».proof.Proof.FfnAValue
public import proofs.«01_k».proof.Proof.Gen.FfnZ
public import proofs.«01_k».proof.Proof.Gen.FfnZ.Skeleton
public import proofs.«01_k».proof.Proof.Gen.FfnZ.Launch
public import proofs.«01_k».proof.Proof.Gen.FfnZ.Points
public import proofs.«01_k».proof.Proof.Gen.FfnZ.Frame
public import proofs.«01_k».proof.Proof.Gen.FfnZIdeal
public import proofs.«01_k».proof.Proof.Gen.FfnZIdeal.Skeleton
public import proofs.«01_k».proof.Proof.Gen.FfnZIdeal.Launch
public import proofs.«01_k».proof.Proof.Gen.FfnZIdeal.Points
public import proofs.«01_k».proof.Proof.Gen.FfnZIdeal.Frame
public import proofs.«01_k».proof.Proof.Gen.FfnZIdeal.Value
public import proofs.«01_k».proof.Proof.Gen.FfnZRefIdeal
public import proofs.«01_k».proof.Proof.Gen.FfnZRefIdeal.Run
public import proofs.«01_k».proof.Proof.FfnZPure
public import proofs.«01_k».proof.Proof.FfnZValue
public import proofs.«01_k».proof.Proof.Gen.FfnM
public import proofs.«01_k».proof.Proof.Gen.FfnM.Skeleton
public import proofs.«01_k».proof.Proof.Gen.FfnM.Launch
public import proofs.«01_k».proof.Proof.Gen.FfnM.Points
public import proofs.«01_k».proof.Proof.Gen.FfnM.Frame
public import proofs.«01_k».proof.Proof.Gen.FfnMIdeal
public import proofs.«01_k».proof.Proof.Gen.FfnMIdeal.Skeleton
public import proofs.«01_k».proof.Proof.Gen.FfnMIdeal.Launch
public import proofs.«01_k».proof.Proof.Gen.FfnMIdeal.Points
public import proofs.«01_k».proof.Proof.Gen.FfnMIdeal.Frame
public import proofs.«01_k».proof.Proof.Gen.FfnMIdeal.Value
public import proofs.«01_k».proof.Proof.Gen.FfnMRefIdeal
public import proofs.«01_k».proof.Proof.Gen.FfnMRefIdeal.Run
public import proofs.«01_k».proof.Proof.FfnMPure
public import proofs.«01_k».proof.Proof.FfnMValue
public import proofs.«01_k».proof.Proof.Gen.FfnG
public import proofs.«01_k».proof.Proof.Gen.FfnG.Skeleton
public import proofs.«01_k».proof.Proof.Gen.FfnG.Launch
public import proofs.«01_k».proof.Proof.Gen.FfnG.Points
public import proofs.«01_k».proof.Proof.Gen.FfnG.Frame
public import proofs.«01_k».proof.Proof.Gen.FfnGIdeal
public import proofs.«01_k».proof.Proof.Gen.FfnGIdeal.Skeleton
public import proofs.«01_k».proof.Proof.Gen.FfnGIdeal.Launch
public import proofs.«01_k».proof.Proof.Gen.FfnGIdeal.Points
public import proofs.«01_k».proof.Proof.Gen.FfnGIdeal.Frame
public import proofs.«01_k».proof.Proof.Gen.FfnGIdeal.Value
public import proofs.«01_k».proof.Proof.Gen.FfnGRefIdeal
public import proofs.«01_k».proof.Proof.Gen.FfnGRefIdeal.Run
public import proofs.«01_k».proof.Proof.FfnGPure
public import proofs.«01_k».proof.Proof.FfnGValue
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Run
public import proofs.«01_k».proof.Proof.FfnSPure
public import proofs.«01_k».proof.Proof.FfnSValue
public import proofs.«01_k».proof.Proof.Gen.KvP
public import proofs.«01_k».proof.Proof.Gen.KvP.Skeleton
public import proofs.«01_k».proof.Proof.Gen.KvP.Launch
public import proofs.«01_k».proof.Proof.Gen.KvP.Points
public import proofs.«01_k».proof.Proof.Gen.KvP.Frame
public import proofs.«01_k».proof.Proof.Gen.KvPIdeal
public import proofs.«01_k».proof.Proof.Gen.KvPIdeal.Skeleton
public import proofs.«01_k».proof.Proof.Gen.KvPIdeal.Launch
public import proofs.«01_k».proof.Proof.Gen.KvPIdeal.Points
public import proofs.«01_k».proof.Proof.Gen.KvPIdeal.Frame
public import proofs.«01_k».proof.Proof.Gen.KvPIdeal.Value
public import proofs.«01_k».proof.Proof.Gen.KvPRefIdeal
public import proofs.«01_k».proof.Proof.Gen.KvPRefIdeal.Run
public import proofs.«01_k».proof.Proof.KvPPure
public import proofs.«01_k».proof.Proof.KvPRefValue
public import proofs.«01_k».proof.Proof.KvPValue
public import proofs.«01_k».proof.Proof.Gen.KvS
public import proofs.«01_k».proof.Proof.Gen.KvS.Skeleton
public import proofs.«01_k».proof.Proof.Gen.KvS.Launch
public import proofs.«01_k».proof.Proof.Gen.KvS.Points
public import proofs.«01_k».proof.Proof.Gen.KvS.Frame
public import proofs.«01_k».proof.Proof.Gen.KvSIdeal
public import proofs.«01_k».proof.Proof.Gen.KvSIdeal.Skeleton
public import proofs.«01_k».proof.Proof.Gen.KvSIdeal.Launch
public import proofs.«01_k».proof.Proof.Gen.KvSIdeal.Points
public import proofs.«01_k».proof.Proof.Gen.KvSIdeal.Frame
public import proofs.«01_k».proof.Proof.Gen.KvSIdeal.Value
public import proofs.«01_k».proof.Proof.Gen.KvSRefIdeal
public import proofs.«01_k».proof.Proof.Gen.KvSRefIdeal.Run
public import proofs.«01_k».proof.Proof.KvSPure
public import proofs.«01_k».proof.Proof.KvSRefValue
public import proofs.«01_k».proof.Proof.KvSValue
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.QProjPure
public import proofs.«01_k».proof.Proof.QProjRefValue
public import proofs.«01_k».proof.Proof.QProjValue
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.InProjMath
public import proofs.«01_k».proof.Proof.InProjRefValue
public import proofs.«01_k».proof.Proof.InProjPure
public import proofs.«01_k».proof.Proof.InProjPoint
public import proofs.«01_k».proof.Proof.InProjValue
public import proofs.«01_k».proof.Proof.Gen.InS
public import proofs.«01_k».proof.Proof.Gen.InS.Skeleton
public import proofs.«01_k».proof.Proof.Gen.InS.Launch
public import proofs.«01_k».proof.Proof.Gen.InS.Points
public import proofs.«01_k».proof.Proof.Gen.InS.Frame
public import proofs.«01_k».proof.Proof.Gen.InSIdeal
public import proofs.«01_k».proof.Proof.Gen.InSIdeal.Skeleton
public import proofs.«01_k».proof.Proof.Gen.InSIdeal.Launch
public import proofs.«01_k».proof.Proof.Gen.InSIdeal.Points
public import proofs.«01_k».proof.Proof.Gen.InSIdeal.Frame
public import proofs.«01_k».proof.Proof.Gen.InSRefIdeal
public import proofs.«01_k».proof.Proof.Gen.InSRefIdeal.Run
public import proofs.«01_k».proof.Proof.InSRefValue
public import proofs.«01_k».proof.Proof.InSValue
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.SL.Sem

/-- The precondition's shapes agree. -/
instance preFacts : Cert.Pre_finite_steps.Facts := ⟨by decide, by decide, by decide, by decide, by decide⟩

/-- The chunked recurrence: the kernel's result arrays are the reference's. -/
theorem algebraicSsd : Cert.algebraic_SsdIdeal_SsdRefIdeal_pre_finite_steps := by
  pair_intro
  · run_from Cert.SsdIdeal.Value.run_blocks m g
  · refine θ_run_mono (Cert.SsdRefIdeal.Value.run m' g') fun r hr c => ?_
    have e := Cert.SsdIdeal.Blocks.args_eq m m' c (hagree c)
    have hr' := Cert.SsdIdeal.Blocks.real_of_pre m c (hpre c)
    exact ⟨(hr c).1.trans (((Cert.SsdRefIdeal.Layer.out0 m' c).trans (congrArg Cert.SsdRefIdeal.Layer.ROWSOF e)).trans (Cert.SsdIdeal.Blocks.final8 m c hr').symm),
      (hr c).2.1.trans (((Cert.SsdRefIdeal.Layer.out1 m' c).trans (congrArg Cert.SsdRefIdeal.Layer.STATEOF e)).trans (Cert.SsdIdeal.Blocks.final9 m c hr').symm),
      (hr c).2.2⟩

/-- Its reference ends with its arguments unchanged; it has no counters. -/
theorem quiescentSsdRef : Cert.quiescent_SsdRefIdeal := fun m ρ _ =>
  (θ_run Cert.SsdRefIdeal.defs _ _).mono (fun r h => ⟨fun c => (h c).2.2, sem_eq_zero_of_no_sems (by decide) r.2⟩)
    (Cert.SsdRefIdeal.Value.run m ρ)

/-- The feed-forward call before the mixer: the kernel's result arrays are the reference's. -/
theorem algebraicFfnA : Cert.algebraic_FfnAIdeal_FfnARefIdeal := by
  pair_intro
  · run_from Cert.FfnAIdeal.Gen.run_main m g
  · run_from Cert.FfnARefIdeal.Value.run m' g'
    exact (Cert.FfnAIdeal.Layer.final m c).symm

/-- Its reference ends with its arguments unchanged; it has no counters. -/
theorem quiescentFfnARef : Cert.quiescent_FfnARefIdeal := fun m ρ _ =>
  (θ_run Cert.FfnARefIdeal.defs _ _).mono (fun r h => ⟨fun c => (h c).2, sem_eq_zero_of_no_sems (by decide) r.2⟩)
    (Cert.FfnARefIdeal.Value.run m ρ)

/-- The last feed-forward call: the kernel's result arrays are the reference's. -/
theorem algebraicFfnZ : Cert.algebraic_FfnZIdeal_FfnZRefIdeal := by
  pair_intro
  · run_from Cert.FfnZIdeal.Gen.run_main m g
  · run_from Cert.FfnZRefIdeal.Value.run m' g'
    refine (Cert.FfnZRefIdeal.Layer.res_eq m' c).trans ?_
    simp only [hagree c]
    exact (Cert.FfnZIdeal.Layer.final m c).symm

/-- Its reference ends with its arguments unchanged; it has no counters. -/
theorem quiescentFfnZRef : Cert.quiescent_FfnZRefIdeal := fun m ρ _ =>
  (θ_run Cert.FfnZRefIdeal.defs _ _).mono (fun r h => ⟨fun c => (h c).2, sem_eq_zero_of_no_sems (by decide) r.2⟩)
    (Cert.FfnZRefIdeal.Value.run m ρ)

/-- The feed-forward call after the attention: the kernel's result arrays are the reference's. -/
theorem algebraicFfnM : Cert.algebraic_FfnMIdeal_FfnMRefIdeal := by
  pair_intro
  · run_from Cert.FfnMIdeal.Gen.run_main m g
  · run_from Cert.FfnMRefIdeal.Value.run m' g'
    refine (Cert.FfnMRefIdeal.Layer.res_eq m' c).trans ?_
    simp only [hagree c]
    exact (Cert.FfnMIdeal.Layer.final m c).symm

/-- Its reference ends with its arguments unchanged; it has no counters. -/
theorem quiescentFfnMRef : Cert.quiescent_FfnMRefIdeal := fun m ρ _ =>
  (θ_run Cert.FfnMRefIdeal.defs _ _).mono (fun r h => ⟨fun c => (h c).2, sem_eq_zero_of_no_sems (by decide) r.2⟩)
    (Cert.FfnMRefIdeal.Value.run m ρ)

/-- The feed-forward call after the state-space mixer: the kernel's result arrays are the reference's. -/
theorem algebraicFfnG : Cert.algebraic_FfnGIdeal_FfnGRefIdeal := by
  pair_intro
  · run_from Cert.FfnGIdeal.Gen.run_main m g
  · run_from Cert.FfnGRefIdeal.Value.run m' g'
    refine (Cert.FfnGRefIdeal.Layer.res_eq m' c).trans ?_
    simp only [hagree c]
    exact (Cert.FfnGIdeal.Layer.final m c).symm

/-- Its reference ends with its arguments unchanged; it has no counters. -/
theorem quiescentFfnGRef : Cert.quiescent_FfnGRefIdeal := fun m ρ _ =>
  (θ_run Cert.FfnGRefIdeal.defs _ _).mono (fun r h => ⟨fun c => (h c).2, sem_eq_zero_of_no_sems (by decide) r.2⟩)
    (Cert.FfnGRefIdeal.Value.run m ρ)

/-- The last feed-forward call of the sampled tokens: the kernel's result arrays are the reference's. -/
theorem algebraicFfnS : Cert.algebraic_FfnSIdeal_FfnSRefIdeal := by
  pair_intro
  · run_from Cert.FfnSIdeal.Gen.run_main m g
  · run_from Cert.FfnSRefIdeal.Value.run m' g'
    refine (Cert.FfnSRefIdeal.Layer.res_eq m' c).trans ?_
    simp only [hagree c]
    exact (Cert.FfnSIdeal.Layer.final m c).symm

/-- Its reference ends with its arguments unchanged; it has no counters. -/
theorem quiescentFfnSRef : Cert.quiescent_FfnSRefIdeal := fun m ρ _ =>
  (θ_run Cert.FfnSRefIdeal.defs _ _).mono (fun r h => ⟨fun c => (h c).2, sem_eq_zero_of_no_sems (by decide) r.2⟩)
    (Cert.FfnSRefIdeal.Value.run m ρ)

/-- The key and value call of the prompt: the kernel's result arrays are the reference's. -/
theorem algebraicKvP : Cert.algebraic_KvPIdeal_KvPRefIdeal := by
  pair_intro
  · run_from Cert.KvPIdeal.Gen.run_main m g
  · refine θ_run_mono (Cert.KvPRefIdeal.Value.run m' g') fun r hr c => ?_
    obtain ⟨a0, a1, a2⟩ := hagree c
    exact ⟨(hr c).1.trans ((Cert.KvPRefIdeal.Layer.res_eq m' c).trans ((congr (congrArg₂ Cert.KvPRefIdeal.Layer.REF a0 a1) a2).trans (Cert.KvPIdeal.Layer.final6 m c).symm)),
      (hr c).2.1.trans ((congr (congrArg₂ Cert.KvPRefIdeal.Layer.VAL a0 a1) a2).trans (Cert.KvPIdeal.Layer.final7 m c).symm),
      (hr c).2.2.1.trans ((Cert.KvPRefIdeal.Layer.res_means m' c).trans ((congr (congrArg₂ Cert.KvPRefIdeal.Layer.MEANS a0 a1) a2).trans (Cert.KvPIdeal.Layer.final8 m c).symm)),
      (hr c).2.2.2⟩

/-- Its reference ends with its arguments unchanged; it has no counters. -/
theorem quiescentKvPRef : Cert.quiescent_KvPRefIdeal := fun m ρ _ =>
  (θ_run Cert.KvPRefIdeal.defs _ _).mono (fun r h => ⟨fun c => (h c).2.2.2, sem_eq_zero_of_no_sems (by decide) r.2⟩)
    (Cert.KvPRefIdeal.Value.run m ρ)

/-- The key and value call of the sampled tokens: the kernel's result arrays are the reference's. -/
theorem algebraicKvS : Cert.algebraic_KvSIdeal_KvSRefIdeal := by
  pair_intro
  · run_from Cert.KvSIdeal.Gen.run_main m g
  · refine θ_run_mono (Cert.KvSRefIdeal.Value.run m' g') fun r hr c => ?_
    obtain ⟨a0, a1, a2⟩ := hagree c
    exact ⟨(hr c).1.trans ((Cert.KvSRefIdeal.Layer.res_eq m' c).trans ((congr (congrArg₂ Cert.KvSRefIdeal.Layer.REF a0 a1) a2).trans (Cert.KvSIdeal.Layer.final6 m c).symm)),
      (hr c).2.1.trans ((congr (congrArg₂ Cert.KvSRefIdeal.Layer.VAL a0 a1) a2).trans (Cert.KvSIdeal.Layer.final7 m c).symm),
      (hr c).2.2⟩

/-- Its reference ends with its arguments unchanged; it has no counters. -/
theorem quiescentKvSRef : Cert.quiescent_KvSRefIdeal := fun m ρ _ =>
  (θ_run Cert.KvSRefIdeal.defs _ _).mono (fun r h => ⟨fun c => (h c).2.2, sem_eq_zero_of_no_sems (by decide) r.2⟩)
    (Cert.KvSRefIdeal.Value.run m ρ)

/-- The query call of the prompt: the kernel's result arrays are the reference's. -/
theorem algebraicQProj : Cert.algebraic_QProjIdeal_QProjRefIdeal := by
  pair_intro
  · run_from Cert.QProjIdeal.Gen.run_main m g
  · refine θ_run_mono (Cert.QProjRefIdeal.Value.run m' g') fun r hr c => ?_
    obtain ⟨a0, a1, a2⟩ := hagree c
    exact ⟨(hr c).1.trans ((Cert.QProjRefIdeal.Layer.res_eq m' c).trans ((congr (congrArg₂ Cert.QProjRefIdeal.Layer.REF a0 a1) a2).trans (Cert.QProjIdeal.Layer.final6 m c).symm)),
      (hr c).2⟩

/-- Its reference ends with its arguments unchanged; it has no counters. -/
theorem quiescentQProjRef : Cert.quiescent_QProjRefIdeal := fun m ρ _ =>
  (θ_run Cert.QProjRefIdeal.defs _ _).mono (fun r h => ⟨fun c => (h c).2, sem_eq_zero_of_no_sems (by decide) r.2⟩)
    (Cert.QProjRefIdeal.Value.run m ρ)

/-- The mixer's first projection of the prompt: the kernel's result arrays are the reference's. -/
theorem algebraicInProj : Cert.algebraic_InProjIdeal_InProjRefIdeal := by
  pair_intro
  · run_from Cert.InProjIdeal.Value.run_blocks m g
  · refine θ_run_mono (Cert.InProjRefIdeal.Value.run m' g') fun r hr c => ?_
    obtain ⟨a0, a1, a2, a3, a4⟩ := hagree c
    have e3 := congr (congrArg₂ Cert.InProjRefIdeal.Layer.XBC a0 a1) a2
    exact ⟨(hr c).1.trans ((congr (congrArg₂ Cert.InProjRefIdeal.Layer.ZED a0 a1) a2).trans (Cert.InProjIdeal.Layer.final6 m c).symm),
      (hr c).2.1.trans (((Cert.InProjRefIdeal.Layer.res_xbc m' c).trans (congr (congr e3 a3) a4)).trans (Cert.InProjIdeal.Layer.final7 m c).symm),
      (hr c).2.2.1.trans ((congr (congrArg₂ Cert.InProjRefIdeal.Layer.STEPS a0 a1) a2).trans (Cert.InProjIdeal.Layer.final8 m c).symm),
      (hr c).2.2.2.1.trans ((congr (congrArg₂ Cert.InProjRefIdeal.Layer.LAST a0 a1) a2).trans (Cert.InProjIdeal.Layer.final9 m c).symm),
      (hr c).2.2.2.2⟩

/-- Its reference ends with its arguments unchanged; it has no counters. -/
theorem quiescentInProjRef : Cert.quiescent_InProjRefIdeal := fun m ρ _ =>
  (θ_run Cert.InProjRefIdeal.defs _ _).mono (fun r h => ⟨fun c => (h c).2.2.2.2, sem_eq_zero_of_no_sems (by decide) r.2⟩)
    (Cert.InProjRefIdeal.Value.run m ρ)

/-- The mixer's first projection of the sampled tokens: the kernel's result arrays are the reference's. -/
theorem algebraicInS : Cert.algebraic_InSIdeal_InSRefIdeal := by
  pair_intro
  · run_from Cert.InSIdeal.Gen.run_main m g
    · exact Cert.InSIdeal.Gen.W_main_arg1 m (Cert.InSIdeal.Gen.dats m) c
    · exact Cert.InSIdeal.Gen.W_main_arg2 m (Cert.InSIdeal.Gen.dats m) c
    · exact Cert.InSIdeal.Gen.W_main_arg3 m (Cert.InSIdeal.Gen.dats m) c
  · refine θ_run_mono (Cert.InSRefIdeal.Value.run m' g') fun r hr c => ?_
    obtain ⟨a0, a1, a2, a3⟩ := hagree c
    have ex := (congr (congrArg₂ Cert.InSRefIdeal.Layer.XBC a0 a1) a2).trans (Cert.InSIdeal.Layer.final4 m c).symm
    exact ⟨(hr c).1.trans ((congr (congrArg₂ Cert.InSRefIdeal.Layer.ZED a0 a1) a2).trans (Cert.InSIdeal.Layer.final3 m c).symm),
      (hr c).2.1.trans ex,
      (hr c).2.2.1.trans ((congrArg₂ Cert.InSRefIdeal.Layer.SHIFT a3 ex).trans (Cert.InSIdeal.Layer.tail m c).symm),
      (hr c).2.2.2⟩

/-- Its reference ends with its arguments unchanged; it has no counters. -/
theorem quiescentInSRef : Cert.quiescent_InSRefIdeal := fun m ρ _ =>
  (θ_run Cert.InSRefIdeal.defs _ _).mono (fun r h => ⟨fun c => (h c).2.2.2, sem_eq_zero_of_no_sems (by decide) r.2⟩)
    (Cert.InSRefIdeal.Value.run m ρ)

theorem claim : Cert.Claim := ⟨Cert.Ssd.Gen.facts, Cert.SsdIdeal.Gen.facts, Cert.SsdRefIdeal.Gen.facts, Cert.FfnA.Gen.facts, Cert.FfnAIdeal.Gen.facts, Cert.FfnARefIdeal.Gen.facts, Cert.FfnZ.Gen.facts, Cert.FfnZIdeal.Gen.facts, Cert.FfnZRefIdeal.Gen.facts, Cert.FfnM.Gen.facts, Cert.FfnMIdeal.Gen.facts, Cert.FfnMRefIdeal.Gen.facts, Cert.FfnG.Gen.facts, Cert.FfnGIdeal.Gen.facts, Cert.FfnGRefIdeal.Gen.facts, Cert.FfnS.Gen.facts, Cert.FfnSIdeal.Gen.facts, Cert.FfnSRefIdeal.Gen.facts, Cert.KvP.Gen.facts, Cert.KvPIdeal.Gen.facts, Cert.KvPRefIdeal.Gen.facts, Cert.KvS.Gen.facts, Cert.KvSIdeal.Gen.facts, Cert.KvSRefIdeal.Gen.facts, Cert.QProj.Gen.facts, Cert.QProjIdeal.Gen.facts, Cert.QProjRefIdeal.Gen.facts, Cert.InProj.Gen.facts, Cert.InProjIdeal.Gen.facts, Cert.InProjRefIdeal.Gen.facts, Cert.InS.Gen.facts, Cert.InSIdeal.Gen.facts, Cert.InSRefIdeal.Gen.facts, preFacts,
  fun m ρ _ => Cert.Ssd.Gen.frame m ρ, fun m ρ _ => Cert.SsdIdeal.Gen.frame m ρ, fun m ρ _ => Cert.SsdIdeal.Gen.frame m ρ, quiescentSsdRef, fun m ρ _ => quiescentSsdRef m ρ trivial, fun m ρ _ => Cert.FfnA.Gen.frame m ρ, fun m ρ _ => Cert.FfnAIdeal.Gen.frame m ρ, quiescentFfnARef, fun m ρ _ => Cert.FfnZ.Gen.frame m ρ, fun m ρ _ => Cert.FfnZIdeal.Gen.frame m ρ, quiescentFfnZRef, fun m ρ _ => Cert.FfnM.Gen.frame m ρ, fun m ρ _ => Cert.FfnMIdeal.Gen.frame m ρ, quiescentFfnMRef, fun m ρ _ => Cert.FfnG.Gen.frame m ρ, fun m ρ _ => Cert.FfnGIdeal.Gen.frame m ρ, quiescentFfnGRef, fun m ρ _ => Cert.FfnS.Gen.frame m ρ, fun m ρ _ => Cert.FfnSIdeal.Gen.frame m ρ, quiescentFfnSRef, fun m ρ _ => Cert.KvP.Gen.frame m ρ, fun m ρ _ => Cert.KvPIdeal.Gen.frame m ρ, quiescentKvPRef, fun m ρ _ => Cert.KvS.Gen.frame m ρ, fun m ρ _ => Cert.KvSIdeal.Gen.frame m ρ, quiescentKvSRef, fun m ρ _ => Cert.QProj.Gen.frame m ρ, fun m ρ _ => Cert.QProjIdeal.Gen.frame m ρ, quiescentQProjRef, fun m ρ _ => Cert.InProj.Gen.frame m ρ, fun m ρ _ => Cert.InProjIdeal.Gen.frame m ρ, quiescentInProjRef, fun m ρ _ => Cert.InS.Gen.frame m ρ, fun m ρ _ => Cert.InSIdeal.Gen.frame m ρ, quiescentInSRef,
  trivial, algebraicSsd, trivial, algebraicFfnA, trivial, algebraicFfnZ, trivial, algebraicFfnM, trivial, algebraicFfnG, trivial, algebraicFfnS, trivial, algebraicKvP, trivial, algebraicKvS, trivial, algebraicQProj, trivial, algebraicInProj, trivial, algebraicInS⟩

end Cert.Proof

end
